-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamPacked (m : (ℓ : Loc Cert.AdamPacked.nD Cert.AdamPacked.τ Cert.AdamPacked.sig) → Buf (Elt Bits) ℓ) : Prop :=
  True

def Pre_AdamPackedIdeal (m : (ℓ : Loc Cert.AdamPackedIdeal.nD Cert.AdamPackedIdeal.τ Cert.AdamPackedIdeal.sig) → Buf (Elt Ideal) ℓ) : Prop :=
  True

def Pre_AdamPackedRefIdeal (m : (ℓ : Loc Cert.AdamPackedRefIdeal.nD Cert.AdamPackedRefIdeal.τ Cert.AdamPackedRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_DiscA (m : (ℓ : Loc Cert.DiscA.nD Cert.DiscA.τ Cert.DiscA.sig) → Buf (Elt Bits) ℓ) : Prop :=
  True

def Pre_DiscAIdeal (m : (ℓ : Loc Cert.DiscAIdeal.nD Cert.DiscAIdeal.τ Cert.DiscAIdeal.sig) → Buf (Elt Ideal) ℓ) : Prop :=
  True

def Pre_DiscARefIdeal (m : (ℓ : Loc Cert.DiscARefIdeal.nD Cert.DiscARefIdeal.τ Cert.DiscARefIdeal.sig) → Buf (Elt Ideal) ℓ) : Prop :=
  True

def Pre_DiscB (m : (ℓ : Loc Cert.DiscB.nD Cert.DiscB.τ Cert.DiscB.sig) → Buf (Elt Bits) ℓ) : Prop :=
  True

def Pre_DiscBIdeal (m : (ℓ : Loc Cert.DiscBIdeal.nD Cert.DiscBIdeal.τ Cert.DiscBIdeal.sig) → Buf (Elt Ideal) ℓ) : Prop :=
  True

def Pre_DiscBRefIdeal (m : (ℓ : Loc Cert.DiscBRefIdeal.nD Cert.DiscBRefIdeal.τ Cert.DiscBRefIdeal.sig) → Buf (Elt Ideal) ℓ) : Prop :=
  True

def Pre_Lower (m : (ℓ : Loc Cert.Lower.nD Cert.Lower.τ Cert.Lower.sig) → Buf (Elt Bits) ℓ) : Prop :=
  True

def Pre_LowerIdeal (m : (ℓ : Loc Cert.LowerIdeal.nD Cert.LowerIdeal.τ Cert.LowerIdeal.sig) → Buf (Elt Ideal) ℓ) : Prop :=
  True

def Pre_LowerRefIdeal (m : (ℓ : Loc Cert.LowerRefIdeal.nD Cert.LowerRefIdeal.τ Cert.LowerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1)
      ∧ r.2.mem ((c.tc : Thread Cert.GluProj.nD Cert.GluProj.τ).loc Cert.GluProj.main_arg2) = m ((c.tc : Thread Cert.GluProj.nD Cert.GluProj.τ).loc Cert.GluProj.main_arg2))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
      ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1)
      ∧ r.2.mem ((c.tc : Thread Cert.GluProjRefIdeal.nD Cert.GluProjRefIdeal.τ).loc Cert.GluProjRefIdeal.main_arg2) = m ((c.tc : Thread Cert.GluProjRefIdeal.nD Cert.GluProjRefIdeal.τ).loc Cert.GluProjRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamPacked [hAdamPacked : Cert.AdamPacked.Facts] : Prop :=
  ∀ (m : (ℓ : Loc Cert.AdamPacked.nD Cert.AdamPacked.τ Cert.AdamPacked.sig) → Buf (Elt Bits) ℓ) (g : Dev Cert.AdamPacked.nD → PrngReg), Pre_AdamPacked m →
    θ_run (Cert.AdamPacked.defs (F := Bits)) (onTc (τ := Cert.AdamPacked.τ) (Cert.AdamPacked.main (F := Bits))) ⟨m, fun _ => 0, g⟩ (fun r => (∀ c : Dev Cert.AdamPacked.nD,
      r.2.mem ((c.tc : Thread Cert.AdamPacked.nD Cert.AdamPacked.τ).loc Cert.AdamPacked.main_arg0) = m ((c.tc : Thread Cert.AdamPacked.nD Cert.AdamPacked.τ).loc Cert.AdamPacked.main_arg0)
      ∧ r.2.mem ((c.tc : Thread Cert.AdamPacked.nD Cert.AdamPacked.τ).loc Cert.AdamPacked.main_arg1) = m ((c.tc : Thread Cert.AdamPacked.nD Cert.AdamPacked.τ).loc Cert.AdamPacked.main_arg1)
      ∧ r.2.mem ((c.tc : Thread Cert.AdamPacked.nD Cert.AdamPacked.τ).loc Cert.AdamPacked.main_arg2) = m ((c.tc : Thread Cert.AdamPacked.nD Cert.AdamPacked.τ).loc Cert.AdamPacked.main_arg2)
      ∧ r.2.mem ((c.tc : Thread Cert.AdamPacked.nD Cert.AdamPacked.τ).loc Cert.AdamPacked.main_arg3) = m ((c.tc : Thread Cert.AdamPacked.nD Cert.AdamPacked.τ).loc Cert.AdamPacked.main_arg3))
      ∧ r.2.sem = fun _ => 0)

def quiescent_AdamPackedIdeal [hAdamPackedIdeal : Cert.AdamPackedIdeal.Facts] : Prop :=
  ∀ (m : (ℓ : Loc Cert.AdamPackedIdeal.nD Cert.AdamPackedIdeal.τ Cert.AdamPackedIdeal.sig) → Buf (Elt Ideal) ℓ) (g : Dev Cert.AdamPackedIdeal.nD → PrngReg), Pre_AdamPackedIdeal m →
    θ_run (Cert.AdamPackedIdeal.defs (F := Ideal)) (onTc (τ := Cert.AdamPackedIdeal.τ) (Cert.AdamPackedIdeal.main (F := Ideal))) ⟨m, fun _ => 0, g⟩ (fun r => (∀ c : Dev Cert.AdamPackedIdeal.nD,
      r.2.mem ((c.tc : Thread Cert.AdamPackedIdeal.nD Cert.AdamPackedIdeal.τ).loc Cert.AdamPackedIdeal.main_arg0) = m ((c.tc : Thread Cert.AdamPackedIdeal.nD Cert.AdamPackedIdeal.τ).loc Cert.AdamPackedIdeal.main_arg0)
      ∧ r.2.mem ((c.tc : Thread Cert.AdamPackedIdeal.nD Cert.AdamPackedIdeal.τ).loc Cert.AdamPackedIdeal.main_arg1) = m ((c.tc : Thread Cert.AdamPackedIdeal.nD Cert.AdamPackedIdeal.τ).loc Cert.AdamPackedIdeal.main_arg1)
      ∧ r.2.mem ((c.tc : Thread Cert.AdamPackedIdeal.nD Cert.AdamPackedIdeal.τ).loc Cert.AdamPackedIdeal.main_arg2) = m ((c.tc : Thread Cert.AdamPackedIdeal.nD Cert.AdamPackedIdeal.τ).loc Cert.AdamPackedIdeal.main_arg2)
      ∧ r.2.mem ((c.tc : Thread Cert.AdamPackedIdeal.nD Cert.AdamPackedIdeal.τ).loc Cert.AdamPackedIdeal.main_arg3) = m ((c.tc : Thread Cert.AdamPackedIdeal.nD Cert.AdamPackedIdeal.τ).loc Cert.AdamPackedIdeal.main_arg3))
      ∧ r.2.sem = fun _ => 0)

def quiescent_AdamPackedRefIdeal [hAdamPackedRefIdeal : Cert.AdamPackedRefIdeal.Facts] : Prop :=
  ∀ (m : (ℓ : Loc Cert.AdamPackedRefIdeal.nD Cert.AdamPackedRefIdeal.τ Cert.AdamPackedRefIdeal.sig) → Buf (Elt Ideal) ℓ) (g : Dev Cert.AdamPackedRefIdeal.nD → PrngReg), Pre_AdamPackedRefIdeal m →
    θ_run (Cert.AdamPackedRefIdeal.defs (F := Ideal)) (onTc (τ := Cert.AdamPackedRefIdeal.τ) (Cert.AdamPackedRefIdeal.main (F := Ideal))) ⟨m, fun _ => 0, g⟩ (fun r => (∀ c : Dev Cert.AdamPackedRefIdeal.nD,
      r.2.mem ((c.tc : Thread Cert.AdamPackedRefIdeal.nD Cert.AdamPackedRefIdeal.τ).loc Cert.AdamPackedRefIdeal.main_arg0) = m ((c.tc : Thread Cert.AdamPackedRefIdeal.nD Cert.AdamPackedRefIdeal.τ).loc Cert.AdamPackedRefIdeal.main_arg0)
      ∧ r.2.mem ((c.tc : Thread Cert.AdamPackedRefIdeal.nD Cert.AdamPackedRefIdeal.τ).loc Cert.AdamPackedRefIdeal.main_arg1) = m ((c.tc : Thread Cert.AdamPackedRefIdeal.nD Cert.AdamPackedRefIdeal.τ).loc Cert.AdamPackedRefIdeal.main_arg1)
      ∧ r.2.mem ((c.tc : Thread Cert.AdamPackedRefIdeal.nD Cert.AdamPackedRefIdeal.τ).loc Cert.AdamPackedRefIdeal.main_arg2) = m ((c.tc : Thread Cert.AdamPackedRefIdeal.nD Cert.AdamPackedRefIdeal.τ).loc Cert.AdamPackedRefIdeal.main_arg2)
      ∧ r.2.mem ((c.tc : Thread Cert.AdamPackedRefIdeal.nD Cert.AdamPackedRefIdeal.τ).loc Cert.AdamPackedRefIdeal.main_arg3) = m ((c.tc : Thread Cert.AdamPackedRefIdeal.nD Cert.AdamPackedRefIdeal.τ).loc Cert.AdamPackedRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5))
      ∧ r.2.sem = fun _ => 0)

def quiescent_DiscA [hDiscA : Cert.DiscA.Facts] : Prop :=
  ∀ (m : (ℓ : Loc Cert.DiscA.nD Cert.DiscA.τ Cert.DiscA.sig) → Buf (Elt Bits) ℓ) (g : Dev Cert.DiscA.nD → PrngReg), Pre_DiscA m →
    θ_run (Cert.DiscA.defs (F := Bits)) (onTc (τ := Cert.DiscA.τ) (Cert.DiscA.main (F := Bits))) ⟨m, fun _ => 0, g⟩ (fun r => (∀ c : Dev Cert.DiscA.nD,
      r.2.mem ((c.tc : Thread Cert.DiscA.nD Cert.DiscA.τ).loc Cert.DiscA.main_arg0) = m ((c.tc : Thread Cert.DiscA.nD Cert.DiscA.τ).loc Cert.DiscA.main_arg0)
      ∧ r.2.mem ((c.tc : Thread Cert.DiscA.nD Cert.DiscA.τ).loc Cert.DiscA.main_arg1) = m ((c.tc : Thread Cert.DiscA.nD Cert.DiscA.τ).loc Cert.DiscA.main_arg1)
      ∧ r.2.mem ((c.tc : Thread Cert.DiscA.nD Cert.DiscA.τ).loc Cert.DiscA.main_arg2) = m ((c.tc : Thread Cert.DiscA.nD Cert.DiscA.τ).loc Cert.DiscA.main_arg2)
      ∧ r.2.mem ((c.tc : Thread Cert.DiscA.nD Cert.DiscA.τ).loc Cert.DiscA.main_arg3) = m ((c.tc : Thread Cert.DiscA.nD Cert.DiscA.τ).loc Cert.DiscA.main_arg3)
      ∧ r.2.mem ((c.tc : Thread Cert.DiscA.nD Cert.DiscA.τ).loc Cert.DiscA.main_arg4) = m ((c.tc : Thread Cert.DiscA.nD Cert.DiscA.τ).loc Cert.DiscA.main_arg4)
      ∧ r.2.mem ((c.tc : Thread Cert.DiscA.nD Cert.DiscA.τ).loc Cert.DiscA.main_arg5) = m ((c.tc : Thread Cert.DiscA.nD Cert.DiscA.τ).loc Cert.DiscA.main_arg5)
      ∧ r.2.mem ((c.tc : Thread Cert.DiscA.nD Cert.DiscA.τ).loc Cert.DiscA.main_arg6) = m ((c.tc : Thread Cert.DiscA.nD Cert.DiscA.τ).loc Cert.DiscA.main_arg6))
      ∧ r.2.sem = fun _ => 0)

def quiescent_DiscAIdeal [hDiscAIdeal : Cert.DiscAIdeal.Facts] : Prop :=
  ∀ (m : (ℓ : Loc Cert.DiscAIdeal.nD Cert.DiscAIdeal.τ Cert.DiscAIdeal.sig) → Buf (Elt Ideal) ℓ) (g : Dev Cert.DiscAIdeal.nD → PrngReg), Pre_DiscAIdeal m →
    θ_run (Cert.DiscAIdeal.defs (F := Ideal)) (onTc (τ := Cert.DiscAIdeal.τ) (Cert.DiscAIdeal.main (F := Ideal))) ⟨m, fun _ => 0, g⟩ (fun r => (∀ c : Dev Cert.DiscAIdeal.nD,
      r.2.mem ((c.tc : Thread Cert.DiscAIdeal.nD Cert.DiscAIdeal.τ).loc Cert.DiscAIdeal.main_arg0) = m ((c.tc : Thread Cert.DiscAIdeal.nD Cert.DiscAIdeal.τ).loc Cert.DiscAIdeal.main_arg0)
      ∧ r.2.mem ((c.tc : Thread Cert.DiscAIdeal.nD Cert.DiscAIdeal.τ).loc Cert.DiscAIdeal.main_arg1) = m ((c.tc : Thread Cert.DiscAIdeal.nD Cert.DiscAIdeal.τ).loc Cert.DiscAIdeal.main_arg1)
      ∧ r.2.mem ((c.tc : Thread Cert.DiscAIdeal.nD Cert.DiscAIdeal.τ).loc Cert.DiscAIdeal.main_arg2) = m ((c.tc : Thread Cert.DiscAIdeal.nD Cert.DiscAIdeal.τ).loc Cert.DiscAIdeal.main_arg2)
      ∧ r.2.mem ((c.tc : Thread Cert.DiscAIdeal.nD Cert.DiscAIdeal.τ).loc Cert.DiscAIdeal.main_arg3) = m ((c.tc : Thread Cert.DiscAIdeal.nD Cert.DiscAIdeal.τ).loc Cert.DiscAIdeal.main_arg3)
      ∧ r.2.mem ((c.tc : Thread Cert.DiscAIdeal.nD Cert.DiscAIdeal.τ).loc Cert.DiscAIdeal.main_arg4) = m ((c.tc : Thread Cert.DiscAIdeal.nD Cert.DiscAIdeal.τ).loc Cert.DiscAIdeal.main_arg4)
      ∧ r.2.mem ((c.tc : Thread Cert.DiscAIdeal.nD Cert.DiscAIdeal.τ).loc Cert.DiscAIdeal.main_arg5) = m ((c.tc : Thread Cert.DiscAIdeal.nD Cert.DiscAIdeal.τ).loc Cert.DiscAIdeal.main_arg5)
      ∧ r.2.mem ((c.tc : Thread Cert.DiscAIdeal.nD Cert.DiscAIdeal.τ).loc Cert.DiscAIdeal.main_arg6) = m ((c.tc : Thread Cert.DiscAIdeal.nD Cert.DiscAIdeal.τ).loc Cert.DiscAIdeal.main_arg6))
      ∧ r.2.sem = fun _ => 0)

def quiescent_DiscARefIdeal [hDiscARefIdeal : Cert.DiscARefIdeal.Facts] : Prop :=
  ∀ (m : (ℓ : Loc Cert.DiscARefIdeal.nD Cert.DiscARefIdeal.τ Cert.DiscARefIdeal.sig) → Buf (Elt Ideal) ℓ) (g : Dev Cert.DiscARefIdeal.nD → PrngReg), Pre_DiscARefIdeal m →
    θ_run (Cert.DiscARefIdeal.defs (F := Ideal)) (onTc (τ := Cert.DiscARefIdeal.τ) (Cert.DiscARefIdeal.main (F := Ideal))) ⟨m, fun _ => 0, g⟩ (fun r => (∀ c : Dev Cert.DiscARefIdeal.nD,
      r.2.mem ((c.tc : Thread Cert.DiscARefIdeal.nD Cert.DiscARefIdeal.τ).loc Cert.DiscARefIdeal.main_arg0) = m ((c.tc : Thread Cert.DiscARefIdeal.nD Cert.DiscARefIdeal.τ).loc Cert.DiscARefIdeal.main_arg0)
      ∧ r.2.mem ((c.tc : Thread Cert.DiscARefIdeal.nD Cert.DiscARefIdeal.τ).loc Cert.DiscARefIdeal.main_arg1) = m ((c.tc : Thread Cert.DiscARefIdeal.nD Cert.DiscARefIdeal.τ).loc Cert.DiscARefIdeal.main_arg1)
      ∧ r.2.mem ((c.tc : Thread Cert.DiscARefIdeal.nD Cert.DiscARefIdeal.τ).loc Cert.DiscARefIdeal.main_arg2) = m ((c.tc : Thread Cert.DiscARefIdeal.nD Cert.DiscARefIdeal.τ).loc Cert.DiscARefIdeal.main_arg2)
      ∧ r.2.mem ((c.tc : Thread Cert.DiscARefIdeal.nD Cert.DiscARefIdeal.τ).loc Cert.DiscARefIdeal.main_arg3) = m ((c.tc : Thread Cert.DiscARefIdeal.nD Cert.DiscARefIdeal.τ).loc Cert.DiscARefIdeal.main_arg3)
      ∧ r.2.mem ((c.tc : Thread Cert.DiscARefIdeal.nD Cert.DiscARefIdeal.τ).loc Cert.DiscARefIdeal.main_arg4) = m ((c.tc : Thread Cert.DiscARefIdeal.nD Cert.DiscARefIdeal.τ).loc Cert.DiscARefIdeal.main_arg4)
      ∧ r.2.mem ((c.tc : Thread Cert.DiscARefIdeal.nD Cert.DiscARefIdeal.τ).loc Cert.DiscARefIdeal.main_arg5) = m ((c.tc : Thread Cert.DiscARefIdeal.nD Cert.DiscARefIdeal.τ).loc Cert.DiscARefIdeal.main_arg5)
      ∧ r.2.mem ((c.tc : Thread Cert.DiscARefIdeal.nD Cert.DiscARefIdeal.τ).loc Cert.DiscARefIdeal.main_arg6) = m ((c.tc : Thread Cert.DiscARefIdeal.nD Cert.DiscARefIdeal.τ).loc Cert.DiscARefIdeal.main_arg6))
      ∧ r.2.sem = fun _ => 0)

def quiescent_DiscB [hDiscB : Cert.DiscB.Facts] : Prop :=
  ∀ (m : (ℓ : Loc Cert.DiscB.nD Cert.DiscB.τ Cert.DiscB.sig) → Buf (Elt Bits) ℓ) (g : Dev Cert.DiscB.nD → PrngReg), Pre_DiscB m →
    θ_run (Cert.DiscB.defs (F := Bits)) (onTc (τ := Cert.DiscB.τ) (Cert.DiscB.main (F := Bits))) ⟨m, fun _ => 0, g⟩ (fun r => (∀ c : Dev Cert.DiscB.nD,
      r.2.mem ((c.tc : Thread Cert.DiscB.nD Cert.DiscB.τ).loc Cert.DiscB.main_arg0) = m ((c.tc : Thread Cert.DiscB.nD Cert.DiscB.τ).loc Cert.DiscB.main_arg0)
      ∧ r.2.mem ((c.tc : Thread Cert.DiscB.nD Cert.DiscB.τ).loc Cert.DiscB.main_arg1) = m ((c.tc : Thread Cert.DiscB.nD Cert.DiscB.τ).loc Cert.DiscB.main_arg1)
      ∧ r.2.mem ((c.tc : Thread Cert.DiscB.nD Cert.DiscB.τ).loc Cert.DiscB.main_arg2) = m ((c.tc : Thread Cert.DiscB.nD Cert.DiscB.τ).loc Cert.DiscB.main_arg2)
      ∧ r.2.mem ((c.tc : Thread Cert.DiscB.nD Cert.DiscB.τ).loc Cert.DiscB.main_arg3) = m ((c.tc : Thread Cert.DiscB.nD Cert.DiscB.τ).loc Cert.DiscB.main_arg3)
      ∧ r.2.mem ((c.tc : Thread Cert.DiscB.nD Cert.DiscB.τ).loc Cert.DiscB.main_arg4) = m ((c.tc : Thread Cert.DiscB.nD Cert.DiscB.τ).loc Cert.DiscB.main_arg4)
      ∧ r.2.mem ((c.tc : Thread Cert.DiscB.nD Cert.DiscB.τ).loc Cert.DiscB.main_arg5) = m ((c.tc : Thread Cert.DiscB.nD Cert.DiscB.τ).loc Cert.DiscB.main_arg5))
      ∧ r.2.sem = fun _ => 0)

def quiescent_DiscBIdeal [hDiscBIdeal : Cert.DiscBIdeal.Facts] : Prop :=
  ∀ (m : (ℓ : Loc Cert.DiscBIdeal.nD Cert.DiscBIdeal.τ Cert.DiscBIdeal.sig) → Buf (Elt Ideal) ℓ) (g : Dev Cert.DiscBIdeal.nD → PrngReg), Pre_DiscBIdeal m →
    θ_run (Cert.DiscBIdeal.defs (F := Ideal)) (onTc (τ := Cert.DiscBIdeal.τ) (Cert.DiscBIdeal.main (F := Ideal))) ⟨m, fun _ => 0, g⟩ (fun r => (∀ c : Dev Cert.DiscBIdeal.nD,
      r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
      ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
      ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
      ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
      ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
      ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5))
      ∧ r.2.sem = fun _ => 0)

def quiescent_DiscBRefIdeal [hDiscBRefIdeal : Cert.DiscBRefIdeal.Facts] : Prop :=
  ∀ (m : (ℓ : Loc Cert.DiscBRefIdeal.nD Cert.DiscBRefIdeal.τ Cert.DiscBRefIdeal.sig) → Buf (Elt Ideal) ℓ) (g : Dev Cert.DiscBRefIdeal.nD → PrngReg), Pre_DiscBRefIdeal m →
    θ_run (Cert.DiscBRefIdeal.defs (F := Ideal)) (onTc (τ := Cert.DiscBRefIdeal.τ) (Cert.DiscBRefIdeal.main (F := Ideal))) ⟨m, fun _ => 0, g⟩ (fun r => (∀ c : Dev Cert.DiscBRefIdeal.nD,
      r.2.mem ((c.tc : Thread Cert.DiscBRefIdeal.nD Cert.DiscBRefIdeal.τ).loc Cert.DiscBRefIdeal.main_arg0) = m ((c.tc : Thread Cert.DiscBRefIdeal.nD Cert.DiscBRefIdeal.τ).loc Cert.DiscBRefIdeal.main_arg0)
      ∧ r.2.mem ((c.tc : Thread Cert.DiscBRefIdeal.nD Cert.DiscBRefIdeal.τ).loc Cert.DiscBRefIdeal.main_arg1) = m ((c.tc : Thread Cert.DiscBRefIdeal.nD Cert.DiscBRefIdeal.τ).loc Cert.DiscBRefIdeal.main_arg1)
      ∧ r.2.mem ((c.tc : Thread Cert.DiscBRefIdeal.nD Cert.DiscBRefIdeal.τ).loc Cert.DiscBRefIdeal.main_arg2) = m ((c.tc : Thread Cert.DiscBRefIdeal.nD Cert.DiscBRefIdeal.τ).loc Cert.DiscBRefIdeal.main_arg2)
      ∧ r.2.mem ((c.tc : Thread Cert.DiscBRefIdeal.nD Cert.DiscBRefIdeal.τ).loc Cert.DiscBRefIdeal.main_arg3) = m ((c.tc : Thread Cert.DiscBRefIdeal.nD Cert.DiscBRefIdeal.τ).loc Cert.DiscBRefIdeal.main_arg3)
      ∧ r.2.mem ((c.tc : Thread Cert.DiscBRefIdeal.nD Cert.DiscBRefIdeal.τ).loc Cert.DiscBRefIdeal.main_arg4) = m ((c.tc : Thread Cert.DiscBRefIdeal.nD Cert.DiscBRefIdeal.τ).loc Cert.DiscBRefIdeal.main_arg4)
      ∧ r.2.mem ((c.tc : Thread Cert.DiscBRefIdeal.nD Cert.DiscBRefIdeal.τ).loc Cert.DiscBRefIdeal.main_arg5) = m ((c.tc : Thread Cert.DiscBRefIdeal.nD Cert.DiscBRefIdeal.τ).loc Cert.DiscBRefIdeal.main_arg5))
      ∧ r.2.sem = fun _ => 0)

def quiescent_Lower [hLower : Cert.Lower.Facts] : Prop :=
  ∀ (m : (ℓ : Loc Cert.Lower.nD Cert.Lower.τ Cert.Lower.sig) → Buf (Elt Bits) ℓ) (g : Dev Cert.Lower.nD → PrngReg), Pre_Lower m →
    θ_run (Cert.Lower.defs (F := Bits)) (onTc (τ := Cert.Lower.τ) (Cert.Lower.main (F := Bits))) ⟨m, fun _ => 0, g⟩ (fun r => (∀ c : Dev Cert.Lower.nD,
      r.2.mem ((c.tc : Thread Cert.Lower.nD Cert.Lower.τ).loc Cert.Lower.main_arg0) = m ((c.tc : Thread Cert.Lower.nD Cert.Lower.τ).loc Cert.Lower.main_arg0)
      ∧ r.2.mem ((c.tc : Thread Cert.Lower.nD Cert.Lower.τ).loc Cert.Lower.main_arg1) = m ((c.tc : Thread Cert.Lower.nD Cert.Lower.τ).loc Cert.Lower.main_arg1))
      ∧ r.2.sem = fun _ => 0)

def quiescent_LowerIdeal [hLowerIdeal : Cert.LowerIdeal.Facts] : Prop :=
  ∀ (m : (ℓ : Loc Cert.LowerIdeal.nD Cert.LowerIdeal.τ Cert.LowerIdeal.sig) → Buf (Elt Ideal) ℓ) (g : Dev Cert.LowerIdeal.nD → PrngReg), Pre_LowerIdeal m →
    θ_run (Cert.LowerIdeal.defs (F := Ideal)) (onTc (τ := Cert.LowerIdeal.τ) (Cert.LowerIdeal.main (F := Ideal))) ⟨m, fun _ => 0, g⟩ (fun r => (∀ c : Dev Cert.LowerIdeal.nD,
      r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0)
      ∧ r.2.mem ((c.tc : Thread Cert.LowerIdeal.nD Cert.LowerIdeal.τ).loc Cert.LowerIdeal.main_arg1) = m ((c.tc : Thread Cert.LowerIdeal.nD Cert.LowerIdeal.τ).loc Cert.LowerIdeal.main_arg1))
      ∧ r.2.sem = fun _ => 0)

def quiescent_LowerRefIdeal [hLowerRefIdeal : Cert.LowerRefIdeal.Facts] : Prop :=
  ∀ (m : (ℓ : Loc Cert.LowerRefIdeal.nD Cert.LowerRefIdeal.τ Cert.LowerRefIdeal.sig) → Buf (Elt Ideal) ℓ) (g : Dev Cert.LowerRefIdeal.nD → PrngReg), Pre_LowerRefIdeal m →
    θ_run (Cert.LowerRefIdeal.defs (F := Ideal)) (onTc (τ := Cert.LowerRefIdeal.τ) (Cert.LowerRefIdeal.main (F := Ideal))) ⟨m, fun _ => 0, g⟩ (fun r => (∀ c : Dev Cert.LowerRefIdeal.nD,
      r.2.mem ((c.tc : Thread Cert.LowerRefIdeal.nD Cert.LowerRefIdeal.τ).loc Cert.LowerRefIdeal.main_arg0) = m ((c.tc : Thread Cert.LowerRefIdeal.nD Cert.LowerRefIdeal.τ).loc Cert.LowerRefIdeal.main_arg0)
      ∧ r.2.mem ((c.tc : Thread Cert.LowerRefIdeal.nD Cert.LowerRefIdeal.τ).loc Cert.LowerRefIdeal.main_arg1) = m ((c.tc : Thread Cert.LowerRefIdeal.nD Cert.LowerRefIdeal.τ).loc Cert.LowerRefIdeal.main_arg1))
      ∧ r.2.sem = fun _ => 0)

def preserves_Kernel_KernelIdeal : Prop :=
  True

def preserves_Glu_GluIdeal : Prop :=
  True

def preserves_Merge_MergeIdeal : Prop :=
  True

def preserves_Gate_GateIdeal : Prop :=
  True

def preserves_Proj_ProjIdeal : Prop :=
  True

def preserves_InProj_InProjIdeal : Prop :=
  True

def preserves_DwIn_DwInIdeal : Prop :=
  True

def preserves_InBwd_InBwdIdeal : Prop :=
  True

def preserves_UpProj_UpProjIdeal : Prop :=
  True

def preserves_DwUp_DwUpIdeal : Prop :=
  True

def preserves_UpBwd_UpBwdIdeal : Prop :=
  True

def preserves_GluProj_GluProjIdeal : Prop :=
  True

def preserves_MergeFwd_MergeFwdIdeal : Prop :=
  True

def preserves_Ffn_FfnIdeal : Prop :=
  True

def preserves_AdamIn_AdamInIdeal : Prop :=
  True

def preserves_AdamUp_AdamUpIdeal : Prop :=
  True

def preserves_AdamSquare_AdamSquareIdeal : Prop :=
  True

def preserves_AdamDown_AdamDownIdeal : Prop :=
  True

def preserves_AdamMeta_AdamMetaIdeal : Prop :=
  True

def preserves_AdamConv_AdamConvIdeal : Prop :=
  True

def preserves_AdamB_AdamBIdeal : Prop :=
  True

def preserves_AdamC_AdamCIdeal : Prop :=
  True

def preserves_AdamPacked_AdamPackedIdeal : Prop :=
  True

def preserves_SumSmall_SumSmallIdeal : Prop :=
  True

def preserves_DiscA_DiscAIdeal : Prop :=
  True

def preserves_DiscB_DiscBIdeal : Prop :=
  True

def preserves_Lower_LowerIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1_0)) (v1 : (c : Dev Cert.GluIdeal.nD) → Buf (Elt Ideal) ((c.tc : Thread Cert.GluIdeal.nD Cert.GluIdeal.τ).loc Cert.GluIdeal.main_v1_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1_0) = v0 c
          ∧ r.2.mem ((c.tc : Thread Cert.GluIdeal.nD Cert.GluIdeal.τ).loc Cert.GluIdeal.main_v1_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v20) = v0 c
          ∧ r.2.mem ((c.tc : Thread Cert.GluRefIdeal.nD Cert.GluRefIdeal.τ).loc Cert.GluRefIdeal.main_v17) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v22_0)) (v1 : (c : Dev Cert.MergeIdeal.nD) → Buf (Elt Ideal) ((c.tc : Thread Cert.MergeIdeal.nD Cert.MergeIdeal.τ).loc Cert.MergeIdeal.main_v22_1)) (v2 : (c : Dev Cert.MergeIdeal.nD) → Buf (Elt Ideal) ((c.tc : Thread Cert.MergeIdeal.nD Cert.MergeIdeal.τ).loc Cert.MergeIdeal.main_v22_2)) (v3 : (c : Dev Cert.MergeIdeal.nD) → Buf (Elt Ideal) ((c.tc : Thread Cert.MergeIdeal.nD Cert.MergeIdeal.τ).loc Cert.MergeIdeal.main_v22_3)) (v4 : (c : Dev Cert.MergeIdeal.nD) → Buf (Elt Ideal) ((c.tc : Thread Cert.MergeIdeal.nD Cert.MergeIdeal.τ).loc Cert.MergeIdeal.main_v22_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22_0) = v0 c
          ∧ r.2.mem ((c.tc : Thread Cert.MergeIdeal.nD Cert.MergeIdeal.τ).loc Cert.MergeIdeal.main_v22_1) = v1 c
          ∧ r.2.mem ((c.tc : Thread Cert.MergeIdeal.nD Cert.MergeIdeal.τ).loc Cert.MergeIdeal.main_v22_2) = v2 c
          ∧ r.2.mem ((c.tc : Thread Cert.MergeIdeal.nD Cert.MergeIdeal.τ).loc Cert.MergeIdeal.main_v22_3) = v3 c
          ∧ r.2.mem ((c.tc : Thread Cert.MergeIdeal.nD Cert.MergeIdeal.τ).loc Cert.MergeIdeal.main_v22_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_v40) = v1 c
          ∧ r.2.mem ((c.tc : Thread Cert.MergeRefIdeal.nD Cert.MergeRefIdeal.τ).loc Cert.MergeRefIdeal.main_v42) = v2 c
          ∧ r.2.mem ((c.tc : Thread Cert.MergeRefIdeal.nD Cert.MergeRefIdeal.τ).loc Cert.MergeRefIdeal.main_v43) = v3 c
          ∧ r.2.mem ((c.tc : Thread Cert.MergeRefIdeal.nD Cert.MergeRefIdeal.τ).loc Cert.MergeRefIdeal.main_v28) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v11_0)) (v1 : (c : Dev Cert.GateIdeal.nD) → Buf (Elt Ideal) ((c.tc : Thread Cert.GateIdeal.nD Cert.GateIdeal.τ).loc Cert.GateIdeal.main_v11_1)) (v2 : (c : Dev Cert.GateIdeal.nD) → Buf (Elt Ideal) ((c.tc : Thread Cert.GateIdeal.nD Cert.GateIdeal.τ).loc Cert.GateIdeal.main_v11_2)) (v3 : (c : Dev Cert.GateIdeal.nD) → Buf (Elt Ideal) ((c.tc : Thread Cert.GateIdeal.nD Cert.GateIdeal.τ).loc Cert.GateIdeal.main_v11_3)) (v4 : (c : Dev Cert.GateIdeal.nD) → Buf (Elt Ideal) ((c.tc : Thread Cert.GateIdeal.nD Cert.GateIdeal.τ).loc Cert.GateIdeal.main_v11_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11_0) = v0 c
          ∧ r.2.mem ((c.tc : Thread Cert.GateIdeal.nD Cert.GateIdeal.τ).loc Cert.GateIdeal.main_v11_1) = v1 c
          ∧ r.2.mem ((c.tc : Thread Cert.GateIdeal.nD Cert.GateIdeal.τ).loc Cert.GateIdeal.main_v11_2) = v2 c
          ∧ r.2.mem ((c.tc : Thread Cert.GateIdeal.nD Cert.GateIdeal.τ).loc Cert.GateIdeal.main_v11_3) = v3 c
          ∧ r.2.mem ((c.tc : Thread Cert.GateIdeal.nD Cert.GateIdeal.τ).loc Cert.GateIdeal.main_v11_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v25) = v0 c
          ∧ r.2.mem ((c.tc : Thread Cert.GateRefIdeal.nD Cert.GateRefIdeal.τ).loc Cert.GateRefIdeal.main_v26) = v1 c
          ∧ r.2.mem ((c.tc : Thread Cert.GateRefIdeal.nD Cert.GateRefIdeal.τ).loc Cert.GateRefIdeal.main_v27) = v2 c
          ∧ r.2.mem ((c.tc : Thread Cert.GateRefIdeal.nD Cert.GateRefIdeal.τ).loc Cert.GateRefIdeal.main_v28) = v3 c
          ∧ r.2.mem ((c.tc : Thread Cert.GateRefIdeal.nD Cert.GateRefIdeal.τ).loc Cert.GateRefIdeal.main_v29) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v6) = v0 c
          ∧ r.2.mem ((c.tc : Thread Cert.ProjRefIdeal.nD Cert.ProjRefIdeal.τ).loc Cert.ProjRefIdeal.main_v4) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v17)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v17) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v14)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v14) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v17) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v4_0)) (v1 : (c : Dev Cert.InBwdIdeal.nD) → Buf (Elt Ideal) ((c.tc : Thread Cert.InBwdIdeal.nD Cert.InBwdIdeal.τ).loc Cert.InBwdIdeal.main_v4_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4_0) = v0 c
          ∧ r.2.mem ((c.tc : Thread Cert.InBwdIdeal.nD Cert.InBwdIdeal.τ).loc Cert.InBwdIdeal.main_v4_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v17)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v17) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v16) = v0 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2))

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v16)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v16) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v17) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)) →
    ∃ (v0 : (c : Dev Cert.UpBwdIdeal.nD) → Buf (Elt Ideal) ((c.tc : Thread Cert.UpBwdIdeal.nD Cert.UpBwdIdeal.τ).loc Cert.UpBwdIdeal.main_v27_0)) (v1 : (c : Dev Cert.UpBwdIdeal.nD) → Buf (Elt Ideal) ((c.tc : Thread Cert.UpBwdIdeal.nD Cert.UpBwdIdeal.τ).loc Cert.UpBwdIdeal.main_v27_1)) (v2 : (c : Dev Cert.UpBwdIdeal.nD) → Buf (Elt Ideal) ((c.tc : Thread Cert.UpBwdIdeal.nD Cert.UpBwdIdeal.τ).loc Cert.UpBwdIdeal.main_v27_2)) (v3 : (c : Dev Cert.UpBwdIdeal.nD) → Buf (Elt Ideal) ((c.tc : Thread Cert.UpBwdIdeal.nD Cert.UpBwdIdeal.τ).loc Cert.UpBwdIdeal.main_v27_3)) (v4 : (c : Dev Cert.UpBwdIdeal.nD) → Buf (Elt Ideal) ((c.tc : Thread Cert.UpBwdIdeal.nD Cert.UpBwdIdeal.τ).loc Cert.UpBwdIdeal.main_v27_4)) (v5 : (c : Dev Cert.UpBwdIdeal.nD) → Buf (Elt Ideal) ((c.tc : Thread Cert.UpBwdIdeal.nD Cert.UpBwdIdeal.τ).loc Cert.UpBwdIdeal.main_v27_5)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v27_0) = v0 c
          ∧ r.2.mem ((c.tc : Thread Cert.UpBwdIdeal.nD Cert.UpBwdIdeal.τ).loc Cert.UpBwdIdeal.main_v27_1) = v1 c
          ∧ r.2.mem ((c.tc : Thread Cert.UpBwdIdeal.nD Cert.UpBwdIdeal.τ).loc Cert.UpBwdIdeal.main_v27_2) = v2 c
          ∧ r.2.mem ((c.tc : Thread Cert.UpBwdIdeal.nD Cert.UpBwdIdeal.τ).loc Cert.UpBwdIdeal.main_v27_3) = v3 c
          ∧ r.2.mem ((c.tc : Thread Cert.UpBwdIdeal.nD Cert.UpBwdIdeal.τ).loc Cert.UpBwdIdeal.main_v27_4) = v4 c
          ∧ r.2.mem ((c.tc : Thread Cert.UpBwdIdeal.nD Cert.UpBwdIdeal.τ).loc Cert.UpBwdIdeal.main_v27_5) = v5 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v105) = v0 c
          ∧ r.2.mem ((c.tc : Thread Cert.UpBwdRefIdeal.nD Cert.UpBwdRefIdeal.τ).loc Cert.UpBwdRefIdeal.main_v106) = v1 c
          ∧ r.2.mem ((c.tc : Thread Cert.UpBwdRefIdeal.nD Cert.UpBwdRefIdeal.τ).loc Cert.UpBwdRefIdeal.main_v107) = v2 c
          ∧ r.2.mem ((c.tc : Thread Cert.UpBwdRefIdeal.nD Cert.UpBwdRefIdeal.τ).loc Cert.UpBwdRefIdeal.main_v108) = v3 c
          ∧ r.2.mem ((c.tc : Thread Cert.UpBwdRefIdeal.nD Cert.UpBwdRefIdeal.τ).loc Cert.UpBwdRefIdeal.main_v109) = v4 c
          ∧ r.2.mem ((c.tc : Thread Cert.UpBwdRefIdeal.nD Cert.UpBwdRefIdeal.τ).loc Cert.UpBwdRefIdeal.main_v110) = v5 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5))

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)
      ∧ m' ((c.tc : Thread Cert.GluProjRefIdeal.nD Cert.GluProjRefIdeal.τ).loc Cert.GluProjRefIdeal.main_arg2) = m ((c.tc : Thread Cert.GluProjIdeal.nD Cert.GluProjIdeal.τ).loc Cert.GluProjIdeal.main_arg2)) →
    ∃ (v0 : (c : Dev Cert.GluProjIdeal.nD) → Buf (Elt Ideal) ((c.tc : Thread Cert.GluProjIdeal.nD Cert.GluProjIdeal.τ).loc Cert.GluProjIdeal.main_v2_0)) (v1 : (c : Dev Cert.GluProjIdeal.nD) → Buf (Elt Ideal) ((c.tc : Thread Cert.GluProjIdeal.nD Cert.GluProjIdeal.τ).loc Cert.GluProjIdeal.main_v2_1)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v2_0) = v0 c
          ∧ r.2.mem ((c.tc : Thread Cert.GluProjIdeal.nD Cert.GluProjIdeal.τ).loc Cert.GluProjIdeal.main_v2_1) = v1 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
          ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v9) = v0 c
          ∧ r.2.mem ((c.tc : Thread Cert.GluProjRefIdeal.nD Cert.GluProjRefIdeal.τ).loc Cert.GluProjRefIdeal.main_v11) = v1 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1)
          ∧ r.2.mem ((c.tc : Thread Cert.GluProjRefIdeal.nD Cert.GluProjRefIdeal.τ).loc Cert.GluProjRefIdeal.main_arg2) = m' ((c.tc : Thread Cert.GluProjRefIdeal.nD Cert.GluProjRefIdeal.τ).loc Cert.GluProjRefIdeal.main_arg2))

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v3_0)) (v1 : (c : Dev Cert.MergeFwdIdeal.nD) → Buf (Elt Ideal) ((c.tc : Thread Cert.MergeFwdIdeal.nD Cert.MergeFwdIdeal.τ).loc Cert.MergeFwdIdeal.main_v3_1)) (v2 : (c : Dev Cert.MergeFwdIdeal.nD) → Buf (Elt Ideal) ((c.tc : Thread Cert.MergeFwdIdeal.nD Cert.MergeFwdIdeal.τ).loc Cert.MergeFwdIdeal.main_v3_2)) (v3 : (c : Dev Cert.MergeFwdIdeal.nD) → Buf (Elt Ideal) ((c.tc : Thread Cert.MergeFwdIdeal.nD Cert.MergeFwdIdeal.τ).loc Cert.MergeFwdIdeal.main_v3_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3_0) = v0 c
          ∧ r.2.mem ((c.tc : Thread Cert.MergeFwdIdeal.nD Cert.MergeFwdIdeal.τ).loc Cert.MergeFwdIdeal.main_v3_1) = v1 c
          ∧ r.2.mem ((c.tc : Thread Cert.MergeFwdIdeal.nD Cert.MergeFwdIdeal.τ).loc Cert.MergeFwdIdeal.main_v3_2) = v2 c
          ∧ r.2.mem ((c.tc : Thread Cert.MergeFwdIdeal.nD Cert.MergeFwdIdeal.τ).loc Cert.MergeFwdIdeal.main_v3_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v22) = v0 c
          ∧ r.2.mem ((c.tc : Thread Cert.MergeFwdRefIdeal.nD Cert.MergeFwdRefIdeal.τ).loc Cert.MergeFwdRefIdeal.main_v23) = v1 c
          ∧ r.2.mem ((c.tc : Thread Cert.MergeFwdRefIdeal.nD Cert.MergeFwdRefIdeal.τ).loc Cert.MergeFwdRefIdeal.main_v24) = v2 c
          ∧ r.2.mem ((c.tc : Thread Cert.MergeFwdRefIdeal.nD Cert.MergeFwdRefIdeal.τ).loc Cert.MergeFwdRefIdeal.main_v38) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)) (v3 : (c : Dev Cert.FfnIdeal.nD) → Buf (Elt Ideal) ((c.tc : Thread Cert.FfnIdeal.nD Cert.FfnIdeal.τ).loc Cert.FfnIdeal.main_v10_3)) (v4 : (c : Dev Cert.FfnIdeal.nD) → Buf (Elt Ideal) ((c.tc : Thread Cert.FfnIdeal.nD Cert.FfnIdeal.τ).loc Cert.FfnIdeal.main_v10_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_v10_3) = v3 c
          ∧ r.2.mem ((c.tc : Thread Cert.FfnIdeal.nD Cert.FfnIdeal.τ).loc Cert.FfnIdeal.main_v10_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v92) = v0 c
          ∧ r.2.mem ((c.tc : Thread Cert.FfnRefIdeal.nD Cert.FfnRefIdeal.τ).loc Cert.FfnRefIdeal.main_v93) = v1 c
          ∧ r.2.mem ((c.tc : Thread Cert.FfnRefIdeal.nD Cert.FfnRefIdeal.τ).loc Cert.FfnRefIdeal.main_v88) = v2 c
          ∧ r.2.mem ((c.tc : Thread Cert.FfnRefIdeal.nD Cert.FfnRefIdeal.τ).loc Cert.FfnRefIdeal.main_v94) = v3 c
          ∧ r.2.mem ((c.tc : Thread Cert.FfnRefIdeal.nD Cert.FfnRefIdeal.τ).loc Cert.FfnRefIdeal.main_v95) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v0) = v0 c
          ∧ r.2.mem ((c.tc : Thread Cert.AdamSquareRefIdeal.nD Cert.AdamSquareRefIdeal.τ).loc Cert.AdamSquareRefIdeal.main_v24) = v1 c
          ∧ r.2.mem ((c.tc : Thread Cert.AdamSquareRefIdeal.nD Cert.AdamSquareRefIdeal.τ).loc Cert.AdamSquareRefIdeal.main_v5) = v2 c
          ∧ r.2.mem ((c.tc : Thread Cert.AdamSquareRefIdeal.nD Cert.AdamSquareRefIdeal.τ).loc Cert.AdamSquareRefIdeal.main_v11) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)) (v3 : (c : Dev Cert.AdamMetaIdeal.nD) → Buf (Elt Ideal) ((c.tc : Thread Cert.AdamMetaIdeal.nD Cert.AdamMetaIdeal.τ).loc Cert.AdamMetaIdeal.main_v0_3)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_v0_3) = v3 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v0) = v0 c
          ∧ r.2.mem ((c.tc : Thread Cert.AdamMetaRefIdeal.nD Cert.AdamMetaRefIdeal.τ).loc Cert.AdamMetaRefIdeal.main_v24) = v1 c
          ∧ r.2.mem ((c.tc : Thread Cert.AdamMetaRefIdeal.nD Cert.AdamMetaRefIdeal.τ).loc Cert.AdamMetaRefIdeal.main_v5) = v2 c
          ∧ r.2.mem ((c.tc : Thread Cert.AdamMetaRefIdeal.nD Cert.AdamMetaRefIdeal.τ).loc Cert.AdamMetaRefIdeal.main_v11) = v3 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v4) = v1 c
          ∧ r.2.mem ((c.tc : Thread Cert.AdamBRefIdeal.nD Cert.AdamBRefIdeal.τ).loc Cert.AdamBRefIdeal.main_v10) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v4) = v1 c
          ∧ r.2.mem ((c.tc : Thread Cert.AdamCRefIdeal.nD Cert.AdamCRefIdeal.τ).loc Cert.AdamCRefIdeal.main_v10) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def algebraic_AdamPackedIdeal_AdamPackedRefIdeal [hAdamPackedIdeal : Cert.AdamPackedIdeal.Facts] [hAdamPackedRefIdeal : Cert.AdamPackedRefIdeal.Facts] : Prop :=
  ∀ (m : (ℓ : Loc Cert.AdamPackedIdeal.nD Cert.AdamPackedIdeal.τ Cert.AdamPackedIdeal.sig) → Buf (Elt Ideal) ℓ) (g : Dev Cert.AdamPackedIdeal.nD → PrngReg)
    (m' : (ℓ : Loc Cert.AdamPackedRefIdeal.nD Cert.AdamPackedRefIdeal.τ Cert.AdamPackedRefIdeal.sig) → Buf (Elt Ideal) ℓ) (g' : Dev Cert.AdamPackedRefIdeal.nD → PrngReg), Pre_AdamPackedIdeal m →
    (∀ c : Dev Cert.AdamPackedIdeal.nD,
      m' ((c.tc : Thread Cert.AdamPackedRefIdeal.nD Cert.AdamPackedRefIdeal.τ).loc Cert.AdamPackedRefIdeal.main_arg0) = m ((c.tc : Thread Cert.AdamPackedIdeal.nD Cert.AdamPackedIdeal.τ).loc Cert.AdamPackedIdeal.main_arg0)
      ∧ m' ((c.tc : Thread Cert.AdamPackedRefIdeal.nD Cert.AdamPackedRefIdeal.τ).loc Cert.AdamPackedRefIdeal.main_arg1) = m ((c.tc : Thread Cert.AdamPackedIdeal.nD Cert.AdamPackedIdeal.τ).loc Cert.AdamPackedIdeal.main_arg1)
      ∧ m' ((c.tc : Thread Cert.AdamPackedRefIdeal.nD Cert.AdamPackedRefIdeal.τ).loc Cert.AdamPackedRefIdeal.main_arg2) = m ((c.tc : Thread Cert.AdamPackedIdeal.nD Cert.AdamPackedIdeal.τ).loc Cert.AdamPackedIdeal.main_arg2)
      ∧ m' ((c.tc : Thread Cert.AdamPackedRefIdeal.nD Cert.AdamPackedRefIdeal.τ).loc Cert.AdamPackedRefIdeal.main_arg3) = m ((c.tc : Thread Cert.AdamPackedIdeal.nD Cert.AdamPackedIdeal.τ).loc Cert.AdamPackedIdeal.main_arg3)) →
    ∃ (v0 : (c : Dev Cert.AdamPackedIdeal.nD) → Buf (Elt Ideal) ((c.tc : Thread Cert.AdamPackedIdeal.nD Cert.AdamPackedIdeal.τ).loc Cert.AdamPackedIdeal.main_v0_0)) (v1 : (c : Dev Cert.AdamPackedIdeal.nD) → Buf (Elt Ideal) ((c.tc : Thread Cert.AdamPackedIdeal.nD Cert.AdamPackedIdeal.τ).loc Cert.AdamPackedIdeal.main_v0_1)) (v2 : (c : Dev Cert.AdamPackedIdeal.nD) → Buf (Elt Ideal) ((c.tc : Thread Cert.AdamPackedIdeal.nD Cert.AdamPackedIdeal.τ).loc Cert.AdamPackedIdeal.main_v0_2)),
      θ_run (Cert.AdamPackedIdeal.defs (F := Ideal)) (onTc (τ := Cert.AdamPackedIdeal.τ) (Cert.AdamPackedIdeal.main (F := Ideal))) ⟨m, fun _ => 0, g⟩ (fun r => ∀ c : Dev Cert.AdamPackedIdeal.nD,
          r.2.mem ((c.tc : Thread Cert.AdamPackedIdeal.nD Cert.AdamPackedIdeal.τ).loc Cert.AdamPackedIdeal.main_v0_0) = v0 c
          ∧ r.2.mem ((c.tc : Thread Cert.AdamPackedIdeal.nD Cert.AdamPackedIdeal.τ).loc Cert.AdamPackedIdeal.main_v0_1) = v1 c
          ∧ r.2.mem ((c.tc : Thread Cert.AdamPackedIdeal.nD Cert.AdamPackedIdeal.τ).loc Cert.AdamPackedIdeal.main_v0_2) = v2 c
          ∧ r.2.mem ((c.tc : Thread Cert.AdamPackedIdeal.nD Cert.AdamPackedIdeal.τ).loc Cert.AdamPackedIdeal.main_arg0) = m ((c.tc : Thread Cert.AdamPackedIdeal.nD Cert.AdamPackedIdeal.τ).loc Cert.AdamPackedIdeal.main_arg0)
          ∧ r.2.mem ((c.tc : Thread Cert.AdamPackedIdeal.nD Cert.AdamPackedIdeal.τ).loc Cert.AdamPackedIdeal.main_arg1) = m ((c.tc : Thread Cert.AdamPackedIdeal.nD Cert.AdamPackedIdeal.τ).loc Cert.AdamPackedIdeal.main_arg1)
          ∧ r.2.mem ((c.tc : Thread Cert.AdamPackedIdeal.nD Cert.AdamPackedIdeal.τ).loc Cert.AdamPackedIdeal.main_arg2) = m ((c.tc : Thread Cert.AdamPackedIdeal.nD Cert.AdamPackedIdeal.τ).loc Cert.AdamPackedIdeal.main_arg2)
          ∧ r.2.mem ((c.tc : Thread Cert.AdamPackedIdeal.nD Cert.AdamPackedIdeal.τ).loc Cert.AdamPackedIdeal.main_arg3) = m ((c.tc : Thread Cert.AdamPackedIdeal.nD Cert.AdamPackedIdeal.τ).loc Cert.AdamPackedIdeal.main_arg3))
      ∧ θ_run (Cert.AdamPackedRefIdeal.defs (F := Ideal)) (onTc (τ := Cert.AdamPackedRefIdeal.τ) (Cert.AdamPackedRefIdeal.main (F := Ideal))) ⟨m', fun _ => 0, g'⟩ (fun r => ∀ c : Dev Cert.AdamPackedRefIdeal.nD,
          r.2.mem ((c.tc : Thread Cert.AdamPackedRefIdeal.nD Cert.AdamPackedRefIdeal.τ).loc Cert.AdamPackedRefIdeal.main_v23) = v0 c
          ∧ r.2.mem ((c.tc : Thread Cert.AdamPackedRefIdeal.nD Cert.AdamPackedRefIdeal.τ).loc Cert.AdamPackedRefIdeal.main_v4) = v1 c
          ∧ r.2.mem ((c.tc : Thread Cert.AdamPackedRefIdeal.nD Cert.AdamPackedRefIdeal.τ).loc Cert.AdamPackedRefIdeal.main_v10) = v2 c
          ∧ r.2.mem ((c.tc : Thread Cert.AdamPackedRefIdeal.nD Cert.AdamPackedRefIdeal.τ).loc Cert.AdamPackedRefIdeal.main_arg0) = m' ((c.tc : Thread Cert.AdamPackedRefIdeal.nD Cert.AdamPackedRefIdeal.τ).loc Cert.AdamPackedRefIdeal.main_arg0)
          ∧ r.2.mem ((c.tc : Thread Cert.AdamPackedRefIdeal.nD Cert.AdamPackedRefIdeal.τ).loc Cert.AdamPackedRefIdeal.main_arg1) = m' ((c.tc : Thread Cert.AdamPackedRefIdeal.nD Cert.AdamPackedRefIdeal.τ).loc Cert.AdamPackedRefIdeal.main_arg1)
          ∧ r.2.mem ((c.tc : Thread Cert.AdamPackedRefIdeal.nD Cert.AdamPackedRefIdeal.τ).loc Cert.AdamPackedRefIdeal.main_arg2) = m' ((c.tc : Thread Cert.AdamPackedRefIdeal.nD Cert.AdamPackedRefIdeal.τ).loc Cert.AdamPackedRefIdeal.main_arg2)
          ∧ r.2.mem ((c.tc : Thread Cert.AdamPackedRefIdeal.nD Cert.AdamPackedRefIdeal.τ).loc Cert.AdamPackedRefIdeal.main_arg3) = m' ((c.tc : Thread Cert.AdamPackedRefIdeal.nD Cert.AdamPackedRefIdeal.τ).loc Cert.AdamPackedRefIdeal.main_arg3))

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)) →
    ∃ (v0 : (c : Dev Cert.SumSmallIdeal.nD) → Buf (Elt Ideal) ((c.tc : Thread Cert.SumSmallIdeal.nD Cert.SumSmallIdeal.τ).loc Cert.SumSmallIdeal.main_v0_0)) (v1 : (c : Dev Cert.SumSmallIdeal.nD) → Buf (Elt Ideal) ((c.tc : Thread Cert.SumSmallIdeal.nD Cert.SumSmallIdeal.τ).loc Cert.SumSmallIdeal.main_v0_1)) (v2 : (c : Dev Cert.SumSmallIdeal.nD) → Buf (Elt Ideal) ((c.tc : Thread Cert.SumSmallIdeal.nD Cert.SumSmallIdeal.τ).loc Cert.SumSmallIdeal.main_v0_2)) (v3 : (c : Dev Cert.SumSmallIdeal.nD) → Buf (Elt Ideal) ((c.tc : Thread Cert.SumSmallIdeal.nD Cert.SumSmallIdeal.τ).loc Cert.SumSmallIdeal.main_v0_3)) (v4 : (c : Dev Cert.SumSmallIdeal.nD) → Buf (Elt Ideal) ((c.tc : Thread Cert.SumSmallIdeal.nD Cert.SumSmallIdeal.τ).loc Cert.SumSmallIdeal.main_v0_4)) (v5 : (c : Dev Cert.SumSmallIdeal.nD) → Buf (Elt Ideal) ((c.tc : Thread Cert.SumSmallIdeal.nD Cert.SumSmallIdeal.τ).loc Cert.SumSmallIdeal.main_v0_5)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0_0) = v0 c
          ∧ r.2.mem ((c.tc : Thread Cert.SumSmallIdeal.nD Cert.SumSmallIdeal.τ).loc Cert.SumSmallIdeal.main_v0_1) = v1 c
          ∧ r.2.mem ((c.tc : Thread Cert.SumSmallIdeal.nD Cert.SumSmallIdeal.τ).loc Cert.SumSmallIdeal.main_v0_2) = v2 c
          ∧ r.2.mem ((c.tc : Thread Cert.SumSmallIdeal.nD Cert.SumSmallIdeal.τ).loc Cert.SumSmallIdeal.main_v0_3) = v3 c
          ∧ r.2.mem ((c.tc : Thread Cert.SumSmallIdeal.nD Cert.SumSmallIdeal.τ).loc Cert.SumSmallIdeal.main_v0_4) = v4 c
          ∧ r.2.mem ((c.tc : Thread Cert.SumSmallIdeal.nD Cert.SumSmallIdeal.τ).loc Cert.SumSmallIdeal.main_v0_5) = v5 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_v1) = v1 c
          ∧ r.2.mem ((c.tc : Thread Cert.SumSmallRefIdeal.nD Cert.SumSmallRefIdeal.τ).loc Cert.SumSmallRefIdeal.main_v2) = v2 c
          ∧ r.2.mem ((c.tc : Thread Cert.SumSmallRefIdeal.nD Cert.SumSmallRefIdeal.τ).loc Cert.SumSmallRefIdeal.main_v3) = v3 c
          ∧ r.2.mem ((c.tc : Thread Cert.SumSmallRefIdeal.nD Cert.SumSmallRefIdeal.τ).loc Cert.SumSmallRefIdeal.main_v4) = v4 c
          ∧ r.2.mem ((c.tc : Thread Cert.SumSmallRefIdeal.nD Cert.SumSmallRefIdeal.τ).loc Cert.SumSmallRefIdeal.main_v5) = v5 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5))

def algebraic_DiscAIdeal_DiscARefIdeal [hDiscAIdeal : Cert.DiscAIdeal.Facts] [hDiscARefIdeal : Cert.DiscARefIdeal.Facts] : Prop :=
  ∀ (m : (ℓ : Loc Cert.DiscAIdeal.nD Cert.DiscAIdeal.τ Cert.DiscAIdeal.sig) → Buf (Elt Ideal) ℓ) (g : Dev Cert.DiscAIdeal.nD → PrngReg)
    (m' : (ℓ : Loc Cert.DiscARefIdeal.nD Cert.DiscARefIdeal.τ Cert.DiscARefIdeal.sig) → Buf (Elt Ideal) ℓ) (g' : Dev Cert.DiscARefIdeal.nD → PrngReg), Pre_DiscAIdeal m →
    (∀ c : Dev Cert.DiscAIdeal.nD,
      m' ((c.tc : Thread Cert.DiscARefIdeal.nD Cert.DiscARefIdeal.τ).loc Cert.DiscARefIdeal.main_arg0) = m ((c.tc : Thread Cert.DiscAIdeal.nD Cert.DiscAIdeal.τ).loc Cert.DiscAIdeal.main_arg0)
      ∧ m' ((c.tc : Thread Cert.DiscARefIdeal.nD Cert.DiscARefIdeal.τ).loc Cert.DiscARefIdeal.main_arg1) = m ((c.tc : Thread Cert.DiscAIdeal.nD Cert.DiscAIdeal.τ).loc Cert.DiscAIdeal.main_arg1)
      ∧ m' ((c.tc : Thread Cert.DiscARefIdeal.nD Cert.DiscARefIdeal.τ).loc Cert.DiscARefIdeal.main_arg2) = m ((c.tc : Thread Cert.DiscAIdeal.nD Cert.DiscAIdeal.τ).loc Cert.DiscAIdeal.main_arg2)
      ∧ m' ((c.tc : Thread Cert.DiscARefIdeal.nD Cert.DiscARefIdeal.τ).loc Cert.DiscARefIdeal.main_arg3) = m ((c.tc : Thread Cert.DiscAIdeal.nD Cert.DiscAIdeal.τ).loc Cert.DiscAIdeal.main_arg3)
      ∧ m' ((c.tc : Thread Cert.DiscARefIdeal.nD Cert.DiscARefIdeal.τ).loc Cert.DiscARefIdeal.main_arg4) = m ((c.tc : Thread Cert.DiscAIdeal.nD Cert.DiscAIdeal.τ).loc Cert.DiscAIdeal.main_arg4)
      ∧ m' ((c.tc : Thread Cert.DiscARefIdeal.nD Cert.DiscARefIdeal.τ).loc Cert.DiscARefIdeal.main_arg5) = m ((c.tc : Thread Cert.DiscAIdeal.nD Cert.DiscAIdeal.τ).loc Cert.DiscAIdeal.main_arg5)
      ∧ m' ((c.tc : Thread Cert.DiscARefIdeal.nD Cert.DiscARefIdeal.τ).loc Cert.DiscARefIdeal.main_arg6) = m ((c.tc : Thread Cert.DiscAIdeal.nD Cert.DiscAIdeal.τ).loc Cert.DiscAIdeal.main_arg6)) →
    ∃ (v0 : (c : Dev Cert.DiscAIdeal.nD) → Buf (Elt Ideal) ((c.tc : Thread Cert.DiscAIdeal.nD Cert.DiscAIdeal.τ).loc Cert.DiscAIdeal.main_v0_0)) (v1 : (c : Dev Cert.DiscAIdeal.nD) → Buf (Elt Ideal) ((c.tc : Thread Cert.DiscAIdeal.nD Cert.DiscAIdeal.τ).loc Cert.DiscAIdeal.main_v0_1)) (v2 : (c : Dev Cert.DiscAIdeal.nD) → Buf (Elt Ideal) ((c.tc : Thread Cert.DiscAIdeal.nD Cert.DiscAIdeal.τ).loc Cert.DiscAIdeal.main_v0_2)),
      θ_run (Cert.DiscAIdeal.defs (F := Ideal)) (onTc (τ := Cert.DiscAIdeal.τ) (Cert.DiscAIdeal.main (F := Ideal))) ⟨m, fun _ => 0, g⟩ (fun r => ∀ c : Dev Cert.DiscAIdeal.nD,
          r.2.mem ((c.tc : Thread Cert.DiscAIdeal.nD Cert.DiscAIdeal.τ).loc Cert.DiscAIdeal.main_v0_0) = v0 c
          ∧ r.2.mem ((c.tc : Thread Cert.DiscAIdeal.nD Cert.DiscAIdeal.τ).loc Cert.DiscAIdeal.main_v0_1) = v1 c
          ∧ r.2.mem ((c.tc : Thread Cert.DiscAIdeal.nD Cert.DiscAIdeal.τ).loc Cert.DiscAIdeal.main_v0_2) = v2 c
          ∧ r.2.mem ((c.tc : Thread Cert.DiscAIdeal.nD Cert.DiscAIdeal.τ).loc Cert.DiscAIdeal.main_arg0) = m ((c.tc : Thread Cert.DiscAIdeal.nD Cert.DiscAIdeal.τ).loc Cert.DiscAIdeal.main_arg0)
          ∧ r.2.mem ((c.tc : Thread Cert.DiscAIdeal.nD Cert.DiscAIdeal.τ).loc Cert.DiscAIdeal.main_arg1) = m ((c.tc : Thread Cert.DiscAIdeal.nD Cert.DiscAIdeal.τ).loc Cert.DiscAIdeal.main_arg1)
          ∧ r.2.mem ((c.tc : Thread Cert.DiscAIdeal.nD Cert.DiscAIdeal.τ).loc Cert.DiscAIdeal.main_arg2) = m ((c.tc : Thread Cert.DiscAIdeal.nD Cert.DiscAIdeal.τ).loc Cert.DiscAIdeal.main_arg2)
          ∧ r.2.mem ((c.tc : Thread Cert.DiscAIdeal.nD Cert.DiscAIdeal.τ).loc Cert.DiscAIdeal.main_arg3) = m ((c.tc : Thread Cert.DiscAIdeal.nD Cert.DiscAIdeal.τ).loc Cert.DiscAIdeal.main_arg3)
          ∧ r.2.mem ((c.tc : Thread Cert.DiscAIdeal.nD Cert.DiscAIdeal.τ).loc Cert.DiscAIdeal.main_arg4) = m ((c.tc : Thread Cert.DiscAIdeal.nD Cert.DiscAIdeal.τ).loc Cert.DiscAIdeal.main_arg4)
          ∧ r.2.mem ((c.tc : Thread Cert.DiscAIdeal.nD Cert.DiscAIdeal.τ).loc Cert.DiscAIdeal.main_arg5) = m ((c.tc : Thread Cert.DiscAIdeal.nD Cert.DiscAIdeal.τ).loc Cert.DiscAIdeal.main_arg5)
          ∧ r.2.mem ((c.tc : Thread Cert.DiscAIdeal.nD Cert.DiscAIdeal.τ).loc Cert.DiscAIdeal.main_arg6) = m ((c.tc : Thread Cert.DiscAIdeal.nD Cert.DiscAIdeal.τ).loc Cert.DiscAIdeal.main_arg6))
      ∧ θ_run (Cert.DiscARefIdeal.defs (F := Ideal)) (onTc (τ := Cert.DiscARefIdeal.τ) (Cert.DiscARefIdeal.main (F := Ideal))) ⟨m', fun _ => 0, g'⟩ (fun r => ∀ c : Dev Cert.DiscARefIdeal.nD,
          r.2.mem ((c.tc : Thread Cert.DiscARefIdeal.nD Cert.DiscARefIdeal.τ).loc Cert.DiscARefIdeal.main_v94) = v0 c
          ∧ r.2.mem ((c.tc : Thread Cert.DiscARefIdeal.nD Cert.DiscARefIdeal.τ).loc Cert.DiscARefIdeal.main_v86) = v1 c
          ∧ r.2.mem ((c.tc : Thread Cert.DiscARefIdeal.nD Cert.DiscARefIdeal.τ).loc Cert.DiscARefIdeal.main_v97) = v2 c
          ∧ r.2.mem ((c.tc : Thread Cert.DiscARefIdeal.nD Cert.DiscARefIdeal.τ).loc Cert.DiscARefIdeal.main_arg0) = m' ((c.tc : Thread Cert.DiscARefIdeal.nD Cert.DiscARefIdeal.τ).loc Cert.DiscARefIdeal.main_arg0)
          ∧ r.2.mem ((c.tc : Thread Cert.DiscARefIdeal.nD Cert.DiscARefIdeal.τ).loc Cert.DiscARefIdeal.main_arg1) = m' ((c.tc : Thread Cert.DiscARefIdeal.nD Cert.DiscARefIdeal.τ).loc Cert.DiscARefIdeal.main_arg1)
          ∧ r.2.mem ((c.tc : Thread Cert.DiscARefIdeal.nD Cert.DiscARefIdeal.τ).loc Cert.DiscARefIdeal.main_arg2) = m' ((c.tc : Thread Cert.DiscARefIdeal.nD Cert.DiscARefIdeal.τ).loc Cert.DiscARefIdeal.main_arg2)
          ∧ r.2.mem ((c.tc : Thread Cert.DiscARefIdeal.nD Cert.DiscARefIdeal.τ).loc Cert.DiscARefIdeal.main_arg3) = m' ((c.tc : Thread Cert.DiscARefIdeal.nD Cert.DiscARefIdeal.τ).loc Cert.DiscARefIdeal.main_arg3)
          ∧ r.2.mem ((c.tc : Thread Cert.DiscARefIdeal.nD Cert.DiscARefIdeal.τ).loc Cert.DiscARefIdeal.main_arg4) = m' ((c.tc : Thread Cert.DiscARefIdeal.nD Cert.DiscARefIdeal.τ).loc Cert.DiscARefIdeal.main_arg4)
          ∧ r.2.mem ((c.tc : Thread Cert.DiscARefIdeal.nD Cert.DiscARefIdeal.τ).loc Cert.DiscARefIdeal.main_arg5) = m' ((c.tc : Thread Cert.DiscARefIdeal.nD Cert.DiscARefIdeal.τ).loc Cert.DiscARefIdeal.main_arg5)
          ∧ r.2.mem ((c.tc : Thread Cert.DiscARefIdeal.nD Cert.DiscARefIdeal.τ).loc Cert.DiscARefIdeal.main_arg6) = m' ((c.tc : Thread Cert.DiscARefIdeal.nD Cert.DiscARefIdeal.τ).loc Cert.DiscARefIdeal.main_arg6))

def algebraic_DiscBIdeal_DiscBRefIdeal [hDiscBIdeal : Cert.DiscBIdeal.Facts] [hDiscBRefIdeal : Cert.DiscBRefIdeal.Facts] : Prop :=
  ∀ (m : (ℓ : Loc Cert.DiscBIdeal.nD Cert.DiscBIdeal.τ Cert.DiscBIdeal.sig) → Buf (Elt Ideal) ℓ) (g : Dev Cert.DiscBIdeal.nD → PrngReg)
    (m' : (ℓ : Loc Cert.DiscBRefIdeal.nD Cert.DiscBRefIdeal.τ Cert.DiscBRefIdeal.sig) → Buf (Elt Ideal) ℓ) (g' : Dev Cert.DiscBRefIdeal.nD → PrngReg), Pre_DiscBIdeal m →
    (∀ c : Dev Cert.DiscBIdeal.nD,
      m' ((c.tc : Thread Cert.DiscBRefIdeal.nD Cert.DiscBRefIdeal.τ).loc Cert.DiscBRefIdeal.main_arg0) = m ((c.tc : Thread Cert.DiscBIdeal.nD Cert.DiscBIdeal.τ).loc Cert.DiscBIdeal.main_arg0)
      ∧ m' ((c.tc : Thread Cert.DiscBRefIdeal.nD Cert.DiscBRefIdeal.τ).loc Cert.DiscBRefIdeal.main_arg1) = m ((c.tc : Thread Cert.DiscBIdeal.nD Cert.DiscBIdeal.τ).loc Cert.DiscBIdeal.main_arg1)
      ∧ m' ((c.tc : Thread Cert.DiscBRefIdeal.nD Cert.DiscBRefIdeal.τ).loc Cert.DiscBRefIdeal.main_arg2) = m ((c.tc : Thread Cert.DiscBIdeal.nD Cert.DiscBIdeal.τ).loc Cert.DiscBIdeal.main_arg2)
      ∧ m' ((c.tc : Thread Cert.DiscBRefIdeal.nD Cert.DiscBRefIdeal.τ).loc Cert.DiscBRefIdeal.main_arg3) = m ((c.tc : Thread Cert.DiscBIdeal.nD Cert.DiscBIdeal.τ).loc Cert.DiscBIdeal.main_arg3)
      ∧ m' ((c.tc : Thread Cert.DiscBRefIdeal.nD Cert.DiscBRefIdeal.τ).loc Cert.DiscBRefIdeal.main_arg4) = m ((c.tc : Thread Cert.DiscBIdeal.nD Cert.DiscBIdeal.τ).loc Cert.DiscBIdeal.main_arg4)
      ∧ m' ((c.tc : Thread Cert.DiscBRefIdeal.nD Cert.DiscBRefIdeal.τ).loc Cert.DiscBRefIdeal.main_arg5) = m ((c.tc : Thread Cert.DiscBIdeal.nD Cert.DiscBIdeal.τ).loc Cert.DiscBIdeal.main_arg5)) →
    ∃ (v0 : (c : Dev Cert.DiscBIdeal.nD) → Buf (Elt Ideal) ((c.tc : Thread Cert.DiscBIdeal.nD Cert.DiscBIdeal.τ).loc Cert.DiscBIdeal.main_v0_0)) (v1 : (c : Dev Cert.DiscBIdeal.nD) → Buf (Elt Ideal) ((c.tc : Thread Cert.DiscBIdeal.nD Cert.DiscBIdeal.τ).loc Cert.DiscBIdeal.main_v0_1)) (v2 : (c : Dev Cert.DiscBIdeal.nD) → Buf (Elt Ideal) ((c.tc : Thread Cert.DiscBIdeal.nD Cert.DiscBIdeal.τ).loc Cert.DiscBIdeal.main_v0_2)) (v3 : (c : Dev Cert.DiscBIdeal.nD) → Buf (Elt Ideal) ((c.tc : Thread Cert.DiscBIdeal.nD Cert.DiscBIdeal.τ).loc Cert.DiscBIdeal.main_v0_3)),
      θ_run (Cert.DiscBIdeal.defs (F := Ideal)) (onTc (τ := Cert.DiscBIdeal.τ) (Cert.DiscBIdeal.main (F := Ideal))) ⟨m, fun _ => 0, g⟩ (fun r => ∀ c : Dev Cert.DiscBIdeal.nD,
          r.2.mem ((c.tc : Thread Cert.DiscBIdeal.nD Cert.DiscBIdeal.τ).loc Cert.DiscBIdeal.main_v0_0) = v0 c
          ∧ r.2.mem ((c.tc : Thread Cert.DiscBIdeal.nD Cert.DiscBIdeal.τ).loc Cert.DiscBIdeal.main_v0_1) = v1 c
          ∧ r.2.mem ((c.tc : Thread Cert.DiscBIdeal.nD Cert.DiscBIdeal.τ).loc Cert.DiscBIdeal.main_v0_2) = v2 c
          ∧ r.2.mem ((c.tc : Thread Cert.DiscBIdeal.nD Cert.DiscBIdeal.τ).loc Cert.DiscBIdeal.main_v0_3) = v3 c
          ∧ r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
          ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
          ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
          ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
          ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
          ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5))
      ∧ θ_run (Cert.DiscBRefIdeal.defs (F := Ideal)) (onTc (τ := Cert.DiscBRefIdeal.τ) (Cert.DiscBRefIdeal.main (F := Ideal))) ⟨m', fun _ => 0, g'⟩ (fun r => ∀ c : Dev Cert.DiscBRefIdeal.nD,
          r.2.mem ((c.tc : Thread Cert.DiscBRefIdeal.nD Cert.DiscBRefIdeal.τ).loc Cert.DiscBRefIdeal.main_v46) = v0 c
          ∧ r.2.mem ((c.tc : Thread Cert.DiscBRefIdeal.nD Cert.DiscBRefIdeal.τ).loc Cert.DiscBRefIdeal.main_v47) = v1 c
          ∧ r.2.mem ((c.tc : Thread Cert.DiscBRefIdeal.nD Cert.DiscBRefIdeal.τ).loc Cert.DiscBRefIdeal.main_v49) = v2 c
          ∧ r.2.mem ((c.tc : Thread Cert.DiscBRefIdeal.nD Cert.DiscBRefIdeal.τ).loc Cert.DiscBRefIdeal.main_v51) = v3 c
          ∧ r.2.mem ((c.tc : Thread Cert.DiscBRefIdeal.nD Cert.DiscBRefIdeal.τ).loc Cert.DiscBRefIdeal.main_arg0) = m' ((c.tc : Thread Cert.DiscBRefIdeal.nD Cert.DiscBRefIdeal.τ).loc Cert.DiscBRefIdeal.main_arg0)
          ∧ r.2.mem ((c.tc : Thread Cert.DiscBRefIdeal.nD Cert.DiscBRefIdeal.τ).loc Cert.DiscBRefIdeal.main_arg1) = m' ((c.tc : Thread Cert.DiscBRefIdeal.nD Cert.DiscBRefIdeal.τ).loc Cert.DiscBRefIdeal.main_arg1)
          ∧ r.2.mem ((c.tc : Thread Cert.DiscBRefIdeal.nD Cert.DiscBRefIdeal.τ).loc Cert.DiscBRefIdeal.main_arg2) = m' ((c.tc : Thread Cert.DiscBRefIdeal.nD Cert.DiscBRefIdeal.τ).loc Cert.DiscBRefIdeal.main_arg2)
          ∧ r.2.mem ((c.tc : Thread Cert.DiscBRefIdeal.nD Cert.DiscBRefIdeal.τ).loc Cert.DiscBRefIdeal.main_arg3) = m' ((c.tc : Thread Cert.DiscBRefIdeal.nD Cert.DiscBRefIdeal.τ).loc Cert.DiscBRefIdeal.main_arg3)
          ∧ r.2.mem ((c.tc : Thread Cert.DiscBRefIdeal.nD Cert.DiscBRefIdeal.τ).loc Cert.DiscBRefIdeal.main_arg4) = m' ((c.tc : Thread Cert.DiscBRefIdeal.nD Cert.DiscBRefIdeal.τ).loc Cert.DiscBRefIdeal.main_arg4)
          ∧ r.2.mem ((c.tc : Thread Cert.DiscBRefIdeal.nD Cert.DiscBRefIdeal.τ).loc Cert.DiscBRefIdeal.main_arg5) = m' ((c.tc : Thread Cert.DiscBRefIdeal.nD Cert.DiscBRefIdeal.τ).loc Cert.DiscBRefIdeal.main_arg5))

def algebraic_LowerIdeal_LowerRefIdeal [hLowerIdeal : Cert.LowerIdeal.Facts] [hLowerRefIdeal : Cert.LowerRefIdeal.Facts] : Prop :=
  ∀ (m : (ℓ : Loc Cert.LowerIdeal.nD Cert.LowerIdeal.τ Cert.LowerIdeal.sig) → Buf (Elt Ideal) ℓ) (g : Dev Cert.LowerIdeal.nD → PrngReg)
    (m' : (ℓ : Loc Cert.LowerRefIdeal.nD Cert.LowerRefIdeal.τ Cert.LowerRefIdeal.sig) → Buf (Elt Ideal) ℓ) (g' : Dev Cert.LowerRefIdeal.nD → PrngReg), Pre_LowerIdeal m →
    (∀ c : Dev Cert.LowerIdeal.nD,
      m' ((c.tc : Thread Cert.LowerRefIdeal.nD Cert.LowerRefIdeal.τ).loc Cert.LowerRefIdeal.main_arg0) = m ((c.tc : Thread Cert.LowerIdeal.nD Cert.LowerIdeal.τ).loc Cert.LowerIdeal.main_arg0)
      ∧ m' ((c.tc : Thread Cert.LowerRefIdeal.nD Cert.LowerRefIdeal.τ).loc Cert.LowerRefIdeal.main_arg1) = m ((c.tc : Thread Cert.LowerIdeal.nD Cert.LowerIdeal.τ).loc Cert.LowerIdeal.main_arg1)) →
    ∃ (v0 : (c : Dev Cert.LowerIdeal.nD) → Buf (Elt Ideal) ((c.tc : Thread Cert.LowerIdeal.nD Cert.LowerIdeal.τ).loc Cert.LowerIdeal.main_v0)),
      θ_run (Cert.LowerIdeal.defs (F := Ideal)) (onTc (τ := Cert.LowerIdeal.τ) (Cert.LowerIdeal.main (F := Ideal))) ⟨m, fun _ => 0, g⟩ (fun r => ∀ c : Dev Cert.LowerIdeal.nD,
          r.2.mem ((c.tc : Thread Cert.LowerIdeal.nD Cert.LowerIdeal.τ).loc Cert.LowerIdeal.main_v0) = v0 c
          ∧ r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0)
          ∧ r.2.mem ((c.tc : Thread Cert.LowerIdeal.nD Cert.LowerIdeal.τ).loc Cert.LowerIdeal.main_arg1) = m ((c.tc : Thread Cert.LowerIdeal.nD Cert.LowerIdeal.τ).loc Cert.LowerIdeal.main_arg1))
      ∧ θ_run (Cert.LowerRefIdeal.defs (F := Ideal)) (onTc (τ := Cert.LowerRefIdeal.τ) (Cert.LowerRefIdeal.main (F := Ideal))) ⟨m', fun _ => 0, g'⟩ (fun r => ∀ c : Dev Cert.LowerRefIdeal.nD,
          r.2.mem ((c.tc : Thread Cert.LowerRefIdeal.nD Cert.LowerRefIdeal.τ).loc Cert.LowerRefIdeal.main_v46) = v0 c
          ∧ r.2.mem ((c.tc : Thread Cert.LowerRefIdeal.nD Cert.LowerRefIdeal.τ).loc Cert.LowerRefIdeal.main_arg0) = m' ((c.tc : Thread Cert.LowerRefIdeal.nD Cert.LowerRefIdeal.τ).loc Cert.LowerRefIdeal.main_arg0)
          ∧ r.2.mem ((c.tc : Thread Cert.LowerRefIdeal.nD Cert.LowerRefIdeal.τ).loc Cert.LowerRefIdeal.main_arg1) = m' ((c.tc : Thread Cert.LowerRefIdeal.nD Cert.LowerRefIdeal.τ).loc Cert.LowerRefIdeal.main_arg1))

def Claim : Prop :=
  ∃ (hKernel : Cert.Kernel.Facts) (hKernelIdeal : Cert.KernelIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hGate : Cert.Gate.Facts) (hGateIdeal : Cert.GateIdeal.Facts) (hGateRefIdeal : Cert.GateRefIdeal.Facts) (hProj : Cert.Proj.Facts) (hProjIdeal : Cert.ProjIdeal.Facts) (hProjRefIdeal : Cert.ProjRefIdeal.Facts) (hInProj : Cert.InProj.Facts) (hInProjIdeal : Cert.InProjIdeal.Facts) (hInProjRefIdeal : Cert.InProjRefIdeal.Facts) (hDwIn : Cert.DwIn.Facts) (hDwInIdeal : Cert.DwInIdeal.Facts) (hDwInRefIdeal : Cert.DwInRefIdeal.Facts) (hInBwd : Cert.InBwd.Facts) (hInBwdIdeal : Cert.InBwdIdeal.Facts) (hInBwdRefIdeal : Cert.InBwdRefIdeal.Facts) (hUpProj : Cert.UpProj.Facts) (hUpProjIdeal : Cert.UpProjIdeal.Facts) (hUpProjRefIdeal : Cert.UpProjRefIdeal.Facts) (hDwUp : Cert.DwUp.Facts) (hDwUpIdeal : Cert.DwUpIdeal.Facts) (hDwUpRefIdeal : Cert.DwUpRefIdeal.Facts) (hUpBwd : Cert.UpBwd.Facts) (hUpBwdIdeal : Cert.UpBwdIdeal.Facts) (hUpBwdRefIdeal : Cert.UpBwdRefIdeal.Facts) (hGluProj : Cert.GluProj.Facts) (hGluProjIdeal : Cert.GluProjIdeal.Facts) (hGluProjRefIdeal : Cert.GluProjRefIdeal.Facts) (hMergeFwd : Cert.MergeFwd.Facts) (hMergeFwdIdeal : Cert.MergeFwdIdeal.Facts) (hMergeFwdRefIdeal : Cert.MergeFwdRefIdeal.Facts) (hFfn : Cert.Ffn.Facts) (hFfnIdeal : Cert.FfnIdeal.Facts) (hFfnRefIdeal : Cert.FfnRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamSquare : Cert.AdamSquare.Facts) (hAdamSquareIdeal : Cert.AdamSquareIdeal.Facts) (hAdamSquareRefIdeal : Cert.AdamSquareRefIdeal.Facts) (hAdamDown : Cert.AdamDown.Facts) (hAdamDownIdeal : Cert.AdamDownIdeal.Facts) (hAdamDownRefIdeal : Cert.AdamDownRefIdeal.Facts) (hAdamMeta : Cert.AdamMeta.Facts) (hAdamMetaIdeal : Cert.AdamMetaIdeal.Facts) (hAdamMetaRefIdeal : Cert.AdamMetaRefIdeal.Facts) (hAdamConv : Cert.AdamConv.Facts) (hAdamConvIdeal : Cert.AdamConvIdeal.Facts) (hAdamConvRefIdeal : Cert.AdamConvRefIdeal.Facts) (hAdamB : Cert.AdamB.Facts) (hAdamBIdeal : Cert.AdamBIdeal.Facts) (hAdamBRefIdeal : Cert.AdamBRefIdeal.Facts) (hAdamC : Cert.AdamC.Facts) (hAdamCIdeal : Cert.AdamCIdeal.Facts) (hAdamCRefIdeal : Cert.AdamCRefIdeal.Facts) (hAdamPacked : Cert.AdamPacked.Facts) (hAdamPackedIdeal : Cert.AdamPackedIdeal.Facts) (hAdamPackedRefIdeal : Cert.AdamPackedRefIdeal.Facts) (hSumSmall : Cert.SumSmall.Facts) (hSumSmallIdeal : Cert.SumSmallIdeal.Facts) (hSumSmallRefIdeal : Cert.SumSmallRefIdeal.Facts) (hDiscA : Cert.DiscA.Facts) (hDiscAIdeal : Cert.DiscAIdeal.Facts) (hDiscARefIdeal : Cert.DiscARefIdeal.Facts) (hDiscB : Cert.DiscB.Facts) (hDiscBIdeal : Cert.DiscBIdeal.Facts) (hDiscBRefIdeal : Cert.DiscBRefIdeal.Facts) (hLower : Cert.Lower.Facts) (hLowerIdeal : Cert.LowerIdeal.Facts) (hLowerRefIdeal : Cert.LowerRefIdeal.Facts) (hPre_finite_gate : Cert.Pre_finite_gate.Facts),
    quiescent_Kernel (hKernel := hKernel)
    ∧ quiescent_KernelIdeal (hKernelIdeal := hKernelIdeal)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Proj (hProj := hProj)
    ∧ quiescent_ProjIdeal (hProjIdeal := hProjIdeal)
    ∧ quiescent_ProjRefIdeal (hProjRefIdeal := hProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Ffn (hFfn := hFfn)
    ∧ quiescent_FfnIdeal (hFfnIdeal := hFfnIdeal)
    ∧ quiescent_FfnRefIdeal (hFfnRefIdeal := hFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamPacked (hAdamPacked := hAdamPacked)
    ∧ quiescent_AdamPackedIdeal (hAdamPackedIdeal := hAdamPackedIdeal)
    ∧ quiescent_AdamPackedRefIdeal (hAdamPackedRefIdeal := hAdamPackedRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_DiscA (hDiscA := hDiscA)
    ∧ quiescent_DiscAIdeal (hDiscAIdeal := hDiscAIdeal)
    ∧ quiescent_DiscARefIdeal (hDiscARefIdeal := hDiscARefIdeal)
    ∧ quiescent_DiscB (hDiscB := hDiscB)
    ∧ quiescent_DiscBIdeal (hDiscBIdeal := hDiscBIdeal)
    ∧ quiescent_DiscBRefIdeal (hDiscBRefIdeal := hDiscBRefIdeal)
    ∧ quiescent_Lower (hLower := hLower)
    ∧ quiescent_LowerIdeal (hLowerIdeal := hLowerIdeal)
    ∧ quiescent_LowerRefIdeal (hLowerRefIdeal := hLowerRefIdeal)
    ∧ preserves_Kernel_KernelIdeal
    ∧ preserves_Glu_GluIdeal
    ∧ preserves_Merge_MergeIdeal
    ∧ preserves_Gate_GateIdeal
    ∧ preserves_Proj_ProjIdeal
    ∧ preserves_InProj_InProjIdeal
    ∧ preserves_DwIn_DwInIdeal
    ∧ preserves_InBwd_InBwdIdeal
    ∧ preserves_UpProj_UpProjIdeal
    ∧ preserves_DwUp_DwUpIdeal
    ∧ preserves_UpBwd_UpBwdIdeal
    ∧ preserves_GluProj_GluProjIdeal
    ∧ preserves_MergeFwd_MergeFwdIdeal
    ∧ preserves_Ffn_FfnIdeal
    ∧ preserves_AdamIn_AdamInIdeal
    ∧ preserves_AdamUp_AdamUpIdeal
    ∧ preserves_AdamSquare_AdamSquareIdeal
    ∧ preserves_AdamDown_AdamDownIdeal
    ∧ preserves_AdamMeta_AdamMetaIdeal
    ∧ preserves_AdamConv_AdamConvIdeal
    ∧ preserves_AdamB_AdamBIdeal
    ∧ preserves_AdamC_AdamCIdeal
    ∧ preserves_AdamPacked_AdamPackedIdeal
    ∧ preserves_SumSmall_SumSmallIdeal
    ∧ preserves_DiscA_DiscAIdeal
    ∧ preserves_DiscB_DiscBIdeal
    ∧ preserves_Lower_LowerIdeal
    ∧ algebraic_GluIdeal_GluRefIdeal (hGluIdeal := hGluIdeal) (hGluRefIdeal := hGluRefIdeal)
    ∧ algebraic_MergeIdeal_MergeRefIdeal (hMergeIdeal := hMergeIdeal) (hMergeRefIdeal := hMergeRefIdeal)
    ∧ algebraic_GateIdeal_GateRefIdeal_pre_finite_gate (hGateIdeal := hGateIdeal) (hGateRefIdeal := hGateRefIdeal) (hPre_finite_gate := hPre_finite_gate)
    ∧ algebraic_ProjIdeal_ProjRefIdeal (hProjIdeal := hProjIdeal) (hProjRefIdeal := hProjRefIdeal)
    ∧ algebraic_InProjIdeal_InProjRefIdeal (hInProjIdeal := hInProjIdeal) (hInProjRefIdeal := hInProjRefIdeal)
    ∧ algebraic_DwInIdeal_DwInRefIdeal (hDwInIdeal := hDwInIdeal) (hDwInRefIdeal := hDwInRefIdeal)
    ∧ algebraic_InBwdIdeal_InBwdRefIdeal (hInBwdIdeal := hInBwdIdeal) (hInBwdRefIdeal := hInBwdRefIdeal)
    ∧ algebraic_UpProjIdeal_UpProjRefIdeal (hUpProjIdeal := hUpProjIdeal) (hUpProjRefIdeal := hUpProjRefIdeal)
    ∧ algebraic_DwUpIdeal_DwUpRefIdeal (hDwUpIdeal := hDwUpIdeal) (hDwUpRefIdeal := hDwUpRefIdeal)
    ∧ algebraic_UpBwdIdeal_UpBwdRefIdeal (hUpBwdIdeal := hUpBwdIdeal) (hUpBwdRefIdeal := hUpBwdRefIdeal)
    ∧ algebraic_GluProjIdeal_GluProjRefIdeal (hGluProjIdeal := hGluProjIdeal) (hGluProjRefIdeal := hGluProjRefIdeal)
    ∧ algebraic_MergeFwdIdeal_MergeFwdRefIdeal (hMergeFwdIdeal := hMergeFwdIdeal) (hMergeFwdRefIdeal := hMergeFwdRefIdeal)
    ∧ algebraic_FfnIdeal_FfnRefIdeal (hFfnIdeal := hFfnIdeal) (hFfnRefIdeal := hFfnRefIdeal)
    ∧ algebraic_AdamInIdeal_AdamInRefIdeal (hAdamInIdeal := hAdamInIdeal) (hAdamInRefIdeal := hAdamInRefIdeal)
    ∧ algebraic_AdamUpIdeal_AdamUpRefIdeal (hAdamUpIdeal := hAdamUpIdeal) (hAdamUpRefIdeal := hAdamUpRefIdeal)
    ∧ algebraic_AdamSquareIdeal_AdamSquareRefIdeal (hAdamSquareIdeal := hAdamSquareIdeal) (hAdamSquareRefIdeal := hAdamSquareRefIdeal)
    ∧ algebraic_AdamDownIdeal_AdamDownRefIdeal (hAdamDownIdeal := hAdamDownIdeal) (hAdamDownRefIdeal := hAdamDownRefIdeal)
    ∧ algebraic_AdamMetaIdeal_AdamMetaRefIdeal (hAdamMetaIdeal := hAdamMetaIdeal) (hAdamMetaRefIdeal := hAdamMetaRefIdeal)
    ∧ algebraic_AdamConvIdeal_AdamConvRefIdeal (hAdamConvIdeal := hAdamConvIdeal) (hAdamConvRefIdeal := hAdamConvRefIdeal)
    ∧ algebraic_AdamBIdeal_AdamBRefIdeal (hAdamBIdeal := hAdamBIdeal) (hAdamBRefIdeal := hAdamBRefIdeal)
    ∧ algebraic_AdamCIdeal_AdamCRefIdeal (hAdamCIdeal := hAdamCIdeal) (hAdamCRefIdeal := hAdamCRefIdeal)
    ∧ algebraic_AdamPackedIdeal_AdamPackedRefIdeal (hAdamPackedIdeal := hAdamPackedIdeal) (hAdamPackedRefIdeal := hAdamPackedRefIdeal)
    ∧ algebraic_SumSmallIdeal_SumSmallRefIdeal (hSumSmallIdeal := hSumSmallIdeal) (hSumSmallRefIdeal := hSumSmallRefIdeal)
    ∧ algebraic_DiscAIdeal_DiscARefIdeal (hDiscAIdeal := hDiscAIdeal) (hDiscARefIdeal := hDiscARefIdeal)
    ∧ algebraic_DiscBIdeal_DiscBRefIdeal (hDiscBIdeal := hDiscBIdeal) (hDiscBRefIdeal := hDiscBRefIdeal)
    ∧ algebraic_LowerIdeal_LowerRefIdeal (hLowerIdeal := hLowerIdeal) (hLowerRefIdeal := hLowerRefIdeal)
-- ==== Pre_finite_gate.lean ====
abbrev S8256x5632 : Shape := ⟨2, ![8256, 5632]⟩
abbrev S5632 : Shape := ⟨1, ![5632]⟩
abbrev S2816x1024 : Shape := ⟨2, ![2816, 1024]⟩
abbrev S8256x1024 : Shape := ⟨2, ![8256, 1024]⟩
abbrev S_ : Shape := ⟨0, ![]⟩

class Facts : Prop where
  bitsLt_bf16_f32 : FTy.bits .bf16 < FTy.bits .f32
  bcast_S_S8256x5632 : S_.BroadcastsInDim S8256x5632 (![] : Fin 0 → Fin S8256x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S8256x1024 : S_.BroadcastsInDim S8256x1024 (![] : Fin 0 → Fin S8256x1024.rank)

variable [Facts]

def fn {F : FTy → Type} [FloatOps F] (main_arg0 : FVec F S8256x5632 .bf16) (main_arg1 : FVec F S5632 .f32) (main_arg2 : FVec F S2816x1024 .f32) (main_arg3 : FVec F S8256x1024 .f32) : IVec S8256x5632 1 × IVec S5632 1 × IVec S2816x1024 1 × IVec S8256x1024 1 :=
  let main_v0 : FVec F S8256x5632 .f32 := (extf .f32 · bitsLt_bf16_f32) main_arg0
  let main_v1 : FVec F S8256x5632 .f32 := Host.absf main_v0
  let main_cst : FVec F S_ .f32 := constant S_ .f32 0x7F800000#32
  let main_v2 : FVec F S8256x5632 .f32 := broadcastInDim S8256x5632 ![] bcast_S_S8256x5632 main_cst
  let main_v3 : IVec S8256x5632 1 := cmpf .olt main_v1 main_v2
  let main_v4 : FVec F S5632 .f32 := Host.absf main_arg1
  let main_cst_0 : FVec F S_ .f32 := constant S_ .f32 0x7F800000#32
  let main_v5 : FVec F S5632 .f32 := broadcastInDim S5632 ![] bcast_S_S5632 main_cst_0
  let main_v6 : IVec S5632 1 := cmpf .olt main_v4 main_v5
  let main_v7 : FVec F S2816x1024 .f32 := Host.absf main_arg2
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S8256x1024 .f32 := Host.absf main_arg3
  let main_cst_2 : FVec F S_ .f32 := constant S_ .f32 0x7F800000#32
  let main_v11 : FVec F S8256x1024 .f32 := broadcastInDim S8256x1024 ![] bcast_S_S8256x1024 main_cst_2
  let main_v12 : IVec S8256x1024 1 := cmpf .olt main_v10 main_v11
  (main_v3, main_v6, main_v9, main_v12)
-- ==== Kernel.lean ====
abbrev S4x2064x1024 : Shape := ⟨3, ![4, 2064, 1024]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S_ : Shape := ⟨0, ![]⟩
abbrev S16x64x64 : Shape := ⟨3, ![16, 64, 64]⟩
abbrev S16x4096 : Shape := ⟨2, ![16, 4096]⟩
abbrev S8x8 : Shape := ⟨2, ![8, 8]⟩
abbrev S16x8x8x64 : Shape := ⟨4, ![16, 8, 8, 64]⟩
abbrev S8x16x8x64 : Shape := ⟨4, ![8, 16, 8, 64]⟩
abbrev S8x1x16x8x64 : Shape := ⟨5, ![8, 1, 16, 8, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x16x64 : Shape := ⟨4, ![8, 8, 16, 64]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x512 : Shape := ⟨2, ![8, 512]⟩
abbrev S8x1024 : Shape := ⟨2, ![8, 1024]⟩
abbrev S8x1x1024 : Shape := ⟨3, ![8, 1, 1024]⟩
abbrev S8x2x1024 : Shape := ⟨3, ![8, 2, 1024]⟩
abbrev S8x2x1x1024 : Shape := ⟨4, ![8, 2, 1, 1024]⟩
abbrev S8x2x8x1024 : Shape := ⟨4, ![8, 2, 8, 1024]⟩
abbrev S8x1x128 : Shape := ⟨3, ![8, 1, 128]⟩
abbrev S4x2112x1024 : Shape := ⟨3, ![4, 2112, 1024]⟩
abbrev S4x8x264x1024 : Shape := ⟨4, ![4, 8, 264, 1024]⟩
abbrev S4x264x8x1024 : Shape := ⟨4, ![4, 264, 8, 1024]⟩
abbrev S4x8x2112x1024 : Shape := ⟨4, ![4, 8, 2112, 1024]⟩
abbrev S1x2112x128 : Shape := ⟨3, ![1, 2112, 128]⟩
abbrev S1x128x1024 : Shape := ⟨3, ![1, 128, 1024]⟩
abbrev S1x1024x128 : Shape := ⟨3, ![1, 1024, 128]⟩
abbrev S1x2x8x1024 : Shape := ⟨4, ![1, 2, 8, 1024]⟩
abbrev S1x1x128 : Shape := ⟨3, ![1, 1, 128]⟩
abbrev S1x1x2112x1024 : Shape := ⟨4, ![1, 1, 2112, 1024]⟩
abbrev S2112x1024 : Shape := ⟨2, ![2112, 1024]⟩
abbrev S2112x128 : Shape := ⟨2, ![2112, 128]⟩
abbrev S128x1024 : Shape := ⟨2, ![128, 1024]⟩
abbrev S1x1x8x1024 : Shape := ⟨4, ![1, 1, 8, 1024]⟩
abbrev S1024x128 : Shape := ⟨2, ![1024, 128]⟩
abbrev S1x128 : Shape := ⟨2, ![1, 128]⟩
abbrev S1x1x1024 : Shape := ⟨3, ![1, 1, 1024]⟩
abbrev S1x1024 : Shape := ⟨2, ![1, 1024]⟩
abbrev S128 : Shape := ⟨1, ![128]⟩
abbrev S512 : Shape := ⟨1, ![512]⟩
abbrev S1x512 : Shape := ⟨2, ![1, 512]⟩
abbrev S8x1x512 : Shape := ⟨3, ![8, 1, 512]⟩

abbrev nBuf : Space → Nat
  | .hbm => 202
  | .vmem => 41
  | .smem => 0
  | _ => 0

abbrev hbmTy0_0 (i : Nat) : BufTy := match i % 128 with
  | 0 => ⟨S4x2064x1024, .bf16⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S1024, .f32⟩
  | 8 => ⟨S4x2064x1024, .bf16⟩
  | 9 => ⟨S64x64, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S_, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S16x64x64, .f32⟩
  | 72 => ⟨S16x4096, .f32⟩
  | 73 => ⟨S16x64x64, .f32⟩
  | 74 => ⟨S16x4096, .f32⟩
  | 75 => ⟨S8x8, .i32⟩
  | 76 => ⟨S8x8, .i32⟩
  | 77 => ⟨S_, .i32⟩
  | 78 => ⟨S8x8, .i32⟩
  | 79 => ⟨S8x8, .i32⟩
  | 80 => ⟨S8x8, .i1⟩
  | 81 => ⟨S8x8, .f32⟩
  | 82 => ⟨S16x8x8x64, .f32⟩
  | 83 => ⟨S8x16x8x64, .f32⟩
  | 84 => ⟨S8x1x16x8x64, .f32⟩
  | 85 => ⟨S1x8x1x8x1, .f32⟩
  | 86 => ⟨S8x8x16x8x64, .f32⟩
  | 87 => ⟨S8x8x16x8x64, .f32⟩
  | 88 => ⟨S8x8x16x8x64, .f32⟩
  | 89 => ⟨S8x128x512, .f32⟩
  | 90 => ⟨S16x8x8x64, .f32⟩
  | 91 => ⟨S8x16x8x64, .f32⟩
  | 92 => ⟨S8x1x16x8x64, .f32⟩
  | 93 => ⟨S1x8x1x8x1, .f32⟩
  | 94 => ⟨S8x8x16x8x64, .f32⟩
  | 95 => ⟨S8x8x16x8x64, .f32⟩
  | 96 => ⟨S8x8x16x8x64, .f32⟩
  | 97 => ⟨S8x128x512, .f32⟩
  | 98 => ⟨S8x128x1024, .f32⟩
  | 99 => ⟨S8x128x1024, .bf16⟩
  | 100 => ⟨S8x8x16x64, .f32⟩
  | 101 => ⟨S8x8x64x16, .f32⟩
  | 102 => ⟨S8x8x64x1x16, .f32⟩
  | 103 => ⟨S1x8x1x8x1, .f32⟩
  | 104 => ⟨S8x8x64x8x16, .f32⟩
  | 105 => ⟨S8x8x64x8x16, .f32⟩
  | 106 => ⟨S8x8x64x8x16, .f32⟩
  | 107 => ⟨S8x512x128, .f32⟩
  | 108 => ⟨S8x8x16x64, .f32⟩
  | 109 => ⟨S8x8x64x16, .f32⟩
  | 110 => ⟨S8x8x64x1x16, .f32⟩
  | 111 => ⟨S1x8x1x8x1, .f32⟩
  | 112 => ⟨S8x8x64x8x16, .f32⟩
  | 113 => ⟨S8x8x64x8x16, .f32⟩
  | 114 => ⟨S8x8x64x8x16, .f32⟩
  | 115 => ⟨S8x512x128, .f32⟩
  | 116 => ⟨S8x512x128, .f32⟩
  | 117 => ⟨S8x1024x128, .f32⟩
  | 118 => ⟨S8x1024x128, .bf16⟩
  | 119 => ⟨S8x512, .f32⟩
  | 120 => ⟨S8x512, .f32⟩
  | 121 => ⟨S8x1024, .f32⟩
  | 122 => ⟨S8x512, .f32⟩
  | 123 => ⟨S8x512, .f32⟩
  | 124 => ⟨S8x1024, .f32⟩
  | 125 => ⟨S8x1x1024, .f32⟩
  | 126 => ⟨S8x1x1024, .f32⟩
  | 127 => ⟨S8x2x1024, .f32⟩
  | _ => ⟨S4x2064x1024, .bf16⟩

abbrev hbmTy0_1 (i : Nat) : BufTy := match i % 128 with
  | 0 => ⟨S8x2x1x1024, .f32⟩
  | 1 => ⟨S8x2x8x1024, .f32⟩
  | 2 => ⟨S8x1x128, .f32⟩
  | 3 => ⟨S_, .i32⟩
  | 4 => ⟨S_, .bf16⟩
  | 5 => ⟨S4x2112x1024, .bf16⟩
  | 6 => ⟨S4x8x264x1024, .bf16⟩
  | 7 => ⟨S4x264x8x1024, .bf16⟩
  | 8 => ⟨S4x2112x1024, .bf16⟩
  | 9 => ⟨S4x2112x1024, .bf16⟩
  | 10 => ⟨S4x8x2112x1024, .bf16⟩
  | 11 => ⟨S_, .i32⟩
  | 12 => ⟨S_, .bf16⟩
  | 13 => ⟨S4x2112x1024, .bf16⟩
  | 14 => ⟨S4x8x264x1024, .bf16⟩
  | 15 => ⟨S4x264x8x1024, .bf16⟩
  | 16 => ⟨S4x2112x1024, .bf16⟩
  | 17 => ⟨S4x2112x1024, .bf16⟩
  | 18 => ⟨S8x128x1024, .f32⟩
  | 19 => ⟨S8x1024x128, .f32⟩
  | 20 => ⟨S8x1x1024, .f32⟩
  | 21 => ⟨S8x1x128, .f32⟩
  | 22 => ⟨S4x264x8x1024, .bf16⟩
  | 23 => ⟨S4x8x264x1024, .bf16⟩
  | 24 => ⟨S4x2112x1024, .bf16⟩
  | 25 => ⟨S4x2064x1024, .bf16⟩
  | 26 => ⟨S8x1x512, .f32⟩
  | 27 => ⟨S8x512, .f32⟩
  | 28 => ⟨S64x64, .f32⟩
  | 29 => ⟨S8x1x512, .f32⟩
  | 30 => ⟨S8x512, .f32⟩
  | 31 => ⟨S64x64, .f32⟩
  | 32 => ⟨S8x128x512, .f32⟩
  | 33 => ⟨S8x8x16x8x64, .f32⟩
  | 34 => ⟨S1x8x1x8x1, .f32⟩
  | 35 => ⟨S8x8x16x8x64, .f32⟩
  | 36 => ⟨S8x8x16x8x64, .f32⟩
  | 37 => ⟨S_, .f32⟩
  | 38 => ⟨S8x16x8x64, .f32⟩
  | 39 => ⟨S16x8x8x64, .f32⟩
  | 40 => ⟨S16x4096, .f32⟩
  | 41 => ⟨S16x64x64, .f32⟩
  | 42 => ⟨S64x64x16, .f32⟩
  | 43 => ⟨S8x128x512, .f32⟩
  | 44 => ⟨S8x8x16x8x64, .f32⟩
  | 45 => ⟨S1x8x1x8x1, .f32⟩
  | 46 => ⟨S8x8x16x8x64, .f32⟩
  | 47 => ⟨S8x8x16x8x64, .f32⟩
  | 48 => ⟨S_, .f32⟩
  | 49 => ⟨S8x16x8x64, .f32⟩
  | 50 => ⟨S16x8x8x64, .f32⟩
  | 51 => ⟨S16x4096, .f32⟩
  | 52 => ⟨S16x64x64, .f32⟩
  | 53 => ⟨S64x64x16, .f32⟩
  | 54 => ⟨S8x512x128, .f32⟩
  | 55 => ⟨S8x8x64x8x16, .f32⟩
  | 56 => ⟨S1x8x1x8x1, .f32⟩
  | 57 => ⟨S8x8x64x8x16, .f32⟩
  | 58 => ⟨S8x8x64x8x16, .f32⟩
  | 59 => ⟨S_, .f32⟩
  | 60 => ⟨S8x8x64x16, .f32⟩
  | 61 => ⟨S8x8x16x64, .f32⟩
  | 62 => ⟨S64x16x64, .f32⟩
  | 63 => ⟨S8x512x128, .f32⟩
  | 64 => ⟨S8x8x64x8x16, .f32⟩
  | 65 => ⟨S1x8x1x8x1, .f32⟩
  | 66 => ⟨S8x8x64x8x16, .f32⟩
  | 67 => ⟨S8x8x64x8x16, .f32⟩
  | 68 => ⟨S_, .f32⟩
  | 69 => ⟨S8x8x64x16, .f32⟩
  | 70 => ⟨S8x8x16x64, .f32⟩
  | 71 => ⟨S64x16x64, .f32⟩
  | 72 => ⟨S64x16x64, .f32⟩
  | 73 => ⟨S1024, .f32⟩
  | _ => ⟨S4x2064x1024, .bf16⟩

abbrev hbmTy (i : Nat) : BufTy := match i / 128 with
  | 0 => hbmTy0_0 i
  | 1 => hbmTy0_1 i
  | _ => ⟨S4x2064x1024, .bf16⟩

abbrev bufTy : (tb : Table) → Fin (tcTables nBuf tb) → BufTy
  | .hbm, ⟨i, _⟩ => hbmTy i
  | .local _ .vmem, ⟨0, _⟩ => ⟨S1x2112x128, .bf16⟩
  | .local _ .vmem, ⟨1, _⟩ => ⟨S1x2112x128, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x2x8x1024, .f32⟩
  | .local _ .vmem, ⟨7, _⟩ => ⟨S1x2x8x1024, .f32⟩
  | .local _ .vmem, ⟨8, _⟩ => ⟨S1x1x128, .f32⟩
  | .local _ .vmem, ⟨9, _⟩ => ⟨S1x1x128, .f32⟩
  | .local _ .vmem, ⟨10, _⟩ => ⟨S1x2112x128, .bf16⟩
  | .local _ .vmem, ⟨11, _⟩ => ⟨S1x2112x128, .bf16⟩
  | .local _ .vmem, ⟨12, _⟩ => ⟨S1x1x2112x1024, .bf16⟩
  | .local _ .vmem, ⟨13, _⟩ => ⟨S1x1x2112x1024, .bf16⟩
  | .local _ .vmem, ⟨14, _⟩ => ⟨S2112x1024, .f32⟩
  | .local _ .vmem, ⟨15, _⟩ => ⟨S1x2112x128, .bf16⟩
  | .local _ .vmem, ⟨16, _⟩ => ⟨S1x2112x128, .bf16⟩
  | .local _ .vmem, ⟨17, _⟩ => ⟨S1x1x2112x1024, .bf16⟩
  | .local _ .vmem, ⟨18, _⟩ => ⟨S1x1x2112x1024, .bf16⟩
  | .local _ .vmem, ⟨19, _⟩ => ⟨S1x2112x128, .bf16⟩
  | .local _ .vmem, ⟨20, _⟩ => ⟨S1x2112x128, .bf16⟩
  | .local _ .vmem, ⟨21, _⟩ => ⟨S1x128x1024, .bf16⟩
  | .local _ .vmem, ⟨22, _⟩ => ⟨S1x128x1024, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x2x8x1024, .f32⟩
  | .local _ .vmem, ⟨26, _⟩ => ⟨S1x2x8x1024, .f32⟩
  | .local _ .vmem, ⟨27, _⟩ => ⟨S1x1x128, .f32⟩
  | .local _ .vmem, ⟨28, _⟩ => ⟨S1x1x128, .f32⟩
  | .local _ .vmem, ⟨29, _⟩ => ⟨S1x2112x128, .bf16⟩
  | .local _ .vmem, ⟨30, _⟩ => ⟨S1x2112x128, .bf16⟩
  | .local _ .vmem, ⟨31, _⟩ => ⟨S1x128x1024, .f32⟩
  | .local _ .vmem, ⟨32, _⟩ => ⟨S1x128x1024, .f32⟩
  | .local _ .vmem, ⟨33, _⟩ => ⟨S1x1024x128, .f32⟩
  | .local _ .vmem, ⟨34, _⟩ => ⟨S1x1024x128, .f32⟩
  | .local _ .vmem, ⟨35, _⟩ => ⟨S1x1x1024, .f32⟩
  | .local _ .vmem, ⟨36, _⟩ => ⟨S1x1x1024, .f32⟩
  | .local _ .vmem, ⟨37, _⟩ => ⟨S1x1x128, .f32⟩
  | .local _ .vmem, ⟨38, _⟩ => ⟨S1x1x128, .f32⟩
  | .local _ .vmem, ⟨39, _⟩ => ⟨S2112x1024, .f32⟩
  | .local _ .vmem, ⟨40, _⟩ => ⟨S2112x1024, .f32⟩
  | _, _ => ⟨S4x2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_c_7 : Ref sig .tc := ⟨.hbm, 131, rfl⟩
abbrev main_call0_v0 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117_0 : Ref sig .tc := ⟨.hbm, 137, rfl⟩
abbrev main_v117_1 : Ref sig .tc := ⟨.hbm, 138, rfl⟩
abbrev main_c_8 : Ref sig .tc := ⟨.hbm, 139, rfl⟩
abbrev main_call1_v0 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122_0 : Ref sig .tc := ⟨.hbm, 145, rfl⟩
abbrev main_v122_1 : Ref sig .tc := ⟨.hbm, 146, rfl⟩
abbrev main_v122_2 : Ref sig .tc := ⟨.hbm, 147, rfl⟩
abbrev main_v122_3 : Ref sig .tc := ⟨.hbm, 148, rfl⟩
abbrev main_v122_4 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_9 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_10 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_cst_11 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_cst_12 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc1_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c33_i32 : BitVec 32 := 33#32
  let v25 : BitVec 32 := Scalar.addi c0_i32 c33_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v161 : BitVec 32 := Scalar.muli arg10 c8_i32
  let c0_i32_79 : BitVec 32 := 0#32
  let v162 : BitVec 32 := Scalar.addi v161 c0_i32_79
  let c8_i32_80 : BitVec 32 := 8#32
  let v163 : BitVec 32 := Scalar.muli v162 c8_i32_80
  v163
def k0_off1 (k0_t1 : Fin k0_t1_loop.trips) (c0_i32_79 : BitVec 32) : Fin 2 → Nat :=
  let c0_i32 : BitVec 32 := 0#32
  let c1_i32 : BitVec 32 := 1#32
  let arg10 : BitVec 32 := Scf.iv c0_i32 c1_i32 k0_t1
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v165 : Index := Scalar.indexCast v164
  let c0_81 : Index := 0#32
  ![v165.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_82 : BitVec 32 := 8#32
  let v177 : BitVec 32 := Scalar.muli arg10 c8_i32_82
  let c1_i32_83 : BitVec 32 := 1#32
  let v178 : BitVec 32 := Scalar.addi v177 c1_i32_83
  let c8_i32_84 : BitVec 32 := 8#32
  let v179 : BitVec 32 := Scalar.muli v178 c8_i32_84
  v179
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_86 : BitVec 32 := 8#32
  let v193 : BitVec 32 := Scalar.muli arg10 c8_i32_86
  let c2_i32 : BitVec 32 := 2#32
  let v194 : BitVec 32 := Scalar.addi v193 c2_i32
  let c8_i32_87 : BitVec 32 := 8#32
  let v195 : BitVec 32 := Scalar.muli v194 c8_i32_87
  v195
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_89 : BitVec 32 := 8#32
  let v209 : BitVec 32 := Scalar.muli arg10 c8_i32_89
  let c3_i32 : BitVec 32 := 3#32
  let v210 : BitVec 32 := Scalar.addi v209 c3_i32
  let c8_i32_90 : BitVec 32 := 8#32
  let v211 : BitVec 32 := Scalar.muli v210 c8_i32_90
  v211
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_92 : BitVec 32 := 8#32
  let v225 : BitVec 32 := Scalar.muli arg10 c8_i32_92
  let c4_i32 : BitVec 32 := 4#32
  let v226 : BitVec 32 := Scalar.addi v225 c4_i32
  let c8_i32_93 : BitVec 32 := 8#32
  let v227 : BitVec 32 := Scalar.muli v226 c8_i32_93
  v227
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_95 : BitVec 32 := 8#32
  let v241 : BitVec 32 := Scalar.muli arg10 c8_i32_95
  let c5_i32 : BitVec 32 := 5#32
  let v242 : BitVec 32 := Scalar.addi v241 c5_i32
  let c8_i32_96 : BitVec 32 := 8#32
  let v243 : BitVec 32 := Scalar.muli v242 c8_i32_96
  v243
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_98 : BitVec 32 := 8#32
  let v257 : BitVec 32 := Scalar.muli arg10 c8_i32_98
  let c6_i32 : BitVec 32 := 6#32
  let v258 : BitVec 32 := Scalar.addi v257 c6_i32
  let c8_i32_99 : BitVec 32 := 8#32
  let v259 : BitVec 32 := Scalar.muli v258 c8_i32_99
  v259
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_101 : BitVec 32 := 8#32
  let v273 : BitVec 32 := Scalar.muli arg10 c8_i32_101
  let c7_i32 : BitVec 32 := 7#32
  let v274 : BitVec 32 := Scalar.addi v273 c7_i32
  let c8_i32_102 : BitVec 32 := 8#32
  let v275 : BitVec 32 := Scalar.muli v274 c8_i32_102
  v275
@[reducible] def k0_t2_loop : Scf.Loop 32 :=
  let c0_i32_55 : BitVec 32 := 0#32
  let c33_i32_56 : BitVec 32 := 33#32
  let v128 : BitVec 32 := Scalar.addi c0_i32_55 c33_i32_56
  let c1_i32_57 : BitVec 32 := 1#32
  ⟨c0_i32_55, v128, c1_i32_57⟩
def k0_mult9 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let c0_i32_79 : BitVec 32 := 0#32
  let v162 : BitVec 32 := Scalar.addi v161 c0_i32_79
  let c8_i32_80 : BitVec 32 := 8#32
  let v163 : BitVec 32 := Scalar.muli v162 c8_i32_80
  v163
def k0_off2 (k0_t2 : Fin k0_t2_loop.trips) (c0_i32_79 : BitVec 32) : Fin 2 → Nat :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v165 : Index := Scalar.indexCast v164
  let c0_81 : Index := 0#32
  ![v165.toNat, 0]
def k0_off3 (k0_t2 : Fin k0_t2_loop.trips) (c0_i32_79 : BitVec 32) : Fin 2 → Nat :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v177 : Index := Scalar.indexCast v164
  let c0_82 : Index := 0#32
  ![v177.toNat, 0]
def k0_off4 (k0_t2 : Fin k0_t2_loop.trips) (c0_i32_79 : BitVec 32) : Fin 2 → Nat :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v181 : Index := Scalar.indexCast v164
  let c512 : Index := 512#32
  ![v181.toNat, 512]
def k0_mult10 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_83 : BitVec 32 := 8#32
  let v185 : BitVec 32 := Scalar.muli arg10 c8_i32_83
  let c1_i32_84 : BitVec 32 := 1#32
  let v186 : BitVec 32 := Scalar.addi v185 c1_i32_84
  let c8_i32_85 : BitVec 32 := 8#32
  let v187 : BitVec 32 := Scalar.muli v186 c8_i32_85
  v187
def k0_mult11 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_89 : BitVec 32 := 8#32
  let v209 : BitVec 32 := Scalar.muli arg10 c8_i32_89
  let c2_i32 : BitVec 32 := 2#32
  let v210 : BitVec 32 := Scalar.addi v209 c2_i32
  let c8_i32_90 : BitVec 32 := 8#32
  let v211 : BitVec 32 := Scalar.muli v210 c8_i32_90
  v211
def k0_mult12 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_94 : BitVec 32 := 8#32
  let v233 : BitVec 32 := Scalar.muli arg10 c8_i32_94
  let c3_i32 : BitVec 32 := 3#32
  let v234 : BitVec 32 := Scalar.addi v233 c3_i32
  let c8_i32_95 : BitVec 32 := 8#32
  let v235 : BitVec 32 := Scalar.muli v234 c8_i32_95
  v235
def k0_mult13 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_99 : BitVec 32 := 8#32
  let v257 : BitVec 32 := Scalar.muli arg10 c8_i32_99
  let c4_i32 : BitVec 32 := 4#32
  let v258 : BitVec 32 := Scalar.addi v257 c4_i32
  let c8_i32_100 : BitVec 32 := 8#32
  let v259 : BitVec 32 := Scalar.muli v258 c8_i32_100
  v259
def k0_mult14 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_104 : BitVec 32 := 8#32
  let v281 : BitVec 32 := Scalar.muli arg10 c8_i32_104
  let c5_i32 : BitVec 32 := 5#32
  let v282 : BitVec 32 := Scalar.addi v281 c5_i32
  let c8_i32_105 : BitVec 32 := 8#32
  let v283 : BitVec 32 := Scalar.muli v282 c8_i32_105
  v283
def k0_mult15 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_109 : BitVec 32 := 8#32
  let v305 : BitVec 32 := Scalar.muli arg10 c8_i32_109
  let c6_i32 : BitVec 32 := 6#32
  let v306 : BitVec 32 := Scalar.addi v305 c6_i32
  let c8_i32_110 : BitVec 32 := 8#32
  let v307 : BitVec 32 := Scalar.muli v306 c8_i32_110
  v307
def k0_mult16 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_114 : BitVec 32 := 8#32
  let v329 : BitVec 32 := Scalar.muli arg10 c8_i32_114
  let c7_i32 : BitVec 32 := 7#32
  let v330 : BitVec 32 := Scalar.addi v329 c7_i32
  let c8_i32_115 : BitVec 32 := 8#32
  let v331 : BitVec 32 := Scalar.muli v330 c8_i32_115
  v331
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2112x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2112x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2112x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

@[reducible] def k1_t1_loop : Scf.Loop 32 :=
  let c0_i32_59 : BitVec 32 := 0#32
  let c33_i32 : BitVec 32 := 33#32
  let v88 : BitVec 32 := Scalar.addi c0_i32_59 c33_i32
  let c1_i32 : BitVec 32 := 1#32
  ⟨c0_i32_59, v88, c1_i32⟩
def k1_mult1 (k1_t1 : Fin k1_t1_loop.trips) : BitVec 32 :=
  let c263_i32 : BitVec 32 := 263#32
  let c0_i32_59 : BitVec 32 := 0#32
  let c1_i32 : BitVec 32 := 1#32
  let arg16 : BitVec 32 := Scf.iv c0_i32_59 c1_i32 k1_t1
  let c8_i32 : BitVec 32 := 8#32
  let v252 : BitVec 32 := Scalar.muli arg16 c8_i32
  let c0_i32_141 : BitVec 32 := 0#32
  let v253 : BitVec 32 := Scalar.addi v252 c0_i32_141
  let v254 : BitVec 32 := Scalar.subi c263_i32 v253
  let c8_i32_142 : BitVec 32 := 8#32
  let v255 : BitVec 32 := Scalar.muli v254 c8_i32_142
  v255
def k1_off1 (k1_t1 : Fin k1_t1_loop.trips) (c0_i32_141 : BitVec 32) : Fin 2 → Nat :=
  let c263_i32 : BitVec 32 := 263#32
  let c0_i32_59 : BitVec 32 := 0#32
  let c1_i32 : BitVec 32 := 1#32
  let arg16 : BitVec 32 := Scf.iv c0_i32_59 c1_i32 k1_t1
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v257 : Index := Scalar.indexCast v256
  let c0_143 : Index := 0#32
  ![v257.toNat, 0]
def k1_mult2 (k1_t1 : Fin k1_t1_loop.trips) : BitVec 32 :=
  let c263_i32_146 : BitVec 32 := 263#32
  let c0_i32_59 : BitVec 32 := 0#32
  let c1_i32 : BitVec 32 := 1#32
  let arg16 : BitVec 32 := Scf.iv c0_i32_59 c1_i32 k1_t1
  let c8_i32_144 : BitVec 32 := 8#32
  let v269 : BitVec 32 := Scalar.muli arg16 c8_i32_144
  let c1_i32_145 : BitVec 32 := 1#32
  let v270 : BitVec 32 := Scalar.addi v269 c1_i32_145
  let v271 : BitVec 32 := Scalar.subi c263_i32_146 v270
  let c8_i32_147 : BitVec 32 := 8#32
  let v272 : BitVec 32 := Scalar.muli v271 c8_i32_147
  v272
def k1_mult3 (k1_t1 : Fin k1_t1_loop.trips) : BitVec 32 :=
  let c263_i32_150 : BitVec 32 := 263#32
  let c0_i32_59 : BitVec 32 := 0#32
  let c1_i32 : BitVec 32 := 1#32
  let arg16 : BitVec 32 := Scf.iv c0_i32_59 c1_i32 k1_t1
  let c8_i32_149 : BitVec 32 := 8#32
  let v286 : BitVec 32 := Scalar.muli arg16 c8_i32_149
  let c2_i32 : BitVec 32 := 2#32
  let v287 : BitVec 32 := Scalar.addi v286 c2_i32
  let v288 : BitVec 32 := Scalar.subi c263_i32_150 v287
  let c8_i32_151 : BitVec 32 := 8#32
  let v289 : BitVec 32 := Scalar.muli v288 c8_i32_151
  v289
def k1_mult4 (k1_t1 : Fin k1_t1_loop.trips) : BitVec 32 :=
  let c263_i32_154 : BitVec 32 := 263#32
  let c0_i32_59 : BitVec 32 := 0#32
  let c1_i32 : BitVec 32 := 1#32
  let arg16 : BitVec 32 := Scf.iv c0_i32_59 c1_i32 k1_t1
  let c8_i32_153 : BitVec 32 := 8#32
  let v303 : BitVec 32 := Scalar.muli arg16 c8_i32_153
  let c3_i32 : BitVec 32 := 3#32
  let v304 : BitVec 32 := Scalar.addi v303 c3_i32
  let v305 : BitVec 32 := Scalar.subi c263_i32_154 v304
  let c8_i32_155 : BitVec 32 := 8#32
  let v306 : BitVec 32 := Scalar.muli v305 c8_i32_155
  v306
def k1_mult5 (k1_t1 : Fin k1_t1_loop.trips) : BitVec 32 :=
  let c263_i32_158 : BitVec 32 := 263#32
  let c0_i32_59 : BitVec 32 := 0#32
  let c1_i32 : BitVec 32 := 1#32
  let arg16 : BitVec 32 := Scf.iv c0_i32_59 c1_i32 k1_t1
  let c8_i32_157 : BitVec 32 := 8#32
  let v320 : BitVec 32 := Scalar.muli arg16 c8_i32_157
  let c4_i32 : BitVec 32 := 4#32
  let v321 : BitVec 32 := Scalar.addi v320 c4_i32
  let v322 : BitVec 32 := Scalar.subi c263_i32_158 v321
  let c8_i32_159 : BitVec 32 := 8#32
  let v323 : BitVec 32 := Scalar.muli v322 c8_i32_159
  v323
def k1_mult6 (k1_t1 : Fin k1_t1_loop.trips) : BitVec 32 :=
  let c263_i32_162 : BitVec 32 := 263#32
  let c0_i32_59 : BitVec 32 := 0#32
  let c1_i32 : BitVec 32 := 1#32
  let arg16 : BitVec 32 := Scf.iv c0_i32_59 c1_i32 k1_t1
  let c8_i32_161 : BitVec 32 := 8#32
  let v337 : BitVec 32 := Scalar.muli arg16 c8_i32_161
  let c5_i32 : BitVec 32 := 5#32
  let v338 : BitVec 32 := Scalar.addi v337 c5_i32
  let v339 : BitVec 32 := Scalar.subi c263_i32_162 v338
  let c8_i32_163 : BitVec 32 := 8#32
  let v340 : BitVec 32 := Scalar.muli v339 c8_i32_163
  v340
def k1_mult7 (k1_t1 : Fin k1_t1_loop.trips) : BitVec 32 :=
  let c263_i32_166 : BitVec 32 := 263#32
  let c0_i32_59 : BitVec 32 := 0#32
  let c1_i32 : BitVec 32 := 1#32
  let arg16 : BitVec 32 := Scf.iv c0_i32_59 c1_i32 k1_t1
  let c8_i32_165 : BitVec 32 := 8#32
  let v354 : BitVec 32 := Scalar.muli arg16 c8_i32_165
  let c6_i32 : BitVec 32 := 6#32
  let v355 : BitVec 32 := Scalar.addi v354 c6_i32
  let v356 : BitVec 32 := Scalar.subi c263_i32_166 v355
  let c8_i32_167 : BitVec 32 := 8#32
  let v357 : BitVec 32 := Scalar.muli v356 c8_i32_167
  v357
def k1_mult8 (k1_t1 : Fin k1_t1_loop.trips) : BitVec 32 :=
  let c263_i32_171 : BitVec 32 := 263#32
  let c0_i32_59 : BitVec 32 := 0#32
  let c1_i32 : BitVec 32 := 1#32
  let arg16 : BitVec 32 := Scf.iv c0_i32_59 c1_i32 k1_t1
  let c8_i32_169 : BitVec 32 := 8#32
  let v371 : BitVec 32 := Scalar.muli arg16 c8_i32_169
  let c7_i32_170 : BitVec 32 := 7#32
  let v372 : BitVec 32 := Scalar.addi v371 c7_i32_170
  let v373 : BitVec 32 := Scalar.subi c263_i32_171 v372
  let c8_i32_172 : BitVec 32 := 8#32
  let v374 : BitVec 32 := Scalar.muli v373 c8_i32_172
  v374
@[reducible] def k1_t2_loop : Scf.Loop 32 :=
  let c0_i32_89 : BitVec 32 := 0#32
  let c33_i32_90 : BitVec 32 := 33#32
  let v191 : BitVec 32 := Scalar.addi c0_i32_89 c33_i32_90
  let c1_i32_91 : BitVec 32 := 1#32
  ⟨c0_i32_89, v191, c1_i32_91⟩
def k1_mult9 (k1_t2 : Fin k1_t2_loop.trips) : BitVec 32 :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let c0_i32_141 : BitVec 32 := 0#32
  let v253 : BitVec 32 := Scalar.addi v252 c0_i32_141
  let v254 : BitVec 32 := Scalar.subi c263_i32 v253
  let c8_i32_142 : BitVec 32 := 8#32
  let v255 : BitVec 32 := Scalar.muli v254 c8_i32_142
  v255
def k1_off2 (k1_t2 : Fin k1_t2_loop.trips) (c0_i32_141 : BitVec 32) : Fin 2 → Nat :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v257 : Index := Scalar.indexCast v256
  let c0_143 : Index := 0#32
  ![v257.toNat, 0]
def k1_off3 (k1_t2 : Fin k1_t2_loop.trips) (c0_i32_141 : BitVec 32) : Fin 2 → Nat :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v269 : Index := Scalar.indexCast v256
  let c0_144 : Index := 0#32
  ![v269.toNat, 0]
def k1_off4 (k1_t2 : Fin k1_t2_loop.trips) (c0_i32_141 : BitVec 32) : Fin 2 → Nat :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v273 : Index := Scalar.indexCast v256
  let c512 : Index := 512#32
  ![v273.toNat, 512]
def k1_mult10 (k1_t2 : Fin k1_t2_loop.trips) : BitVec 32 :=
  let c263_i32_147 : BitVec 32 := 263#32
  let c0_i32_89 : BitVec 32 := 0#32
  let c1_i32_91 : BitVec 32 := 1#32
  let arg16 : BitVec 32 := Scf.iv c0_i32_89 c1_i32_91 k1_t2
  let c8_i32_145 : BitVec 32 := 8#32
  let v277 : BitVec 32 := Scalar.muli arg16 c8_i32_145
  let c1_i32_146 : BitVec 32 := 1#32
  let v278 : BitVec 32 := Scalar.addi v277 c1_i32_146
  let v279 : BitVec 32 := Scalar.subi c263_i32_147 v278
  let c8_i32_148 : BitVec 32 := 8#32
  let v280 : BitVec 32 := Scalar.muli v279 c8_i32_148
  v280
def k1_mult11 (k1_t2 : Fin k1_t2_loop.trips) : BitVec 32 :=
  let c263_i32_153 : BitVec 32 := 263#32
  let c0_i32_89 : BitVec 32 := 0#32
  let c1_i32_91 : BitVec 32 := 1#32
  let arg16 : BitVec 32 := Scf.iv c0_i32_89 c1_i32_91 k1_t2
  let c8_i32_152 : BitVec 32 := 8#32
  let v302 : BitVec 32 := Scalar.muli arg16 c8_i32_152
  let c2_i32 : BitVec 32 := 2#32
  let v303 : BitVec 32 := Scalar.addi v302 c2_i32
  let v304 : BitVec 32 := Scalar.subi c263_i32_153 v303
  let c8_i32_154 : BitVec 32 := 8#32
  let v305 : BitVec 32 := Scalar.muli v304 c8_i32_154
  v305
def k1_mult12 (k1_t2 : Fin k1_t2_loop.trips) : BitVec 32 :=
  let c263_i32_159 : BitVec 32 := 263#32
  let c0_i32_89 : BitVec 32 := 0#32
  let c1_i32_91 : BitVec 32 := 1#32
  let arg16 : BitVec 32 := Scf.iv c0_i32_89 c1_i32_91 k1_t2
  let c8_i32_158 : BitVec 32 := 8#32
  let v327 : BitVec 32 := Scalar.muli arg16 c8_i32_158
  let c3_i32 : BitVec 32 := 3#32
  let v328 : BitVec 32 := Scalar.addi v327 c3_i32
  let v329 : BitVec 32 := Scalar.subi c263_i32_159 v328
  let c8_i32_160 : BitVec 32 := 8#32
  let v330 : BitVec 32 := Scalar.muli v329 c8_i32_160
  v330
def k1_mult13 (k1_t2 : Fin k1_t2_loop.trips) : BitVec 32 :=
  let c263_i32_165 : BitVec 32 := 263#32
  let c0_i32_89 : BitVec 32 := 0#32
  let c1_i32_91 : BitVec 32 := 1#32
  let arg16 : BitVec 32 := Scf.iv c0_i32_89 c1_i32_91 k1_t2
  let c8_i32_164 : BitVec 32 := 8#32
  let v352 : BitVec 32 := Scalar.muli arg16 c8_i32_164
  let c4_i32 : BitVec 32 := 4#32
  let v353 : BitVec 32 := Scalar.addi v352 c4_i32
  let v354 : BitVec 32 := Scalar.subi c263_i32_165 v353
  let c8_i32_166 : BitVec 32 := 8#32
  let v355 : BitVec 32 := Scalar.muli v354 c8_i32_166
  v355
def k1_mult14 (k1_t2 : Fin k1_t2_loop.trips) : BitVec 32 :=
  let c263_i32_171 : BitVec 32 := 263#32
  let c0_i32_89 : BitVec 32 := 0#32
  let c1_i32_91 : BitVec 32 := 1#32
  let arg16 : BitVec 32 := Scf.iv c0_i32_89 c1_i32_91 k1_t2
  let c8_i32_170 : BitVec 32 := 8#32
  let v377 : BitVec 32 := Scalar.muli arg16 c8_i32_170
  let c5_i32 : BitVec 32 := 5#32
  let v378 : BitVec 32 := Scalar.addi v377 c5_i32
  let v379 : BitVec 32 := Scalar.subi c263_i32_171 v378
  let c8_i32_172 : BitVec 32 := 8#32
  let v380 : BitVec 32 := Scalar.muli v379 c8_i32_172
  v380
def k1_mult15 (k1_t2 : Fin k1_t2_loop.trips) : BitVec 32 :=
  let c263_i32_177 : BitVec 32 := 263#32
  let c0_i32_89 : BitVec 32 := 0#32
  let c1_i32_91 : BitVec 32 := 1#32
  let arg16 : BitVec 32 := Scf.iv c0_i32_89 c1_i32_91 k1_t2
  let c8_i32_176 : BitVec 32 := 8#32
  let v402 : BitVec 32 := Scalar.muli arg16 c8_i32_176
  let c6_i32 : BitVec 32 := 6#32
  let v403 : BitVec 32 := Scalar.addi v402 c6_i32
  let v404 : BitVec 32 := Scalar.subi c263_i32_177 v403
  let c8_i32_178 : BitVec 32 := 8#32
  let v405 : BitVec 32 := Scalar.muli v404 c8_i32_178
  v405
def k1_mult16 (k1_t2 : Fin k1_t2_loop.trips) : BitVec 32 :=
  let c263_i32_184 : BitVec 32 := 263#32
  let c0_i32_89 : BitVec 32 := 0#32
  let c1_i32_91 : BitVec 32 := 1#32
  let arg16 : BitVec 32 := Scf.iv c0_i32_89 c1_i32_91 k1_t2
  let c8_i32_182 : BitVec 32 := 8#32
  let v427 : BitVec 32 := Scalar.muli arg16 c8_i32_182
  let c7_i32_183 : BitVec 32 := 7#32
  let v428 : BitVec 32 := Scalar.addi v427 c7_i32_183
  let v429 : BitVec 32 := Scalar.subi c263_i32_184 v428
  let c8_i32_185 : BitVec 32 := 8#32
  let v430 : BitVec 32 := Scalar.muli v429 c8_i32_185
  v430
@[reducible] def k1_t3_loop : Scf.Loop 32 :=
  let c0_i32_129 : BitVec 32 := 0#32
  let c33_i32_130 : BitVec 32 := 33#32
  let v239 : BitVec 32 := Scalar.addi c0_i32_129 c33_i32_130
  let c1_i32_131 : BitVec 32 := 1#32
  ⟨c0_i32_129, v239, c1_i32_131⟩
def k1_mult17 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32 : BitVec 32 := 8#32
  let v252 : BitVec 32 := Scalar.muli arg16 c8_i32
  let c0_i32_141 : BitVec 32 := 0#32
  let v253 : BitVec 32 := Scalar.addi v252 c0_i32_141
  let c8_i32_142 : BitVec 32 := 8#32
  let v254 : BitVec 32 := Scalar.muli v253 c8_i32_142
  v254
def k1_off5 (k1_t3 : Fin k1_t3_loop.trips) (c0_i32_141 : BitVec 32) : Fin 2 → Nat :=
  let c0_i32_129 : BitVec 32 := 0#32
  let c1_i32_131 : BitVec 32 := 1#32
  let arg16 : BitVec 32 := Scf.iv c0_i32_129 c1_i32_131 k1_t3
  let c8_i32 : BitVec 32 := 8#32
  let v252 : BitVec 32 := Scalar.muli arg16 c8_i32
  let v253 : BitVec 32 := Scalar.addi v252 c0_i32_141
  let c8_i32_142 : BitVec 32 := 8#32
  let v254 : BitVec 32 := Scalar.muli v253 c8_i32_142
  let v255 : BitVec 32 := v254
  let v256 : Index := Scalar.indexCast v255
  let c0_143 : Index := 0#32
  ![v256.toNat, 0]
def k1_mult18 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_145 : BitVec 32 := 8#32
  let v272 : BitVec 32 := Scalar.muli arg16 c8_i32_145
  let c1_i32_146 : BitVec 32 := 1#32
  let v273 : BitVec 32 := Scalar.addi v272 c1_i32_146
  let c8_i32_147 : BitVec 32 := 8#32
  let v274 : BitVec 32 := Scalar.muli v273 c8_i32_147
  v274
def k1_mult19 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_150 : BitVec 32 := 8#32
  let v292 : BitVec 32 := Scalar.muli arg16 c8_i32_150
  let c2_i32 : BitVec 32 := 2#32
  let v293 : BitVec 32 := Scalar.addi v292 c2_i32
  let c8_i32_151 : BitVec 32 := 8#32
  let v294 : BitVec 32 := Scalar.muli v293 c8_i32_151
  v294
def k1_mult20 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_154 : BitVec 32 := 8#32
  let v312 : BitVec 32 := Scalar.muli arg16 c8_i32_154
  let c3_i32 : BitVec 32 := 3#32
  let v313 : BitVec 32 := Scalar.addi v312 c3_i32
  let c8_i32_155 : BitVec 32 := 8#32
  let v314 : BitVec 32 := Scalar.muli v313 c8_i32_155
  v314
def k1_mult21 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_158 : BitVec 32 := 8#32
  let v332 : BitVec 32 := Scalar.muli arg16 c8_i32_158
  let c4_i32 : BitVec 32 := 4#32
  let v333 : BitVec 32 := Scalar.addi v332 c4_i32
  let c8_i32_159 : BitVec 32 := 8#32
  let v334 : BitVec 32 := Scalar.muli v333 c8_i32_159
  v334
def k1_mult22 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_162 : BitVec 32 := 8#32
  let v352 : BitVec 32 := Scalar.muli arg16 c8_i32_162
  let c5_i32 : BitVec 32 := 5#32
  let v353 : BitVec 32 := Scalar.addi v352 c5_i32
  let c8_i32_163 : BitVec 32 := 8#32
  let v354 : BitVec 32 := Scalar.muli v353 c8_i32_163
  v354
def k1_mult23 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_166 : BitVec 32 := 8#32
  let v372 : BitVec 32 := Scalar.muli arg16 c8_i32_166
  let c6_i32 : BitVec 32 := 6#32
  let v373 : BitVec 32 := Scalar.addi v372 c6_i32
  let c8_i32_167 : BitVec 32 := 8#32
  let v374 : BitVec 32 := Scalar.muli v373 c8_i32_167
  v374
def k1_mult24 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_170 : BitVec 32 := 8#32
  let v392 : BitVec 32 := Scalar.muli arg16 c8_i32_170
  let c7_i32_171 : BitVec 32 := 7#32
  let v393 : BitVec 32 := Scalar.addi v392 c7_i32_171
  let c8_i32_172 : BitVec 32 := 8#32
  let v394 : BitVec 32 := Scalar.muli v393 c8_i32_172
  v394
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2112x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2112x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2112x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2x8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x2112x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== Glu.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S1024x1024, .bf16⟩
  | .hbm, ⟨4, _⟩ => ⟨S8256x1024, .bf16⟩
  | .hbm, ⟨5, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S688x1024, .bf16⟩
  | .local _ .vmem, ⟨6, _⟩ => ⟨S688x1024, .bf16⟩
  | .local _ .vmem, ⟨7, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GluRefIdeal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S1024x1024, .f32⟩
  | .hbm, ⟨23, _⟩ => ⟨S1024x1024, .f32⟩
  | .hbm, ⟨24, _⟩ => ⟨S8256x1024, .f32⟩
  | .hbm, ⟨25, _⟩ => ⟨S8256x1024, .f32⟩
  | .hbm, ⟨26, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Merge.lean ====
abbrev S8256x1024 : Shape := ⟨2, ![8256, 1024]⟩
abbrev S8256x7168 : Shape := ⟨2, ![8256, 7168]⟩
abbrev S1024x1024 : Shape := ⟨2, ![1024, 1024]⟩
abbrev S_ : Shape := ⟨0, ![]⟩
abbrev S688x1024 : Shape := ⟨2, ![688, 1024]⟩

abbrev nBuf : Space → Nat
  | .hbm => 36
  | .vmem => 22
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x7168, .bf16⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S8256x7168, .f32⟩
  | .hbm, ⟨8, _⟩ => ⟨S8256x1024, .f32⟩
  | .hbm, ⟨9, _⟩ => ⟨S8256x1024, .f32⟩
  | .hbm, ⟨10, _⟩ => ⟨S8256x1024, .f32⟩
  | .hbm, ⟨11, _⟩ => ⟨S_, .f32⟩
  | .hbm, ⟨12, _⟩ => ⟨S8256x1024, .f32⟩
  | .hbm, ⟨13, _⟩ => ⟨S8256x1024, .f32⟩
  | .hbm, ⟨14, _⟩ => ⟨S_, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S_, .f32⟩
  | .hbm, ⟨22, _⟩ => ⟨S8256x1024, .f32⟩
  | .hbm, ⟨23, _⟩ => ⟨S8256x1024, .f32⟩
  | .hbm, ⟨24, _⟩ => ⟨S_, .f32⟩
  | .hbm, ⟨25, _⟩ => ⟨S8256x1024, .f32⟩
  | .hbm, ⟨26, _⟩ => ⟨S8256x1024, .f32⟩
  | .hbm, ⟨27, _⟩ => ⟨S8256x1024, .f32⟩
  | .hbm, ⟨28, _⟩ => ⟨S8256x1024, .f32⟩
  | .hbm, ⟨29, _⟩ => ⟨S8256x1024, .bf16⟩
  | .hbm, ⟨30, _⟩ => ⟨S1024x1024, .bf16⟩
  | .hbm, ⟨31, _⟩ => ⟨S8256x1024, .bf16⟩
  | .hbm, ⟨32, _⟩ => ⟨S8256x1024, .bf16⟩
  | .hbm, ⟨33, _⟩ => ⟨S8256x1024, .bf16⟩
  | .hbm, ⟨34, _⟩ => ⟨S8256x1024, .bf16⟩
  | .hbm, ⟨35, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .f32⟩
  | .local _ .vmem, ⟨3, _⟩ => ⟨S688x1024, .f32⟩
  | .local _ .vmem, ⟨4, _⟩ => ⟨S1024x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .bf16⟩
  | .local _ .vmem, ⟨9, _⟩ => ⟨S688x1024, .bf16⟩
  | .local _ .vmem, ⟨10, _⟩ => ⟨S688x1024, .bf16⟩
  | .local _ .vmem, ⟨11, _⟩ => ⟨S688x1024, .bf16⟩
  | .local _ .vmem, ⟨12, _⟩ => ⟨S688x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .bf16⟩
  | .local _ .vmem, ⟨16, _⟩ => ⟨S688x1024, .bf16⟩
  | .local _ .vmem, ⟨17, _⟩ => ⟨S688x1024, .bf16⟩
  | .local _ .vmem, ⟨18, _⟩ => ⟨S688x1024, .bf16⟩
  | .local _ .vmem, ⟨19, _⟩ => ⟨S688x1024, .bf16⟩
  | .local _ .vmem, ⟨20, _⟩ => ⟨S688x1024, .bf16⟩
  | .local _ .vmem, ⟨21, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeRefIdeal.lean ====
abbrev S8256x1024 : Shape := ⟨2, ![8256, 1024]⟩
abbrev S8256x7168 : Shape := ⟨2, ![8256, 7168]⟩
abbrev S1024x1024 : Shape := ⟨2, ![1024, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x7168, .bf16⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S8256x7168, .f32⟩
  | .hbm, ⟨8, _⟩ => ⟨S8256x1024, .f32⟩
  | .hbm, ⟨9, _⟩ => ⟨S8256x1024, .f32⟩
  | .hbm, ⟨10, _⟩ => ⟨S8256x1024, .f32⟩
  | .hbm, ⟨11, _⟩ => ⟨S_, .f32⟩
  | .hbm, ⟨12, _⟩ => ⟨S8256x1024, .f32⟩
  | .hbm, ⟨13, _⟩ => ⟨S8256x1024, .f32⟩
  | .hbm, ⟨14, _⟩ => ⟨S_, .f32⟩
  | .hbm, ⟨15, _⟩ => ⟨S8256x1024, .f32⟩
  | .hbm, ⟨16, _⟩ => ⟨S8256x1024, .f32⟩
  | .hbm, ⟨17, _⟩ => ⟨S_, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S_, .f32⟩
  | .hbm, ⟨26, _⟩ => ⟨S8256x1024, .f32⟩
  | .hbm, ⟨27, _⟩ => ⟨S8256x1024, .f32⟩
  | .hbm, ⟨28, _⟩ => ⟨S_, .f32⟩
  | .hbm, ⟨29, _⟩ => ⟨S8256x1024, .f32⟩
  | .hbm, ⟨30, _⟩ => ⟨S8256x1024, .f32⟩
  | .hbm, ⟨31, _⟩ => ⟨S_, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S1024x1024, .f32⟩
  | .hbm, ⟨39, _⟩ => ⟨S1024x1024, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S8256x1024, .f32⟩
  | .hbm, ⟨44, _⟩ => ⟨S_, .f32⟩
  | .hbm, ⟨45, _⟩ => ⟨S8256x7168, .f32⟩
  | .hbm, ⟨46, _⟩ => ⟨S8256x1024, .f32⟩
  | .hbm, ⟨47, _⟩ => ⟨S8256x1024, .f32⟩
  | .hbm, ⟨48, _⟩ => ⟨S8256x1024, .f32⟩
  | .hbm, ⟨49, _⟩ => ⟨S_, .f32⟩
  | .hbm, ⟨50, _⟩ => ⟨S8256x7168, .f32⟩
  | .hbm, ⟨51, _⟩ => ⟨S8256x7168, .f32⟩
  | .hbm, ⟨52, _⟩ => ⟨S8256x7168, .bf16⟩
  | .hbm, ⟨53, _⟩ => ⟨S8256x1024, .bf16⟩
  | .hbm, ⟨54, _⟩ => ⟨S8256x1024, .bf16⟩
  | .hbm, ⟨55, _⟩ => ⟨S8256x1024, .bf16⟩
  | .hbm, ⟨56, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Gate.lean ====
abbrev S8256x5632 : Shape := ⟨2, ![8256, 5632]⟩
abbrev S5632 : Shape := ⟨1, ![5632]⟩
abbrev S2816x1024 : Shape := ⟨2, ![2816, 1024]⟩
abbrev S8256x1024 : Shape := ⟨2, ![8256, 1024]⟩
abbrev S1x5632 : Shape := ⟨2, ![1, 5632]⟩
abbrev S8256x8x704 : Shape := ⟨3, ![8256, 8, 704]⟩
abbrev S8x8256x704 : Shape := ⟨3, ![8, 8256, 704]⟩
abbrev S4x8256x704 : Shape := ⟨3, ![4, 8256, 704]⟩
abbrev S4x704x1024 : Shape := ⟨3, ![4, 704, 1024]⟩
abbrev S4x1x704 : Shape := ⟨3, ![4, 1, 704]⟩
abbrev S688x1024 : Shape := ⟨2, ![688, 1024]⟩
abbrev S1x688x704 : Shape := ⟨3, ![1, 688, 704]⟩
abbrev S1x704x1024 : Shape := ⟨3, ![1, 704, 1024]⟩
abbrev S1x1x704 : Shape := ⟨3, ![1, 1, 704]⟩
abbrev S704x1024 : Shape := ⟨2, ![704, 1024]⟩
abbrev S1x704 : Shape := ⟨2, ![1, 704]⟩
abbrev S688x704 : Shape := ⟨2, ![688, 704]⟩
abbrev S704 : Shape := ⟨1, ![704]⟩

abbrev nBuf : Space → Nat
  | .hbm => 20
  | .vmem => 18
  | .smem => 0
  | _ => 0

abbrev bufTy : (tb : Table) → Fin (tcTables nBuf tb) → BufTy
  | .hbm, ⟨0, _⟩ => ⟨S8256x5632, .bf16⟩
  | .hbm, ⟨1, _⟩ => ⟨S5632, .f32⟩
  | .hbm, ⟨2, _⟩ => ⟨S2816x1024, .f32⟩
  | .hbm, ⟨3, _⟩ => ⟨S8256x1024, .f32⟩
  | .hbm, ⟨4, _⟩ => ⟨S8256x5632, .f32⟩
  | .hbm, ⟨5, _⟩ => ⟨S1x5632, .f32⟩
  | .hbm, ⟨6, _⟩ => ⟨S8256x5632, .f32⟩
  | .hbm, ⟨7, _⟩ => ⟨S8256x5632, .f32⟩
  | .hbm, ⟨8, _⟩ => ⟨S8256x5632, .bf16⟩
  | .hbm, ⟨9, _⟩ => ⟨S8256x8x704, .bf16⟩
  | .hbm, ⟨10, _⟩ => ⟨S8x8256x704, .bf16⟩
  | .hbm, ⟨11, _⟩ => ⟨S4x8256x704, .bf16⟩
  | .hbm, ⟨12, _⟩ => ⟨S4x8256x704, .bf16⟩
  | .hbm, ⟨13, _⟩ => ⟨S2816x1024, .bf16⟩
  | .hbm, ⟨14, _⟩ => ⟨S4x704x1024, .bf16⟩
  | .hbm, ⟨15, _⟩ => ⟨S4x8256x704, .bf16⟩
  | .hbm, ⟨16, _⟩ => ⟨S4x8256x704, .bf16⟩
  | .hbm, ⟨17, _⟩ => ⟨S4x704x1024, .f32⟩
  | .hbm, ⟨18, _⟩ => ⟨S4x1x704, .f32⟩
  | .hbm, ⟨19, _⟩ => ⟨S4x1x704, .f32⟩
  | .local _ .vmem, ⟨0, _⟩ => ⟨S688x1024, .f32⟩
  | .local _ .vmem, ⟨1, _⟩ => ⟨S688x1024, .f32⟩
  | .local _ .vmem, ⟨2, _⟩ => ⟨S1x688x704, .bf16⟩
  | .local _ .vmem, ⟨3, _⟩ => ⟨S1x688x704, .bf16⟩
  | .local _ .vmem, ⟨4, _⟩ => ⟨S1x688x704, .bf16⟩
  | .local _ .vmem, ⟨5, _⟩ => ⟨S1x688x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x688x704, .bf16⟩
  | .local _ .vmem, ⟨9, _⟩ => ⟨S1x688x704, .bf16⟩
  | .local _ .vmem, ⟨10, _⟩ => ⟨S1x688x704, .bf16⟩
  | .local _ .vmem, ⟨11, _⟩ => ⟨S1x688x704, .bf16⟩
  | .local _ .vmem, ⟨12, _⟩ => ⟨S1x704x1024, .f32⟩
  | .local _ .vmem, ⟨13, _⟩ => ⟨S1x704x1024, .f32⟩
  | .local _ .vmem, ⟨14, _⟩ => ⟨S1x1x704, .f32⟩
  | .local _ .vmem, ⟨15, _⟩ => ⟨S1x1x704, .f32⟩
  | .local _ .vmem, ⟨16, _⟩ => ⟨S1x1x704, .f32⟩
  | .local _ .vmem, ⟨17, _⟩ => ⟨S1x1x704, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x688x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x688x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x688x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateRefIdeal.lean ====
abbrev S8256x5632 : Shape := ⟨2, ![8256, 5632]⟩
abbrev S5632 : Shape := ⟨1, ![5632]⟩
abbrev S2816x1024 : Shape := ⟨2, ![2816, 1024]⟩
abbrev S8256x1024 : Shape := ⟨2, ![8256, 1024]⟩
abbrev S1x5632 : Shape := ⟨2, ![1, 5632]⟩
abbrev S8256x2816 : Shape := ⟨2, ![8256, 2816]⟩
abbrev S_ : Shape := ⟨0, ![]⟩
abbrev S1024x2816 : Shape := ⟨2, ![1024, 2816]⟩
abbrev S8256x8x704 : Shape := ⟨3, ![8256, 8, 704]⟩
abbrev S8x8256x704 : Shape := ⟨3, ![8, 8256, 704]⟩
abbrev S8x1x704 : Shape := ⟨3, ![8, 1, 704]⟩
abbrev S4x8256x704 : Shape := ⟨3, ![4, 8256, 704]⟩
abbrev S4x704x1024 : Shape := ⟨3, ![4, 704, 1024]⟩
abbrev S4x1x704 : Shape := ⟨3, ![4, 1, 704]⟩

abbrev nBuf : Space → Nat
  | .hbm => 53
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S5632, .f32⟩
  | .hbm, ⟨2, _⟩ => ⟨S2816x1024, .f32⟩
  | .hbm, ⟨3, _⟩ => ⟨S8256x1024, .f32⟩
  | .hbm, ⟨4, _⟩ => ⟨S8256x5632, .f32⟩
  | .hbm, ⟨5, _⟩ => ⟨S1x5632, .f32⟩
  | .hbm, ⟨6, _⟩ => ⟨S8256x5632, .f32⟩
  | .hbm, ⟨7, _⟩ => ⟨S8256x5632, .f32⟩
  | .hbm, ⟨8, _⟩ => ⟨S8256x2816, .f32⟩
  | .hbm, ⟨9, _⟩ => ⟨S8256x2816, .f32⟩
  | .hbm, ⟨10, _⟩ => ⟨S8256x2816, .f32⟩
  | .hbm, ⟨11, _⟩ => ⟨S_, .f32⟩
  | .hbm, ⟨12, _⟩ => ⟨S8256x2816, .f32⟩
  | .hbm, ⟨13, _⟩ => ⟨S8256x2816, .f32⟩
  | .hbm, ⟨14, _⟩ => ⟨S_, .f32⟩
  | .hbm, ⟨15, _⟩ => ⟨S8256x2816, .f32⟩
  | .hbm, ⟨16, _⟩ => ⟨S8256x2816, .f32⟩
  | .hbm, ⟨17, _⟩ => ⟨S_, .f32⟩
  | .hbm, ⟨18, _⟩ => ⟨S8256x2816, .f32⟩
  | .hbm, ⟨19, _⟩ => ⟨S8256x2816, .f32⟩
  | .hbm, ⟨20, _⟩ => ⟨S8256x2816, .f32⟩
  | .hbm, ⟨21, _⟩ => ⟨S8256x2816, .f32⟩
  | .hbm, ⟨22, _⟩ => ⟨S8256x2816, .f32⟩
  | .hbm, ⟨23, _⟩ => ⟨S8256x2816, .f32⟩
  | .hbm, ⟨24, _⟩ => ⟨S8256x1024, .f32⟩
  | .hbm, ⟨25, _⟩ => ⟨S1024x2816, .f32⟩
  | .hbm, ⟨26, _⟩ => ⟨S2816x1024, .f32⟩
  | .hbm, ⟨27, _⟩ => ⟨S8256x2816, .f32⟩
  | .hbm, ⟨28, _⟩ => ⟨S8256x2816, .f32⟩
  | .hbm, ⟨29, _⟩ => ⟨S8256x2816, .f32⟩
  | .hbm, ⟨30, _⟩ => ⟨S_, .f32⟩
  | .hbm, ⟨31, _⟩ => ⟨S8256x5632, .f32⟩
  | .hbm, ⟨32, _⟩ => ⟨S8256x2816, .f32⟩
  | .hbm, ⟨33, _⟩ => ⟨S8256x2816, .f32⟩
  | .hbm, ⟨34, _⟩ => ⟨S8256x2816, .f32⟩
  | .hbm, ⟨35, _⟩ => ⟨S8256x2816, .f32⟩
  | .hbm, ⟨36, _⟩ => ⟨S_, .f32⟩
  | .hbm, ⟨37, _⟩ => ⟨S8256x5632, .f32⟩
  | .hbm, ⟨38, _⟩ => ⟨S8256x5632, .f32⟩
  | .hbm, ⟨39, _⟩ => ⟨S_, .f32⟩
  | .hbm, ⟨40, _⟩ => ⟨S5632, .f32⟩
  | .hbm, ⟨41, _⟩ => ⟨S1x5632, .f32⟩
  | .hbm, ⟨42, _⟩ => ⟨S_, .f32⟩
  | .hbm, ⟨43, _⟩ => ⟨S5632, .f32⟩
  | .hbm, ⟨44, _⟩ => ⟨S8256x5632, .bf16⟩
  | .hbm, ⟨45, _⟩ => ⟨S8256x8x704, .bf16⟩
  | .hbm, ⟨46, _⟩ => ⟨S8x8256x704, .bf16⟩
  | .hbm, ⟨47, _⟩ => ⟨S8x1x704, .f32⟩
  | .hbm, ⟨48, _⟩ => ⟨S4x8256x704, .bf16⟩
  | .hbm, ⟨49, _⟩ => ⟨S4x8256x704, .bf16⟩
  | .hbm, ⟨50, _⟩ => ⟨S4x704x1024, .f32⟩
  | .hbm, ⟨51, _⟩ => ⟨S4x1x704, .f32⟩
  | .hbm, ⟨52, _⟩ => ⟨S4x1x704, .f32⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Proj.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S1024x1024, .bf16⟩
  | .hbm, ⟨4, _⟩ => ⟨S8256x1024, .bf16⟩
  | .hbm, ⟨5, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S688x1024, .bf16⟩
  | .local _ .vmem, ⟨6, _⟩ => ⟨S688x1024, .bf16⟩
  | .local _ .vmem, ⟨7, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ProjRefIdeal.lean ====
abbrev S8256x1024 : Shape := ⟨2, ![8256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S1024x1024, .f32⟩
  | .hbm, ⟨7, _⟩ => ⟨S1024x1024, .f32⟩
  | .hbm, ⟨8, _⟩ => ⟨S8256x1024, .f32⟩
  | .hbm, ⟨9, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S8256x1024 : Shape := ⟨2, ![8256, 1024]⟩
abbrev S1024 : Shape := ⟨1, ![1024]⟩
abbrev S1024x7168 : Shape := ⟨2, ![1024, 7168]⟩
abbrev S1024x8x896 : Shape := ⟨3, ![1024, 8, 896]⟩
abbrev S8x1024x896 : Shape := ⟨3, ![8, 1024, 896]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8256x7168 : Shape := ⟨2, ![8256, 7168]⟩
abbrev S688x1024 : Shape := ⟨2, ![688, 1024]⟩
abbrev S1x1024x896 : Shape := ⟨3, ![1, 1024, 896]⟩
abbrev S688x896 : Shape := ⟨2, ![688, 896]⟩
abbrev S1024x896 : Shape := ⟨2, ![1024, 896]⟩

abbrev nBuf : Space → Nat
  | .hbm => 24
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S1024x7168, .f32⟩
  | .hbm, ⟨3, _⟩ => ⟨S1024x7168, .bf16⟩
  | .hbm, ⟨4, _⟩ => ⟨S1024x8x896, .bf16⟩
  | .hbm, ⟨5, _⟩ => ⟨S8x1024x896, .bf16⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1024, .f32⟩
  | .hbm, ⟨18, _⟩ => ⟨S8256x1024, .f32⟩
  | .hbm, ⟨19, _⟩ => ⟨S1x1024, .f32⟩
  | .hbm, ⟨20, _⟩ => ⟨S8256x1024, .f32⟩
  | .hbm, ⟨21, _⟩ => ⟨S8256x1024, .f32⟩
  | .hbm, ⟨22, _⟩ => ⟨S8256x1024, .bf16⟩
  | .hbm, ⟨23, _⟩ => ⟨S8256x7168, .bf16⟩
  | .local _ .vmem, ⟨0, _⟩ => ⟨S688x1024, .bf16⟩
  | .local _ .vmem, ⟨1, _⟩ => ⟨S688x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S688x896, .bf16⟩
  | .local _ .vmem, ⟨5, _⟩ => ⟨S688x896, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8256x1024 : Shape := ⟨2, ![8256, 1024]⟩
abbrev S1024 : Shape := ⟨1, ![1024]⟩
abbrev S1024x7168 : Shape := ⟨2, ![1024, 7168]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8256x7168 : Shape := ⟨2, ![8256, 7168]⟩

abbrev nBuf : Space → Nat
  | .hbm => 21
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S1024x7168, .f32⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S1x1024, .f32⟩
  | .hbm, ⟨17, _⟩ => ⟨S8256x1024, .f32⟩
  | .hbm, ⟨18, _⟩ => ⟨S8256x1024, .f32⟩
  | .hbm, ⟨19, _⟩ => ⟨S8256x7168, .f32⟩
  | .hbm, ⟨20, _⟩ => ⟨S8256x7168, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DwIn.lean ====
abbrev S8256x1024 : Shape := ⟨2, ![8256, 1024]⟩
abbrev S1024 : Shape := ⟨1, ![1024]⟩
abbrev S8256x7168 : Shape := ⟨2, ![8256, 7168]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8x1024x896 : Shape := ⟨3, ![8, 1024, 896]⟩
abbrev S688x1024 : Shape := ⟨2, ![688, 1024]⟩
abbrev S688x896 : Shape := ⟨2, ![688, 896]⟩
abbrev S1x1024x896 : Shape := ⟨3, ![1, 1024, 896]⟩
abbrev S1024x896 : Shape := ⟨2, ![1024, 896]⟩

abbrev nBuf : Space → Nat
  | .hbm => 21
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S8256x7168, .bf16⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S1x1024, .f32⟩
  | .hbm, ⟨17, _⟩ => ⟨S8256x1024, .f32⟩
  | .hbm, ⟨18, _⟩ => ⟨S8256x1024, .f32⟩
  | .hbm, ⟨19, _⟩ => ⟨S8256x1024, .bf16⟩
  | .hbm, ⟨20, _⟩ => ⟨S8x1024x896, .f32⟩
  | .local _ .vmem, ⟨0, _⟩ => ⟨S688x1024, .bf16⟩
  | .local _ .vmem, ⟨1, _⟩ => ⟨S688x1024, .bf16⟩
  | .local _ .vmem, ⟨2, _⟩ => ⟨S688x896, .bf16⟩
  | .local _ .vmem, ⟨3, _⟩ => ⟨S688x896, .bf16⟩
  | .local _ .vmem, ⟨4, _⟩ => ⟨S1x1024x896, .f32⟩
  | .local _ .vmem, ⟨5, _⟩ => ⟨S1x1024x896, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S688x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8256x1024 : Shape := ⟨2, ![8256, 1024]⟩
abbrev S1024 : Shape := ⟨1, ![1024]⟩
abbrev S8256x7168 : Shape := ⟨2, ![8256, 7168]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S7168x1024 : Shape := ⟨2, ![7168, 1024]⟩
abbrev S1024x7168 : Shape := ⟨2, ![1024, 7168]⟩
abbrev S1024x8x896 : Shape := ⟨3, ![1024, 8, 896]⟩
abbrev S8x1024x896 : Shape := ⟨3, ![8, 1024, 896]⟩

abbrev nBuf : Space → Nat
  | .hbm => 24
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S8256x7168, .bf16⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S1x1024, .f32⟩
  | .hbm, ⟨17, _⟩ => ⟨S8256x1024, .f32⟩
  | .hbm, ⟨18, _⟩ => ⟨S8256x1024, .f32⟩
  | .hbm, ⟨19, _⟩ => ⟨S8256x7168, .f32⟩
  | .hbm, ⟨20, _⟩ => ⟨S7168x1024, .f32⟩
  | .hbm, ⟨21, _⟩ => ⟨S1024x7168, .f32⟩
  | .hbm, ⟨22, _⟩ => ⟨S1024x8x896, .f32⟩
  | .hbm, ⟨23, _⟩ => ⟨S8x1024x896, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InBwd.lean ====
abbrev S8256x7168 : Shape := ⟨2, ![8256, 7168]⟩
abbrev S1024x7168 : Shape := ⟨2, ![1024, 7168]⟩
abbrev S8256x1024 : Shape := ⟨2, ![8256, 1024]⟩
abbrev S1024 : Shape := ⟨1, ![1024]⟩
abbrev S1024x8x896 : Shape := ⟨3, ![1024, 8, 896]⟩
abbrev S8x1024x896 : Shape := ⟨3, ![8, 1024, 896]⟩
abbrev S1x1024 : Shape := ⟨2, ![1, 1024]⟩
abbrev S688x896 : Shape := ⟨2, ![688, 896]⟩
abbrev S1x1024x896 : Shape := ⟨3, ![1, 1024, 896]⟩
abbrev S688x1024 : Shape := ⟨2, ![688, 1024]⟩
abbrev S1024x896 : Shape := ⟨2, ![1024, 896]⟩
abbrev S688 : Shape := ⟨1, ![688]⟩
abbrev S688x1 : Shape := ⟨2, ![688, 1]⟩

abbrev nBuf : Space → Nat
  | .hbm => 11
  | .vmem => 13
  | .smem => 0
  | _ => 0

abbrev bufTy : (tb : Table) → Fin (tcTables nBuf tb) → BufTy
  | .hbm, ⟨0, _⟩ => ⟨S8256x7168, .bf16⟩
  | .hbm, ⟨1, _⟩ => ⟨S1024x7168, .f32⟩
  | .hbm, ⟨2, _⟩ => ⟨S8256x1024, .f32⟩
  | .hbm, ⟨3, _⟩ => ⟨S1024, .f32⟩
  | .hbm, ⟨4, _⟩ => ⟨S8256x1024, .f32⟩
  | .hbm, ⟨5, _⟩ => ⟨S1024x7168, .bf16⟩
  | .hbm, ⟨6, _⟩ => ⟨S1024x8x896, .bf16⟩
  | .hbm, ⟨7, _⟩ => ⟨S8x1024x896, .bf16⟩
  | .hbm, ⟨8, _⟩ => ⟨S1x1024, .f32⟩
  | .hbm, ⟨9, _⟩ => ⟨S8256x1024, .f32⟩
  | .hbm, ⟨10, _⟩ => ⟨S1x1024, .f32⟩
  | .local _ .vmem, ⟨0, _⟩ => ⟨S688x896, .bf16⟩
  | .local _ .vmem, ⟨1, _⟩ => ⟨S688x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S1x1024, .f32⟩
  | .local _ .vmem, ⟨12, _⟩ => ⟨S688x1024, .f32⟩
  | _, _ => ⟨S8256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![12, 8], ![false, false]⟩

def k0_cond4 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def k0_cond3 (i : grid0.Coords) : BitVec 1 :=
  let arg0 : BitVec 32 := BitVec.ofNat 32 (i 0).val
  let c0_i32_7 : BitVec 32 := 0#32
  let v10 : BitVec 1 := Scalar.cmpi .eq arg0 c0_i32_7
  let arg1 : BitVec 32 := BitVec.ofNat 32 (i 1).val
  let c0_i32_8 : BitVec 32 := 0#32
  let v11 : BitVec 1 := Scalar.cmpi .eq arg1 c0_i32_8
  let v12 : BitVec 1 := Scalar.andi v10 v11
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InBwdRefIdeal.lean ====
abbrev S8256x7168 : Shape := ⟨2, ![8256, 7168]⟩
abbrev S1024x7168 : Shape := ⟨2, ![1024, 7168]⟩
abbrev S8256x1024 : Shape := ⟨2, ![8256, 1024]⟩
abbrev S1024 : Shape := ⟨1, ![1024]⟩
abbrev S_ : Shape := ⟨0, ![]⟩
abbrev S8256 : Shape := ⟨1, ![8256]⟩
abbrev S8256x1 : Shape := ⟨2, ![8256, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8256x7168, .bf16⟩
  | .hbm, ⟨1, _⟩ => ⟨S1024x7168, .f32⟩
  | .hbm, ⟨2, _⟩ => ⟨S8256x1024, .f32⟩
  | .hbm, ⟨3, _⟩ => ⟨S1024, .f32⟩
  | .hbm, ⟨4, _⟩ => ⟨S8256x1024, .f32⟩
  | .hbm, ⟨5, _⟩ => ⟨S8256x1024, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S_, .f32⟩
  | .hbm, ⟨18, _⟩ => ⟨S8256x1, .f32⟩
  | .hbm, ⟨19, _⟩ => ⟨S8256x1, .f32⟩
  | .hbm, ⟨20, _⟩ => ⟨S8256x1024, .f32⟩
  | .hbm, ⟨21, _⟩ => ⟨S8256x1024, .f32⟩
  | .hbm, ⟨22, _⟩ => ⟨S1x1024, .f32⟩
  | .hbm, ⟨23, _⟩ => ⟨S8256x1024, .f32⟩
  | .hbm, ⟨24, _⟩ => ⟨S8256x1024, .f32⟩
  | .hbm, ⟨25, _⟩ => ⟨S8256x7168, .f32⟩
  | .hbm, ⟨26, _⟩ => ⟨S8256x7168, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8256x1024, .f32⟩
  | .hbm, ⟨33, _⟩ => ⟨S8256x1024, .f32⟩
  | .hbm, ⟨34, _⟩ => ⟨S_, .f32⟩
  | .hbm, ⟨35, _⟩ => ⟨S1024, .f32⟩
  | .hbm, ⟨36, _⟩ => ⟨S8256x1024, .f32⟩
  | .hbm, ⟨37, _⟩ => ⟨S_, .f32⟩
  | .hbm, ⟨38, _⟩ => ⟨S8256, .f32⟩
  | .hbm, ⟨39, _⟩ => ⟨S8256x1, .f32⟩
  | .hbm, ⟨40, _⟩ => ⟨S8256x1024, .f32⟩
  | .hbm, ⟨41, _⟩ => ⟨S8256x1024, .f32⟩
  | .hbm, ⟨42, _⟩ => ⟨S8256x1, .f32⟩
  | .hbm, ⟨43, _⟩ => ⟨S_, .f32⟩
  | .hbm, ⟨44, _⟩ => ⟨S8256x1, .f32⟩
  | .hbm, ⟨45, _⟩ => ⟨S8256x1, .f32⟩
  | .hbm, ⟨46, _⟩ => ⟨S_, .f32⟩
  | .hbm, ⟨47, _⟩ => ⟨S8256, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | .hbm, ⟨54, _⟩ => ⟨S1x1024, .f32⟩
  | _, _ => ⟨S8256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== UpProj.lean ====
abbrev S8256x1024 : Shape := ⟨2, ![8256, 1024]⟩
abbrev S1024 : Shape := ⟨1, ![1024]⟩
abbrev S1024x5632 : Shape := ⟨2, ![1024, 5632]⟩
abbrev S1024x8x704 : Shape := ⟨3, ![1024, 8, 704]⟩
abbrev S8x1024x704 : Shape := ⟨3, ![8, 1024, 704]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8x8256x704 : Shape := ⟨3, ![8, 8256, 704]⟩
abbrev S688x1024 : Shape := ⟨2, ![688, 1024]⟩
abbrev S1x1024x704 : Shape := ⟨3, ![1, 1024, 704]⟩
abbrev S1x688x704 : Shape := ⟨3, ![1, 688, 704]⟩
abbrev S1024x704 : Shape := ⟨2, ![1024, 704]⟩
abbrev S688x704 : Shape := ⟨2, ![688, 704]⟩

abbrev nBuf : Space → Nat
  | .hbm => 24
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1024x8x704, .bf16⟩
  | .hbm, ⟨5, _⟩ => ⟨S8x1024x704, .bf16⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1024, .f32⟩
  | .hbm, ⟨18, _⟩ => ⟨S8256x1024, .f32⟩
  | .hbm, ⟨19, _⟩ => ⟨S1x1024, .f32⟩
  | .hbm, ⟨20, _⟩ => ⟨S8256x1024, .f32⟩
  | .hbm, ⟨21, _⟩ => ⟨S8256x1024, .f32⟩
  | .hbm, ⟨22, _⟩ => ⟨S8256x1024, .bf16⟩
  | .hbm, ⟨23, _⟩ => ⟨S8x8256x704, .bf16⟩
  | .local _ .vmem, ⟨0, _⟩ => ⟨S688x1024, .bf16⟩
  | .local _ .vmem, ⟨1, _⟩ => ⟨S688x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x688x704, .bf16⟩
  | .local _ .vmem, ⟨5, _⟩ => ⟨S1x688x704, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpProjRefIdeal.lean ====
abbrev S8256x1024 : Shape := ⟨2, ![8256, 1024]⟩
abbrev S1024 : Shape := ⟨1, ![1024]⟩
abbrev S1024x5632 : Shape := ⟨2, ![1024, 5632]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8256x5632 : Shape := ⟨2, ![8256, 5632]⟩
abbrev S8256x8x704 : Shape := ⟨3, ![8256, 8, 704]⟩
abbrev S8x8256x704 : Shape := ⟨3, ![8, 8256, 704]⟩

abbrev nBuf : Space → Nat
  | .hbm => 23
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S1024x5632, .f32⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S1x1024, .f32⟩
  | .hbm, ⟨17, _⟩ => ⟨S8256x1024, .f32⟩
  | .hbm, ⟨18, _⟩ => ⟨S8256x1024, .f32⟩
  | .hbm, ⟨19, _⟩ => ⟨S8256x5632, .f32⟩
  | .hbm, ⟨20, _⟩ => ⟨S8256x5632, .bf16⟩
  | .hbm, ⟨21, _⟩ => ⟨S8256x8x704, .bf16⟩
  | .hbm, ⟨22, _⟩ => ⟨S8x8256x704, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== DwUp.lean ====
abbrev S8256x1024 : Shape := ⟨2, ![8256, 1024]⟩
abbrev S1024 : Shape := ⟨1, ![1024]⟩
abbrev S8256x2816 : Shape := ⟨2, ![8256, 2816]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8256x4x704 : Shape := ⟨3, ![8256, 4, 704]⟩
abbrev S4x8256x704 : Shape := ⟨3, ![4, 8256, 704]⟩
abbrev S4x1024x704 : Shape := ⟨3, ![4, 1024, 704]⟩
abbrev S688x1024 : Shape := ⟨2, ![688, 1024]⟩
abbrev S1x688x704 : Shape := ⟨3, ![1, 688, 704]⟩
abbrev S1x1024x704 : Shape := ⟨3, ![1, 1024, 704]⟩
abbrev S1024x704 : Shape := ⟨2, ![1024, 704]⟩
abbrev S688x704 : Shape := ⟨2, ![688, 704]⟩

abbrev nBuf : Space → Nat
  | .hbm => 23
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S8256x2816, .bf16⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S1x1024, .f32⟩
  | .hbm, ⟨17, _⟩ => ⟨S8256x1024, .f32⟩
  | .hbm, ⟨18, _⟩ => ⟨S8256x1024, .f32⟩
  | .hbm, ⟨19, _⟩ => ⟨S8256x1024, .bf16⟩
  | .hbm, ⟨20, _⟩ => ⟨S8256x4x704, .bf16⟩
  | .hbm, ⟨21, _⟩ => ⟨S4x8256x704, .bf16⟩
  | .hbm, ⟨22, _⟩ => ⟨S4x1024x704, .f32⟩
  | .local _ .vmem, ⟨0, _⟩ => ⟨S688x1024, .bf16⟩
  | .local _ .vmem, ⟨1, _⟩ => ⟨S688x1024, .bf16⟩
  | .local _ .vmem, ⟨2, _⟩ => ⟨S1x688x704, .bf16⟩
  | .local _ .vmem, ⟨3, _⟩ => ⟨S1x688x704, .bf16⟩
  | .local _ .vmem, ⟨4, _⟩ => ⟨S1x1024x704, .f32⟩
  | .local _ .vmem, ⟨5, _⟩ => ⟨S1x1024x704, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x688x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8256x1024 : Shape := ⟨2, ![8256, 1024]⟩
abbrev S1024 : Shape := ⟨1, ![1024]⟩
abbrev S8256x2816 : Shape := ⟨2, ![8256, 2816]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S2816x1024 : Shape := ⟨2, ![2816, 1024]⟩
abbrev S1024x2816 : Shape := ⟨2, ![1024, 2816]⟩
abbrev S1024x4x704 : Shape := ⟨3, ![1024, 4, 704]⟩
abbrev S4x1024x704 : Shape := ⟨3, ![4, 1024, 704]⟩

abbrev nBuf : Space → Nat
  | .hbm => 24
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024, .f32⟩
  | .hbm, ⟨2, _⟩ => ⟨S8256x2816, .bf16⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S1x1024, .f32⟩
  | .hbm, ⟨17, _⟩ => ⟨S8256x1024, .f32⟩
  | .hbm, ⟨18, _⟩ => ⟨S8256x1024, .f32⟩
  | .hbm, ⟨19, _⟩ => ⟨S8256x2816, .f32⟩
  | .hbm, ⟨20, _⟩ => ⟨S2816x1024, .f32⟩
  | .hbm, ⟨21, _⟩ => ⟨S1024x2816, .f32⟩
  | .hbm, ⟨22, _⟩ => ⟨S1024x4x704, .f32⟩
  | .hbm, ⟨23, _⟩ => ⟨S4x1024x704, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== UpBwd.lean ====
abbrev S8256x5632 : Shape := ⟨2, ![8256, 5632]⟩
abbrev S3x5632 : Shape := ⟨2, ![3, 5632]⟩
abbrev S1024x5632 : Shape := ⟨2, ![1024, 5632]⟩
abbrev S8256x1024 : Shape := ⟨2, ![8256, 1024]⟩
abbrev S1024 : Shape := ⟨1, ![1024]⟩
abbrev S8256x8x704 : Shape := ⟨3, ![8256, 8, 704]⟩
abbrev S8x8256x704 : Shape := ⟨3, ![8, 8256, 704]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S4x8256x704 : Shape := ⟨3, ![4, 8256, 704]⟩
abbrev S3x8x704 : Shape := ⟨3, ![3, 8, 704]⟩
abbrev S8x3x704 : Shape := ⟨3, ![8, 3, 704]⟩
abbrev S1024x8x704 : Shape := ⟨3, ![1024, 8, 704]⟩
abbrev S8x1024x704 : Shape := ⟨3, ![8, 1024, 704]⟩
abbrev S4x3x704 : Shape := ⟨3, ![4, 3, 704]⟩
abbrev S1x688x704 : Shape := ⟨3, ![1, 688, 704]⟩
abbrev S1x16x704 : Shape := ⟨3, ![1, 16, 704]⟩
abbrev S1x3x704 : Shape := ⟨3, ![1, 3, 704]⟩
abbrev S1x1024x704 : Shape := ⟨3, ![1, 1024, 704]⟩
abbrev S688x1024 : Shape := ⟨2, ![688, 1024]⟩
abbrev S704x704 : Shape := ⟨2, ![704, 704]⟩
abbrev S16x704 : Shape := ⟨2, ![16, 704]⟩
abbrev S688x704 : Shape := ⟨2, ![688, 704]⟩
abbrev S3x704 : Shape := ⟨2, ![3, 704]⟩
abbrev S1x704 : Shape := ⟨2, ![1, 704]⟩
abbrev S704 : Shape := ⟨1, ![704]⟩
abbrev S1024x704 : Shape := ⟨2, ![1024, 704]⟩
abbrev S688 : Shape := ⟨1, ![688]⟩
abbrev S688x1 : Shape := ⟨2, ![688, 1]⟩

abbrev nBuf : Space → Nat
  | .hbm => 42
  | .vmem => 36
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S1024x5632, .f32⟩
  | .hbm, ⟨3, _⟩ => ⟨S8256x1024, .f32⟩
  | .hbm, ⟨4, _⟩ => ⟨S1024, .f32⟩
  | .hbm, ⟨5, _⟩ => ⟨S8256x1024, .f32⟩
  | .hbm, ⟨6, _⟩ => ⟨S8256x8x704, .bf16⟩
  | .hbm, ⟨7, _⟩ => ⟨S8x8256x704, .bf16⟩
  | .hbm, ⟨8, _⟩ => ⟨S8256x1024, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x1024, .f32⟩
  | .hbm, ⟨20, _⟩ => ⟨S8256x1024, .f32⟩
  | .hbm, ⟨21, _⟩ => ⟨S1x1024, .f32⟩
  | .hbm, ⟨22, _⟩ => ⟨S8256x1024, .f32⟩
  | .hbm, ⟨23, _⟩ => ⟨S8256x1024, .f32⟩
  | .hbm, ⟨24, _⟩ => ⟨S8256x5632, .f32⟩
  | .hbm, ⟨25, _⟩ => ⟨S8256x5632, .bf16⟩
  | .hbm, ⟨26, _⟩ => ⟨S8256x8x704, .bf16⟩
  | .hbm, ⟨27, _⟩ => ⟨S8x8256x704, .bf16⟩
  | .hbm, ⟨28, _⟩ => ⟨S4x8256x704, .bf16⟩
  | .hbm, ⟨29, _⟩ => ⟨S4x8256x704, .bf16⟩
  | .hbm, ⟨30, _⟩ => ⟨S3x8x704, .f32⟩
  | .hbm, ⟨31, _⟩ => ⟨S8x3x704, .f32⟩
  | .hbm, ⟨32, _⟩ => ⟨S1024x5632, .bf16⟩
  | .hbm, ⟨33, _⟩ => ⟨S1024x8x704, .bf16⟩
  | .hbm, ⟨34, _⟩ => ⟨S8x1024x704, .bf16⟩
  | .hbm, ⟨35, _⟩ => ⟨S1x1024, .f32⟩
  | .hbm, ⟨36, _⟩ => ⟨S4x8256x704, .bf16⟩
  | .hbm, ⟨37, _⟩ => ⟨S4x8256x704, .bf16⟩
  | .hbm, ⟨38, _⟩ => ⟨S8256x1024, .f32⟩
  | .hbm, ⟨39, _⟩ => ⟨S1x1024, .f32⟩
  | .hbm, ⟨40, _⟩ => ⟨S4x3x704, .f32⟩
  | .hbm, ⟨41, _⟩ => ⟨S4x3x704, .f32⟩
  | .local _ .vmem, ⟨0, _⟩ => ⟨S1x688x704, .bf16⟩
  | .local _ .vmem, ⟨1, _⟩ => ⟨S1x688x704, .bf16⟩
  | .local _ .vmem, ⟨2, _⟩ => ⟨S1x16x704, .bf16⟩
  | .local _ .vmem, ⟨3, _⟩ => ⟨S1x16x704, .bf16⟩
  | .local _ .vmem, ⟨4, _⟩ => ⟨S1x688x704, .bf16⟩
  | .local _ .vmem, ⟨5, _⟩ => ⟨S1x688x704, .bf16⟩
  | .local _ .vmem, ⟨6, _⟩ => ⟨S1x16x704, .bf16⟩
  | .local _ .vmem, ⟨7, _⟩ => ⟨S1x16x704, .bf16⟩
  | .local _ .vmem, ⟨8, _⟩ => ⟨S1x688x704, .bf16⟩
  | .local _ .vmem, ⟨9, _⟩ => ⟨S1x688x704, .bf16⟩
  | .local _ .vmem, ⟨10, _⟩ => ⟨S1x688x704, .bf16⟩
  | .local _ .vmem, ⟨11, _⟩ => ⟨S1x688x704, .bf16⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S688x1024, .f32⟩
  | .local _ .vmem, ⟨21, _⟩ => ⟨S688x1024, .f32⟩
  | .local _ .vmem, ⟨22, _⟩ => ⟨S1x1024, .f32⟩
  | .local _ .vmem, ⟨23, _⟩ => ⟨S688x1024, .f32⟩
  | .local _ .vmem, ⟨24, _⟩ => ⟨S688x1024, .f32⟩
  | .local _ .vmem, ⟨25, _⟩ => ⟨S1x688x704, .bf16⟩
  | .local _ .vmem, ⟨26, _⟩ => ⟨S1x688x704, .bf16⟩
  | .local _ .vmem, ⟨27, _⟩ => ⟨S1x688x704, .bf16⟩
  | .local _ .vmem, ⟨28, _⟩ => ⟨S1x688x704, .bf16⟩
  | .local _ .vmem, ⟨29, _⟩ => ⟨S688x1024, .f32⟩
  | .local _ .vmem, ⟨30, _⟩ => ⟨S688x1024, .f32⟩
  | .local _ .vmem, ⟨31, _⟩ => ⟨S1x1024, .f32⟩
  | .local _ .vmem, ⟨32, _⟩ => ⟨S4x3x704, .f32⟩
  | .local _ .vmem, ⟨33, _⟩ => ⟨S4x3x704, .f32⟩
  | .local _ .vmem, ⟨34, _⟩ => ⟨S688x1024, .f32⟩
  | .local _ .vmem, ⟨35, _⟩ => ⟨S704x704, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨2, ![12, 4], ![false, false]⟩

def k0_off1 (i : grid0.Coords) : Fin 3 → Nat :=
  let arg1 : BitVec 32 := BitVec.ofNat 32 (i 1).val
  let v53 : Index := Scalar.indexCast arg1
  let c0_27 : Index := 0#32
  let c0_28 : Index := 0#32
  ![v53.toNat, 0, 0]
def k0_cond5 (i : grid0.Coords) : BitVec 1 :=
  let arg1 : BitVec 32 := BitVec.ofNat 32 (i 1).val
  let c3_i32_82 : BitVec 32 := 3#32
  let v146 : BitVec 1 := Scalar.cmpi .eq arg1 c3_i32_82
  let v147 : BitVec 32 := Scalar.extui v146
  let c0_i32_83 : BitVec 32 := 0#32
  let v148 : BitVec 1 := Scalar.cmpi .ne v147 c0_i32_83
  v148

def k0_cond4 (i : grid0.Coords) : BitVec 1 :=
  let arg0 : BitVec 32 := BitVec.ofNat 32 (i 0).val
  let c0_i32_79 : BitVec 32 := 0#32
  let v141 : BitVec 1 := Scalar.cmpi .eq arg0 c0_i32_79
  let arg1 : BitVec 32 := BitVec.ofNat 32 (i 1).val
  let c0_i32_80 : BitVec 32 := 0#32
  let v142 : BitVec 1 := Scalar.cmpi .eq arg1 c0_i32_80
  let v143 : BitVec 1 := Scalar.andi v141 v142
  let v144 : BitVec 32 := Scalar.extui v143
  let c0_i32_81 : BitVec 32 := 0#32
  let v145 : BitVec 1 := Scalar.cmpi .ne v144 c0_i32_81
  v145

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c43_i32 : BitVec 32 := 43#32
  let v1 : BitVec 32 := Scalar.muli v0 c43_i32
  let c515_i32 : BitVec 32 := 515#32
  let v2 : BitVec 32 := Scalar.minsi v1 c515_i32
  let c0_i32 : BitVec 32 := 0#32
  let c0_i32_0 : BitVec 32 := 0#32
  ![arg1.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c43_i32 : BitVec 32 := 43#32
  let v1 : BitVec 32 := Scalar.muli v0 c43_i32
  let c515_i32 : BitVec 32 := 515#32
  let v2 : BitVec 32 := Scalar.minsi v1 c515_i32
  let c0_i32 : BitVec 32 := 0#32
  let c0_i32_0 : BitVec 32 := 0#32
  ![arg1.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x688x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x688x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x688x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x688x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x688x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S688x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x3x704 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x3x704 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== UpBwdRefIdeal.lean ====
abbrev S8256x5632 : Shape := ⟨2, ![8256, 5632]⟩
abbrev S3x5632 : Shape := ⟨2, ![3, 5632]⟩
abbrev S1024x5632 : Shape := ⟨2, ![1024, 5632]⟩
abbrev S8256x1024 : Shape := ⟨2, ![8256, 1024]⟩
abbrev S1024 : Shape := ⟨1, ![1024]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S4x2064x5632 : Shape := ⟨3, ![4, 2064, 5632]⟩
abbrev S4x2x5632 : Shape := ⟨3, ![4, 2, 5632]⟩
abbrev S4x2066x5632 : Shape := ⟨3, ![4, 2066, 5632]⟩
abbrev S1x5632 : Shape := ⟨2, ![1, 5632]⟩
abbrev S5632 : Shape := ⟨1, ![5632]⟩
abbrev S1x1x5632 : Shape := ⟨3, ![1, 1, 5632]⟩
abbrev S8256x8x704 : Shape := ⟨3, ![8256, 8, 704]⟩
abbrev S8x8256x704 : Shape := ⟨3, ![8, 8256, 704]⟩
abbrev S3x8x704 : Shape := ⟨3, ![3, 8, 704]⟩
abbrev S8x3x704 : Shape := ⟨3, ![8, 3, 704]⟩
abbrev S4x8256x704 : Shape := ⟨3, ![4, 8256, 704]⟩
abbrev S4x3x704 : Shape := ⟨3, ![4, 3, 704]⟩

abbrev nBuf : Space → Nat
  | .hbm => 141
  | .vmem => 0
  | .smem => 0
  | _ => 0

abbrev hbmTy0_0 (i : Nat) : BufTy := match i % 128 with
  | 0 => ⟨S8256x5632, .bf16⟩
  | 1 => ⟨S3x5632, .f32⟩
  | 2 => ⟨S1024x5632, .f32⟩
  | 3 => ⟨S8256x1024, .f32⟩
  | 4 => ⟨S1024, .f32⟩
  | 5 => ⟨S8256x1024, .f32⟩
  | 6 => ⟨S8256x1024, .f32⟩
  | 7 => ⟨S_, .f32⟩
  | 8 => ⟨S8256, .f32⟩
  | 9 => ⟨S8256x1, .f32⟩
  | 10 => ⟨S_, .f32⟩
  | 11 => ⟨S8256x1, .f32⟩
  | 12 => ⟨S8256x1, .f32⟩
  | 13 => ⟨S_, .f32⟩
  | 14 => ⟨S8256x1, .f32⟩
  | 15 => ⟨S8256x1, .f32⟩
  | 16 => ⟨S8256x1, .f32⟩
  | 17 => ⟨S8256x1, .f32⟩
  | 18 => ⟨S_, .f32⟩
  | 19 => ⟨S8256x1, .f32⟩
  | 20 => ⟨S8256x1, .f32⟩
  | 21 => ⟨S8256x1024, .f32⟩
  | 22 => ⟨S8256x1024, .f32⟩
  | 23 => ⟨S1x1024, .f32⟩
  | 24 => ⟨S8256x1024, .f32⟩
  | 25 => ⟨S8256x1024, .f32⟩
  | 26 => ⟨S8256x5632, .f32⟩
  | 27 => ⟨S4x2064x5632, .f32⟩
  | 28 => ⟨S_, .f32⟩
  | 29 => ⟨S4x2x5632, .f32⟩
  | 30 => ⟨S4x2066x5632, .f32⟩
  | 31 => ⟨S_, .f32⟩
  | 32 => ⟨S4x2x5632, .f32⟩
  | 33 => ⟨S4x2064x5632, .f32⟩
  | 34 => ⟨S1x5632, .f32⟩
  | 35 => ⟨S5632, .f32⟩
  | 36 => ⟨S1x1x5632, .f32⟩
  | 37 => ⟨S4x2064x5632, .f32⟩
  | 38 => ⟨S4x2064x5632, .f32⟩
  | 39 => ⟨S_, .f32⟩
  | 40 => ⟨S4x2064x5632, .f32⟩
  | 41 => ⟨S4x2064x5632, .f32⟩
  | 42 => ⟨S4x2064x5632, .f32⟩
  | 43 => ⟨S1x5632, .f32⟩
  | 44 => ⟨S5632, .f32⟩
  | 45 => ⟨S1x1x5632, .f32⟩
  | 46 => ⟨S4x2064x5632, .f32⟩
  | 47 => ⟨S4x2064x5632, .f32⟩
  | 48 => ⟨S4x2064x5632, .f32⟩
  | 49 => ⟨S4x2064x5632, .f32⟩
  | 50 => ⟨S1x5632, .f32⟩
  | 51 => ⟨S5632, .f32⟩
  | 52 => ⟨S1x1x5632, .f32⟩
  | 53 => ⟨S4x2064x5632, .f32⟩
  | 54 => ⟨S4x2064x5632, .f32⟩
  | 55 => ⟨S4x2064x5632, .f32⟩
  | 56 => ⟨S8256x5632, .f32⟩
  | 57 => ⟨S4x2064x5632, .f32⟩
  | 58 => ⟨S4x2064x5632, .f32⟩
  | 59 => ⟨S_, .f32⟩
  | 60 => ⟨S5632, .f32⟩
  | 61 => ⟨S1x1x5632, .f32⟩
  | 62 => ⟨S4x2064x5632, .f32⟩
  | 63 => ⟨S4x2064x5632, .f32⟩
  | 64 => ⟨S_, .f32⟩
  | 65 => ⟨S5632, .f32⟩
  | 66 => ⟨S1x5632, .f32⟩
  | 67 => ⟨S_, .f32⟩
  | 68 => ⟨S3x5632, .f32⟩
  | 69 => ⟨S_, .f32⟩
  | 70 => ⟨S4x2066x5632, .f32⟩
  | 71 => ⟨S4x2064x5632, .f32⟩
  | 72 => ⟨S_, .f32⟩
  | 73 => ⟨S5632, .f32⟩
  | 74 => ⟨S1x1x5632, .f32⟩
  | 75 => ⟨S4x2064x5632, .f32⟩
  | 76 => ⟨S4x2064x5632, .f32⟩
  | 77 => ⟨S_, .f32⟩
  | 78 => ⟨S5632, .f32⟩
  | 79 => ⟨S1x5632, .f32⟩
  | 80 => ⟨S_, .f32⟩
  | 81 => ⟨S3x5632, .f32⟩
  | 82 => ⟨S3x5632, .f32⟩
  | 83 => ⟨S_, .f32⟩
  | 84 => ⟨S4x2066x5632, .f32⟩
  | 85 => ⟨S4x2066x5632, .f32⟩
  | 86 => ⟨S4x2064x5632, .f32⟩
  | 87 => ⟨S_, .f32⟩
  | 88 => ⟨S5632, .f32⟩
  | 89 => ⟨S1x1x5632, .f32⟩
  | 90 => ⟨S4x2064x5632, .f32⟩
  | 91 => ⟨S4x2064x5632, .f32⟩
  | 92 => ⟨S_, .f32⟩
  | 93 => ⟨S5632, .f32⟩
  | 94 => ⟨S1x5632, .f32⟩
  | 95 => ⟨S_, .f32⟩
  | 96 => ⟨S3x5632, .f32⟩
  | 97 => ⟨S3x5632, .f32⟩
  | 98 => ⟨S_, .f32⟩
  | 99 => ⟨S4x2066x5632, .f32⟩
  | 100 => ⟨S4x2066x5632, .f32⟩
  | 101 => ⟨S4x2x5632, .f32⟩
  | 102 => ⟨S4x2064x5632, .f32⟩
  | 103 => ⟨S8256x5632, .f32⟩
  | 104 => ⟨S8256x1024, .f32⟩
  | 105 => ⟨S8256x1024, .f32⟩
  | 106 => ⟨S_, .f32⟩
  | 107 => ⟨S1024, .f32⟩
  | 108 => ⟨S1x1024, .f32⟩
  | 109 => ⟨S8256x1024, .f32⟩
  | 110 => ⟨S8256x1024, .f32⟩
  | 111 => ⟨S_, .f32⟩
  | 112 => ⟨S1024, .f32⟩
  | 113 => ⟨S8256x1024, .f32⟩
  | 114 => ⟨S_, .f32⟩
  | 115 => ⟨S8256, .f32⟩
  | 116 => ⟨S8256x1, .f32⟩
  | 117 => ⟨S8256x1024, .f32⟩
  | 118 => ⟨S8256x1024, .f32⟩
  | 119 => ⟨S8256x1, .f32⟩
  | 120 => ⟨S_, .f32⟩
  | 121 => ⟨S8256x1, .f32⟩
  | 122 => ⟨S8256x1, .f32⟩
  | 123 => ⟨S_, .f32⟩
  | 124 => ⟨S8256, .f32⟩
  | 125 => ⟨S8256x1024, .f32⟩
  | 126 => ⟨S8256x1024, .f32⟩
  | 127 => ⟨S8256x1024, .f32⟩
  | _ => ⟨S8256x5632, .bf16⟩

abbrev hbmTy0_1 (i : Nat) : BufTy := match i % 128 with
  | 0 => ⟨S8256x1024, .f32⟩
  | 1 => ⟨S8256x1024, .f32⟩
  | 2 => ⟨S8256x5632, .bf16⟩
  | 3 => ⟨S8256x8x704, .bf16⟩
  | 4 => ⟨S8x8256x704, .bf16⟩
  | 5 => ⟨S3x8x704, .f32⟩
  | 6 => ⟨S8x3x704, .f32⟩
  | 7 => ⟨S4x8256x704, .bf16⟩
  | 8 => ⟨S4x8256x704, .bf16⟩
  | 9 => ⟨S8256x1024, .f32⟩
  | 10 => ⟨S1x1024, .f32⟩
  | 11 => ⟨S4x3x704, .f32⟩
  | 12 => ⟨S4x3x704, .f32⟩
  | _ => ⟨S8256x5632, .bf16⟩

abbrev hbmTy (i : Nat) : BufTy := match i / 128 with
  | 0 => hbmTy0_0 i
  | 1 => hbmTy0_1 i
  | _ => ⟨S8256x5632, .bf16⟩

abbrev bufTy : (tb : Table) → Fin (tcTables nBuf tb) → BufTy
  | .hbm, ⟨i, _⟩ => hbmTy i
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_cst_20 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_cst_22 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩

abbrev nD : Nat := 1
abbrev τ : Topo := Topo.v7x

variable {F : FTy → Type} [FloatOps F]
-- ==== GluProj.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S8256x1024, .bf16⟩
  | .hbm, ⟨6, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1024x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluProjRefIdeal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .f32⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S8256x1024, .f32⟩
  | .hbm, ⟨14, _⟩ => ⟨S8256x1024, .bf16⟩
  | .hbm, ⟨15, _⟩ => ⟨S8256x1024, .f32⟩
  | .hbm, ⟨16, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MergeFwd.lean ====
abbrev S8256x1024 : Shape := ⟨2, ![8256, 1024]⟩
abbrev S8256x7168 : Shape := ⟨2, ![8256, 7168]⟩
abbrev S1024x1024 : Shape := ⟨2, ![1024, 1024]⟩
abbrev S1024 : Shape := ⟨1, ![1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 14
  | .vmem => 21
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x7168, .bf16⟩
  | .hbm, ⟨3, _⟩ => ⟨S8256x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S8256x1024, .f32⟩
  | .hbm, ⟨11, _⟩ => ⟨S8256x1024, .bf16⟩
  | .hbm, ⟨12, _⟩ => ⟨S8256x1024, .bf16⟩
  | .hbm, ⟨13, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .f32⟩
  | .local _ .vmem, ⟨9, _⟩ => ⟨S688x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S688x1024, .f32⟩
  | .local _ .vmem, ⟨14, _⟩ => ⟨S688x1024, .f32⟩
  | .local _ .vmem, ⟨15, _⟩ => ⟨S688x1024, .bf16⟩
  | .local _ .vmem, ⟨16, _⟩ => ⟨S688x1024, .bf16⟩
  | .local _ .vmem, ⟨17, _⟩ => ⟨S688x1024, .bf16⟩
  | .local _ .vmem, ⟨18, _⟩ => ⟨S688x1024, .bf16⟩
  | .local _ .vmem, ⟨19, _⟩ => ⟨S688x1024, .bf16⟩
  | .local _ .vmem, ⟨20, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeFwdRefIdeal.lean ====
abbrev S8256x1024 : Shape := ⟨2, ![8256, 1024]⟩
abbrev S8256x7168 : Shape := ⟨2, ![8256, 7168]⟩
abbrev S1024x1024 : Shape := ⟨2, ![1024, 1024]⟩
abbrev S1024 : Shape := ⟨1, ![1024]⟩
abbrev S_ : Shape := ⟨0, ![]⟩
abbrev S8256 : Shape := ⟨1, ![8256]⟩
abbrev S8256x1 : Shape := ⟨2, ![8256, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x7168, .bf16⟩
  | .hbm, ⟨3, _⟩ => ⟨S8256x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S8256x1024, .f32⟩
  | .hbm, ⟨8, _⟩ => ⟨S8256x1024, .f32⟩
  | .hbm, ⟨9, _⟩ => ⟨S8256x7168, .f32⟩
  | .hbm, ⟨10, _⟩ => ⟨S8256x1024, .f32⟩
  | .hbm, ⟨11, _⟩ => ⟨S8256x1024, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S_, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S_, .f32⟩
  | .hbm, ⟨25, _⟩ => ⟨S8256x1024, .f32⟩
  | .hbm, ⟨26, _⟩ => ⟨S8256x1024, .f32⟩
  | .hbm, ⟨27, _⟩ => ⟨S_, .f32⟩
  | .hbm, ⟨28, _⟩ => ⟨S8256x1024, .f32⟩
  | .hbm, ⟨29, _⟩ => ⟨S8256x1024, .f32⟩
  | .hbm, ⟨30, _⟩ => ⟨S8256x1024, .f32⟩
  | .hbm, ⟨31, _⟩ => ⟨S8256x1024, .f32⟩
  | .hbm, ⟨32, _⟩ => ⟨S8256x1024, .f32⟩
  | .hbm, ⟨33, _⟩ => ⟨S8256x1024, .f32⟩
  | .hbm, ⟨34, _⟩ => ⟨S8256x1024, .bf16⟩
  | .hbm, ⟨35, _⟩ => ⟨S8256x1024, .bf16⟩
  | .hbm, ⟨36, _⟩ => ⟨S8256x1024, .f32⟩
  | .hbm, ⟨37, _⟩ => ⟨S_, .f32⟩
  | .hbm, ⟨38, _⟩ => ⟨S8256, .f32⟩
  | .hbm, ⟨39, _⟩ => ⟨S8256x1, .f32⟩
  | .hbm, ⟨40, _⟩ => ⟨S_, .f32⟩
  | .hbm, ⟨41, _⟩ => ⟨S8256x1, .f32⟩
  | .hbm, ⟨42, _⟩ => ⟨S8256x1, .f32⟩
  | .hbm, ⟨43, _⟩ => ⟨S_, .f32⟩
  | .hbm, ⟨44, _⟩ => ⟨S8256x1, .f32⟩
  | .hbm, ⟨45, _⟩ => ⟨S8256x1, .f32⟩
  | .hbm, ⟨46, _⟩ => ⟨S8256x1, .f32⟩
  | .hbm, ⟨47, _⟩ => ⟨S8256x1024, .f32⟩
  | .hbm, ⟨48, _⟩ => ⟨S8256x1024, .f32⟩
  | .hbm, ⟨49, _⟩ => ⟨S1x1024, .f32⟩
  | .hbm, ⟨50, _⟩ => ⟨S8256x1024, .f32⟩
  | .hbm, ⟨51, _⟩ => ⟨S8256x1024, .f32⟩
  | .hbm, ⟨52, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Ffn.lean ====
abbrev S8256x5632 : Shape := ⟨2, ![8256, 5632]⟩
abbrev S3x5632 : Shape := ⟨2, ![3, 5632]⟩
abbrev S5632 : Shape := ⟨1, ![5632]⟩
abbrev S2816x1024 : Shape := ⟨2, ![2816, 1024]⟩
abbrev S8256x1024 : Shape := ⟨2, ![8256, 1024]⟩
abbrev S1024 : Shape := ⟨1, ![1024]⟩
abbrev S8256x8x704 : Shape := ⟨3, ![8256, 8, 704]⟩
abbrev S8x8256x704 : Shape := ⟨3, ![8, 8256, 704]⟩
abbrev S3x8x704 : Shape := ⟨3, ![3, 8, 704]⟩
abbrev S8x3x704 : Shape := ⟨3, ![8, 3, 704]⟩
abbrev S1x5632 : Shape := ⟨2, ![1, 5632]⟩
abbrev S1x8x704 : Shape := ⟨3, ![1, 8, 704]⟩
abbrev S8x1x704 : Shape := ⟨3, ![8, 1, 704]⟩
abbrev S4x704x1024 : Shape := ⟨3, ![4, 704, 1024]⟩
abbrev S1x1024 : Shape := ⟨2, ![1, 1024]⟩
abbrev S4x8256x704 : Shape := ⟨3, ![4, 8256, 704]⟩
abbrev S1x128 : Shape := ⟨2, ![1, 128]⟩
abbrev S1x688x704 : Shape := ⟨3, ![1, 688, 704]⟩
abbrev S1x16x704 : Shape := ⟨3, ![1, 16, 704]⟩
abbrev S1x3x704 : Shape := ⟨3, ![1, 3, 704]⟩
abbrev S1x1x704 : Shape := ⟨3, ![1, 1, 704]⟩
abbrev S1x704x1024 : Shape := ⟨3, ![1, 704, 1024]⟩
abbrev S688x1024 : Shape := ⟨2, ![688, 1024]⟩
abbrev S704x704 : Shape := ⟨2, ![704, 704]⟩
abbrev S16x704 : Shape := ⟨2, ![16, 704]⟩
abbrev S688x704 : Shape := ⟨2, ![688, 704]⟩
abbrev S3x704 : Shape := ⟨2, ![3, 704]⟩
abbrev S1x704 : Shape := ⟨2, ![1, 704]⟩
abbrev S704x1024 : Shape := ⟨2, ![704, 1024]⟩
abbrev S688x1 : Shape := ⟨2, ![688, 1]⟩
abbrev S688 : Shape := ⟨1, ![688]⟩
abbrev S1x688x1024 : Shape := ⟨3, ![1, 688, 1024]⟩
abbrev S1 : Shape := ⟨1, ![1]⟩
abbrev S1x1x1 : Shape := ⟨3, ![1, 1, 1]⟩

abbrev nBuf : Space → Nat
  | .hbm => 22
  | .vmem => 33
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8256x1024, .f32⟩
  | .hbm, ⟨5, _⟩ => ⟨S8256x1024, .f32⟩
  | .hbm, ⟨6, _⟩ => ⟨S1024, .f32⟩
  | .hbm, ⟨7, _⟩ => ⟨S8256x8x704, .bf16⟩
  | .hbm, ⟨8, _⟩ => ⟨S8x8256x704, .bf16⟩
  | .hbm, ⟨9, _⟩ => ⟨S3x8x704, .f32⟩
  | .hbm, ⟨10, _⟩ => ⟨S8x3x704, .f32⟩
  | .hbm, ⟨11, _⟩ => ⟨S1x5632, .f32⟩
  | .hbm, ⟨12, _⟩ => ⟨S1x8x704, .f32⟩
  | .hbm, ⟨13, _⟩ => ⟨S8x1x704, .f32⟩
  | .hbm, ⟨14, _⟩ => ⟨S2816x1024, .bf16⟩
  | .hbm, ⟨15, _⟩ => ⟨S4x704x1024, .bf16⟩
  | .hbm, ⟨16, _⟩ => ⟨S1x1024, .f32⟩
  | .hbm, ⟨17, _⟩ => ⟨S4x8256x704, .bf16⟩
  | .hbm, ⟨18, _⟩ => ⟨S4x8256x704, .bf16⟩
  | .hbm, ⟨19, _⟩ => ⟨S8256x1024, .f32⟩
  | .hbm, ⟨20, _⟩ => ⟨S1x128, .f32⟩
  | .hbm, ⟨21, _⟩ => ⟨S1x1024, .f32⟩
  | .local _ .vmem, ⟨0, _⟩ => ⟨S1x688x704, .bf16⟩
  | .local _ .vmem, ⟨1, _⟩ => ⟨S1x688x704, .bf16⟩
  | .local _ .vmem, ⟨2, _⟩ => ⟨S1x16x704, .bf16⟩
  | .local _ .vmem, ⟨3, _⟩ => ⟨S1x16x704, .bf16⟩
  | .local _ .vmem, ⟨4, _⟩ => ⟨S1x688x704, .bf16⟩
  | .local _ .vmem, ⟨5, _⟩ => ⟨S1x688x704, .bf16⟩
  | .local _ .vmem, ⟨6, _⟩ => ⟨S1x16x704, .bf16⟩
  | .local _ .vmem, ⟨7, _⟩ => ⟨S1x16x704, .bf16⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x1x704, .f32⟩
  | .local _ .vmem, ⟨13, _⟩ => ⟨S1x1x704, .f32⟩
  | .local _ .vmem, ⟨14, _⟩ => ⟨S1x1x704, .f32⟩
  | .local _ .vmem, ⟨15, _⟩ => ⟨S1x1x704, .f32⟩
  | .local _ .vmem, ⟨16, _⟩ => ⟨S1x704x1024, .bf16⟩
  | .local _ .vmem, ⟨17, _⟩ => ⟨S1x704x1024, .bf16⟩
  | .local _ .vmem, ⟨18, _⟩ => ⟨S688x1024, .f32⟩
  | .local _ .vmem, ⟨19, _⟩ => ⟨S688x1024, .f32⟩
  | .local _ .vmem, ⟨20, _⟩ => ⟨S688x1024, .f32⟩
  | .local _ .vmem, ⟨21, _⟩ => ⟨S688x1024, .f32⟩
  | .local _ .vmem, ⟨22, _⟩ => ⟨S1x1024, .f32⟩
  | .local _ .vmem, ⟨23, _⟩ => ⟨S1x688x704, .bf16⟩
  | .local _ .vmem, ⟨24, _⟩ => ⟨S1x688x704, .bf16⟩
  | .local _ .vmem, ⟨25, _⟩ => ⟨S1x688x704, .bf16⟩
  | .local _ .vmem, ⟨26, _⟩ => ⟨S1x688x704, .bf16⟩
  | .local _ .vmem, ⟨27, _⟩ => ⟨S688x1024, .f32⟩
  | .local _ .vmem, ⟨28, _⟩ => ⟨S688x1024, .f32⟩
  | .local _ .vmem, ⟨29, _⟩ => ⟨S1x128, .f32⟩
  | .local _ .vmem, ⟨30, _⟩ => ⟨S1x1024, .f32⟩
  | .local _ .vmem, ⟨31, _⟩ => ⟨S688x1024, .f32⟩
  | .local _ .vmem, ⟨32, _⟩ => ⟨S704x704, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨2, ![12, 4], ![false, false]⟩

def k0_cond4 (i : grid0.Coords) : BitVec 1 :=
  let arg1 : BitVec 32 := BitVec.ofNat 32 (i 1).val
  let c3_i32_62 : BitVec 32 := 3#32
  let v105 : BitVec 1 := Scalar.cmpi .eq arg1 c3_i32_62
  let v106 : BitVec 32 := Scalar.extui v105
  let c0_i32_63 : BitVec 32 := 0#32
  let v107 : BitVec 1 := Scalar.cmpi .ne v106 c0_i32_63
  v107

def k0_cond3 (i : grid0.Coords) : BitVec 1 :=
  let arg0 : BitVec 32 := BitVec.ofNat 32 (i 0).val
  let c0_i32_59 : BitVec 32 := 0#32
  let v100 : BitVec 1 := Scalar.cmpi .eq arg0 c0_i32_59
  let arg1 : BitVec 32 := BitVec.ofNat 32 (i 1).val
  let c0_i32_60 : BitVec 32 := 0#32
  let v101 : BitVec 1 := Scalar.cmpi .eq arg1 c0_i32_60
  let v102 : BitVec 1 := Scalar.andi v100 v101
  let v103 : BitVec 32 := Scalar.extui v102
  let c0_i32_61 : BitVec 32 := 0#32
  let v104 : BitVec 1 := Scalar.cmpi .ne v103 c0_i32_61
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c43_i32 : BitVec 32 := 43#32
  let v1 : BitVec 32 := Scalar.muli arg0 c43_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c43_i32 : BitVec 32 := 43#32
  let v1 : BitVec 32 := Scalar.muli arg0 c43_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x688x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x688x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x688x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S688x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== FfnRefIdeal.lean ====
abbrev S8256x5632 : Shape := ⟨2, ![8256, 5632]⟩
abbrev S3x5632 : Shape := ⟨2, ![3, 5632]⟩
abbrev S5632 : Shape := ⟨1, ![5632]⟩
abbrev S2816x1024 : Shape := ⟨2, ![2816, 1024]⟩
abbrev S8256x1024 : Shape := ⟨2, ![8256, 1024]⟩
abbrev S1024 : Shape := ⟨1, ![1024]⟩
abbrev S4x2064x5632 : Shape := ⟨3, ![4, 2064, 5632]⟩
abbrev S_ : Shape := ⟨0, ![]⟩
abbrev S4x2x5632 : Shape := ⟨3, ![4, 2, 5632]⟩
abbrev S4x2066x5632 : Shape := ⟨3, ![4, 2066, 5632]⟩
abbrev S1x5632 : Shape := ⟨2, ![1, 5632]⟩
abbrev S1x1x5632 : Shape := ⟨3, ![1, 1, 5632]⟩
abbrev S8256x2816 : Shape := ⟨2, ![8256, 2816]⟩
abbrev S8256 : Shape := ⟨1, ![8256]⟩
abbrev S8256x1 : Shape := ⟨2, ![8256, 1]⟩
abbrev S1x1024 : Shape := ⟨2, ![1, 1024]⟩
abbrev S4x2064x1024 : Shape := ⟨3, ![4, 2064, 1024]⟩
abbrev S4x2048x1024 : Shape := ⟨3, ![4, 2048, 1024]⟩
abbrev S4x2048 : Shape := ⟨2, ![4, 2048]⟩
abbrev S8256x8x704 : Shape := ⟨3, ![8256, 8, 704]⟩
abbrev S8x8256x704 : Shape := ⟨3, ![8, 8256, 704]⟩
abbrev S4x8256x704 : Shape := ⟨3, ![4, 8256, 704]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S8256x5632, .bf16⟩
  | 1 => ⟨S3x5632, .f32⟩
  | 2 => ⟨S5632, .f32⟩
  | 3 => ⟨S2816x1024, .f32⟩
  | 4 => ⟨S8256x1024, .f32⟩
  | 5 => ⟨S8256x1024, .f32⟩
  | 6 => ⟨S1024, .f32⟩
  | 7 => ⟨S8256x5632, .f32⟩
  | 8 => ⟨S4x2064x5632, .f32⟩
  | 9 => ⟨S_, .f32⟩
  | 10 => ⟨S4x2x5632, .f32⟩
  | 11 => ⟨S4x2066x5632, .f32⟩
  | 12 => ⟨S4x2064x5632, .f32⟩
  | 13 => ⟨S1x5632, .f32⟩
  | 14 => ⟨S5632, .f32⟩
  | 15 => ⟨S1x1x5632, .f32⟩
  | 16 => ⟨S4x2064x5632, .f32⟩
  | 17 => ⟨S4x2064x5632, .f32⟩
  | 18 => ⟨S1x1x5632, .f32⟩
  | 19 => ⟨S4x2064x5632, .f32⟩
  | 20 => ⟨S4x2064x5632, .f32⟩
  | 21 => ⟨S4x2064x5632, .f32⟩
  | 22 => ⟨S1x5632, .f32⟩
  | 23 => ⟨S5632, .f32⟩
  | 24 => ⟨S1x1x5632, .f32⟩
  | 25 => ⟨S4x2064x5632, .f32⟩
  | 26 => ⟨S4x2064x5632, .f32⟩
  | 27 => ⟨S4x2064x5632, .f32⟩
  | 28 => ⟨S4x2064x5632, .f32⟩
  | 29 => ⟨S1x5632, .f32⟩
  | 30 => ⟨S5632, .f32⟩
  | 31 => ⟨S1x1x5632, .f32⟩
  | 32 => ⟨S4x2064x5632, .f32⟩
  | 33 => ⟨S4x2064x5632, .f32⟩
  | 34 => ⟨S4x2064x5632, .f32⟩
  | 35 => ⟨S8256x5632, .f32⟩
  | 36 => ⟨S8256x2816, .f32⟩
  | 37 => ⟨S8256x2816, .f32⟩
  | 38 => ⟨S8256x2816, .f32⟩
  | 39 => ⟨S_, .f32⟩
  | 40 => ⟨S8256x2816, .f32⟩
  | 41 => ⟨S8256x2816, .f32⟩
  | 42 => ⟨S_, .f32⟩
  | 43 => ⟨S8256x2816, .f32⟩
  | 44 => ⟨S8256x2816, .f32⟩
  | 45 => ⟨S8256x2816, .f32⟩
  | 46 => ⟨S8256x2816, .f32⟩
  | 47 => ⟨S8256x2816, .f32⟩
  | 48 => ⟨S8256x1024, .f32⟩
  | 49 => ⟨S8256x1024, .f32⟩
  | 50 => ⟨S8256x1024, .f32⟩
  | 51 => ⟨S_, .f32⟩
  | 52 => ⟨S8256, .f32⟩
  | 53 => ⟨S8256x1, .f32⟩
  | 54 => ⟨S_, .f32⟩
  | 55 => ⟨S8256x1, .f32⟩
  | 56 => ⟨S8256x1, .f32⟩
  | 57 => ⟨S_, .f32⟩
  | 58 => ⟨S8256x1, .f32⟩
  | 59 => ⟨S8256x1, .f32⟩
  | 60 => ⟨S8256x1, .f32⟩
  | 61 => ⟨S8256x1, .f32⟩
  | 62 => ⟨S_, .f32⟩
  | 63 => ⟨S8256x1, .f32⟩
  | 64 => ⟨S8256x1, .f32⟩
  | 65 => ⟨S8256x1024, .f32⟩
  | 66 => ⟨S8256x1024, .f32⟩
  | 67 => ⟨S1x1024, .f32⟩
  | 68 => ⟨S8256x1024, .f32⟩
  | 69 => ⟨S8256x1024, .f32⟩
  | 70 => ⟨S8256x1024, .f32⟩
  | 71 => ⟨S4x2064x1024, .f32⟩
  | 72 => ⟨S4x2048x1024, .f32⟩
  | 73 => ⟨S4x2048x1024, .f32⟩
  | 74 => ⟨S_, .f32⟩
  | 75 => ⟨S4x2048, .f32⟩
  | 76 => ⟨S_, .f32⟩
  | 77 => ⟨S4x2048, .f32⟩
  | 78 => ⟨S4x2048, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S4x2048, .f32⟩
  | 87 => ⟨S_, .f32⟩
  | 88 => ⟨S4x2048, .f32⟩
  | 89 => ⟨S4x2048, .f32⟩
  | 90 => ⟨S4x2048x1024, .f32⟩
  | 91 => ⟨S4x2048x1024, .f32⟩
  | 92 => ⟨S4x2048x1024, .f32⟩
  | 93 => ⟨S4x2048x1024, .f32⟩
  | 94 => ⟨S_, .f32⟩
  | 95 => ⟨S4x2064x1024, .f32⟩
  | 96 => ⟨S8256x1024, .f32⟩
  | 97 => ⟨S8256x1024, .f32⟩
  | 98 => ⟨S_, .f32⟩
  | 99 => ⟨S1024, .f32⟩
  | 100 => ⟨S1x1024, .f32⟩
  | 101 => ⟨S8256x1024, .f32⟩
  | 102 => ⟨S8256x1024, .f32⟩
  | 103 => ⟨S_, .f32⟩
  | 104 => ⟨S1024, .f32⟩
  | 105 => ⟨S8256x1024, .f32⟩
  | 106 => ⟨S_, .f32⟩
  | 107 => ⟨S8256, .f32⟩
  | 108 => ⟨S8256x1, .f32⟩
  | 109 => ⟨S8256x1024, .f32⟩
  | 110 => ⟨S8256x1024, .f32⟩
  | 111 => ⟨S8256x1, .f32⟩
  | 112 => ⟨S_, .f32⟩
  | 113 => ⟨S8256x1, .f32⟩
  | 114 => ⟨S8256x1, .f32⟩
  | 115 => ⟨S_, .f32⟩
  | 116 => ⟨S8256, .f32⟩
  | 117 => ⟨S8256x1024, .f32⟩
  | 118 => ⟨S8256x1024, .f32⟩
  | 119 => ⟨S8256x1024, .f32⟩
  | 120 => ⟨S8256x1024, .f32⟩
  | 121 => ⟨S8256x1024, .f32⟩
  | 122 => ⟨S8256x5632, .bf16⟩
  | 123 => ⟨S8256x8x704, .bf16⟩
  | 124 => ⟨S8x8256x704, .bf16⟩
  | 125 => ⟨S4x8256x704, .bf16⟩
  | 126 => ⟨S4x8256x704, .bf16⟩
  | 127 => ⟨S1x128, .f32⟩
  | _ => ⟨S8256x5632, .bf16⟩

abbrev hbmTy0_1 (i : Nat) : BufTy := match i % 128 with
  | 0 => ⟨S1x1024, .f32⟩
  | _ => ⟨S8256x5632, .bf16⟩

abbrev hbmTy (i : Nat) : BufTy := match i / 128 with
  | 0 => hbmTy0_0 i
  | 1 => hbmTy0_1 i
  | _ => ⟨S8256x5632, .bf16⟩

abbrev bufTy : (tb : Table) → Fin (tcTables nBuf tb) → BufTy
  | .hbm, ⟨i, _⟩ => hbmTy i
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_cst_8 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== AdamIn.lean ====
abbrev S1024x896 : Shape := ⟨2, ![1024, 896]⟩
abbrev S8x1024x896 : Shape := ⟨3, ![8, 1024, 896]⟩
abbrev S128x896 : Shape := ⟨2, ![128, 896]⟩
abbrev S8x128x896 : Shape := ⟨3, ![8, 128, 896]⟩
abbrev S1x128x896 : Shape := ⟨3, ![1, 128, 896]⟩

abbrev nBuf : Space → Nat
  | .hbm => 8
  | .vmem => 16
  | .smem => 0
  | _ => 0

abbrev bufTy : (tb : Table) → Fin (tcTables nBuf tb) → BufTy
  | .hbm, ⟨0, _⟩ => ⟨S1024x896, .f32⟩
  | .hbm, ⟨1, _⟩ => ⟨S8x1024x896, .bf16⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .local _ .vmem, ⟨0, _⟩ => ⟨S128x896, .f32⟩
  | .local _ .vmem, ⟨1, _⟩ => ⟨S128x896, .f32⟩
  | .local _ .vmem, ⟨2, _⟩ => ⟨S8x128x896, .bf16⟩
  | .local _ .vmem, ⟨3, _⟩ => ⟨S8x128x896, .bf16⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1024x896 : Shape := ⟨2, ![1024, 896]⟩
abbrev S8x1024x896 : Shape := ⟨3, ![8, 1024, 896]⟩
abbrev S128x896 : Shape := ⟨2, ![128, 896]⟩
abbrev S8x128x896 : Shape := ⟨3, ![8, 128, 896]⟩
abbrev S1x128x896 : Shape := ⟨3, ![1, 128, 896]⟩

abbrev nBuf : Space → Nat
  | .hbm => 8
  | .vmem => 16
  | .smem => 0
  | _ => 0

abbrev bufTy : (tb : Table) → Fin (tcTables nBuf tb) → BufTy
  | .hbm, ⟨0, _⟩ => ⟨S1024x896, .f32⟩
  | .hbm, ⟨1, _⟩ => ⟨S8x1024x896, .bf16⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .local _ .vmem, ⟨0, _⟩ => ⟨S128x896, .f32⟩
  | .local _ .vmem, ⟨1, _⟩ => ⟨S128x896, .f32⟩
  | .local _ .vmem, ⟨2, _⟩ => ⟨S8x128x896, .bf16⟩
  | .local _ .vmem, ⟨3, _⟩ => ⟨S8x128x896, .bf16⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x896 : Shape := ⟨2, ![1024, 896]⟩
abbrev S8x1024x896 : Shape := ⟨3, ![8, 1024, 896]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S8x1024x896, .bf16⟩
  | .hbm, ⟨2, _⟩ => ⟨S1024x896, .f32⟩
  | .hbm, ⟨3, _⟩ => ⟨S1024x896, .f32⟩
  | .hbm, ⟨4, _⟩ => ⟨S8x1024x896, .f32⟩
  | .hbm, ⟨5, _⟩ => ⟨S_, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S_, .f32⟩
  | .hbm, ⟨11, _⟩ => ⟨S1024x896, .f32⟩
  | .hbm, ⟨12, _⟩ => ⟨S1024x896, .f32⟩
  | .hbm, ⟨13, _⟩ => ⟨S1024x896, .f32⟩
  | .hbm, ⟨14, _⟩ => ⟨S_, .f32⟩
  | .hbm, ⟨15, _⟩ => ⟨S1024x896, .f32⟩
  | .hbm, ⟨16, _⟩ => ⟨S1024x896, .f32⟩
  | .hbm, ⟨17, _⟩ => ⟨S1024x896, .f32⟩
  | .hbm, ⟨18, _⟩ => ⟨S_, .f32⟩
  | .hbm, ⟨19, _⟩ => ⟨S1024x896, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S_, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S_, .f32⟩
  | .hbm, ⟨30, _⟩ => ⟨S1024x896, .f32⟩
  | .hbm, ⟨31, _⟩ => ⟨S1024x896, .f32⟩
  | .hbm, ⟨32, _⟩ => ⟨S1024x896, .f32⟩
  | .hbm, ⟨33, _⟩ => ⟨S_, .f32⟩
  | .hbm, ⟨34, _⟩ => ⟨S1024x896, .f32⟩
  | .hbm, ⟨35, _⟩ => ⟨S1024x896, .f32⟩
  | .hbm, ⟨36, _⟩ => ⟨S1024x896, .f32⟩
  | .hbm, ⟨37, _⟩ => ⟨S_, .f32⟩
  | .hbm, ⟨38, _⟩ => ⟨S1024x896, .f32⟩
  | .hbm, ⟨39, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S1024x704 : Shape := ⟨2, ![1024, 704]⟩
abbrev S8x1024x704 : Shape := ⟨3, ![8, 1024, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S8x1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S128x704, .f32⟩
  | .local _ .vmem, ⟨1, _⟩ => ⟨S128x704, .f32⟩
  | .local _ .vmem, ⟨2, _⟩ => ⟨S8x128x704, .f32⟩
  | .local _ .vmem, ⟨3, _⟩ => ⟨S8x128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S1024x704 : Shape := ⟨2, ![1024, 704]⟩
abbrev S8x1024x704 : Shape := ⟨3, ![8, 1024, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S8x1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S128x704, .f32⟩
  | .local _ .vmem, ⟨1, _⟩ => ⟨S128x704, .f32⟩
  | .local _ .vmem, ⟨2, _⟩ => ⟨S8x128x704, .f32⟩
  | .local _ .vmem, ⟨3, _⟩ => ⟨S8x128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S1024x704 : Shape := ⟨2, ![1024, 704]⟩
abbrev S8x1024x704 : Shape := ⟨3, ![8, 1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S8x1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSquare.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareRefIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S352x1024 : Shape := ⟨2, ![352, 1024]⟩
abbrev S8x352x1024 : Shape := ⟨3, ![8, 352, 1024]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S8x32x1024, .f32⟩
  | .local _ .vmem, ⟨3, _⟩ => ⟨S8x32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S352x1024 : Shape := ⟨2, ![352, 1024]⟩
abbrev S8x352x1024 : Shape := ⟨3, ![8, 352, 1024]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S8x32x1024, .f32⟩
  | .local _ .vmem, ⟨3, _⟩ => ⟨S8x32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMeta.lean ====
abbrev S16x128 : Shape := ⟨2, ![16, 128]⟩
abbrev S8x16x128 : Shape := ⟨3, ![8, 16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S8x16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMetaIdeal.lean ====
abbrev S16x128 : Shape := ⟨2, ![16, 128]⟩
abbrev S8x16x128 : Shape := ⟨3, ![8, 16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S8x16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMetaRefIdeal.lean ====
abbrev S16x128 : Shape := ⟨2, ![16, 128]⟩
abbrev S8x16x128 : Shape := ⟨3, ![8, 16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S8x16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S3x704 : Shape := ⟨2, ![3, 704]⟩
abbrev S8x3x704 : Shape := ⟨3, ![8, 3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S3x704, .f32⟩
  | .hbm, ⟨1, _⟩ => ⟨S8x3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S3x704, .f32⟩
  | .local _ .vmem, ⟨1, _⟩ => ⟨S8x3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S3x704 : Shape := ⟨2, ![3, 704]⟩
abbrev S8x3x704 : Shape := ⟨3, ![8, 3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S8x3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamB.lean ====
abbrev S4096x16 : Shape := ⟨2, ![4096, 16]⟩

abbrev nBuf : Space → Nat
  | .hbm => 7
  | .vmem => 7
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamBIdeal.lean ====
abbrev S4096x16 : Shape := ⟨2, ![4096, 16]⟩

abbrev nBuf : Space → Nat
  | .hbm => 7
  | .vmem => 7
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamBRefIdeal.lean ====
abbrev S4096x16 : Shape := ⟨2, ![4096, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S_, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S_, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S_, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S4096x16, .f32⟩
  | .hbm, ⟨36, _⟩ => ⟨S4096x16, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S4096x64 : Shape := ⟨2, ![4096, 64]⟩

abbrev nBuf : Space → Nat
  | .hbm => 7
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamCIdeal.lean ====
abbrev S4096x64 : Shape := ⟨2, ![4096, 64]⟩

abbrev nBuf : Space → Nat
  | .hbm => 7
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamCRefIdeal.lean ====
abbrev S4096x64 : Shape := ⟨2, ![4096, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPacked.lean ====
abbrev S160x128 : Shape := ⟨2, ![160, 128]⟩

abbrev nBuf : Space → Nat
  | .hbm => 7
  | .vmem => 7
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamPackedRefIdeal.lean ====
abbrev S160x128 : Shape := ⟨2, ![160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S_, .f32⟩
  | .hbm, ⟨5, _⟩ => ⟨S160x128, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S160x128, .f32⟩
  | .hbm, ⟨11, _⟩ => ⟨S_, .f32⟩
  | .hbm, ⟨12, _⟩ => ⟨S160x128, .f32⟩
  | .hbm, ⟨13, _⟩ => ⟨S160x128, .f32⟩
  | .hbm, ⟨14, _⟩ => ⟨S160x128, .f32⟩
  | .hbm, ⟨15, _⟩ => ⟨S_, .f32⟩
  | .hbm, ⟨16, _⟩ => ⟨S160x128, .f32⟩
  | .hbm, ⟨17, _⟩ => ⟨S160x128, .f32⟩
  | .hbm, ⟨18, _⟩ => ⟨S160x128, .f32⟩
  | .hbm, ⟨19, _⟩ => ⟨S_, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S160x128, .f32⟩
  | .hbm, ⟨26, _⟩ => ⟨S_, .f32⟩
  | .hbm, ⟨27, _⟩ => ⟨S160x128, .f32⟩
  | .hbm, ⟨28, _⟩ => ⟨S160x128, .f32⟩
  | .hbm, ⟨29, _⟩ => ⟨S160x128, .f32⟩
  | .hbm, ⟨30, _⟩ => ⟨S_, .f32⟩
  | .hbm, ⟨31, _⟩ => ⟨S160x128, .f32⟩
  | .hbm, ⟨32, _⟩ => ⟨S160x128, .f32⟩
  | .hbm, ⟨33, _⟩ => ⟨S160x128, .f32⟩
  | .hbm, ⟨34, _⟩ => ⟨S_, .f32⟩
  | .hbm, ⟨35, _⟩ => ⟨S160x128, .f32⟩
  | .hbm, ⟨36, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x72x128 : Shape := ⟨3, ![8, 72, 128]⟩
abbrev S8x16x4096 : Shape := ⟨3, ![8, 16, 4096]⟩
abbrev S8x4096x64 : Shape := ⟨3, ![8, 4096, 64]⟩
abbrev S8x80x128 : Shape := ⟨3, ![8, 80, 128]⟩
abbrev S72x128 : Shape := ⟨2, ![72, 128]⟩
abbrev S16x4096 : Shape := ⟨2, ![16, 4096]⟩
abbrev S4096x64 : Shape := ⟨2, ![4096, 64]⟩
abbrev S80x128 : Shape := ⟨2, ![80, 128]⟩
abbrev S1x72x128 : Shape := ⟨3, ![1, 72, 128]⟩
abbrev S1x16x4096 : Shape := ⟨3, ![1, 16, 4096]⟩
abbrev S1x4096x64 : Shape := ⟨3, ![1, 4096, 64]⟩
abbrev S1x80x128 : Shape := ⟨3, ![1, 80, 128]⟩

abbrev nBuf : Space → Nat
  | .hbm => 12
  | .vmem => 12
  | .smem => 0
  | _ => 0

abbrev bufTy : (tb : Table) → Fin (tcTables nBuf tb) → BufTy
  | .hbm, ⟨0, _⟩ => ⟨S8x72x128, .f32⟩
  | .hbm, ⟨1, _⟩ => ⟨S8x16x4096, .f32⟩
  | .hbm, ⟨2, _⟩ => ⟨S8x16x4096, .f32⟩
  | .hbm, ⟨3, _⟩ => ⟨S8x4096x64, .f32⟩
  | .hbm, ⟨4, _⟩ => ⟨S8x4096x64, .f32⟩
  | .hbm, ⟨5, _⟩ => ⟨S8x80x128, .f32⟩
  | .hbm, ⟨6, _⟩ => ⟨S72x128, .f32⟩
  | .hbm, ⟨7, _⟩ => ⟨S16x4096, .f32⟩
  | .hbm, ⟨8, _⟩ => ⟨S16x4096, .f32⟩
  | .hbm, ⟨9, _⟩ => ⟨S4096x64, .f32⟩
  | .hbm, ⟨10, _⟩ => ⟨S4096x64, .f32⟩
  | .hbm, ⟨11, _⟩ => ⟨S80x128, .f32⟩
  | .local _ .vmem, ⟨0, _⟩ => ⟨S8x72x128, .f32⟩
  | .local _ .vmem, ⟨1, _⟩ => ⟨S8x16x4096, .f32⟩
  | .local _ .vmem, ⟨2, _⟩ => ⟨S8x16x4096, .f32⟩
  | .local _ .vmem, ⟨3, _⟩ => ⟨S8x4096x64, .f32⟩
  | .local _ .vmem, ⟨4, _⟩ => ⟨S8x4096x64, .f32⟩
  | .local _ .vmem, ⟨5, _⟩ => ⟨S8x80x128, .f32⟩
  | .local _ .vmem, ⟨6, _⟩ => ⟨S72x128, .f32⟩
  | .local _ .vmem, ⟨7, _⟩ => ⟨S16x4096, .f32⟩
  | .local _ .vmem, ⟨8, _⟩ => ⟨S16x4096, .f32⟩
  | .local _ .vmem, ⟨9, _⟩ => ⟨S4096x64, .f32⟩
  | .local _ .vmem, ⟨10, _⟩ => ⟨S4096x64, .f32⟩
  | .local _ .vmem, ⟨11, _⟩ => ⟨S80x128, .f32⟩
  | _, _ => ⟨S8x72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S80x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== SumSmallRefIdeal.lean ====
abbrev S8x72x128 : Shape := ⟨3, ![8, 72, 128]⟩
abbrev S8x16x4096 : Shape := ⟨3, ![8, 16, 4096]⟩
abbrev S8x4096x64 : Shape := ⟨3, ![8, 4096, 64]⟩
abbrev S8x80x128 : Shape := ⟨3, ![8, 80, 128]⟩
abbrev S_ : Shape := ⟨0, ![]⟩
abbrev S72x128 : Shape := ⟨2, ![72, 128]⟩
abbrev S16x4096 : Shape := ⟨2, ![16, 4096]⟩
abbrev S4096x64 : Shape := ⟨2, ![4096, 64]⟩
abbrev S80x128 : Shape := ⟨2, ![80, 128]⟩

abbrev nBuf : Space → Nat
  | .hbm => 18
  | .vmem => 0
  | .smem => 0
  | _ => 0

abbrev bufTy : (tb : Table) → Fin (tcTables nBuf tb) → BufTy
  | .hbm, ⟨0, _⟩ => ⟨S8x72x128, .f32⟩
  | .hbm, ⟨1, _⟩ => ⟨S8x16x4096, .f32⟩
  | .hbm, ⟨2, _⟩ => ⟨S8x16x4096, .f32⟩
  | .hbm, ⟨3, _⟩ => ⟨S8x4096x64, .f32⟩
  | .hbm, ⟨4, _⟩ => ⟨S8x4096x64, .f32⟩
  | .hbm, ⟨5, _⟩ => ⟨S8x80x128, .f32⟩
  | .hbm, ⟨6, _⟩ => ⟨S_, .f32⟩
  | .hbm, ⟨7, _⟩ => ⟨S72x128, .f32⟩
  | .hbm, ⟨8, _⟩ => ⟨S_, .f32⟩
  | .hbm, ⟨9, _⟩ => ⟨S16x4096, .f32⟩
  | .hbm, ⟨10, _⟩ => ⟨S_, .f32⟩
  | .hbm, ⟨11, _⟩ => ⟨S16x4096, .f32⟩
  | .hbm, ⟨12, _⟩ => ⟨S_, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S_, .f32⟩
  | .hbm, ⟨17, _⟩ => ⟨S80x128, .f32⟩
  | _, _ => ⟨S8x72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== DiscA.lean ====
abbrev S64x64 : Shape := ⟨2, ![64, 64]⟩
abbrev S64 : Shape := ⟨1, ![64]⟩
abbrev S64x1 : Shape := ⟨2, ![64, 1]⟩

abbrev nBuf : Space → Nat
  | .hbm => 10
  | .vmem => 10
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x1, .f32⟩
  | .local _ .vmem, ⟨0, _⟩ => ⟨S64x64, .f32⟩
  | .local _ .vmem, ⟨1, _⟩ => ⟨S64x64, .f32⟩
  | .local _ .vmem, ⟨2, _⟩ => ⟨S64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscARefIdeal.lean ====
abbrev S64x64 : Shape := ⟨2, ![64, 64]⟩
abbrev S64 : Shape := ⟨1, ![64]⟩
abbrev S64x1 : Shape := ⟨2, ![64, 1]⟩
abbrev S_ : Shape := ⟨0, ![]⟩

abbrev nBuf : Space → Nat
  | .hbm => 112
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S64x64, .f32⟩
  | .hbm, ⟨80, _⟩ => ⟨S_, .f32⟩
  | .hbm, ⟨81, _⟩ => ⟨S64, .f32⟩
  | .hbm, ⟨82, _⟩ => ⟨S64x1, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64, .f32⟩
  | .hbm, ⟨94, _⟩ => ⟨S64x1, .f32⟩
  | .hbm, ⟨95, _⟩ => ⟨S64x1, .f32⟩
  | .hbm, ⟨96, _⟩ => ⟨S64x64, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S_, .f32⟩
  | .hbm, ⟨102, _⟩ => ⟨S64, .f32⟩
  | .hbm, ⟨103, _⟩ => ⟨S64x1, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S64x64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_2 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_3 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_4 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_5 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩

abbrev nD : Nat := 1
abbrev τ : Topo := Topo.v7x

variable {F : FTy → Type} [FloatOps F]
-- ==== DiscB.lean ====
abbrev S64x64 : Shape := ⟨2, ![64, 64]⟩
abbrev S64x64x16 : Shape := ⟨3, ![64, 64, 16]⟩
abbrev S1x4096 : Shape := ⟨2, ![1, 4096]⟩
abbrev S16x4096 : Shape := ⟨2, ![16, 4096]⟩
abbrev S16x64x64 : Shape := ⟨3, ![16, 64, 64]⟩
abbrev S4096 : Shape := ⟨1, ![4096]⟩

abbrev nBuf : Space → Nat
  | .hbm => 10
  | .vmem => 10
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64x16, .f32⟩
  | .hbm, ⟨3, _⟩ => ⟨S64x64x16, .f32⟩
  | .hbm, ⟨4, _⟩ => ⟨S64x64x16, .f32⟩
  | .hbm, ⟨5, _⟩ => ⟨S64x64x16, .f32⟩
  | .hbm, ⟨6, _⟩ => ⟨S1x4096, .f32⟩
  | .hbm, ⟨7, _⟩ => ⟨S1x4096, .f32⟩
  | .hbm, ⟨8, _⟩ => ⟨S16x4096, .f32⟩
  | .hbm, ⟨9, _⟩ => ⟨S16x4096, .f32⟩
  | .local _ .vmem, ⟨0, _⟩ => ⟨S64x64, .f32⟩
  | .local _ .vmem, ⟨1, _⟩ => ⟨S64x64, .f32⟩
  | .local _ .vmem, ⟨2, _⟩ => ⟨S64x64x16, .f32⟩
  | .local _ .vmem, ⟨3, _⟩ => ⟨S64x64x16, .f32⟩
  | .local _ .vmem, ⟨4, _⟩ => ⟨S64x64x16, .f32⟩
  | .local _ .vmem, ⟨5, _⟩ => ⟨S64x64x16, .f32⟩
  | .local _ .vmem, ⟨6, _⟩ => ⟨S1x4096, .f32⟩
  | .local _ .vmem, ⟨7, _⟩ => ⟨S1x4096, .f32⟩
  | .local _ .vmem, ⟨8, _⟩ => ⟨S16x4096, .f32⟩
  | .local _ .vmem, ⟨9, _⟩ => ⟨S16x4096, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscBRefIdeal.lean ====
abbrev S64x64 : Shape := ⟨2, ![64, 64]⟩
abbrev S64x64x16 : Shape := ⟨3, ![64, 64, 16]⟩
abbrev S64x64x1 : Shape := ⟨3, ![64, 64, 1]⟩
abbrev S_ : Shape := ⟨0, ![]⟩
abbrev S1x4096 : Shape := ⟨2, ![1, 4096]⟩
abbrev S16x64x64 : Shape := ⟨3, ![16, 64, 64]⟩
abbrev S16x4096 : Shape := ⟨2, ![16, 4096]⟩

abbrev nBuf : Space → Nat
  | .hbm => 66
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64x16, .f32⟩
  | .hbm, ⟨3, _⟩ => ⟨S64x64x16, .f32⟩
  | .hbm, ⟨4, _⟩ => ⟨S64x64x16, .f32⟩
  | .hbm, ⟨5, _⟩ => ⟨S64x64x16, .f32⟩
  | .hbm, ⟨6, _⟩ => ⟨S64x64x1, .f32⟩
  | .hbm, ⟨7, _⟩ => ⟨S64x64x16, .f32⟩
  | .hbm, ⟨8, _⟩ => ⟨S64x64x16, .f32⟩
  | .hbm, ⟨9, _⟩ => ⟨S64x64x1, .f32⟩
  | .hbm, ⟨10, _⟩ => ⟨S64x64x16, .f32⟩
  | .hbm, ⟨11, _⟩ => ⟨S64x64x16, .f32⟩
  | .hbm, ⟨12, _⟩ => ⟨S64x64x16, .f32⟩
  | .hbm, ⟨13, _⟩ => ⟨S64x64x1, .f32⟩
  | .hbm, ⟨14, _⟩ => ⟨S64x64x16, .f32⟩
  | .hbm, ⟨15, _⟩ => ⟨S64x64x16, .f32⟩
  | .hbm, ⟨16, _⟩ => ⟨S64x64x1, .f32⟩
  | .hbm, ⟨17, _⟩ => ⟨S64x64x16, .f32⟩
  | .hbm, ⟨18, _⟩ => ⟨S64x64x16, .f32⟩
  | .hbm, ⟨19, _⟩ => ⟨S64x64x16, .f32⟩
  | .hbm, ⟨20, _⟩ => ⟨S64x64x16, .f32⟩
  | .hbm, ⟨21, _⟩ => ⟨S64x64x16, .f32⟩
  | .hbm, ⟨22, _⟩ => ⟨S64x64x16, .f32⟩
  | .hbm, ⟨23, _⟩ => ⟨S64x64x16, .f32⟩
  | .hbm, ⟨24, _⟩ => ⟨S64x64x16, .f32⟩
  | .hbm, ⟨25, _⟩ => ⟨S_, .f32⟩
  | .hbm, ⟨26, _⟩ => ⟨S64x64, .f32⟩
  | .hbm, ⟨27, _⟩ => ⟨S64x64x1, .f32⟩
  | .hbm, ⟨28, _⟩ => ⟨S_, .f32⟩
  | .hbm, ⟨29, _⟩ => ⟨S64x64, .f32⟩
  | .hbm, ⟨30, _⟩ => ⟨S64x64x16, .f32⟩
  | .hbm, ⟨31, _⟩ => ⟨S64x64x16, .f32⟩
  | .hbm, ⟨32, _⟩ => ⟨S64x64x16, .f32⟩
  | .hbm, ⟨33, _⟩ => ⟨S_, .f32⟩
  | .hbm, ⟨34, _⟩ => ⟨S64x64, .f32⟩
  | .hbm, ⟨35, _⟩ => ⟨S64x64x1, .f32⟩
  | .hbm, ⟨36, _⟩ => ⟨S_, .f32⟩
  | .hbm, ⟨37, _⟩ => ⟨S64x64, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S_, .f32⟩
  | .hbm, ⟨45, _⟩ => ⟨S64x64, .f32⟩
  | .hbm, ⟨46, _⟩ => ⟨S64x64x1, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x16, .f32⟩
  | .hbm, ⟨54, _⟩ => ⟨S_, .f32⟩
  | .hbm, ⟨55, _⟩ => ⟨S64x64, .f32⟩
  | .hbm, ⟨56, _⟩ => ⟨S64x64x1, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S1x4096, .f32⟩
  | .hbm, ⟨61, _⟩ => ⟨S1x4096, .f32⟩
  | .hbm, ⟨62, _⟩ => ⟨S16x64x64, .f32⟩
  | .hbm, ⟨63, _⟩ => ⟨S16x4096, .f32⟩
  | .hbm, ⟨64, _⟩ => ⟨S16x64x64, .f32⟩
  | .hbm, ⟨65, _⟩ => ⟨S16x4096, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Lower.lean ====
abbrev S2x1024 : Shape := ⟨2, ![2, 1024]⟩
abbrev S1x1024 : Shape := ⟨2, ![1, 1024]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S2x1024, .f32⟩
  | .local _ .vmem, ⟨0, _⟩ => ⟨S2x1024, .f32⟩
  | .local _ .vmem, ⟨1, _⟩ => ⟨S1x1024, .f32⟩
  | .local _ .vmem, ⟨2, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LowerRefIdeal.lean ====
abbrev S2x1024 : Shape := ⟨2, ![2, 1024]⟩
abbrev S1x1024 : Shape := ⟨2, ![1, 1024]⟩
abbrev S_ : Shape := ⟨0, ![]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S2x1024, .f32⟩
  | .hbm, ⟨43, _⟩ => ⟨S1x1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S2x1024, .f32⟩
  | .hbm, ⟨49, _⟩ => ⟨S_, .f32⟩
  | .hbm, ⟨50, _⟩ => ⟨S_, .f32⟩
  | .hbm, ⟨51, _⟩ => ⟨S2x1024, .f32⟩
  | .hbm, ⟨52, _⟩ => ⟨S2x1024, .f32⟩
  | .hbm, ⟨53, _⟩ => ⟨S2x1024, .f32⟩
  | .hbm, ⟨54, _⟩ => ⟨S2x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S2x1024, .f32⟩
  | .hbm, ⟨60, _⟩ => ⟨S2x1024, .f32⟩
  | .hbm, ⟨61, _⟩ => ⟨S_, .f32⟩
  | .hbm, ⟨62, _⟩ => ⟨S1024, .f32⟩
  | .hbm, ⟨63, _⟩ => ⟨S2x1024, .f32⟩
  | .hbm, ⟨64, _⟩ => ⟨S2x1024, .f32⟩
  | .hbm, ⟨65, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_call1_call0_cst : Ref sig .tc := ⟨.hbm, 49, rfl⟩
abbrev main_call1_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Common.lean ====
/- Sums over blocks of rows, and what the sigmoid of a kernel and of the host denote over the extended reals. -/
module

public import Idealize.ShloMosaic.Lib.ValueIdx
public import Idealize.ShloMosaic.PureOps.Ideal.Laws
public import Idealize.ShloMosaic.Lib.Pipeline.Value

@[expose] public section

noncomputable section

namespace Cert.Common

open Idealize.ShloMosaic Idealize.ShloMosaic.ValueIdx

theorem hz : (![0, 0] : Fin 2 → Nat) = fun _ => 0 := funext fun a => by fin_cases a <;> rfl
theorem hz3 : (![0, 0, 0] : Fin 3 → Nat) = fun _ => 0 := funext fun a => by fin_cases a <;> rfl

/-- Loading a whole matrix, and a whole array of matrices, gives it back. -/
theorem ld2 {Val : EltTy → Type} {e : EltTy} {a b : ℕ} (inb : ∀ d, ![0, 0] d + ![a, b] d ≤ (⟨2, ![a, b]⟩ : Shape).size d)
    (X : (⟨2, ![a, b]⟩ : Shape).Idx → Val e) : View.ld X (Rect.unit (s := ⟨2, ![a, b]⟩) ![0, 0] ![a, b] inb) = X :=
  View.ld_unit_zero (S := ⟨2, ![a, b]⟩) hz inb X

theorem ld3 {Val : EltTy → Type} {e : EltTy} {a b c : ℕ} (inb : ∀ d, ![0, 0, 0] d + ![a, b, c] d ≤ (⟨3, ![a, b, c]⟩ : Shape).size d)
    (X : (⟨3, ![a, b, c]⟩ : Shape).Idx → Val e) : View.ld X (Rect.unit (s := ⟨3, ![a, b, c]⟩) ![0, 0, 0] ![a, b, c] inb) = X :=
  View.ld_unit_zero (S := ⟨3, ![a, b, c]⟩) hz3 inb X

/-- The coordinates of an index. -/
theorem split2 {a b : ℕ} (j : (⟨2, ![a, b]⟩ : Shape).Idx) : ∃ (r : Fin a) (k : Fin b), j = ix2 r k := ⟨j 0, j 1, eq_ix2 j⟩

theorem split3 {a b : ℕ} (j : (⟨3, ![1, a, b]⟩ : Shape).Idx) : ∃ (r : Fin a) (k : Fin b), j = ix3 (0 : Fin 1) r k :=
  ⟨j 1, j 2, (eq_ix3 j).trans (congrArg (fun z => ix3 z (j 1) (j 2)) (Subsingleton.elim (α := Fin 1) _ _))⟩

/-- An index lies in a block. -/
theorem mem2 {A B a b x y : ℕ} {off : Fin 2 → ℕ} (i : (⟨2, ![A, B]⟩ : Shape).Idx) (inb : ∀ d, off d + (![a, b] : Fin 2 → ℕ) d ≤ (![A, B] : Fin 2 → ℕ) d)
    (h0 : off 0 = x * a) (h1 : off 1 = y * b) (h : (x * a ≤ (i 0 : ℕ) ∧ (i 0 : ℕ) < x * a + a) ∧ y * b ≤ (i 1 : ℕ) ∧ (i 1 : ℕ) < y * b + b) :
    i ∈ (Rect.unit (s := ⟨2, ![A, B]⟩) off ![a, b] inb).set := by
  rw [Rect.mem_set_unit]
  intro d
  match d with
  | ⟨0, _⟩ => show off 0 ≤ (i 0 : ℕ) ∧ (i 0 : ℕ) < off 0 + a; rw [h0]; exact h.1
  | ⟨1, _⟩ => show off 1 ≤ (i 1 : ℕ) ∧ (i 1 : ℕ) < off 1 + b; rw [h1]; exact h.2

theorem mem3 {A B C a b c x y z : ℕ} {off : Fin 3 → ℕ} (i : (⟨3, ![A, B, C]⟩ : Shape).Idx)
    (inb : ∀ d, off d + (![a, b, c] : Fin 3 → ℕ) d ≤ (![A, B, C] : Fin 3 → ℕ) d) (h0 : off 0 = x * a) (h1 : off 1 = y * b) (h2 : off 2 = z * c)
    (h : (x * a ≤ (i 0 : ℕ) ∧ (i 0 : ℕ) < x * a + a) ∧ (y * b ≤ (i 1 : ℕ) ∧ (i 1 : ℕ) < y * b + b) ∧ z * c ≤ (i 2 : ℕ) ∧ (i 2 : ℕ) < z * c + c) :
    i ∈ (Rect.unit (s := ⟨3, ![A, B, C]⟩) off ![a, b, c] inb).set := by
  rw [Rect.mem_set_unit]
  intro d
  match d with
  | ⟨0, _⟩ => show off 0 ≤ (i 0 : ℕ) ∧ (i 0 : ℕ) < off 0 + a; rw [h0]; exact h.1
  | ⟨1, _⟩ => show off 1 ≤ (i 1 : ℕ) ∧ (i 1 : ℕ) < off 1 + b; rw [h1]; exact h.2.1
  | ⟨2, _⟩ => show off 2 ≤ (i 2 : ℕ) ∧ (i 2 : ℕ) < off 2 + c; rw [h2]; exact h.2.2

/-- A function on `Fin n` continued by zero to all numbers. -/
def ext {n : ℕ} (f : Fin n → EReal) (k : ℕ) : EReal := if h : k < n then f ⟨k, h⟩ else 0

theorem ext_of_lt {n : ℕ} (f : Fin n → EReal) {k : ℕ} (h : k < n) : ext f k = f ⟨k, h⟩ := dif_pos h

/-- The sum over the first numbers is the sum over `Fin n`. -/
theorem sum_ext {n : ℕ} (f : Fin n → EReal) : ∑ k ∈ Finset.range n, ext f k = ∑ k : Fin n, f k := by
  rw [Finset.sum_range]
  exact Finset.sum_congr rfl fun k _ => ext_of_lt f k.isLt

/-- The sum over the rows of the first `t + 1` blocks is the sum over the first `t` blocks and that of block `t`. -/
theorem sum_block {n b : ℕ} (f : Fin n → EReal) (t : ℕ) (h : b * (t + 1) ≤ n) :
    ∑ k ∈ Finset.range (b * (t + 1)), ext f k
      = ∑ k ∈ Finset.range (b * t), ext f k
        + ∑ r : Fin b, f ⟨b * t + r.val, lt_of_lt_of_le (Nat.add_lt_add_left r.isLt _) (by rw [Nat.mul_succ] at h; exact h)⟩ := by
  rw [Nat.mul_succ, Finset.sum_range_add, Finset.sum_range (n := b)]
  exact congrArg _ (Finset.sum_congr rfl fun r _ => ext_of_lt f _)

/-- The word of the float one denotes one. -/
theorem one_word : (Ideal.ofBits .f32 0x3F800000#32 : EReal) = 1 := by
  simp [Ideal.ofBits, Ideal.ieee, -EReal.coe_mul]; norm_num

/-- The word of the float zero denotes zero. -/
theorem zero_word : (Ideal.ofBits .f32 0x00000000#32 : EReal) = 0 := Ideal.ofBits_zero_f32

/-- One divided by one plus the exponential of the negative is the sigmoid. -/
theorem sigmoid_eq (x : EReal) : Ideal.div 1 (1 + Ideal.exp (-x)) = Ideal.logistic x := rfl

/-- A product of matrices at an index, -/
theorem mm_nn {a b K : ℕ} {φ₁ φ₂ : FTy} (d : DotDims ⟨2, ![a, K]⟩ ⟨2, ![K, b]⟩ ⟨2, ![a, b]⟩) (hr : d.contr.rank = 1)
    (hs : d.contr.size ⟨0, by omega⟩ = K) (hlhs : d.lhsContracting = [1]) (hrhs : d.rhsContracting = [0])
    (h0 : ∀ j q, (d.lhsIdx j q 0).val = (j 0).val) (h1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d none lhs rhs (constant ⟨2, ![a, b]⟩ .f32 0x00000000#32) j = ∑ k : Fin K, lhs (ix2 (j 0) k) * rhs (ix2 k (j 1)) := by
  refine (Ideal.matmul_constant_zero_apply d none lhs rhs j).trans ?_
  rw [← Equiv.sum_comp (contrEquiv1 d K hr hs).symm]
  refine Finset.sum_congr rfl fun k _ => ?_
  have hk := contrEquiv1_symm_val d K hr hs k
  generalize (contrEquiv1 d K hr hs).symm k = q at hk ⊢
  have el : d.lhsIdx j q = ix2 (j 0) k := funext fun x => Fin.ext (by
    match x with
    | ⟨0, _⟩ => exact h0 j q
    | ⟨1, _⟩ => exact (d.lhsIdx_val_of_single hlhs j q).trans hk)
  have er : d.rhsIdx j q = ix2 k (j 1) := funext fun x => Fin.ext (by
    match x with
    | ⟨0, _⟩ => exact (d.rhsIdx_val_of_single hrhs j q).trans hk
    | ⟨1, _⟩ => exact h1 j q)
  rw [el, er]
  rfl

/-- a product with a transposed matrix, -/
theorem mm_nt {a b K : ℕ} {φ₁ φ₂ : FTy} (d : DotDims ⟨2, ![a, K]⟩ ⟨2, ![b, K]⟩ ⟨2, ![a, b]⟩) (hr : d.contr.rank = 1)
    (hs : d.contr.size ⟨0, by omega⟩ = K) (hlhs : d.lhsContracting = [1]) (hrhs : d.rhsContracting = [1])
    (h0 : ∀ j q, (d.lhsIdx j q 0).val = (j 0).val) (h1 : ∀ j q, (d.rhsIdx j q 0).val = (j 1).val)
    (lhs : FVec Ideal ⟨2, ![a, K]⟩ φ₁) (rhs : FVec Ideal ⟨2, ![b, K]⟩ φ₂) (j : (⟨2, ![a, b]⟩ : Shape).Idx) :
    FloatOps.matmul d none lhs rhs (constant ⟨2, ![a, b]⟩ .f32 0x00000000#32) j = ∑ k : Fin K, lhs (ix2 (j 0) k) * rhs (ix2 (j 1) k) := by
  refine (Ideal.matmul_constant_zero_apply d none lhs rhs j).trans ?_
  rw [← Equiv.sum_comp (contrEquiv1 d K hr hs).symm]
  refine Finset.sum_congr rfl fun k _ => ?_
  have hk := contrEquiv1_symm_val d K hr hs k
  generalize (contrEquiv1 d K hr hs).symm k = q at hk ⊢
  have el : d.lhsIdx j q = ix2 (j 0) k := funext fun x => Fin.ext (by
    match x with
    | ⟨0, _⟩ => exact h0 j q
    | ⟨1, _⟩ => exact (d.lhsIdx_val_of_single hlhs j q).trans hk)
  have er : d.rhsIdx j q = ix2 (j 1) k := funext fun x => Fin.ext (by
    match x with
    | ⟨0, _⟩ => exact h1 j q
    | ⟨1, _⟩ => exact (d.rhsIdx_val_of_single hrhs j q).trans hk)
  rw [el, er]
  rfl

/-- and a product of a transposed matrix. -/
theorem mm_tn {a b K : ℕ} {φ₁ φ₂ : FTy} (d : DotDims ⟨2, ![K, a]⟩ ⟨2, ![K, b]⟩ ⟨2, ![a, b]⟩) (hr : d.contr.rank = 1)
    (hs : d.contr.size ⟨0, by omega⟩ = K) (hlhs : d.lhsContracting = [0]) (hrhs : d.rhsContracting = [0])
    (h0 : ∀ j q, (d.lhsIdx j q 1).val = (j 0).val) (h1 : ∀ j q, (d.rhsIdx j q 1).val = (j 1).val)
    (lhs : FVec Ideal ⟨2, ![K, a]⟩ φ₁) (rhs : FVec Ideal ⟨2, ![K, b]⟩ φ₂) (j : (⟨2, ![a, b]⟩ : Shape).Idx) :
    FloatOps.matmul d none lhs rhs (constant ⟨2, ![a, b]⟩ .f32 0x00000000#32) j = ∑ k : Fin K, lhs (ix2 k (j 0)) * rhs (ix2 k (j 1)) := by
  refine (Ideal.matmul_constant_zero_apply d none lhs rhs j).trans ?_
  rw [← Equiv.sum_comp (contrEquiv1 d K hr hs).symm]
  refine Finset.sum_congr rfl fun k _ => ?_
  have hk := contrEquiv1_symm_val d K hr hs k
  generalize (contrEquiv1 d K hr hs).symm k = q at hk ⊢
  have el : d.lhsIdx j q = ix2 k (j 0) := funext fun x => Fin.ext (by
    match x with
    | ⟨0, _⟩ => exact (d.lhsIdx_val_of_single hlhs j q).trans hk
    | ⟨1, _⟩ => exact h0 j q)
  have er : d.rhsIdx j q = ix2 k (j 1) := funext fun x => Fin.ext (by
    match x with
    | ⟨0, _⟩ => exact (d.rhsIdx_val_of_single hrhs j q).trans hk
    | ⟨1, _⟩ => exact h1 j q)
  rw [el, er]
  rfl

end Cert.Common

end
-- ==== Proof.GluDots.lean ====
/- The three products of the gate gradient's kernel, read at an index over the extended reals. -/
module

public import proofs.«01_k».proof.GluIdeal
public import proofs.«01_k».proof.Proof.Gen.GluIdeal
public import proofs.«01_k».proof.Proof.Common

@[expose] public section

noncomputable section

namespace Cert.GluIdeal.Hand

open Cert.GluIdeal Cert.GluIdeal.Gen Idealize.ShloMosaic Idealize.ShloMosaic.ValueIdx

/-- A product of a block of rows with a matrix, at an index. -/
theorem rows_mm {φ₁ φ₂ : FTy} (lhs : FVec Ideal S688x1024 φ₁) (rhs : FVec Ideal S1024x1024 φ₂) (j : S688x1024.Idx) :
    matmul dot_S688x1024_S1024x1024_S688x1024_1_0_0_1_n_n none lhs rhs (constant S688x1024 .f32 0x00000000#32) j
      = ∑ k : Fin 1024, lhs (ix2 (j 0) k) * rhs (ix2 k (j 1)) :=
  Common.mm_nn _ rfl rfl rfl rfl (fun _ _ => rfl) (fun _ _ => rfl) lhs rhs j

/-- A product of a block of rows with a transposed matrix, at an index. -/
theorem rows_mm_nt {φ₁ φ₂ : FTy} (lhs : FVec Ideal S688x1024 φ₁) (rhs : FVec Ideal S1024x1024 φ₂) (j : S688x1024.Idx) :
    matmul dot_S688x1024_S1024x1024_S688x1024_1_1_0_0_n_n none lhs rhs (constant S688x1024 .f32 0x00000000#32) j
      = ∑ k : Fin 1024, lhs (ix2 (j 0) k) * rhs (ix2 (j 1) k) :=
  Common.mm_nt _ rfl rfl rfl rfl (fun _ _ => rfl) (fun _ _ => rfl) lhs rhs j

/-- A product of a transposed block of rows with a block of rows, at an index. -/
theorem rows_mm_tn {φ₁ φ₂ : FTy} (lhs : FVec Ideal S688x1024 φ₁) (rhs : FVec Ideal S688x1024 φ₂) (j : S1024x1024.Idx) :
    matmul dot_S688x1024_S688x1024_S1024x1024_0_0_1_1_n_n none lhs rhs (constant S1024x1024 .f32 0x00000000#32) j
      = ∑ k : Fin 688, lhs (ix2 k (j 0)) * rhs (ix2 k (j 1)) :=
  Common.mm_tn _ rfl rfl rfl rfl (fun _ _ => rfl) (fun _ _ => rfl) lhs rhs j

end Cert.GluIdeal.Hand

end
-- ==== Proof.GluValue.lean ====
/- What the gate gradient's kernel leaves in its two results, over the extended reals: the reference's terms. -/
module

public import proofs.«01_k».proof.Proof.GluDots
public import proofs.«01_k».proof.Proof.Gen.GluIdeal.Value
public import proofs.«01_k».proof.Proof.Gen.GluRefIdeal.Read
public import Idealize.ShloMosaic.Lib.Tactic

@[expose] public section

set_option maxRecDepth 16384

noncomputable section

namespace Cert.GluIdeal.Hand

open Cert.GluIdeal Cert.GluIdeal.Gen Idealize.ShloMosaic Idealize.ShloMosaic.TcCoe Idealize.SL.Sem
open Idealize.ShloMosaic.ValueIdx Cert.Common
open Idealize.ShloMosaic.Pipeline (Dat)

section AnyFloat
variable {F : FTy → Type} [FloatOps F]

/-- At the first point the rows' gradient is stored whole … -/
theorem out_A_3 (c : Dev nD) (i : grid0.Coords) (a1 : Memref sig .tc .vmem S688x1024 .bf16) (h1 : a1.IsWhole)
    (a2 : Memref sig .tc .vmem S688x1024 .bf16) (h2 : a2.IsWhole) (a3 : Memref sig .tc .vmem S1024x1024 .bf16) (h3 : a3.IsWhole)
    (a4 : Memref sig .tc .vmem S688x1024 .bf16) (h4 : a4.IsWhole) (a5 : Memref sig .tc .vmem S1024x1024 .f32) (h5 : a5.IsWhole)
    (hc : cond0_0 i) (x y : Vec F S688x1024 .bf16) (w : Vec F S1024x1024 .bf16) :
    out0_A_3 c i a1 h1 a2 h2 a3 h3 a4 h4 a5 h5 hc x y w = k0_pay5 x y w w := by
  unfold out0_A_3
  rw [View.read_writes_eq_canon _ _ _ (cover0_A_3 c i a1 h1 a2 h2 a3 h3 a4 h4 a5 h5 hc x y w)]
  unfold kernelRun0_A
  dsimp only
  rw [View.canon_unit_zero hz]
  simp only [View.readAt_eq_ld, h1.read_unread, h2.read_unread, h3.read_unread, ld2]

/-- … and the matrix's gradient is that of the first rows, added to zero. -/
theorem out_A_4 (c : Dev nD) (i : grid0.Coords) (a1 : Memref sig .tc .vmem S688x1024 .bf16) (h1 : a1.IsWhole)
    (a2 : Memref sig .tc .vmem S688x1024 .bf16) (h2 : a2.IsWhole) (a3 : Memref sig .tc .vmem S1024x1024 .bf16) (h3 : a3.IsWhole)
    (a4 : Memref sig .tc .vmem S688x1024 .bf16) (h4 : a4.IsWhole) (a5 : Memref sig .tc .vmem S1024x1024 .f32) (h5 : a5.IsWhole)
    (hc : cond0_0 i) (x y : Vec F S688x1024 .bf16) (w : Vec F S1024x1024 .bf16) :
    out0_A_4 c i a1 h1 a2 h2 a3 h3 a4 h4 a5 h5 hc x y w = k0_pay6 x y w k0_pay1 := by
  unfold out0_A_4
  rw [View.read_writes_eq_canon _ _ _ (cover0_A_4 c i a1 h1 a2 h2 a3 h3 a4 h4 a5 h5 hc x y w)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, ld2]

/-- At a later point the rows' gradient is stored whole … -/
theorem out_B_3 (c : Dev nD) (i : grid0.Coords) (a1 : Memref sig .tc .vmem S688x1024 .bf16) (h1 : a1.IsWhole)
    (a2 : Memref sig .tc .vmem S688x1024 .bf16) (h2 : a2.IsWhole) (a3 : Memref sig .tc .vmem S1024x1024 .bf16) (h3 : a3.IsWhole)
    (a4 : Memref sig .tc .vmem S688x1024 .bf16) (h4 : a4.IsWhole) (a5 : Memref sig .tc .vmem S1024x1024 .f32) (h5 : a5.IsWhole)
    (hc : ¬cond0_0 i) (x y : Vec F S688x1024 .bf16) (w : Vec F S1024x1024 .bf16) (o : Vec F S1024x1024 .f32) :
    out0_B_3 c i a1 h1 a2 h2 a3 h3 a4 h4 a5 h5 hc x y w o = k0_pay5 x y w w := by
  unfold out0_B_3
  rw [View.read_writes_eq_canon _ _ _ (cover0_B_3 c i a1 h1 a2 h2 a3 h3 a4 h4 a5 h5 hc x y w o)]
  unfold kernelRun0_B
  dsimp only
  rw [View.canon_unit_zero hz]
  simp only [View.readAt_eq_ld, h1.read_unread, h2.read_unread, h3.read_unread, ld2]

/-- … and the matrix's gradient of these rows is added to what the points before left. -/
theorem out_B_4 (c : Dev nD) (i : grid0.Coords) (a1 : Memref sig .tc .vmem S688x1024 .bf16) (h1 : a1.IsWhole)
    (a2 : Memref sig .tc .vmem S688x1024 .bf16) (h2 : a2.IsWhole) (a3 : Memref sig .tc .vmem S1024x1024 .bf16) (h3 : a3.IsWhole)
    (a4 : Memref sig .tc .vmem S688x1024 .bf16) (h4 : a4.IsWhole) (a5 : Memref sig .tc .vmem S1024x1024 .f32) (h5 : a5.IsWhole)
    (hc : ¬cond0_0 i) (x y : Vec F S688x1024 .bf16) (w : Vec F S1024x1024 .bf16) (o : Vec F S1024x1024 .f32) :
    out0_B_4 c i a1 h1 a2 h2 a3 h3 a4 h4 a5 h5 hc x y w o = k0_pay6 x y w o := by
  unfold out0_B_4
  rw [View.read_writes_eq_canon _ _ _ (cover0_B_4 c i a1 h1 a2 h2 a3 h3 a4 h4 a5 h5 hc x y w o)]
  unfold kernelRun0_B
  dsimp only
  rw [View.canon_unit_zero hz]
  simp only [View.readAt_eq_ld, h1.read_unread, h2.read_unread, h3.read_unread, h5.read_unread, ld2]

end AnyFloat

variable (m : (ℓ : Loc nD τ sig) → Buf (Elt Ideal) ℓ) (c : Dev nD)

/-- The gate's input, the gradient of its output and the matrix. -/
abbrev X : (⟨S8256x1024, .bf16⟩ : BufTy).Contents (Elt Ideal) := m ((c.tc : Thread nD τ).loc main_arg0)
abbrev DY : (⟨S8256x1024, .bf16⟩ : BufTy).Contents (Elt Ideal) := m ((c.tc : Thread nD τ).loc main_arg1)
abbrev Wm : (⟨S1024x1024, .f32⟩ : BufTy).Contents (Elt Ideal) := m ((c.tc : Thread nD τ).loc main_arg2)

/-- The region finds the matrix unchanged by the host's cast. -/
theorem V_w : (V m c main_v0 : S1024x1024.Idx → EReal) = Wm m c := by
  unfold V
  after_results
  rfl

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem N12 : cfg0.N = 12 := N_0

/-- Row `r` of block `t`. -/
abbrev row (t : Fin cfg0.N) (r : Fin 688) : Fin 8256 :=
  ⟨688 * t.val + r.val, by have := t.isLt; have := r.isLt; have := N12; omega⟩

theorem blk_x (t : Fin cfg0.N) (r : Fin 688) (k : Fin 1024) :
    (iblk m c 0 t : Vec Ideal S688x1024 .bf16) (ix2 r k) = X m c (ix2 (row t r) k) := by
  obtain ⟨h0, h1, -⟩ := idx_facts t
  unfold iblk
  rw [View.read_apply]
  show V m c main_arg0 _ = _
  rw [V_main_arg0]
  congr 1
  funext a
  apply Fin.ext
  match a with
  | ⟨0, _⟩ => show win0_0.index t 0 * 688 + 1 * r.val = 688 * t.val + r.val; omega
  | ⟨1, _⟩ => show win0_0.index t 1 * 1024 + 1 * k.val = k.val; omega

theorem blk_y (t : Fin cfg0.N) (r : Fin 688) (k : Fin 1024) :
    (iblk m c 1 t : Vec Ideal S688x1024 .bf16) (ix2 r k) = DY m c (ix2 (row t r) k) := by
  obtain ⟨-, -, h0, h1, -⟩ := idx_facts t
  unfold iblk
  rw [View.read_apply]
  show V m c main_arg1 _ = _
  rw [V_main_arg1]
  congr 1
  funext a
  apply Fin.ext
  match a with
  | ⟨0, _⟩ => show win0_1.index t 0 * 688 + 1 * r.val = 688 * t.val + r.val; omega
  | ⟨1, _⟩ => show win0_1.index t 1 * 1024 + 1 * k.val = k.val; omega

theorem blk_w (t : Fin cfg0.N) (k n : Fin 1024) :
    (iblk m c 2 t : Vec Ideal S1024x1024 .bf16) (ix2 k n) = Wm m c (ix2 k n) := by
  obtain ⟨-, -, -, -, h0, h1, -⟩ := idx_facts t
  unfold iblk
  rw [View.read_apply]
  show (V m c main_v0 : S1024x1024.Idx → EReal) _ = _
  rw [V_w]
  congr 1
  funext a
  apply Fin.ext
  match a with
  | ⟨0, _⟩ => show win0_2.index t 0 * 1024 + 1 * k.val = k.val; omega
  | ⟨1, _⟩ => show win0_2.index t 1 * 1024 + 1 * n.val = n.val; omega

open Cert.GluRefIdeal.Read in
/-- The reference's gate is the sigmoid of the row's product with the matrix. -/
theorem ref_gate (a : Fin 8256) (n : Fin 1024) :
    val_main_v7 (F := Ideal) (X m c) (Wm m c) (ix2 a n)
      = Ideal.logistic (∑ k : Fin 1024, X m c (ix2 a k) * Wm m c (ix2 k n)) := by
  rw [val_main_v7_apply, val_main_v6_apply, val_main_cst_0_apply, val_main_v5_apply, val_main_v4_apply, val_main_cst_apply,
    val_main_v3_apply, val_main_v2_apply, val_main_v1_apply]
  simp only [Ideal.ofBits_def, one_word]
  refine (congrArg (fun z => Ideal.logistic z) (Finset.sum_congr rfl fun k _ => ?_))
  have e1 : lidx_main_v1 (ix2 a n) k = ix2 a k := funext fun b => by match b with | ⟨0, _⟩ => rfl | ⟨1, _⟩ => rfl
  have e2 : ridx_main_v1 (ix2 a n) k = ix2 k n := funext fun b => by match b with | ⟨0, _⟩ => rfl | ⟨1, _⟩ => rfl
  rw [e1, e2]
  rfl

open Cert.GluRefIdeal.Read in
/-- The kernel's gate at a row of a block is the reference's. -/
theorem gate_eq (t : Fin cfg0.N) (r : Fin 688) (n : Fin 1024) :
    (k0_pay3 (iblk m c 0 t) (iblk m c 2 t) : S688x1024.Idx → EReal) (ix2 r n)
      = val_main_v7 (F := Ideal) (X m c) (Wm m c) (ix2 (row t r) n) := by
  rw [ref_gate]
  unfold k0_pay3
  dsimp only
  rw [shapeCast_self]
  show Ideal.logistic (matmul (F := Ideal) _ none _ _ _ (ix2 r n)) = _
  rw [rows_mm]
  refine congrArg Ideal.logistic (Finset.sum_congr rfl fun k _ => ?_)
  exact congrArg₂ (· * ·) (blk_x m c t r k) (blk_w m c t k n)

open Cert.GluRefIdeal.Read in
/-- The kernel's gradient of the gate's argument at a row of a block is the reference's. -/
theorem dt_eq (t : Fin cfg0.N) (r : Fin 688) (n : Fin 1024) :
    (k0_pay4 (iblk m c 0 t) (iblk m c 1 t) (iblk m c 2 t) : S688x1024.Idx → EReal) (ix2 r n)
      = val_main_v15 (F := Ideal) (X m c) (DY m c) (Wm m c) (ix2 (row t r) n) := by
  rw [val_main_v15_apply, val_main_v13_apply, val_main_v10_apply, val_main_v9_apply, val_main_v8_apply, val_main_cst_1_apply,
    val_main_v0_apply, val_main_v12_apply, ← gate_eq]
  unfold k0_pay4 k0_pay2
  dsimp only
  have hx : FloatOps.extf (F := Ideal) .f32 bitsLt_bf16_f32 (X m c (ix2 (row t r) n))
      = (iblk m c 0 t : Vec Ideal S688x1024 .bf16) (ix2 r n) := (blk_x m c t r n).symm
  have hy : FloatOps.extf (F := Ideal) .f32 bitsLt_bf16_f32 (DY m c (ix2 (row t r) n))
      = (iblk m c 1 t : Vec Ideal S688x1024 .bf16) (ix2 r n) := (blk_y m c t r n).symm
  rw [hx, hy]
  show ((_ : EReal) * _ * _) * (Ideal.ofBits .f32 0x3F800000#32 - _) = (_ * _) * (_ * (Ideal.ofBits .f32 0x3F800000#32 - _))
  rw [mul_assoc]
  exact congrArg₂ (· * ·) (mul_comm (G := EReal) _ _) rfl

open Cert.GluRefIdeal.Read in
/-- So is what the kernel stores for the rows of block `t`. -/
theorem rows_eq (t : Fin cfg0.N) (r : Fin 688) (k : Fin 1024) :
    (k0_pay5 (iblk m c 0 t) (iblk m c 1 t) (iblk m c 2 t) (iblk m c 2 t) : S688x1024.Idx → EReal) (ix2 r k)
      = val_main_v20 (F := Ideal) (X m c) (DY m c) (Wm m c) (ix2 (row t r) k) := by
  rw [val_main_v20_apply, val_main_v19_apply, val_main_v14_apply, val_main_v18_apply, val_main_v12_apply, ← gate_eq]
  unfold k0_pay5 k0_pay2
  dsimp only
  rw [shapeCast_self]
  have hy : FloatOps.extf (F := Ideal) .f32 bitsLt_bf16_f32 (DY m c (ix2 (row t r) k))
      = (iblk m c 1 t : Vec Ideal S688x1024 .bf16) (ix2 r k) := (blk_y m c t r k).symm
  rw [hy]
  show ((_ : EReal) * _ + matmul (F := Ideal) _ none _ _ _ (ix2 r k)) = _ * _ + _
  rw [rows_mm_nt]
  refine congrArg₂ (· + ·) rfl (Finset.sum_congr rfl fun n _ => ?_)
  have e1 : lidx_main_v18 (ix2 (row t r) k) n = ix2 (row t r) n := funext fun b => by match b with | ⟨0, _⟩ => rfl | ⟨1, _⟩ => rfl
  have e2 : ridx_main_v18 (ix2 (row t r) k) n = ix2 k n := funext fun b => by match b with | ⟨0, _⟩ => rfl | ⟨1, _⟩ => rfl
  rw [e1, e2]
  exact congrArg₂ (· * ·) (dt_eq m c t r n) (blk_w m c t k n)

/-- The product of a column of the gate's input with a column of the gradient of the gate's argument, at one row. -/
abbrev term (k n : Fin 1024) (a : Fin 8256) : EReal :=
  X m c (ix2 a k) * Cert.GluRefIdeal.Read.val_main_v15 (F := Ideal) (X m c) (DY m c) (Wm m c) (ix2 a n)

/-- Block `t` adds its rows' terms to the matrix's gradient. -/
theorem acc_eq (t : Fin cfg0.N) (o : Vec Ideal S1024x1024 .f32) (k n : Fin 1024) :
    (k0_pay6 (iblk m c 0 t) (iblk m c 1 t) (iblk m c 2 t) o : S1024x1024.Idx → EReal) (ix2 k n)
      = o (ix2 k n) + ∑ r : Fin 688, term m c k n (row t r) := by
  unfold k0_pay6
  rw [shapeCast_self]
  show (o (ix2 k n) + matmul (F := Ideal) _ none _ _ _ (ix2 k n) : EReal) = _
  rw [rows_mm_tn]
  refine congrArg₂ (· + ·) rfl (Finset.sum_congr rfl fun r _ => ?_)
  exact congrArg₂ (· * ·) (blk_x m c t r k) (dt_eq m c t r n)

/-- After point `t` the second result's buffer holds the terms of the rows up to the end of block `t`. -/
theorem outs_snd (k n : Fin 1024) : ∀ (t : ℕ) (ht : t < cfg0.N),
    ((outsAt0 m c t ht).2 : S1024x1024.Idx → EReal) (ix2 k n) = ∑ a ∈ Finset.range (688 * (t + 1)), ext (term m c k n) a
  | 0, ht => by
    rw [outsAt0_A m c ⟨0, ht⟩ rfl, sum_block _ 0 (by decide)]
    dsimp only
    rw [out_A_4]
    refine (acc_eq m c ⟨0, ht⟩ _ k n).trans ?_
    refine congrArg₂ (· + ·) ?_ (Finset.sum_congr rfl fun r _ => rfl)
    exact (zero_word).trans (by simp)
  | t + 1, ht => by
    have h : ¬(⟨t + 1, ht⟩ : Fin cfg0.N).val % 12 = 0 := by have := N12; dsimp only; omega
    rw [outsAt0_B m c ⟨t + 1, ht⟩ h, sum_block _ (t + 1) (by have := N12; omega)]
    dsimp only
    rw [out_B_4]
    refine (acc_eq m c ⟨t + 1, ht⟩ _ k n).trans ?_
    exact congrArg₂ (· + ·) (outs_snd k n t (Nat.lt_of_succ_lt ht)) (Finset.sum_congr rfl fun r _ => rfl)

/-- What every point leaves for its rows. -/
theorem outs_fst (t : Fin cfg0.N) :
    (outsAt0 m c t.val t.isLt).1 = k0_pay5 (iblk m c 0 t) (iblk m c 1 t) (iblk m c 2 t) (iblk m c 2 t) := by
  by_cases h0 : t.val % 12 = 0
  · rw [outsAt0_A m c t h0]; dsimp only; rw [out_A_3]
  · rw [outsAt0_B m c t h0]; dsimp only; rw [out_B_3]

/-- Reading the first result's block `t` out of an array. -/
theorem read_3 (G : S8256x1024.Idx → EReal) (t : Fin cfg0.N) (r : Fin 688) (k : Fin 1024) :
    (((cfg0.win 3).blk t).view.read (Elt Ideal) G : S688x1024.Idx → EReal) (ix2 r k) = G (ix2 (row t r) k) := by
  obtain ⟨-, -, -, -, -, -, h0, h1, -⟩ := idx_facts t
  refine congrArg G (funext fun a => Fin.ext ?_)
  match a with
  | ⟨0, _⟩ => show win0_3.index t 0 * 688 + 1 * r.val = 688 * t.val + r.val; omega
  | ⟨1, _⟩ => show win0_3.index t 1 * 1024 + 1 * k.val = k.val; omega

/-- Reading the second result's block, which is the whole array. -/
theorem read_4 (G : S1024x1024.Idx → EReal) (t : Fin cfg0.N) (k n : Fin 1024) :
    (((cfg0.win 4).blk t).view.read (Elt Ideal) G : S1024x1024.Idx → EReal) (ix2 k n) = G (ix2 k n) := by
  obtain ⟨-, -, -, -, -, -, -, -, h0, h1⟩ := idx_facts t
  refine congrArg G (funext fun a => Fin.ext ?_)
  match a with
  | ⟨0, _⟩ => show win0_4.index t 0 * 1024 + 1 * k.val = k.val; omega
  | ⟨1, _⟩ => show win0_4.index t 1 * 1024 + 1 * n.val = n.val; omega

/-- Every row of the first result lies in a block. -/
theorem cover_3 (i : S8256x1024.Idx) : ∃ t : Fin cfg0.N, (cfg0.win 3).flush t = true ∧ i ∈ ((View.whole main_v1_0).slice (win0_3.rect t)).set := by
  have hi0 : (i 0 : Nat) < 8256 := (i 0).isLt
  have hi1 : (i 1 : Nat) < 1024 := (i 1).isLt
  have hN := N12
  obtain ⟨-, -, -, -, -, -, h0, h1, -⟩ := idx_facts ⟨(i 0 : Nat) / 688, by omega⟩
  refine ⟨⟨(i 0 : Nat) / 688, by omega⟩, (by decide +kernel : ∀ t : Fin grid0.N, (cfg0.win 3).flush t = true) _, ?_⟩
  rw [View.set_slice_whole, Rect.mem_set_unit]
  intro a
  match a with
  | ⟨0, _⟩ => show win0_3.index _ 0 * 688 ≤ (i 0 : Nat) ∧ (i 0 : Nat) < win0_3.index _ 0 * 688 + 688; rw [h0]; dsimp only; omega
  | ⟨1, _⟩ => show win0_3.index _ 1 * 1024 ≤ (i 1 : Nat) ∧ (i 1 : Nat) < win0_3.index _ 1 * 1024 + 1024; rw [h1]; omega

/-- The last point writes the whole second result. -/
theorem cover_4 (i : S1024x1024.Idx) : ∃ t : Fin cfg0.N, (cfg0.win 4).flush t = true ∧ i ∈ ((View.whole main_v1_1).slice (win0_4.rect t)).set := by
  have hi0 : (i 0 : Nat) < 1024 := (i 0).isLt
  have hi1 : (i 1 : Nat) < 1024 := (i 1).isLt
  obtain ⟨t, ht⟩ := (by decide +kernel : ∃ t : Fin grid0.N, (cfg0.win 4).flush t = true)
  obtain ⟨-, -, -, -, -, -, -, -, h0, h1⟩ := idx_facts t
  refine ⟨t, ht, ?_⟩
  rw [View.set_slice_whole, Rect.mem_set_unit]
  intro a
  match a with
  | ⟨0, _⟩ => show win0_4.index _ 0 * 1024 ≤ (i 0 : Nat) ∧ (i 0 : Nat) < win0_4.index _ 0 * 1024 + 1024; rw [h0]; omega
  | ⟨1, _⟩ => show win0_4.index _ 1 * 1024 ≤ (i 1 : Nat) ∧ (i 1 : Nat) < win0_4.index _ 1 * 1024 + 1024; rw [h1]; omega

open Cert.GluRefIdeal.Read in
/-- The first result after the run. -/
theorem final_3 : (dats m 0 c).arrAt 3 cfg0.N = val_main_v20 (F := Ideal) (X m c) (DY m c) (Wm m c) :=
  (dats m 0 c).arrAt_eq_of_cover 3 _ (fun t _ => by
    rw [Value.flushed3, outs_fst]
    generalize hG : val_main_v20 (F := Ideal) (X m c) (DY m c) (Wm m c) = G
    funext j
    obtain ⟨r, k, rfl⟩ := split2 j
    exact (rows_eq m c t r k).trans ((congrFun hG _).trans (read_3 G t r k).symm)) cover_3

open Cert.GluRefIdeal.Read in
/-- The reference's gradient of the matrix, as a sum over the rows. -/
theorem ref_dw (k n : Fin 1024) :
    val_main_v17 (F := Ideal) (X m c) (DY m c) (Wm m c) (ix2 k n) = ∑ a : Fin 8256, term m c k n a := by
  rw [val_main_v17_apply, val_main_v16_apply]
  refine Finset.sum_congr rfl fun a _ => ?_
  have e1 : lidx_main_v16 (idx_main_v17 (ix2 k n)) a = ix2 a n := funext fun b => by match b with | ⟨0, _⟩ => rfl | ⟨1, _⟩ => rfl
  have e2 : ridx_main_v16 (idx_main_v17 (ix2 k n)) a = ix2 a k := funext fun b => by match b with | ⟨0, _⟩ => rfl | ⟨1, _⟩ => rfl
  rw [e1, e2, mul_comm]
  rfl

open Cert.GluRefIdeal.Read in
/-- The second result after the run. -/
theorem final_4 : (dats m 0 c).arrAt 4 cfg0.N = val_main_v17 (F := Ideal) (X m c) (DY m c) (Wm m c) :=
  (dats m 0 c).arrAt_eq_of_cover 4 _ (fun t hf => by
    have ht : t.val = 11 := (by decide +kernel : ∀ t : Fin grid0.N, (cfg0.win 4).flush t = true → t.val = 11) t hf
    rw [Value.flushed4]
    have hG := ref_dw m c
    generalize val_main_v17 (F := Ideal) (X m c) (DY m c) (Wm m c) = G at hG
    funext j
    obtain ⟨k, n, rfl⟩ : ∃ (k n : Fin 1024), j = ix2 k n := ⟨j 0, j 1, eq_ix2 j⟩
    refine (outs_snd m c k n t.val t.isLt).trans (Eq.trans ?_ (read_4 G t k n).symm)
    rw [ht, hG]
    exact sum_ext (term m c k n)) cover_4

open Cert.GluRefIdeal.Read in
/-- THE RUN: both results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = val_main_v20 (F := Ideal) (X m c) (DY m c) (Wm m c)
      ∧ r.2.mem ((c : Thread nD τ).loc main_v1_1) = val_main_v17 (F := Ideal) (X m c) (DY m c) (Wm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final_3 m c), ((h c).2.1).trans (final_4 m c), (h c).2.2⟩)
    (Value.run_blocks m ρ)

end Cert.GluIdeal.Hand

end
-- ==== Proof.GluClaim.lean ====
/- The claim about the gradient of the gate: kernel and reference end with equal results over the extended reals. -/
module

public import proofs.«01_k».proof.Defs
public import proofs.«01_k».proof.Proof.GluValue
public import proofs.«01_k».proof.Proof.Gen.GluRefIdeal.Run

@[expose] public section

noncomputable section

namespace Cert

open Idealize.ShloMosaic Idealize.SL.Sem

/-- The gate gradient's kernel computes what the reference computes: the rows' gradient and the matrix's. -/
theorem glu_algebraic : algebraic_GluIdeal_GluRefIdeal (hGluIdeal := GluIdeal.Gen.facts) (hGluRefIdeal := GluRefIdeal.Gen.facts) := by
  intro m g m' g' _ h
  refine ⟨_, _, GluIdeal.Hand.run m g, ?_⟩
  refine (θ_run GluRefIdeal.defs _ _).mono (fun r hr c => ?_) (GluRefIdeal.Value.run m' g')
  obtain ⟨h0, h1, h2⟩ := h c
  obtain ⟨r0, r1, k⟩ := hr c
  refine ⟨r0.trans ?_, r1.trans ?_, k⟩
  · rw [h0, h1, h2]
    exact GluRefIdeal.Read.val_main_v20_eq ..
  · rw [h0, h1, h2]
    exact GluRefIdeal.Read.val_main_v17_eq ..

end Cert

end
-- ==== Proof.MergeOuts.lean ====
/- What one point of the merge gradient's kernel stores, in any arithmetic; and its two products over the extended reals. -/
module

public import proofs.«01_k».proof.Proof.Common
public import proofs.«01_k».proof.Proof.Gen.MergeIdeal.Frame
public import Idealize.ShloMosaic.Lib.Pipeline.Value
public import Idealize.ShloMosaic.Lib.Tactic

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.ValueIdx Cert.Common
open Idealize.ShloMosaic.Pipeline (Dat)

section AnyFloat
variable {F : FTy → Type} [FloatOps F]

section Stores
variable (c : Dev nD) (i : grid0.Coords) (a1 : Memref sig .tc .vmem S688x1024 .bf16) (ha1 : a1.IsWhole)
    (a2 : Memref sig .tc .vmem S688x1024 .f32) (ha2 : a2.IsWhole) (a3 : Memref sig .tc .vmem S1024x1024 .bf16)
    (ha3 : a3.IsWhole) (a4 : Memref sig .tc .vmem S688x1024 .bf16) (ha4 : a4.IsWhole)
    (a5 : Memref sig .tc .vmem S688x1024 .bf16) (ha5 : a5.IsWhole) (a6 : Memref sig .tc .vmem S688x1024 .bf16)
    (ha6 : a6.IsWhole) (a7 : Memref sig .tc .vmem S688x1024 .bf16) (ha7 : a7.IsWhole)
    (a8 : Memref sig .tc .vmem S688x1024 .bf16) (ha8 : a8.IsWhole) (a9 : Memref sig .tc .vmem S688x1024 .bf16)
    (ha9 : a9.IsWhole) (a10 : Memref sig .tc .vmem S688x1024 .bf16) (ha10 : a10.IsWhole)
    (a11 : Memref sig .tc .vmem S688x1024 .bf16) (ha11 : a11.IsWhole)
    (a12 : Memref sig .tc .vmem S1024x1024 .f32) (ha12 : a12.IsWhole)
variable (x0 : Vec F S688x1024 .bf16) (x1 : Vec F S688x1024 .f32) (x2 : Vec F S1024x1024 .bf16) (x3 : Vec F S688x1024 .bf16)
    (x4 : Vec F S688x1024 .bf16) (x5 : Vec F S688x1024 .bf16) (x6 : Vec F S688x1024 .bf16)
    (xo11 : Vec F S1024x1024 .f32)

/-- What a first point stores as the first branch's gradient. -/
theorem out_A_7 (hc0 : cond0_0 i) :
    out0_A_7 c i a1 ha1 a2 ha2 a3 ha3 a4 ha4 a5 ha5 a6 ha6 a7 ha7 a8 ha8 a9 ha9 a10 ha10 a11 ha11 a12 ha12 hc0 x0 x1 x2 x3 x4 x5 x6 = k0_pay1 (k0_pay7 x1 x2) (k0_pay10 x5) := by
  unfold out0_A_7
  refine Eq.trans (View.read_writes_eq_canon _ _ _ (fun y => cover0_A_7 (y := y) ..)) ?_
  unfold kernelRun0_A
  dsimp only
  sl_unfold_words
  rw [View.canon_unit_zero hz]
  simp only [View.readAt_eq_ld, Memref.IsWhole.read_unread, ld2]

/-- What a first point stores as the second branch's gradient. -/
theorem out_A_8 (hc0 : cond0_0 i) :
    out0_A_8 c i a1 ha1 a2 ha2 a3 ha3 a4 ha4 a5 ha5 a6 ha6 a7 ha7 a8 ha8 a9 ha9 a10 ha10 a11 ha11 a12 ha12 hc0 x0 x1 x2 x3 x4 x5 x6 = k0_pay2 (k0_pay14 x1 x2 x6) := by
  unfold out0_A_8
  refine Eq.trans (View.read_writes_eq_canon _ _ _ (fun y => cover0_A_8 (y := y) ..)) ?_
  unfold kernelRun0_A
  dsimp only
  sl_unfold_words
  rw [View.canon_unit_zero hz]
  simp only [View.readAt_eq_ld, Memref.IsWhole.read_unread, ld2]

/-- What a first point stores as the gradient of the first branch's gate. -/
theorem out_A_9 (hc0 : cond0_0 i) :
    out0_A_9 c i a1 ha1 a2 ha2 a3 ha3 a4 ha4 a5 ha5 a6 ha6 a7 ha7 a8 ha8 a9 ha9 a10 ha10 a11 ha11 a12 ha12 hc0 x0 x1 x2 x3 x4 x5 x6 = k0_pay3 (k0_pay7 x1 x2) (k0_pay8 x3) (k0_pay11 x5) := by
  unfold out0_A_9
  refine Eq.trans (View.read_writes_eq_canon _ _ _ (fun y => cover0_A_9 (y := y) ..)) ?_
  unfold kernelRun0_A
  dsimp only
  sl_unfold_words
  rw [View.canon_unit_zero hz]
  simp only [View.readAt_eq_ld, Memref.IsWhole.read_unread, ld2]

/-- What a first point stores as the gradient of the second branch's gate. -/
theorem out_A_10 (hc0 : cond0_0 i) :
    out0_A_10 c i a1 ha1 a2 ha2 a3 ha3 a4 ha4 a5 ha5 a6 ha6 a7 ha7 a8 ha8 a9 ha9 a10 ha10 a11 ha11 a12 ha12 hc0 x0 x1 x2 x3 x4 x5 x6 = k0_pay4 (k0_pay7 x1 x2) (k0_pay9 x4) (k0_pay13 x6) := by
  unfold out0_A_10
  refine Eq.trans (View.read_writes_eq_canon _ _ _ (fun y => cover0_A_10 (y := y) ..)) ?_
  unfold kernelRun0_A
  dsimp only
  sl_unfold_words
  rw [View.canon_unit_zero hz]
  simp only [View.readAt_eq_ld, Memref.IsWhole.read_unread, ld2]

/-- What a later point stores as the first branch's gradient. -/
theorem out_B_7 (hc0 : ¬cond0_0 i) :
    out0_B_7 c i a1 ha1 a2 ha2 a3 ha3 a4 ha4 a5 ha5 a6 ha6 a7 ha7 a8 ha8 a9 ha9 a10 ha10 a11 ha11 a12 ha12 hc0 x0 x1 x2 x3 x4 x5 x6 xo11 = k0_pay1 (k0_pay7 x1 x2) (k0_pay10 x5) := by
  unfold out0_B_7
  refine Eq.trans (View.read_writes_eq_canon _ _ _ (fun y => cover0_B_7 (y := y) ..)) ?_
  unfold kernelRun0_B
  dsimp only
  sl_unfold_words
  rw [View.canon_unit_zero hz]
  simp only [View.readAt_eq_ld, Memref.IsWhole.read_unread, ld2]

/-- What a later point stores as the second branch's gradient. -/
theorem out_B_8 (hc0 : ¬cond0_0 i) :
    out0_B_8 c i a1 ha1 a2 ha2 a3 ha3 a4 ha4 a5 ha5 a6 ha6 a7 ha7 a8 ha8 a9 ha9 a10 ha10 a11 ha11 a12 ha12 hc0 x0 x1 x2 x3 x4 x5 x6 xo11 = k0_pay2 (k0_pay14 x1 x2 x6) := by
  unfold out0_B_8
  refine Eq.trans (View.read_writes_eq_canon _ _ _ (fun y => cover0_B_8 (y := y) ..)) ?_
  unfold kernelRun0_B
  dsimp only
  sl_unfold_words
  rw [View.canon_unit_zero hz]
  simp only [View.readAt_eq_ld, Memref.IsWhole.read_unread, ld2]

/-- What a later point stores as the gradient of the first branch's gate. -/
theorem out_B_9 (hc0 : ¬cond0_0 i) :
    out0_B_9 c i a1 ha1 a2 ha2 a3 ha3 a4 ha4 a5 ha5 a6 ha6 a7 ha7 a8 ha8 a9 ha9 a10 ha10 a11 ha11 a12 ha12 hc0 x0 x1 x2 x3 x4 x5 x6 xo11 = k0_pay3 (k0_pay7 x1 x2) (k0_pay8 x3) (k0_pay11 x5) := by
  unfold out0_B_9
  refine Eq.trans (View.read_writes_eq_canon _ _ _ (fun y => cover0_B_9 (y := y) ..)) ?_
  unfold kernelRun0_B
  dsimp only
  sl_unfold_words
  rw [View.canon_unit_zero hz]
  simp only [View.readAt_eq_ld, Memref.IsWhole.read_unread, ld2]

/-- What a later point stores as the gradient of the second branch's gate. -/
theorem out_B_10 (hc0 : ¬cond0_0 i) :
    out0_B_10 c i a1 ha1 a2 ha2 a3 ha3 a4 ha4 a5 ha5 a6 ha6 a7 ha7 a8 ha8 a9 ha9 a10 ha10 a11 ha11 a12 ha12 hc0 x0 x1 x2 x3 x4 x5 x6 xo11 = k0_pay4 (k0_pay7 x1 x2) (k0_pay9 x4) (k0_pay13 x6) := by
  unfold out0_B_10
  refine Eq.trans (View.read_writes_eq_canon _ _ _ (fun y => cover0_B_10 (y := y) ..)) ?_
  unfold kernelRun0_B
  dsimp only
  sl_unfold_words
  rw [View.canon_unit_zero hz]
  simp only [View.readAt_eq_ld, Memref.IsWhole.read_unread, ld2]

/-- The first point adds its rows' share of the matrix's gradient to zero. -/
theorem out_A_11 (hc0 : cond0_0 i) :
    out0_A_11 c i a1 ha1 a2 ha2 a3 ha3 a4 ha4 a5 ha5 a6 ha6 a7 ha7 a8 ha8 a9 ha9 a10 ha10 a11 ha11 a12 ha12 hc0 x0 x1 x2 x3 x4 x5 x6 = k0_pay6 x1 k0_pay5 x0 := by
  unfold out0_A_11
  refine Eq.trans (View.read_writes_eq_canon _ _ _ (fun y => cover0_A_11 (y := y) ..)) ?_
  unfold kernelRun0_A
  dsimp only
  sl_unfold_words
  rw [View.canon_cons_unit_zero (S := S1024x1024) hz, View.readCov_unit_zero (S := S1024x1024) _ hz]
  simp only [View.readAt_eq_ld, Memref.IsWhole.read_unread, ld2]

/-- A later point adds its rows' share to what the points before left. -/
theorem out_B_11 (hc0 : ¬cond0_0 i) :
    out0_B_11 c i a1 ha1 a2 ha2 a3 ha3 a4 ha4 a5 ha5 a6 ha6 a7 ha7 a8 ha8 a9 ha9 a10 ha10 a11 ha11 a12 ha12 hc0 x0 x1 x2 x3 x4 x5 x6 xo11 = k0_pay6 x1 xo11 x0 := by
  unfold out0_B_11
  refine Eq.trans (View.read_writes_eq_canon _ _ _ (fun y => cover0_B_11 (y := y) ..)) ?_
  unfold kernelRun0_B
  dsimp only
  sl_unfold_words
  rw [View.canon_unit_zero hz]
  simp only [View.readAt_eq_ld, Memref.IsWhole.read_unread, ld2]

end Stores

end AnyFloat

/-- A product of a block of rows with a transposed matrix, at an index. -/
theorem rows_mm_nt {φ₁ φ₂ : FTy} (lhs : FVec Ideal S688x1024 φ₁) (rhs : FVec Ideal S1024x1024 φ₂) (j : S688x1024.Idx) :
    matmul dot_S688x1024_S1024x1024_S688x1024_1_1_0_0_n_n none lhs rhs (constant S688x1024 .f32 0x00000000#32) j
      = ∑ k : Fin 1024, lhs (ix2 (j 0) k) * rhs (ix2 (j 1) k) :=
  Common.mm_nt _ rfl rfl rfl rfl (fun _ _ => rfl) (fun _ _ => rfl) lhs rhs j

/-- A product of a transposed block of rows with a block of rows, at an index. -/
theorem rows_mm_tn {φ₁ φ₂ : FTy} (lhs : FVec Ideal S688x1024 φ₁) (rhs : FVec Ideal S688x1024 φ₂) (j : S1024x1024.Idx) :
    matmul dot_S688x1024_S688x1024_S1024x1024_0_0_1_1_n_n none lhs rhs (constant S1024x1024 .f32 0x00000000#32) j
      = ∑ k : Fin 688, lhs (ix2 k (j 0)) * rhs (ix2 k (j 1)) :=
  Common.mm_tn _ rfl rfl rfl rfl (fun _ _ => rfl) (fun _ _ => rfl) lhs rhs j

end Cert.MergeIdeal.Hand

end
-- ==== Proof.MergeBlocks.lean ====
/- The blocks of the merge gradient's kernel, read at an index. -/
module

public import proofs.«01_k».proof.Proof.Common
public import proofs.«01_k».proof.Proof.Gen.MergeIdeal.Frame
public import proofs.«01_k».proof.Proof.Gen.MergeRefIdeal.Read
public import Idealize.ShloMosaic.Lib.Tactic

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.ValueIdx Cert.Common
open Idealize.ShloMosaic.Pipeline (Dat)

open Cert.MergeRefIdeal.Read (val_main_v25)

variable (m : (ℓ : Loc nD τ sig) → Buf (Elt Ideal) ℓ) (c : Dev nD)

/-- The two branches, the projection that holds the gates, the matrix and the gradient of the output. -/
abbrev A : (⟨S8256x1024, .bf16⟩ : BufTy).Contents (Elt Ideal) := m ((c.tc : Thread nD τ).loc main_arg0)
abbrev B : (⟨S8256x1024, .bf16⟩ : BufTy).Contents (Elt Ideal) := m ((c.tc : Thread nD τ).loc main_arg1)
abbrev P : (⟨S8256x7168, .bf16⟩ : BufTy).Contents (Elt Ideal) := m ((c.tc : Thread nD τ).loc main_arg2)
abbrev Wm : (⟨S1024x1024, .f32⟩ : BufTy).Contents (Elt Ideal) := m ((c.tc : Thread nD τ).loc main_arg3)
abbrev DH : (⟨S8256x1024, .f32⟩ : BufTy).Contents (Elt Ideal) := m ((c.tc : Thread nD τ).loc main_arg4)

/-- The region finds the merged value that the reference's forward lines give. -/
theorem V_mg : (V m c main_v20 : S8256x1024.Idx → EReal) = val_main_v25 (F := Ideal) (A m c) (B m c) (P m c) := by
  unfold V
  after_results_simp
  rfl

/-- The region finds the matrix unchanged by the host's cast. -/
theorem V_w : (V m c main_v21 : S1024x1024.Idx → EReal) = Wm m c := by
  unfold V
  after_results
  rfl

theorem N_eq : cfg0.N = 12 := N_0

/-- Row `r` of block `t`. -/
abbrev row (t : Fin cfg0.N) (r : Fin 688) : Fin 8256 :=
  ⟨688 * t.val + r.val, by have := t.isLt; have := r.isLt; have := N_eq; omega⟩

/-- Column `k` of the part of the projection that begins at `o`. -/
abbrev col (o : ℕ) (ho : o + 1024 ≤ 7168) (k : Fin 1024) : Fin 7168 := ⟨o + k.val, by have := k.isLt; omega⟩

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 2) = t.val ∧ win0_1.index t (1 : Fin 2) = 0 :=
  (by decide +kernel : ∀ t : Fin grid0.N, _)

theorem idx_3 : ∀ t : Fin cfg0.N, win0_3.index t (0 : Fin 2) = t.val ∧ win0_3.index t (1 : Fin 2) = 0 :=
  (by decide +kernel : ∀ t : Fin grid0.N, _)

theorem idx_4 : ∀ t : Fin cfg0.N, win0_4.index t (0 : Fin 2) = t.val ∧ win0_4.index t (1 : Fin 2) = 0 :=
  (by decide +kernel : ∀ t : Fin grid0.N, _)

theorem idx_7 : ∀ t : Fin cfg0.N, win0_7.index t (0 : Fin 2) = t.val ∧ win0_7.index t (1 : Fin 2) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

theorem idx_11 : ∀ t : Fin cfg0.N, win0_11.index t (0 : Fin 2) = 0 ∧ win0_11.index t (1 : Fin 2) = 0 :=
  (by decide +kernel : ∀ t : Fin grid0.N, _)

theorem idx_5 : ∀ t : Fin cfg0.N, win0_5.index t (0 : Fin 2) = t.val ∧ win0_5.index t (1 : Fin 2) = 5 :=
  (by decide +kernel : ∀ t : Fin grid0.N, _)

theorem idx_6 : ∀ t : Fin cfg0.N, win0_6.index t (0 : Fin 2) = t.val ∧ win0_6.index t (1 : Fin 2) = 6 :=
  (by decide +kernel : ∀ t : Fin grid0.N, _)

/-- A block of the merged value. -/
theorem blk_mg (t : Fin cfg0.N) (r : Fin 688) (k : Fin 1024) :
    (iblk m c 0 t : Vec Ideal S688x1024 .bf16) (ix2 r k) = val_main_v25 (F := Ideal) (A m c) (B m c) (P m c) (ix2 (row t r) k) := by
  obtain ⟨h0, h1⟩ := idx_0 t
  unfold iblk
  rw [View.read_apply]
  show (V m c main_v20 : S8256x1024.Idx → EReal) _ = _
  rw [V_mg]
  congr 1
  funext a
  apply Fin.ext
  match a with
  | ⟨0, _⟩ => show win0_0.index t 0 * 688 + 1 * r.val = 688 * t.val + r.val; omega
  | ⟨1, _⟩ => show win0_0.index t 1 * 1024 + 1 * k.val = k.val; omega

/-- A block of the gradient of the output. -/
theorem blk_dh (t : Fin cfg0.N) (r : Fin 688) (k : Fin 1024) :
    (iblk m c 1 t : Vec Ideal S688x1024 .f32) (ix2 r k) = DH m c (ix2 (row t r) k) := by
  obtain ⟨h0, h1⟩ := idx_1 t
  unfold iblk
  rw [View.read_apply]
  show (V m c main_arg4 : S8256x1024.Idx → EReal) _ = _
  rw [V_main_arg4]
  congr 1
  funext a
  apply Fin.ext
  match a with
  | ⟨0, _⟩ => show win0_1.index t 0 * 688 + 1 * r.val = 688 * t.val + r.val; omega
  | ⟨1, _⟩ => show win0_1.index t 1 * 1024 + 1 * k.val = k.val; omega

/-- The matrix. -/
theorem blk_w (t : Fin cfg0.N) (k : Fin 1024) (n : Fin 1024) :
    (iblk m c 2 t : Vec Ideal S1024x1024 .bf16) (ix2 k n) = Wm m c (ix2 k n) := by
  obtain ⟨h0, h1⟩ := idx_2 t
  unfold iblk
  rw [View.read_apply]
  show (V m c main_v21 : S1024x1024.Idx → EReal) _ = _
  rw [V_w]
  congr 1
  funext a
  apply Fin.ext
  match a with
  | ⟨0, _⟩ => show win0_2.index t 0 * 1024 + 1 * k.val = k.val; omega
  | ⟨1, _⟩ => show win0_2.index t 1 * 1024 + 1 * n.val = n.val; omega

/-- A block of the first branch. -/
theorem blk_a (t : Fin cfg0.N) (r : Fin 688) (k : Fin 1024) :
    (iblk m c 3 t : Vec Ideal S688x1024 .bf16) (ix2 r k) = A m c (ix2 (row t r) k) := by
  obtain ⟨h0, h1⟩ := idx_3 t
  unfold iblk
  rw [View.read_apply]
  show (V m c main_arg0 : S8256x1024.Idx → EReal) _ = _
  rw [V_main_arg0]
  congr 1
  funext a
  apply Fin.ext
  match a with
  | ⟨0, _⟩ => show win0_3.index t 0 * 688 + 1 * r.val = 688 * t.val + r.val; omega
  | ⟨1, _⟩ => show win0_3.index t 1 * 1024 + 1 * k.val = k.val; omega

/-- A block of the second branch. -/
theorem blk_b (t : Fin cfg0.N) (r : Fin 688) (k : Fin 1024) :
    (iblk m c 4 t : Vec Ideal S688x1024 .bf16) (ix2 r k) = B m c (ix2 (row t r) k) := by
  obtain ⟨h0, h1⟩ := idx_4 t
  unfold iblk
  rw [View.read_apply]
  show (V m c main_arg1 : S8256x1024.Idx → EReal) _ = _
  rw [V_main_arg1]
  congr 1
  funext a
  apply Fin.ext
  match a with
  | ⟨0, _⟩ => show win0_4.index t 0 * 688 + 1 * r.val = 688 * t.val + r.val; omega
  | ⟨1, _⟩ => show win0_4.index t 1 * 1024 + 1 * k.val = k.val; omega

/-- A block of the first branch's gate. -/
theorem blk_p5 (t : Fin cfg0.N) (r : Fin 688) (k : Fin 1024) :
    (iblk m c 5 t : Vec Ideal S688x1024 .bf16) (ix2 r k) = P m c (ix2 (row t r) (col 5120 (by decide) k)) := by
  obtain ⟨h0, h1⟩ := idx_5 t
  unfold iblk
  rw [View.read_apply]
  show (V m c main_arg2 : S8256x7168.Idx → EReal) _ = _
  rw [V_main_arg2]
  congr 1
  funext a
  apply Fin.ext
  match a with
  | ⟨0, _⟩ => show win0_5.index t 0 * 688 + 1 * r.val = 688 * t.val + r.val; omega
  | ⟨1, _⟩ => show win0_5.index t 1 * 1024 + 1 * k.val = 5120 + k.val; omega

/-- A block of the second branch's gate. -/
theorem blk_p6 (t : Fin cfg0.N) (r : Fin 688) (k : Fin 1024) :
    (iblk m c 6 t : Vec Ideal S688x1024 .bf16) (ix2 r k) = P m c (ix2 (row t r) (col 6144 (by decide) k)) := by
  obtain ⟨h0, h1⟩ := idx_6 t
  unfold iblk
  rw [View.read_apply]
  show (V m c main_arg2 : S8256x7168.Idx → EReal) _ = _
  rw [V_main_arg2]
  congr 1
  funext a
  apply Fin.ext
  match a with
  | ⟨0, _⟩ => show win0_6.index t 0 * 688 + 1 * r.val = 688 * t.val + r.val; omega
  | ⟨1, _⟩ => show win0_6.index t 1 * 1024 + 1 * k.val = 6144 + k.val; omega

/-- Reading a block of rows out of an array. -/
theorem read_7 (G : S8256x1024.Idx → EReal) (t : Fin cfg0.N) (r : Fin 688) (k : Fin 1024) :
    (((cfg0.win 7).blk t).view.read (Elt Ideal) G : S688x1024.Idx → EReal) (ix2 r k) = G (ix2 (row t r) k) := by
  obtain ⟨h0, h1⟩ := idx_7 t
  refine congrArg G (funext fun a => Fin.ext ?_)
  match a with
  | ⟨0, _⟩ => show win0_7.index t 0 * 688 + 1 * r.val = 688 * t.val + r.val; omega
  | ⟨1, _⟩ => show win0_7.index t 1 * 1024 + 1 * k.val = k.val; omega

/-- Every row lies in a block. -/
theorem cover_7 (i : S8256x1024.Idx) : ∃ t : Fin cfg0.N, (cfg0.win 7).flush t = true ∧ i ∈ ((View.whole main_v22_0).slice (win0_7.rect t)).set := by
  have hi0 : (i 0 : Nat) < 8256 := (i 0).isLt
  have hi1 : (i 1 : Nat) < 1024 := (i 1).isLt
  have hN := N_eq
  obtain ⟨t, ht⟩ : ∃ t : Fin cfg0.N, t.val = (i 0 : Nat) / 688 := ⟨⟨_, by omega⟩, rfl⟩
  obtain ⟨h0, h1⟩ := idx_7 t
  refine ⟨t, (by decide +kernel : ∀ t : Fin grid0.N, (cfg0.win 7).flush t = true) t, ?_⟩
  rw [View.set_slice_whole]
  exact mem2 i _ (congrArg (· * 688) h0) (congrArg (· * 1024) h1) (by omega)

/-- Reading a block of rows out of an array. -/
theorem read_8 (G : S8256x1024.Idx → EReal) (t : Fin cfg0.N) (r : Fin 688) (k : Fin 1024) :
    (((cfg0.win 8).blk t).view.read (Elt Ideal) G : S688x1024.Idx → EReal) (ix2 r k) = G (ix2 (row t r) k) := read_7 G t r k

/-- Every row lies in a block. -/
theorem cover_8 (i : S8256x1024.Idx) : ∃ t : Fin cfg0.N, (cfg0.win 8).flush t = true ∧ i ∈ ((View.whole main_v22_1).slice (win0_8.rect t)).set :=
  (cover_7 i).imp fun t h => ⟨(by decide +kernel : ∀ t : Fin grid0.N, (cfg0.win 8).flush t = true) t, h.2⟩

/-- Reading a block of rows out of an array. -/
theorem read_9 (G : S8256x1024.Idx → EReal) (t : Fin cfg0.N) (r : Fin 688) (k : Fin 1024) :
    (((cfg0.win 9).blk t).view.read (Elt Ideal) G : S688x1024.Idx → EReal) (ix2 r k) = G (ix2 (row t r) k) := read_7 G t r k

/-- Every row lies in a block. -/
theorem cover_9 (i : S8256x1024.Idx) : ∃ t : Fin cfg0.N, (cfg0.win 9).flush t = true ∧ i ∈ ((View.whole main_v22_2).slice (win0_9.rect t)).set :=
  (cover_7 i).imp fun t h => ⟨(by decide +kernel : ∀ t : Fin grid0.N, (cfg0.win 9).flush t = true) t, h.2⟩

/-- Reading a block of rows out of an array. -/
theorem read_10 (G : S8256x1024.Idx → EReal) (t : Fin cfg0.N) (r : Fin 688) (k : Fin 1024) :
    (((cfg0.win 10).blk t).view.read (Elt Ideal) G : S688x1024.Idx → EReal) (ix2 r k) = G (ix2 (row t r) k) := read_7 G t r k

/-- Every row lies in a block. -/
theorem cover_10 (i : S8256x1024.Idx) : ∃ t : Fin cfg0.N, (cfg0.win 10).flush t = true ∧ i ∈ ((View.whole main_v22_3).slice (win0_10.rect t)).set :=
  (cover_7 i).imp fun t h => ⟨(by decide +kernel : ∀ t : Fin grid0.N, (cfg0.win 10).flush t = true) t, h.2⟩

/-- Reading the whole matrix. -/
theorem read_11 (G : S1024x1024.Idx → EReal) (t : Fin cfg0.N) (k : Fin 1024) (n : Fin 1024) :
    (((cfg0.win 11).blk t).view.read (Elt Ideal) G : S1024x1024.Idx → EReal) (ix2 k n) = G (ix2 k n) := by
  obtain ⟨h0, h1⟩ := idx_11 t
  refine congrArg G (funext fun a => Fin.ext ?_)
  match a with
  | ⟨0, _⟩ => show win0_11.index t 0 * 1024 + 1 * k.val = k.val; omega
  | ⟨1, _⟩ => show win0_11.index t 1 * 1024 + 1 * n.val = n.val; omega

/-- The last point writes the whole matrix. -/
theorem cover_11 (i : S1024x1024.Idx) : ∃ t : Fin cfg0.N, (cfg0.win 11).flush t = true ∧ i ∈ ((View.whole main_v22_4).slice (win0_11.rect t)).set := by
  have hi0 : (i 0 : Nat) < 1024 := (i 0).isLt
  have hi1 : (i 1 : Nat) < 1024 := (i 1).isLt
  have hN := N_eq
  obtain ⟨t, ht⟩ : ∃ t : Fin cfg0.N, t.val = 11 := ⟨⟨_, by omega⟩, rfl⟩
  obtain ⟨h0, h1⟩ := idx_11 t
  refine ⟨t, (by decide +kernel : ∀ t : Fin grid0.N, t.val = 11 → (cfg0.win 11).flush t = true) t ht, ?_⟩
  rw [View.set_slice_whole]
  exact mem2 i _ (congrArg (· * 1024) h0) (congrArg (· * 1024) h1) (by omega)

end Cert.MergeIdeal.Hand

end
-- ==== Proof.MergeValue.lean ====
/- What the merge gradient's kernel leaves in its results, over the extended reals: the reference's terms. -/
module

public import proofs.«01_k».proof.Proof.MergeOuts
public import proofs.«01_k».proof.Proof.MergeBlocks
public import proofs.«01_k».proof.Proof.Gen.MergeIdeal.Value
public import Idealize.ShloMosaic.Lib.KernelVsHost

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.ValueIdx Cert.Common Cert.MergeRefIdeal.Read
open Idealize.ShloMosaic.Pipeline (Dat)

variable (m : (ℓ : Loc nD τ sig) → Buf (Elt Ideal) ℓ) (c : Dev nD)

/-- The gradient of the merged value: a row's product with the transposed matrix. -/
theorem dm_eq (t : Fin cfg0.N) (r : Fin 688) (k : Fin 1024) :
    (k0_pay7 (iblk m c 1 t) (iblk m c 2 t) : S688x1024.Idx → EReal) (ix2 r k)
      = val_main_v29 (F := Ideal) (Wm m c) (DH m c) (ix2 (row t r) k) := by
  rw [val_main_v29_apply]
  unfold k0_pay7
  dsimp only
  rw [shapeCast_self, rows_mm_nt]
  refine Finset.sum_congr rfl fun n _ => ?_
  have e1 : lidx_main_v29 (ix2 (row t r) k) n = ix2 (row t r) n := funext fun b => by match b with | ⟨0, _⟩ => rfl | ⟨1, _⟩ => rfl
  have e2 : ridx_main_v29 (ix2 (row t r) k) n = ix2 k n := funext fun b => by match b with | ⟨0, _⟩ => rfl | ⟨1, _⟩ => rfl
  rw [e1, e2]
  exact congrArg₂ (· * ·) (blk_dh m c t r n) (blk_w m c t k n)

/-- The reference's gate of a branch is the sigmoid of its column of the projection. -/
theorem ref_gate5 (a : Fin 8256) (k : Fin 1024) :
    val_main_v9 (F := Ideal) (P m c) (ix2 a k) = Ideal.logistic (P m c (ix2 a (col 5120 (by decide) k))) := by
  rw [val_main_v9_apply, val_main_v8_apply, val_main_cst_0_apply, val_main_v7_apply, val_main_v6_apply, val_main_cst_apply, val_main_v5_apply, val_main_v4_apply, val_main_v3_apply, val_main_v2_apply]
  simp only [Ideal.ofBits_def, one_word]
  have e : idx_main_v3 (ix2 a k) = ix2 a (col 5120 (by decide) k) := funext fun b => by match b with | ⟨0, _⟩ => rfl | ⟨1, _⟩ => rfl
  rw [e]
  rfl

/-- The kernel's gate is the reference's. -/
theorem gate5 (t : Fin cfg0.N) (r : Fin 688) (k : Fin 1024) :
    (k0_pay10 (iblk m c 5 t) : S688x1024.Idx → EReal) (ix2 r k) = val_main_v9 (F := Ideal) (P m c) (ix2 (row t r) k) := by
  rw [ref_gate5]
  exact congrArg Ideal.logistic (blk_p5 m c t r k)

/-- The gate times one minus the gate. -/
theorem slope5 (t : Fin cfg0.N) (r : Fin 688) (k : Fin 1024) :
    (k0_pay11 (iblk m c 5 t) : S688x1024.Idx → EReal) (ix2 r k) = val_main_v12 (F := Ideal) (P m c) (ix2 (row t r) k) := by
  rw [val_main_v12_apply, val_main_v11_apply, val_main_v10_apply, val_main_cst_1_apply, ← gate5]
  rfl

/-- The reference's gate of a branch is the sigmoid of its column of the projection. -/
theorem ref_gate6 (a : Fin 8256) (k : Fin 1024) :
    val_main_v20 (F := Ideal) (P m c) (ix2 a k) = Ideal.logistic (P m c (ix2 a (col 6144 (by decide) k))) := by
  rw [val_main_v20_apply, val_main_v19_apply, val_main_cst_3_apply, val_main_v18_apply, val_main_v17_apply, val_main_cst_2_apply, val_main_v16_apply, val_main_v15_apply, val_main_v14_apply, val_main_v2_apply]
  simp only [Ideal.ofBits_def, one_word]
  have e : idx_main_v14 (ix2 a k) = ix2 a (col 6144 (by decide) k) := funext fun b => by match b with | ⟨0, _⟩ => rfl | ⟨1, _⟩ => rfl
  rw [e]
  rfl

/-- The kernel's gate is the reference's. -/
theorem gate6 (t : Fin cfg0.N) (r : Fin 688) (k : Fin 1024) :
    (k0_pay12 (iblk m c 6 t) : S688x1024.Idx → EReal) (ix2 r k) = val_main_v20 (F := Ideal) (P m c) (ix2 (row t r) k) := by
  rw [ref_gate6]
  exact congrArg Ideal.logistic (blk_p6 m c t r k)

/-- The gate times one minus the gate. -/
theorem slope6 (t : Fin cfg0.N) (r : Fin 688) (k : Fin 1024) :
    (k0_pay13 (iblk m c 6 t) : S688x1024.Idx → EReal) (ix2 r k) = val_main_v23 (F := Ideal) (P m c) (ix2 (row t r) k) := by
  rw [val_main_v23_apply, val_main_v22_apply, val_main_v21_apply, val_main_cst_4_apply, ← gate6]
  rfl

/-- Off its columns the padded gradient of a gate is zero, and on them it is the gradient. -/
theorem pad_b_off (a : Fin 8256) (k : Fin 1024) :
    val_main_v33 (F := Ideal) (B m c) (P m c) (Wm m c) (DH m c) (ix2 a (col 5120 (by decide) k)) = (0 : EReal) := by
  unfold val_main_v33
  generalize val_main_v32 (F := Ideal) (B m c) (P m c) (Wm m c) (DH m c) = y
  refine (pad_apply_of_not_inside _ _ _ y _ _ _ _ (1 : Fin 2) ?_).trans ?_
  · rintro ⟨h, -⟩
    have h' : 6144 ≤ 5120 + k.val := h
    have := k.isLt
    omega
  · rw [val_main_cst_5_apply]; exact zero_word

theorem pad_b_on (a : Fin 8256) (k : Fin 1024) :
    val_main_v33 (F := Ideal) (B m c) (P m c) (Wm m c) (DH m c) (ix2 a (col 6144 (by decide) k))
      = val_main_v32 (F := Ideal) (B m c) (P m c) (Wm m c) (DH m c) (ix2 a k) := by
  unfold val_main_v33
  generalize val_main_v32 (F := Ideal) (B m c) (P m c) (Wm m c) (DH m c) = y
  refine pad_apply_of_inside _ _ _ y _ _ _ _ _ fun b => ?_
  match b with
  | ⟨0, _⟩ => show a.val = 0 + a.val * (0 + 1); omega
  | ⟨1, _⟩ => show 6144 + k.val = 6144 + k.val * (0 + 1); omega

theorem pad_a_off (a : Fin 8256) (k : Fin 1024) :
    val_main_v37 (F := Ideal) (A m c) (P m c) (Wm m c) (DH m c) (ix2 a (col 6144 (by decide) k)) = (0 : EReal) := by
  unfold val_main_v37
  generalize val_main_v36 (F := Ideal) (A m c) (P m c) (Wm m c) (DH m c) = y
  refine (pad_apply_of_not_inside _ _ _ y _ _ _ _ (1 : Fin 2) ?_).trans ?_
  · rintro ⟨-, -, h⟩
    have h' : (6144 + k.val - 5120) / (0 + 1) < 1024 := h
    omega
  · rw [val_main_cst_6_apply]; exact zero_word

theorem pad_a_on (a : Fin 8256) (k : Fin 1024) :
    val_main_v37 (F := Ideal) (A m c) (P m c) (Wm m c) (DH m c) (ix2 a (col 5120 (by decide) k))
      = val_main_v36 (F := Ideal) (A m c) (P m c) (Wm m c) (DH m c) (ix2 a k) := by
  unfold val_main_v37
  generalize val_main_v36 (F := Ideal) (A m c) (P m c) (Wm m c) (DH m c) = y
  refine pad_apply_of_inside _ _ _ y _ _ _ _ _ fun b => ?_
  match b with
  | ⟨0, _⟩ => show a.val = 0 + a.val * (0 + 1); omega
  | ⟨1, _⟩ => show 5120 + k.val = 5120 + k.val * (0 + 1); omega

/-- The reference's gradients of the two gates, without the padding. -/
theorem ref_42 (a : Fin 8256) (k : Fin 1024) :
    val_main_v42 (F := Ideal) (A m c) (B m c) (P m c) (Wm m c) (DH m c) (ix2 a k)
      = val_main_v36 (F := Ideal) (A m c) (P m c) (Wm m c) (DH m c) (ix2 a k) := by
  have e : idx_main_v42 (ix2 a k) = ix2 a (col 5120 (by decide) k) := funext fun b => by match b with | ⟨0, _⟩ => rfl | ⟨1, _⟩ => rfl
  rw [val_main_v42_apply, val_main_v39_apply, val_main_v38_apply, e, pad_b_off, pad_a_on]
  exact zero_add _

theorem ref_43 (a : Fin 8256) (k : Fin 1024) :
    val_main_v43 (F := Ideal) (A m c) (B m c) (P m c) (Wm m c) (DH m c) (ix2 a k)
      = val_main_v32 (F := Ideal) (B m c) (P m c) (Wm m c) (DH m c) (ix2 a k) := by
  have e : idx_main_v43 (ix2 a k) = ix2 a (col 6144 (by decide) k) := funext fun b => by match b with | ⟨0, _⟩ => rfl | ⟨1, _⟩ => rfl
  rw [val_main_v43_apply, val_main_v39_apply, val_main_v38_apply, e, pad_b_on, pad_a_off]
  exact add_zero _

/-- What a point stores for its rows of the four gradients is the reference's. -/
theorem rows_7 (t : Fin cfg0.N) (r : Fin 688) (k : Fin 1024) :
    (k0_pay1 (k0_pay7 (iblk m c 1 t) (iblk m c 2 t)) (k0_pay10 (iblk m c 5 t)) : S688x1024.Idx → EReal) (ix2 r k)
      = val_main_v41 (F := Ideal) (P m c) (Wm m c) (DH m c) (ix2 (row t r) k) := by
  rw [val_main_v41_apply, val_main_v34_apply, ← gate5, ← dm_eq]
  rfl

theorem rows_8 (t : Fin cfg0.N) (r : Fin 688) (k : Fin 1024) :
    (k0_pay2 (k0_pay14 (iblk m c 1 t) (iblk m c 2 t) (iblk m c 6 t)) : S688x1024.Idx → EReal) (ix2 r k)
      = val_main_v40 (F := Ideal) (P m c) (Wm m c) (DH m c) (ix2 (row t r) k) := by
  rw [val_main_v40_apply, val_main_v30_apply, ← gate6, ← dm_eq]
  rfl

theorem rows_9 (t : Fin cfg0.N) (r : Fin 688) (k : Fin 1024) :
    (k0_pay3 (k0_pay7 (iblk m c 1 t) (iblk m c 2 t)) (k0_pay8 (iblk m c 3 t)) (k0_pay11 (iblk m c 5 t)) : S688x1024.Idx → EReal) (ix2 r k)
      = val_main_v42 (F := Ideal) (A m c) (B m c) (P m c) (Wm m c) (DH m c) (ix2 (row t r) k) := by
  have hx : FloatOps.extf (F := Ideal) .f32 bitsLt_bf16_f32 (A m c (ix2 (row t r) k))
      = (iblk m c 3 t : Vec Ideal S688x1024 .bf16) (ix2 r k) := (blk_a m c t r k).symm
  rw [ref_42, val_main_v36_apply, val_main_v35_apply, val_main_v0_apply, ← slope5, ← dm_eq, hx]
  rfl

theorem rows_10 (t : Fin cfg0.N) (r : Fin 688) (k : Fin 1024) :
    (k0_pay4 (k0_pay7 (iblk m c 1 t) (iblk m c 2 t)) (k0_pay9 (iblk m c 4 t)) (k0_pay13 (iblk m c 6 t)) : S688x1024.Idx → EReal) (ix2 r k)
      = val_main_v43 (F := Ideal) (A m c) (B m c) (P m c) (Wm m c) (DH m c) (ix2 (row t r) k) := by
  have hx : FloatOps.extf (F := Ideal) .f32 bitsLt_bf16_f32 (B m c (ix2 (row t r) k))
      = (iblk m c 4 t : Vec Ideal S688x1024 .bf16) (ix2 r k) := (blk_b m c t r k).symm
  rw [ref_43, val_main_v32_apply, val_main_v31_apply, val_main_v1_apply, ← slope6, ← dm_eq, hx]
  rfl

/-- The product of the merged value with the gradient of the output at one row. -/
abbrev term (k n : Fin 1024) (a : Fin 8256) : EReal :=
  val_main_v25 (F := Ideal) (A m c) (B m c) (P m c) (ix2 a k) * DH m c (ix2 a n)

/-- Block `t` adds its rows' terms to the matrix's gradient. -/
theorem acc_eq (t : Fin cfg0.N) (o : Vec Ideal S1024x1024 .f32) (k n : Fin 1024) :
    (k0_pay6 (iblk m c 1 t) o (iblk m c 0 t) : S1024x1024.Idx → EReal) (ix2 k n)
      = o (ix2 k n) + ∑ r : Fin 688, term m c k n (row t r) := by
  unfold k0_pay6
  rw [shapeCast_self, shapeCast_self]
  show (o (ix2 k n) + matmul (F := Ideal) _ none _ _ _ (ix2 k n) : EReal) = _
  rw [rows_mm_tn]
  refine congrArg₂ (· + ·) rfl (Finset.sum_congr rfl fun r _ => ?_)
  exact congrArg₂ (· * ·) (blk_mg m c t r k) (blk_dh m c t r n)

/-- After point `t` the last result's buffer holds the terms of the rows up to the end of block `t`. -/
theorem outs_acc (k n : Fin 1024) : ∀ (t : ℕ) (ht : t < cfg0.N),
    ((outsAt0 m c t ht).2.2.2.2 : S1024x1024.Idx → EReal) (ix2 k n) = ∑ a ∈ Finset.range (688 * (t + 1)), ext (term m c k n) a
  | 0, ht => by
    rw [outsAt0_A m c ⟨0, ht⟩ rfl, sum_block _ 0 (by decide)]
    dsimp only
    rw [out_A_11]
    refine (acc_eq m c ⟨0, ht⟩ _ k n).trans ?_
    refine congrArg₂ (· + ·) ?_ (Finset.sum_congr rfl fun r _ => rfl)
    exact (zero_word).trans (by simp)
  | t + 1, ht => by
    have h : ¬(⟨t + 1, ht⟩ : Fin cfg0.N).val % 12 = 0 := by have := N_eq; dsimp only; omega
    rw [outsAt0_B m c ⟨t + 1, ht⟩ h, sum_block _ (t + 1) (by have := N_eq; omega)]
    dsimp only
    rw [out_B_11]
    refine (acc_eq m c ⟨t + 1, ht⟩ _ k n).trans ?_
    exact congrArg₂ (· + ·) (outs_acc k n t (Nat.lt_of_succ_lt ht)) (Finset.sum_congr rfl fun r _ => rfl)

/-- The reference's gradient of the matrix, as a sum over the rows. -/
theorem ref_dw (k n : Fin 1024) :
    val_main_v28 (F := Ideal) (A m c) (B m c) (P m c) (DH m c) (ix2 k n) = ∑ a : Fin 8256, term m c k n a := by
  rw [val_main_v28_apply, val_main_v27_apply]
  refine Finset.sum_congr rfl fun a _ => ?_
  have e1 : lidx_main_v27 (idx_main_v28 (ix2 k n)) a = ix2 a n := funext fun b => by match b with | ⟨0, _⟩ => rfl | ⟨1, _⟩ => rfl
  have e2 : ridx_main_v27 (idx_main_v28 (ix2 k n)) a = ix2 a k := funext fun b => by match b with | ⟨0, _⟩ => rfl | ⟨1, _⟩ => rfl
  rw [e1, e2, mul_comm]

/-- Result 0 after the run. -/
theorem final_7 : (dats m 0 c).arrAt 7 cfg0.N = val_main_v41 (F := Ideal) (P m c) (Wm m c) (DH m c) :=
  (dats m 0 c).arrAt_eq_of_cover 7 _ (fun t _ => by
    have ho : (outsAt0 m c t.val t.isLt).1 = k0_pay1 (k0_pay7 (iblk m c 1 t) (iblk m c 2 t)) (k0_pay10 (iblk m c 5 t)) := by
      by_cases h0 : t.val % 12 = 0
      · rw [outsAt0_A m c t h0]; dsimp only; rw [out_A_7]
      · rw [outsAt0_B m c t h0]; dsimp only; rw [out_B_7]
    rw [Value.flushed7, ho]
    generalize hG : val_main_v41 (F := Ideal) (P m c) (Wm m c) (DH m c) = G
    funext j
    obtain ⟨r, k, rfl⟩ := split2 j
    exact (rows_7 m c t r k).trans ((congrFun hG _).trans (read_7 G t r k).symm)) cover_7

/-- Result 1 after the run. -/
theorem final_8 : (dats m 0 c).arrAt 8 cfg0.N = val_main_v40 (F := Ideal) (P m c) (Wm m c) (DH m c) :=
  (dats m 0 c).arrAt_eq_of_cover 8 _ (fun t _ => by
    have ho : (outsAt0 m c t.val t.isLt).2.1 = k0_pay2 (k0_pay14 (iblk m c 1 t) (iblk m c 2 t) (iblk m c 6 t)) := by
      by_cases h0 : t.val % 12 = 0
      · rw [outsAt0_A m c t h0]; dsimp only; rw [out_A_8]
      · rw [outsAt0_B m c t h0]; dsimp only; rw [out_B_8]
    rw [Value.flushed8, ho]
    generalize hG : val_main_v40 (F := Ideal) (P m c) (Wm m c) (DH m c) = G
    funext j
    obtain ⟨r, k, rfl⟩ := split2 j
    exact (rows_8 m c t r k).trans ((congrFun hG _).trans (read_8 G t r k).symm)) cover_8

/-- Result 2 after the run. -/
theorem final_9 : (dats m 0 c).arrAt 9 cfg0.N = val_main_v42 (F := Ideal) (A m c) (B m c) (P m c) (Wm m c) (DH m c) :=
  (dats m 0 c).arrAt_eq_of_cover 9 _ (fun t _ => by
    have ho : (outsAt0 m c t.val t.isLt).2.2.1 = k0_pay3 (k0_pay7 (iblk m c 1 t) (iblk m c 2 t)) (k0_pay8 (iblk m c 3 t)) (k0_pay11 (iblk m c 5 t)) := by
      by_cases h0 : t.val % 12 = 0
      · rw [outsAt0_A m c t h0]; dsimp only; rw [out_A_9]
      · rw [outsAt0_B m c t h0]; dsimp only; rw [out_B_9]
    rw [Value.flushed9, ho]
    generalize hG : val_main_v42 (F := Ideal) (A m c) (B m c) (P m c) (Wm m c) (DH m c) = G
    funext j
    obtain ⟨r, k, rfl⟩ := split2 j
    exact (rows_9 m c t r k).trans ((congrFun hG _).trans (read_9 G t r k).symm)) cover_9

/-- Result 3 after the run. -/
theorem final_10 : (dats m 0 c).arrAt 10 cfg0.N = val_main_v43 (F := Ideal) (A m c) (B m c) (P m c) (Wm m c) (DH m c) :=
  (dats m 0 c).arrAt_eq_of_cover 10 _ (fun t _ => by
    have ho : (outsAt0 m c t.val t.isLt).2.2.2.1 = k0_pay4 (k0_pay7 (iblk m c 1 t) (iblk m c 2 t)) (k0_pay9 (iblk m c 4 t)) (k0_pay13 (iblk m c 6 t)) := by
      by_cases h0 : t.val % 12 = 0
      · rw [outsAt0_A m c t h0]; dsimp only; rw [out_A_10]
      · rw [outsAt0_B m c t h0]; dsimp only; rw [out_B_10]
    rw [Value.flushed10, ho]
    generalize hG : val_main_v43 (F := Ideal) (A m c) (B m c) (P m c) (Wm m c) (DH m c) = G
    funext j
    obtain ⟨r, k, rfl⟩ := split2 j
    exact (rows_10 m c t r k).trans ((congrFun hG _).trans (read_10 G t r k).symm)) cover_10

/-- The last result after the run. -/
theorem final_11 : (dats m 0 c).arrAt 11 cfg0.N = val_main_v28 (F := Ideal) (A m c) (B m c) (P m c) (DH m c) :=
  (dats m 0 c).arrAt_eq_of_cover 11 _ (fun t hf => by
    have ht : t.val = 11 := (by decide +kernel : ∀ t : Fin grid0.N, (cfg0.win 11).flush t = true → t.val = 11) t hf
    rw [Value.flushed11]
    have hG := ref_dw m c
    generalize val_main_v28 (F := Ideal) (A m c) (B m c) (P m c) (DH m c) = G at hG
    funext j
    obtain ⟨k, n, rfl⟩ : ∃ (k n : Fin 1024), j = ix2 k n := ⟨j 0, j 1, eq_ix2 j⟩
    refine (outs_acc m c k n t.val t.isLt).trans (Eq.trans ?_ (read_11 G t k n).symm)
    rw [ht, hG]
    exact sum_ext (term m c k n)) cover_11

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v22_0) = val_main_v41 (F := Ideal) (P m c) (Wm m c) (DH m c)
      ∧ r.2.mem ((c : Thread nD τ).loc main_v22_1) = val_main_v40 (F := Ideal) (P m c) (Wm m c) (DH m c)
      ∧ r.2.mem ((c : Thread nD τ).loc main_v22_2) = val_main_v42 (F := Ideal) (A m c) (B m c) (P m c) (Wm m c) (DH m c)
      ∧ r.2.mem ((c : Thread nD τ).loc main_v22_3) = val_main_v43 (F := Ideal) (A m c) (B m c) (P m c) (Wm m c) (DH m c)
      ∧ r.2.mem ((c : Thread nD τ).loc main_v22_4) = val_main_v28 (F := Ideal) (A m c) (B m c) (P m c) (DH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final_7 m c), ((h c).2.1).trans (final_8 m c),
    ((h c).2.2.1).trans (final_9 m c), ((h c).2.2.2.1).trans (final_10 m c), ((h c).2.2.2.2.1).trans (final_11 m c), (h c).2.2.2.2.2⟩)
    (Value.run_blocks m ρ)

end Cert.MergeIdeal.Hand

end
-- ==== Proof.MergeClaim.lean ====
/- The claim about the gradient of the gated merge: kernel and reference end with equal results over the extended reals. -/
module

public import proofs.«01_k».proof.Defs
public import proofs.«01_k».proof.Proof.MergeValue
public import proofs.«01_k».proof.Proof.Gen.MergeRefIdeal.Run

@[expose] public section

noncomputable section

namespace Cert

open Idealize.ShloMosaic Idealize.SL.Sem

/-- The merge gradient's kernel computes what the reference computes: the gradients of the two branches, of their two
    gates and of the output matrix. -/
theorem merge_algebraic : algebraic_MergeIdeal_MergeRefIdeal (hMergeIdeal := MergeIdeal.Gen.facts) (hMergeRefIdeal := MergeRefIdeal.Gen.facts) := by
  intro m g m' g' _ h
  refine ⟨_, _, _, _, _, MergeIdeal.Hand.run m g, ?_⟩
  refine (θ_run MergeRefIdeal.defs _ _).mono (fun r hr c => ?_) (MergeRefIdeal.Value.run m' g')
  obtain ⟨h0, h1, h2, h3, h4⟩ := h c
  obtain ⟨r0, r1, r2, r3, r4, k⟩ := hr c
  refine ⟨r0.trans ?_, r1.trans ?_, r2.trans ?_, r3.trans ?_, r4.trans ?_, k⟩
  all_goals try rw [h0]
  all_goals try rw [h1]
  all_goals try rw [h2]
  all_goals try rw [h3]
  all_goals try rw [h4]
  · exact MergeRefIdeal.Read.val_main_v41_eq ..
  · exact MergeRefIdeal.Read.val_main_v40_eq ..
  · exact MergeRefIdeal.Read.val_main_v42_eq ..
  · exact MergeRefIdeal.Read.val_main_v43_eq ..
  · exact MergeRefIdeal.Read.val_main_v28_eq ..

end Cert

end
-- ==== Proof.Layout.lean ====
/- Arrays laid out in blocks, read at an index; and a buffer to which the points of a block of rows add. -/
module

public import proofs.«01_k».proof.Proof.Common
public import Idealize.ShloMosaic.Lib.Pipeline.Value
public import Idealize.ShloMosaic.Lib.ValueIdx
public import Idealize.ShloMosaic.Lib.Tactic

@[expose] public section

noncomputable section

namespace Cert.Common

open Idealize.ShloMosaic Idealize.ShloMosaic.ValueIdx

/-- Column `f` of block `p`, of `n` blocks of `b` columns. -/
abbrev blockCol {n b w : ℕ} (hw : w = n * b) (p : Fin n) (f : Fin b) : Fin w :=
  ⟨b * p.val + f.val, by
    have hp : p.val + 1 ≤ n := p.isLt
    have hf := f.isLt
    calc b * p.val + f.val < b * p.val + b := by omega
      _ = (p.val + 1) * b := by ring
      _ ≤ n * b := Nat.mul_le_mul_right b hp
      _ = w := hw.symm⟩

/-- Columns split into blocks. -/
theorem split_apply {α : Type} {a n b w : ℕ} (hw : w = n * b) (v : (⟨2, ![a, w]⟩ : Shape).Idx → α)
    (h : (⟨2, ![a, w]⟩ : Shape).ShapeCasts ⟨3, ![a, n, b]⟩) (i : Fin a) (p : Fin n) (f : Fin b) :
    shapeCast ⟨3, ![a, n, b]⟩ v h (ix3 i p f) = v (ix2 i (blockCol hw p f)) :=
  shapeCast_apply v h _ _ (by
    rw [Shape.rowMajor_val_two, Shape.rowMajor_val_three]
    show i.val * w + (b * p.val + f.val) = (i.val * n + p.val) * b + f.val
    subst hw
    ring)

/-- An array of columns laid out as blocks of columns, the block's number first. -/
theorem blocks_apply {α : Type} {a n b w : ℕ} (hw : w = n * b) (v : (⟨2, ![a, w]⟩ : Shape).Idx → α)
    (h : (⟨2, ![a, w]⟩ : Shape).ShapeCasts ⟨3, ![a, n, b]⟩)
    (h' : (⟨3, ![a, n, b]⟩ : Shape).Transposes [1, 0, 2] ⟨3, ![n, a, b]⟩) (p : Fin n) (i : Fin a) (f : Fin b) :
    transpose ⟨3, ![n, a, b]⟩ [1, 0, 2] (shapeCast ⟨3, ![a, n, b]⟩ v h) h' (ix3 p i f) = v (ix2 i (blockCol hw p f)) :=
  (transpose_apply [1, 0, 2] _ h' (ix3 p i f) (ix3 i p f) (fun c => match c with
    | ⟨0, _⟩ => rfl
    | ⟨1, _⟩ => rfl
    | ⟨2, _⟩ => rfl)).trans (split_apply hw v h i p f)

/-- Dropping a leading unit axis, at an index. -/
theorem drop_unit {α : Type} {a b : ℕ} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) :=
  shapeCast_apply v h _ _ (by
    rw [Shape.rowMajor_val_two, Shape.rowMajor_val_three]
    show (0 * a + i.val) * b + j.val = i.val * b + j.val
    rw [Nat.zero_mul, Nat.zero_add])

/-- Adding a leading unit axis, at an index. -/
theorem add_unit {α : Type} {a b : ℕ} (v : (⟨2, ![a, b]⟩ : Shape).Idx → α)
    (h : (⟨2, ![a, b]⟩ : Shape).ShapeCasts ⟨3, ![1, a, b]⟩) (i : Fin a) (j : Fin b) :
    shapeCast ⟨3, ![1, a, b]⟩ v h (ix3 (0 : Fin 1) i j) = v (ix2 i j) :=
  shapeCast_apply v h _ _ (by
    rw [Shape.rowMajor_val_two, Shape.rowMajor_val_three]
    show i.val * b + j.val = (0 * a + i.val) * b + j.val
    rw [Nat.zero_mul, Nat.zero_add])

/-- Turning a vector into a row, at an index. -/
theorem as_row {α : Type} {b : ℕ} (v : (⟨1, ![b]⟩ : Shape).Idx → α)
    (h : (⟨1, ![b]⟩ : Shape).ShapeCasts ⟨2, ![1, b]⟩) (j : Fin b) :
    shapeCast ⟨2, ![1, b]⟩ v h (ix2 (0 : Fin 1) j) = v (ix1 j) :=
  shapeCast_apply v h _ _ (by
    rw [Shape.rowMajor_val_two, Shape.rowMajor_val_one]
    show j.val = 0 * b + j.val
    rw [Nat.zero_mul, Nat.zero_add])

/-- Turning a vector into a column, at an index. -/
theorem as_column {α : Type} {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) :=
  shapeCast_apply v h _ _ (by
    rw [Shape.rowMajor_val_two, Shape.rowMajor_val_one]
    show i.val = i.val * 1 + 0
    omega)

/-- The block of columns a point of a grid with twelve blocks of rows belongs to. -/
abbrev blockOf {N P : ℕ} (hN : N = 12 * P) (t : Fin N) : Fin P := ⟨t.val / 12, by have := t.isLt; omega⟩

/-- Row `r` of the block of rows of a point. -/
abbrev rowOf {N : ℕ} (t : Fin N) (r : Fin 688) : Fin 8256 := ⟨688 * (t.val % 12) + r.val, by have := r.isLt; omega⟩

/-- A buffer that begins every block of columns with zero and to which every point adds its rows' terms holds the
    terms of the rows up to the end of the point's block. -/
theorem acc_blocks {N P : ℕ} (hN : N = 12 * P) (T : Fin P → Fin 8256 → EReal) (O : ∀ t, t < N → EReal)
    (hA : ∀ t : Fin N, t.val % 12 = 0 → O t.val t.isLt = 0 + ∑ r : Fin 688, T (blockOf hN t) (rowOf t r))
    (hB : ∀ (t : ℕ) (ht : t + 1 < N), ¬(t + 1) % 12 = 0 →
      O (t + 1) ht = O t (Nat.lt_of_succ_lt ht) + ∑ r : Fin 688, T (blockOf hN ⟨t + 1, ht⟩) (rowOf ⟨t + 1, ht⟩ r)) :
    ∀ (t : ℕ) (ht : t < N), O t ht = ∑ a ∈ Finset.range (688 * (t % 12 + 1)), ext (T (blockOf hN ⟨t, ht⟩)) a
  | 0, ht => by
    rw [hA ⟨0, ht⟩ rfl, sum_block _ (0 % 12) (by decide)]
    exact congrArg₂ (· + ·) (by simp) (Finset.sum_congr rfl fun r _ => rfl)
  | t + 1, ht => by
    rw [sum_block _ ((t + 1) % 12) (by omega)]
    by_cases h0 : (t + 1) % 12 = 0
    · rw [hA ⟨t + 1, ht⟩ h0]
      refine congrArg₂ (· + ·) ?_ (Finset.sum_congr rfl fun r _ => rfl)
      rw [h0]
      simp
    · rw [hB t ht h0]
      refine congrArg₂ (· + ·) ?_ (Finset.sum_congr rfl fun r _ => rfl)
      have e : (t + 1) % 12 = t % 12 + 1 := by omega
      have hp : blockOf hN ⟨t + 1, ht⟩ = blockOf hN ⟨t, Nat.lt_of_succ_lt ht⟩ := Fin.ext (show (t + 1) / 12 = t / 12 by omega)
      rw [acc_blocks hN T O hA hB t (Nat.lt_of_succ_lt ht), e, hp]

/-- Sums and products of real numbers are real. -/
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {n : ℕ} (g : Fin n → EReal) (h : ∀ k, ∃ r : ℝ, g k = r) : ∃ r : ℝ, (∑ k, g k) = r :=
  Finset.sum_induction g (fun x => ∃ r : ℝ, x = r) (fun _ _ => real_add) ⟨0, EReal.coe_zero.symm⟩ fun k _ => h k

end Cert.Common

end
-- ==== Proof.GateOuts.lean ====
/- What one point of the gate gradient's kernel stores, in any arithmetic; and its products and sums over the extended reals. -/
module

public import proofs.«01_k».proof.Proof.Layout
public import proofs.«01_k».proof.Proof.Gen.GateIdeal.Frame
public import Idealize.ShloMosaic.Lib.Pipeline.Value
public import Idealize.ShloMosaic.Lib.Tactic

@[expose] public section

set_option maxRecDepth 16384

noncomputable section

namespace Cert.GateIdeal.Hand

open Cert.GateIdeal Cert.GateIdeal.Gen Idealize.ShloMosaic Idealize.ShloMosaic.TcCoe Idealize.SL.Sem
open Idealize.ShloMosaic.ValueIdx Cert.Common
open Idealize.ShloMosaic.Pipeline (Dat)

section AnyFloat
variable {F : FTy → Type} [FloatOps F]

section Stores
variable (c : Dev nD) (i : grid0.Coords) (a2 : Memref sig .tc .vmem S688x1024 .f32) (ha2 : a2.IsWhole)
    (a3 : Memref sig .tc .vmem S1x688x704 .bf16) (ha3 : a3.IsWhole)
    (a4 : Memref sig .tc .vmem S1x688x704 .bf16) (ha4 : a4.IsWhole)
    (a5 : Memref sig .tc .vmem S1x704x1024 .bf16) (ha5 : a5.IsWhole)
    (a6 : Memref sig .tc .vmem S1x688x704 .bf16) (ha6 : a6.IsWhole)
    (a7 : Memref sig .tc .vmem S1x688x704 .bf16) (ha7 : a7.IsWhole)
    (a8 : Memref sig .tc .vmem S1x704x1024 .f32) (ha8 : a8.IsWhole) (a9 : Memref sig .tc .vmem S1x1x704 .f32)
    (ha9 : a9.IsWhole) (a10 : Memref sig .tc .vmem S1x1x704 .f32) (ha10 : a10.IsWhole)
variable (x0 : Vec F S688x1024 .f32) (x1 : Vec F S1x688x704 .bf16) (x2 : Vec F S1x688x704 .bf16)
    (x3 : Vec F S1x704x1024 .bf16) (xo6 : Vec F S1x704x1024 .f32) (xo7 : Vec F S1x1x704 .f32)
    (xo8 : Vec F S1x1x704 .f32)

/-- What a point that begins a block of channels stores as the gradient of the gated half. -/
theorem out_A_4 (hc0 : cond0_0 i) :
    out0_A_4 c i a2 ha2 a3 ha3 a4 ha4 a5 ha5 a6 ha6 a7 ha7 a8 ha8 a9 ha9 a10 ha10 hc0 x0 x1 x2 x3 = k0_pay4 (k0_pay16 x0 x1 x2 x3) (k0_pay17 x1) k0_pay18 := by
  unfold out0_A_4
  refine Eq.trans (View.read_writes_eq_canon _ _ _ (fun y => cover0_A_4 (y := y) ..)) ?_
  unfold kernelRun0_A
  dsimp only
  sl_unfold_words
  rw [View.canon_unit_zero hz3]
  simp only [View.readAt_eq_ld, Memref.IsWhole.read_unread, ld2, ld3]

/-- What a point that begins a block of channels stores as the gradient of the linear half. -/
theorem out_A_5 (hc0 : cond0_0 i) :
    out0_A_5 c i a2 ha2 a3 ha3 a4 ha4 a5 ha5 a6 ha6 a7 ha7 a8 ha8 a9 ha9 a10 ha10 hc0 x0 x1 x2 x3 = k0_pay5 (k0_pay15 x0 x1 x3) := by
  unfold out0_A_5
  refine Eq.trans (View.read_writes_eq_canon _ _ _ (fun y => cover0_A_5 (y := y) ..)) ?_
  unfold kernelRun0_A
  dsimp only
  sl_unfold_words
  rw [View.canon_unit_zero hz3]
  simp only [View.readAt_eq_ld, Memref.IsWhole.read_unread, ld2, ld3]

/-- What a point inside a block of channels stores as the gradient of the gated half. -/
theorem out_B_4 (hc0 : ¬cond0_0 i) :
    out0_B_4 c i a2 ha2 a3 ha3 a4 ha4 a5 ha5 a6 ha6 a7 ha7 a8 ha8 a9 ha9 a10 ha10 hc0 x0 x1 x2 x3 xo6 xo7 xo8 = k0_pay4 (k0_pay16 x0 x1 x2 x3) (k0_pay17 x1) k0_pay18 := by
  unfold out0_B_4
  refine Eq.trans (View.read_writes_eq_canon _ _ _ (fun y => cover0_B_4 (y := y) ..)) ?_
  unfold kernelRun0_B
  dsimp only
  sl_unfold_words
  rw [View.canon_unit_zero hz3]
  simp only [View.readAt_eq_ld, Memref.IsWhole.read_unread, ld2, ld3]

/-- What a point inside a block of channels stores as the gradient of the linear half. -/
theorem out_B_5 (hc0 : ¬cond0_0 i) :
    out0_B_5 c i a2 ha2 a3 ha3 a4 ha4 a5 ha5 a6 ha6 a7 ha7 a8 ha8 a9 ha9 a10 ha10 hc0 x0 x1 x2 x3 xo6 xo7 xo8 = k0_pay5 (k0_pay15 x0 x1 x3) := by
  unfold out0_B_5
  refine Eq.trans (View.read_writes_eq_canon _ _ _ (fun y => cover0_B_5 (y := y) ..)) ?_
  unfold kernelRun0_B
  dsimp only
  sl_unfold_words
  rw [View.canon_unit_zero hz3]
  simp only [View.readAt_eq_ld, Memref.IsWhole.read_unread, ld2, ld3]

/-- A point that begins a block of channels adds its rows' share of the matrix's gradient to zero. -/
theorem out_A_6 (hc0 : cond0_0 i) :
    out0_A_6 c i a2 ha2 a3 ha3 a4 ha4 a5 ha5 a6 ha6 a7 ha7 a8 ha8 a9 ha9 a10 ha10 hc0 x0 x1 x2 x3 = k0_pay14 x0 x1 x2 k0_pay6 := by
  unfold out0_A_6
  refine Eq.trans (View.read_writes_eq_canon _ _ _ (fun y => cover0_A_6 (y := y) ..)) ?_
  unfold kernelRun0_A
  dsimp only
  sl_unfold_words
  rw [View.canon_cons_unit_zero (S := S1x704x1024) hz3, View.readCov_unit_zero (S := S1x704x1024) _ hz3]
  simp only [View.readAt_eq_ld, Memref.IsWhole.read_unread, ld2, ld3]

/-- A point inside a block of channels adds its rows' share of the matrix's gradient to what the points before left. -/
theorem out_B_6 (hc0 : ¬cond0_0 i) :
    out0_B_6 c i a2 ha2 a3 ha3 a4 ha4 a5 ha5 a6 ha6 a7 ha7 a8 ha8 a9 ha9 a10 ha10 hc0 x0 x1 x2 x3 xo6 xo7 xo8 = k0_pay14 x0 x1 x2 xo6 := by
  unfold out0_B_6
  refine Eq.trans (View.read_writes_eq_canon _ _ _ (fun y => cover0_B_6 (y := y) ..)) ?_
  unfold kernelRun0_B
  dsimp only
  sl_unfold_words
  rw [View.canon_unit_zero hz3]
  simp only [View.readAt_eq_ld, Memref.IsWhole.read_unread, ld2, ld3]

/-- A point that begins a block of channels adds its rows' share of the first bias's gradient to zero. -/
theorem out_A_7 (hc0 : cond0_0 i) :
    out0_A_7 c i a2 ha2 a3 ha3 a4 ha4 a5 ha5 a6 ha6 a7 ha7 a8 ha8 a9 ha9 a10 ha10 hc0 x0 x1 x2 x3 = k0_pay2 (k0_pay16 x0 x1 x2 x3) (k0_pay17 x1) k0_pay18 k0_pay7 := by
  unfold out0_A_7
  refine Eq.trans (View.read_writes_eq_canon _ _ _ (fun y => cover0_A_7 (y := y) ..)) ?_
  unfold kernelRun0_A
  dsimp only
  sl_unfold_words
  rw [View.canon_cons_unit_zero (S := S1x1x704) hz3, View.readCov_unit_zero (S := S1x1x704) _ hz3]
  simp only [View.readAt_eq_ld, Memref.IsWhole.read_unread, ld2, ld3]

/-- A point inside a block of channels adds its rows' share of the first bias's gradient to what the points before left. -/
theorem out_B_7 (hc0 : ¬cond0_0 i) :
    out0_B_7 c i a2 ha2 a3 ha3 a4 ha4 a5 ha5 a6 ha6 a7 ha7 a8 ha8 a9 ha9 a10 ha10 hc0 x0 x1 x2 x3 xo6 xo7 xo8 = k0_pay2 (k0_pay16 x0 x1 x2 x3) (k0_pay17 x1) k0_pay18 xo7 := by
  unfold out0_B_7
  refine Eq.trans (View.read_writes_eq_canon _ _ _ (fun y => cover0_B_7 (y := y) ..)) ?_
  unfold kernelRun0_B
  dsimp only
  sl_unfold_words
  rw [View.canon_unit_zero hz3]
  simp only [View.readAt_eq_ld, Memref.IsWhole.read_unread, ld2, ld3]

/-- A point that begins a block of channels adds its rows' share of the second bias's gradient to zero. -/
theorem out_A_8 (hc0 : cond0_0 i) :
    out0_A_8 c i a2 ha2 a3 ha3 a4 ha4 a5 ha5 a6 ha6 a7 ha7 a8 ha8 a9 ha9 a10 ha10 hc0 x0 x1 x2 x3 = k0_pay3 (k0_pay15 x0 x1 x3) k0_pay8 := by
  unfold out0_A_8
  refine Eq.trans (View.read_writes_eq_canon _ _ _ (fun y => cover0_A_8 (y := y) ..)) ?_
  unfold kernelRun0_A
  dsimp only
  sl_unfold_words
  rw [View.canon_cons_unit_zero (S := S1x1x704) hz3, View.readCov_unit_zero (S := S1x1x704) _ hz3]
  simp only [View.readAt_eq_ld, Memref.IsWhole.read_unread, ld2, ld3]

/-- A point inside a block of channels adds its rows' share of the second bias's gradient to what the points before left. -/
theorem out_B_8 (hc0 : ¬cond0_0 i) :
    out0_B_8 c i a2 ha2 a3 ha3 a4 ha4 a5 ha5 a6 ha6 a7 ha7 a8 ha8 a9 ha9 a10 ha10 hc0 x0 x1 x2 x3 xo6 xo7 xo8 = k0_pay3 (k0_pay15 x0 x1 x3) xo8 := by
  unfold out0_B_8
  refine Eq.trans (View.read_writes_eq_canon _ _ _ (fun y => cover0_B_8 (y := y) ..)) ?_
  unfold kernelRun0_B
  dsimp only
  sl_unfold_words
  rw [View.canon_unit_zero hz3]
  simp only [View.readAt_eq_ld, Memref.IsWhole.read_unread, ld2, ld3]

end Stores

end AnyFloat

/-- A product of a block of rows with a transposed matrix, at an index. -/
theorem rows_mm_nt {φ₁ φ₂ : FTy} (lhs : FVec Ideal S688x1024 φ₁) (rhs : FVec Ideal S704x1024 φ₂) (j : S688x704.Idx) :
    matmul dot_S688x1024_S704x1024_S688x704_1_1_0_0_n_n none lhs rhs (constant S688x704 .f32 0x00000000#32) j
      = ∑ k : Fin 1024, lhs (ix2 (j 0) k) * rhs (ix2 (j 1) k) :=
  Common.mm_nt _ rfl rfl rfl rfl (fun _ _ => rfl) (fun _ _ => rfl) lhs rhs j

/-- A product of a transposed block of rows with a block of rows, at an index. -/
theorem rows_mm_tn {φ₁ φ₂ : FTy} (lhs : FVec Ideal S688x704 φ₁) (rhs : FVec Ideal S688x1024 φ₂) (j : S704x1024.Idx) :
    matmul dot_S688x704_S688x1024_S704x1024_0_0_1_1_n_n none lhs rhs (constant S704x1024 .f32 0x00000000#32) j
      = ∑ k : Fin 688, lhs (ix2 k (j 0)) * rhs (ix2 k (j 1)) :=
  Common.mm_tn _ rfl rfl rfl rfl (fun _ _ => rfl) (fun _ _ => rfl) lhs rhs j

/-- A sum down the rows, at a column. -/
theorem column_sum (v : FVec Ideal S688x704 .f32) (f : Fin 704) :
    multiReduction (F := Ideal) .add [0] S704 v 0x00000000#32 reduces_S688x704_S704 (.inl rfl) rfl (ix1 f)
      = ∑ r : Fin 688, (v (ix2 r f) : EReal) :=
  (Ideal.multiReduction_add_single v _ reduces_S688x704_S704 _ _ (ix1 f)).trans
    (Finset.sum_congr rfl fun r _ => congrArg v (funext fun a => Fin.ext (by match a with | ⟨0, _⟩ => rfl | ⟨1, _⟩ => rfl)))

end Cert.GateIdeal.Hand

end
-- ==== Proof.GateBlocks.lean ====
/- The blocks of the gate gradient's kernel, read at an index. -/
module

public import proofs.«01_k».proof.Proof.Layout
public import proofs.«01_k».proof.Proof.Gen.GateIdeal.Frame
public import proofs.«01_k».proof.Proof.Gen.GateRefIdeal.Read
public import Idealize.ShloMosaic.Lib.KernelVsHost
public import Idealize.ShloMosaic.Lib.Tactic

@[expose] public section

set_option maxRecDepth 16384

noncomputable section

namespace Cert.GateIdeal.Hand

open Cert.GateIdeal Cert.GateIdeal.Gen Idealize.ShloMosaic Idealize.ShloMosaic.TcCoe Idealize.SL.Sem
open Idealize.ShloMosaic.ValueIdx Cert.Common
open Idealize.ShloMosaic.Pipeline (Dat)

open Cert.GateRefIdeal.Read

variable (m : (ℓ : Loc nD τ sig) → Buf (Elt Ideal) ℓ) (c : Dev nD)

/-- The convolution's output before its bias, the bias, the matrix and the gradient of the output. -/
abbrev X : (⟨S8256x5632, .bf16⟩ : BufTy).Contents (Elt Ideal) := m ((c.tc : Thread nD τ).loc main_arg0)
abbrev Bv : (⟨S5632, .f32⟩ : BufTy).Contents (Elt Ideal) := m ((c.tc : Thread nD τ).loc main_arg1)
abbrev Wd : (⟨S2816x1024, .f32⟩ : BufTy).Contents (Elt Ideal) := m ((c.tc : Thread nD τ).loc main_arg2)
abbrev DH : (⟨S8256x1024, .f32⟩ : BufTy).Contents (Elt Ideal) := m ((c.tc : Thread nD τ).loc main_arg3)

theorem N_eq : cfg0.N = 12 * 4 := N_0

/-- The block of channels and the row of a point. -/
abbrev pt (t : Fin cfg0.N) : Fin 4 := blockOf N_eq t
abbrev row (t : Fin cfg0.N) (r : Fin 688) : Fin 8256 := rowOf t r

/-- Channel `f` of block `p` of a half. -/
abbrev chan (p : Fin 4) (f : Fin 704) : Fin 2816 := blockCol (show 2816 = 4 * 704 from rfl) p f

/-- Block `p` of the first half and of the second, among the blocks of both. -/
abbrev lo (p : Fin 4) : Fin 8 := ⟨p.val, by have := p.isLt; omega⟩
abbrev hi (p : Fin 4) : Fin 8 := ⟨4 + p.val, by have := p.isLt; omega⟩

/-- Channel `f` of block `p` among the channels of both halves. -/
abbrev both (p : Fin 8) (f : Fin 704) : Fin 5632 := blockCol (show 5632 = 8 * 704 from rfl) p f

/-- The convolution's output with its bias, and its two halves. -/
theorem left_eq (a : Fin 8256) (p : Fin 4) (f : Fin 704) :
    val_main_v4 (F := Ideal) (X m c) (Bv m c) (ix2 a (chan p f)) = val_main_v3 (F := Ideal) (X m c) (Bv m c) (ix2 a (both (lo p) f)) := by
  rw [val_main_v4_apply]
  exact congrArg _ (funext fun b => Fin.ext (by match b with | ⟨0, _⟩ => rfl | ⟨1, _⟩ => rfl))

theorem right_eq (a : Fin 8256) (p : Fin 4) (f : Fin 704) :
    val_main_v6 (F := Ideal) (X m c) (Bv m c) (ix2 a (chan p f)) = val_main_v3 (F := Ideal) (X m c) (Bv m c) (ix2 a (both (hi p) f)) := by
  rw [val_main_v6_apply]
  refine congrArg _ (funext fun b => Fin.ext ?_)
  match b with
  | ⟨0, _⟩ => rfl
  | ⟨1, _⟩ => show 2816 + (704 * p.val + f.val) = 704 * (4 + p.val) + f.val; omega

/-- The region finds the two halves in blocks of channels. -/
theorem V_u (p : Fin 4) (a : Fin 8256) (f : Fin 704) :
    (V m c main_v7 : S4x8256x704.Idx → EReal) (ix3 p a f) = val_main_v4 (F := Ideal) (X m c) (Bv m c) (ix2 a (chan p f)) := by
  have e : (V m c main_v7 : S4x8256x704.Idx → EReal) = extractStridedSlice S4x8256x704 ![0, 0, 0]
      (transpose S8x8256x704 [1, 0, 2] (shapeCast S8256x8x704 (val_main_v3 (F := Ideal) (X m c) (Bv m c) : S8256x5632.Idx → EReal) shapeCasts_S8256x5632_S8256x8x704)
        transposes_S8256x8x704_S8x8256x704_1_0_2) slices_S8x8256x704_S4x8256x704_0_0_0 := by
    unfold V
    after_results_simp
    rfl
  rw [e, left_eq]
  refine (extractStridedSlice_apply _ _ _ (ix3 p a f) (ix3 (lo p) a f) (fun b => ?_)).trans (blocks_apply (show 5632 = 8 * 704 from rfl) _ _ _ (lo p) a f)
  match b with
  | ⟨0, _⟩ => show p.val = 0 + p.val; omega
  | ⟨1, _⟩ => show a.val = 0 + a.val; omega
  | ⟨2, _⟩ => show f.val = 0 + f.val; omega

theorem V_v (p : Fin 4) (a : Fin 8256) (f : Fin 704) :
    (V m c main_v8 : S4x8256x704.Idx → EReal) (ix3 p a f) = val_main_v6 (F := Ideal) (X m c) (Bv m c) (ix2 a (chan p f)) := by
  have e : (V m c main_v8 : S4x8256x704.Idx → EReal) = extractStridedSlice S4x8256x704 ![4, 0, 0]
      (transpose S8x8256x704 [1, 0, 2] (shapeCast S8256x8x704 (val_main_v3 (F := Ideal) (X m c) (Bv m c) : S8256x5632.Idx → EReal) shapeCasts_S8256x5632_S8256x8x704)
        transposes_S8256x8x704_S8x8256x704_1_0_2) slices_S8x8256x704_S4x8256x704_4_0_0 := by
    unfold V
    after_results_simp
    rfl
  rw [e, right_eq]
  refine (extractStridedSlice_apply _ _ _ (ix3 p a f) (ix3 (hi p) a f) (fun b => ?_)).trans (blocks_apply (show 5632 = 8 * 704 from rfl) _ _ _ (hi p) a f)
  match b with
  | ⟨0, _⟩ => rfl
  | ⟨1, _⟩ => show a.val = 0 + a.val; omega
  | ⟨2, _⟩ => show f.val = 0 + f.val; omega

/-- The region finds the matrix in blocks of rows. -/
theorem V_w (p : Fin 4) (f : Fin 704) (k : Fin 1024) :
    (V m c main_v10 : S4x704x1024.Idx → EReal) (ix3 p f k) = Wd m c (ix2 (chan p f) k) := by
  have e : (V m c main_v10 : S4x704x1024.Idx → EReal) = shapeCast S4x704x1024 (Wd m c : S2816x1024.Idx → EReal) shapeCasts_S2816x1024_S4x704x1024 := by
    unfold V
    after_results_simp
    rfl
  rw [e]
  refine shapeCast_apply _ _ _ _ ?_
  rw [Shape.rowMajor_val_two, Shape.rowMajor_val_three]
  show (704 * p.val + f.val) * 1024 + k.val = (p.val * 704 + f.val) * 1024 + k.val
  omega

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 3) = t.val / 12 ∧ win0_1.index t (1 : Fin 3) = t.val % 12 ∧ win0_1.index t (2 : Fin 3) = 0 :=
  (by decide +kernel : ∀ t : Fin grid0.N, _)

theorem idx_2 : ∀ t : Fin cfg0.N, win0_2.index t (0 : Fin 3) = t.val / 12 ∧ win0_2.index t (1 : Fin 3) = t.val % 12 ∧ win0_2.index t (2 : Fin 3) = 0 :=
  (by decide +kernel : ∀ t : Fin grid0.N, _)

theorem idx_4 : ∀ t : Fin cfg0.N, win0_4.index t (0 : Fin 3) = t.val / 12 ∧ win0_4.index t (1 : Fin 3) = t.val % 12 ∧ win0_4.index t (2 : Fin 3) = 0 :=
  (by decide +kernel : ∀ t : Fin grid0.N, _)

theorem idx_3 : ∀ t : Fin cfg0.N, win0_3.index t (0 : Fin 3) = t.val / 12 ∧ win0_3.index t (1 : Fin 3) = 0 ∧ win0_3.index t (2 : Fin 3) = 0 :=
  (by decide +kernel : ∀ t : Fin grid0.N, _)

theorem idx_6 : ∀ t : Fin cfg0.N, win0_6.index t (0 : Fin 3) = t.val / 12 ∧ win0_6.index t (1 : Fin 3) = 0 ∧ win0_6.index t (2 : Fin 3) = 0 :=
  (by decide +kernel : ∀ t : Fin grid0.N, _)

theorem idx_7 : ∀ t : Fin cfg0.N, win0_7.index t (0 : Fin 3) = t.val / 12 ∧ win0_7.index t (1 : Fin 3) = 0 ∧ win0_7.index t (2 : Fin 3) = 0 :=
  (by decide +kernel : ∀ t : Fin grid0.N, _)

/-- A block of the gradient of the output. -/
theorem blk_dh (t : Fin cfg0.N) (r : Fin 688) (k : Fin 1024) :
    (iblk m c 0 t : Vec Ideal S688x1024 .f32) (ix2 r k) = DH m c (ix2 (row t r) k) := by
  obtain ⟨h0, h1⟩ := idx_0 t
  unfold iblk
  rw [View.read_apply]
  show (V m c main_arg3 : S8256x1024.Idx → EReal) _ = _
  rw [V_main_arg3]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- A block of the gated half. -/
theorem blk_u (t : Fin cfg0.N) (r : Fin 688) (f : Fin 704) :
    (iblk m c 1 t : Vec Ideal S1x688x704 .bf16) (ix3 (0 : Fin 1) r f) = val_main_v4 (F := Ideal) (X m c) (Bv m c) (ix2 (row t r) (chan (pt t) f)) := by
  obtain ⟨h0, h1, h2⟩ := idx_1 t
  unfold iblk
  rw [View.read_apply]
  show (V m c main_v7 : S4x8256x704.Idx → EReal) _ = _
  refine Eq.trans (congrArg _ (funext fun a => Fin.ext ?_)) (V_u m c (pt t) (row t r) f)
  match a with
  | ⟨0, _⟩ => show win0_1.index t 0 * 1 + 1 * 0 = t.val / 12; omega
  | ⟨1, _⟩ => show win0_1.index t 1 * 688 + 1 * r.val = 688 * (t.val % 12) + r.val; omega
  | ⟨2, _⟩ => show win0_1.index t 2 * 704 + 1 * f.val = f.val; omega

/-- A block of the linear half. -/
theorem blk_v (t : Fin cfg0.N) (r : Fin 688) (f : Fin 704) :
    (iblk m c 2 t : Vec Ideal S1x688x704 .bf16) (ix3 (0 : Fin 1) r f) = val_main_v6 (F := Ideal) (X m c) (Bv m c) (ix2 (row t r) (chan (pt t) f)) := by
  obtain ⟨h0, h1, h2⟩ := idx_2 t
  unfold iblk
  rw [View.read_apply]
  show (V m c main_v8 : S4x8256x704.Idx → EReal) _ = _
  refine Eq.trans (congrArg _ (funext fun a => Fin.ext ?_)) (V_v m c (pt t) (row t r) f)
  match a with
  | ⟨0, _⟩ => show win0_2.index t 0 * 1 + 1 * 0 = t.val / 12; omega
  | ⟨1, _⟩ => show win0_2.index t 1 * 688 + 1 * r.val = 688 * (t.val % 12) + r.val; omega
  | ⟨2, _⟩ => show win0_2.index t 2 * 704 + 1 * f.val = f.val; omega

/-- A block of the matrix. -/
theorem blk_w (t : Fin cfg0.N) (f : Fin 704) (k : Fin 1024) :
    (iblk m c 3 t : Vec Ideal S1x704x1024 .bf16) (ix3 (0 : Fin 1) f k) = Wd m c (ix2 (chan (pt t) f) k) := by
  obtain ⟨h0, h1, h2⟩ := idx_3 t
  unfold iblk
  rw [View.read_apply]
  show (V m c main_v10 : S4x704x1024.Idx → EReal) _ = _
  refine Eq.trans (congrArg _ (funext fun a => Fin.ext ?_)) (V_w m c (pt t) f k)
  match a with
  | ⟨0, _⟩ => show win0_3.index t 0 * 1 + 1 * 0 = t.val / 12; omega
  | ⟨1, _⟩ => show win0_3.index t 1 * 704 + 1 * f.val = f.val; omega
  | ⟨2, _⟩ => show win0_3.index t 2 * 1024 + 1 * k.val = k.val; omega

/-- Reading a block of rows out of an array. -/
theorem read_4 (G : S4x8256x704.Idx → EReal) (t : Fin cfg0.N) (r : Fin 688) (f : Fin 704) :
    (((cfg0.win 4).blk t).view.read (Elt Ideal) G : S1x688x704.Idx → EReal) (ix3 (0 : Fin 1) r f) = G (ix3 (pt t) (row t r) f) := by
  obtain ⟨h0, h1, h2⟩ := idx_4 t
  refine congrArg G (funext fun a => Fin.ext ?_)
  match a with
  | ⟨0, _⟩ => show win0_4.index t 0 * 1 + 1 * 0 = t.val / 12; omega
  | ⟨1, _⟩ => show win0_4.index t 1 * 688 + 1 * r.val = 688 * (t.val % 12) + r.val; omega
  | ⟨2, _⟩ => show win0_4.index t 2 * 704 + 1 * f.val = f.val; omega

/-- Every row lies in a block. -/
theorem cover_4 (i : S4x8256x704.Idx) : ∃ t : Fin cfg0.N, (cfg0.win 4).flush t = true ∧ i ∈ ((View.whole main_v11_0).slice (win0_4.rect t)).set := by
  have hi0 : (i 0 : Nat) < 4 := (i 0).isLt
  have hi1 : (i 1 : Nat) < 8256 := (i 1).isLt
  have hi2 : (i 2 : Nat) < 704 := (i 2).isLt
  have hN := N_eq
  obtain ⟨t, ht⟩ : ∃ t : Fin cfg0.N, t.val = 12 * (i 0 : Nat) + (i 1 : Nat) / 688 := ⟨⟨_, by omega⟩, rfl⟩
  obtain ⟨h0, h1, h2⟩ := idx_4 t
  refine ⟨t, (by decide +kernel : ∀ t : Fin grid0.N, (cfg0.win 4).flush t = true) t, ?_⟩
  rw [View.set_slice_whole]
  exact mem3 i _ (congrArg (· * 1) h0) (congrArg (· * 688) h1) (congrArg (· * 704) h2) (by omega)

/-- Reading a block of rows out of an array. -/
theorem read_5 (G : S4x8256x704.Idx → EReal) (t : Fin cfg0.N) (r : Fin 688) (f : Fin 704) :
    (((cfg0.win 5).blk t).view.read (Elt Ideal) G : S1x688x704.Idx → EReal) (ix3 (0 : Fin 1) r f) = G (ix3 (pt t) (row t r) f) := read_4 G t r f

/-- Every row lies in a block. -/
theorem cover_5 (i : S4x8256x704.Idx) : ∃ t : Fin cfg0.N, (cfg0.win 5).flush t = true ∧ i ∈ ((View.whole main_v11_1).slice (win0_5.rect t)).set :=
  (cover_4 i).imp fun t h => ⟨(by decide +kernel : ∀ t : Fin grid0.N, (cfg0.win 5).flush t = true) t, h.2⟩

/-- Reading a block of channels out of an array. -/
theorem read_6 (G : S4x704x1024.Idx → EReal) (t : Fin cfg0.N) (f : Fin 704) (k : Fin 1024) :
    (((cfg0.win 6).blk t).view.read (Elt Ideal) G : S1x704x1024.Idx → EReal) (ix3 (0 : Fin 1) f k) = G (ix3 (pt t) f k) := by
  obtain ⟨h0, h1, h2⟩ := idx_6 t
  refine congrArg G (funext fun a => Fin.ext ?_)
  match a with
  | ⟨0, _⟩ => show win0_6.index t 0 * 1 + 1 * 0 = t.val / 12; omega
  | ⟨1, _⟩ => show win0_6.index t 1 * 704 + 1 * f.val = f.val; omega
  | ⟨2, _⟩ => show win0_6.index t 2 * 1024 + 1 * k.val = k.val; omega

/-- Every block of channels is written by its last point. -/
theorem cover_6 (i : S4x704x1024.Idx) : ∃ t : Fin cfg0.N, (cfg0.win 6).flush t = true ∧ i ∈ ((View.whole main_v11_2).slice (win0_6.rect t)).set := by
  have hi0 : (i 0 : Nat) < 4 := (i 0).isLt
  have hi1 : (i 1 : Nat) < 704 := (i 1).isLt
  have hi2 : (i 2 : Nat) < 1024 := (i 2).isLt
  have hN := N_eq
  obtain ⟨t, ht⟩ : ∃ t : Fin cfg0.N, t.val = 12 * (i 0 : Nat) + 11 := ⟨⟨_, by omega⟩, rfl⟩
  obtain ⟨h0, h1, h2⟩ := idx_6 t
  refine ⟨t, (by decide +kernel : ∀ t : Fin grid0.N, t.val % 12 = 11 → (cfg0.win 6).flush t = true) t (by omega), ?_⟩
  rw [View.set_slice_whole]
  exact mem3 i _ (congrArg (· * 1) h0) (congrArg (· * 704) h1) (congrArg (· * 1024) h2) (by omega)

/-- Reading a block of channels out of an array. -/
theorem read_7 (G : S4x1x704.Idx → EReal) (t : Fin cfg0.N) (f : Fin 704) :
    (((cfg0.win 7).blk t).view.read (Elt Ideal) G : S1x1x704.Idx → EReal) (ix3 (0 : Fin 1) (0 : Fin 1) f) = G (ix3 (pt t) (0 : Fin 1) f) := by
  obtain ⟨h0, h1, h2⟩ := idx_7 t
  refine congrArg G (funext fun a => Fin.ext ?_)
  match a with
  | ⟨0, _⟩ => show win0_7.index t 0 * 1 + 1 * 0 = t.val / 12; omega
  | ⟨1, _⟩ => show win0_7.index t 1 * 1 + 1 * 0 = 0; rw [h1]
  | ⟨2, _⟩ => show win0_7.index t 2 * 704 + 1 * f.val = f.val; omega

/-- Every block of channels is written by its last point. -/
theorem cover_7 (i : S4x1x704.Idx) : ∃ t : Fin cfg0.N, (cfg0.win 7).flush t = true ∧ i ∈ ((View.whole main_v11_3).slice (win0_7.rect t)).set := by
  have hi0 : (i 0 : Nat) < 4 := (i 0).isLt
  have hi1 : (i 1 : Nat) < 1 := (i 1).isLt
  have hi2 : (i 2 : Nat) < 704 := (i 2).isLt
  have hN := N_eq
  obtain ⟨t, ht⟩ : ∃ t : Fin cfg0.N, t.val = 12 * (i 0 : Nat) + 11 := ⟨⟨_, by omega⟩, rfl⟩
  obtain ⟨h0, h1, h2⟩ := idx_7 t
  refine ⟨t, (by decide +kernel : ∀ t : Fin grid0.N, t.val % 12 = 11 → (cfg0.win 7).flush t = true) t (by omega), ?_⟩
  rw [View.set_slice_whole]
  exact mem3 i _ (congrArg (· * 1) h0) (congrArg (· * 1) h1) (congrArg (· * 704) h2) (by omega)

/-- Reading a block of channels out of an array. -/
theorem read_8 (G : S4x1x704.Idx → EReal) (t : Fin cfg0.N) (f : Fin 704) :
    (((cfg0.win 8).blk t).view.read (Elt Ideal) G : S1x1x704.Idx → EReal) (ix3 (0 : Fin 1) (0 : Fin 1) f) = G (ix3 (pt t) (0 : Fin 1) f) := read_7 G t f

/-- Every block of channels is written by its last point. -/
theorem cover_8 (i : S4x1x704.Idx) : ∃ t : Fin cfg0.N, (cfg0.win 8).flush t = true ∧ i ∈ ((View.whole main_v11_4).slice (win0_8.rect t)).set :=
  cover_7 i

end Cert.GateIdeal.Hand

end
-- ==== Proof.GateValue.lean ====
/- What the gate gradient's kernel leaves in its results, over the extended reals: the reference's terms. -/
module

public import proofs.«01_k».proof.Proof.GateOuts
public import proofs.«01_k».proof.Proof.GateBlocks
public import proofs.«01_k».proof.Proof.Gen.GateIdeal.Value

@[expose] public section

set_option maxRecDepth 16384

noncomputable section

namespace Cert.GateIdeal.Hand

open Cert.GateIdeal Cert.GateIdeal.Gen Idealize.ShloMosaic Idealize.ShloMosaic.TcCoe Idealize.SL.Sem
open Idealize.ShloMosaic.ValueIdx Cert.Common
open Idealize.ShloMosaic.Pipeline (Dat)

open Cert.GateRefIdeal.Read

variable (m : (ℓ : Loc nD τ sig) → Buf (Elt Ideal) ℓ) (c : Dev nD)

/-- The gated half at a row. -/
theorem u_eq (t : Fin cfg0.N) (r : Fin 688) (f : Fin 704) :
    (k0_pay9 (iblk m c 1 t) : S688x704.Idx → EReal) (ix2 r f) = val_main_v4 (F := Ideal) (X m c) (Bv m c) (ix2 (row t r) (chan (pt t) f)) := by
  unfold k0_pay9
  exact (drop_unit _ _ r f).trans (blk_u m c t r f)

/-- The linear half at a row. -/
theorem v_eq (t : Fin cfg0.N) (r : Fin 688) (f : Fin 704) :
    (k0_pay10 (iblk m c 2 t) : S688x704.Idx → EReal) (ix2 r f) = val_main_v6 (F := Ideal) (X m c) (Bv m c) (ix2 (row t r) (chan (pt t) f)) := by
  unfold k0_pay10
  exact (drop_unit _ _ r f).trans (blk_v m c t r f)

/-- The reference's sigmoid. -/
theorem ref_sig (i : (⟨2, ![8256, 2816]⟩ : Shape).Idx) :
    val_main_v5_2 (F := Ideal) (X m c) (Bv m c) i = Ideal.logistic (val_main_v4 (F := Ideal) (X m c) (Bv m c) i) := by
  rw [val_main_v5_2_apply, val_main_call0_v4_apply, val_main_call0_cst_0_apply, val_main_call0_v3_apply, val_main_call0_v2_apply,
    val_main_call0_cst_apply, val_main_call0_v1_apply, val_main_call0_v0_apply]
  simp only [Ideal.ofBits_def, one_word]
  rfl

/-- The sigmoid of the gated half at a row. -/
theorem sig_eq (t : Fin cfg0.N) (r : Fin 688) (f : Fin 704) :
    (k0_pay11 (iblk m c 1 t) : S688x704.Idx → EReal) (ix2 r f) = val_main_v5_2 (F := Ideal) (X m c) (Bv m c) (ix2 (row t r) (chan (pt t) f)) := by
  rw [ref_sig]
  exact congrArg Ideal.logistic (u_eq m c t r f)

/-- The gradient of the gated product: a row's product with the transposed matrix. -/
theorem mid_eq (t : Fin cfg0.N) (r : Fin 688) (f : Fin 704) :
    (k0_pay13 (iblk m c 0 t) (iblk m c 3 t) : S688x704.Idx → EReal) (ix2 r f)
      = val_main_v11 (F := Ideal) (Wd m c) (DH m c) (ix2 (row t r) (chan (pt t) f)) := by
  unfold k0_pay13
  rw [rows_mm_nt]
  generalize hq : chan (pt t) f = q
  rw [val_main_v11_apply]
  refine Finset.sum_congr rfl fun n _ => ?_
  have e1 : lidx_main_v11 (ix2 (row t r) q) n = ix2 (row t r) n := funext fun b => by match b with | ⟨0, _⟩ => rfl | ⟨1, _⟩ => rfl
  have e2 : ridx_main_v11 (ix2 (row t r) q) n = ix2 q n := funext fun b => by match b with | ⟨0, _⟩ => rfl | ⟨1, _⟩ => rfl
  rw [e1, e2]
  subst hq
  exact congrArg₂ (· * ·) (blk_dh m c t r n) ((drop_unit _ _ f n).trans (blk_w m c t f n))

/-- The gradient of the linear half at a row. -/
theorem lin_eq (t : Fin cfg0.N) (r : Fin 688) (f : Fin 704) :
    (k0_pay15 (iblk m c 0 t) (iblk m c 1 t) (iblk m c 3 t) : S688x704.Idx → EReal) (ix2 r f)
      = val_main_v12 (F := Ideal) (X m c) (Bv m c) (Wd m c) (DH m c) (ix2 (row t r) (chan (pt t) f)) := by
  rw [val_main_v12_apply, val_main_v5_0_apply, ← mid_eq, ← sig_eq, ← u_eq]
  exact mul_comm (G := EReal) _ _

/-- Every element of the arguments is a real number. -/
structure Finite : Prop where
  x : ∀ i, ∃ r : ℝ, (X m c i : EReal) = r
  b : ∀ i, ∃ r : ℝ, (Bv m c i : EReal) = r
  w : ∀ i, ∃ r : ℝ, (Wd m c i : EReal) = r
  dh : ∀ i, ∃ r : ℝ, (DH m c i : EReal) = r

variable {m c}

theorem Finite.z (h : Finite m c) (i : (⟨2, ![8256, 5632]⟩ : Shape).Idx) : ∃ r : ℝ, (val_main_v3 (F := Ideal) (X m c) (Bv m c) i : EReal) = r := by
  rw [val_main_v3_apply, val_main_v2_apply, val_main_v1_apply, val_main_v0_apply]
  exact real_add (h.b _) (h.x _)

theorem Finite.u (h : Finite m c) (i : (⟨2, ![8256, 2816]⟩ : Shape).Idx) : ∃ r : ℝ, (val_main_v4 (F := Ideal) (X m c) (Bv m c) i : EReal) = r := by
  rw [val_main_v4_apply]
  exact h.z _

theorem Finite.v (h : Finite m c) (i : (⟨2, ![8256, 2816]⟩ : Shape).Idx) : ∃ r : ℝ, (val_main_v6 (F := Ideal) (X m c) (Bv m c) i : EReal) = r := by
  rw [val_main_v6_apply]
  exact h.z _

theorem Finite.mid (h : Finite m c) (i : (⟨2, ![8256, 2816]⟩ : Shape).Idx) : ∃ r : ℝ, (val_main_v11 (F := Ideal) (Wd m c) (DH m c) i : EReal) = r := by
  rw [val_main_v11_apply]
  exact real_sum _ fun k => real_mul (h.dh _) (h.w _)

/-- The derivative of `u * sigmoid u`, in the kernel's form and in the reference's: equal at real numbers. -/
theorem silu_slope {u v g : EReal} (hu : ∃ r : ℝ, u = r) (hv : ∃ r : ℝ, v = r) (hg : ∃ r : ℝ, g = r) :
    g * v * Ideal.logistic u * (1 + u * (1 - Ideal.logistic u))
      = g * v * Ideal.logistic u + u * (g * v) * (Ideal.logistic u * (1 - Ideal.logistic u)) := by
  obtain ⟨a, rfl⟩ := hu
  obtain ⟨b, rfl⟩ := hv
  obtain ⟨d, rfl⟩ := hg
  rw [Ideal.logistic_coe]
  generalize (1 + Real.exp (-a))⁻¹ = s
  simp only [← EReal.coe_one, ← EReal.coe_mul, ← EReal.coe_sub, ← EReal.coe_add]
  congr 1
  ring

/-- The gradient of the gated half at a row. -/
theorem gated_eq (h : Finite m c) (t : Fin cfg0.N) (r : Fin 688) (f : Fin 704) :
    (k0_pay1 (k0_pay16 (iblk m c 0 t) (iblk m c 1 t) (iblk m c 2 t) (iblk m c 3 t)) (k0_pay17 (iblk m c 1 t)) k0_pay18 : S688x704.Idx → EReal) (ix2 r f)
      = val_main_v15 (F := Ideal) (X m c) (Bv m c) (Wd m c) (DH m c) (ix2 (row t r) (chan (pt t) f)) := by
  rw [val_main_v15_apply, val_main_call1_v1_apply, val_main_call1_v2_apply, val_main_call1_v0_apply, val_main_v13_apply,
    val_main_v5_1_apply, val_main_call0_v7_apply, val_main_call0_v6_apply, val_main_call0_cst_1_apply, ref_sig]
  simp only [Ideal.ofBits_def, one_word]
  refine Eq.trans ?_ (silu_slope (h.u (ix2 (row t r) (chan (pt t) f))) (h.v (ix2 (row t r) (chan (pt t) f))) (h.mid (ix2 (row t r) (chan (pt t) f))))
  rw [← ref_sig, ← sig_eq, ← mid_eq, ← u_eq, ← v_eq]
  show (_ * (Ideal.ofBits .f32 0x3F800000#32 + _ * (Ideal.ofBits .f32 0x3F800000#32 - _)) : EReal) = _
  rw [one_word]
  rfl

/-- What a point stores for its rows of the two halves' gradients is the reference's. -/
theorem rows_4 (h : Finite m c) (t : Fin cfg0.N) (r : Fin 688) (f : Fin 704) :
    (k0_pay4 (k0_pay16 (iblk m c 0 t) (iblk m c 1 t) (iblk m c 2 t) (iblk m c 3 t)) (k0_pay17 (iblk m c 1 t)) k0_pay18 : S1x688x704.Idx → EReal) (ix3 (0 : Fin 1) r f)
      = val_main_v15 (F := Ideal) (X m c) (Bv m c) (Wd m c) (DH m c) (ix2 (row t r) (chan (pt t) f)) := by
  unfold k0_pay4
  exact (add_unit _ _ r f).trans (gated_eq h t r f)

variable (m c)

theorem rows_5 (t : Fin cfg0.N) (r : Fin 688) (f : Fin 704) :
    (k0_pay5 (k0_pay15 (iblk m c 0 t) (iblk m c 1 t) (iblk m c 3 t)) : S1x688x704.Idx → EReal) (ix3 (0 : Fin 1) r f)
      = val_main_v12 (F := Ideal) (X m c) (Bv m c) (Wd m c) (DH m c) (ix2 (row t r) (chan (pt t) f)) := by
  unfold k0_pay5
  exact (add_unit _ _ r f).trans (lin_eq m c t r f)

/-- The gated product times the gradient of the output at one row. -/
abbrev term (f : Fin 704) (k : Fin 1024) (p : Fin 4) (a : Fin 8256) : EReal :=
  val_main_v7 (F := Ideal) (X m c) (Bv m c) (ix2 a (chan p f)) * DH m c (ix2 a k)

/-- A point adds its rows' terms to the matrix's gradient. -/
theorem acc_6 (t : Fin cfg0.N) (o : Vec Ideal S1x704x1024 .f32) (f : Fin 704) (k : Fin 1024) :
    (k0_pay14 (iblk m c 0 t) (iblk m c 1 t) (iblk m c 2 t) o : S1x704x1024.Idx → EReal) (ix3 (0 : Fin 1) f k)
      = o (ix3 (0 : Fin 1) f k) + ∑ r : Fin 688, term m c f k (pt t) (row t r) := by
  unfold k0_pay14
  refine (add_unit _ _ f k).trans ?_
  show (shapeCast _ o _ (ix2 f k) + matmul (F := Ideal) _ none _ _ _ (ix2 f k) : EReal) = _
  rw [rows_mm_tn]
  refine congrArg₂ (· + ·) (drop_unit _ _ f k) (Finset.sum_congr rfl fun r _ => ?_)
  refine congrArg₂ (· * ·) ?_ (blk_dh m c t r k)
  rw [val_main_v7_apply, val_main_v5_0_apply, ← u_eq, ← v_eq, ← sig_eq]
  rfl

/-- A point adds its rows of the gated half's gradient to the first bias's. -/
theorem acc_7 (h : Finite m c) (t : Fin cfg0.N) (o : Vec Ideal S1x1x704 .f32) (f : Fin 704) :
    (k0_pay2 (k0_pay16 (iblk m c 0 t) (iblk m c 1 t) (iblk m c 2 t) (iblk m c 3 t)) (k0_pay17 (iblk m c 1 t)) k0_pay18 o : S1x1x704.Idx → EReal) (ix3 (0 : Fin 1) (0 : Fin 1) f)
      = o (ix3 (0 : Fin 1) (0 : Fin 1) f) + ∑ r : Fin 688, val_main_v15 (F := Ideal) (X m c) (Bv m c) (Wd m c) (DH m c) (ix2 (row t r) (chan (pt t) f)) := by
  unfold k0_pay2
  refine (add_unit _ _ (0 : Fin 1) f).trans ?_
  refine congrArg₂ (· + ·) (drop_unit _ _ (0 : Fin 1) f) (((as_row _ _ f).trans (column_sum _ f)).trans (Finset.sum_congr rfl fun r _ => ?_))
  exact gated_eq h t r f

/-- A point adds its rows of the linear half's gradient to the second bias's. -/
theorem acc_8 (t : Fin cfg0.N) (o : Vec Ideal S1x1x704 .f32) (f : Fin 704) :
    (k0_pay3 (k0_pay15 (iblk m c 0 t) (iblk m c 1 t) (iblk m c 3 t)) o : S1x1x704.Idx → EReal) (ix3 (0 : Fin 1) (0 : Fin 1) f)
      = o (ix3 (0 : Fin 1) (0 : Fin 1) f) + ∑ r : Fin 688, val_main_v12 (F := Ideal) (X m c) (Bv m c) (Wd m c) (DH m c) (ix2 (row t r) (chan (pt t) f)) := by
  unfold k0_pay3
  refine (add_unit _ _ (0 : Fin 1) f).trans ?_
  refine congrArg₂ (· + ·) (drop_unit _ _ (0 : Fin 1) f) (((as_row _ _ f).trans (column_sum _ f)).trans (Finset.sum_congr rfl fun r _ => ?_))
  exact lin_eq m c t r f

/-- What a point leaves in result 2's buffer. -/
theorem outs_6 (f : Fin 704) (k : Fin 1024) (t : ℕ) (ht : t < cfg0.N) :
    ((outsAt0 m c t ht).2.2.1 : S1x704x1024.Idx → EReal) (ix3 (0 : Fin 1) f k)
      = ∑ a ∈ Finset.range (688 * (t % 12 + 1)), ext ((term m c f k) (pt ⟨t, ht⟩)) a :=
  acc_blocks N_eq (term m c f k) (fun t ht => ((outsAt0 m c t ht).2.2.1 : S1x704x1024.Idx → EReal) (ix3 (0 : Fin 1) f k))
    (fun t h0 => by
      rw [outsAt0_A m c t h0]
      dsimp only
      rw [out_A_6]
      refine (acc_6 m c t _ f k).trans ?_
      exact congrArg₂ (· + ·) zero_word rfl)
    (fun t ht h0 => by
      rw [outsAt0_B m c ⟨t + 1, ht⟩ h0]
      dsimp only
      rw [out_B_6]
      exact acc_6 m c ⟨t + 1, ht⟩ _ f k) t ht

/-- What a point leaves in result 3's buffer. -/
theorem outs_7 (h : Finite m c) (f : Fin 704) (t : ℕ) (ht : t < cfg0.N) :
    ((outsAt0 m c t ht).2.2.2.1 : S1x1x704.Idx → EReal) (ix3 (0 : Fin 1) (0 : Fin 1) f)
      = ∑ a ∈ Finset.range (688 * (t % 12 + 1)), ext ((fun p a => val_main_v15 (F := Ideal) (X m c) (Bv m c) (Wd m c) (DH m c) (ix2 a (chan p f))) (pt ⟨t, ht⟩)) a :=
  acc_blocks N_eq (fun p a => val_main_v15 (F := Ideal) (X m c) (Bv m c) (Wd m c) (DH m c) (ix2 a (chan p f))) (fun t ht => ((outsAt0 m c t ht).2.2.2.1 : S1x1x704.Idx → EReal) (ix3 (0 : Fin 1) (0 : Fin 1) f))
    (fun t h0 => by
      rw [outsAt0_A m c t h0]
      dsimp only
      rw [out_A_7]
      refine (acc_7 m c h t _ f).trans ?_
      exact congrArg₂ (· + ·) zero_word rfl)
    (fun t ht h0 => by
      rw [outsAt0_B m c ⟨t + 1, ht⟩ h0]
      dsimp only
      rw [out_B_7]
      exact acc_7 m c h ⟨t + 1, ht⟩ _ f) t ht

/-- What a point leaves in result 4's buffer. -/
theorem outs_8 (f : Fin 704) (t : ℕ) (ht : t < cfg0.N) :
    ((outsAt0 m c t ht).2.2.2.2 : S1x1x704.Idx → EReal) (ix3 (0 : Fin 1) (0 : Fin 1) f)
      = ∑ a ∈ Finset.range (688 * (t % 12 + 1)), ext ((fun p a => val_main_v12 (F := Ideal) (X m c) (Bv m c) (Wd m c) (DH m c) (ix2 a (chan p f))) (pt ⟨t, ht⟩)) a :=
  acc_blocks N_eq (fun p a => val_main_v12 (F := Ideal) (X m c) (Bv m c) (Wd m c) (DH m c) (ix2 a (chan p f))) (fun t ht => ((outsAt0 m c t ht).2.2.2.2 : S1x1x704.Idx → EReal) (ix3 (0 : Fin 1) (0 : Fin 1) f))
    (fun t h0 => by
      rw [outsAt0_A m c t h0]
      dsimp only
      rw [out_A_8]
      refine (acc_8 m c t _ f).trans ?_
      exact congrArg₂ (· + ·) zero_word rfl)
    (fun t ht h0 => by
      rw [outsAt0_B m c ⟨t + 1, ht⟩ h0]
      dsimp only
      rw [out_B_8]
      exact acc_8 m c ⟨t + 1, ht⟩ _ f) t ht

/-- The reference's gradient of the matrix, as a sum over the rows. -/
theorem ref_6 (p : Fin 4) (f : Fin 704) (k : Fin 1024) :
    val_main_v27 (F := Ideal) (X m c) (Bv m c) (DH m c) (ix3 p f k) = ∑ a : Fin 8256, term m c f k p a := by
  have hi : idx_main_v27 (ix3 p f k) = ix2 (chan p f) k := funext fun b => Fin.ext (by
    have hp := p.isLt
    have hf := f.isLt
    have hk := k.isLt
    match b with
    | ⟨0, _⟩ => show ((p.val * 704 + f.val) * 1024 + k.val) / 1024 = 704 * p.val + f.val; omega
    | ⟨1, _⟩ => show ((p.val * 704 + f.val) * 1024 + k.val) % 1024 = k.val; omega)
  rw [val_main_v27_apply, hi]
  unfold term
  generalize chan p f = q
  rw [val_main_v10_apply, val_main_v9_apply]
  refine Finset.sum_congr rfl fun a _ => ?_
  have e1 : lidx_main_v9 (idx_main_v10 (ix2 q k)) a = ix2 a k := funext fun b => by match b with | ⟨0, _⟩ => rfl | ⟨1, _⟩ => rfl
  have e2 : ridx_main_v9 (idx_main_v10 (ix2 q k)) a = ix2 a q := funext fun b => by match b with | ⟨0, _⟩ => rfl | ⟨1, _⟩ => rfl
  rw [e1, e2, mul_comm]

/-- The reference's gradient of the convolution's output: its first half is the gated half's, its second the linear half's. -/
theorem grad_left (a : Fin 8256) (p : Fin 4) (f : Fin 704) :
    val_main_v17 (F := Ideal) (X m c) (Bv m c) (Wd m c) (DH m c) (ix2 a (both (lo p) f))
      = (val_main_v15 (F := Ideal) (X m c) (Bv m c) (Wd m c) (DH m c) (ix2 a (chan p f)) : EReal) := by
  have hp := p.isLt
  have hf := f.isLt
  rw [val_main_v17_apply]
  unfold val_main_v14 val_main_v16
  rw [pad_apply_of_not_inside _ _ _ (val_main_v12 (F := Ideal) (X m c) (Bv m c) (Wd m c) (DH m c)) _ _ _ (ix2 a (both (lo p) f)) (1 : Fin 2)
      (fun h => absurd h.1 (show ¬(2816 ≤ 704 * p.val + f.val) by omega)),
    pad_apply_of_inside _ _ _ (val_main_v15 (F := Ideal) (X m c) (Bv m c) (Wd m c) (DH m c)) _ _ _ (ix2 a (both (lo p) f)) (ix2 a (chan p f)) (fun b => by
      match b with
      | ⟨0, _⟩ => show a.val = 0 + a.val * 1; omega
      | ⟨1, _⟩ => show 704 * p.val + f.val = 0 + (704 * p.val + f.val) * 1; omega)]
  exact (congrArg₂ (· + ·) zero_word rfl).trans (zero_add (M := EReal) _)

theorem grad_right (a : Fin 8256) (p : Fin 4) (f : Fin 704) :
    val_main_v17 (F := Ideal) (X m c) (Bv m c) (Wd m c) (DH m c) (ix2 a (both (hi p) f))
      = (val_main_v12 (F := Ideal) (X m c) (Bv m c) (Wd m c) (DH m c) (ix2 a (chan p f)) : EReal) := by
  have hp := p.isLt
  have hf := f.isLt
  rw [val_main_v17_apply]
  unfold val_main_v14 val_main_v16
  rw [pad_apply_of_not_inside _ _ _ (val_main_v15 (F := Ideal) (X m c) (Bv m c) (Wd m c) (DH m c)) _ _ _ (ix2 a (both (hi p) f)) (1 : Fin 2)
      (fun h => absurd h.2.2 (show ¬((704 * (4 + p.val) + f.val - 0) / (0 + 1) < 2816) by omega)),
    pad_apply_of_inside _ _ _ (val_main_v12 (F := Ideal) (X m c) (Bv m c) (Wd m c) (DH m c)) _ _ _ (ix2 a (both (hi p) f)) (ix2 a (chan p f)) (fun b => by
      match b with
      | ⟨0, _⟩ => show a.val = 0 + a.val * 1; omega
      | ⟨1, _⟩ => show 704 * (4 + p.val) + f.val = 2816 + (704 * p.val + f.val) * 1; omega)]
  exact (congrArg₂ (· + ·) rfl zero_word).trans (add_zero (M := EReal) _)

/-- The gradient of the convolution's output, laid out in blocks of channels. -/
theorem grad_blocks (p : Fin 8) (a : Fin 8256) (f : Fin 704) :
    val_main_v23 (F := Ideal) (X m c) (Bv m c) (Wd m c) (DH m c) (ix3 p a f) = val_main_v17 (F := Ideal) (X m c) (Bv m c) (Wd m c) (DH m c) (ix2 a (both p f)) := by
  unfold val_main_v23 val_main_v22
  exact blocks_apply (show 5632 = 8 * 704 from rfl) (val_main_v21 (F := Ideal) (X m c) (Bv m c) (Wd m c) (DH m c)) _ _ p a f

theorem ref_4 (p : Fin 4) (a : Fin 8256) (f : Fin 704) :
    val_main_v25 (F := Ideal) (X m c) (Bv m c) (Wd m c) (DH m c) (ix3 p a f) = val_main_v15 (F := Ideal) (X m c) (Bv m c) (Wd m c) (DH m c) (ix2 a (chan p f)) := by
  have hi : idx_main_v25 (ix3 p a f) = ix3 (lo p) a f := funext fun b => by match b with | ⟨0, _⟩ => rfl | ⟨1, _⟩ => rfl | ⟨2, _⟩ => rfl
  rw [val_main_v25_apply, hi, grad_blocks, grad_left]

theorem ref_5 (p : Fin 4) (a : Fin 8256) (f : Fin 704) :
    val_main_v26 (F := Ideal) (X m c) (Bv m c) (Wd m c) (DH m c) (ix3 p a f) = val_main_v12 (F := Ideal) (X m c) (Bv m c) (Wd m c) (DH m c) (ix2 a (chan p f)) := by
  have hi : idx_main_v26 (ix3 p a f) = ix3 (hi p) a f := funext fun b => by match b with | ⟨0, _⟩ => rfl | ⟨1, _⟩ => rfl | ⟨2, _⟩ => rfl
  rw [val_main_v26_apply, hi, grad_blocks, grad_right]

/-- The gradient of the bias, as a sum over the rows. -/
theorem bias_blocks (p : Fin 8) (f : Fin 704) :
    val_main_v24 (F := Ideal) (X m c) (Bv m c) (Wd m c) (DH m c) (ix3 p (0 : Fin 1) f)
      = ∑ a : Fin 8256, (val_main_v17 (F := Ideal) (X m c) (Bv m c) (Wd m c) (DH m c) (ix2 a (both p f)) : EReal) := by
  rw [val_main_v24_apply, val_main_v20_apply, val_main_cst_2_apply, Fin.sum_univ_one, val_main_v19_apply, val_main_v18_apply, val_main_cst_1_apply]
  simp only [Ideal.ofBits_def, zero_word, zero_add]
  generalize val_main_v17 (F := Ideal) (X m c) (Bv m c) (Wd m c) (DH m c) = Y
  have h24 : idx_main_v24 (ix3 p (0 : Fin 1) f) = ix1 (both p f) := funext fun b => Fin.ext (by
    have hp := p.isLt
    have hf := f.isLt
    match b with
    | ⟨0, _⟩ => show (p.val * 1 + 0) * 704 + f.val = 704 * p.val + f.val; omega)
  rw [h24]
  generalize both p f = q
  refine Finset.sum_congr rfl fun a _ => congrArg Y (funext fun b => Fin.ext ?_)
  match b with
  | ⟨0, _⟩ => rfl
  | ⟨1, _⟩ => show 0 * 5632 + q.val = q.val; omega

/-- The two halves of the bias's gradient. -/
theorem ref_7 (p : Fin 4) (f : Fin 704) :
    val_main_v28 (F := Ideal) (X m c) (Bv m c) (Wd m c) (DH m c) (ix3 p (0 : Fin 1) f)
      = ∑ a : Fin 8256, (val_main_v15 (F := Ideal) (X m c) (Bv m c) (Wd m c) (DH m c) (ix2 a (chan p f)) : EReal) := by
  have hi : idx_main_v28 (ix3 p (0 : Fin 1) f) = ix3 (lo p) (0 : Fin 1) f := funext fun b => by match b with | ⟨0, _⟩ => rfl | ⟨1, _⟩ => rfl | ⟨2, _⟩ => rfl
  rw [val_main_v28_apply, hi, bias_blocks]
  exact Finset.sum_congr rfl fun a _ => grad_left m c a p f

theorem ref_8 (p : Fin 4) (f : Fin 704) :
    val_main_v29 (F := Ideal) (X m c) (Bv m c) (Wd m c) (DH m c) (ix3 p (0 : Fin 1) f)
      = ∑ a : Fin 8256, (val_main_v12 (F := Ideal) (X m c) (Bv m c) (Wd m c) (DH m c) (ix2 a (chan p f)) : EReal) := by
  have hi : idx_main_v29 (ix3 p (0 : Fin 1) f) = ix3 (hi p) (0 : Fin 1) f := funext fun b => by match b with | ⟨0, _⟩ => rfl | ⟨1, _⟩ => rfl | ⟨2, _⟩ => rfl
  rw [val_main_v29_apply, hi, bias_blocks]
  exact Finset.sum_congr rfl fun a _ => grad_right m c a p f

/-- Result 0 after the run. -/
theorem final_4 (h : Finite m c) : (dats m 0 c).arrAt 4 cfg0.N = val_main_v25 (F := Ideal) (X m c) (Bv m c) (Wd m c) (DH m c) :=
  (dats m 0 c).arrAt_eq_of_cover 4 _ (fun t _ => by
    have ho : (outsAt0 m c t.val t.isLt).1 = k0_pay4 (k0_pay16 (iblk m c 0 t) (iblk m c 1 t) (iblk m c 2 t) (iblk m c 3 t)) (k0_pay17 (iblk m c 1 t)) k0_pay18 := by
      by_cases h0 : t.val % 12 = 0
      · rw [outsAt0_A m c t h0]; dsimp only; rw [out_A_4]
      · rw [outsAt0_B m c t h0]; dsimp only; rw [out_B_4]
    rw [Value.flushed4, ho]
    generalize hG : val_main_v25 (F := Ideal) (X m c) (Bv m c) (Wd m c) (DH m c) = G
    funext j
    obtain ⟨r, f, rfl⟩ := split3 j
    exact (rows_4 h t r f).trans ((ref_4 m c (pt t) (row t r) f).symm.trans ((congrFun hG _).trans (read_4 G t r f).symm))) cover_4

/-- Result 1 after the run. -/
theorem final_5 : (dats m 0 c).arrAt 5 cfg0.N = val_main_v26 (F := Ideal) (X m c) (Bv m c) (Wd m c) (DH m c) :=
  (dats m 0 c).arrAt_eq_of_cover 5 _ (fun t _ => by
    have ho : (outsAt0 m c t.val t.isLt).2.1 = k0_pay5 (k0_pay15 (iblk m c 0 t) (iblk m c 1 t) (iblk m c 3 t)) := by
      by_cases h0 : t.val % 12 = 0
      · rw [outsAt0_A m c t h0]; dsimp only; rw [out_A_5]
      · rw [outsAt0_B m c t h0]; dsimp only; rw [out_B_5]
    rw [Value.flushed5, ho]
    generalize hG : val_main_v26 (F := Ideal) (X m c) (Bv m c) (Wd m c) (DH m c) = G
    funext j
    obtain ⟨r, f, rfl⟩ := split3 j
    exact (rows_5 m c t r f).trans ((ref_5 m c (pt t) (row t r) f).symm.trans ((congrFun hG _).trans (read_5 G t r f).symm))) cover_5

/-- Result 2 after the run. -/
theorem final_6 : (dats m 0 c).arrAt 6 cfg0.N = val_main_v27 (F := Ideal) (X m c) (Bv m c) (DH m c) :=
  (dats m 0 c).arrAt_eq_of_cover 6 _ (fun t hf => by
    have ht : t.val % 12 = 11 := (by decide +kernel : ∀ t : Fin grid0.N, (cfg0.win 6).flush t = true → t.val % 12 = 11) t hf
    rw [Value.flushed6]
    have hG := ref_6 m c
    generalize val_main_v27 (F := Ideal) (X m c) (Bv m c) (DH m c) = G at hG
    funext j
    obtain ⟨f, k, rfl⟩ := split3 j
    refine (outs_6 m c f k t.val t.isLt).trans (Eq.trans ?_ (read_6 G t f k).symm)
    rw [ht, hG]
    exact sum_ext _) cover_6

/-- Result 3 after the run. -/
theorem final_7 (h : Finite m c) : (dats m 0 c).arrAt 7 cfg0.N = val_main_v28 (F := Ideal) (X m c) (Bv m c) (Wd m c) (DH m c) :=
  (dats m 0 c).arrAt_eq_of_cover 7 _ (fun t hf => by
    have ht : t.val % 12 = 11 := (by decide +kernel : ∀ t : Fin grid0.N, (cfg0.win 7).flush t = true → t.val % 12 = 11) t hf
    rw [Value.flushed7]
    have hG := ref_7 m c
    generalize val_main_v28 (F := Ideal) (X m c) (Bv m c) (Wd m c) (DH m c) = G at hG
    funext j
    obtain ⟨f, rfl⟩ : ∃ (f : Fin 704), j = ix3 (0 : Fin 1) (0 : Fin 1) f :=
      ⟨j 2, (eq_ix3 j).trans (congrArg₂ (fun z y => ix3 z y (j 2)) (Subsingleton.elim (α := Fin 1) _ _) (Subsingleton.elim (α := Fin 1) _ _))⟩
    refine (outs_7 m c h f t.val t.isLt).trans (Eq.trans ?_ (read_7 G t f).symm)
    rw [ht, hG]
    exact sum_ext _) cover_7

/-- Result 4 after the run. -/
theorem final_8 : (dats m 0 c).arrAt 8 cfg0.N = val_main_v29 (F := Ideal) (X m c) (Bv m c) (Wd m c) (DH m c) :=
  (dats m 0 c).arrAt_eq_of_cover 8 _ (fun t hf => by
    have ht : t.val % 12 = 11 := (by decide +kernel : ∀ t : Fin grid0.N, (cfg0.win 8).flush t = true → t.val % 12 = 11) t hf
    rw [Value.flushed8]
    have hG := ref_8 m c
    generalize val_main_v29 (F := Ideal) (X m c) (Bv m c) (Wd m c) (DH m c) = G at hG
    funext j
    obtain ⟨f, rfl⟩ : ∃ (f : Fin 704), j = ix3 (0 : Fin 1) (0 : Fin 1) f :=
      ⟨j 2, (eq_ix3 j).trans (congrArg₂ (fun z y => ix3 z y (j 2)) (Subsingleton.elim (α := Fin 1) _ _) (Subsingleton.elim (α := Fin 1) _ _))⟩
    refine (outs_8 m c f t.val t.isLt).trans (Eq.trans ?_ (read_8 G t f).symm)
    rw [ht, hG]
    exact sum_ext _) cover_8

/-- THE RUN: from real arguments the results are the reference's terms of the arguments, which it leaves unchanged. -/
theorem run (hm : ∀ c, Finite m c) (ρ : Dev nD → PrngReg) :
    θ_run defs (onTc (τ := τ) (main (F := Ideal))) ⟨m, fun _ => 0, ρ⟩ fun r => ∀ c : Dev nD,
      r.2.mem ((c : Thread nD τ).loc main_v11_0) = val_main_v25 (F := Ideal) (X m c) (Bv m c) (Wd m c) (DH m c)
      ∧ r.2.mem ((c : Thread nD τ).loc main_v11_1) = val_main_v26 (F := Ideal) (X m c) (Bv m c) (Wd m c) (DH m c)
      ∧ r.2.mem ((c : Thread nD τ).loc main_v11_2) = val_main_v27 (F := Ideal) (X m c) (Bv m c) (DH m c)
      ∧ r.2.mem ((c : Thread nD τ).loc main_v11_3) = val_main_v28 (F := Ideal) (X m c) (Bv m c) (Wd m c) (DH m c)
      ∧ r.2.mem ((c : Thread nD τ).loc main_v11_4) = val_main_v29 (F := Ideal) (X m c) (Bv m c) (Wd m c) (DH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (final_4 m c (hm c)), ((h c).2.1).trans (final_5 m c),
    ((h c).2.2.1).trans (final_6 m c), ((h c).2.2.2.1).trans (final_7 m c (hm c)), ((h c).2.2.2.2.1).trans (final_8 m c), (h c).2.2.2.2.2⟩)
    (Value.run_blocks m ρ)

end Cert.GateIdeal.Hand

end
-- ==== Proof.GateClaim.lean ====
/- The claim about the gradient of the feed-forward gate: kernel and reference end with equal results over the extended reals. -/
module

public import proofs.«01_k».proof.Defs
public import proofs.«01_k».proof.Proof.GateValue
public import proofs.«01_k».proof.Proof.Gen.GateRefIdeal.Run

@[expose] public section

noncomputable section

namespace Cert

open Idealize.ShloMosaic Idealize.SL.Sem

/-- The side conditions of the precondition's operations. -/
theorem pre_facts : Pre_finite_gate.Facts where
  bitsLt_bf16_f32 := by decide
  bcast_S_S8256x5632 := by decide
  bcast_S_S5632 := by decide
  bcast_S_S2816x1024 := by decide
  bcast_S_S8256x1024 := by decide

/-- A magnitude below infinity is that of a real number. -/
theorem real_of_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨x.toReal, (EReal.coe_toReal hlt.1.ne fun hb => ?_).symm⟩
  rw [hb] at hlt
  exact absurd hlt.2 (by simp)

/-- The precondition says that the arguments are real numbers. -/
theorem gate_finite (m : (ℓ : Loc GateIdeal.nD GateIdeal.τ GateIdeal.sig) → Buf (Elt Ideal) ℓ)
    (h : Pre_GateIdeal_finite_gate (hPre_finite_gate := pre_facts) m) (c : Dev GateIdeal.nD) : GateIdeal.Hand.Finite m c := by
  obtain ⟨h0, h1, h2, h3⟩ := h c
  exact ⟨fun i => real_of_lt (congrFun h0 i), fun i => real_of_lt (congrFun h1 i), fun i => real_of_lt (congrFun h2 i),
    fun i => real_of_lt (congrFun h3 i)⟩

/-- The gate gradient's kernel computes, from real arguments, what the reference computes: the gradients of the two
    halves of the projection, of the matrix and of the two biases. -/
theorem gate_algebraic : algebraic_GateIdeal_GateRefIdeal_pre_finite_gate (hGateIdeal := GateIdeal.Gen.facts)
    (hGateRefIdeal := GateRefIdeal.Gen.facts) (hPre_finite_gate := pre_facts) := by
  intro m g m' g' hm h
  refine ⟨_, _, _, _, _, GateIdeal.Hand.run m (gate_finite m hm) g, ?_⟩
  refine (θ_run GateRefIdeal.defs _ _).mono (fun r hr c => ?_) (GateRefIdeal.Value.run m' g')
  obtain ⟨h0, h1, h2, h3⟩ := h c
  obtain ⟨r0, r1, r2, r3, r4, k⟩ := hr c
  refine ⟨r0.trans ?_, r1.trans ?_, r2.trans ?_, r3.trans ?_, r4.trans ?_, k⟩
  · refine (GateRefIdeal.Read.val_main_v25_eq m' c).trans ?_
    rw [h0, h1, h2, h3]
  · refine (GateRefIdeal.Read.val_main_v26_eq m' c).trans ?_
    rw [h0, h1, h2, h3]
  · rw [h0, h1, h3]
    exact GateRefIdeal.Read.val_main_v27_eq ..
  · refine (GateRefIdeal.Read.val_main_v28_eq m' c).trans ?_
    rw [h0, h1, h2, h3]
  · refine (GateRefIdeal.Read.val_main_v29_eq m' c).trans ?_
    rw [h0, h1, h2, h3]

end Cert

end
-- ==== Proof.ProjValue.lean ====
/- The gradient of a projection: of its rows and of its matrix, over the extended reals. -/
module

public import proofs.«01_k».proof.Proof.Layout
public import proofs.«01_k».proof.Proof.Gen.ProjIdeal.Value
public import proofs.«01_k».proof.Proof.Gen.ProjRefIdeal.Read

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.ValueIdx Cert.Common
open Idealize.ShloMosaic.Pipeline (Dat)
open Cert.ProjRefIdeal.Read

section AnyFloat
variable {F : FTy → Type} [FloatOps F]

/-- What the first point stores as the rows' gradient. -/
theorem out_A_3
    (c : Dev nD) (i : grid0.Coords) (a1 : Memref sig .tc .vmem S688x1024 .bf16) (ha1 : a1.IsWhole)
    (a2 : Memref sig .tc .vmem S688x1024 .bf16) (ha2 : a2.IsWhole) (a3 : Memref sig .tc .vmem S1024x1024 .bf16)
    (ha3 : a3.IsWhole) (a4 : Memref sig .tc .vmem S688x1024 .bf16) (ha4 : a4.IsWhole)
    (a5 : Memref sig .tc .vmem S1024x1024 .f32) (ha5 : a5.IsWhole) (hc0 : cond0_0 i) (x0 : Vec F S688x1024 .bf16)
    (x1 : Vec F S688x1024 .bf16) (x2 : Vec F S1024x1024 .bf16) :
    out0_A_3 c i a1 ha1 a2 ha2 a3 ha3 a4 ha4 a5 ha5 hc0 x0 x1 x2 = k0_pay2 x1 x2 := by
  unfold out0_A_3
  rw [View.read_writes_eq_canon _ _ _ (cover0_A_3 c i a1 ha1 a2 ha2 a3 ha3 a4 ha4 a5 ha5 hc0 x0 x1 x2)]
  unfold kernelRun0_A
  dsimp only
  sl_unfold_words
  rw [View.canon_unit_zero hz]
  simp only [View.readAt_eq_ld, ha1.read_unread, ha2.read_unread, ha3.read_unread, ha4.read_unread, ha5.read_unread, ld2]

/-- What a later point stores as the rows' gradient. -/
theorem out_B_3
    (c : Dev nD) (i : grid0.Coords) (a1 : Memref sig .tc .vmem S688x1024 .bf16) (ha1 : a1.IsWhole)
    (a2 : Memref sig .tc .vmem S688x1024 .bf16) (ha2 : a2.IsWhole) (a3 : Memref sig .tc .vmem S1024x1024 .bf16)
    (ha3 : a3.IsWhole) (a4 : Memref sig .tc .vmem S688x1024 .bf16) (ha4 : a4.IsWhole)
    (a5 : Memref sig .tc .vmem S1024x1024 .f32) (ha5 : a5.IsWhole) (hc0 : ¬cond0_0 i)
    (x0 : Vec F S688x1024 .bf16) (x1 : Vec F S688x1024 .bf16) (x2 : Vec F S1024x1024 .bf16)
    (xo4 : Vec F S1024x1024 .f32) :
    out0_B_3 c i a1 ha1 a2 ha2 a3 ha3 a4 ha4 a5 ha5 hc0 x0 x1 x2 xo4 = k0_pay2 x1 x2 := by
  unfold out0_B_3
  rw [View.read_writes_eq_canon _ _ _ (cover0_B_3 c i a1 ha1 a2 ha2 a3 ha3 a4 ha4 a5 ha5 hc0 x0 x1 x2 xo4)]
  unfold kernelRun0_B
  dsimp only
  sl_unfold_words
  rw [View.canon_unit_zero hz]
  simp only [View.readAt_eq_ld, ha1.read_unread, ha2.read_unread, ha3.read_unread, ha4.read_unread, ha5.read_unread, ld2]

/-- The first point adds its rows' share of the matrix's gradient to zero. -/
theorem out_A_4
    (c : Dev nD) (i : grid0.Coords) (a1 : Memref sig .tc .vmem S688x1024 .bf16) (ha1 : a1.IsWhole)
    (a2 : Memref sig .tc .vmem S688x1024 .bf16) (ha2 : a2.IsWhole) (a3 : Memref sig .tc .vmem S1024x1024 .bf16)
    (ha3 : a3.IsWhole) (a4 : Memref sig .tc .vmem S688x1024 .bf16) (ha4 : a4.IsWhole)
    (a5 : Memref sig .tc .vmem S1024x1024 .f32) (ha5 : a5.IsWhole) (hc0 : cond0_0 i) (x0 : Vec F S688x1024 .bf16)
    (x1 : Vec F S688x1024 .bf16) (x2 : Vec F S1024x1024 .bf16) :
    out0_A_4 c i a1 ha1 a2 ha2 a3 ha3 a4 ha4 a5 ha5 hc0 x0 x1 x2 = k0_pay3 x1 k0_pay1 x0 := by
  unfold out0_A_4
  rw [View.read_writes_eq_canon _ _ _ (cover0_A_4 c i a1 ha1 a2 ha2 a3 ha3 a4 ha4 a5 ha5 hc0 x0 x1 x2)]
  unfold kernelRun0_A
  dsimp only
  sl_unfold_words
  rw [View.canon_cons_unit_zero (S := S1024x1024) hz, View.readCov_unit_zero (S := S1024x1024) _ hz]
  simp only [View.readAt_eq_ld, ha1.read_unread, ha2.read_unread, ha3.read_unread, ha4.read_unread, ha5.read_unread, ld2]

/-- A later point adds its rows' share to what the points before left. -/
theorem out_B_4
    (c : Dev nD) (i : grid0.Coords) (a1 : Memref sig .tc .vmem S688x1024 .bf16) (ha1 : a1.IsWhole)
    (a2 : Memref sig .tc .vmem S688x1024 .bf16) (ha2 : a2.IsWhole) (a3 : Memref sig .tc .vmem S1024x1024 .bf16)
    (ha3 : a3.IsWhole) (a4 : Memref sig .tc .vmem S688x1024 .bf16) (ha4 : a4.IsWhole)
    (a5 : Memref sig .tc .vmem S1024x1024 .f32) (ha5 : a5.IsWhole) (hc0 : ¬cond0_0 i)
    (x0 : Vec F S688x1024 .bf16) (x1 : Vec F S688x1024 .bf16) (x2 : Vec F S1024x1024 .bf16)
    (xo4 : Vec F S1024x1024 .f32) :
    out0_B_4 c i a1 ha1 a2 ha2 a3 ha3 a4 ha4 a5 ha5 hc0 x0 x1 x2 xo4 = k0_pay3 x1 xo4 x0 := by
  unfold out0_B_4
  rw [View.read_writes_eq_canon _ _ _ (cover0_B_4 c i a1 ha1 a2 ha2 a3 ha3 a4 ha4 a5 ha5 hc0 x0 x1 x2 xo4)]
  unfold kernelRun0_B
  dsimp only
  sl_unfold_words
  rw [View.canon_unit_zero hz]
  simp only [View.readAt_eq_ld, ha1.read_unread, ha2.read_unread, ha3.read_unread, ha4.read_unread, ha5.read_unread, ld2]

end AnyFloat

/-- A product of a block of rows with a transposed matrix, at an index. -/
theorem rows_mm_nt {φ₁ φ₂ : FTy} (lhs : FVec Ideal S688x1024 φ₁) (rhs : FVec Ideal S1024x1024 φ₂) (j : S688x1024.Idx) :
    matmul dot_S688x1024_S1024x1024_S688x1024_1_1_0_0_n_n none lhs rhs (constant S688x1024 .f32 0x00000000#32) j
      = ∑ k : Fin 1024, lhs (ix2 (j 0) k) * rhs (ix2 (j 1) k) :=
  Common.mm_nt _ rfl rfl rfl rfl (fun _ _ => rfl) (fun _ _ => rfl) lhs rhs j

/-- A product of a transposed block of rows with a block of rows, at an index. -/
theorem rows_mm_tn {φ₁ φ₂ : FTy} (lhs : FVec Ideal S688x1024 φ₁) (rhs : FVec Ideal S688x1024 φ₂) (j : S1024x1024.Idx) :
    matmul dot_S688x1024_S688x1024_S1024x1024_0_0_1_1_n_n none lhs rhs (constant S1024x1024 .f32 0x00000000#32) j
      = ∑ k : Fin 688, lhs (ix2 k (j 0)) * rhs (ix2 k (j 1)) :=
  Common.mm_tn _ rfl rfl rfl rfl (fun _ _ => rfl) (fun _ _ => rfl) lhs rhs j

variable (m : (ℓ : Loc nD τ sig) → Buf (Elt Ideal) ℓ) (c : Dev nD)

/-- The rows, the gradient of the product and the matrix. -/
abbrev Y : (⟨S8256x1024, .bf16⟩ : BufTy).Contents (Elt Ideal) := m ((c.tc : Thread nD τ).loc main_arg0)
abbrev DA : (⟨S8256x1024, .bf16⟩ : BufTy).Contents (Elt Ideal) := m ((c.tc : Thread nD τ).loc main_arg1)
abbrev Wm : (⟨S1024x1024, .f32⟩ : BufTy).Contents (Elt Ideal) := m ((c.tc : Thread nD τ).loc main_arg2)

/-- The region finds the matrix unchanged by the host's cast. -/
theorem V_w : (V m c main_v0 : S1024x1024.Idx → EReal) = Wm m c := by
  unfold V
  after_results
  rfl

theorem N_eq : cfg0.N = 12 * 1 := N_0

/-- Row `r` of the block of rows of a point. -/
abbrev row (t : Fin cfg0.N) (r : Fin 688) : Fin 8256 := rowOf t r

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 2) = t.val % 12 ∧ win0_1.index t (1 : Fin 2) = 0 :=
  (by decide +kernel : ∀ t : Fin grid0.N, _)

theorem idx_3 : ∀ t : Fin cfg0.N, win0_3.index t (0 : Fin 2) = t.val % 12 ∧ win0_3.index t (1 : Fin 2) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

theorem idx_4 : ∀ t : Fin cfg0.N, win0_4.index t (0 : Fin 2) = 0 ∧ win0_4.index t (1 : Fin 2) = 0 :=
  (by decide +kernel : ∀ t : Fin grid0.N, _)

/-- A block of the rows. -/
theorem blk_y (t : Fin cfg0.N) (r : Fin 688) (k : Fin 1024) :
    (iblk m c 0 t : Vec Ideal S688x1024 .bf16) (ix2 r k) = Y m c (ix2 (row t r) k) := by
  obtain ⟨h0, h1⟩ := idx_0 t
  unfold iblk
  rw [View.read_apply]
  show (V m c main_arg0 : S8256x1024.Idx → EReal) _ = _
  rw [V_main_arg0]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- A block of the gradient of the product. -/
theorem blk_da (t : Fin cfg0.N) (r : Fin 688) (k : Fin 1024) :
    (iblk m c 1 t : Vec Ideal S688x1024 .bf16) (ix2 r k) = DA m c (ix2 (row t r) k) := by
  obtain ⟨h0, h1⟩ := idx_1 t
  unfold iblk
  rw [View.read_apply]
  show (V m c main_arg1 : S8256x1024.Idx → EReal) _ = _
  rw [V_main_arg1]
  congr 1
  funext a
  apply Fin.ext
  match a with
  | ⟨0, _⟩ => show win0_1.index t 0 * 688 + 1 * r.val = 688 * (t.val % 12) + r.val; omega
  | ⟨1, _⟩ => show win0_1.index t 1 * 1024 + 1 * k.val = k.val; omega

/-- The matrix. -/
theorem blk_w (t : Fin cfg0.N) (k : Fin 1024) (n : Fin 1024) :
    (iblk m c 2 t : Vec Ideal S1024x1024 .bf16) (ix2 k n) = Wm m c (ix2 k n) := by
  obtain ⟨h0, h1⟩ := idx_2 t
  unfold iblk
  rw [View.read_apply]
  show (V m c main_v0 : S1024x1024.Idx → EReal) _ = _
  rw [V_w]
  congr 1
  funext a
  apply Fin.ext
  match a with
  | ⟨0, _⟩ => show win0_2.index t 0 * 1024 + 1 * k.val = k.val; omega
  | ⟨1, _⟩ => show win0_2.index t 1 * 1024 + 1 * n.val = n.val; omega

/-- Reading a block of rows out of an array. -/
theorem read_3 (G : S8256x1024.Idx → EReal) (t : Fin cfg0.N) (r : Fin 688) (k : Fin 1024) :
    (((cfg0.win 3).blk t).view.read (Elt Ideal) G : S688x1024.Idx → EReal) (ix2 r k) = G (ix2 (row t r) k) := by
  obtain ⟨h0, h1⟩ := idx_3 t
  refine congrArg G (funext fun a => Fin.ext ?_)
  match a with
  | ⟨0, _⟩ => show win0_3.index t 0 * 688 + 1 * r.val = 688 * (t.val % 12) + r.val; omega
  | ⟨1, _⟩ => show win0_3.index t 1 * 1024 + 1 * k.val = k.val; omega

/-- Every row lies in a block. -/
theorem cover_3 (i : S8256x1024.Idx) : ∃ t : Fin cfg0.N, (cfg0.win 3).flush t = true ∧ i ∈ ((View.whole main_v1_0).slice (win0_3.rect t)).set := by
  have hi0 : (i 0 : Nat) < 8256 := (i 0).isLt
  have hi1 : (i 1 : Nat) < 1024 := (i 1).isLt
  have hN := N_eq
  obtain ⟨t, ht⟩ : ∃ t : Fin cfg0.N, t.val = (i 0 : Nat) / 688 := ⟨⟨_, by omega⟩, rfl⟩
  obtain ⟨h0, h1⟩ := idx_3 t
  refine ⟨t, (by decide +kernel : ∀ t : Fin grid0.N, (cfg0.win 3).flush t = true) t, ?_⟩
  rw [View.set_slice_whole]
  exact mem2 i _ (congrArg (· * 688) h0) (congrArg (· * 1024) h1) (by omega)

/-- Reading the whole matrix. -/
theorem read_4 (G : S1024x1024.Idx → EReal) (t : Fin cfg0.N) (k : Fin 1024) (n : Fin 1024) :
    (((cfg0.win 4).blk t).view.read (Elt Ideal) G : S1024x1024.Idx → EReal) (ix2 k n) = G (ix2 k n) := by
  obtain ⟨h0, h1⟩ := idx_4 t
  refine congrArg G (funext fun a => Fin.ext ?_)
  match a with
  | ⟨0, _⟩ => show win0_4.index t 0 * 1024 + 1 * k.val = k.val; omega
  | ⟨1, _⟩ => show win0_4.index t 1 * 1024 + 1 * n.val = n.val; omega

/-- The last point writes the whole matrix. -/
theorem cover_4 (i : S1024x1024.Idx) : ∃ t : Fin cfg0.N, (cfg0.win 4).flush t = true ∧ i ∈ ((View.whole main_v1_1).slice (win0_4.rect t)).set := by
  have hi0 : (i 0 : Nat) < 1024 := (i 0).isLt
  have hi1 : (i 1 : Nat) < 1024 := (i 1).isLt
  have hN := N_eq
  obtain ⟨t, ht⟩ : ∃ t : Fin cfg0.N, t.val = 11 := ⟨⟨_, by omega⟩, rfl⟩
  obtain ⟨h0, h1⟩ := idx_4 t
  refine ⟨t, (by decide +kernel : ∀ t : Fin grid0.N, t.val = 11 → (cfg0.win 4).flush t = true) t ht, ?_⟩
  rw [View.set_slice_whole]
  exact mem2 i _ (congrArg (· * 1024) h0) (congrArg (· * 1024) h1) (by omega)

/-- A point's rows of the gradient. -/
theorem point_3 (t : Fin cfg0.N) (r : Fin 688) (k : Fin 1024) :
    (k0_pay2 (iblk m c 1 t) (iblk m c 2 t) : S688x1024.Idx → EReal) (ix2 r k) = val_main_v6 (F := Ideal) (DA m c) (Wm m c) (ix2 (row t r) k) := by
  rw [val_main_v6_apply]
  unfold k0_pay2
  show matmul (F := Ideal) (φ₁ := .bf16) (φ₂ := .bf16) _ none _ _ _ (ix2 r k) = val_main_v5 (F := Ideal) (DA m c) (Wm m c) (ix2 (row t r) k)
  rw [rows_mm_nt, val_main_v5_apply]
  refine Finset.sum_congr rfl fun n _ => ?_
  have e1 : lidx_main_v5 (ix2 (row t r) k) n = ix2 (row t r) n := funext fun b => by match b with | ⟨0, _⟩ => rfl | ⟨1, _⟩ => rfl
  have e2 : ridx_main_v5 (ix2 (row t r) k) n = ix2 k n := funext fun b => by match b with | ⟨0, _⟩ => rfl | ⟨1, _⟩ => rfl
  rw [e1, e2]
  refine congrArg₂ (· * ·) (blk_da m c t r n) ?_
  rw [shapeCast_self]
  exact blk_w m c t k n

/-- A row's share of an element of the matrix's gradient. -/
abbrev term (k n : Fin 1024) (_ : Fin 1) (a : Fin 8256) : EReal := Y m c (ix2 a k) * DA m c (ix2 a n)

/-- A point adds its rows' shares. -/
theorem acc_4 (t : Fin cfg0.N) (o : Vec Ideal S1024x1024 .f32) (k n : Fin 1024) :
    (k0_pay3 (iblk m c 1 t) o (iblk m c 0 t) : S1024x1024.Idx → EReal) (ix2 k n)
      = o (ix2 k n) + ∑ r : Fin 688, term m c k n (blockOf N_eq t) (row t r) := by
  unfold k0_pay3
  show (shapeCast _ o _ (ix2 k n) + matmul (F := Ideal) (φ₁ := .bf16) (φ₂ := .bf16) _ none _ _ _ (ix2 k n) : EReal) = _
  rw [rows_mm_tn, shapeCast_self]
  refine congrArg₂ (· + ·) rfl (Finset.sum_congr rfl fun r _ => ?_)
  exact congrArg₂ (· * ·) (blk_y m c t r k) (blk_da m c t r n)

/-- What a point leaves in the matrix's gradient's buffer. -/
theorem outs_4 (k n : Fin 1024) (t : ℕ) (ht : t < cfg0.N) :
    ((outsAt0 m c t ht).2 : S1024x1024.Idx → EReal) (ix2 k n)
      = ∑ a ∈ Finset.range (688 * (t % 12 + 1)), ext (term m c k n (blockOf N_eq ⟨t, ht⟩)) a :=
  acc_blocks N_eq (term m c k n) (fun t ht => ((outsAt0 m c t ht).2 : S1024x1024.Idx → EReal) (ix2 k n))
    (fun t h0 => by
      rw [outsAt0_A m c t h0]
      dsimp only
      rw [out_A_4]
      refine (acc_4 m c t _ k n).trans ?_
      exact congrArg₂ (· + ·) zero_word rfl)
    (fun t ht h0 => by
      rw [outsAt0_B m c ⟨t + 1, ht⟩ h0]
      dsimp only
      rw [out_B_4]
      exact acc_4 m c ⟨t + 1, ht⟩ _ k n) t ht

/-- The reference's gradient of the matrix, as a sum over the rows. -/
theorem ref_4 (k n : Fin 1024) : val_main_v4 (F := Ideal) (Y m c) (DA m c) (ix2 k n) = ∑ a : Fin 8256, term m c k n 0 a := by
  rw [val_main_v4_apply]
  refine (val_main_v3_apply (Y m c) (DA m c) _).trans (Finset.sum_congr rfl fun a _ => ?_)
  have e1 : lidx_main_v3 (idx_main_v4 (ix2 k n)) a = ix2 a n := funext fun b => by match b with | ⟨0, _⟩ => rfl | ⟨1, _⟩ => rfl
  have e2 : ridx_main_v3 (idx_main_v4 (ix2 k n)) a = ix2 a k := funext fun b => by match b with | ⟨0, _⟩ => rfl | ⟨1, _⟩ => rfl
  rw [e1, e2]
  exact mul_comm (G := EReal) _ _

/-- The rows' gradient after the run. -/
theorem final_3 : (dats m 0 c).arrAt 3 cfg0.N = val_main_v6 (F := Ideal) (DA m c) (Wm m c) :=
  (dats m 0 c).arrAt_eq_of_cover 3 _ (fun t _ => by
    have ho : (outsAt0 m c t.val t.isLt).1 = k0_pay2 (iblk m c 1 t) (iblk m c 2 t) := by
      by_cases h0 : t.val % 12 = 0
      · rw [outsAt0_A m c t h0]; dsimp only; rw [out_A_3]
      · rw [outsAt0_B m c t h0]; dsimp only; rw [out_B_3]
    rw [Value.flushed3, ho]
    generalize hG : val_main_v6 (F := Ideal) (DA m c) (Wm m c) = G
    funext j
    obtain ⟨r, k, rfl⟩ := split2 j
    exact (point_3 m c t r k).trans ((congrFun hG _).trans (read_3 G t r k).symm)) cover_3

/-- The matrix's gradient after the run. -/
theorem final_4 : (dats m 0 c).arrAt 4 cfg0.N = val_main_v4 (F := Ideal) (Y m c) (DA m c) :=
  (dats m 0 c).arrAt_eq_of_cover 4 _ (fun t hf => by
    have ht : t.val % 12 = 11 := (by decide +kernel : ∀ t : Fin grid0.N, (cfg0.win 4).flush t = true → t.val % 12 = 11) t hf
    rw [Value.flushed4]
    have hG := ref_4 m c
    generalize val_main_v4 (F := Ideal) (Y m c) (DA m c) = G at hG
    funext j
    obtain ⟨k, n, rfl⟩ : ∃ (k n : Fin 1024), j = ix2 k n := ⟨j 0, j 1, eq_ix2 j⟩
    refine (outs_4 m c k n t.val t.isLt).trans (Eq.trans ?_ (read_4 G t k n).symm)
    rw [ht, hG]
    exact sum_ext _) cover_4

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = val_main_v6 (F := Ideal) (DA m c) (Wm m c)
      ∧ r.2.mem ((c : Thread nD τ).loc main_v1_1) = val_main_v4 (F := Ideal) (Y m c) (DA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final_3 m c), ((h c).2.1).trans (final_4 m c), (h c).2.2⟩)
    (Value.run_blocks m ρ)

end Cert.ProjIdeal.Hand

end
-- ==== Proof.InProjValue.lean ====
/- The input projection: the normed rows times a matrix, over the extended reals. -/
module

public import proofs.«01_k».proof.Proof.Layout
public import proofs.«01_k».proof.Proof.Gen.InProjIdeal.Value
public import proofs.«01_k».proof.Proof.Gen.InProjRefIdeal.Read

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.ValueIdx Cert.Common
open Idealize.ShloMosaic.Pipeline (Dat)
open Cert.InProjRefIdeal.Read

/-- What a point stores: its rows times its block of the matrix, in any arithmetic. -/
theorem out_2 {F : FTy → Type} [FloatOps F] (x0 : Vec F S688x1024 .bf16) (x1 : Vec F S1x1024x896 .bf16) :
    out0_2 x0 x1 = k0_pay1 x0 x1 := by
  unfold out0_2
  rw [View.canon_unit_zero hz, View.ld_unit_zero (S := S688x1024) hz, View.ld_unit_zero (S := S1x1024x896) hz3]

/-- A product of a block of rows with a block of the matrix, at an index. -/
theorem rows_mm {φ₁ φ₂ : FTy} (lhs : FVec Ideal S688x1024 φ₁) (rhs : FVec Ideal S1024x896 φ₂) (j : S688x896.Idx) :
    matmul dot_S688x1024_S1024x896_S688x896_1_0_0_1_n_n none lhs rhs (constant S688x896 .f32 0x00000000#32) j
      = ∑ k : Fin 1024, lhs (ix2 (j 0) k) * rhs (ix2 k (j 1)) :=
  Common.mm_nn _ rfl rfl rfl rfl (fun _ _ => rfl) (fun _ _ => rfl) lhs rhs j

variable (m : (ℓ : Loc nD τ sig) → Buf (Elt Ideal) ℓ) (c : Dev nD)

/-- The rows, the norm's weights and the matrix. -/
abbrev H : (⟨S8256x1024, .f32⟩ : BufTy).Contents (Elt Ideal) := m ((c.tc : Thread nD τ).loc main_arg0)
abbrev Gm : (⟨S1024, .f32⟩ : BufTy).Contents (Elt Ideal) := m ((c.tc : Thread nD τ).loc main_arg1)
abbrev Wm : (⟨S1024x7168, .f32⟩ : BufTy).Contents (Elt Ideal) := m ((c.tc : Thread nD τ).loc main_arg2)

/-- The region finds the rows normed as the reference norms them. -/
theorem V_z : (V m c main_v16 : S8256x1024.Idx → EReal) = val_main_v12 (F := Ideal) (H m c) (Gm m c) := by
  unfold V
  after_results_simp
  rfl

/-- The region finds the matrix in blocks of columns. -/
theorem V_w : (V m c main_v2 : S8x1024x896.Idx → EReal)
    = transpose S8x1024x896 [1, 0, 2] (shapeCast S1024x8x896 (Wm m c : S1024x7168.Idx → EReal) shapeCasts_S1024x7168_S1024x8x896) transposes_S1024x8x896_S8x1024x896_1_0_2 := by
  unfold V
  after_results_simp
  rfl

theorem N_eq : cfg0.N = 12 * 8 := N_0

/-- The block of columns and the row of a point. -/
abbrev pt (t : Fin cfg0.N) : Fin 8 := blockOf N_eq t
abbrev row (t : Fin cfg0.N) (r : Fin 688) : Fin 8256 := rowOf t r

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 3) = t.val / 12 ∧ win0_1.index t (1 : Fin 3) = 0 ∧ win0_1.index t (2 : Fin 3) = 0 :=
  (by decide +kernel : ∀ t : Fin grid0.N, _)

theorem idx_2 : ∀ t : Fin cfg0.N, win0_2.index t (0 : Fin 2) = t.val % 12 ∧ win0_2.index t (1 : Fin 2) = t.val / 12 :=
  (by decide +kernel : ∀ t : Fin grid0.N, _)

/-- A block of the normed rows. -/
theorem blk_z (t : Fin cfg0.N) (r : Fin 688) (k : Fin 1024) :
    (iblk m c 0 t : Vec Ideal S688x1024 .bf16) (ix2 r k) = val_main_v12 (F := Ideal) (H m c) (Gm m c) (ix2 (row t r) k) := by
  obtain ⟨h0, h1⟩ := idx_0 t
  unfold iblk
  rw [View.read_apply]
  show (V m c main_v16 : S8256x1024.Idx → EReal) _ = _
  rw [V_z]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- A block of the matrix. -/
theorem blk_w (t : Fin cfg0.N) (k : Fin 1024) (n : Fin 896) :
    (iblk m c 1 t : Vec Ideal S1x1024x896 .bf16) (ix3 (0 : Fin 1) k n) = Wm m c (ix2 k (blockCol (show 7168 = 8 * 896 from rfl) (pt t) n)) := by
  obtain ⟨h0, h1, h2⟩ := idx_1 t
  unfold iblk
  rw [View.read_apply]
  show (V m c main_v2 : S8x1024x896.Idx → EReal) _ = _
  rw [V_w]
  refine Eq.trans (congrArg _ (funext fun a => Fin.ext ?_)) (blocks_apply (show 7168 = 8 * 896 from rfl) (Wm m c : S1024x7168.Idx → EReal) _ _ (pt t) k n)
  match a with
  | ⟨0, _⟩ => show win0_1.index t 0 * 1 + 1 * 0 = t.val / 12; omega
  | ⟨1, _⟩ => show win0_1.index t 1 * 1024 + 1 * k.val = k.val; omega
  | ⟨2, _⟩ => show win0_1.index t 2 * 896 + 1 * n.val = n.val; omega

/-- Reading a block out of the result. -/
theorem read_2 (G : S8256x7168.Idx → EReal) (t : Fin cfg0.N) (r : Fin 688) (n : Fin 896) :
    (((cfg0.win 2).blk t).view.read (Elt Ideal) G : S688x896.Idx → EReal) (ix2 r n) = G (ix2 (row t r) (blockCol (show 7168 = 8 * 896 from rfl) (pt t) n)) := by
  obtain ⟨h0, h1⟩ := idx_2 t
  refine congrArg G (funext fun a => Fin.ext ?_)
  match a with
  | ⟨0, _⟩ => show win0_2.index t 0 * 688 + 1 * r.val = 688 * (t.val % 12) + r.val; omega
  | ⟨1, _⟩ => show win0_2.index t 1 * 896 + 1 * n.val = 896 * (t.val / 12) + n.val; omega

/-- Every element of the result lies in a block. -/
theorem cover_2 (i : S8256x7168.Idx) : ∃ t : Fin cfg0.N, (cfg0.win 2).flush t = true ∧ i ∈ ((View.whole main_v17).slice (win0_2.rect t)).set := by
  have hi0 : (i 0 : Nat) < 8256 := (i 0).isLt
  have hi1 : (i 1 : Nat) < 7168 := (i 1).isLt
  have hN := N_eq
  obtain ⟨t, ht⟩ : ∃ t : Fin cfg0.N, t.val = 12 * ((i 1 : Nat) / 896) + (i 0 : Nat) / 688 := ⟨⟨_, by omega⟩, rfl⟩
  obtain ⟨h0, h1⟩ := idx_2 t
  refine ⟨t, (by decide +kernel : ∀ t : Fin grid0.N, (cfg0.win 2).flush t = true) t, ?_⟩
  rw [View.set_slice_whole]
  exact mem2 i _ (congrArg (· * 688) h0) (congrArg (· * 896) h1) (by omega)

/-- The reference's product at an index. -/
theorem ref_2 (a : Fin 8256) (q : Fin 7168) :
    val_main_v14 (F := Ideal) (H m c) (Gm m c) (Wm m c) (ix2 a q) = ∑ k : Fin 1024, (val_main_v12 (F := Ideal) (H m c) (Gm m c) (ix2 a k) : EReal) * Wm m c (ix2 k q) := by
  rw [val_main_v14_apply]
  refine (val_main_v13_apply (H m c) (Gm m c) (Wm m c) (ix2 a q)).trans (Finset.sum_congr rfl fun k _ => ?_)
  have e1 : lidx_main_v13 (ix2 a q) k = ix2 a k := funext fun b => by match b with | ⟨0, _⟩ => rfl | ⟨1, _⟩ => rfl
  have e2 : ridx_main_v13 (ix2 a q) k = ix2 k q := funext fun b => by match b with | ⟨0, _⟩ => rfl | ⟨1, _⟩ => rfl
  rw [e1, e2]

/-- What a point stores is the reference's block. -/
theorem point_2 (t : Fin cfg0.N) (r : Fin 688) (n : Fin 896) :
    (k0_pay1 (iblk m c 0 t) (iblk m c 1 t) : S688x896.Idx → EReal) (ix2 r n) = val_main_v14 (F := Ideal) (H m c) (Gm m c) (Wm m c) (ix2 (row t r) (blockCol (show 7168 = 8 * 896 from rfl) (pt t) n)) := by
  rw [ref_2]
  unfold k0_pay1
  dsimp only
  show matmul (F := Ideal) _ none _ _ _ (ix2 r n) = _
  rw [rows_mm]
  refine Finset.sum_congr rfl fun k _ => ?_
  refine congrArg₂ (· * ·) ?_ ((drop_unit _ _ k n).trans (blk_w m c t k n))
  rw [shapeCast_self]
  exact blk_z m c t r k

/-- The result after the run. -/
theorem final_2 : (dats m 0 c).arrAt 2 cfg0.N = val_main_v14 (F := Ideal) (H m c) (Gm m c) (Wm m c) :=
  (dats m 0 c).arrAt_eq_of_cover 2 _ (fun t _ => by
    rw [Value.flushed2, out_2]
    generalize hG : val_main_v14 (F := Ideal) (H m c) (Gm m c) (Wm m c) = G
    funext j
    obtain ⟨r, n, rfl⟩ : ∃ (r : Fin 688) (n : Fin 896), j = ix2 r n :=
      ⟨j 0, j 1, eq_ix2 j⟩
    exact (point_2 m c t r n).trans ((congrFun hG _).trans (read_2 G t r n).symm)) cover_2

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v17) = val_main_v14 (F := Ideal) (H m c) (Gm m c) (Wm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final_2 m c), (h c).2⟩)
    (Value.run_blocks m ρ)

end Cert.InProjIdeal.Hand

end
-- ==== Proof.DwInValue.lean ====
/- The gradient of the input projection's matrix: the transposed normed rows times the gradient of the product, over the extended reals. -/
module

public import proofs.«01_k».proof.Proof.Layout
public import proofs.«01_k».proof.Proof.Gen.DwInIdeal.Value
public import proofs.«01_k».proof.Proof.Gen.DwInRefIdeal.Read

@[expose] public section

set_option maxRecDepth 16384

noncomputable section

namespace Cert.DwInIdeal.Hand

open Cert.DwInIdeal Cert.DwInIdeal.Gen Idealize.ShloMosaic Idealize.ShloMosaic.TcCoe Idealize.SL.Sem
open Idealize.ShloMosaic.ValueIdx Cert.Common
open Idealize.ShloMosaic.Pipeline (Dat)
open Cert.DwInRefIdeal.Read

/-- A product of a transposed block of rows with a block of rows, at an index. -/
theorem rows_mm_tn {φ₁ φ₂ : FTy} (lhs : FVec Ideal S688x1024 φ₁) (rhs : FVec Ideal S688x896 φ₂) (j : S1024x896.Idx) :
    matmul dot_S688x1024_S688x896_S1024x896_0_0_1_1_n_n none lhs rhs (constant S1024x896 .f32 0x00000000#32) j
      = ∑ k : Fin 688, lhs (ix2 k (j 0)) * rhs (ix2 k (j 1)) :=
  Common.mm_tn _ rfl rfl rfl rfl (fun _ _ => rfl) (fun _ _ => rfl) lhs rhs j

variable (m : (ℓ : Loc nD τ sig) → Buf (Elt Ideal) ℓ) (c : Dev nD)

/-- The rows, the norm's weights and the gradient of the product. -/
abbrev H : (⟨S8256x1024, .f32⟩ : BufTy).Contents (Elt Ideal) := m ((c.tc : Thread nD τ).loc main_arg0)
abbrev Gm : (⟨S1024, .f32⟩ : BufTy).Contents (Elt Ideal) := m ((c.tc : Thread nD τ).loc main_arg1)
abbrev DP : (⟨S8256x7168, .bf16⟩ : BufTy).Contents (Elt Ideal) := m ((c.tc : Thread nD τ).loc main_arg2)

/-- The region finds the rows normed as the reference norms them. -/
theorem V_z : (V m c main_v13 : S8256x1024.Idx → EReal) = val_main_v12 (F := Ideal) (H m c) (Gm m c) := by
  unfold V
  after_results_simp
  rfl

theorem N_eq : cfg0.N = 12 * 8 := N_0

/-- The block of columns and the row of a point. -/
abbrev pt (t : Fin cfg0.N) : Fin 8 := blockOf N_eq t
abbrev row (t : Fin cfg0.N) (r : Fin 688) : Fin 8256 := rowOf t r

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 2) = t.val % 12 ∧ win0_1.index t (1 : Fin 2) = t.val / 12 :=
  (by decide +kernel : ∀ t : Fin grid0.N, _)

theorem idx_2 : ∀ t : Fin cfg0.N, win0_2.index t (0 : Fin 3) = t.val / 12 ∧ win0_2.index t (1 : Fin 3) = 0 ∧ win0_2.index t (2 : Fin 3) = 0 :=
  (by decide +kernel : ∀ t : Fin grid0.N, _)

/-- A block of the normed rows. -/
theorem blk_z (t : Fin cfg0.N) (r : Fin 688) (k : Fin 1024) :
    (iblk m c 0 t : Vec Ideal S688x1024 .bf16) (ix2 r k) = val_main_v12 (F := Ideal) (H m c) (Gm m c) (ix2 (row t r) k) := by
  obtain ⟨h0, h1⟩ := idx_0 t
  unfold iblk
  rw [View.read_apply]
  show (V m c main_v13 : S8256x1024.Idx → EReal) _ = _
  rw [V_z]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- A block of the gradient. -/
theorem blk_d (t : Fin cfg0.N) (r : Fin 688) (n : Fin 896) :
    (iblk m c 1 t : Vec Ideal S688x896 .bf16) (ix2 r n) = DP m c (ix2 (row t r) (blockCol (show 7168 = 8 * 896 from rfl) (pt t) n)) := by
  obtain ⟨h0, h1⟩ := idx_1 t
  unfold iblk
  rw [View.read_apply]
  show (V m c main_arg2 : S8256x7168.Idx → EReal) _ = _
  rw [V_main_arg2]
  congr 1
  funext a
  apply Fin.ext
  match a with
  | ⟨0, _⟩ => show win0_1.index t 0 * 688 + 1 * r.val = 688 * (t.val % 12) + r.val; omega
  | ⟨1, _⟩ => show win0_1.index t 1 * 896 + 1 * n.val = 896 * (t.val / 12) + n.val; omega

/-- Reading a block out of the result. -/
theorem read_2 (G : S8x1024x896.Idx → EReal) (t : Fin cfg0.N) (k : Fin 1024) (n : Fin 896) :
    (((cfg0.win 2).blk t).view.read (Elt Ideal) G : S1x1024x896.Idx → EReal) (ix3 (0 : Fin 1) k n) = G (ix3 (pt t) k n) := by
  obtain ⟨h0, h1, h2⟩ := idx_2 t
  refine congrArg G (funext fun a => Fin.ext ?_)
  match a with
  | ⟨0, _⟩ => show win0_2.index t 0 * 1 + 1 * 0 = t.val / 12; omega
  | ⟨1, _⟩ => show win0_2.index t 1 * 1024 + 1 * k.val = k.val; omega
  | ⟨2, _⟩ => show win0_2.index t 2 * 896 + 1 * n.val = n.val; omega

/-- Every element of the result lies in a block that is written. -/
theorem cover_2 (i : S8x1024x896.Idx) : ∃ t : Fin cfg0.N, (cfg0.win 2).flush t = true ∧ i ∈ ((View.whole main_v14).slice (win0_2.rect t)).set := by
  have hi0 : (i 0 : Nat) < 8 := (i 0).isLt
  have hi1 : (i 1 : Nat) < 1024 := (i 1).isLt
  have hi2 : (i 2 : Nat) < 896 := (i 2).isLt
  have hN := N_eq
  obtain ⟨t, ht⟩ : ∃ t : Fin cfg0.N, t.val = 12 * (i 0 : Nat) + 11 := ⟨⟨_, by omega⟩, rfl⟩
  obtain ⟨h0, h1, h2⟩ := idx_2 t
  refine ⟨t, (flush0_2 t).mpr (by omega), ?_⟩
  rw [View.set_slice_whole]
  exact mem3 i _ (congrArg (· * 1) h0) (congrArg (· * 1024) h1) (congrArg (· * 896) h2) (by omega)

/-- A row's share of an element of the gradient. -/
abbrev term (k : Fin 1024) (n : Fin 896) (p : Fin 8) (a : Fin 8256) : EReal :=
  val_main_v12 (F := Ideal) (H m c) (Gm m c) (ix2 a k) * DP m c (ix2 a (blockCol (show 7168 = 8 * 896 from rfl) p n))

/-- A point adds its rows' shares. -/
theorem acc_2 (t : Fin cfg0.N) (o : Vec Ideal S1x1024x896 .f32) (k : Fin 1024) (n : Fin 896) :
    (k0_pay2 o (iblk m c 0 t) (iblk m c 1 t) : S1x1024x896.Idx → EReal) (ix3 (0 : Fin 1) k n)
      = o (ix3 (0 : Fin 1) k n) + ∑ r : Fin 688, term m c k n (pt t) (row t r) := by
  unfold k0_pay2
  refine (add_unit _ _ k n).trans ?_
  show (shapeCast _ o _ (ix2 k n) + matmul (F := Ideal) _ none _ _ _ (ix2 k n) : EReal) = _
  rw [rows_mm_tn]
  refine congrArg₂ (· + ·) (drop_unit _ _ k n) (Finset.sum_congr rfl fun r _ => ?_)
  refine congrArg₂ (· * ·) ?_ (blk_d m c t r n)
  rw [shapeCast_self]
  exact blk_z m c t r k

/-- What a point leaves in the result's buffer. -/
theorem outs_2 (k : Fin 1024) (n : Fin 896) (t : ℕ) (ht : t < cfg0.N) :
    (outsAt0 m c t ht : S1x1024x896.Idx → EReal) (ix3 (0 : Fin 1) k n)
      = ∑ a ∈ Finset.range (688 * (t % 12 + 1)), ext (term m c k n (pt ⟨t, ht⟩)) a :=
  acc_blocks N_eq (term m c k n) (fun t ht => (outsAt0 m c t ht : S1x1024x896.Idx → EReal) (ix3 (0 : Fin 1) k n))
    (fun t h0 => by
      rw [outsAt0_A m c t h0]
      rw [Value.out_A_2_eq]
      refine (acc_2 m c t _ k n).trans ?_
      exact congrArg₂ (· + ·) zero_word rfl)
    (fun t ht h0 => by
      rw [outsAt0_B m c ⟨t + 1, ht⟩ h0]
      rw [Value.out_B_2_eq]
      exact acc_2 m c ⟨t + 1, ht⟩ _ k n) t ht

/-- The reference's gradient, as a sum over the rows. -/
theorem ref_2 (p : Fin 8) (k : Fin 1024) (n : Fin 896) :
    val_main_v17 (F := Ideal) (H m c) (Gm m c) (DP m c) (ix3 p k n) = ∑ a : Fin 8256, term m c k n p a := by
  unfold val_main_v17 val_main_v16
  refine (blocks_apply (show 7168 = 8 * 896 from rfl) (val_main_v15 (F := Ideal) (H m c) (Gm m c) (DP m c) : (⟨2, ![1024, 7168]⟩ : Shape).Idx → EReal) _ _ p k n).trans ?_
  generalize hq : blockCol (show 7168 = 8 * 896 from rfl) p n = q
  rw [val_main_v15_apply]
  refine (val_main_v14_apply (H m c) (Gm m c) (DP m c) _).trans (Finset.sum_congr rfl fun a _ => ?_)
  have e1 : lidx_main_v14 (idx_main_v15 (ix2 k q)) a = ix2 a q := funext fun b => by match b with | ⟨0, _⟩ => rfl | ⟨1, _⟩ => rfl
  have e2 : ridx_main_v14 (idx_main_v15 (ix2 k q)) a = ix2 a k := funext fun b => by match b with | ⟨0, _⟩ => rfl | ⟨1, _⟩ => rfl
  rw [e1, e2]
  subst hq
  exact mul_comm (G := EReal) _ _

/-- The result after the run. -/
theorem final_2 : (dats m 0 c).arrAt 2 cfg0.N = val_main_v17 (F := Ideal) (H m c) (Gm m c) (DP m c) :=
  (dats m 0 c).arrAt_eq_of_cover 2 _ (fun t hf => by
    have ht : t.val % 12 = 11 := (flush0_2 t).mp hf
    have hb : (dats m 0 c).flushed 2 t = outsAt0 m c t.val t.isLt := by
      show (cfg0.win 2).cut (grid0.coords t) ((dats m 0 c).after 2 t) = _
      rw [after0_2]
      rfl
    rw [hb]
    have hG := ref_2 m c
    generalize val_main_v17 (F := Ideal) (H m c) (Gm m c) (DP m c) = G at hG
    funext j
    obtain ⟨k, n, rfl⟩ := split3 j
    refine (outs_2 m c k n t.val t.isLt).trans (Eq.trans ?_ (read_2 G t k n).symm)
    rw [ht, hG]
    exact sum_ext _) cover_2

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v14) = val_main_v17 (F := Ideal) (H m c) (Gm m c) (DP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans ((Value.final2 m c).symm.trans (final_2 m c)), (h c).2⟩)
    (Value.run m ρ)

end Cert.DwInIdeal.Hand

end
-- ==== Proof.UpProjValue.lean ====
/- The up projection: the normed rows times a matrix, over the extended reals. -/
module

public import proofs.«01_k».proof.Proof.Layout
public import proofs.«01_k».proof.Proof.Gen.UpProjIdeal.Value
public import proofs.«01_k».proof.Proof.Gen.UpProjRefIdeal.Read

@[expose] public section

set_option maxRecDepth 16384

noncomputable section

namespace Cert.UpProjIdeal.Hand

open Cert.UpProjIdeal Cert.UpProjIdeal.Gen Idealize.ShloMosaic Idealize.ShloMosaic.TcCoe Idealize.SL.Sem
open Idealize.ShloMosaic.ValueIdx Cert.Common
open Idealize.ShloMosaic.Pipeline (Dat)
open Cert.UpProjRefIdeal.Read

/-- What a point stores: its rows times its block of the matrix, in any arithmetic. -/
theorem out_2 {F : FTy → Type} [FloatOps F] (x0 : Vec F S688x1024 .bf16) (x1 : Vec F S1x1024x704 .bf16) :
    out0_2 x0 x1 = k0_pay1 x0 x1 := by
  unfold out0_2
  rw [View.canon_unit_zero hz3, View.ld_unit_zero (S := S688x1024) hz, View.ld_unit_zero (S := S1x1024x704) hz3]

/-- A product of a block of rows with a block of the matrix, at an index. -/
theorem rows_mm {φ₁ φ₂ : FTy} (lhs : FVec Ideal S688x1024 φ₁) (rhs : FVec Ideal S1024x704 φ₂) (j : S688x704.Idx) :
    matmul dot_S688x1024_S1024x704_S688x704_1_0_0_1_n_n none lhs rhs (constant S688x704 .f32 0x00000000#32) j
      = ∑ k : Fin 1024, lhs (ix2 (j 0) k) * rhs (ix2 k (j 1)) :=
  Common.mm_nn _ rfl rfl rfl rfl (fun _ _ => rfl) (fun _ _ => rfl) lhs rhs j

variable (m : (ℓ : Loc nD τ sig) → Buf (Elt Ideal) ℓ) (c : Dev nD)

/-- The rows, the norm's weights and the matrix. -/
abbrev H : (⟨S8256x1024, .f32⟩ : BufTy).Contents (Elt Ideal) := m ((c.tc : Thread nD τ).loc main_arg0)
abbrev Gm : (⟨S1024, .f32⟩ : BufTy).Contents (Elt Ideal) := m ((c.tc : Thread nD τ).loc main_arg1)
abbrev Wm : (⟨S1024x5632, .f32⟩ : BufTy).Contents (Elt Ideal) := m ((c.tc : Thread nD τ).loc main_arg2)

/-- The region finds the rows normed as the reference norms them. -/
theorem V_z : (V m c main_v16 : S8256x1024.Idx → EReal) = val_main_v12 (F := Ideal) (H m c) (Gm m c) := by
  unfold V
  after_results_simp
  rfl

/-- The region finds the matrix in blocks of columns. -/
theorem V_w : (V m c main_v2 : S8x1024x704.Idx → EReal)
    = transpose S8x1024x704 [1, 0, 2] (shapeCast S1024x8x704 (Wm m c : S1024x5632.Idx → EReal) shapeCasts_S1024x5632_S1024x8x704) transposes_S1024x8x704_S8x1024x704_1_0_2 := by
  unfold V
  after_results_simp
  rfl

theorem N_eq : cfg0.N = 12 * 8 := N_0

/-- The block of columns and the row of a point. -/
abbrev pt (t : Fin cfg0.N) : Fin 8 := blockOf N_eq t
abbrev row (t : Fin cfg0.N) (r : Fin 688) : Fin 8256 := rowOf t r

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 3) = t.val / 12 ∧ win0_1.index t (1 : Fin 3) = 0 ∧ win0_1.index t (2 : Fin 3) = 0 :=
  (by decide +kernel : ∀ t : Fin grid0.N, _)

theorem idx_2 : ∀ t : Fin cfg0.N, win0_2.index t (0 : Fin 3) = t.val / 12 ∧ win0_2.index t (1 : Fin 3) = t.val % 12 ∧ win0_2.index t (2 : Fin 3) = 0 :=
  (by decide +kernel : ∀ t : Fin grid0.N, _)

/-- A block of the normed rows. -/
theorem blk_z (t : Fin cfg0.N) (r : Fin 688) (k : Fin 1024) :
    (iblk m c 0 t : Vec Ideal S688x1024 .bf16) (ix2 r k) = val_main_v12 (F := Ideal) (H m c) (Gm m c) (ix2 (row t r) k) := by
  obtain ⟨h0, h1⟩ := idx_0 t
  unfold iblk
  rw [View.read_apply]
  show (V m c main_v16 : S8256x1024.Idx → EReal) _ = _
  rw [V_z]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- A block of the matrix. -/
theorem blk_w (t : Fin cfg0.N) (k : Fin 1024) (n : Fin 704) :
    (iblk m c 1 t : Vec Ideal S1x1024x704 .bf16) (ix3 (0 : Fin 1) k n) = Wm m c (ix2 k (blockCol (show 5632 = 8 * 704 from rfl) (pt t) n)) := by
  obtain ⟨h0, h1, h2⟩ := idx_1 t
  unfold iblk
  rw [View.read_apply]
  show (V m c main_v2 : S8x1024x704.Idx → EReal) _ = _
  rw [V_w]
  refine Eq.trans (congrArg _ (funext fun a => Fin.ext ?_)) (blocks_apply (show 5632 = 8 * 704 from rfl) (Wm m c : S1024x5632.Idx → EReal) _ _ (pt t) k n)
  match a with
  | ⟨0, _⟩ => show win0_1.index t 0 * 1 + 1 * 0 = t.val / 12; omega
  | ⟨1, _⟩ => show win0_1.index t 1 * 1024 + 1 * k.val = k.val; omega
  | ⟨2, _⟩ => show win0_1.index t 2 * 704 + 1 * n.val = n.val; omega

/-- Reading a block out of the result. -/
theorem read_2 (G : S8x8256x704.Idx → EReal) (t : Fin cfg0.N) (r : Fin 688) (n : Fin 704) :
    (((cfg0.win 2).blk t).view.read (Elt Ideal) G : S1x688x704.Idx → EReal) (ix3 (0 : Fin 1) r n) = G (ix3 (pt t) (row t r) n) := by
  obtain ⟨h0, h1, h2⟩ := idx_2 t
  refine congrArg G (funext fun a => Fin.ext ?_)
  match a with
  | ⟨0, _⟩ => show win0_2.index t 0 * 1 + 1 * 0 = t.val / 12; omega
  | ⟨1, _⟩ => show win0_2.index t 1 * 688 + 1 * r.val = 688 * (t.val % 12) + r.val; omega
  | ⟨2, _⟩ => show win0_2.index t 2 * 704 + 1 * n.val = n.val; omega

/-- Every element of the result lies in a block. -/
theorem cover_2 (i : S8x8256x704.Idx) : ∃ t : Fin cfg0.N, (cfg0.win 2).flush t = true ∧ i ∈ ((View.whole main_v17).slice (win0_2.rect t)).set := by
  have hi0 : (i 0 : Nat) < 8 := (i 0).isLt
  have hi1 : (i 1 : Nat) < 8256 := (i 1).isLt
  have hi2 : (i 2 : Nat) < 704 := (i 2).isLt
  have hN := N_eq
  obtain ⟨t, ht⟩ : ∃ t : Fin cfg0.N, t.val = 12 * (i 0 : Nat) + (i 1 : Nat) / 688 := ⟨⟨_, by omega⟩, rfl⟩
  obtain ⟨h0, h1, h2⟩ := idx_2 t
  refine ⟨t, (by decide +kernel : ∀ t : Fin grid0.N, (cfg0.win 2).flush t = true) t, ?_⟩
  rw [View.set_slice_whole]
  exact mem3 i _ (congrArg (· * 1) h0) (congrArg (· * 688) h1) (congrArg (· * 704) h2) (by omega)

/-- The reference's product at an index. -/
theorem ref_2 (a : Fin 8256) (q : Fin 5632) :
    val_main_v14 (F := Ideal) (H m c) (Gm m c) (Wm m c) (ix2 a q) = ∑ k : Fin 1024, (val_main_v12 (F := Ideal) (H m c) (Gm m c) (ix2 a k) : EReal) * Wm m c (ix2 k q) := by
  rw [val_main_v14_apply]
  refine (val_main_v13_apply (H m c) (Gm m c) (Wm m c) (ix2 a q)).trans (Finset.sum_congr rfl fun k _ => ?_)
  have e1 : lidx_main_v13 (ix2 a q) k = ix2 a k := funext fun b => by match b with | ⟨0, _⟩ => rfl | ⟨1, _⟩ => rfl
  have e2 : ridx_main_v13 (ix2 a q) k = ix2 k q := funext fun b => by match b with | ⟨0, _⟩ => rfl | ⟨1, _⟩ => rfl
  rw [e1, e2]

/-- The reference's result lays the product out in blocks of columns. -/
theorem ref_blocks (p : Fin 8) (a : Fin 8256) (n : Fin 704) :
    val_main_v16 (F := Ideal) (H m c) (Gm m c) (Wm m c) (ix3 p a n) = val_main_v14 (F := Ideal) (H m c) (Gm m c) (Wm m c) (ix2 a (blockCol (show 5632 = 8 * 704 from rfl) p n)) := by
  unfold val_main_v16 val_main_v15
  exact blocks_apply (show 5632 = 8 * 704 from rfl) (val_main_v14 (F := Ideal) (H m c) (Gm m c) (Wm m c) : (⟨2, ![8256, 5632]⟩ : Shape).Idx → EReal) _ _ p a n

/-- What a point stores is the reference's block. -/
theorem point_2 (t : Fin cfg0.N) (r : Fin 688) (n : Fin 704) :
    (k0_pay1 (iblk m c 0 t) (iblk m c 1 t) : S1x688x704.Idx → EReal) (ix3 (0 : Fin 1) r n) = val_main_v16 (F := Ideal) (H m c) (Gm m c) (Wm m c) (ix3 (pt t) (row t r) n) := by
  rw [ref_blocks, ref_2]
  unfold k0_pay1
  dsimp only
  refine (add_unit _ _ r n).trans ?_
  show matmul (F := Ideal) _ none _ _ _ (ix2 r n) = _
  rw [rows_mm]
  refine Finset.sum_congr rfl fun k _ => ?_
  refine congrArg₂ (· * ·) ?_ ((drop_unit _ _ k n).trans (blk_w m c t k n))
  rw [shapeCast_self]
  exact blk_z m c t r k

/-- The result after the run. -/
theorem final_2 : (dats m 0 c).arrAt 2 cfg0.N = val_main_v16 (F := Ideal) (H m c) (Gm m c) (Wm m c) :=
  (dats m 0 c).arrAt_eq_of_cover 2 _ (fun t _ => by
    rw [Value.flushed2, out_2]
    generalize hG : val_main_v16 (F := Ideal) (H m c) (Gm m c) (Wm m c) = G
    funext j
    obtain ⟨r, n, rfl⟩ := split3 j
    exact (point_2 m c t r n).trans ((congrFun hG _).trans (read_2 G t r n).symm)) cover_2

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v17) = val_main_v16 (F := Ideal) (H m c) (Gm m c) (Wm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final_2 m c), (h c).2⟩)
    (Value.run_blocks m ρ)

end Cert.UpProjIdeal.Hand

end
-- ==== Proof.DwUpValue.lean ====
/- The gradient of the up projection's matrix: the transposed normed rows times the gradient of the product, over the extended reals. -/
module

public import proofs.«01_k».proof.Proof.Layout
public import proofs.«01_k».proof.Proof.Gen.DwUpIdeal.Value
public import proofs.«01_k».proof.Proof.Gen.DwUpRefIdeal.Read

@[expose] public section

set_option maxRecDepth 16384

noncomputable section

namespace Cert.DwUpIdeal.Hand

open Cert.DwUpIdeal Cert.DwUpIdeal.Gen Idealize.ShloMosaic Idealize.ShloMosaic.TcCoe Idealize.SL.Sem
open Idealize.ShloMosaic.ValueIdx Cert.Common
open Idealize.ShloMosaic.Pipeline (Dat)
open Cert.DwUpRefIdeal.Read

/-- A product of a transposed block of rows with a block of rows, at an index. -/
theorem rows_mm_tn {φ₁ φ₂ : FTy} (lhs : FVec Ideal S688x1024 φ₁) (rhs : FVec Ideal S688x704 φ₂) (j : S1024x704.Idx) :
    matmul dot_S688x1024_S688x704_S1024x704_0_0_1_1_n_n none lhs rhs (constant S1024x704 .f32 0x00000000#32) j
      = ∑ k : Fin 688, lhs (ix2 k (j 0)) * rhs (ix2 k (j 1)) :=
  Common.mm_tn _ rfl rfl rfl rfl (fun _ _ => rfl) (fun _ _ => rfl) lhs rhs j

variable (m : (ℓ : Loc nD τ sig) → Buf (Elt Ideal) ℓ) (c : Dev nD)

/-- The rows, the norm's weights and the gradient of the product. -/
abbrev H : (⟨S8256x1024, .f32⟩ : BufTy).Contents (Elt Ideal) := m ((c.tc : Thread nD τ).loc main_arg0)
abbrev Gm : (⟨S1024, .f32⟩ : BufTy).Contents (Elt Ideal) := m ((c.tc : Thread nD τ).loc main_arg1)
abbrev DP : (⟨S8256x2816, .bf16⟩ : BufTy).Contents (Elt Ideal) := m ((c.tc : Thread nD τ).loc main_arg2)

/-- The region finds the rows normed as the reference norms them. -/
theorem V_z : (V m c main_v13 : S8256x1024.Idx → EReal) = val_main_v12 (F := Ideal) (H m c) (Gm m c) := by
  unfold V
  after_results_simp
  rfl

theorem N_eq : cfg0.N = 12 * 4 := N_0

/-- The block of columns and the row of a point. -/
abbrev pt (t : Fin cfg0.N) : Fin 4 := blockOf N_eq t
abbrev row (t : Fin cfg0.N) (r : Fin 688) : Fin 8256 := rowOf t r

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 3) = t.val / 12 ∧ win0_1.index t (1 : Fin 3) = t.val % 12 ∧ win0_1.index t (2 : Fin 3) = 0 :=
  (by decide +kernel : ∀ t : Fin grid0.N, _)

theorem idx_2 : ∀ t : Fin cfg0.N, win0_2.index t (0 : Fin 3) = t.val / 12 ∧ win0_2.index t (1 : Fin 3) = 0 ∧ win0_2.index t (2 : Fin 3) = 0 :=
  (by decide +kernel : ∀ t : Fin grid0.N, _)

/-- A block of the normed rows. -/
theorem blk_z (t : Fin cfg0.N) (r : Fin 688) (k : Fin 1024) :
    (iblk m c 0 t : Vec Ideal S688x1024 .bf16) (ix2 r k) = val_main_v12 (F := Ideal) (H m c) (Gm m c) (ix2 (row t r) k) := by
  obtain ⟨h0, h1⟩ := idx_0 t
  unfold iblk
  rw [View.read_apply]
  show (V m c main_v13 : S8256x1024.Idx → EReal) _ = _
  rw [V_z]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- The region finds the gradient in blocks of columns. -/
theorem V_d : (V m c main_v15 : S4x8256x704.Idx → EReal)
    = transpose S4x8256x704 [1, 0, 2] (shapeCast S8256x4x704 (DP m c : S8256x2816.Idx → EReal) shapeCasts_S8256x2816_S8256x4x704) transposes_S8256x4x704_S4x8256x704_1_0_2 := by
  unfold V
  after_results_simp
  rfl

/-- A block of the gradient. -/
theorem blk_d (t : Fin cfg0.N) (r : Fin 688) (n : Fin 704) :
    (iblk m c 1 t : Vec Ideal S1x688x704 .bf16) (ix3 (0 : Fin 1) r n) = DP m c (ix2 (row t r) (blockCol (show 2816 = 4 * 704 from rfl) (pt t) n)) := by
  obtain ⟨h0, h1, h2⟩ := idx_1 t
  unfold iblk
  rw [View.read_apply]
  show (V m c main_v15 : S4x8256x704.Idx → EReal) _ = _
  rw [V_d]
  refine Eq.trans (congrArg _ (funext fun a => Fin.ext ?_)) (blocks_apply (show 2816 = 4 * 704 from rfl) (DP m c : S8256x2816.Idx → EReal) _ _ (pt t) (row t r) n)
  match a with
  | ⟨0, _⟩ => show win0_1.index t 0 * 1 + 1 * 0 = t.val / 12; omega
  | ⟨1, _⟩ => show win0_1.index t 1 * 688 + 1 * r.val = 688 * (t.val % 12) + r.val; omega
  | ⟨2, _⟩ => show win0_1.index t 2 * 704 + 1 * n.val = n.val; omega

/-- Reading a block out of the result. -/
theorem read_2 (G : S4x1024x704.Idx → EReal) (t : Fin cfg0.N) (k : Fin 1024) (n : Fin 704) :
    (((cfg0.win 2).blk t).view.read (Elt Ideal) G : S1x1024x704.Idx → EReal) (ix3 (0 : Fin 1) k n) = G (ix3 (pt t) k n) := by
  obtain ⟨h0, h1, h2⟩ := idx_2 t
  refine congrArg G (funext fun a => Fin.ext ?_)
  match a with
  | ⟨0, _⟩ => show win0_2.index t 0 * 1 + 1 * 0 = t.val / 12; omega
  | ⟨1, _⟩ => show win0_2.index t 1 * 1024 + 1 * k.val = k.val; omega
  | ⟨2, _⟩ => show win0_2.index t 2 * 704 + 1 * n.val = n.val; omega

/-- Every element of the result lies in a block that is written. -/
theorem cover_2 (i : S4x1024x704.Idx) : ∃ t : Fin cfg0.N, (cfg0.win 2).flush t = true ∧ i ∈ ((View.whole main_v16).slice (win0_2.rect t)).set := by
  have hi0 : (i 0 : Nat) < 4 := (i 0).isLt
  have hi1 : (i 1 : Nat) < 1024 := (i 1).isLt
  have hi2 : (i 2 : Nat) < 704 := (i 2).isLt
  have hN := N_eq
  obtain ⟨t, ht⟩ : ∃ t : Fin cfg0.N, t.val = 12 * (i 0 : Nat) + 11 := ⟨⟨_, by omega⟩, rfl⟩
  obtain ⟨h0, h1, h2⟩ := idx_2 t
  refine ⟨t, (flush0_2 t).mpr (by omega), ?_⟩
  rw [View.set_slice_whole]
  exact mem3 i _ (congrArg (· * 1) h0) (congrArg (· * 1024) h1) (congrArg (· * 704) h2) (by omega)

/-- A row's share of an element of the gradient. -/
abbrev term (k : Fin 1024) (n : Fin 704) (p : Fin 4) (a : Fin 8256) : EReal :=
  val_main_v12 (F := Ideal) (H m c) (Gm m c) (ix2 a k) * DP m c (ix2 a (blockCol (show 2816 = 4 * 704 from rfl) p n))

/-- A point adds its rows' shares. -/
theorem acc_2 (t : Fin cfg0.N) (o : Vec Ideal S1x1024x704 .f32) (k : Fin 1024) (n : Fin 704) :
    (k0_pay2 o (iblk m c 0 t) (iblk m c 1 t) : S1x1024x704.Idx → EReal) (ix3 (0 : Fin 1) k n)
      = o (ix3 (0 : Fin 1) k n) + ∑ r : Fin 688, term m c k n (pt t) (row t r) := by
  unfold k0_pay2
  refine (add_unit _ _ k n).trans ?_
  show (shapeCast _ o _ (ix2 k n) + matmul (F := Ideal) _ none _ _ _ (ix2 k n) : EReal) = _
  rw [rows_mm_tn]
  refine congrArg₂ (· + ·) (drop_unit _ _ k n) (Finset.sum_congr rfl fun r _ => ?_)
  refine congrArg₂ (· * ·) ?_ ((drop_unit _ _ r n).trans (blk_d m c t r n))
  rw [shapeCast_self]
  exact blk_z m c t r k

/-- What a point leaves in the result's buffer. -/
theorem outs_2 (k : Fin 1024) (n : Fin 704) (t : ℕ) (ht : t < cfg0.N) :
    (outsAt0 m c t ht : S1x1024x704.Idx → EReal) (ix3 (0 : Fin 1) k n)
      = ∑ a ∈ Finset.range (688 * (t % 12 + 1)), ext (term m c k n (pt ⟨t, ht⟩)) a :=
  acc_blocks N_eq (term m c k n) (fun t ht => (outsAt0 m c t ht : S1x1024x704.Idx → EReal) (ix3 (0 : Fin 1) k n))
    (fun t h0 => by
      rw [outsAt0_A m c t h0]
      rw [Value.out_A_2_eq]
      refine (acc_2 m c t _ k n).trans ?_
      exact congrArg₂ (· + ·) zero_word rfl)
    (fun t ht h0 => by
      rw [outsAt0_B m c ⟨t + 1, ht⟩ h0]
      rw [Value.out_B_2_eq]
      exact acc_2 m c ⟨t + 1, ht⟩ _ k n) t ht

/-- The reference's gradient, as a sum over the rows. -/
theorem ref_2 (p : Fin 4) (k : Fin 1024) (n : Fin 704) :
    val_main_v17 (F := Ideal) (H m c) (Gm m c) (DP m c) (ix3 p k n) = ∑ a : Fin 8256, term m c k n p a := by
  unfold val_main_v17 val_main_v16
  refine (blocks_apply (show 2816 = 4 * 704 from rfl) (val_main_v15 (F := Ideal) (H m c) (Gm m c) (DP m c) : (⟨2, ![1024, 2816]⟩ : Shape).Idx → EReal) _ _ p k n).trans ?_
  generalize hq : blockCol (show 2816 = 4 * 704 from rfl) p n = q
  rw [val_main_v15_apply]
  refine (val_main_v14_apply (H m c) (Gm m c) (DP m c) _).trans (Finset.sum_congr rfl fun a _ => ?_)
  have e1 : lidx_main_v14 (idx_main_v15 (ix2 k q)) a = ix2 a q := funext fun b => by match b with | ⟨0, _⟩ => rfl | ⟨1, _⟩ => rfl
  have e2 : ridx_main_v14 (idx_main_v15 (ix2 k q)) a = ix2 a k := funext fun b => by match b with | ⟨0, _⟩ => rfl | ⟨1, _⟩ => rfl
  rw [e1, e2]
  subst hq
  exact mul_comm (G := EReal) _ _

/-- The result after the run. -/
theorem final_2 : (dats m 0 c).arrAt 2 cfg0.N = val_main_v17 (F := Ideal) (H m c) (Gm m c) (DP m c) :=
  (dats m 0 c).arrAt_eq_of_cover 2 _ (fun t hf => by
    have ht : t.val % 12 = 11 := (flush0_2 t).mp hf
    have hb : (dats m 0 c).flushed 2 t = outsAt0 m c t.val t.isLt := by
      show (cfg0.win 2).cut (grid0.coords t) ((dats m 0 c).after 2 t) = _
      rw [after0_2]
      rfl
    rw [hb]
    have hG := ref_2 m c
    generalize val_main_v17 (F := Ideal) (H m c) (Gm m c) (DP m c) = G at hG
    funext j
    obtain ⟨k, n, rfl⟩ := split3 j
    refine (outs_2 m c k n t.val t.isLt).trans (Eq.trans ?_ (read_2 G t k n).symm)
    rw [ht, hG]
    exact sum_ext _) cover_2

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v16) = val_main_v17 (F := Ideal) (H m c) (Gm m c) (DP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans ((Value.final2 m c).symm.trans (final_2 m c)), (h c).2⟩)
    (Value.run m ρ)

end Cert.DwUpIdeal.Hand

end
-- ==== Proof.ProductClaims.lean ====
/- The claims about the projections and their matrices' gradients: kernel and reference end with equal results over the extended reals. -/
module

public import proofs.«01_k».proof.Defs
public import proofs.«01_k».proof.Proof.ProjValue
public import proofs.«01_k».proof.Proof.Gen.ProjRefIdeal.Run
public import proofs.«01_k».proof.Proof.InProjValue
public import proofs.«01_k».proof.Proof.Gen.InProjRefIdeal.Run
public import proofs.«01_k».proof.Proof.DwInValue
public import proofs.«01_k».proof.Proof.Gen.DwInRefIdeal.Run
public import proofs.«01_k».proof.Proof.UpProjValue
public import proofs.«01_k».proof.Proof.Gen.UpProjRefIdeal.Run
public import proofs.«01_k».proof.Proof.DwUpValue
public import proofs.«01_k».proof.Proof.Gen.DwUpRefIdeal.Run

@[expose] public section

noncomputable section

namespace Cert

open Idealize.ShloMosaic Idealize.SL.Sem

/-- The gradient of the two small projections: the kernel computes what the reference computes, the rows' gradient and the matrix's. -/
theorem proj_algebraic : algebraic_ProjIdeal_ProjRefIdeal (hProjIdeal := ProjIdeal.Gen.facts) (hProjRefIdeal := ProjRefIdeal.Gen.facts) := by
  intro m g m' g' _ h
  refine ⟨_, _, ProjIdeal.Hand.run m g, ?_⟩
  refine (θ_run ProjRefIdeal.defs _ _).mono (fun r hr c => ?_) (ProjRefIdeal.Value.run m' g')
  obtain ⟨h0, h1, h2⟩ := h c
  obtain ⟨r0, r1, k⟩ := hr c
  refine ⟨r0.trans ?_, r1.trans ?_, k⟩
  · rw [h1, h2]
    exact ProjRefIdeal.Read.val_main_v6_eq ..
  · rw [h0, h1]
    exact ProjRefIdeal.Read.val_main_v4_eq ..

/-- The input projection: the kernel computes what the reference computes, its rows. -/
theorem in_proj_algebraic : algebraic_InProjIdeal_InProjRefIdeal (hInProjIdeal := InProjIdeal.Gen.facts) (hInProjRefIdeal := InProjRefIdeal.Gen.facts) := by
  intro m g m' g' _ h
  refine ⟨_, InProjIdeal.Hand.run m g, ?_⟩
  refine (θ_run InProjRefIdeal.defs _ _).mono (fun r hr c => ?_) (InProjRefIdeal.Value.run m' g')
  obtain ⟨h0, h1, h2⟩ := h c
  obtain ⟨r0, k⟩ := hr c
  refine ⟨r0.trans ?_, k⟩
  · rw [h0, h1, h2]
    exact InProjRefIdeal.Read.val_main_v14_eq ..

/-- The gradient of the input projection's matrix: the kernel computes what the reference computes, the matrix. -/
theorem dw_in_algebraic : algebraic_DwInIdeal_DwInRefIdeal (hDwInIdeal := DwInIdeal.Gen.facts) (hDwInRefIdeal := DwInRefIdeal.Gen.facts) := by
  intro m g m' g' _ h
  refine ⟨_, DwInIdeal.Hand.run m g, ?_⟩
  refine (θ_run DwInRefIdeal.defs _ _).mono (fun r hr c => ?_) (DwInRefIdeal.Value.run m' g')
  obtain ⟨h0, h1, h2⟩ := h c
  obtain ⟨r0, k⟩ := hr c
  refine ⟨r0.trans ?_, k⟩
  · rw [h0, h1, h2]
    exact DwInRefIdeal.Read.val_main_v17_eq ..

/-- The channel mixer's first projection: the kernel computes what the reference computes, its rows. -/
theorem up_proj_algebraic : algebraic_UpProjIdeal_UpProjRefIdeal (hUpProjIdeal := UpProjIdeal.Gen.facts) (hUpProjRefIdeal := UpProjRefIdeal.Gen.facts) := by
  intro m g m' g' _ h
  refine ⟨_, UpProjIdeal.Hand.run m g, ?_⟩
  refine (θ_run UpProjRefIdeal.defs _ _).mono (fun r hr c => ?_) (UpProjRefIdeal.Value.run m' g')
  obtain ⟨h0, h1, h2⟩ := h c
  obtain ⟨r0, k⟩ := hr c
  refine ⟨r0.trans ?_, k⟩
  · rw [h0, h1, h2]
    exact UpProjRefIdeal.Read.val_main_v16_eq ..

/-- The gradient of the channel mixer's first matrix: the kernel computes what the reference computes, the matrix. -/
theorem dw_up_algebraic : algebraic_DwUpIdeal_DwUpRefIdeal (hDwUpIdeal := DwUpIdeal.Gen.facts) (hDwUpRefIdeal := DwUpRefIdeal.Gen.facts) := by
  intro m g m' g' _ h
  refine ⟨_, DwUpIdeal.Hand.run m g, ?_⟩
  refine (θ_run DwUpRefIdeal.defs _ _).mono (fun r hr c => ?_) (DwUpRefIdeal.Value.run m' g')
  obtain ⟨h0, h1, h2⟩ := h c
  obtain ⟨r0, k⟩ := hr c
  refine ⟨r0.trans ?_, k⟩
  · rw [h0, h1, h2]
    exact DwUpRefIdeal.Read.val_main_v17_eq ..

end Cert

end
-- ==== Proof.Norm.lean ====
/- The gradient of a norm of rows, as a function of one row; sums and broadcasts of rows and columns at an index; and
   buffers to which a grid's points add. -/
module

public import proofs.«01_k».proof.Proof.Layout

@[expose] public section

noncomputable section

namespace Cert.Common

open Idealize.ShloMosaic Idealize.ShloMosaic.ValueIdx

/-- A sum along a row. -/
theorem row_sum {a b : ℕ} (v : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction (F := Ideal) .add [1] ⟨1, ![a]⟩ v acc h hφ hacc (ix1 r) = ∑ k : Fin b, (v (ix2 r k) : EReal) :=
  (Ideal.multiReduction_add_single v acc h hφ hacc (ix1 r)).trans
    (Finset.sum_congr rfl fun k _ => congrArg v (funext fun d => Fin.ext (by match d with | ⟨0, _⟩ => rfl | ⟨1, _⟩ => rfl)))

/-- A sum down a column. -/
theorem col_sum {a b : ℕ} (v : FVec Ideal ⟨2, ![a, b]⟩ .f32) (acc : BitVec 32) (h : (⟨2, ![a, b]⟩ : Shape).Reduces [0] ⟨1, ![b]⟩)
    (hφ : FKind.Formats .f32) (hacc : acc = FKind.add.neutral .f32 hφ) (k : Fin b) :
    multiReduction (F := Ideal) .add [0] ⟨1, ![b]⟩ v acc h hφ hacc (ix1 k) = ∑ r : Fin a, (v (ix2 r k) : EReal) :=
  (Ideal.multiReduction_add_single v acc h hφ hacc (ix1 k)).trans
    (Finset.sum_congr rfl fun r _ => congrArg v (funext fun d => Fin.ext (by match d with | ⟨0, _⟩ => rfl | ⟨1, _⟩ => rfl)))

/-- A column repeated along the rows. -/
theorem repeat_column {α : Type} {b : ℕ} (v : (⟨2, ![688, 1]⟩ : Shape).Idx → α)
    (h : (⟨2, ![688, 1]⟩ : Shape).Broadcasts ⟨2, ![688, b]⟩) (r : Fin 688) (k : Fin b) :
    broadcastTo ⟨2, ![688, b]⟩ v h (ix2 r k) = v (ix2 r (0 : Fin 1)) :=
  broadcastTo_apply v h _ _ (fun d => by match d with | ⟨0, _⟩ => rfl | ⟨1, _⟩ => rfl)

/-- A row repeated down the columns. -/
theorem repeat_row {α : Type} {a : ℕ} (v : (⟨2, ![1, 1024]⟩ : Shape).Idx → α)
    (h : (⟨2, ![1, 1024]⟩ : Shape).Broadcasts ⟨2, ![a, 1024]⟩) (r : Fin a) (k : Fin 1024) :
    broadcastTo ⟨2, ![a, 1024]⟩ v h (ix2 r k) = v (ix2 (0 : Fin 1) k) :=
  broadcastTo_apply v h _ _ (fun d => by match d with | ⟨0, _⟩ => rfl | ⟨1, _⟩ => rfl)

/-- The mean square of a row and the norm's small constant. -/
def meanSq (X : Fin 1024 → EReal) : EReal :=
  Ideal.div (∑ k, X k * X k) (Ideal.ofBits .f32 0x44800000#32) + Ideal.ofBits .f32 0x358637BD#32

/-- The mean's gradient, for the row `X`, the weights `G` and the gradient `A` of the normed row. -/
def meanGrad (X G A : Fin 1024 → EReal) : EReal :=
  Ideal.div ((∑ k, X k * (A k * G k)) * (Ideal.ofBits .f32 0xBF000000#32 * Ideal.div (Ideal.rsqrt (meanSq X)) (meanSq X)))
    (Ideal.ofBits .f32 0x44800000#32)

/-- The row's gradient. -/
def rowGrad (X G A : Fin 1024 → EReal) (k : Fin 1024) : EReal :=
  A k * G k * Ideal.rsqrt (meanSq X) + X k * meanGrad X G A + meanGrad X G A * X k

/-- The row's part of the weights' gradient. -/
def weightGrad (X A : Fin 1024 → EReal) (k : Fin 1024) : EReal := X k * Ideal.rsqrt (meanSq X) * A k

/-- A buffer that every `P` points begin anew with their first block's terms, and to which the others add theirs, holds
    the terms of the blocks up to the point's. -/
theorem acc_columns {N P b w : ℕ} (T : ℕ → Fin w → EReal) (O : ∀ t, t < N → EReal)
    (hA : ∀ t (ht : t < N), t % P = 0 → O t ht = ∑ q : Fin b, ext (T (t / P)) (b * (t % P) + q.val))
    (hB : ∀ t (ht : t + 1 < N), ¬(t + 1) % P = 0 →
      O (t + 1) ht = O t (Nat.lt_of_succ_lt ht) + ∑ q : Fin b, ext (T ((t + 1) / P)) (b * ((t + 1) % P) + q.val)) :
    ∀ t (ht : t < N), O t ht = ∑ a ∈ Finset.range (b * (t % P + 1)), ext (T (t / P)) a
  | 0, ht => by
    rw [hA 0 ht (Nat.zero_mod P), Nat.mul_succ, Finset.sum_range_add, Finset.sum_range (n := b), Nat.zero_mod, Nat.mul_zero, Finset.sum_range_zero, zero_add]
  | t + 1, ht => by
    rw [Nat.mul_succ, Finset.sum_range_add, Finset.sum_range (n := b)]
    by_cases h0 : (t + 1) % P = 0
    · rw [hA (t + 1) ht h0, h0, Nat.mul_zero, Finset.sum_range_zero, zero_add]
    · rw [hB t ht h0]
      refine congrArg₂ (· + ·) ?_ rfl
      have hP : P ≠ 1 := fun h => h0 (by rw [h]; exact Nat.mod_one _)
      have e : (t + 1) % P = t % P + 1 := by
        rcases Nat.eq_zero_or_pos P with h | h
        · subst h; simp
        · rw [Nat.add_mod, Nat.mod_eq_of_lt (show 1 < P by omega)]
          refine Nat.mod_eq_of_lt ?_
          have hlt := Nat.mod_lt t h
          rcases Nat.lt_or_ge (t % P + 1) P with h' | h'
          · exact h'
          · exfalso
            have hs : t % P + 1 = P := by omega
            apply h0
            rw [Nat.add_mod, Nat.mod_eq_of_lt (show 1 < P by omega), hs, Nat.mod_self]
      have e2 : (t + 1) / P = t / P := by
        rcases Nat.eq_zero_or_pos P with h | h
        · subst h; simp
        · have h1 := Nat.div_add_mod t P
          have h2 := Nat.div_add_mod (t + 1) P
          rw [e] at h2
          exact Nat.eq_of_mul_eq_mul_left h (by omega)
      rw [acc_columns T O hA hB t (Nat.lt_of_succ_lt ht), e, e2]

end Cert.Common

end
-- ==== Proof.InBwdOuts.lean ====
/- What one point of the kernel of the input projection's gradient stores, in any arithmetic; and its product over the extended reals. -/
module

public import proofs.«01_k».proof.Proof.Norm
public import proofs.«01_k».proof.Proof.Gen.InBwdIdeal.Frame
public import Idealize.ShloMosaic.Lib.Pipeline.Value
public import Idealize.ShloMosaic.Lib.Tactic

@[expose] public section

set_option maxRecDepth 16384

noncomputable section

namespace Cert.InBwdIdeal.Hand

open Cert.InBwdIdeal Cert.InBwdIdeal.Gen Idealize.ShloMosaic Idealize.ShloMosaic.TcCoe Idealize.SL.Sem
open Idealize.ShloMosaic.ValueIdx Cert.Common
open Idealize.ShloMosaic.Pipeline (Dat)

section AnyFloat
variable {F : FTy → Type} [FloatOps F]

section Stores
variable (c : Dev nD) (i : grid0.Coords) (a2 : Memref sig .tc .vmem S688x896 .bf16) (ha2 : a2.IsWhole)
    (a3 : Memref sig .tc .vmem S1x1024x896 .bf16) (ha3 : a3.IsWhole) (a4 : Memref sig .tc .vmem S688x1024 .f32)
    (ha4 : a4.IsWhole) (a5 : Memref sig .tc .vmem S1x1024 .f32) (ha5 : a5.IsWhole)
    (a6 : Memref sig .tc .vmem S688x1024 .f32) (ha6 : a6.IsWhole) (a7 : Memref sig .tc .vmem S688x1024 .f32)
    (ha7 : a7.IsWhole) (a8 : Memref sig .tc .vmem S1x1024 .f32) (ha8 : a8.IsWhole)
    (a9 : Memref sig .tc .vmem S688x1024 .f32) (ha9 : a9.IsWhole)
variable (x0 : Vec F S688x896 .bf16) (x1 : Vec F S1x1024x896 .bf16) (x2 : Vec F S688x1024 .f32) (x3 : Vec F S1x1024 .f32)
    (x4 : Vec F S688x1024 .f32) (xs0 : Vec F S688x1024 .f32) (xo6 : Vec F S1x1024 .f32)

/-- The first point of a block of rows begins the product with its columns' terms. -/
theorem sout_A_0 (hc0 : cond0_0 i) (hc1 : ¬cond0_1 i) (hc2 : cond0_2 i) (hc3 : ¬cond0_3 i) :
    sout0_A_0 c i a2 ha2 a3 ha3 a4 ha4 a5 ha5 a6 ha6 a7 ha7 a8 ha8 a9 ha9 hc0 hc1 hc2 hc3 x0 x1 x2 x3 x4 = k0_pay2 x0 x1 := by
  unfold sout0_A_0
  refine Eq.trans (View.read_writes_eq_canon _ _ _ (fun y => scover0_A_0 (y := y) ..)) ?_
  unfold kernelRun0_A
  dsimp only
  sl_unfold_words
  rw [View.canon_unit_zero hz]
  simp only [View.readAt_eq_ld, Memref.IsWhole.read_unread, ld2, ld3]

/-- So does the first point of every later block of rows. -/
theorem sout_D_0 (hc0 : cond0_0 i) (hc1 : ¬cond0_1 i) (hc2 : ¬cond0_2 i) (hc3 : ¬cond0_3 i) :
    sout0_D_0 c i a2 ha2 a3 ha3 a4 ha4 a5 ha5 a6 ha6 a7 ha7 a8 ha8 a9 ha9 hc0 hc1 hc2 hc3 x0 x1 x2 x3 x4 = k0_pay2 x0 x1 := by
  unfold sout0_D_0
  refine Eq.trans (View.read_writes_eq_canon _ _ _ (fun y => scover0_D_0 (y := y) ..)) ?_
  unfold kernelRun0_D
  dsimp only
  sl_unfold_words
  rw [View.canon_unit_zero hz]
  simp only [View.readAt_eq_ld, Memref.IsWhole.read_unread, ld2, ld3]

/-- A later point adds its columns' terms. -/
theorem sout_B_0 (hc0 : ¬cond0_0 i) (hc1 : cond0_1 i) (hc2 : ¬cond0_2 i) (hc3 : ¬cond0_3 i) :
    sout0_B_0 c i a2 ha2 a3 ha3 a4 ha4 a5 ha5 a6 ha6 a7 ha7 a8 ha8 a9 ha9 hc0 hc1 hc2 hc3 x0 x1 x2 x3 x4 xs0 = k0_pay3 x0 x1 xs0 := by
  unfold sout0_B_0
  refine Eq.trans (View.read_writes_eq_canon _ _ _ (fun y => scover0_B_0 (y := y) ..)) ?_
  unfold kernelRun0_B
  dsimp only
  sl_unfold_words
  rw [View.canon_unit_zero hz]
  simp only [View.readAt_eq_ld, Memref.IsWhole.read_unread, ld2, ld3]

/-- So does the last. -/
theorem sout_C_0 (hc0 : ¬cond0_0 i) (hc1 : cond0_1 i) (hc2 : ¬cond0_2 i) (hc3 : cond0_3 i) :
    sout0_C_0 c i a2 ha2 a3 ha3 a4 ha4 a5 ha5 a6 ha6 a7 ha7 a8 ha8 a9 ha9 hc0 hc1 hc2 hc3 x0 x1 x2 x3 x4 xo6 xs0 = k0_pay3 x0 x1 xs0 := by
  unfold sout0_C_0
  refine Eq.trans (View.read_writes_eq_canon _ _ _ (fun y => scover0_C_0 (y := y) ..)) ?_
  unfold kernelRun0_C
  dsimp only
  sl_unfold_words
  rw [View.canon_unit_zero hz]
  simp only [View.readAt_eq_ld, Memref.IsWhole.read_unread, ld2, ld3]

/-- The very first point sets the weights' gradient to zero. -/
theorem out_A_6 (hc0 : cond0_0 i) (hc1 : ¬cond0_1 i) (hc2 : cond0_2 i) (hc3 : ¬cond0_3 i) :
    out0_A_6 c i a2 ha2 a3 ha3 a4 ha4 a5 ha5 a6 ha6 a7 ha7 a8 ha8 a9 ha9 hc0 hc1 hc2 hc3 x0 x1 x2 x3 x4 = k0_pay4 := by
  unfold out0_A_6
  refine Eq.trans (View.read_writes_eq_canon _ _ _ (fun y => cover0_A_6 (y := y) ..)) ?_
  unfold kernelRun0_A
  dsimp only
  sl_unfold_words
  rw [View.canon_unit_zero hz]

/-- A later point leaves the weights' gradient. -/
theorem out_B_6 (hc0 : ¬cond0_0 i) (hc1 : cond0_1 i) (hc2 : ¬cond0_2 i) (hc3 : ¬cond0_3 i) :
    out0_B_6 c i a2 ha2 a3 ha3 a4 ha4 a5 ha5 a6 ha6 a7 ha7 a8 ha8 a9 ha9 hc0 hc1 hc2 hc3 x0 x1 x2 x3 x4 xs0 xo6 = xo6 := rfl

/-- So does the first of a later block of rows. -/
theorem out_D_6 (hc0 : cond0_0 i) (hc1 : ¬cond0_1 i) (hc2 : ¬cond0_2 i) (hc3 : ¬cond0_3 i) :
    out0_D_6 c i a2 ha2 a3 ha3 a4 ha4 a5 ha5 a6 ha6 a7 ha7 a8 ha8 a9 ha9 hc0 hc1 hc2 hc3 x0 x1 x2 x3 x4 xo6 = xo6 := rfl

/-- The last point of a block of rows adds its rows' terms to the weights' gradient. -/
theorem out_C_6 (hc0 : ¬cond0_0 i) (hc1 : cond0_1 i) (hc2 : ¬cond0_2 i) (hc3 : cond0_3 i) :
    out0_C_6 c i a2 ha2 a3 ha3 a4 ha4 a5 ha5 a6 ha6 a7 ha7 a8 ha8 a9 ha9 hc0 hc1 hc2 hc3 x0 x1 x2 x3 x4 xo6 xs0 = k0_pay5 (k0_pay8 x2 (k0_pay3 x0 x1 xs0)) xo6 := by
  unfold out0_C_6
  refine Eq.trans (View.read_writes_eq_canon _ _ _ (fun y => cover0_C_6 (y := y) ..)) ?_
  unfold kernelRun0_C
  dsimp only
  sl_unfold_words
  rw [View.canon_unit_zero hz]
  simp only [View.readAt_eq_ld, Memref.IsWhole.read_unread, ld2, ld3, View.readCov_unit_zero (S := S688x1024) _ hz]

/-- And stores the rows' gradient. -/
theorem out_C_5 (hc0 : ¬cond0_0 i) (hc1 : cond0_1 i) (hc2 : ¬cond0_2 i) (hc3 : cond0_3 i) :
    out0_C_5 c i a2 ha2 a3 ha3 a4 ha4 a5 ha5 a6 ha6 a7 ha7 a8 ha8 a9 ha9 hc0 hc1 hc2 hc3 x0 x1 x2 x3 x4 xo6 xs0 = k0_pay9 x2 x3 (k0_pay3 x0 x1 xs0) x4 := by
  unfold out0_C_5
  refine Eq.trans (View.read_writes_eq_canon _ _ _ (fun y => cover0_C_5 (y := y) ..)) ?_
  unfold kernelRun0_C
  dsimp only
  sl_unfold_words
  rw [View.canon_unit_zero hz]
  simp only [View.readAt_eq_ld, Memref.IsWhole.read_unread, ld2, ld3, View.readCov_unit_zero (S := S688x1024) _ hz]

end Stores

end AnyFloat

/-- A product of a block of rows with a block of the transposed matrix, at an index. -/
theorem rows_mm {φ₁ φ₂ : FTy} (lhs : FVec Ideal S688x896 φ₁) (rhs : FVec Ideal S1024x896 φ₂) (j : S688x1024.Idx) :
    matmul dot_S688x896_S1024x896_S688x1024_1_1_0_0_n_n none lhs rhs (constant S688x1024 .f32 0x00000000#32) j
      = ∑ k : Fin 896, lhs (ix2 (j 0) k) * rhs (ix2 (j 1) k) :=
  Common.mm_nt _ rfl rfl rfl rfl (fun _ _ => rfl) (fun _ _ => rfl) lhs rhs j

end Cert.InBwdIdeal.Hand

end
-- ==== Proof.InBwdValue.lean ====
/- The gradient of the input projection and of its norm: what the kernel computes is the reference's, over the extended reals. -/
module

public import proofs.«01_k».proof.Proof.InBwdOuts
public import proofs.«01_k».proof.Proof.Gen.InBwdIdeal.Value
public import proofs.«01_k».proof.Proof.Gen.InBwdRefIdeal.Read

@[expose] public section

set_option maxRecDepth 16384

noncomputable section

namespace Cert.InBwdIdeal.Hand

open Cert.InBwdIdeal Cert.InBwdIdeal.Gen Idealize.ShloMosaic Idealize.ShloMosaic.TcCoe Idealize.SL.Sem
open Idealize.ShloMosaic.ValueIdx Cert.Common
open Idealize.ShloMosaic.Pipeline (Dat)

open Cert.InBwdRefIdeal.Read

variable (m : (ℓ : Loc nD τ sig) → Buf (Elt Ideal) ℓ) (c : Dev nD)

/-- The gradient of the projection, the matrix, the rows, the norm's weights and the gradient of the residual. -/
abbrev DP : (⟨S8256x7168, .bf16⟩ : BufTy).Contents (Elt Ideal) := m ((c.tc : Thread nD τ).loc main_arg0)
abbrev Wm : (⟨S1024x7168, .f32⟩ : BufTy).Contents (Elt Ideal) := m ((c.tc : Thread nD τ).loc main_arg1)
abbrev H : (⟨S8256x1024, .f32⟩ : BufTy).Contents (Elt Ideal) := m ((c.tc : Thread nD τ).loc main_arg2)
abbrev Gm : (⟨S1024, .f32⟩ : BufTy).Contents (Elt Ideal) := m ((c.tc : Thread nD τ).loc main_arg3)
abbrev DH : (⟨S8256x1024, .f32⟩ : BufTy).Contents (Elt Ideal) := m ((c.tc : Thread nD τ).loc main_arg4)

/-- A row, the weights, and the gradient of the normed row. -/
abbrev X (a : Fin 8256) (k : Fin 1024) : EReal := H m c (ix2 a k)
abbrev G (k : Fin 1024) : EReal := Gm m c (ix1 k)
abbrev A (a : Fin 8256) (k : Fin 1024) : EReal := val_main_v18 (F := Ideal) (DP m c) (Wm m c) (ix2 a k)

/-- The region finds the matrix in blocks of columns. -/
theorem V_w : (V m c main_v2 : S8x1024x896.Idx → EReal)
    = transpose S8x1024x896 [1, 0, 2] (shapeCast S1024x8x896 (Wm m c : S1024x7168.Idx → EReal) shapeCasts_S1024x7168_S1024x8x896) transposes_S1024x8x896_S8x1024x896_1_0_2 := by
  unfold V
  after_results_simp
  rfl

/-- The region finds the weights as a row. -/
theorem V_g : (V m c main_v3 : S1x1024.Idx → EReal) = shapeCast S1x1024 (Gm m c : S1024.Idx → EReal) shapeCasts_S1024_S1x1024 := by
  unfold V
  after_results_simp
  rfl

theorem N_eq : cfg0.N = 96 := N_0

/-- The block of columns and the row of a point. -/
abbrev pt (t : Fin cfg0.N) : Fin 8 := ⟨t.val % 8, Nat.mod_lt _ (by decide)⟩
abbrev row (t : Fin cfg0.N) (r : Fin 688) : Fin 8256 := ⟨688 * (t.val / 8) + r.val, by have := t.isLt; have := r.isLt; have := N_eq; omega⟩

theorem idx_0 : ∀ t : Fin cfg0.N, win0_0.index t (0 : Fin 2) = t.val / 8 ∧ win0_0.index t (1 : Fin 2) = t.val % 8 :=
  (by decide +kernel : ∀ t : Fin grid0.N, _)

theorem idx_1 : ∀ t : Fin cfg0.N, win0_1.index t (0 : Fin 3) = t.val % 8 ∧ win0_1.index t (1 : Fin 3) = 0 ∧ win0_1.index t (2 : Fin 3) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_2 : ∀ t : Fin cfg0.N, win0_2.index t (0 : Fin 2) = t.val / 8 ∧ win0_2.index t (1 : Fin 2) = 0 :=
  (by decide +kernel : ∀ t : Fin grid0.N, _)

theorem idx_4 : ∀ t : Fin cfg0.N, win0_4.index t (0 : Fin 2) = t.val / 8 ∧ win0_4.index t (1 : Fin 2) = 0 :=
  (by decide +kernel : ∀ t : Fin grid0.N, _)

theorem idx_5 : ∀ t : Fin cfg0.N, win0_5.index t (0 : Fin 2) = t.val / 8 ∧ win0_5.index t (1 : Fin 2) = 0 :=
  (by decide +kernel : ∀ t : Fin grid0.N, _)

/-- A block of the gradient of the projection. -/
theorem blk_dp (t : Fin cfg0.N) (r : Fin 688) (q : Fin 896) :
    (iblk m c 0 t : Vec Ideal S688x896 .bf16) (ix2 r q) = DP m c (ix2 (row t r) (blockCol (show 7168 = 8 * 896 from rfl) (pt t) q)) := by
  obtain ⟨h0, h1⟩ := idx_0 t
  unfold iblk
  rw [View.read_apply]
  show (V m c main_arg0 : S8256x7168.Idx → EReal) _ = _
  rw [V_main_arg0]
  congr 1
  funext a
  apply Fin.ext
  match a with
  | ⟨0, _⟩ => show win0_0.index t 0 * 688 + 1 * r.val = 688 * (t.val / 8) + r.val; omega
  | ⟨1, _⟩ => show win0_0.index t 1 * 896 + 1 * q.val = 896 * (t.val % 8) + q.val; omega

/-- A block of the matrix. -/
theorem blk_w (t : Fin cfg0.N) (k : Fin 1024) (q : Fin 896) :
    (iblk m c 1 t : Vec Ideal S1x1024x896 .bf16) (ix3 (0 : Fin 1) k q) = Wm m c (ix2 k (blockCol (show 7168 = 8 * 896 from rfl) (pt t) q)) := by
  obtain ⟨h0, h1, h2⟩ := idx_1 t
  unfold iblk
  rw [View.read_apply]
  show (V m c main_v2 : S8x1024x896.Idx → EReal) _ = _
  rw [V_w]
  refine Eq.trans (congrArg _ (funext fun a => Fin.ext ?_)) (blocks_apply (show 7168 = 8 * 896 from rfl) (Wm m c : S1024x7168.Idx → EReal) _ _ (pt t) k q)
  match a with
  | ⟨0, _⟩ => show win0_1.index t 0 * 1 + 1 * 0 = t.val % 8; omega
  | ⟨1, _⟩ => show win0_1.index t 1 * 1024 + 1 * k.val = k.val; omega
  | ⟨2, _⟩ => show win0_1.index t 2 * 896 + 1 * q.val = q.val; omega

/-- A block of the rows. -/
theorem blk_h (t : Fin cfg0.N) (r : Fin 688) (k : Fin 1024) :
    (iblk m c 2 t : Vec Ideal S688x1024 .f32) (ix2 r k) = H m c (ix2 (row t r) k) := by
  obtain ⟨h0, h1⟩ := idx_2 t
  unfold iblk
  rw [View.read_apply]
  show (V m c main_arg2 : S8256x1024.Idx → EReal) _ = _
  rw [V_main_arg2]
  congr 1
  funext a
  apply Fin.ext
  match a with
  | ⟨0, _⟩ => show win0_2.index t 0 * 688 + 1 * r.val = 688 * (t.val / 8) + r.val; omega
  | ⟨1, _⟩ => show win0_2.index t 1 * 1024 + 1 * k.val = k.val; omega

/-- The weights. -/
theorem blk_g (t : Fin cfg0.N) (k : Fin 1024) :
    (iblk m c 3 t : Vec Ideal S1x1024 .f32) (ix2 (0 : Fin 1) k) = Gm m c (ix1 k) := by
  obtain ⟨h0, h1⟩ := idx_3 t
  unfold iblk
  rw [View.read_apply]
  show (V m c main_v3 : S1x1024.Idx → EReal) _ = _
  rw [V_g]
  refine Eq.trans (congrArg _ (funext fun a => Fin.ext ?_)) (as_row (Gm m c : S1024.Idx → EReal) _ k)
  match a with
  | ⟨0, _⟩ => show win0_3.index t 0 * 1 + 1 * 0 = 0; rw [h0]
  | ⟨1, _⟩ => show win0_3.index t 1 * 1024 + 1 * k.val = k.val; omega

/-- A block of the gradient of the residual. -/
theorem blk_dh (t : Fin cfg0.N) (r : Fin 688) (k : Fin 1024) :
    (iblk m c 4 t : Vec Ideal S688x1024 .f32) (ix2 r k) = DH m c (ix2 (row t r) k) := by
  obtain ⟨h0, h1⟩ := idx_4 t
  unfold iblk
  rw [View.read_apply]
  show (V m c main_arg4 : S8256x1024.Idx → EReal) _ = _
  rw [V_main_arg4]
  congr 1
  funext a
  apply Fin.ext
  match a with
  | ⟨0, _⟩ => show win0_4.index t 0 * 688 + 1 * r.val = 688 * (t.val / 8) + r.val; omega
  | ⟨1, _⟩ => show win0_4.index t 1 * 1024 + 1 * k.val = k.val; omega

/-- The reference's mean square of a row. -/
theorem ref_mean (a : Fin 8256) : val_main_v6 (F := Ideal) (H m c) (ix2 a (0 : Fin 1)) = meanSq (X m c a) := by
  rw [val_main_v6_apply, val_main_v4_apply, val_main_v2_apply, val_main_v1_apply, val_main_cst_apply, val_main_v3_apply, val_main_cst_0_apply, val_main_v5_apply, val_main_cst_1_apply]
  unfold meanSq
  refine congrArg₂ (· + ·) (congrArg₂ Ideal.div ?_ rfl) rfl
  refine (congrArg₂ (· + ·) zero_word rfl).trans ((zero_add (M := EReal) _).trans (Finset.sum_congr rfl fun k _ => ?_))
  have e : idx_main_v1 (idx_main_v2 (ix2 a (0 : Fin 1))) k = ix2 a k := funext fun b => by match b with | ⟨0, _⟩ => rfl | ⟨1, _⟩ => rfl
  rw [val_main_v0_apply, e]
  rfl

theorem ref_rstd (a : Fin 8256) : val_main_v7 (F := Ideal) (H m c) (ix2 a (0 : Fin 1)) = Ideal.rsqrt (meanSq (X m c a)) := by
  rw [val_main_v7_apply, ref_mean]
  rfl

/-- The gradient of the scaled row. -/
theorem ref_scaled (a : Fin 8256) (k : Fin 1024) : val_main_v23 (F := Ideal) (DP m c) (Wm m c) (Gm m c) (ix2 a k) = (A m c a k : EReal) * G m c k := by
  rw [val_main_v23_apply, val_main_v22_apply, val_main_v13_apply]
  refine congrArg₂ (· * ·) rfl (congrArg _ (funext fun b => Fin.ext ?_))
  match b with
  | ⟨0, _⟩ => rfl

theorem ref_slope (a : Fin 8256) (k : Fin 1024) : val_main_v34 (F := Ideal) (DP m c) (Wm m c) (H m c) (Gm m c) (ix2 a k) = meanGrad (X m c a) (G m c) (A m c a) := by
  have e : idx_main_v33 (idx_main_v34 (ix2 a k)) (0 : Fin 1) = ix2 a (0 : Fin 1) := funext fun b => by match b with | ⟨0, _⟩ => rfl | ⟨1, _⟩ => rfl
  rw [val_main_v34_apply, val_main_v33_apply, val_main_cst_7_apply, Fin.sum_univ_one, e, val_main_v32_apply, val_main_v30_apply, val_main_v27_apply, val_main_v26_apply, val_main_cst_5_apply,
    val_main_v10_apply, val_main_v9_apply, val_main_cst_2_apply, val_main_v8_apply, ref_mean, ref_rstd, val_main_v31_apply, val_main_cst_6_apply]
  refine (congrArg₂ (· + ·) zero_word rfl).trans ((zero_add (M := EReal) _).trans ?_)
  unfold meanGrad
  refine congrArg₂ Ideal.div (congrArg₂ (· * ·) ?_ rfl) rfl
  refine (congrArg₂ (· + ·) zero_word rfl).trans ((zero_add (M := EReal) _).trans (Finset.sum_congr rfl fun n _ => ?_))
  have e2 : idx_main_v26 (idx_main_v27 (ix2 a (0 : Fin 1))) n = ix2 a n := funext fun b => Fin.ext (by match b with | ⟨0, _⟩ => show a.val * 1 + 0 = a.val; omega | ⟨1, _⟩ => rfl)
  rw [e2, val_main_v25_apply, ref_scaled]
  rfl

/-- The gradient of a row. -/
theorem ref_row (a : Fin 8256) (k : Fin 1024) : val_main_v38 (F := Ideal) (DP m c) (Wm m c) (H m c) (Gm m c) (ix2 a k) = rowGrad (X m c a) (G m c) (A m c a) k := by
  have e : idx_main_v28 (ix2 a k) = ix2 a (0 : Fin 1) := funext fun b => by match b with | ⟨0, _⟩ => rfl | ⟨1, _⟩ => rfl
  rw [val_main_v38_apply, val_main_v36_apply, val_main_v29_apply, val_main_v35_apply, val_main_v37_apply, val_main_v28_apply, e, ref_rstd, ref_scaled, ref_slope]
  rfl

/-- The gradient of the weights, as a sum over the rows. -/
theorem ref_weights (k : Fin 1024) : val_main_v40 (F := Ideal) (DP m c) (Wm m c) (H m c) (ix2 (0 : Fin 1) k) = ∑ a : Fin 8256, weightGrad (X m c a) (A m c a) k := by
  have e : idx_main_v40 (ix2 (0 : Fin 1) k) = ix1 k := funext fun b => Fin.ext (by match b with | ⟨0, _⟩ => show 0 * 1024 + k.val = k.val; omega)
  have e2 : idx_main_v21 (idx_main_v24 (ix1 k) (0 : Fin 1)) = ix1 k := funext fun b => Fin.ext (by match b with | ⟨0, _⟩ => show 0 * 1024 + k.val = k.val; omega)
  rw [val_main_v40_apply, e, val_main_v24_apply, val_main_cst_4_apply, Fin.sum_univ_one, val_main_v21_apply, e2, val_main_v20_apply, val_main_cst_3_apply]
  refine (congrArg₂ (· + ·) zero_word rfl).trans ((zero_add (M := EReal) _).trans ?_)
  refine (congrArg₂ (· + ·) zero_word rfl).trans ((zero_add (M := EReal) _).trans (Finset.sum_congr rfl fun a _ => ?_))
  have e3 : idx_main_v20 (ix1 k) a = ix2 a k := funext fun b => by match b with | ⟨0, _⟩ => rfl | ⟨1, _⟩ => rfl
  have e4 : idx_main_v11 (ix2 a k) = ix2 a (0 : Fin 1) := funext fun b => by match b with | ⟨0, _⟩ => rfl | ⟨1, _⟩ => rfl
  rw [e3, val_main_v19_apply, val_main_v12_apply, val_main_v11_apply, e4, ref_rstd]
  rfl

/-- The kernel's mean square of a row. -/
theorem pay_mean (x : Vec Ideal S688x1024 .f32) (r : Fin 688) : k0_pay6 x (ix2 r (0 : Fin 1)) = meanSq (fun k => x (ix2 r k)) := by
  unfold k0_pay6
  dsimp only
  unfold meanSq
  refine congrArg₂ (· + ·) (congrArg₂ Ideal.div ?_ rfl) rfl
  exact (as_column _ _ r).trans (row_sum _ _ _ _ _ r)

theorem pay_rstd (x : Vec Ideal S688x1024 .f32) (r : Fin 688) : k0_pay7 x (ix2 r (0 : Fin 1)) = Ideal.rsqrt (meanSq (fun k => x (ix2 r k))) := by
  unfold k0_pay7
  exact congrArg Ideal.rsqrt (pay_mean x r)

/-- The weights' gradient of a block of rows. -/
theorem pay_weights (x acc : Vec Ideal S688x1024 .f32) (k : Fin 1024) :
    k0_pay8 x acc (ix2 (0 : Fin 1) k) = ∑ r : Fin 688, weightGrad (fun k => x (ix2 r k)) (fun k => acc (ix2 r k)) k := by
  unfold k0_pay8
  dsimp only
  refine (as_row _ _ k).trans ((col_sum _ _ _ _ _ k).trans (Finset.sum_congr rfl fun r _ => ?_))
  refine congrArg₂ (· * ·) (congrArg₂ (· * ·) rfl ?_) rfl
  exact (repeat_column _ _ r k).trans (pay_rstd x r)

/-- The rows' gradient of a block of rows. -/
theorem pay_row (x : Vec Ideal S688x1024 .f32) (g : Vec Ideal S1x1024 .f32) (acc d : Vec Ideal S688x1024 .f32) (r : Fin 688) (k : Fin 1024) :
    k0_pay9 x g acc d (ix2 r k) = (d (ix2 r k) : EReal) + rowGrad (fun k => x (ix2 r k)) (fun k => g (ix2 (0 : Fin 1) k)) (fun k => acc (ix2 r k)) k := by
  unfold k0_pay9
  dsimp only
  have hs : ∀ n : Fin 1024, (acc (ix2 r n) : EReal) * (broadcastTo S688x1024 (shapeCast S1x1024 g shapeCasts_S1x1024_S1x1024) broadcasts_S1x1024_S688x1024 : FVec Ideal S688x1024 .f32) (ix2 r n)
      = (acc (ix2 r n) : EReal) * g (ix2 (0 : Fin 1) n) := fun n => by
    refine congrArg₂ (· * ·) rfl ((repeat_row _ _ r n).trans ?_)
    rw [shapeCast_self]
  have hr : ∀ n : Fin 1024, (broadcastTo S688x1024 (k0_pay7 x) broadcasts_S688x1_S688x1024 : FVec Ideal S688x1024 .f32) (ix2 r n) = Ideal.rsqrt (meanSq (fun k => x (ix2 r k))) := fun n =>
    (repeat_column _ _ r n).trans (pay_rstd x r)
  unfold rowGrad
  refine congrArg₂ (· + ·) rfl ?_
  refine congrArg₂ (· + ·) (congrArg₂ (· + ·) (congrArg₂ (· * ·) (hs k) (hr k)) (congrArg₂ (· * ·) rfl ?_)) (congrArg₂ (· * ·) ?_ rfl)
  all_goals
    refine (repeat_column _ _ r k).trans ((as_column _ _ r).trans ((row_sum _ _ _ _ _ r).trans ?_))
    rw [Fin.sum_univ_one]
    unfold meanGrad
    refine congrArg₂ Ideal.div (congrArg₂ (· * ·) ?_ ?_) rfl
    · refine (as_column _ _ r).trans ((row_sum _ _ _ _ _ r).trans (Finset.sum_congr rfl fun n _ => ?_))
      exact congrArg₂ (· * ·) rfl (hs n)
    · exact congrArg₂ (· * ·) rfl (congrArg₂ Ideal.div (pay_rstd x r) (pay_mean x r))

/-- One product of the reference's sum over the columns. -/
def term (r : Fin 688) (k : Fin 1024) (i : ℕ) (q : Fin 7168) : EReal :=
  (DP m c (ix2 (⟨(688 * i + r.val) % 8256, Nat.mod_lt _ (by decide)⟩ : Fin 8256) q) : EReal) * Wm m c (ix2 k q)

/-- The reference's product is the sum of these. -/
theorem ref_acc (t : Fin cfg0.N) (r : Fin 688) (k : Fin 1024) :
    A m c (row t r) k = ∑ q : Fin 7168, term m c r k (t.val / 8) q := by
  unfold A
  rw [val_main_v18_apply]
  refine Finset.sum_congr rfl fun q _ => ?_
  have hN := N_eq
  have ht := t.isLt
  have hr := r.isLt
  have e1 : lidx_main_v18 (ix2 (row t r) k) q = ix2 (⟨(688 * (t.val / 8) + r.val) % 8256, Nat.mod_lt _ (by decide)⟩ : Fin 8256) q := funext fun b => Fin.ext (by
    match b with
    | ⟨0, _⟩ => show 688 * (t.val / 8) + r.val = (688 * (t.val / 8) + r.val) % 8256; omega
    | ⟨1, _⟩ => rfl)
  have e2 : ridx_main_v18 (ix2 (row t r) k) q = ix2 k q := funext fun b => by match b with | ⟨0, _⟩ => rfl | ⟨1, _⟩ => rfl
  rw [val_main_v17_apply, e1, e2]
  rfl

/-- A point's product is its columns' terms. -/
theorem point_acc (t : Fin cfg0.N) (r : Fin 688) (k : Fin 1024) :
    (k0_pay1 (iblk m c 0 t) (iblk m c 1 t) : S688x1024.Idx → EReal) (ix2 r k)
      = ∑ q : Fin 896, ext (term m c r k (t.val / 8)) (896 * (t.val % 8) + q.val) := by
  have hN := N_eq
  have ht := t.isLt
  have hr := r.isLt
  unfold k0_pay1
  rw [rows_mm]
  refine Finset.sum_congr rfl fun q _ => ?_
  have hq := q.isLt
  rw [ext_of_lt _ (show 896 * (t.val % 8) + q.val < 7168 by omega)]
  unfold term
  refine congrArg₂ (· * ·) ((blk_dp m c t r q).trans (congrArg _ (funext fun b => Fin.ext ?_))) ((drop_unit _ _ k q).trans (blk_w m c t k q))
  match b with
  | ⟨0, _⟩ => show 688 * (t.val / 8) + r.val = (688 * (t.val / 8) + r.val) % 8256; omega
  | ⟨1, _⟩ => rfl

/-- What the product's buffer holds after a point. -/
theorem acc_at (r : Fin 688) (k : Fin 1024) : ∀ t (ht : t < cfg0.N),
    ((outsAt0 m c t ht).2.2 : S688x1024.Idx → EReal) (ix2 r k) = ∑ a ∈ Finset.range (896 * (t % 8 + 1)), ext (term m c r k (t / 8)) a := by
  have hN := N_eq
  refine acc_columns (P := 8) (term m c r k) (fun t ht => ((outsAt0 m c t ht).2.2 : S688x1024.Idx → EReal) (ix2 r k)) (fun t ht h0 => ?_) (fun t ht h0 => ?_)
  · show ((outsAt0 m c t ht).2.2 : S688x1024.Idx → EReal) (ix2 r k) = _
    by_cases h2 : t % 96 = 0
    · rw [outsAt0_A m c ⟨t, ht⟩ h0 (by dsimp only; omega) h2 (by dsimp only; omega)]
      dsimp only
      rw [sout_A_0]
      unfold k0_pay2
      rw [shapeCast_self]
      exact point_acc m c ⟨t, ht⟩ r k
    · rw [outsAt0_D m c ⟨t, ht⟩ h0 (by dsimp only; omega) h2 (by dsimp only; omega)]
      dsimp only
      rw [sout_D_0]
      unfold k0_pay2
      rw [shapeCast_self]
      exact point_acc m c ⟨t, ht⟩ r k
  · show ((outsAt0 m c (t + 1) ht).2.2 : S688x1024.Idx → EReal) (ix2 r k) = _
    by_cases h3 : (t + 1) % 8 = 7
    · rw [outsAt0_C m c ⟨t + 1, ht⟩ h0 (by dsimp only; omega) (by dsimp only; omega) h3]
      dsimp only
      rw [sout_C_0]
      unfold k0_pay3
      rw [shapeCast_self]
      exact congrArg₂ (· + ·) rfl (point_acc m c ⟨t + 1, ht⟩ r k)
    · rw [outsAt0_B m c ⟨t + 1, ht⟩ h0 (by dsimp only; omega) (by dsimp only; omega) h3]
      dsimp only
      rw [sout_B_0]
      unfold k0_pay3
      rw [shapeCast_self]
      exact congrArg₂ (· + ·) rfl (point_acc m c ⟨t + 1, ht⟩ r k)

/-- At the last point of a block of rows the sum is complete. -/
theorem acc_full (t : Fin cfg0.N) (h0 : ¬t.val % 8 = 0) (h3 : t.val % 8 = 7) (r : Fin 688) (k : Fin 1024) :
    (k0_pay3 (iblk m c 0 t) (iblk m c 1 t) (outsAt0 m c (t.val - 1) (Nat.lt_of_le_of_lt (Nat.sub_le _ _) t.isLt)).2.2 : S688x1024.Idx → EReal) (ix2 r k)
      = A m c (row t r) k := by
  have h := acc_at m c r k t.val t.isLt
  rw [outsAt0_C m c t h0 (by omega) (by omega) h3] at h
  dsimp only at h
  rw [sout_C_0, h3] at h
  rw [h, ref_acc]
  exact sum_ext _

/-- The weights' gradient after a point: the terms of the blocks of rows that are complete. -/
theorem weights_at (k : Fin 1024) : ∀ t (ht : t < cfg0.N),
    ((outsAt0 m c t ht).2.1 : S1x1024.Idx → EReal) (ix2 (0 : Fin 1) k)
      = ∑ a ∈ Finset.range (688 * ((t + 1) / 8)), ext (fun a => weightGrad (X m c a) (A m c a) k) a
  | 0, ht => by
    rw [outsAt0_A m c ⟨0, ht⟩ rfl (by dsimp only; omega) rfl (by dsimp only; omega)]
    dsimp only
    rw [out_A_6]
    simp only [Nat.zero_add, show (1 : ℕ) / 8 = 0 from rfl, Nat.mul_zero, Finset.sum_range_zero]
    exact zero_word
  | t + 1, ht => by
    have hN := N_eq
    have ih := weights_at k t (Nat.lt_of_succ_lt ht)
    by_cases h3 : (t + 1) % 8 = 7
    · rw [outsAt0_C m c ⟨t + 1, ht⟩ (by dsimp only; omega) (by dsimp only; omega) (by dsimp only; omega) h3]
      dsimp only
      rw [out_C_6]
      have e : (t + 1 + 1) / 8 = (t + 1) / 8 + 1 := by omega
      rw [e, sum_block _ ((t + 1) / 8) (by omega)]
      unfold k0_pay5
      rw [shapeCast_self]
      refine congrArg₂ (· + ·) ih ((pay_weights _ _ k).trans (Finset.sum_congr rfl fun r _ => ?_))
      refine congrArg₂ (fun p q => weightGrad p q k) (funext fun n => ?_) (funext fun n => ?_)
      · exact blk_h m c ⟨t + 1, ht⟩ r n
      · exact acc_full m c ⟨t + 1, ht⟩ (by dsimp only; omega) h3 r n
    · have e : (t + 1 + 1) / 8 = (t + 1) / 8 := by omega
      rw [e, ← ih]
      by_cases h0 : (t + 1) % 8 = 0
      · rw [outsAt0_D m c ⟨t + 1, ht⟩ h0 (by dsimp only; omega) (by dsimp only; omega) h3]
        dsimp only
        rw [out_D_6]
        rfl
      · rw [outsAt0_B m c ⟨t + 1, ht⟩ h0 (by dsimp only; omega) (by dsimp only; omega) h3]
        dsimp only
        rw [out_B_6]
        rfl

/-- Reading a block of rows out of an array. -/
theorem read_5 (G : S8256x1024.Idx → EReal) (t : Fin cfg0.N) (r : Fin 688) (k : Fin 1024) :
    (((cfg0.win 5).blk t).view.read (Elt Ideal) G : S688x1024.Idx → EReal) (ix2 r k) = G (ix2 (row t r) k) := by
  obtain ⟨h0, h1⟩ := idx_5 t
  refine congrArg G (funext fun a => Fin.ext ?_)
  match a with
  | ⟨0, _⟩ => show win0_5.index t 0 * 688 + 1 * r.val = 688 * (t.val / 8) + r.val; omega
  | ⟨1, _⟩ => show win0_5.index t 1 * 1024 + 1 * k.val = k.val; omega

/-- Reading the weights out of an array. -/
theorem read_6 (G : S1x1024.Idx → EReal) (t : Fin cfg0.N) (k : Fin 1024) :
    (((cfg0.win 6).blk t).view.read (Elt Ideal) G : S1x1024.Idx → EReal) (ix2 (0 : Fin 1) k) = G (ix2 (0 : Fin 1) k) := by
  obtain ⟨h0, h1⟩ := idx_6 t
  refine congrArg G (funext fun a => Fin.ext ?_)
  match a with
  | ⟨0, _⟩ => show win0_6.index t 0 * 1 + 1 * 0 = 0; rw [h0]
  | ⟨1, _⟩ => show win0_6.index t 1 * 1024 + 1 * k.val = k.val; omega

/-- Every row lies in a block. -/
theorem cover_5 (i : S8256x1024.Idx) : ∃ t : Fin cfg0.N, (cfg0.win 5).flush t = true ∧ i ∈ ((View.whole main_v4_0).slice (win0_5.rect t)).set := by
  have hi0 : (i 0 : Nat) < 8256 := (i 0).isLt
  have hi1 : (i 1 : Nat) < 1024 := (i 1).isLt
  have hN := N_eq
  obtain ⟨t, ht⟩ : ∃ t : Fin cfg0.N, t.val = 8 * ((i 0 : Nat) / 688) + 7 := ⟨⟨_, by omega⟩, rfl⟩
  obtain ⟨h0, h1⟩ := idx_5 t
  refine ⟨t, (flush0_5 t).2 (by omega), ?_⟩
  rw [View.set_slice_whole]
  exact mem2 i _ (congrArg (· * 688) h0) (congrArg (· * 1024) h1) (by omega)

/-- The last point writes the weights. -/
theorem cover_6 (i : S1x1024.Idx) : ∃ t : Fin cfg0.N, (cfg0.win 6).flush t = true ∧ i ∈ ((View.whole main_v4_1).slice (win0_6.rect t)).set := by
  have hi0 : (i 0 : Nat) < 1 := (i 0).isLt
  have hi1 : (i 1 : Nat) < 1024 := (i 1).isLt
  have hN := N_eq
  obtain ⟨t, ht⟩ : ∃ t : Fin cfg0.N, t.val = 95 := ⟨⟨_, by omega⟩, rfl⟩
  obtain ⟨h0, h1⟩ := idx_6 t
  refine ⟨t, (flush0_6 t).2 (by omega), ?_⟩
  rw [View.set_slice_whole]
  exact mem2 i _ (congrArg (· * 1) h0) (congrArg (· * 1024) h1) (by omega)

/-- The rows' gradient after the run. -/
theorem final_5 : (dats m 0 c).arrAt 5 cfg0.N = val_main_v39 (F := Ideal) (DP m c) (Wm m c) (H m c) (Gm m c) (DH m c) :=
  (dats m 0 c).arrAt_eq_of_cover 5 _ (fun t hf => by
    have h3 := (flush0_5 t).1 hf
    rw [Value.flushed5_C m c t (by omega) (by omega) (by omega) h3, out_C_5]
    generalize hG : val_main_v39 (F := Ideal) (DP m c) (Wm m c) (H m c) (Gm m c) (DH m c) = W
    funext j
    obtain ⟨r, k, rfl⟩ := split2 j
    refine Eq.trans ?_ ((congrFun hG _).trans (read_5 W t r k).symm)
    refine (pay_row _ _ _ _ r k).trans ?_
    rw [val_main_v39_apply, ref_row]
    refine congrArg₂ (· + ·) (blk_dh m c t r k) ?_
    have e1 : (fun n => (iblk m c 2 t : Vec Ideal S688x1024 .f32) (ix2 r n)) = X m c (row t r) := funext fun n => blk_h m c t r n
    have e2 : (fun n => (iblk m c 3 t : Vec Ideal S1x1024 .f32) (ix2 (0 : Fin 1) n)) = G m c := funext fun n => blk_g m c t n
    have e3 : (fun n => (k0_pay3 (iblk m c 0 t) (iblk m c 1 t) (outsAt0 m c (t.val - 1) (Nat.lt_of_le_of_lt (Nat.sub_le _ _) t.isLt)).2.2 : S688x1024.Idx → EReal) (ix2 r n))
        = A m c (row t r) := funext fun n => acc_full m c t (by omega) h3 r n
    exact congrFun (congr (congr (congrArg rowGrad e1) e2) e3) k) cover_5

/-- The weights' gradient after the run. -/
theorem final_6 : (dats m 0 c).arrAt 6 cfg0.N = val_main_v40 (F := Ideal) (DP m c) (Wm m c) (H m c) :=
  (dats m 0 c).arrAt_eq_of_cover 6 _ (fun t hf => by
    have ht : t.val < 96 := lt_of_lt_of_eq t.isLt N_eq
    have h95 := (flush0_6 t).1 hf
    rw [Value.flushed6]
    generalize hG : val_main_v40 (F := Ideal) (DP m c) (Wm m c) (H m c) = W
    funext j
    obtain ⟨k, rfl⟩ : ∃ (k : Fin 1024), j = ix2 (0 : Fin 1) k := ⟨j 1, (eq_ix2 j).trans (congrArg (fun q => ix2 q (j 1)) (Fin.ext (by have : (j 0).val < 1 := (j 0).isLt; show (j 0).val = 0; omega)))⟩
    refine Eq.trans ?_ ((congrFun hG _).trans (read_6 W t k).symm)
    refine (weights_at m c k t.val t.isLt).trans ?_
    rw [show (t.val + 1) / 8 = 12 by omega, ref_weights]
    exact sum_ext _) cover_6

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v4_0) = val_main_v39 (F := Ideal) (DP m c) (Wm m c) (H m c) (Gm m c) (DH m c)
      ∧ r.2.mem ((c : Thread nD τ).loc main_v4_1) = val_main_v40 (F := Ideal) (DP m c) (Wm m c) (H m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final_5 m c), ((h c).2.1).trans (final_6 m c), (h c).2.2⟩)
    (Value.run_blocks m ρ)

end Cert.InBwdIdeal.Hand

end
-- ==== Proof.InBwdClaim.lean ====
/- The claim about the gradient of the input projection: kernel and reference end with equal results over the extended reals. -/
module

public import proofs.«01_k».proof.Defs
public import proofs.«01_k».proof.Proof.InBwdValue
public import proofs.«01_k».proof.Proof.Gen.InBwdRefIdeal.Run

@[expose] public section

noncomputable section

namespace Cert

open Idealize.ShloMosaic Idealize.SL.Sem

/-- The kernel of the input projection's gradient computes what the reference computes: the rows' gradient, through the norm, and the norm's weights'. -/
theorem in_bwd_algebraic : algebraic_InBwdIdeal_InBwdRefIdeal (hInBwdIdeal := InBwdIdeal.Gen.facts) (hInBwdRefIdeal := InBwdRefIdeal.Gen.facts) := by
  intro m g m' g' _ h
  refine ⟨_, _, InBwdIdeal.Hand.run m g, ?_⟩
  refine (θ_run InBwdRefIdeal.defs _ _).mono (fun r hr c => ?_) (InBwdRefIdeal.Value.run m' g')
  obtain ⟨h0, h1, h2, h3, h4⟩ := h c
  obtain ⟨r0, r1, k⟩ := hr c
  refine ⟨r0.trans ?_, r1.trans ?_, k⟩
  · refine (InBwdRefIdeal.Read.val_main_v39_eq m' c).trans ?_
    rw [h0, h1, h2, h3, h4]
  · rw [h0, h1, h2]
    exact InBwdRefIdeal.Read.val_main_v40_eq ..

end Cert

end
-- ==== Proof.UpBwdOuts.lean ====
/- What one point of the kernel of the convolution's and the first projection's gradient stores, in any arithmetic; and its product over the extended reals. -/
module

public import proofs.«01_k».proof.Proof.Norm
public import proofs.«01_k».proof.Proof.Gen.UpBwdIdeal.Frame
public import Idealize.ShloMosaic.Lib.Pipeline.Value
public import Idealize.ShloMosaic.Lib.WritesUnit
public import Idealize.ShloMosaic.Lib.Tactic

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.ValueIdx Cert.Common
open Idealize.ShloMosaic.Pipeline (Dat)

section AnyFloat
variable {F : FTy → Type} [FloatOps F]

/-- The rows `k` further down: of a block, and past its end of the rows that follow it. -/
def tap (k : ℕ) (lo : Vec F S688x704 .f32) (hi : Vec F S16x704 .f32) : Vec F S688x704 .f32 := fun y =>
  if h : (y 0).val + k < 688 then lo (ix2 (⟨(y 0).val + k, h⟩ : Fin 688) (y 1))
  else if h : (y 0).val + k - 688 < 16 then hi (ix2 (⟨(y 0).val + k - 688, h⟩ : Fin 16) (y 1)) else lo y

/-- Reading the scratch rows from row `k` on. -/
theorem staged {κ : Kind} {sp : Space} (v : View sig κ sp S704x704 .f32) (hi : S16x704.Idx → Elt F .f32) (lo : S688x704.Idx → Elt F .f32) (L : List (View.Piece (Elt F) S704x704 .f32)) (k : ℕ)
    (i1 : ∀ a, (![688, 0] : Fin 2 → Nat) a + (![16, 704] : Fin 2 → ℕ) a ≤ S704x704.size a) (i2 : ∀ a, (![0, 0] : Fin 2 → Nat) a + (![688, 704] : Fin 2 → ℕ) a ≤ S704x704.size a)
    (i3 : ∀ a, (![k, 0] : Fin 2 → Nat) a + (![688, 704] : Fin 2 → ℕ) a ≤ S704x704.size a) :
    v.readCov ((⟨Rect.unit (s := S704x704) ![688, 0] ![16, 704] i1, hi⟩ : View.Piece (Elt F) S704x704 .f32)
        :: ⟨Rect.unit (s := S704x704) ![0, 0] ![688, 704] i2, lo⟩ :: L) (Rect.unit (s := S704x704) ![k, 0] ![688, 704] i3).toLoadRect
      = tap k lo hi := by
  rw [View.readCov_eq_canon']
  funext y
  have hk : k + 688 ≤ 704 := i3 0
  have hy : (y 0).val < 688 := (y 0).isLt
  rw [← View.read_writes_junk_apply_eq_canon v]
  have e0 : ((Rect.unit (s := S704x704) ![k, 0] ![688, 704] i3).toLoadRect.idx y 0).val = k + (y 0).val := by
    show k + 1 * (y 0).val = _
    omega
  have e1 : ((Rect.unit (s := S704x704) ![k, 0] ![688, 704] i3).toLoadRect.idx y 1).val = (y 1).val := by
    show 0 + 1 * (y 1).val = _
    omega
  unfold tap
  by_cases h : (y 0).val + k < 688
  · rw [dif_pos h]
    refine (View.read_writes_cons_rows_of_not_mem v _ i1 hi _ _ rfl rfl (.inl (by rw [e0]; omega))).trans ?_
    exact View.read_writes_cons_rows_of_mem v _ i2 lo L _ (ix2 (⟨(y 0).val + k, h⟩ : Fin 688) (y 1)) rfl (by rw [e0]; show _ = 0 + ((y 0).val + k); omega) e1
  · rw [dif_neg h, dif_pos (show (y 0).val + k - 688 < 16 by omega)]
    exact View.read_writes_cons_rows_of_mem v _ i1 hi _ _ (ix2 (⟨(y 0).val + k - 688, by omega⟩ : Fin 16) (y 1)) rfl (by rw [e0]; show _ = 688 + ((y 0).val + k - 688); omega) e1

theorem three {A B : Type} (f : A → A → A → B) {a a' b b' c c' : A} (h1 : a = a') (h2 : b = b') (h3 : c = c') : f a b c = f a' b' c' := by
  rw [h1, h2, h3]

theorem four {A B C : Type} (f : A → A → A → C → B) {a a' b b' c c' : A} {d d' : C} (h1 : a = a') (h2 : b = b') (h3 : c = c') (h4 : d = d') : f a b c d = f a' b' c' d' := by
  rw [h1, h2, h3, h4]

/-- Whether a point's block of rows is the last of its sequence. -/
def edge (i : grid0.Coords) : BitVec 1 :=
  Scalar.cmpi .eq (Scalar.select (Scalar.andi (Scalar.xori (Scalar.cmpi .slt (Scalar.remsi (BitVec.ofNat 32 (i 0).val) 3#32) 0#32) 0#1)
    (Scalar.cmpi .ne (Scalar.remsi (BitVec.ofNat 32 (i 0).val) 3#32) 0#32)) (Scalar.addi (Scalar.remsi (BitVec.ofNat 32 (i 0).val) 3#32) 3#32)
    (Scalar.remsi (BitVec.ofNat 32 (i 0).val) 3#32)) 2#32

/-- One block of channels out of a filter's gradient, -/
def rowOf (j : Fin 4) (X : Vec F S4x3x704 .f32) : Vec F S1x3x704 .f32 := fun y => X (ix3 j (y 1) (y 2))
/-- and a block put into it. -/
def put (j : Fin 4) (X : Vec F S4x3x704 .f32) (w : Vec F S1x3x704 .f32) : Vec F S4x3x704 .f32 := fun y =>
  if (y 0).val = j.val then w (ix3 (0 : Fin 1) (y 1) (y 2)) else X y

theorem off_eq (i : grid0.Coords) : (![BitVec.toNat (Scalar.indexCast (BitVec.ofNat 32 (i 1).val)), 0, 0] : Fin 3 → ℕ) = ![(i 1).val, 0, 0] := by
  have h : (i 1).val < 4 := (i 1).isLt
  have e : BitVec.toNat (Scalar.indexCast (BitVec.ofNat 32 (i 1).val)) = (i 1).val := by
    revert h; generalize (i 1).val = n; intro h
    interval_cases n <;> rfl
  rw [e]

theorem ld_row (X : Vec F S4x3x704 .f32) (i : grid0.Coords) {off : Fin 3 → ℕ} (h : off = ![(i 1).val, 0, 0]) (inb : ∀ a, off a + (![1, 3, 704] : Fin 3 → ℕ) a ≤ S4x3x704.size a) :
    (View.ld X (Rect.unit (s := S4x3x704) off ![1, 3, 704] inb) : S1x3x704.Idx → Elt F .f32) = rowOf (i 1) X := by
  subst h
  funext y
  refine congrArg X (funext fun a => Fin.ext ?_)
  match a with
  | ⟨0, _⟩ => show (i 1).val + 1 * (y 0).val = (i 1).val; have : (y 0).val < 1 := (y 0).isLt; omega
  | ⟨1, _⟩ => show 0 + 1 * (y 1).val = (y 1).val; omega
  | ⟨2, _⟩ => show 0 + 1 * (y 2).val = (y 2).val; omega

theorem read_put {κ : Kind} {sp : Space} (v : View sig κ sp S4x3x704 .f32) (f : v.ty.Contents (Elt F)) (X : Vec F S4x3x704 .f32) (hX : v.read (Elt F) f = X) (off : Fin 3 → ℕ) (i : grid0.Coords)
    (h : off = ![(i 1).val, 0, 0]) (inb : ∀ a, off a + (![1, 3, 704] : Fin 3 → ℕ) a ≤ S4x3x704.size a) (w : S1x3x704.Idx → Elt F .f32) :
    v.read (Elt F) (v.writes (Elt F) f [(⟨Rect.unit (s := S4x3x704) off ![1, 3, 704] inb, w⟩ : View.Piece (Elt F) S4x3x704 .f32)]) = put (i 1) X w := by
  funext y
  unfold put
  by_cases hy : (y 0).val = (i 1).val
  · rw [if_pos hy]
    refine View.read_writes_cons_unit_of_mem v f inb w [] y (ix3 (0 : Fin 1) (y 1) (y 2)) h fun a => ?_
    match a with
    | ⟨0, _⟩ => show (y 0).val = (i 1).val + 0; omega
    | ⟨1, _⟩ => show (y 1).val = 0 + (y 1).val; omega
    | ⟨2, _⟩ => show (y 2).val = 0 + (y 2).val; omega
  · rw [if_neg hy, ← hX]
    refine View.read_writes_cons_unit_of_not_mem v f inb w [] y h (0 : Fin 3) ?_
    have hn : (y 0).val ≠ (i 1).val := hy
    show (y 0).val < (i 1).val ∨ (i 1).val + 1 ≤ (y 0).val
    omega

theorem canon_put (off : Fin 3 → ℕ) (i : grid0.Coords)
    (h : off = ![(i 1).val, 0, 0]) (inb : ∀ a, off a + (![1, 3, 704] : Fin 3 → ℕ) a ≤ S4x3x704.size a) (w : S1x3x704.Idx → Elt F .f32) (L : List (View.Piece (Elt F) S4x3x704 .f32)) :
    View.canon ((⟨Rect.unit (s := S4x3x704) off ![1, 3, 704] inb, w⟩ : View.Piece (Elt F) S4x3x704 .f32) :: L) = put (i 1) (View.canon L) w := by
  subst h
  funext y
  unfold put
  by_cases hy : (y 0).val = (i 1).val
  · rw [if_pos hy]
    refine Eq.trans (congrArg _ ?_) (View.canon_cons_emb (Rect.unit (s := S4x3x704) ![(i 1).val, 0, 0] ![1, 3, 704] inb) w L (ix3 (0 : Fin 1) (y 1) (y 2)))
    funext a
    apply Fin.ext
    match a with
    | ⟨0, _⟩ => show (y 0).val = (i 1).val + 1 * 0; omega
    | ⟨1, _⟩ => show (y 1).val = 0 + 1 * (y 1).val; omega
    | ⟨2, _⟩ => show (y 2).val = 0 + 1 * (y 2).val; omega
  · rw [if_neg hy]
    refine View.canon_cons_of_not_mem (⟨Rect.unit (s := S4x3x704) ![(i 1).val, 0, 0] ![1, 3, 704] inb, w⟩ : View.Piece (Elt F) S4x3x704 .f32) L fun hm => ?_
    have h0 := (Rect.mem_set_unit (inb := inb)).mp hm (0 : Fin 3)
    have hn : (y 0).val ≠ (i 1).val := hy
    have h1 : (i 1).val ≤ (y 0).val := h0.1
    have h2 : (y 0).val < (i 1).val + 1 := h0.2
    omega

variable (c : Dev nD) (i : grid0.Coords) (a2 : Memref sig .tc .vmem S1x688x704 .bf16) (ha2 : a2.IsWhole)
    (a3 : Memref sig .tc .vmem S1x16x704 .bf16) (ha3 : a3.IsWhole) (a4 : Memref sig .tc .vmem S1x688x704 .bf16)
    (ha4 : a4.IsWhole) (a5 : Memref sig .tc .vmem S1x16x704 .bf16) (ha5 : a5.IsWhole)
    (a6 : Memref sig .tc .vmem S1x688x704 .bf16) (ha6 : a6.IsWhole)
    (a7 : Memref sig .tc .vmem S1x688x704 .bf16) (ha7 : a7.IsWhole) (a8 : Memref sig .tc .vmem S1x3x704 .f32)
    (ha8 : a8.IsWhole) (a9 : Memref sig .tc .vmem S1x3x704 .f32) (ha9 : a9.IsWhole)
    (a10 : Memref sig .tc .vmem S1x1024x704 .bf16) (ha10 : a10.IsWhole)
    (a11 : Memref sig .tc .vmem S1x1024x704 .bf16) (ha11 : a11.IsWhole)
    (a12 : Memref sig .tc .vmem S688x1024 .f32) (ha12 : a12.IsWhole) (a13 : Memref sig .tc .vmem S1x1024 .f32)
    (ha13 : a13.IsWhole) (a14 : Memref sig .tc .vmem S688x1024 .f32) (ha14 : a14.IsWhole)
    (a15 : Memref sig .tc .vmem S1x688x704 .bf16) (ha15 : a15.IsWhole)
    (a16 : Memref sig .tc .vmem S1x688x704 .bf16) (ha16 : a16.IsWhole)
    (a17 : Memref sig .tc .vmem S688x1024 .f32) (ha17 : a17.IsWhole) (a18 : Memref sig .tc .vmem S1x1024 .f32)
    (ha18 : a18.IsWhole) (a19 : Memref sig .tc .vmem S4x3x704 .f32) (ha19 : a19.IsWhole)
    (a20 : Memref sig .tc .vmem S4x3x704 .f32) (ha20 : a20.IsWhole) (a21 : Memref sig .tc .vmem S688x1024 .f32)
    (ha21 : a21.IsWhole) (a22 : Memref sig .tc .vmem S704x704 .f32) (ha22 : a22.IsWhole)
variable (x0 : Vec F S1x688x704 .bf16) (x1 : Vec F S1x16x704 .bf16) (x2 : Vec F S1x688x704 .bf16) (x3 : Vec F S1x16x704 .bf16)
    (x4 : Vec F S1x688x704 .bf16) (x5 : Vec F S1x688x704 .bf16) (x6 : Vec F S1x3x704 .f32) (x7 : Vec F S1x3x704 .f32)
    (x8 : Vec F S1x1024x704 .bf16) (x9 : Vec F S1x1024x704 .bf16) (x10 : Vec F S688x1024 .f32)
    (x11 : Vec F S1x1024 .f32) (x12 : Vec F S688x1024 .f32) (xo17 : Vec F S4x3x704 .f32) (xo18 : Vec F S4x3x704 .f32)
    (xs0 : Vec F S688x1024 .f32) (xo16 : Vec F S1x1024 .f32)

/-- A point stores the gradient of its block of the first half's channels. -/
theorem out_A_13 (hc0 : cond0_0 i) (hc1 : cond0_1 i) (hc2 : ¬cond0_2 i) (hc3 : cond0_3 i) (hc4 : ¬cond0_4 i) :
    out0_A_13 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 = k0_pay13 (tap 0 (k0_pay10 x0) (k0_pay11 i x1)) (tap 1 (k0_pay10 x0) (k0_pay11 i x1)) (tap 2 (k0_pay10 x0) (k0_pay11 i x1)) x6 := by
  unfold out0_A_13
  refine Eq.trans (View.read_writes_eq_canon _ _ _ (fun y => cover0_A_13 (y := y) ..)) ?_
  unfold kernelRun0_A
  dsimp only
  sl_unfold_words
  rw [View.canon_unit_zero hz3]
  simp only [View.readAt_eq_ld, Memref.IsWhole.read_unread, ld3, ld2]
  exact (three (fun a b c => k0_pay13 a b c x6) (staged (F := F) .. ) (staged (F := F) .. ) (staged (F := F) .. ))

/-- And of the second half's. -/
theorem out_A_14 (hc0 : cond0_0 i) (hc1 : cond0_1 i) (hc2 : ¬cond0_2 i) (hc3 : cond0_3 i) (hc4 : ¬cond0_4 i) :
    out0_A_14 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 = k0_pay18 (tap 0 (k0_pay15 x2) (k0_pay16 (edge i) x3)) (tap 1 (k0_pay15 x2) (k0_pay16 (edge i) x3)) (tap 2 (k0_pay15 x2) (k0_pay16 (edge i) x3)) x7 := by
  unfold out0_A_14
  refine Eq.trans (View.read_writes_eq_canon _ _ _ (fun y => cover0_A_14 (y := y) ..)) ?_
  unfold kernelRun0_A
  dsimp only
  sl_unfold_words
  rw [View.canon_unit_zero hz3]
  simp only [View.readAt_eq_ld, Memref.IsWhole.read_unread, ld3, ld2]
  exact (three (fun a b c => k0_pay18 a b c x7) (staged (F := F) .. ) (staged (F := F) .. ) (staged (F := F) .. ))

/-- A point stores the gradient of its block of the first half's channels. -/
theorem out_B_13 (hc0 : ¬cond0_0 i) (hc1 : ¬cond0_1 i) (hc2 : cond0_2 i) (hc3 : ¬cond0_3 i) (hc4 : ¬cond0_4 i) :
    out0_B_13 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xs0 = k0_pay13 (tap 0 (k0_pay10 x0) (k0_pay11 i x1)) (tap 1 (k0_pay10 x0) (k0_pay11 i x1)) (tap 2 (k0_pay10 x0) (k0_pay11 i x1)) x6 := by
  unfold out0_B_13
  refine Eq.trans (View.read_writes_eq_canon _ _ _ (fun y => cover0_B_13 (y := y) ..)) ?_
  unfold kernelRun0_B
  dsimp only
  sl_unfold_words
  rw [View.canon_unit_zero hz3]
  simp only [View.readAt_eq_ld, Memref.IsWhole.read_unread, ld3, ld2]
  exact (three (fun a b c => k0_pay13 a b c x6) (staged (F := F) .. ) (staged (F := F) .. ) (staged (F := F) .. ))

/-- And of the second half's. -/
theorem out_B_14 (hc0 : ¬cond0_0 i) (hc1 : ¬cond0_1 i) (hc2 : cond0_2 i) (hc3 : ¬cond0_3 i) (hc4 : ¬cond0_4 i) :
    out0_B_14 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xs0 = k0_pay18 (tap 0 (k0_pay15 x2) (k0_pay16 (edge i) x3)) (tap 1 (k0_pay15 x2) (k0_pay16 (edge i) x3)) (tap 2 (k0_pay15 x2) (k0_pay16 (edge i) x3)) x7 := by
  unfold out0_B_14
  refine Eq.trans (View.read_writes_eq_canon _ _ _ (fun y => cover0_B_14 (y := y) ..)) ?_
  unfold kernelRun0_B
  dsimp only
  sl_unfold_words
  rw [View.canon_unit_zero hz3]
  simp only [View.readAt_eq_ld, Memref.IsWhole.read_unread, ld3, ld2]
  exact (three (fun a b c => k0_pay18 a b c x7) (staged (F := F) .. ) (staged (F := F) .. ) (staged (F := F) .. ))

/-- A point stores the gradient of its block of the first half's channels. -/
theorem out_C_13 (hc0 : ¬cond0_0 i) (hc1 : ¬cond0_1 i) (hc2 : cond0_2 i) (hc3 : ¬cond0_3 i) (hc4 : cond0_4 i) :
    out0_C_13 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = k0_pay13 (tap 0 (k0_pay10 x0) (k0_pay11 i x1)) (tap 1 (k0_pay10 x0) (k0_pay11 i x1)) (tap 2 (k0_pay10 x0) (k0_pay11 i x1)) x6 := by
  unfold out0_C_13
  refine Eq.trans (View.read_writes_eq_canon _ _ _ (fun y => cover0_C_13 (y := y) ..)) ?_
  unfold kernelRun0_C
  dsimp only
  sl_unfold_words
  rw [View.canon_unit_zero hz3]
  simp only [View.readAt_eq_ld, Memref.IsWhole.read_unread, ld3, ld2]
  exact (three (fun a b c => k0_pay13 a b c x6) (staged (F := F) .. ) (staged (F := F) .. ) (staged (F := F) .. ))

/-- And of the second half's. -/
theorem out_C_14 (hc0 : ¬cond0_0 i) (hc1 : ¬cond0_1 i) (hc2 : cond0_2 i) (hc3 : ¬cond0_3 i) (hc4 : cond0_4 i) :
    out0_C_14 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = k0_pay18 (tap 0 (k0_pay15 x2) (k0_pay16 (edge i) x3)) (tap 1 (k0_pay15 x2) (k0_pay16 (edge i) x3)) (tap 2 (k0_pay15 x2) (k0_pay16 (edge i) x3)) x7 := by
  unfold out0_C_14
  refine Eq.trans (View.read_writes_eq_canon _ _ _ (fun y => cover0_C_14 (y := y) ..)) ?_
  unfold kernelRun0_C
  dsimp only
  sl_unfold_words
  rw [View.canon_unit_zero hz3]
  simp only [View.readAt_eq_ld, Memref.IsWhole.read_unread, ld3, ld2]
  exact (three (fun a b c => k0_pay18 a b c x7) (staged (F := F) .. ) (staged (F := F) .. ) (staged (F := F) .. ))

/-- A point stores the gradient of its block of the first half's channels. -/
theorem out_D_13 (hc0 : ¬cond0_0 i) (hc1 : cond0_1 i) (hc2 : ¬cond0_2 i) (hc3 : ¬cond0_3 i) (hc4 : ¬cond0_4 i) :
    out0_D_13 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 = k0_pay13 (tap 0 (k0_pay10 x0) (k0_pay11 i x1)) (tap 1 (k0_pay10 x0) (k0_pay11 i x1)) (tap 2 (k0_pay10 x0) (k0_pay11 i x1)) x6 := by
  unfold out0_D_13
  refine Eq.trans (View.read_writes_eq_canon _ _ _ (fun y => cover0_D_13 (y := y) ..)) ?_
  unfold kernelRun0_D
  dsimp only
  sl_unfold_words
  rw [View.canon_unit_zero hz3]
  simp only [View.readAt_eq_ld, Memref.IsWhole.read_unread, ld3, ld2]
  exact (three (fun a b c => k0_pay13 a b c x6) (staged (F := F) .. ) (staged (F := F) .. ) (staged (F := F) .. ))

/-- And of the second half's. -/
theorem out_D_14 (hc0 : ¬cond0_0 i) (hc1 : cond0_1 i) (hc2 : ¬cond0_2 i) (hc3 : ¬cond0_3 i) (hc4 : ¬cond0_4 i) :
    out0_D_14 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 = k0_pay18 (tap 0 (k0_pay15 x2) (k0_pay16 (edge i) x3)) (tap 1 (k0_pay15 x2) (k0_pay16 (edge i) x3)) (tap 2 (k0_pay15 x2) (k0_pay16 (edge i) x3)) x7 := by
  unfold out0_D_14
  refine Eq.trans (View.read_writes_eq_canon _ _ _ (fun y => cover0_D_14 (y := y) ..)) ?_
  unfold kernelRun0_D
  dsimp only
  sl_unfold_words
  rw [View.canon_unit_zero hz3]
  simp only [View.readAt_eq_ld, Memref.IsWhole.read_unread, ld3, ld2]
  exact (three (fun a b c => k0_pay18 a b c x7) (staged (F := F) .. ) (staged (F := F) .. ) (staged (F := F) .. ))

/-- A later point adds to its channels' part of the filter's gradient. -/
theorem out_B_17 (hc0 : ¬cond0_0 i) (hc1 : ¬cond0_1 i) (hc2 : cond0_2 i) (hc3 : ¬cond0_3 i) (hc4 : ¬cond0_4 i) :
    out0_B_17 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xs0 = put (i 1) xo17 (k0_pay14 (tap 0 (k0_pay10 x0) (k0_pay11 i x1)) (tap 1 (k0_pay10 x0) (k0_pay11 i x1)) (tap 2 (k0_pay10 x0) (k0_pay11 i x1)) x4 (rowOf (i 1) xo17)) := by
  unfold out0_B_17
  unfold kernelRun0_B
  dsimp only
  sl_unfold_words
  refine (read_put _ _ _ (by rw [ha19.read_unread]) _ i (off_eq i) _ _).trans ?_
  simp only [View.readAt_eq_ld, Memref.IsWhole.read_unread, ld3, ld2]
  exact four (fun a b c d => put (i 1) xo17 (k0_pay14 a b c x4 d)) (staged (F := F) .. ) (staged (F := F) .. ) (staged (F := F) .. ) (ld_row xo17 i (off_eq i) _)

/-- And to the second half's. -/
theorem out_B_18 (hc0 : ¬cond0_0 i) (hc1 : ¬cond0_1 i) (hc2 : cond0_2 i) (hc3 : ¬cond0_3 i) (hc4 : ¬cond0_4 i) :
    out0_B_18 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xs0 = put (i 1) xo18 (k0_pay19 (tap 0 (k0_pay15 x2) (k0_pay16 (edge i) x3)) (tap 1 (k0_pay15 x2) (k0_pay16 (edge i) x3)) (tap 2 (k0_pay15 x2) (k0_pay16 (edge i) x3)) x5 (rowOf (i 1) xo18)) := by
  unfold out0_B_18
  unfold kernelRun0_B
  dsimp only
  sl_unfold_words
  refine (read_put _ _ _ (by rw [ha20.read_unread]) _ i (off_eq i) _ _).trans ?_
  simp only [View.readAt_eq_ld, Memref.IsWhole.read_unread, ld3, ld2]
  exact four (fun a b c d => put (i 1) xo18 (k0_pay19 a b c x5 d)) (staged (F := F) .. ) (staged (F := F) .. ) (staged (F := F) .. ) (ld_row xo18 i (off_eq i) _)

/-- A later point adds to its channels' part of the filter's gradient. -/
theorem out_C_17 (hc0 : ¬cond0_0 i) (hc1 : ¬cond0_1 i) (hc2 : cond0_2 i) (hc3 : ¬cond0_3 i) (hc4 : cond0_4 i) :
    out0_C_17 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = put (i 1) xo17 (k0_pay14 (tap 0 (k0_pay10 x0) (k0_pay11 i x1)) (tap 1 (k0_pay10 x0) (k0_pay11 i x1)) (tap 2 (k0_pay10 x0) (k0_pay11 i x1)) x4 (rowOf (i 1) xo17)) := by
  unfold out0_C_17
  unfold kernelRun0_C
  dsimp only
  sl_unfold_words
  refine (read_put _ _ _ (by rw [ha19.read_unread]) _ i (off_eq i) _ _).trans ?_
  simp only [View.readAt_eq_ld, Memref.IsWhole.read_unread, ld3, ld2]
  exact four (fun a b c d => put (i 1) xo17 (k0_pay14 a b c x4 d)) (staged (F := F) .. ) (staged (F := F) .. ) (staged (F := F) .. ) (ld_row xo17 i (off_eq i) _)

/-- And to the second half's. -/
theorem out_C_18 (hc0 : ¬cond0_0 i) (hc1 : ¬cond0_1 i) (hc2 : cond0_2 i) (hc3 : ¬cond0_3 i) (hc4 : cond0_4 i) :
    out0_C_18 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = put (i 1) xo18 (k0_pay19 (tap 0 (k0_pay15 x2) (k0_pay16 (edge i) x3)) (tap 1 (k0_pay15 x2) (k0_pay16 (edge i) x3)) (tap 2 (k0_pay15 x2) (k0_pay16 (edge i) x3)) x5 (rowOf (i 1) xo18)) := by
  unfold out0_C_18
  unfold kernelRun0_C
  dsimp only
  sl_unfold_words
  refine (read_put _ _ _ (by rw [ha20.read_unread]) _ i (off_eq i) _ _).trans ?_
  simp only [View.readAt_eq_ld, Memref.IsWhole.read_unread, ld3, ld2]
  exact four (fun a b c d => put (i 1) xo18 (k0_pay19 a b c x5 d)) (staged (F := F) .. ) (staged (F := F) .. ) (staged (F := F) .. ) (ld_row xo18 i (off_eq i) _)

/-- A later point adds to its channels' part of the filter's gradient. -/
theorem out_D_17 (hc0 : ¬cond0_0 i) (hc1 : cond0_1 i) (hc2 : ¬cond0_2 i) (hc3 : ¬cond0_3 i) (hc4 : ¬cond0_4 i) :
    out0_D_17 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 = put (i 1) xo17 (k0_pay14 (tap 0 (k0_pay10 x0) (k0_pay11 i x1)) (tap 1 (k0_pay10 x0) (k0_pay11 i x1)) (tap 2 (k0_pay10 x0) (k0_pay11 i x1)) x4 (rowOf (i 1) xo17)) := by
  unfold out0_D_17
  unfold kernelRun0_D
  dsimp only
  sl_unfold_words
  refine (read_put _ _ _ (by rw [ha19.read_unread]) _ i (off_eq i) _ _).trans ?_
  simp only [View.readAt_eq_ld, Memref.IsWhole.read_unread, ld3, ld2]
  exact four (fun a b c d => put (i 1) xo17 (k0_pay14 a b c x4 d)) (staged (F := F) .. ) (staged (F := F) .. ) (staged (F := F) .. ) (ld_row xo17 i (off_eq i) _)

/-- And to the second half's. -/
theorem out_D_18 (hc0 : ¬cond0_0 i) (hc1 : cond0_1 i) (hc2 : ¬cond0_2 i) (hc3 : ¬cond0_3 i) (hc4 : ¬cond0_4 i) :
    out0_D_18 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 = put (i 1) xo18 (k0_pay19 (tap 0 (k0_pay15 x2) (k0_pay16 (edge i) x3)) (tap 1 (k0_pay15 x2) (k0_pay16 (edge i) x3)) (tap 2 (k0_pay15 x2) (k0_pay16 (edge i) x3)) x5 (rowOf (i 1) xo18)) := by
  unfold out0_D_18
  unfold kernelRun0_D
  dsimp only
  sl_unfold_words
  refine (read_put _ _ _ (by rw [ha20.read_unread]) _ i (off_eq i) _ _).trans ?_
  simp only [View.readAt_eq_ld, Memref.IsWhole.read_unread, ld3, ld2]
  exact four (fun a b c d => put (i 1) xo18 (k0_pay19 a b c x5 d)) (staged (F := F) .. ) (staged (F := F) .. ) (staged (F := F) .. ) (ld_row xo18 i (off_eq i) _)

/-- The first point begins the filter's gradient at zero. -/
theorem out_A_17 (hc0 : cond0_0 i) (hc1 : cond0_1 i) (hc2 : ¬cond0_2 i) (hc3 : cond0_3 i) (hc4 : ¬cond0_4 i) :
    out0_A_17 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 = put (i 1) k0_pay8 (k0_pay14 (tap 0 (k0_pay10 x0) (k0_pay11 i x1)) (tap 1 (k0_pay10 x0) (k0_pay11 i x1)) (tap 2 (k0_pay10 x0) (k0_pay11 i x1)) x4 (rowOf (i 1) k0_pay8)) := by
  unfold out0_A_17
  refine Eq.trans (View.read_writes_eq_canon _ _ _ (fun y => cover0_A_17 (y := y) ..)) ?_
  unfold kernelRun0_A
  dsimp only
  sl_unfold_words
  refine (canon_put _ i (off_eq i) _ _ _).trans ?_
  rw [View.canon_unit_zero hz3]
  simp only [View.readAt_eq_ld, Memref.IsWhole.read_unread, ld3, ld2, View.readAt_writes_junk_eq_canon, View.canon_unit_zero (S := S4x3x704) hz3]
  exact four (fun a b c d => put (i 1) k0_pay8 (k0_pay14 a b c x4 d)) (staged (F := F) .. ) (staged (F := F) .. ) (staged (F := F) .. ) (ld_row k0_pay8 i (off_eq i) _)

/-- And the second half's. -/
theorem out_A_18 (hc0 : cond0_0 i) (hc1 : cond0_1 i) (hc2 : ¬cond0_2 i) (hc3 : cond0_3 i) (hc4 : ¬cond0_4 i) :
    out0_A_18 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 = put (i 1) k0_pay9 (k0_pay19 (tap 0 (k0_pay15 x2) (k0_pay16 (edge i) x3)) (tap 1 (k0_pay15 x2) (k0_pay16 (edge i) x3)) (tap 2 (k0_pay15 x2) (k0_pay16 (edge i) x3)) x5 (rowOf (i 1) k0_pay9)) := by
  unfold out0_A_18
  refine Eq.trans (View.read_writes_eq_canon _ _ _ (fun y => cover0_A_18 (y := y) ..)) ?_
  unfold kernelRun0_A
  dsimp only
  sl_unfold_words
  refine (canon_put _ i (off_eq i) _ _ _).trans ?_
  rw [View.canon_unit_zero hz3]
  simp only [View.readAt_eq_ld, Memref.IsWhole.read_unread, ld3, ld2, View.readAt_writes_junk_eq_canon, View.canon_unit_zero (S := S4x3x704) hz3]
  exact four (fun a b c d => put (i 1) k0_pay9 (k0_pay19 a b c x5 d)) (staged (F := F) .. ) (staged (F := F) .. ) (staged (F := F) .. ) (ld_row k0_pay9 i (off_eq i) _)

/-- The first point of a block of rows begins the product with its channels' terms. -/
theorem sout_A_0 (hc0 : cond0_0 i) (hc1 : cond0_1 i) (hc2 : ¬cond0_2 i) (hc3 : cond0_3 i) (hc4 : ¬cond0_4 i) :
    sout0_A_0 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 = k0_pay21 (k0_pay12 (tap 0 (k0_pay10 x0) (k0_pay11 i x1)) (tap 1 (k0_pay10 x0) (k0_pay11 i x1)) (tap 2 (k0_pay10 x0) (k0_pay11 i x1)) x6) (k0_pay17 (tap 0 (k0_pay15 x2) (k0_pay16 (edge i) x3)) (tap 1 (k0_pay15 x2) (k0_pay16 (edge i) x3)) (tap 2 (k0_pay15 x2) (k0_pay16 (edge i) x3)) x7) x8 x9 := by
  unfold sout0_A_0
  refine Eq.trans (View.read_writes_eq_canon _ _ _ (fun y => scover0_A_0 (y := y) ..)) ?_
  unfold kernelRun0_A
  dsimp only
  sl_unfold_words
  rw [View.canon_unit_zero hz]
  simp only [View.readAt_eq_ld, Memref.IsWhole.read_unread, ld3, ld2]
  exact congrArg₂ (fun a b => k0_pay21 a b x8 x9) (three (fun a b c => k0_pay12 a b c x6) (staged (F := F) .. ) (staged (F := F) .. ) (staged (F := F) .. )) (three (fun a b c => k0_pay17 a b c x7) (staged (F := F) .. ) (staged (F := F) .. ) (staged (F := F) .. ))

/-- So does the first point of every later block of rows. -/
theorem sout_D_0 (hc0 : ¬cond0_0 i) (hc1 : cond0_1 i) (hc2 : ¬cond0_2 i) (hc3 : ¬cond0_3 i) (hc4 : ¬cond0_4 i) :
    sout0_D_0 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 = k0_pay21 (k0_pay12 (tap 0 (k0_pay10 x0) (k0_pay11 i x1)) (tap 1 (k0_pay10 x0) (k0_pay11 i x1)) (tap 2 (k0_pay10 x0) (k0_pay11 i x1)) x6) (k0_pay17 (tap 0 (k0_pay15 x2) (k0_pay16 (edge i) x3)) (tap 1 (k0_pay15 x2) (k0_pay16 (edge i) x3)) (tap 2 (k0_pay15 x2) (k0_pay16 (edge i) x3)) x7) x8 x9 := by
  unfold sout0_D_0
  refine Eq.trans (View.read_writes_eq_canon _ _ _ (fun y => scover0_D_0 (y := y) ..)) ?_
  unfold kernelRun0_D
  dsimp only
  sl_unfold_words
  rw [View.canon_unit_zero hz]
  simp only [View.readAt_eq_ld, Memref.IsWhole.read_unread, ld3, ld2]
  exact congrArg₂ (fun a b => k0_pay21 a b x8 x9) (three (fun a b c => k0_pay12 a b c x6) (staged (F := F) .. ) (staged (F := F) .. ) (staged (F := F) .. )) (three (fun a b c => k0_pay17 a b c x7) (staged (F := F) .. ) (staged (F := F) .. ) (staged (F := F) .. ))

/-- A later point adds its channels' terms. -/
theorem sout_B_0 (hc0 : ¬cond0_0 i) (hc1 : ¬cond0_1 i) (hc2 : cond0_2 i) (hc3 : ¬cond0_3 i) (hc4 : ¬cond0_4 i) :
    sout0_B_0 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xs0 = k0_pay1 (k0_pay20 (k0_pay12 (tap 0 (k0_pay10 x0) (k0_pay11 i x1)) (tap 1 (k0_pay10 x0) (k0_pay11 i x1)) (tap 2 (k0_pay10 x0) (k0_pay11 i x1)) x6) (k0_pay17 (tap 0 (k0_pay15 x2) (k0_pay16 (edge i) x3)) (tap 1 (k0_pay15 x2) (k0_pay16 (edge i) x3)) (tap 2 (k0_pay15 x2) (k0_pay16 (edge i) x3)) x7) x8 x9) xs0 := by
  unfold sout0_B_0
  refine Eq.trans (View.read_writes_eq_canon _ _ _ (fun y => scover0_B_0 (y := y) ..)) ?_
  unfold kernelRun0_B
  dsimp only
  sl_unfold_words
  rw [View.canon_unit_zero hz]
  simp only [View.readAt_eq_ld, Memref.IsWhole.read_unread, ld3, ld2]
  exact congrArg₂ (fun a b => k0_pay1 (k0_pay20 a b x8 x9) xs0) (three (fun a b c => k0_pay12 a b c x6) (staged (F := F) .. ) (staged (F := F) .. ) (staged (F := F) .. )) (three (fun a b c => k0_pay17 a b c x7) (staged (F := F) .. ) (staged (F := F) .. ) (staged (F := F) .. ))

/-- So does the last. -/
theorem sout_C_0 (hc0 : ¬cond0_0 i) (hc1 : ¬cond0_1 i) (hc2 : cond0_2 i) (hc3 : ¬cond0_3 i) (hc4 : cond0_4 i) :
    sout0_C_0 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = k0_pay1 (k0_pay20 (k0_pay12 (tap 0 (k0_pay10 x0) (k0_pay11 i x1)) (tap 1 (k0_pay10 x0) (k0_pay11 i x1)) (tap 2 (k0_pay10 x0) (k0_pay11 i x1)) x6) (k0_pay17 (tap 0 (k0_pay15 x2) (k0_pay16 (edge i) x3)) (tap 1 (k0_pay15 x2) (k0_pay16 (edge i) x3)) (tap 2 (k0_pay15 x2) (k0_pay16 (edge i) x3)) x7) x8 x9) xs0 := by
  unfold sout0_C_0
  refine Eq.trans (View.read_writes_eq_canon _ _ _ (fun y => scover0_C_0 (y := y) ..)) ?_
  unfold kernelRun0_C
  dsimp only
  sl_unfold_words
  rw [View.canon_unit_zero hz]
  simp only [View.readAt_eq_ld, Memref.IsWhole.read_unread, ld3, ld2]
  exact congrArg₂ (fun a b => k0_pay1 (k0_pay20 a b x8 x9) xs0) (three (fun a b c => k0_pay12 a b c x6) (staged (F := F) .. ) (staged (F := F) .. ) (staged (F := F) .. )) (three (fun a b c => k0_pay17 a b c x7) (staged (F := F) .. ) (staged (F := F) .. ) (staged (F := F) .. ))

/-- The very first point sets the norm's weights' gradient to zero. -/
theorem out_A_16 (hc0 : cond0_0 i) (hc1 : cond0_1 i) (hc2 : ¬cond0_2 i) (hc3 : cond0_3 i) (hc4 : ¬cond0_4 i) :
    out0_A_16 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 = k0_pay2 := by
  unfold out0_A_16
  refine Eq.trans (View.read_writes_eq_canon _ _ _ (fun y => cover0_A_16 (y := y) ..)) ?_
  unfold kernelRun0_A
  dsimp only
  sl_unfold_words
  rw [View.canon_unit_zero hz]

/-- A later point leaves it. -/
theorem out_B_16 (hc0 : ¬cond0_0 i) (hc1 : ¬cond0_1 i) (hc2 : cond0_2 i) (hc3 : ¬cond0_3 i) (hc4 : ¬cond0_4 i) :
    out0_B_16 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xs0 xo16 = xo16 := rfl

/-- So does the first of a later block of rows. -/
theorem out_D_16 (hc0 : ¬cond0_0 i) (hc1 : cond0_1 i) (hc2 : ¬cond0_2 i) (hc3 : ¬cond0_3 i) (hc4 : ¬cond0_4 i) :
    out0_D_16 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo17 xo18 xo16 = xo16 := rfl

/-- The last point of a block of rows adds its rows' terms to it. -/
theorem out_C_16 (hc0 : ¬cond0_0 i) (hc1 : ¬cond0_1 i) (hc2 : cond0_2 i) (hc3 : ¬cond0_3 i) (hc4 : cond0_4 i) :
    out0_C_16 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = k0_pay3 (k0_pay6 x10 (k0_pay1 (k0_pay20 (k0_pay12 (tap 0 (k0_pay10 x0) (k0_pay11 i x1)) (tap 1 (k0_pay10 x0) (k0_pay11 i x1)) (tap 2 (k0_pay10 x0) (k0_pay11 i x1)) x6) (k0_pay17 (tap 0 (k0_pay15 x2) (k0_pay16 (edge i) x3)) (tap 1 (k0_pay15 x2) (k0_pay16 (edge i) x3)) (tap 2 (k0_pay15 x2) (k0_pay16 (edge i) x3)) x7) x8 x9) xs0)) xo16 := by
  unfold out0_C_16
  refine Eq.trans (View.read_writes_eq_canon _ _ _ (fun y => cover0_C_16 (y := y) ..)) ?_
  unfold kernelRun0_C
  dsimp only
  sl_unfold_words
  rw [View.canon_unit_zero hz]
  simp only [View.readAt_eq_ld, Memref.IsWhole.read_unread, ld3, ld2, View.readCov_unit_zero (S := S688x1024) _ hz]
  exact congrArg₂ (fun a b => k0_pay3 (k0_pay6 x10 (k0_pay1 (k0_pay20 a b x8 x9) xs0)) xo16) (three (fun a b c => k0_pay12 a b c x6) (staged (F := F) .. ) (staged (F := F) .. ) (staged (F := F) .. )) (three (fun a b c => k0_pay17 a b c x7) (staged (F := F) .. ) (staged (F := F) .. ) (staged (F := F) .. ))

/-- And stores the rows' gradient. -/
theorem out_C_15 (hc0 : ¬cond0_0 i) (hc1 : ¬cond0_1 i) (hc2 : cond0_2 i) (hc3 : ¬cond0_3 i) (hc4 : cond0_4 i) :
    out0_C_15 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 hc0 hc1 hc2 hc3 hc4 x0 x1 x2 x3 x4 x5 x6 x7 x8 x9 x10 x11 x12 xo16 xo17 xo18 xs0 = k0_pay7 x10 x11 (k0_pay1 (k0_pay20 (k0_pay12 (tap 0 (k0_pay10 x0) (k0_pay11 i x1)) (tap 1 (k0_pay10 x0) (k0_pay11 i x1)) (tap 2 (k0_pay10 x0) (k0_pay11 i x1)) x6) (k0_pay17 (tap 0 (k0_pay15 x2) (k0_pay16 (edge i) x3)) (tap 1 (k0_pay15 x2) (k0_pay16 (edge i) x3)) (tap 2 (k0_pay15 x2) (k0_pay16 (edge i) x3)) x7) x8 x9) xs0) x12 := by
  unfold out0_C_15
  refine Eq.trans (View.read_writes_eq_canon _ _ _ (fun y => cover0_C_15 (y := y) ..)) ?_
  unfold kernelRun0_C
  dsimp only
  sl_unfold_words
  rw [View.canon_unit_zero hz]
  simp only [View.readAt_eq_ld, Memref.IsWhole.read_unread, ld3, ld2, View.readCov_unit_zero (S := S688x1024) _ hz]
  exact congrArg₂ (fun a b => k0_pay7 x10 x11 (k0_pay1 (k0_pay20 a b x8 x9) xs0) x12) (three (fun a b c => k0_pay12 a b c x6) (staged (F := F) .. ) (staged (F := F) .. ) (staged (F := F) .. )) (three (fun a b c => k0_pay17 a b c x7) (staged (F := F) .. ) (staged (F := F) .. ) (staged (F := F) .. ))

end AnyFloat

/-- A product of a block of rows with a block of the transposed matrix, at an index. -/
theorem rows_mm {φ₁ φ₂ : FTy} (lhs : FVec Ideal S688x704 φ₁) (rhs : FVec Ideal S1024x704 φ₂) (j : S688x1024.Idx) :
    matmul dot_S688x704_S1024x704_S688x1024_1_1_0_0_n_n none lhs rhs (constant S688x1024 .f32 0x00000000#32) j
      = ∑ k : Fin 704, lhs (ix2 (j 0) k) * rhs (ix2 (j 1) k) :=
  Common.mm_nt _ rfl rfl rfl rfl (fun _ _ => rfl) (fun _ _ => rfl) lhs rhs j

end Cert.UpBwdIdeal.Hand

end
-- ==== Proof.UpBwdRef.lean ====
/- The reference of the gradient of the convolution, the first projection and its norm, written as sums over the rows and the channels. -/
module

public import proofs.«01_k».proof.Proof.UpBwdOuts
public import proofs.«01_k».proof.Proof.Gen.UpBwdRefIdeal.Read
public import Idealize.ShloMosaic.Lib.KernelVsHost

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.ValueIdx Cert.Common
open Idealize.ShloMosaic.Pipeline (Dat)
open Cert.UpBwdRefIdeal.Read

/-- A sum over the indices of a fibre of two reduced axes. -/
theorem fibre_sum {a b n : ℕ} (h : (⟨3, ![a, b, n]⟩ : Shape).ReducesTo [0, 1] ⟨1, ![n]⟩) (v : (⟨3, ![a, b, n]⟩ : Shape).Idx → EReal) (init : EReal) (j : Fin n) :
    Ideal.hostReduceAdd h v init (ix1 j) = init + ∑ x : Fin a, ∑ y : Fin b, v (ix3 x y j) := by
  unfold Ideal.hostReduceAdd
  refine congrArg₂ (· + ·) rfl ?_
  rw [← Fintype.sum_prod_type (f := fun p : Fin a × Fin b => v (ix3 p.1 p.2 j))]
  refine Finset.sum_nbij' (fun i => ((i 0 : Fin a), (i 1 : Fin b))) (fun p => ix3 p.1 p.2 j) (fun _ _ => Finset.mem_univ _) (fun p _ => ?_) (fun i hi => ?_) (fun p _ => rfl) (fun i hi => ?_)
  · rw [Finset.mem_filter]
    refine ⟨Finset.mem_univ _, funext fun d => Fin.ext ?_⟩
    match d with
    | ⟨0, _⟩ => rfl
  all_goals
    have e : (i 2).val = j.val := congrArg Fin.val (congrFun (Finset.mem_filter.mp hi).2 (0 : Fin 1))
    have e3 : i = ix3 (i 0) (i 1) j := funext fun d => Fin.ext (by
      match d with
      | ⟨0, _⟩ => rfl
      | ⟨1, _⟩ => rfl
      | ⟨2, _⟩ => exact e)
  · exact e3.symm
  · exact congrArg v e3

/-- A sum over the positions of a sequence, each paired with one `s` positions back, is the sum of each paired with one `s` positions on. -/
theorem shift_sum (s L : ℕ) (hs : s ≤ L) (f g : ℕ → EReal) :
    ∑ l ∈ Finset.range L, (if s ≤ l then f (l - s) else 0) * g l = ∑ l ∈ Finset.range L, f l * (if l + s < L then g (l + s) else 0) := by
  obtain ⟨M, rfl⟩ : ∃ M, L = s + M := ⟨L - s, by omega⟩
  rw [Finset.sum_range_add]
  rw [Finset.sum_eq_zero (s := Finset.range s) (fun l hl => by rw [if_neg (by have := Finset.mem_range.mp hl; omega), zero_mul]), zero_add]
  rw [Nat.add_comm s M, Finset.sum_range_add]
  rw [Finset.sum_eq_zero (s := Finset.range s) (fun l hl => by rw [if_neg (by omega), mul_zero]), add_zero]
  refine Finset.sum_congr rfl fun l hl => ?_
  rw [if_pos (by omega), if_pos (by have := Finset.mem_range.mp hl; omega), show s + l - s = l by omega, Nat.add_comm s l]

/-- A sum over all rows, sequence by sequence. -/
theorem rows_sum (f : ℕ → EReal) : ∑ a : Fin 8256, f a.val = ∑ b : Fin 4, ∑ l ∈ Finset.range 2064, f (2064 * b.val + l) := by
  have h := (finProdFinEquiv (m := 4) (n := 2064)).sum_comp (fun a => f a.val)
  refine h.symm.trans ?_
  rw [Fintype.sum_prod_type]
  refine Finset.sum_congr rfl fun b _ => ?_
  rw [Finset.sum_range]
  refine Finset.sum_congr rfl fun l _ => congrArg f ?_
  show l.val + 2064 * b.val = 2064 * b.val + l.val
  omega

variable (m : (ℓ : Loc nD τ sig) → Buf (Elt Ideal) ℓ) (c : Dev nD)

/-- The gradient of the convolution's result, the filter, the first projection's matrix, the rows, the norm's weights and the gradient of the residual. -/
abbrev DU : (⟨S8256x5632, .bf16⟩ : BufTy).Contents (Elt Ideal) := m ((c.tc : Thread nD τ).loc main_arg0)
abbrev CW : (⟨S3x5632, .f32⟩ : BufTy).Contents (Elt Ideal) := m ((c.tc : Thread nD τ).loc main_arg1)
abbrev WU : (⟨S1024x5632, .f32⟩ : BufTy).Contents (Elt Ideal) := m ((c.tc : Thread nD τ).loc main_arg2)
abbrev H : (⟨S8256x1024, .f32⟩ : BufTy).Contents (Elt Ideal) := m ((c.tc : Thread nD τ).loc main_arg3)
abbrev Gm : (⟨S1024, .f32⟩ : BufTy).Contents (Elt Ideal) := m ((c.tc : Thread nD τ).loc main_arg4)
abbrev DH : (⟨S8256x1024, .f32⟩ : BufTy).Contents (Elt Ideal) := m ((c.tc : Thread nD τ).loc main_arg5)

/-- Rows of the gradient and of the projection, by number. -/
def du (a : ℕ) (n : Fin 5632) : EReal := if h : a < 8256 then DU m c (ix2 (⟨a, h⟩ : Fin 8256) n) else 0
def up (a : ℕ) (n : Fin 5632) : EReal := if h : a < 8256 then val_main_v16 (F := Ideal) (WU m c) (H m c) (Gm m c) (ix2 (⟨a, h⟩ : Fin 8256) n) else 0
/-- The gradient `s` rows on, within the sequence. -/
def shift (s a : ℕ) (n : Fin 5632) : EReal := if a % 2064 + s < 2064 then du m c (a + s) n else 0
/-- The gradient of the projection's result, -/
def dup (a : ℕ) (n : Fin 5632) : EReal :=
  (CW m c (ix2 (2 : Fin 3) n) * shift m c 0 a n + CW m c (ix2 (1 : Fin 3) n) * shift m c 1 a n) + CW m c (ix2 (0 : Fin 3) n) * shift m c 2 a n
/-- and of the filter. -/
def dcw (k : Fin 3) (n : Fin 5632) : EReal := ∑ a : Fin 8256, up m c a.val n * shift m c (2 - k.val) a.val n

theorem du_of (a : Fin 8256) (n : Fin 5632) : du m c a.val n = DU m c (ix2 a n) := dif_pos a.isLt
theorem up_of (a : Fin 8256) (n : Fin 5632) : up m c a.val n = val_main_v16 (F := Ideal) (WU m c) (H m c) (Gm m c) (ix2 a n) := dif_pos a.isLt

theorem ref_du (b : Fin 4) (l : Fin 2064) (n : Fin 5632) : val_main_v44 (F := Ideal) (DU m c) (ix3 b l n) = du m c (2064 * b.val + l.val) n := by
  have hb := b.isLt
  have hl := l.isLt
  have hn := n.isLt
  rw [val_main_v44_apply, val_main_v43_apply]
  refine Eq.trans ?_ (du_of m c (⟨2064 * b.val + l.val, by omega⟩ : Fin 8256) n).symm
  refine congrArg (DU m c) (funext fun d => Fin.ext ?_)
  match d with
  | ⟨0, _⟩ => show ((b.val * 2064 + l.val) * 5632 + n.val) / 5632 = 2064 * b.val + l.val; omega
  | ⟨1, _⟩ => show ((b.val * 2064 + l.val) * 5632 + n.val) % 5632 = n.val; omega

theorem ref_w2 (b : Fin 4) (l : Fin 2064) (n : Fin 5632) : val_main_v48 (F := Ideal) (CW m c) (ix3 b l n) = CW m c (ix2 (2 : Fin 3) n) := by
  rw [val_main_v48_apply, val_main_v39_apply, val_main_v38_apply, val_main_v37_apply]
  refine congrArg _ (funext fun d => Fin.ext ?_)
  match d with
  | ⟨0, _⟩ => show 2 + 0 = 2; rfl
  | ⟨1, _⟩ => show n.val % 5632 = n.val; have := n.isLt; omega

theorem ref_w1 (b : Fin 4) (l : Fin 2064) (n : Fin 5632) : val_main_v57 (F := Ideal) (CW m c) (ix3 b l n) = CW m c (ix2 (1 : Fin 3) n) := by
  rw [val_main_v57_apply, val_main_v32_apply, val_main_v31_apply, val_main_v30_apply]
  refine congrArg _ (funext fun d => Fin.ext ?_)
  match d with
  | ⟨0, _⟩ => show 1 + 0 = 1; rfl
  | ⟨1, _⟩ => show n.val % 5632 = n.val; have := n.isLt; omega

theorem ref_w0 (b : Fin 4) (l : Fin 2064) (n : Fin 5632) : val_main_v68 (F := Ideal) (CW m c) (ix3 b l n) = CW m c (ix2 (0 : Fin 3) n) := by
  rw [val_main_v68_apply, val_main_v24_apply, val_main_v23_apply, val_main_v22_apply]
  refine congrArg _ (funext fun d => Fin.ext ?_)
  match d with
  | ⟨0, _⟩ => show 0 + 0 = 0; rfl
  | ⟨1, _⟩ => show n.val % 5632 = n.val; have := n.isLt; omega

theorem ref_p2 (b : Fin 4) (l : Fin 2064) (n : Fin 5632) : val_main_v49 (F := Ideal) (DU m c) (CW m c) (ix3 b l n) = du m c (2064 * b.val + l.val) n * CW m c (ix2 (2 : Fin 3) n) := by
  rw [val_main_v49_apply, ref_w2, ref_du]
  rfl

theorem ref_p1 (b : Fin 4) (l : Fin 2064) (n : Fin 5632) : val_main_v58 (F := Ideal) (DU m c) (CW m c) (ix3 b l n) = du m c (2064 * b.val + l.val) n * CW m c (ix2 (1 : Fin 3) n) := by
  rw [val_main_v58_apply, ref_w1, ref_du]
  rfl

theorem ref_p0 (b : Fin 4) (l : Fin 2064) (n : Fin 5632) : val_main_v69 (F := Ideal) (DU m c) (CW m c) (ix3 b l n) = du m c (2064 * b.val + l.val) n * CW m c (ix2 (0 : Fin 3) n) := by
  rw [val_main_v69_apply, ref_w0, ref_du]
  rfl

theorem ref_pad2 (b : Fin 4) (l : Fin 2064) (n : Fin 5632) (h : l.val + 2 < 2066) :
    val_main_v53 (F := Ideal) (DU m c) (CW m c) (ix3 b (⟨l.val + 2, h⟩ : Fin 2066) n) = shift m c 0 (2064 * b.val + l.val) n * CW m c (ix2 (2 : Fin 3) n) := by
  have hl := l.isLt
  unfold val_main_v53 shift
  have em : (2064 * b.val + l.val) % 2064 = l.val := by omega
  rw [em]
  by_cases hs : l.val + 0 < 2064
  · rw [if_pos hs]
    refine (pad_apply_of_inside _ _ _ (val_main_v49 (F := Ideal) (DU m c) (CW m c)) _ _ _ _ (ix3 b (⟨l.val + 0, hs⟩ : Fin 2064) n) (fun d => ?_)).trans (ref_p2 m c b _ n)
    match d with
    | ⟨0, _⟩ => show b.val = 0 + b.val * (0 + 1); omega
    | ⟨1, _⟩ => show l.val + 2 = 2 + (l.val + 0) * (0 + 1); omega
    | ⟨2, _⟩ => show n.val = 0 + n.val * (0 + 1); omega
  · rw [if_neg hs, zero_mul]
    refine (pad_apply_of_not_inside _ _ _ (val_main_v49 (F := Ideal) (DU m c) (CW m c)) _ _ _ _ (1 : Fin 3) (fun hh => ?_)).trans zero_word
    have h3 : (l.val + 2 - 2) / (0 + 1) < 2064 := hh.2.2
    omega

theorem ref_pad1 (b : Fin 4) (l : Fin 2064) (n : Fin 5632) (h : l.val + 2 < 2066) :
    val_main_v63 (F := Ideal) (DU m c) (CW m c) (ix3 b (⟨l.val + 2, h⟩ : Fin 2066) n) = shift m c 1 (2064 * b.val + l.val) n * CW m c (ix2 (1 : Fin 3) n) := by
  have hl := l.isLt
  unfold val_main_v63 shift
  have em : (2064 * b.val + l.val) % 2064 = l.val := by omega
  rw [em]
  by_cases hs : l.val + 1 < 2064
  · rw [if_pos hs]
    refine (pad_apply_of_inside _ _ _ (val_main_v58 (F := Ideal) (DU m c) (CW m c)) _ _ _ _ (ix3 b (⟨l.val + 1, hs⟩ : Fin 2064) n) (fun d => ?_)).trans (ref_p1 m c b _ n)
    match d with
    | ⟨0, _⟩ => show b.val = 0 + b.val * (0 + 1); omega
    | ⟨1, _⟩ => show l.val + 2 = 1 + (l.val + 1) * (0 + 1); omega
    | ⟨2, _⟩ => show n.val = 0 + n.val * (0 + 1); omega
  · rw [if_neg hs, zero_mul]
    refine (pad_apply_of_not_inside _ _ _ (val_main_v58 (F := Ideal) (DU m c) (CW m c)) _ _ _ _ (1 : Fin 3) (fun hh => ?_)).trans zero_word
    have h3 : (l.val + 2 - 1) / (0 + 1) < 2064 := hh.2.2
    omega

theorem ref_pad0 (b : Fin 4) (l : Fin 2064) (n : Fin 5632) (h : l.val + 2 < 2066) :
    val_main_v74 (F := Ideal) (DU m c) (CW m c) (ix3 b (⟨l.val + 2, h⟩ : Fin 2066) n) = shift m c 2 (2064 * b.val + l.val) n * CW m c (ix2 (0 : Fin 3) n) := by
  have hl := l.isLt
  unfold val_main_v74 shift
  have em : (2064 * b.val + l.val) % 2064 = l.val := by omega
  rw [em]
  by_cases hs : l.val + 2 < 2064
  · rw [if_pos hs]
    refine (pad_apply_of_inside _ _ _ (val_main_v69 (F := Ideal) (DU m c) (CW m c)) _ _ _ _ (ix3 b (⟨l.val + 2, hs⟩ : Fin 2064) n) (fun d => ?_)).trans (ref_p0 m c b _ n)
    match d with
    | ⟨0, _⟩ => show b.val = 0 + b.val * (0 + 1); omega
    | ⟨1, _⟩ => show l.val + 2 = 0 + (l.val + 2) * (0 + 1); omega
    | ⟨2, _⟩ => show n.val = 0 + n.val * (0 + 1); omega
  · rw [if_neg hs, zero_mul]
    refine (pad_apply_of_not_inside _ _ _ (val_main_v69 (F := Ideal) (DU m c) (CW m c)) _ _ _ _ (1 : Fin 3) (fun hh => ?_)).trans zero_word
    have h3 : (l.val + 2 - 0) / (0 + 1) < 2064 := hh.2.2
    omega

/-- The reference's gradient of the projection's result. -/
theorem ref_dup (a : Fin 8256) (n : Fin 5632) : val_main_v78 (F := Ideal) (DU m c) (CW m c) (ix2 a n) = dup m c a.val n := by
  have ha := a.isLt
  have hn := n.isLt
  have e : idx_main_v78 (ix2 a n) = ix3 (⟨a.val / 2064, by omega⟩ : Fin 4) (⟨a.val % 2064, Nat.mod_lt _ (by decide)⟩ : Fin 2064) n := funext fun d => Fin.ext (by
    match d with
    | ⟨0, _⟩ => show (a.val * 5632 + n.val) / 11624448 = a.val / 2064; omega
    | ⟨1, _⟩ => show (a.val * 5632 + n.val) / 5632 % 2064 = a.val % 2064; omega
    | ⟨2, _⟩ => show (a.val * 5632 + n.val) % 5632 = n.val; omega)
  rw [val_main_v78_apply, e]
  have hq : 2064 * (a.val / 2064) + a.val % 2064 = a.val := Nat.div_add_mod _ _
  generalize hb : (⟨a.val / 2064, by omega⟩ : Fin 4) = b
  generalize hl : (⟨a.val % 2064, Nat.mod_lt _ (by decide)⟩ : Fin 2064) = l
  have hba : 2064 * b.val + l.val = a.val := by rw [← hb, ← hl]; exact hq
  have h2 : l.val + 2 < 2066 := by have := l.isLt; omega
  rw [val_main_v77_apply]
  have e2 : idx_main_v77 (ix3 b l n) = ix3 b (⟨l.val + 2, h2⟩ : Fin 2066) n := funext fun d => Fin.ext (by
    match d with
    | ⟨0, _⟩ => rfl
    | ⟨1, _⟩ => show 2 + l.val = l.val + 2; omega
    | ⟨2, _⟩ => rfl)
  rw [e2, val_main_v75_apply, val_main_v64_apply, ref_pad2, ref_pad1, ref_pad0, hba]
  unfold dup
  exact congrArg₂ (· + ·) (congrArg₂ (· + ·) (mul_comm _ _) (mul_comm _ _)) (mul_comm _ _)

/-- The projection's result with two rows of zeros before each sequence. -/
theorem ref_back (b : Fin 4) (q : Fin 2066) (n : Fin 5632) :
    val_main_v19 (F := Ideal) (WU m c) (H m c) (Gm m c) (ix3 b q n) = if 2 ≤ q.val then up m c (2064 * b.val + q.val - 2) n else 0 := by
  have hb := b.isLt
  have hq := q.isLt
  have hn := n.isLt
  unfold val_main_v19
  by_cases h : 2 ≤ q.val
  · rw [if_pos h]
    refine (concatenate_pair_apply_right (s₁ := (⟨3, ![4, 2, 5632]⟩ : Shape)) (s₂ := (⟨3, ![4, 2064, 5632]⟩ : Shape)) (1 : Fin 3) _ _ _ (ix3 b q n) rfl rfl (ix3 b (⟨q.val - 2, by omega⟩ : Fin 2064) n) (fun d hd => ?_) ?_).trans ?_
    · match d with
      | ⟨0, _⟩ => rfl
      | ⟨1, _⟩ => exact absurd rfl hd
      | ⟨2, _⟩ => rfl
    · show q.val - 2 + 2 = q.val
      omega
    · rw [val_main_v17_apply]
      refine Eq.trans ?_ (up_of m c (⟨2064 * b.val + q.val - 2, by omega⟩ : Fin 8256) n).symm
      refine congrArg _ (funext fun d => Fin.ext ?_)
      match d with
      | ⟨0, _⟩ => show ((b.val * 2064 + (q.val - 2)) * 5632 + n.val) / 5632 = 2064 * b.val + q.val - 2; omega
      | ⟨1, _⟩ => show ((b.val * 2064 + (q.val - 2)) * 5632 + n.val) % 5632 = n.val; omega
  · rw [if_neg h]
    refine (concatenate_pair_apply_left (s₁ := (⟨3, ![4, 2, 5632]⟩ : Shape)) (s₂ := (⟨3, ![4, 2064, 5632]⟩ : Shape)) (1 : Fin 3) _ _ _ (ix3 b q n) rfl (ix3 b (⟨q.val, by omega⟩ : Fin 2) n) (fun d => ?_)).trans ?_
    · match d with
      | ⟨0, _⟩ => rfl
      | ⟨1, _⟩ => rfl
      | ⟨2, _⟩ => rfl
    · rw [val_main_v18_apply]
      exact zero_word

theorem ref_f2 (n : Fin 5632) : val_main_v46 (F := Ideal) (DU m c) (WU m c) (H m c) (Gm m c) (ix1 n) = dcw m c (2 : Fin 3) n := by
  unfold val_main_v46
  simp only [Host.reduceAdd, Ideal.hostReduceAdd_def]
  rw [fibre_sum]
  unfold dcw
  rw [rows_sum (fun a => up m c a n * shift m c (2 - (2 : Fin 3).val) a n)]
  refine (congrArg₂ (· + ·) zero_word rfl).trans ((zero_add (M := EReal) _).trans (Finset.sum_congr rfl fun b _ => ?_))
  refine Eq.trans ?_ ((shift_sum 0 2064 (by decide) (fun l => up m c (2064 * b.val + l) n) (fun l => du m c (2064 * b.val + l) n)).trans (Finset.sum_congr rfl fun l hl => ?_))
  · rw [Finset.sum_range]
    refine Finset.sum_congr rfl fun l _ => ?_
    rw [val_main_v45_apply, ref_du]
    refine congrArg₂ (· * ·) ?_ rfl
    rw [val_main_v36_apply]
    have e : idx_main_v36 (ix3 b l n) = ix3 b (⟨l.val + 2, by have := l.isLt; omega⟩ : Fin 2066) n := funext fun d => Fin.ext (by
      match d with
      | ⟨0, _⟩ => rfl
      | ⟨1, _⟩ => show 2 + l.val = l.val + 2; omega
      | ⟨2, _⟩ => rfl)
    rw [e, ref_back]
    by_cases h : 0 ≤ l.val
    · rw [if_pos h, if_pos (show 2 ≤ l.val + 2 by omega)]
      exact congrArg (fun q => up m c q n) (show 2064 * b.val + (l.val + 2) - 2 = 2064 * b.val + (l.val - 0) by omega)
    · rw [if_neg h, if_neg (show ¬2 ≤ l.val + 2 by omega)]
  · have hl2 := Finset.mem_range.mp hl
    refine congrArg₂ (· * ·) rfl ?_
    unfold shift
    have em : (2064 * b.val + l) % 2064 = l := by omega
    rw [em]
    rfl

theorem ref_f1 (n : Fin 5632) : val_main_v55 (F := Ideal) (DU m c) (WU m c) (H m c) (Gm m c) (ix1 n) = dcw m c (1 : Fin 3) n := by
  unfold val_main_v55
  simp only [Host.reduceAdd, Ideal.hostReduceAdd_def]
  rw [fibre_sum]
  unfold dcw
  rw [rows_sum (fun a => up m c a n * shift m c (2 - (1 : Fin 3).val) a n)]
  refine (congrArg₂ (· + ·) zero_word rfl).trans ((zero_add (M := EReal) _).trans (Finset.sum_congr rfl fun b _ => ?_))
  refine Eq.trans ?_ ((shift_sum 1 2064 (by decide) (fun l => up m c (2064 * b.val + l) n) (fun l => du m c (2064 * b.val + l) n)).trans (Finset.sum_congr rfl fun l hl => ?_))
  · rw [Finset.sum_range]
    refine Finset.sum_congr rfl fun l _ => ?_
    rw [val_main_v54_apply, ref_du]
    refine congrArg₂ (· * ·) ?_ rfl
    rw [val_main_v29_apply]
    have e : idx_main_v29 (ix3 b l n) = ix3 b (⟨l.val + 1, by have := l.isLt; omega⟩ : Fin 2066) n := funext fun d => Fin.ext (by
      match d with
      | ⟨0, _⟩ => rfl
      | ⟨1, _⟩ => show 1 + l.val = l.val + 1; omega
      | ⟨2, _⟩ => rfl)
    rw [e, ref_back]
    by_cases h : 1 ≤ l.val
    · rw [if_pos h, if_pos (show 2 ≤ l.val + 1 by omega)]
      exact congrArg (fun q => up m c q n) (show 2064 * b.val + (l.val + 1) - 2 = 2064 * b.val + (l.val - 1) by omega)
    · rw [if_neg h, if_neg (show ¬2 ≤ l.val + 1 by omega)]
  · have hl2 := Finset.mem_range.mp hl
    refine congrArg₂ (· * ·) rfl ?_
    unfold shift
    have em : (2064 * b.val + l) % 2064 = l := by omega
    rw [em]
    rfl

theorem ref_f0 (n : Fin 5632) : val_main_v66 (F := Ideal) (DU m c) (WU m c) (H m c) (Gm m c) (ix1 n) = dcw m c (0 : Fin 3) n := by
  unfold val_main_v66
  simp only [Host.reduceAdd, Ideal.hostReduceAdd_def]
  rw [fibre_sum]
  unfold dcw
  rw [rows_sum (fun a => up m c a n * shift m c (2 - (0 : Fin 3).val) a n)]
  refine (congrArg₂ (· + ·) zero_word rfl).trans ((zero_add (M := EReal) _).trans (Finset.sum_congr rfl fun b _ => ?_))
  refine Eq.trans ?_ ((shift_sum 2 2064 (by decide) (fun l => up m c (2064 * b.val + l) n) (fun l => du m c (2064 * b.val + l) n)).trans (Finset.sum_congr rfl fun l hl => ?_))
  · rw [Finset.sum_range]
    refine Finset.sum_congr rfl fun l _ => ?_
    rw [val_main_v65_apply, ref_du]
    refine congrArg₂ (· * ·) ?_ rfl
    rw [val_main_v21_apply]
    have e : idx_main_v21 (ix3 b l n) = ix3 b (⟨l.val + 0, by have := l.isLt; omega⟩ : Fin 2066) n := funext fun d => Fin.ext (by
      match d with
      | ⟨0, _⟩ => rfl
      | ⟨1, _⟩ => rfl
      | ⟨2, _⟩ => rfl)
    rw [e, ref_back]
    by_cases h : 2 ≤ l.val
    · rw [if_pos h, if_pos (show 2 ≤ l.val + 0 by omega)]
      exact congrArg (fun q => up m c q n) (show 2064 * b.val + (l.val + 0) - 2 = 2064 * b.val + (l.val - 2) by omega)
    · rw [if_neg h, if_neg (show ¬2 ≤ l.val + 0 by omega)]
  · have hl2 := Finset.mem_range.mp hl
    refine congrArg₂ (· * ·) rfl ?_
    unfold shift
    have em : (2064 * b.val + l) % 2064 = l := by omega
    rw [em]
    rfl

theorem ref_g2 (n : Fin 5632) : val_main_v51 (F := Ideal) (DU m c) (WU m c) (H m c) (Gm m c) (ix2 (0 : Fin 1) n) = dcw m c (2 : Fin 3) n := by
  rw [val_main_v51_apply]
  have e : idx_main_v51 (ix2 (0 : Fin 1) n) = ix1 n := funext fun d => by match d with | ⟨0, _⟩ => rfl
  rw [e]
  unfold val_main_v50
  simp only [Host.reduceAdd, Ideal.hostReduceAdd_def]
  rw [fibre_sum, Fin.sum_univ_one, Fin.sum_univ_one, val_main_v47_apply]
  have e2 : idx_main_v47 (ix3 (0 : Fin 1) (0 : Fin 1) n) = ix1 n := funext fun d => Fin.ext (by match d with | ⟨0, _⟩ => show (0 * 1 + 0) * 5632 + n.val = n.val; omega)
  rw [e2, ref_f2]
  exact (congrArg₂ (· + ·) zero_word rfl).trans (zero_add (M := EReal) _)

theorem ref_row2 (k : Fin 3) (n : Fin 5632) : val_main_v52 (F := Ideal) (DU m c) (WU m c) (H m c) (Gm m c) (ix2 k n) = if k.val = 2 then dcw m c (2 : Fin 3) n else 0 := by
  have hk := k.isLt
  unfold val_main_v52
  by_cases h : k.val = 2
  · rw [if_pos h]
    refine (pad_apply_of_inside _ _ _ (val_main_v51 (F := Ideal) (DU m c) (WU m c) (H m c) (Gm m c)) _ _ _ _ (ix2 (0 : Fin 1) n) (fun d => ?_)).trans (ref_g2 m c n)
    match d with
    | ⟨0, _⟩ => show k.val = 2 + 0 * (0 + 1); omega
    | ⟨1, _⟩ => show n.val = 0 + n.val * (0 + 1); omega
  · rw [if_neg h]
    refine (pad_apply_of_not_inside _ _ _ (val_main_v51 (F := Ideal) (DU m c) (WU m c) (H m c) (Gm m c)) _ _ _ _ (0 : Fin 2) (fun hh => ?_)).trans zero_word
    have h1 : 2 ≤ k.val := hh.1
    have h3 : (k.val - 2) / (0 + 1) < 1 := hh.2.2
    omega

theorem ref_g1 (n : Fin 5632) : val_main_v60 (F := Ideal) (DU m c) (WU m c) (H m c) (Gm m c) (ix2 (0 : Fin 1) n) = dcw m c (1 : Fin 3) n := by
  rw [val_main_v60_apply]
  have e : idx_main_v60 (ix2 (0 : Fin 1) n) = ix1 n := funext fun d => by match d with | ⟨0, _⟩ => rfl
  rw [e]
  unfold val_main_v59
  simp only [Host.reduceAdd, Ideal.hostReduceAdd_def]
  rw [fibre_sum, Fin.sum_univ_one, Fin.sum_univ_one, val_main_v56_apply]
  have e2 : idx_main_v56 (ix3 (0 : Fin 1) (0 : Fin 1) n) = ix1 n := funext fun d => Fin.ext (by match d with | ⟨0, _⟩ => show (0 * 1 + 0) * 5632 + n.val = n.val; omega)
  rw [e2, ref_f1]
  exact (congrArg₂ (· + ·) zero_word rfl).trans (zero_add (M := EReal) _)

theorem ref_row1 (k : Fin 3) (n : Fin 5632) : val_main_v61 (F := Ideal) (DU m c) (WU m c) (H m c) (Gm m c) (ix2 k n) = if k.val = 1 then dcw m c (1 : Fin 3) n else 0 := by
  have hk := k.isLt
  unfold val_main_v61
  by_cases h : k.val = 1
  · rw [if_pos h]
    refine (pad_apply_of_inside _ _ _ (val_main_v60 (F := Ideal) (DU m c) (WU m c) (H m c) (Gm m c)) _ _ _ _ (ix2 (0 : Fin 1) n) (fun d => ?_)).trans (ref_g1 m c n)
    match d with
    | ⟨0, _⟩ => show k.val = 1 + 0 * (0 + 1); omega
    | ⟨1, _⟩ => show n.val = 0 + n.val * (0 + 1); omega
  · rw [if_neg h]
    refine (pad_apply_of_not_inside _ _ _ (val_main_v60 (F := Ideal) (DU m c) (WU m c) (H m c) (Gm m c)) _ _ _ _ (0 : Fin 2) (fun hh => ?_)).trans zero_word
    have h1 : 1 ≤ k.val := hh.1
    have h3 : (k.val - 1) / (0 + 1) < 1 := hh.2.2
    omega

theorem ref_g0 (n : Fin 5632) : val_main_v71 (F := Ideal) (DU m c) (WU m c) (H m c) (Gm m c) (ix2 (0 : Fin 1) n) = dcw m c (0 : Fin 3) n := by
  rw [val_main_v71_apply]
  have e : idx_main_v71 (ix2 (0 : Fin 1) n) = ix1 n := funext fun d => by match d with | ⟨0, _⟩ => rfl
  rw [e]
  unfold val_main_v70
  simp only [Host.reduceAdd, Ideal.hostReduceAdd_def]
  rw [fibre_sum, Fin.sum_univ_one, Fin.sum_univ_one, val_main_v67_apply]
  have e2 : idx_main_v67 (ix3 (0 : Fin 1) (0 : Fin 1) n) = ix1 n := funext fun d => Fin.ext (by match d with | ⟨0, _⟩ => show (0 * 1 + 0) * 5632 + n.val = n.val; omega)
  rw [e2, ref_f0]
  exact (congrArg₂ (· + ·) zero_word rfl).trans (zero_add (M := EReal) _)

theorem ref_row0 (k : Fin 3) (n : Fin 5632) : val_main_v72 (F := Ideal) (DU m c) (WU m c) (H m c) (Gm m c) (ix2 k n) = if k.val = 0 then dcw m c (0 : Fin 3) n else 0 := by
  have hk := k.isLt
  unfold val_main_v72
  by_cases h : k.val = 0
  · rw [if_pos h]
    refine (pad_apply_of_inside _ _ _ (val_main_v71 (F := Ideal) (DU m c) (WU m c) (H m c) (Gm m c)) _ _ _ _ (ix2 (0 : Fin 1) n) (fun d => ?_)).trans (ref_g0 m c n)
    match d with
    | ⟨0, _⟩ => show k.val = 0 + 0 * (0 + 1); omega
    | ⟨1, _⟩ => show n.val = 0 + n.val * (0 + 1); omega
  · rw [if_neg h]
    refine (pad_apply_of_not_inside _ _ _ (val_main_v71 (F := Ideal) (DU m c) (WU m c) (H m c) (Gm m c)) _ _ _ _ (0 : Fin 2) (fun hh => ?_)).trans zero_word
    have h1 : 0 ≤ k.val := hh.1
    have h3 : (k.val - 0) / (0 + 1) < 1 := hh.2.2
    omega

/-- The reference's gradient of the filter. -/
theorem ref_dcw (k : Fin 3) (n : Fin 5632) : val_main_v73 (F := Ideal) (DU m c) (WU m c) (H m c) (Gm m c) (ix2 k n) = dcw m c k n := by
  rw [val_main_v73_apply, val_main_v62_apply, ref_row2, ref_row1, ref_row0]
  match k with
  | ⟨0, _⟩ => exact (congrArg₂ (· + ·) (add_zero (M := EReal) 0) rfl).trans (zero_add (M := EReal) _)
  | ⟨1, _⟩ => exact (congrArg₂ (· + ·) (zero_add (M := EReal) _) rfl).trans (add_zero (M := EReal) _)
  | ⟨2, _⟩ => exact (congrArg₂ (· + ·) (add_zero (M := EReal) _) rfl).trans (add_zero (M := EReal) _)

/-- Channel `f` of block `p`. -/
abbrev chan (p : Fin 8) (f : Fin 704) : Fin 5632 := blockCol (show 5632 = 8 * 704 from rfl) p f
abbrev lo (p : Fin 4) : Fin 8 := ⟨p.val, by have := p.isLt; omega⟩
abbrev hi (p : Fin 4) : Fin 8 := ⟨4 + p.val, by have := p.isLt; omega⟩

theorem ref_dup_lo (p : Fin 4) (a : Fin 8256) (f : Fin 704) : val_main_v105 (F := Ideal) (DU m c) (CW m c) (ix3 p a f) = dup m c a.val (chan (lo p) f) := by
  rw [val_main_v105_apply]
  have e : idx_main_v105 (ix3 p a f) = ix3 (lo p) a f := funext fun d => by match d with | ⟨0, _⟩ => rfl | ⟨1, _⟩ => rfl | ⟨2, _⟩ => rfl
  rw [e]
  unfold val_main_v102 val_main_v101
  refine (blocks_apply (show 5632 = 8 * 704 from rfl) (val_main_v100 (F := Ideal) (DU m c) (CW m c) : S8256x5632.Idx → EReal) _ _ (lo p) a f).trans ?_
  exact ref_dup m c a (chan (lo p) f)

theorem ref_dup_hi (p : Fin 4) (a : Fin 8256) (f : Fin 704) : val_main_v106 (F := Ideal) (DU m c) (CW m c) (ix3 p a f) = dup m c a.val (chan (hi p) f) := by
  rw [val_main_v106_apply]
  have e : idx_main_v106 (ix3 p a f) = ix3 (hi p) a f := funext fun d => by match d with | ⟨0, _⟩ => rfl | ⟨1, _⟩ => rfl | ⟨2, _⟩ => rfl
  rw [e]
  unfold val_main_v102 val_main_v101
  refine (blocks_apply (show 5632 = 8 * 704 from rfl) (val_main_v100 (F := Ideal) (DU m c) (CW m c) : S8256x5632.Idx → EReal) _ _ (hi p) a f).trans ?_
  exact ref_dup m c a (chan (hi p) f)

theorem ref_dcw_lo (p : Fin 4) (k : Fin 3) (f : Fin 704) : val_main_v109 (F := Ideal) (DU m c) (WU m c) (H m c) (Gm m c) (ix3 p k f) = dcw m c k (chan (lo p) f) := by
  rw [val_main_v109_apply]
  have e : idx_main_v109 (ix3 p k f) = ix3 (lo p) k f := funext fun d => by match d with | ⟨0, _⟩ => rfl | ⟨1, _⟩ => rfl | ⟨2, _⟩ => rfl
  rw [e]
  unfold val_main_v104 val_main_v103
  refine (blocks_apply (show 5632 = 8 * 704 from rfl) (val_main_v73 (F := Ideal) (DU m c) (WU m c) (H m c) (Gm m c) : S3x5632.Idx → EReal) _ _ (lo p) k f).trans ?_
  exact ref_dcw m c k (chan (lo p) f)

theorem ref_dcw_hi (p : Fin 4) (k : Fin 3) (f : Fin 704) : val_main_v110 (F := Ideal) (DU m c) (WU m c) (H m c) (Gm m c) (ix3 p k f) = dcw m c k (chan (hi p) f) := by
  rw [val_main_v110_apply]
  have e : idx_main_v110 (ix3 p k f) = ix3 (hi p) k f := funext fun d => by match d with | ⟨0, _⟩ => rfl | ⟨1, _⟩ => rfl | ⟨2, _⟩ => rfl
  rw [e]
  unfold val_main_v104 val_main_v103
  refine (blocks_apply (show 5632 = 8 * 704 from rfl) (val_main_v73 (F := Ideal) (DU m c) (WU m c) (H m c) (Gm m c) : S3x5632.Idx → EReal) _ _ (hi p) k f).trans ?_
  exact ref_dcw m c k (chan (hi p) f)

/-- A row, the weights, and the gradient of the normed row. -/
abbrev X (a : Fin 8256) (k : Fin 1024) : EReal := H m c (ix2 a k)
abbrev G (k : Fin 1024) : EReal := Gm m c (ix1 k)
abbrev A (a : Fin 8256) (k : Fin 1024) : EReal := val_main_v79 (F := Ideal) (DU m c) (CW m c) (WU m c) (ix2 a k)

/-- The gradient of the normed row, as a sum over the channels. -/
theorem ref_acc (a : Fin 8256) (k : Fin 1024) : A m c a k = ∑ n : Fin 5632, dup m c a.val n * WU m c (ix2 k n) := by
  unfold A
  rw [val_main_v79_apply]
  refine Finset.sum_congr rfl fun n _ => ?_
  have e1 : lidx_main_v79 (ix2 a k) n = ix2 a n := funext fun b => by match b with | ⟨0, _⟩ => rfl | ⟨1, _⟩ => rfl
  have e2 : ridx_main_v79 (ix2 a k) n = ix2 k n := funext fun b => by match b with | ⟨0, _⟩ => rfl | ⟨1, _⟩ => rfl
  rw [e1, e2, ref_dup]

/-- The reference's mean square of a row. -/
theorem ref_mean (a : Fin 8256) : val_main_v6 (F := Ideal) (H m c) (ix2 a (0 : Fin 1)) = meanSq (X m c a) := by
  rw [val_main_v6_apply, val_main_v4_apply, val_main_v2_apply, val_main_v1_apply, val_main_cst_apply, val_main_v3_apply, val_main_cst_0_apply, val_main_v5_apply, val_main_cst_1_apply]
  unfold meanSq
  refine congrArg₂ (· + ·) (congrArg₂ Ideal.div ?_ rfl) rfl
  refine (congrArg₂ (· + ·) zero_word rfl).trans ((zero_add (M := EReal) _).trans (Finset.sum_congr rfl fun k _ => ?_))
  have e : idx_main_v1 (idx_main_v2 (ix2 a (0 : Fin 1))) k = ix2 a k := funext fun b => by match b with | ⟨0, _⟩ => rfl | ⟨1, _⟩ => rfl
  rw [val_main_v0_apply, e]
  rfl

theorem ref_rstd (a : Fin 8256) : val_main_v7 (F := Ideal) (H m c) (ix2 a (0 : Fin 1)) = Ideal.rsqrt (meanSq (X m c a)) := by
  rw [val_main_v7_apply, ref_mean]
  rfl

/-- The gradient of the scaled row. -/
theorem ref_scaled (a : Fin 8256) (k : Fin 1024) : val_main_v84 (F := Ideal) (DU m c) (CW m c) (WU m c) (Gm m c) (ix2 a k) = (A m c a k : EReal) * G m c k := by
  rw [val_main_v84_apply, val_main_v83_apply, val_main_v13_apply]
  refine congrArg₂ (· * ·) rfl (congrArg _ (funext fun b => Fin.ext ?_))
  match b with
  | ⟨0, _⟩ => rfl

theorem ref_slope (a : Fin 8256) (k : Fin 1024) : val_main_v95 (F := Ideal) (DU m c) (CW m c) (WU m c) (H m c) (Gm m c) (ix2 a k) = meanGrad (X m c a) (G m c) (A m c a) := by
  have e : idx_main_v94 (idx_main_v95 (ix2 a k)) (0 : Fin 1) = ix2 a (0 : Fin 1) := funext fun b => by match b with | ⟨0, _⟩ => rfl | ⟨1, _⟩ => rfl
  rw [val_main_v95_apply, val_main_v94_apply, val_main_cst_22_apply, Fin.sum_univ_one, e, val_main_v93_apply, val_main_v91_apply, val_main_v88_apply, val_main_v87_apply, val_main_cst_20_apply,
    val_main_v10_apply, val_main_v9_apply, val_main_cst_2_apply, val_main_v8_apply, ref_mean, ref_rstd, val_main_v92_apply, val_main_cst_21_apply]
  refine (congrArg₂ (· + ·) zero_word rfl).trans ((zero_add (M := EReal) _).trans ?_)
  unfold meanGrad
  refine congrArg₂ Ideal.div (congrArg₂ (· * ·) ?_ rfl) rfl
  refine (congrArg₂ (· + ·) zero_word rfl).trans ((zero_add (M := EReal) _).trans (Finset.sum_congr rfl fun n _ => ?_))
  have e2 : idx_main_v87 (idx_main_v88 (ix2 a (0 : Fin 1))) n = ix2 a n := funext fun b => Fin.ext (by match b with | ⟨0, _⟩ => show a.val * 1 + 0 = a.val; omega | ⟨1, _⟩ => rfl)
  rw [e2, val_main_v86_apply, ref_scaled]
  rfl

/-- The gradient of a row. -/
theorem ref_row (a : Fin 8256) (k : Fin 1024) : val_main_v99 (F := Ideal) (DU m c) (CW m c) (WU m c) (H m c) (Gm m c) (ix2 a k) = rowGrad (X m c a) (G m c) (A m c a) k := by
  have e : idx_main_v89 (ix2 a k) = ix2 a (0 : Fin 1) := funext fun b => by match b with | ⟨0, _⟩ => rfl | ⟨1, _⟩ => rfl
  rw [val_main_v99_apply, val_main_v97_apply, val_main_v90_apply, val_main_v96_apply, val_main_v98_apply, val_main_v89_apply, e, ref_rstd, ref_scaled, ref_slope]
  rfl

/-- The gradient of the weights, as a sum over the rows. -/
theorem ref_weights (k : Fin 1024) : val_main_v108 (F := Ideal) (DU m c) (CW m c) (WU m c) (H m c) (ix2 (0 : Fin 1) k) = ∑ a : Fin 8256, weightGrad (X m c a) (A m c a) k := by
  have e : idx_main_v108 (ix2 (0 : Fin 1) k) = ix1 k := funext fun b => Fin.ext (by match b with | ⟨0, _⟩ => show 0 * 1024 + k.val = k.val; omega)
  have e2 : idx_main_v82 (idx_main_v85 (ix1 k) (0 : Fin 1)) = ix1 k := funext fun b => Fin.ext (by match b with | ⟨0, _⟩ => show 0 * 1024 + k.val = k.val; omega)
  rw [val_main_v108_apply, e, val_main_v85_apply, val_main_cst_19_apply, Fin.sum_univ_one, val_main_v82_apply, e2, val_main_v81_apply, val_main_cst_18_apply]
  refine (congrArg₂ (· + ·) zero_word rfl).trans ((zero_add (M := EReal) _).trans ?_)
  refine (congrArg₂ (· + ·) zero_word rfl).trans ((zero_add (M := EReal) _).trans (Finset.sum_congr rfl fun a _ => ?_))
  have e3 : idx_main_v81 (ix1 k) a = ix2 a k := funext fun b => by match b with | ⟨0, _⟩ => rfl | ⟨1, _⟩ => rfl
  have e4 : idx_main_v11 (ix2 a k) = ix2 a (0 : Fin 1) := funext fun b => by match b with | ⟨0, _⟩ => rfl | ⟨1, _⟩ => rfl
  rw [e3, val_main_v80_apply, val_main_v12_apply, val_main_v11_apply, e4, ref_rstd]
  rfl

end Cert.UpBwdIdeal.Hand

end
-- ==== Proof.UpBwdBlocks.lean ====
/- The blocks of the kernel of the gradient of the convolution and the first projection, and what one point computes of them, over the extended reals. -/
module

public import proofs.«01_k».proof.Proof.UpBwdRef
public import proofs.«01_k».proof.Proof.Gen.UpBwdIdeal.Value

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.ValueIdx Cert.Common
open Idealize.ShloMosaic.Pipeline (Dat)
open Cert.UpBwdRefIdeal.Read

variable (m : (ℓ : Loc nD τ sig) → Buf (Elt Ideal) ℓ) (c : Dev nD)

theorem N_eq : cfg0.N = 48 := N_0

/-- The block of channels and the row of a point. -/
abbrev pt (t : Fin cfg0.N) : Fin 4 := ⟨t.val % 4, Nat.mod_lt _ (by decide)⟩
abbrev row (t : Fin cfg0.N) (r : Fin 688) : Fin 8256 := ⟨688 * (t.val / 4) + r.val, by have := t.isLt; have := r.isLt; have := N_eq; omega⟩
/-- A row of the sixteen that follow a point's block. -/
abbrev next (t : Fin cfg0.N) (r : Fin 16) : Fin 8256 := ⟨16 * min ((t.val / 4 + 1) * 43) 515 + r.val, by have := r.isLt; omega⟩

/-- What the region finds: the gradient's halves in blocks of channels, -/
theorem V_lo (p : Fin 4) (a : Fin 8256) (f : Fin 704) :
    (V m c main_v19 : S4x8256x704.Idx → EReal) (ix3 p a f) = DU m c (ix2 a (chan (lo p) f)) := by
  have e : (V m c main_v19 : S4x8256x704.Idx → EReal) = extractStridedSlice S4x8256x704 ![0, 0, 0]
      (transpose S8x8256x704 [1, 0, 2] (shapeCast S8256x8x704 (DU m c : S8256x5632.Idx → EReal) shapeCasts_S8256x5632_S8256x8x704)
        transposes_S8256x8x704_S8x8256x704_1_0_2) slices_S8x8256x704_S4x8256x704_0_0_0 := by
    unfold V
    after_results_simp
    rfl
  rw [e]
  refine (extractStridedSlice_apply _ _ _ (ix3 p a f) (ix3 (lo p) a f) (fun b => ?_)).trans (blocks_apply (show 5632 = 8 * 704 from rfl) _ _ _ (lo p) a f)
  match b with
  | ⟨0, _⟩ => show _ = 0 + p.val; exact (Nat.zero_add _).symm
  | ⟨1, _⟩ => show a.val = 0 + a.val; omega
  | ⟨2, _⟩ => show f.val = 0 + f.val; omega

theorem V_hi (p : Fin 4) (a : Fin 8256) (f : Fin 704) :
    (V m c main_v20 : S4x8256x704.Idx → EReal) (ix3 p a f) = DU m c (ix2 a (chan (hi p) f)) := by
  have e : (V m c main_v20 : S4x8256x704.Idx → EReal) = extractStridedSlice S4x8256x704 ![4, 0, 0]
      (transpose S8x8256x704 [1, 0, 2] (shapeCast S8256x8x704 (DU m c : S8256x5632.Idx → EReal) shapeCasts_S8256x5632_S8256x8x704)
        transposes_S8256x8x704_S8x8256x704_1_0_2) slices_S8x8256x704_S4x8256x704_4_0_0 := by
    unfold V
    after_results_simp
    rfl
  rw [e]
  refine (extractStridedSlice_apply _ _ _ (ix3 p a f) (ix3 (hi p) a f) (fun b => ?_)).trans (blocks_apply (show 5632 = 8 * 704 from rfl) _ _ _ (hi p) a f)
  match b with
  | ⟨0, _⟩ => show _ = 4 + p.val; rfl
  | ⟨1, _⟩ => show a.val = 0 + a.val; omega
  | ⟨2, _⟩ => show f.val = 0 + f.val; omega

/-- the projection's result, -/
theorem V_up (q : Fin 8) (a : Fin 8256) (f : Fin 704) :
    (V m c main_v18 : S8x8256x704.Idx → EReal) (ix3 q a f) = val_main_v16 (F := Ideal) (WU m c) (H m c) (Gm m c) (ix2 a (chan q f)) := by
  have e : (V m c main_v18 : S8x8256x704.Idx → EReal) = (transpose S8x8256x704 [1, 0, 2] (shapeCast S8256x8x704 (val_main_v16 (F := Ideal) (WU m c) (H m c) (Gm m c) : S8256x5632.Idx → EReal) shapeCasts_S8256x5632_S8256x8x704)
        transposes_S8256x8x704_S8x8256x704_1_0_2) := by
    unfold V
    after_results_simp
    rfl
  rw [e]
  exact blocks_apply (show 5632 = 8 * 704 from rfl) _ _ _ q a f

/-- the filter, -/
theorem V_cw (q : Fin 8) (a : Fin 3) (f : Fin 704) :
    (V m c main_v22 : S8x3x704.Idx → EReal) (ix3 q a f) = CW m c (ix2 a (chan q f)) := by
  have e : (V m c main_v22 : S8x3x704.Idx → EReal) = (transpose S8x3x704 [1, 0, 2] (shapeCast S3x8x704 (CW m c : S3x5632.Idx → EReal) shapeCasts_S3x5632_S3x8x704)
        transposes_S3x8x704_S8x3x704_1_0_2) := by
    unfold V
    after_results_simp
    rfl
  rw [e]
  exact blocks_apply (show 5632 = 8 * 704 from rfl) _ _ _ q a f

/-- the matrix, -/
theorem V_wu (q : Fin 8) (a : Fin 1024) (f : Fin 704) :
    (V m c main_v25 : S8x1024x704.Idx → EReal) (ix3 q a f) = WU m c (ix2 a (chan q f)) := by
  have e : (V m c main_v25 : S8x1024x704.Idx → EReal) = (transpose S8x1024x704 [1, 0, 2] (shapeCast S1024x8x704 (WU m c : S1024x5632.Idx → EReal) shapeCasts_S1024x5632_S1024x8x704)
        transposes_S1024x8x704_S8x1024x704_1_0_2) := by
    unfold V
    after_results_simp
    rfl
  rw [e]
  exact blocks_apply (show 5632 = 8 * 704 from rfl) _ _ _ q a f

/-- and the weights as a row. -/
theorem V_g : (V m c main_v26 : S1x1024.Idx → EReal) = shapeCast S1x1024 (Gm m c : S1024.Idx → EReal) shapeCasts_S1024_S1x1024 := by
  unfold V
  after_results_simp
  rfl

theorem idx_0 : ∀ t : Fin cfg0.N, win0_0.index t (0 : Fin 3) = t.val % 4 ∧ win0_0.index t (1 : Fin 3) = t.val / 4 ∧ win0_0.index t (2 : Fin 3) = 0 :=
  (by decide +kernel : ∀ t : Fin grid0.N, _)

theorem idx_2 : ∀ t : Fin cfg0.N, win0_2.index t (0 : Fin 3) = t.val % 4 ∧ win0_2.index t (1 : Fin 3) = t.val / 4 ∧ win0_2.index t (2 : Fin 3) = 0 :=
  (by decide +kernel : ∀ t : Fin grid0.N, _)

theorem idx_1 : ∀ t : Fin cfg0.N, win0_1.index t (0 : Fin 3) = t.val % 4 ∧ win0_1.index t (1 : Fin 3) = min ((t.val / 4 + 1) * 43) 515 ∧ win0_1.index t (2 : Fin 3) = 0 :=
  (by decide +kernel : ∀ t : Fin grid0.N, _)

theorem idx_3 : ∀ t : Fin cfg0.N, win0_3.index t (0 : Fin 3) = t.val % 4 ∧ win0_3.index t (1 : Fin 3) = min ((t.val / 4 + 1) * 43) 515 ∧ win0_3.index t (2 : Fin 3) = 0 :=
  (by decide +kernel : ∀ t : Fin grid0.N, _)

theorem idx_4 : ∀ t : Fin cfg0.N, win0_4.index t (0 : Fin 3) = t.val % 4 ∧ win0_4.index t (1 : Fin 3) = t.val / 4 ∧ win0_4.index t (2 : Fin 3) = 0 :=
  (by decide +kernel : ∀ t : Fin grid0.N, _)

theorem idx_5 : ∀ t : Fin cfg0.N, win0_5.index t (0 : Fin 3) = t.val % 4 + 4 ∧ win0_5.index t (1 : Fin 3) = t.val / 4 ∧ win0_5.index t (2 : Fin 3) = 0 :=
  (by decide +kernel : ∀ t : Fin grid0.N, _)

theorem idx_6 : ∀ t : Fin cfg0.N, win0_6.index t (0 : Fin 3) = t.val % 4 ∧ win0_6.index t (1 : Fin 3) = 0 ∧ win0_6.index t (2 : Fin 3) = 0 :=
  (by decide +kernel : ∀ t : Fin grid0.N, _)

theorem idx_7 : ∀ t : Fin cfg0.N, win0_7.index t (0 : Fin 3) = t.val % 4 + 4 ∧ win0_7.index t (1 : Fin 3) = 0 ∧ win0_7.index t (2 : Fin 3) = 0 :=
  (by decide +kernel : ∀ t : Fin grid0.N, _)

theorem idx_8 : ∀ t : Fin cfg0.N, win0_8.index t (0 : Fin 3) = t.val % 4 ∧ win0_8.index t (1 : Fin 3) = 0 ∧ win0_8.index t (2 : Fin 3) = 0 :=
  (by decide +kernel : ∀ t : Fin grid0.N, _)

theorem idx_9 : ∀ t : Fin cfg0.N, win0_9.index t (0 : Fin 3) = t.val % 4 + 4 ∧ win0_9.index t (1 : Fin 3) = 0 ∧ win0_9.index t (2 : Fin 3) = 0 :=
  (by decide +kernel : ∀ t : Fin grid0.N, _)

theorem idx_10 : ∀ t : Fin cfg0.N, win0_10.index t (0 : Fin 2) = t.val / 4 ∧ win0_10.index t (1 : Fin 2) = 0 :=
  (by decide +kernel : ∀ t : Fin grid0.N, _)

theorem idx_11 : ∀ t : Fin cfg0.N, win0_11.index t (0 : Fin 2) = 0 ∧ win0_11.index t (1 : Fin 2) = 0 :=
  (by decide +kernel : ∀ t : Fin grid0.N, _)

theorem idx_12 : ∀ t : Fin cfg0.N, win0_12.index t (0 : Fin 2) = t.val / 4 ∧ win0_12.index t (1 : Fin 2) = 0 :=
  (by decide +kernel : ∀ t : Fin grid0.N, _)

theorem idx_13 : ∀ t : Fin cfg0.N, win0_13.index t (0 : Fin 3) = t.val % 4 ∧ win0_13.index t (1 : Fin 3) = t.val / 4 ∧ win0_13.index t (2 : Fin 3) = 0 :=
  (by decide +kernel : ∀ t : Fin grid0.N, _)

theorem idx_14 : ∀ t : Fin cfg0.N, win0_14.index t (0 : Fin 3) = t.val % 4 ∧ win0_14.index t (1 : Fin 3) = t.val / 4 ∧ win0_14.index t (2 : Fin 3) = 0 :=
  (by decide +kernel : ∀ t : Fin grid0.N, _)

theorem idx_15 : ∀ t : Fin cfg0.N, win0_15.index t (0 : Fin 2) = t.val / 4 ∧ win0_15.index t (1 : Fin 2) = 0 :=
  (by decide +kernel : ∀ t : Fin grid0.N, _)

theorem idx_16 : ∀ t : Fin cfg0.N, win0_16.index t (0 : Fin 2) = 0 ∧ win0_16.index t (1 : Fin 2) = 0 :=
  (by decide +kernel : ∀ t : Fin grid0.N, _)

theorem idx_17 : ∀ t : Fin cfg0.N, win0_17.index t (0 : Fin 3) = 0 ∧ win0_17.index t (1 : Fin 3) = 0 ∧ win0_17.index t (2 : Fin 3) = 0 :=
  (by decide +kernel : ∀ t : Fin grid0.N, _)

theorem idx_18 : ∀ t : Fin cfg0.N, win0_18.index t (0 : Fin 3) = 0 ∧ win0_18.index t (1 : Fin 3) = 0 ∧ win0_18.index t (2 : Fin 3) = 0 :=
  (by decide +kernel : ∀ t : Fin grid0.N, _)

/-- The blocks of a point: the gradient, its next rows, the projection's result, the filter and the matrix. -/
theorem blk_du_lo (t : Fin cfg0.N) (r : Fin 688) (f : Fin 704) :
    (iblk m c 0 t : Vec Ideal S1x688x704 .bf16) (ix3 (0 : Fin 1) r f) = du m c (688 * (t.val / 4) + r.val) (chan (lo (pt t)) f) := by
  obtain ⟨h0, h1, h2⟩ := idx_0 t
  unfold iblk
  rw [View.read_apply]
  show (V m c main_v19 : S4x8256x704.Idx → EReal) _ = _
  refine Eq.trans (congrArg _ (funext fun a => Fin.ext ?_)) ((V_lo m c (pt t) (row t r) f).trans (du_of m c (row t r) _).symm)
  match a with
  | ⟨0, _⟩ => show win0_0.index t 0 * 1 + 1 * 0 = t.val % 4; omega
  | ⟨1, _⟩ => show win0_0.index t 1 * 688 + 1 * r.val = 688 * (t.val / 4) + r.val; omega
  | ⟨2, _⟩ => show win0_0.index t 2 * 704 + 1 * f.val = f.val; omega

theorem blk_next_lo (t : Fin cfg0.N) (r : Fin 16) (f : Fin 704) :
    (iblk m c 1 t : Vec Ideal S1x16x704 .bf16) (ix3 (0 : Fin 1) r f) = du m c (16 * min ((t.val / 4 + 1) * 43) 515 + r.val) (chan (lo (pt t)) f) := by
  obtain ⟨h0, h1, h2⟩ := idx_1 t
  unfold iblk
  rw [View.read_apply]
  show (V m c main_v19 : S4x8256x704.Idx → EReal) _ = _
  refine Eq.trans (congrArg _ (funext fun a => Fin.ext ?_)) ((V_lo m c (pt t) (next t r) f).trans (du_of m c (next t r) _).symm)
  match a with
  | ⟨0, _⟩ => show win0_1.index t 0 * 1 + 1 * 0 = t.val % 4; omega
  | ⟨1, _⟩ => show win0_1.index t 1 * 16 + 1 * r.val = 16 * min ((t.val / 4 + 1) * 43) 515 + r.val; omega
  | ⟨2, _⟩ => show win0_1.index t 2 * 704 + 1 * f.val = f.val; omega

theorem blk_up_lo (t : Fin cfg0.N) (r : Fin 688) (f : Fin 704) :
    (iblk m c 4 t : Vec Ideal S1x688x704 .bf16) (ix3 (0 : Fin 1) r f) = up m c (688 * (t.val / 4) + r.val) (chan (lo (pt t)) f) := by
  obtain ⟨h0, h1, h2⟩ := idx_4 t
  unfold iblk
  rw [View.read_apply]
  show (V m c main_v18 : S8x8256x704.Idx → EReal) _ = _
  refine Eq.trans (congrArg _ (funext fun a => Fin.ext ?_)) ((V_up m c (lo (pt t)) (row t r) f).trans (up_of m c (row t r) _).symm)
  match a with
  | ⟨0, _⟩ => show win0_4.index t 0 * 1 + 1 * 0 = t.val % 4; omega
  | ⟨1, _⟩ => show win0_4.index t 1 * 688 + 1 * r.val = 688 * (t.val / 4) + r.val; omega
  | ⟨2, _⟩ => show win0_4.index t 2 * 704 + 1 * f.val = f.val; omega

theorem blk_cw_lo (t : Fin cfg0.N) (k : Fin 3) (f : Fin 704) :
    (iblk m c 6 t : Vec Ideal S1x3x704 .f32) (ix3 (0 : Fin 1) k f) = CW m c (ix2 k (chan (lo (pt t)) f)) := by
  obtain ⟨h0, h1, h2⟩ := idx_6 t
  unfold iblk
  rw [View.read_apply]
  show (V m c main_v22 : S8x3x704.Idx → EReal) _ = _
  refine Eq.trans (congrArg _ (funext fun a => Fin.ext ?_)) (V_cw m c (lo (pt t)) k f)
  match a with
  | ⟨0, _⟩ => show win0_6.index t 0 * 1 + 1 * 0 = t.val % 4; omega
  | ⟨1, _⟩ => show win0_6.index t 1 * 3 + 1 * k.val = k.val; omega
  | ⟨2, _⟩ => show win0_6.index t 2 * 704 + 1 * f.val = f.val; omega

theorem blk_wu_lo (t : Fin cfg0.N) (k : Fin 1024) (f : Fin 704) :
    (iblk m c 8 t : Vec Ideal S1x1024x704 .bf16) (ix3 (0 : Fin 1) k f) = WU m c (ix2 k (chan (lo (pt t)) f)) := by
  obtain ⟨h0, h1, h2⟩ := idx_8 t
  unfold iblk
  rw [View.read_apply]
  show (V m c main_v25 : S8x1024x704.Idx → EReal) _ = _
  refine Eq.trans (congrArg _ (funext fun a => Fin.ext ?_)) (V_wu m c (lo (pt t)) k f)
  match a with
  | ⟨0, _⟩ => show win0_8.index t 0 * 1 + 1 * 0 = t.val % 4; omega
  | ⟨1, _⟩ => show win0_8.index t 1 * 1024 + 1 * k.val = k.val; omega
  | ⟨2, _⟩ => show win0_8.index t 2 * 704 + 1 * f.val = f.val; omega

/-- The blocks of a point: the gradient, its next rows, the projection's result, the filter and the matrix. -/
theorem blk_du_hi (t : Fin cfg0.N) (r : Fin 688) (f : Fin 704) :
    (iblk m c 2 t : Vec Ideal S1x688x704 .bf16) (ix3 (0 : Fin 1) r f) = du m c (688 * (t.val / 4) + r.val) (chan (hi (pt t)) f) := by
  obtain ⟨h0, h1, h2⟩ := idx_2 t
  unfold iblk
  rw [View.read_apply]
  show (V m c main_v20 : S4x8256x704.Idx → EReal) _ = _
  refine Eq.trans (congrArg _ (funext fun a => Fin.ext ?_)) ((V_hi m c (pt t) (row t r) f).trans (du_of m c (row t r) _).symm)
  match a with
  | ⟨0, _⟩ => show win0_2.index t 0 * 1 + 1 * 0 = t.val % 4; omega
  | ⟨1, _⟩ => show win0_2.index t 1 * 688 + 1 * r.val = 688 * (t.val / 4) + r.val; omega
  | ⟨2, _⟩ => show win0_2.index t 2 * 704 + 1 * f.val = f.val; omega

theorem blk_next_hi (t : Fin cfg0.N) (r : Fin 16) (f : Fin 704) :
    (iblk m c 3 t : Vec Ideal S1x16x704 .bf16) (ix3 (0 : Fin 1) r f) = du m c (16 * min ((t.val / 4 + 1) * 43) 515 + r.val) (chan (hi (pt t)) f) := by
  obtain ⟨h0, h1, h2⟩ := idx_3 t
  unfold iblk
  rw [View.read_apply]
  show (V m c main_v20 : S4x8256x704.Idx → EReal) _ = _
  refine Eq.trans (congrArg _ (funext fun a => Fin.ext ?_)) ((V_hi m c (pt t) (next t r) f).trans (du_of m c (next t r) _).symm)
  match a with
  | ⟨0, _⟩ => show win0_3.index t 0 * 1 + 1 * 0 = t.val % 4; omega
  | ⟨1, _⟩ => show win0_3.index t 1 * 16 + 1 * r.val = 16 * min ((t.val / 4 + 1) * 43) 515 + r.val; omega
  | ⟨2, _⟩ => show win0_3.index t 2 * 704 + 1 * f.val = f.val; omega

theorem blk_up_hi (t : Fin cfg0.N) (r : Fin 688) (f : Fin 704) :
    (iblk m c 5 t : Vec Ideal S1x688x704 .bf16) (ix3 (0 : Fin 1) r f) = up m c (688 * (t.val / 4) + r.val) (chan (hi (pt t)) f) := by
  obtain ⟨h0, h1, h2⟩ := idx_5 t
  unfold iblk
  rw [View.read_apply]
  show (V m c main_v18 : S8x8256x704.Idx → EReal) _ = _
  refine Eq.trans (congrArg _ (funext fun a => Fin.ext ?_)) ((V_up m c (hi (pt t)) (row t r) f).trans (up_of m c (row t r) _).symm)
  match a with
  | ⟨0, _⟩ => show win0_5.index t 0 * 1 + 1 * 0 = 4 + t.val % 4; omega
  | ⟨1, _⟩ => show win0_5.index t 1 * 688 + 1 * r.val = 688 * (t.val / 4) + r.val; omega
  | ⟨2, _⟩ => show win0_5.index t 2 * 704 + 1 * f.val = f.val; omega

theorem blk_cw_hi (t : Fin cfg0.N) (k : Fin 3) (f : Fin 704) :
    (iblk m c 7 t : Vec Ideal S1x3x704 .f32) (ix3 (0 : Fin 1) k f) = CW m c (ix2 k (chan (hi (pt t)) f)) := by
  obtain ⟨h0, h1, h2⟩ := idx_7 t
  unfold iblk
  rw [View.read_apply]
  show (V m c main_v22 : S8x3x704.Idx → EReal) _ = _
  refine Eq.trans (congrArg _ (funext fun a => Fin.ext ?_)) (V_cw m c (hi (pt t)) k f)
  match a with
  | ⟨0, _⟩ => show win0_7.index t 0 * 1 + 1 * 0 = 4 + t.val % 4; omega
  | ⟨1, _⟩ => show win0_7.index t 1 * 3 + 1 * k.val = k.val; omega
  | ⟨2, _⟩ => show win0_7.index t 2 * 704 + 1 * f.val = f.val; omega

theorem blk_wu_hi (t : Fin cfg0.N) (k : Fin 1024) (f : Fin 704) :
    (iblk m c 9 t : Vec Ideal S1x1024x704 .bf16) (ix3 (0 : Fin 1) k f) = WU m c (ix2 k (chan (hi (pt t)) f)) := by
  obtain ⟨h0, h1, h2⟩ := idx_9 t
  unfold iblk
  rw [View.read_apply]
  show (V m c main_v25 : S8x1024x704.Idx → EReal) _ = _
  refine Eq.trans (congrArg _ (funext fun a => Fin.ext ?_)) (V_wu m c (hi (pt t)) k f)
  match a with
  | ⟨0, _⟩ => show win0_9.index t 0 * 1 + 1 * 0 = 4 + t.val % 4; omega
  | ⟨1, _⟩ => show win0_9.index t 1 * 1024 + 1 * k.val = k.val; omega
  | ⟨2, _⟩ => show win0_9.index t 2 * 704 + 1 * f.val = f.val; omega

/-- A block of the rows. -/
theorem blk_h (t : Fin cfg0.N) (r : Fin 688) (k : Fin 1024) :
    (iblk m c 10 t : Vec Ideal S688x1024 .f32) (ix2 r k) = H m c (ix2 (row t r) k) := by
  obtain ⟨h0, h1⟩ := idx_10 t
  unfold iblk
  rw [View.read_apply]
  show (V m c main_arg3 : S8256x1024.Idx → EReal) _ = _
  rw [V_main_arg3]
  congr 1
  funext a
  apply Fin.ext
  match a with
  | ⟨0, _⟩ => show win0_10.index t 0 * 688 + 1 * r.val = 688 * (t.val / 4) + r.val; omega
  | ⟨1, _⟩ => show win0_10.index t 1 * 1024 + 1 * k.val = k.val; omega

/-- The weights. -/
theorem blk_g (t : Fin cfg0.N) (k : Fin 1024) :
    (iblk m c 11 t : Vec Ideal S1x1024 .f32) (ix2 (0 : Fin 1) k) = Gm m c (ix1 k) := by
  obtain ⟨h0, h1⟩ := idx_11 t
  unfold iblk
  rw [View.read_apply]
  show (V m c main_v26 : S1x1024.Idx → EReal) _ = _
  rw [V_g]
  refine Eq.trans (congrArg _ (funext fun a => Fin.ext ?_)) (as_row (Gm m c : S1024.Idx → EReal) _ k)
  match a with
  | ⟨0, _⟩ => show win0_11.index t 0 * 1 + 1 * 0 = 0; rw [h0]
  | ⟨1, _⟩ => show win0_11.index t 1 * 1024 + 1 * k.val = k.val; omega

/-- A block of the gradient of the residual. -/
theorem blk_dh (t : Fin cfg0.N) (r : Fin 688) (k : Fin 1024) :
    (iblk m c 12 t : Vec Ideal S688x1024 .f32) (ix2 r k) = DH m c (ix2 (row t r) k) := by
  obtain ⟨h0, h1⟩ := idx_12 t
  unfold iblk
  rw [View.read_apply]
  show (V m c main_arg5 : S8256x1024.Idx → EReal) _ = _
  rw [V_main_arg5]
  congr 1
  funext a
  apply Fin.ext
  match a with
  | ⟨0, _⟩ => show win0_12.index t 0 * 688 + 1 * r.val = 688 * (t.val / 4) + r.val; omega
  | ⟨1, _⟩ => show win0_12.index t 1 * 1024 + 1 * k.val = k.val; omega

/-- A point's place in the grid. -/
theorem edge_at : ∀ t : Fin cfg0.N, edge (grid0.coords t) = if t.val / 4 % 3 = 2 then 1#1 else 0#1 :=
  (by decide +kernel : ∀ t : Fin grid0.N, _)

theorem coord_at : ∀ t : Fin cfg0.N, ((grid0.coords t) 1).val = t.val % 4 :=
  (by decide +kernel : ∀ t : Fin grid0.N, _)

theorem pay11_eq (i : grid0.Coords) (x : Vec Ideal S1x16x704 .bf16) : k0_pay11 i x = k0_pay16 (edge i) x := rfl
theorem pay15_eq (x : Vec Ideal S1x688x704 .bf16) : k0_pay15 x = k0_pay10 x := rfl
theorem pay17_eq (a b d : Vec Ideal S688x704 .f32) (w : Vec Ideal S1x3x704 .f32) : k0_pay17 a b d w = k0_pay12 a b d w := rfl
theorem pay18_eq (a b d : Vec Ideal S688x704 .f32) (w : Vec Ideal S1x3x704 .f32) : k0_pay18 a b d w = k0_pay13 a b d w := rfl
theorem pay19_eq (a b d : Vec Ideal S688x704 .f32) (u : Vec Ideal S1x688x704 .bf16) (w : Vec Ideal S1x3x704 .f32) : k0_pay19 a b d u w = k0_pay14 a b d u w := rfl

/-- A block's rows as floats; -/
theorem pay10_at (x : Vec Ideal S1x688x704 .bf16) (r : Fin 688) (f : Fin 704) : (k0_pay10 x : S688x704.Idx → EReal) (ix2 r f) = x (ix3 (0 : Fin 1) r f) := by
  unfold k0_pay10
  rw [shapeCast_self]
  exact drop_unit _ _ r f

/-- the next rows, zero past the end of a sequence. -/
theorem pay16_at (e : BitVec 1) (x : Vec Ideal S1x16x704 .bf16) (r : Fin 16) (f : Fin 704) :
    (k0_pay16 e x : S16x704.Idx → EReal) (ix2 r f) = if e = 1 then 0 else x (ix3 (0 : Fin 1) r f) := by
  unfold k0_pay16
  rw [shapeCast_self]
  unfold Scalar.select
  by_cases h : e = 1
  · rw [if_pos h, if_pos h]
    exact zero_word
  · rw [if_neg h, if_neg h]
    exact drop_unit _ _ r f

/-- The staged rows read `s` rows further down are the gradient `s` rows on within the sequence. -/
theorem tap_shift (n : Fin 704 → Fin 5632) (t : Fin cfg0.N) (s : ℕ) (hs : s ≤ 2) (x : Vec Ideal S1x688x704 .bf16) (y : Vec Ideal S1x16x704 .bf16)
    (hx : ∀ r f, x (ix3 (0 : Fin 1) r f) = du m c (688 * (t.val / 4) + r.val) (n f))
    (hy : ∀ r f, y (ix3 (0 : Fin 1) r f) = du m c (16 * min ((t.val / 4 + 1) * 43) 515 + r.val) (n f)) (r : Fin 688) (f : Fin 704) :
    (tap (F := Ideal) s (k0_pay10 x) (k0_pay16 (edge (grid0.coords t)) y) : S688x704.Idx → EReal) (ix2 r f) = shift m c s (688 * (t.val / 4) + r.val) (n f) := by
  have hN := N_eq
  have ht := t.isLt
  have hr := r.isLt
  obtain ⟨u, hu⟩ : ∃ u, t.val / 4 = u := ⟨_, rfl⟩
  have hu12 : u < 12 := by omega
  rw [hu] at hx hy ⊢
  unfold tap shift
  by_cases h : r.val + s < 688
  · refine (dif_pos (show (ix2 r f (0 : Fin 2)).val + s < 688 from h)).trans ((pay10_at _ _ _).trans ((hx _ _).trans ?_))
    rw [if_pos (show (688 * u + r.val) % 2064 + s < 2064 by omega)]
    exact congrArg (fun q => du m c q (n f)) (Nat.add_assoc _ _ _).symm
  · refine (dif_neg (show ¬(ix2 r f (0 : Fin 2)).val + s < 688 from h)).trans ((dif_pos (show (ix2 r f (0 : Fin 2)).val + s - 688 < 16 by show r.val + s - 688 < 16; omega)).trans ?_)
    refine (pay16_at _ _ _ _).trans ?_
    rw [edge_at, hu]
    by_cases hz : u % 3 = 2
    · rw [if_pos hz]
      exact (if_pos rfl).trans (if_neg (show ¬(688 * u + r.val) % 2064 + s < 2064 by omega)).symm
    · rw [if_neg hz]
      refine (if_neg (by decide)).trans (Eq.trans ?_ (if_pos (show (688 * u + r.val) % 2064 + s < 2064 by omega)).symm)
      refine (hy _ _).trans (congrArg (fun q => du m c q (n f)) ?_)
      show 16 * min ((u + 1) * 43) 515 + (r.val + s - 688) = 688 * u + r.val + s
      omega

/-- A row of the filter repeated down the block. -/
theorem tap_row (v : FVec Ideal S1x704 .f32) (r : Fin 688) (f : Fin 704) :
    (broadcastTo S688x704 v broadcasts_S1x704_S688x704 : S688x704.Idx → EReal) (ix2 r f) = v (ix2 (0 : Fin 1) f) :=
  broadcastTo_apply v _ _ _ (fun d => by match d with | ⟨0, _⟩ => rfl | ⟨1, _⟩ => rfl)

/-- The three taps' sum at an index. -/
theorem pay12_at (a b d : Vec Ideal S688x704 .f32) (w : Vec Ideal S1x3x704 .f32) (r : Fin 688) (f : Fin 704) :
    (k0_pay12 a b d w : S688x704.Idx → EReal) (ix2 r f) = (w (ix3 (0 : Fin 1) (2 : Fin 3) f) * a (ix2 r f) + w (ix3 (0 : Fin 1) (1 : Fin 3) f) * b (ix2 r f)) + w (ix3 (0 : Fin 1) (0 : Fin 3) f) * d (ix2 r f) := by
  unfold k0_pay12
  refine congrArg₂ (· + ·) (congrArg₂ (· + ·) (congrArg₂ (· * ·) ?_ rfl) (congrArg₂ (· * ·) ?_ rfl)) (congrArg₂ (· * ·) ?_ rfl)
  · refine (tap_row _ r f).trans ((extractStridedSlice_apply _ _ _ _ (ix2 (2 : Fin 3) f) (fun b => ?_)).trans (drop_unit _ _ (2 : Fin 3) f))
    match b with
    | ⟨0, _⟩ => rfl
    | ⟨1, _⟩ => show f.val = 0 + f.val; omega
  · refine (tap_row _ r f).trans ((extractStridedSlice_apply _ _ _ _ (ix2 (1 : Fin 3) f) (fun b => ?_)).trans (drop_unit _ _ (1 : Fin 3) f))
    match b with
    | ⟨0, _⟩ => rfl
    | ⟨1, _⟩ => show f.val = 0 + f.val; omega
  · refine (tap_row _ r f).trans ((extractStridedSlice_apply _ _ _ _ (ix2 (0 : Fin 3) f) (fun b => ?_)).trans (drop_unit _ _ (0 : Fin 3) f))
    match b with
    | ⟨0, _⟩ => rfl
    | ⟨1, _⟩ => show f.val = 0 + f.val; omega

/-- A column's sum over the rows of a product, as a row. -/
theorem tap_sum (u : FVec Ideal S688x704 .f32) (v : Vec Ideal S688x704 .f32) (f : Fin 704) :
    (shapeCast S1x704 (multiReduction (F := Ideal) .add [0] S704 (mulf u v) 0x00000000#32 reduces_S688x704_S704 (.inl rfl) rfl) shapeCasts_S704_S1x704 : S1x704.Idx → EReal) (ix2 (0 : Fin 1) f)
      = ∑ r : Fin 688, (u (ix2 r f) : EReal) * v (ix2 r f) :=
  (as_row _ _ f).trans (col_sum _ _ _ _ _ f)

/-- Three rows, one after the other. -/
theorem rows_at (T : ℕ → FVec Ideal S1x704 .f32) (h : Shape.Concatenates [S1x704, S1x704, S1x704] S3x704 (0 : Fin 2)) (k : Fin 3) (f : Fin 704) :
    (concatenate S3x704 (0 : Fin 2) [⟨S1x704, T 2⟩, ⟨S1x704, T 1⟩, ⟨S1x704, T 0⟩] h : S3x704.Idx → EReal) (ix2 k f) = T (2 - k.val) (ix2 (0 : Fin 1) f) := by
  match k with
  | ⟨0, _⟩ =>
    refine concatenate_apply_piece (t := S3x704) (0 : Fin 2) ([⟨S1x704, T 2⟩, ⟨S1x704, T 1⟩, ⟨S1x704, T 0⟩] : List ((s : Shape) × (s.Idx → EReal))) h (ix2 (⟨0, by decide⟩ : Fin 3) f) 0 (show 0 < 3 by decide) S1x704 (T 2) rfl rfl 0 rfl (ix2 (0 : Fin 1) f) (fun b hb => ?_) rfl
    match b with
    | ⟨0, _⟩ => exact absurd rfl hb
    | ⟨1, _⟩ => rfl
  | ⟨1, _⟩ =>
    refine concatenate_apply_piece (t := S3x704) (0 : Fin 2) ([⟨S1x704, T 2⟩, ⟨S1x704, T 1⟩, ⟨S1x704, T 0⟩] : List ((s : Shape) × (s.Idx → EReal))) h (ix2 (⟨1, by decide⟩ : Fin 3) f) 1 (show 1 < 3 by decide) S1x704 (T 1) rfl rfl 1 rfl (ix2 (0 : Fin 1) f) (fun b hb => ?_) rfl
    match b with
    | ⟨0, _⟩ => exact absurd rfl hb
    | ⟨1, _⟩ => rfl
  | ⟨2, _⟩ =>
    refine concatenate_apply_piece (t := S3x704) (0 : Fin 2) ([⟨S1x704, T 2⟩, ⟨S1x704, T 1⟩, ⟨S1x704, T 0⟩] : List ((s : Shape) × (s.Idx → EReal))) h (ix2 (⟨2, by decide⟩ : Fin 3) f) 2 (show 2 < 3 by decide) S1x704 (T 0) rfl rfl 2 rfl (ix2 (0 : Fin 1) f) (fun b hb => ?_) rfl
    match b with
    | ⟨0, _⟩ => exact absurd rfl hb
    | ⟨1, _⟩ => rfl

/-- A point's terms of the filter's gradient, added to what there was. -/
theorem pay14_at (T : ℕ → Vec Ideal S688x704 .f32) (u : Vec Ideal S1x688x704 .bf16) (w : Vec Ideal S1x3x704 .f32) (k : Fin 3) (f : Fin 704) :
    (k0_pay14 (T 0) (T 1) (T 2) u w : S1x3x704.Idx → EReal) (ix3 (0 : Fin 1) k f)
      = w (ix3 (0 : Fin 1) k f) + ∑ r : Fin 688, (u (ix3 (0 : Fin 1) r f) : EReal) * T (2 - k.val) (ix2 r f) := by
  unfold k0_pay14
  refine (add_unit _ _ k f).trans (congrArg₂ (· + ·) (drop_unit _ _ k f) ?_)
  have hu : ∀ r : Fin 688, (extf .f32 (shapeCast S688x704 u shapeCasts_S1x688x704_S688x704 : FVec Ideal S688x704 .bf16) bitsLt_bf16_f32 : FVec Ideal S688x704 .f32) (ix2 r f) = u (ix3 (0 : Fin 1) r f) := fun r =>
    drop_unit u _ r f
  refine (rows_at (fun s => shapeCast S1x704 (multiReduction (F := Ideal) .add [0] S704 (mulf (extf .f32 (shapeCast S688x704 u shapeCasts_S1x688x704_S688x704 : FVec Ideal S688x704 .bf16) bitsLt_bf16_f32 : FVec Ideal S688x704 .f32) (T s)) 0x00000000#32 reduces_S688x704_S704 (.inl rfl) rfl) shapeCasts_S704_S1x704) _ k f).trans ?_
  exact (tap_sum _ _ f).trans (Finset.sum_congr rfl fun r _ => congrArg₂ (· * ·) (hu r) rfl)

/-- Putting a block's terms into the filter's gradient. -/
theorem put_at (j : Fin 4) (X : Vec Ideal S4x3x704 .f32) (T : ℕ → Vec Ideal S688x704 .f32) (u : Vec Ideal S1x688x704 .bf16) (p : Fin 4) (k : Fin 3) (f : Fin 704) :
    (put j X (k0_pay14 (T 0) (T 1) (T 2) u (rowOf j X)) : S4x3x704.Idx → EReal) (ix3 p k f)
      = X (ix3 p k f) + if p.val = j.val then ∑ r : Fin 688, (u (ix3 (0 : Fin 1) r f) : EReal) * T (2 - k.val) (ix2 r f) else 0 := by
  unfold put
  by_cases h : p.val = j.val
  · refine (if_pos h).trans ((pay14_at T u _ k f).trans (congrArg₂ (· + ·) ?_ (if_pos h).symm))
    have e : p = j := Fin.ext h
    subst e
    rfl
  · refine (if_neg h).trans ?_
    rw [if_neg h]
    exact (add_zero (M := EReal) _).symm

/-- A buffer to which every fourth point adds its rows' terms. -/
theorem every_fourth {N : ℕ} (hN : N = 48) (g : Fin 8256 → EReal) (p : ℕ) (hp : p < 4) (O : ∀ t, t < N → EReal)
    (h0 : ∀ h : 0 < N, O 0 h = 0 + if p = 0 % 4 then ∑ r : Fin 688, ext g (688 * (0 / 4) + r.val) else 0)
    (hs : ∀ t (ht : t + 1 < N), O (t + 1) ht = O t (Nat.lt_of_succ_lt ht) + if p = (t + 1) % 4 then ∑ r : Fin 688, ext g (688 * ((t + 1) / 4) + r.val) else 0) :
    ∀ t (ht : t < N), O t ht = ∑ a ∈ Finset.range (688 * ((t + 4 - p) / 4)), ext g a
  | 0, ht => by
    rw [h0 ht]
    by_cases h : p = 0
    · subst h
      rw [if_pos rfl, show (0 + 4 - 0) / 4 = 0 + 1 from rfl, Nat.mul_succ, Finset.sum_range_add, Finset.sum_range (n := 688)]
      exact congrArg₂ (· + ·) (by simp) rfl
    · rw [if_neg (by omega), show (0 + 4 - p) / 4 = 0 by omega]
      simp
  | t + 1, ht => by
    rw [hs t ht, every_fourth hN g p hp O h0 hs t (Nat.lt_of_succ_lt ht)]
    by_cases h : p = (t + 1) % 4
    · rw [if_pos h, show (t + 1 + 4 - p) / 4 = (t + 1) / 4 + 1 by omega, show (t + 4 - p) / 4 = (t + 1) / 4 by omega, Nat.mul_succ, Finset.sum_range_add, Finset.sum_range (n := 688)]
    · rw [if_neg h, add_zero, show (t + 1 + 4 - p) / 4 = (t + 4 - p) / 4 by omega]

end Cert.UpBwdIdeal.Hand

end
-- ==== Proof.UpBwdValue.lean ====
/- The gradient of the convolution, the first projection and its norm: what the kernel computes is the reference's, over the extended reals. -/
module

public import proofs.«01_k».proof.Proof.UpBwdBlocks

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.ValueIdx Cert.Common
open Idealize.ShloMosaic.Pipeline (Dat)
open Cert.UpBwdRefIdeal.Read

/-- The kernel's mean square of a row. -/
theorem pay_mean (x : Vec Ideal S688x1024 .f32) (r : Fin 688) : k0_pay4 x (ix2 r (0 : Fin 1)) = meanSq (fun k => x (ix2 r k)) := by
  unfold k0_pay4
  dsimp only
  unfold meanSq
  refine congrArg₂ (· + ·) (congrArg₂ Ideal.div ?_ rfl) rfl
  exact (as_column _ _ r).trans (row_sum _ _ _ _ _ r)

theorem pay_rstd (x : Vec Ideal S688x1024 .f32) (r : Fin 688) : k0_pay5 x (ix2 r (0 : Fin 1)) = Ideal.rsqrt (meanSq (fun k => x (ix2 r k))) := by
  unfold k0_pay5
  exact congrArg Ideal.rsqrt (pay_mean x r)

/-- The weights' gradient of a block of rows. -/
theorem pay_weights (x acc : Vec Ideal S688x1024 .f32) (k : Fin 1024) :
    k0_pay6 x acc (ix2 (0 : Fin 1) k) = ∑ r : Fin 688, weightGrad (fun k => x (ix2 r k)) (fun k => acc (ix2 r k)) k := by
  unfold k0_pay6
  dsimp only
  refine (as_row _ _ k).trans ((col_sum _ _ _ _ _ k).trans (Finset.sum_congr rfl fun r _ => ?_))
  refine congrArg₂ (· * ·) (congrArg₂ (· * ·) rfl ?_) rfl
  exact (repeat_column _ _ r k).trans (pay_rstd x r)

/-- The rows' gradient of a block of rows. -/
theorem pay_row (x : Vec Ideal S688x1024 .f32) (g : Vec Ideal S1x1024 .f32) (acc d : Vec Ideal S688x1024 .f32) (r : Fin 688) (k : Fin 1024) :
    k0_pay7 x g acc d (ix2 r k) = (d (ix2 r k) : EReal) + rowGrad (fun k => x (ix2 r k)) (fun k => g (ix2 (0 : Fin 1) k)) (fun k => acc (ix2 r k)) k := by
  unfold k0_pay7
  dsimp only
  have hs : ∀ n : Fin 1024, (acc (ix2 r n) : EReal) * (broadcastTo S688x1024 (shapeCast S1x1024 g shapeCasts_S1x1024_S1x1024) broadcasts_S1x1024_S688x1024 : FVec Ideal S688x1024 .f32) (ix2 r n)
      = (acc (ix2 r n) : EReal) * g (ix2 (0 : Fin 1) n) := fun n => by
    refine congrArg₂ (· * ·) rfl ((repeat_row _ _ r n).trans ?_)
    rw [shapeCast_self]
  have hr : ∀ n : Fin 1024, (broadcastTo S688x1024 (k0_pay5 x) broadcasts_S688x1_S688x1024 : FVec Ideal S688x1024 .f32) (ix2 r n) = Ideal.rsqrt (meanSq (fun k => x (ix2 r k))) := fun n =>
    (repeat_column _ _ r n).trans (pay_rstd x r)
  unfold rowGrad
  refine congrArg₂ (· + ·) rfl ?_
  refine congrArg₂ (· + ·) (congrArg₂ (· + ·) (congrArg₂ (· * ·) (hs k) (hr k)) (congrArg₂ (· * ·) rfl ?_)) (congrArg₂ (· * ·) ?_ rfl)
  all_goals
    refine (repeat_column _ _ r k).trans ((as_column _ _ r).trans ((row_sum _ _ _ _ _ r).trans ?_))
    rw [Fin.sum_univ_one]
    unfold meanGrad
    refine congrArg₂ Ideal.div (congrArg₂ (· * ·) ?_ ?_) rfl
    · refine (as_column _ _ r).trans ((row_sum _ _ _ _ _ r).trans (Finset.sum_congr rfl fun n _ => ?_))
      exact congrArg₂ (· * ·) rfl (hs n)
    · exact congrArg₂ (· * ·) rfl (congrArg₂ Ideal.div (pay_rstd x r) (pay_mean x r))

variable (m : (ℓ : Loc nD τ sig) → Buf (Elt Ideal) ℓ) (c : Dev nD)

/-- The staged rows a point reads, of the first half of the channels and of the second. -/
abbrev TA (t : Fin cfg0.N) (s : ℕ) : Vec Ideal S688x704 .f32 := tap s (k0_pay10 (iblk m c 0 t)) (k0_pay11 (grid0.coords t) (iblk m c 1 t))
abbrev TB (t : Fin cfg0.N) (s : ℕ) : Vec Ideal S688x704 .f32 := tap s (k0_pay15 (iblk m c 2 t)) (k0_pay16 (edge (grid0.coords t)) (iblk m c 3 t))

theorem TA_at (t : Fin cfg0.N) (s : ℕ) (hs : s ≤ 2) (r : Fin 688) (f : Fin 704) : (TA m c t s : S688x704.Idx → EReal) (ix2 r f) = shift m c s (row t r).val (chan (lo (pt t)) f) := by
  unfold TA
  rw [pay11_eq]
  exact tap_shift m c (fun f => chan (lo (pt t)) f) t s hs _ _ (blk_du_lo m c t) (blk_next_lo m c t) r f

theorem TB_at (t : Fin cfg0.N) (s : ℕ) (hs : s ≤ 2) (r : Fin 688) (f : Fin 704) : (TB m c t s : S688x704.Idx → EReal) (ix2 r f) = shift m c s (row t r).val (chan (hi (pt t)) f) := by
  unfold TB
  rw [pay15_eq]
  exact tap_shift m c (fun f => chan (hi (pt t)) f) t s hs _ _ (blk_du_hi m c t) (blk_next_hi m c t) r f

/-- The gradient of the projection's result, of both halves. -/
abbrev DA (t : Fin cfg0.N) : Vec Ideal S688x704 .f32 := k0_pay12 (TA m c t 0) (TA m c t 1) (TA m c t 2) (iblk m c 6 t)
abbrev DB (t : Fin cfg0.N) : Vec Ideal S688x704 .f32 := k0_pay17 (TB m c t 0) (TB m c t 1) (TB m c t 2) (iblk m c 7 t)

theorem DA_at (t : Fin cfg0.N) (r : Fin 688) (f : Fin 704) : (DA m c t : S688x704.Idx → EReal) (ix2 r f) = dup m c (row t r).val (chan (lo (pt t)) f) := by
  unfold DA
  rw [pay12_at, TA_at m c t 0 (by decide), TA_at m c t 1 (by decide), TA_at m c t 2 (by decide), blk_cw_lo, blk_cw_lo, blk_cw_lo]
  rfl

theorem DB_at (t : Fin cfg0.N) (r : Fin 688) (f : Fin 704) : (DB m c t : S688x704.Idx → EReal) (ix2 r f) = dup m c (row t r).val (chan (hi (pt t)) f) := by
  unfold DB
  rw [pay17_eq]
  rw [pay12_at, TB_at m c t 0 (by decide), TB_at m c t 1 (by decide), TB_at m c t 2 (by decide), blk_cw_hi, blk_cw_hi, blk_cw_hi]
  rfl

/-- What every point stores of it. -/
theorem store_13 (t : Fin cfg0.N) (r : Fin 688) (f : Fin 704) :
    ((outsAt0 m c t.val t.isLt).1 : S1x688x704.Idx → EReal) (ix3 (0 : Fin 1) r f) = dup m c (row t r).val (chan (lo (pt t)) f) := by
  have e : (outsAt0 m c t.val t.isLt).1 = k0_pay13 (TA m c t 0) (TA m c t 1) (TA m c t 2) (iblk m c 6 t) := by
    by_cases h0 : t.val % 4 = 0
    · by_cases h3 : t.val % 48 = 0
      · rw [outsAt0_A m c t h3 h0 (by omega) h3 (by omega)]
        dsimp only
        rw [out_A_13]
      · rw [outsAt0_D m c t h3 h0 (by omega) h3 (by omega)]
        dsimp only
        rw [out_D_13]
    · by_cases h4 : t.val % 4 = 3
      · rw [outsAt0_C m c t (by omega) h0 (by omega) (by omega) h4]
        dsimp only
        rw [out_C_13]
      · rw [outsAt0_B m c t (by omega) h0 (by omega) (by omega) h4]
        dsimp only
        rw [out_B_13]
  rw [e]
  unfold k0_pay13
  exact (add_unit _ _ r f).trans (DA_at m c t r f)

/-- What every point stores of it. -/
theorem store_14 (t : Fin cfg0.N) (r : Fin 688) (f : Fin 704) :
    ((outsAt0 m c t.val t.isLt).2.1 : S1x688x704.Idx → EReal) (ix3 (0 : Fin 1) r f) = dup m c (row t r).val (chan (hi (pt t)) f) := by
  have e : (outsAt0 m c t.val t.isLt).2.1 = k0_pay18 (TB m c t 0) (TB m c t 1) (TB m c t 2) (iblk m c 7 t) := by
    by_cases h0 : t.val % 4 = 0
    · by_cases h3 : t.val % 48 = 0
      · rw [outsAt0_A m c t h3 h0 (by omega) h3 (by omega)]
        dsimp only
        rw [out_A_14]
      · rw [outsAt0_D m c t h3 h0 (by omega) h3 (by omega)]
        dsimp only
        rw [out_D_14]
    · by_cases h4 : t.val % 4 = 3
      · rw [outsAt0_C m c t (by omega) h0 (by omega) (by omega) h4]
        dsimp only
        rw [out_C_14]
      · rw [outsAt0_B m c t (by omega) h0 (by omega) (by omega) h4]
        dsimp only
        rw [out_B_14]
  rw [e]
  unfold k0_pay18
  exact (add_unit _ _ r f).trans (DB_at m c t r f)

/-- The terms of one pair of channels in a row's product. -/
def term (r : Fin 688) (k : Fin 1024) (i : ℕ) (q : Fin 2816) : EReal :=
  dup m c (688 * i + r.val) (⟨q.val, by have := q.isLt; omega⟩ : Fin 5632) * WU m c (ix2 k (⟨q.val, by have := q.isLt; omega⟩ : Fin 5632))
    + dup m c (688 * i + r.val) (⟨2816 + q.val, by have := q.isLt; omega⟩ : Fin 5632) * WU m c (ix2 k (⟨2816 + q.val, by have := q.isLt; omega⟩ : Fin 5632))

/-- The reference's product is the sum of these. -/
theorem ref_pairs (t : Fin cfg0.N) (r : Fin 688) (k : Fin 1024) : A m c (row t r) k = ∑ q : Fin 2816, term m c r k (t.val / 4) q := by
  rw [ref_acc]
  refine (Fin.sum_univ_add (a := 2816) (b := 2816) (fun n : Fin 5632 => dup m c (row t r).val n * WU m c (ix2 k n))).trans ?_
  rw [← Finset.sum_add_distrib]
  rfl

/-- A point's products are its channels' terms. -/
theorem point_acc (t : Fin cfg0.N) (r : Fin 688) (k : Fin 1024) :
    (k0_pay20 (DA m c t) (DB m c t) (iblk m c 8 t) (iblk m c 9 t) : S688x1024.Idx → EReal) (ix2 r k)
      = ∑ q : Fin 704, ext (term m c r k (t.val / 4)) (704 * (t.val % 4) + q.val) := by
  unfold k0_pay20
  refine (congrArg₂ (· + ·) (rows_mm _ _ (ix2 r k)) (rows_mm _ _ (ix2 r k))).trans ?_
  rw [← Finset.sum_add_distrib]
  refine Finset.sum_congr rfl fun q _ => ?_
  have hq := q.isLt
  rw [ext_of_lt _ (show 704 * (t.val % 4) + q.val < 2816 by omega)]
  unfold term
  refine congrArg₂ (· + ·) (congrArg₂ (· * ·) (DA_at m c t r q) ?_) (congrArg₂ (· * ·) ((DB_at m c t r q).trans (congrArg _ (Fin.ext ?_))) ?_)
  · exact (drop_unit _ _ k q).trans (blk_wu_lo m c t k q)
  · show 704 * (4 + t.val % 4) + q.val = 2816 + (704 * (t.val % 4) + q.val)
    omega
  · refine (drop_unit _ _ k q).trans ((blk_wu_hi m c t k q).trans (congrArg (fun n => WU m c (ix2 k n)) (Fin.ext ?_)))
    show 704 * (4 + t.val % 4) + q.val = 2816 + (704 * (t.val % 4) + q.val)
    omega

/-- What the product's buffer holds after a point. -/
theorem acc_at (r : Fin 688) (k : Fin 1024) : ∀ t (ht : t < cfg0.N),
    ((outsAt0 m c t ht).2.2.2.2.2.2 : S688x1024.Idx → EReal) (ix2 r k) = ∑ a ∈ Finset.range (704 * (t % 4 + 1)), ext (term m c r k (t / 4)) a := by
  have hN := N_eq
  refine acc_columns (P := 4) (term m c r k) (fun t ht => ((outsAt0 m c t ht).2.2.2.2.2.2 : S688x1024.Idx → EReal) (ix2 r k)) (fun t ht h0 => ?_) (fun t ht h0 => ?_)
  · show ((outsAt0 m c t ht).2.2.2.2.2.2 : S688x1024.Idx → EReal) (ix2 r k) = _
    by_cases h3 : t % 48 = 0
    · rw [outsAt0_A m c ⟨t, ht⟩ h3 h0 (by dsimp only; omega) h3 (by dsimp only; omega)]
      dsimp only
      rw [sout_A_0]
      unfold k0_pay21
      rw [shapeCast_self]
      exact point_acc m c ⟨t, ht⟩ r k
    · rw [outsAt0_D m c ⟨t, ht⟩ h3 h0 (by dsimp only; omega) h3 (by dsimp only; omega)]
      dsimp only
      rw [sout_D_0]
      unfold k0_pay21
      rw [shapeCast_self]
      exact point_acc m c ⟨t, ht⟩ r k
  · show ((outsAt0 m c (t + 1) ht).2.2.2.2.2.2 : S688x1024.Idx → EReal) (ix2 r k) = _
    by_cases h4 : (t + 1) % 4 = 3
    · rw [outsAt0_C m c ⟨t + 1, ht⟩ (by dsimp only; omega) h0 (by dsimp only; omega) (by dsimp only; omega) h4]
      dsimp only
      rw [sout_C_0]
      unfold k0_pay1
      rw [shapeCast_self]
      exact congrArg₂ (· + ·) rfl (point_acc m c ⟨t + 1, ht⟩ r k)
    · rw [outsAt0_B m c ⟨t + 1, ht⟩ (by dsimp only; omega) h0 (by dsimp only; omega) (by dsimp only; omega) h4]
      dsimp only
      rw [sout_B_0]
      unfold k0_pay1
      rw [shapeCast_self]
      exact congrArg₂ (· + ·) rfl (point_acc m c ⟨t + 1, ht⟩ r k)

/-- At the last point of a block of rows the sum is complete. -/
theorem acc_full (t : Fin cfg0.N) (h0 : ¬t.val % 4 = 0) (h4 : t.val % 4 = 3) (r : Fin 688) (k : Fin 1024) :
    (k0_pay1 (k0_pay20 (DA m c t) (DB m c t) (iblk m c 8 t) (iblk m c 9 t)) (outsAt0 m c (t.val - 1) (Nat.lt_of_le_of_lt (Nat.sub_le _ _) t.isLt)).2.2.2.2.2.2 : S688x1024.Idx → EReal) (ix2 r k)
      = A m c (row t r) k := by
  have h := acc_at m c r k t.val t.isLt
  rw [outsAt0_C m c t (by omega) h0 (by omega) (by omega) h4] at h
  dsimp only at h
  rw [sout_C_0, h4] at h
  refine h.trans ?_
  rw [ref_pairs]
  exact sum_ext _

/-- The weights' gradient after a point: the terms of the blocks of rows that are complete. -/
theorem weights_at (k : Fin 1024) : ∀ t (ht : t < cfg0.N),
    ((outsAt0 m c t ht).2.2.2.1 : S1x1024.Idx → EReal) (ix2 (0 : Fin 1) k)
      = ∑ a ∈ Finset.range (688 * ((t + 1) / 4)), ext (fun a => weightGrad (X m c a) (A m c a) k) a
  | 0, ht => by
    rw [outsAt0_A m c ⟨0, ht⟩ rfl rfl (by dsimp only; omega) rfl (by dsimp only; omega)]
    dsimp only
    rw [out_A_16]
    simp only [Nat.zero_add, show (1 : ℕ) / 4 = 0 from rfl, Nat.mul_zero, Finset.sum_range_zero]
    exact zero_word
  | t + 1, ht => by
    have hN := N_eq
    have ih := weights_at k t (Nat.lt_of_succ_lt ht)
    by_cases h3 : (t + 1) % 4 = 3
    · rw [outsAt0_C m c ⟨t + 1, ht⟩ (by dsimp only; omega) (by dsimp only; omega) (by dsimp only; omega) (by dsimp only; omega) h3]
      dsimp only
      rw [out_C_16]
      have e : (t + 1 + 1) / 4 = (t + 1) / 4 + 1 := by omega
      rw [e, sum_block _ ((t + 1) / 4) (by omega)]
      unfold k0_pay3
      rw [shapeCast_self]
      refine congrArg₂ (· + ·) ih ((pay_weights _ _ k).trans (Finset.sum_congr rfl fun r _ => ?_))
      refine congrArg₂ (fun p q => weightGrad p q k) (funext fun n => ?_) (funext fun n => ?_)
      · exact blk_h m c ⟨t + 1, ht⟩ r n
      · exact acc_full m c ⟨t + 1, ht⟩ (by dsimp only; omega) h3 r n
    · have e : (t + 1 + 1) / 4 = (t + 1) / 4 := by omega
      rw [e, ← ih]
      by_cases h0 : (t + 1) % 4 = 0
      · rw [outsAt0_D m c ⟨t + 1, ht⟩ (by dsimp only; omega) h0 (by dsimp only; omega) (by dsimp only; omega) h3]
        dsimp only
        rw [out_D_16]
        rfl
      · rw [outsAt0_B m c ⟨t + 1, ht⟩ (by dsimp only; omega) h0 (by dsimp only; omega) (by dsimp only; omega) h3]
        dsimp only
        rw [out_B_16]
        rfl

/-- A row's term of the filter's gradient. -/
def row_term (k : Fin 3) (n : Fin 5632) (a : Fin 8256) : EReal := up m c a.val n * shift m c (2 - k.val) a.val n

/-- A point's step of the filter's gradient. -/
theorem filter_step_17 (t : Fin cfg0.N) (X : Vec Ideal S4x3x704 .f32) (p : Fin 4) (k : Fin 3) (f : Fin 704) :
    (put ((grid0.coords t) 1) X (k0_pay14 (TA m c t 0) (TA m c t 1) (TA m c t 2) (iblk m c 4 t) (rowOf ((grid0.coords t) 1) X)) : S4x3x704.Idx → EReal) (ix3 p k f)
      = X (ix3 p k f) + if p.val = t.val % 4 then ∑ r : Fin 688, ext (row_term m c k (chan (lo p) f)) (688 * (t.val / 4) + r.val) else 0 := by
  have hN := N_eq
  have ht := t.isLt
  refine (put_at ((grid0.coords t) 1) X (TA m c t) (iblk m c 4 t) p k f).trans ?_
  rw [coord_at]
  refine congrArg₂ (· + ·) rfl ?_
  by_cases hp : p.val = t.val % 4
  · rw [if_pos hp, if_pos hp]
    have e : p = pt t := Fin.ext hp
    subst e
    refine Finset.sum_congr rfl fun r _ => ?_
    have hr := r.isLt
    rw [ext_of_lt _ (show 688 * (t.val / 4) + r.val < 8256 by omega)]
    exact congrArg₂ (· * ·) (blk_up_lo m c t r f) (TA_at m c t (2 - k.val) (Nat.sub_le _ _) r f)
  · rw [if_neg hp, if_neg hp]

/-- The filter's gradient after a point: the rows' terms of the blocks that are complete. -/
theorem filter_at_17 (p : Fin 4) (k : Fin 3) (f : Fin 704) : ∀ t (ht : t < cfg0.N),
    ((outsAt0 m c t ht).2.2.2.2.1 : S4x3x704.Idx → EReal) (ix3 p k f)
      = ∑ a ∈ Finset.range (688 * ((t + 4 - p.val) / 4)), ext (row_term m c k (chan (lo p) f)) a := by
  have hN := N_eq
  refine every_fourth N_eq _ p.val p.isLt (fun t ht => ((outsAt0 m c t ht).2.2.2.2.1 : S4x3x704.Idx → EReal) (ix3 p k f)) (fun ht => ?_) (fun t ht => ?_)
  · show ((outsAt0 m c 0 ht).2.2.2.2.1 : S4x3x704.Idx → EReal) (ix3 p k f) = _
    rw [outsAt0_A m c ⟨0, ht⟩ rfl rfl (by dsimp only; omega) rfl (by dsimp only; omega)]
    dsimp only
    rw [out_A_17]
    have e0 : (k0_pay8 (F := Ideal) : S4x3x704.Idx → EReal) (ix3 p k f) = 0 := zero_word
    exact (filter_step_17 m c ⟨0, ht⟩ (k0_pay8 (F := Ideal)) p k f).trans (congrArg₂ (· + ·) e0 rfl)
  · show ((outsAt0 m c (t + 1) ht).2.2.2.2.1 : S4x3x704.Idx → EReal) (ix3 p k f) = _
    by_cases h0 : (t + 1) % 4 = 0
    · rw [outsAt0_D m c ⟨t + 1, ht⟩ (by dsimp only; omega) h0 (by dsimp only; omega) (by dsimp only; omega) (by dsimp only; omega)]
      dsimp only
      rw [out_D_17]
      exact filter_step_17 m c ⟨t + 1, ht⟩ _ p k f
    · by_cases h4 : (t + 1) % 4 = 3
      · rw [outsAt0_C m c ⟨t + 1, ht⟩ (by dsimp only; omega) h0 (by dsimp only; omega) (by dsimp only; omega) h4]
        dsimp only
        rw [out_C_17]
        exact filter_step_17 m c ⟨t + 1, ht⟩ _ p k f
      · rw [outsAt0_B m c ⟨t + 1, ht⟩ (by dsimp only; omega) h0 (by dsimp only; omega) (by dsimp only; omega) h4]
        dsimp only
        rw [out_B_17]
        exact filter_step_17 m c ⟨t + 1, ht⟩ _ p k f

/-- A point's step of the filter's gradient. -/
theorem filter_step_18 (t : Fin cfg0.N) (X : Vec Ideal S4x3x704 .f32) (p : Fin 4) (k : Fin 3) (f : Fin 704) :
    (put ((grid0.coords t) 1) X (k0_pay19 (TB m c t 0) (TB m c t 1) (TB m c t 2) (iblk m c 5 t) (rowOf ((grid0.coords t) 1) X)) : S4x3x704.Idx → EReal) (ix3 p k f)
      = X (ix3 p k f) + if p.val = t.val % 4 then ∑ r : Fin 688, ext (row_term m c k (chan (hi p) f)) (688 * (t.val / 4) + r.val) else 0 := by
  have hN := N_eq
  have ht := t.isLt
  rw [pay19_eq]
  refine (put_at ((grid0.coords t) 1) X (TB m c t) (iblk m c 5 t) p k f).trans ?_
  rw [coord_at]
  refine congrArg₂ (· + ·) rfl ?_
  by_cases hp : p.val = t.val % 4
  · rw [if_pos hp, if_pos hp]
    have e : p = pt t := Fin.ext hp
    subst e
    refine Finset.sum_congr rfl fun r _ => ?_
    have hr := r.isLt
    rw [ext_of_lt _ (show 688 * (t.val / 4) + r.val < 8256 by omega)]
    exact congrArg₂ (· * ·) (blk_up_hi m c t r f) (TB_at m c t (2 - k.val) (Nat.sub_le _ _) r f)
  · rw [if_neg hp, if_neg hp]

/-- The filter's gradient after a point: the rows' terms of the blocks that are complete. -/
theorem filter_at_18 (p : Fin 4) (k : Fin 3) (f : Fin 704) : ∀ t (ht : t < cfg0.N),
    ((outsAt0 m c t ht).2.2.2.2.2.1 : S4x3x704.Idx → EReal) (ix3 p k f)
      = ∑ a ∈ Finset.range (688 * ((t + 4 - p.val) / 4)), ext (row_term m c k (chan (hi p) f)) a := by
  have hN := N_eq
  refine every_fourth N_eq _ p.val p.isLt (fun t ht => ((outsAt0 m c t ht).2.2.2.2.2.1 : S4x3x704.Idx → EReal) (ix3 p k f)) (fun ht => ?_) (fun t ht => ?_)
  · show ((outsAt0 m c 0 ht).2.2.2.2.2.1 : S4x3x704.Idx → EReal) (ix3 p k f) = _
    rw [outsAt0_A m c ⟨0, ht⟩ rfl rfl (by dsimp only; omega) rfl (by dsimp only; omega)]
    dsimp only
    rw [out_A_18]
    have e0 : (k0_pay9 (F := Ideal) : S4x3x704.Idx → EReal) (ix3 p k f) = 0 := zero_word
    exact (filter_step_18 m c ⟨0, ht⟩ (k0_pay9 (F := Ideal)) p k f).trans (congrArg₂ (· + ·) e0 rfl)
  · show ((outsAt0 m c (t + 1) ht).2.2.2.2.2.1 : S4x3x704.Idx → EReal) (ix3 p k f) = _
    by_cases h0 : (t + 1) % 4 = 0
    · rw [outsAt0_D m c ⟨t + 1, ht⟩ (by dsimp only; omega) h0 (by dsimp only; omega) (by dsimp only; omega) (by dsimp only; omega)]
      dsimp only
      rw [out_D_18]
      exact filter_step_18 m c ⟨t + 1, ht⟩ _ p k f
    · by_cases h4 : (t + 1) % 4 = 3
      · rw [outsAt0_C m c ⟨t + 1, ht⟩ (by dsimp only; omega) h0 (by dsimp only; omega) (by dsimp only; omega) h4]
        dsimp only
        rw [out_C_18]
        exact filter_step_18 m c ⟨t + 1, ht⟩ _ p k f
      · rw [outsAt0_B m c ⟨t + 1, ht⟩ (by dsimp only; omega) h0 (by dsimp only; omega) (by dsimp only; omega) h4]
        dsimp only
        rw [out_B_18]
        exact filter_step_18 m c ⟨t + 1, ht⟩ _ p k f

/-- Reading a block of rows and channels out of an array. -/
theorem read_13 (G : S4x8256x704.Idx → EReal) (t : Fin cfg0.N) (r : Fin 688) (f : Fin 704) :
    (((cfg0.win 13).blk t).view.read (Elt Ideal) G : S1x688x704.Idx → EReal) (ix3 (0 : Fin 1) r f) = G (ix3 (pt t) (row t r) f) := by
  obtain ⟨h0, h1, h2⟩ := idx_13 t
  refine congrArg G (funext fun a => Fin.ext ?_)
  match a with
  | ⟨0, _⟩ => show win0_13.index t 0 * 1 + 1 * 0 = t.val % 4; omega
  | ⟨1, _⟩ => show win0_13.index t 1 * 688 + 1 * r.val = 688 * (t.val / 4) + r.val; omega
  | ⟨2, _⟩ => show win0_13.index t 2 * 704 + 1 * f.val = f.val; omega

/-- Reading a block of rows and channels out of an array. -/
theorem read_14 (G : S4x8256x704.Idx → EReal) (t : Fin cfg0.N) (r : Fin 688) (f : Fin 704) :
    (((cfg0.win 14).blk t).view.read (Elt Ideal) G : S1x688x704.Idx → EReal) (ix3 (0 : Fin 1) r f) = G (ix3 (pt t) (row t r) f) := read_13 G t r f

/-- Reading a block of rows out of an array. -/
theorem read_15 (G : S8256x1024.Idx → EReal) (t : Fin cfg0.N) (r : Fin 688) (k : Fin 1024) :
    (((cfg0.win 15).blk t).view.read (Elt Ideal) G : S688x1024.Idx → EReal) (ix2 r k) = G (ix2 (row t r) k) := by
  obtain ⟨h0, h1⟩ := idx_15 t
  refine congrArg G (funext fun a => Fin.ext ?_)
  match a with
  | ⟨0, _⟩ => show win0_15.index t 0 * 688 + 1 * r.val = 688 * (t.val / 4) + r.val; omega
  | ⟨1, _⟩ => show win0_15.index t 1 * 1024 + 1 * k.val = k.val; omega

/-- Reading the weights out of an array. -/
theorem read_16 (G : S1x1024.Idx → EReal) (t : Fin cfg0.N) (k : Fin 1024) :
    (((cfg0.win 16).blk t).view.read (Elt Ideal) G : S1x1024.Idx → EReal) (ix2 (0 : Fin 1) k) = G (ix2 (0 : Fin 1) k) := by
  obtain ⟨h0, h1⟩ := idx_16 t
  refine congrArg G (funext fun a => Fin.ext ?_)
  match a with
  | ⟨0, _⟩ => show win0_16.index t 0 * 1 + 1 * 0 = 0; rw [h0]
  | ⟨1, _⟩ => show win0_16.index t 1 * 1024 + 1 * k.val = k.val; omega

/-- Reading the filter out of an array. -/
theorem read_17 (G : S4x3x704.Idx → EReal) (t : Fin cfg0.N) (p : Fin 4) (k : Fin 3) (f : Fin 704) :
    (((cfg0.win 17).blk t).view.read (Elt Ideal) G : S4x3x704.Idx → EReal) (ix3 p k f) = G (ix3 p k f) := by
  obtain ⟨h0, h1, h2⟩ := idx_17 t
  refine congrArg G (funext fun a => Fin.ext ?_)
  match a with
  | ⟨0, _⟩ => show win0_17.index t 0 * 4 + 1 * p.val = p.val; omega
  | ⟨1, _⟩ => show win0_17.index t 1 * 3 + 1 * k.val = k.val; omega
  | ⟨2, _⟩ => show win0_17.index t 2 * 704 + 1 * f.val = f.val; omega

/-- Reading the filter out of an array. -/
theorem read_18 (G : S4x3x704.Idx → EReal) (t : Fin cfg0.N) (p : Fin 4) (k : Fin 3) (f : Fin 704) :
    (((cfg0.win 18).blk t).view.read (Elt Ideal) G : S4x3x704.Idx → EReal) (ix3 p k f) = G (ix3 p k f) := read_17 G t p k f

/-- Every row of every block of channels lies in a block. -/
theorem cover_13 (i : S4x8256x704.Idx) : ∃ t : Fin cfg0.N, (cfg0.win 13).flush t = true ∧ i ∈ ((View.whole main_v27_0).slice (win0_13.rect t)).set := by
  have hi0 : (i 0 : Nat) < 4 := (i 0).isLt
  have hi1 : (i 1 : Nat) < 8256 := (i 1).isLt
  have hi2 : (i 2 : Nat) < 704 := (i 2).isLt
  have hN := N_eq
  obtain ⟨t, ht⟩ : ∃ t : Fin cfg0.N, t.val = 4 * ((i 1 : Nat) / 688) + (i 0 : Nat) := ⟨⟨_, by omega⟩, rfl⟩
  obtain ⟨h0, h1, h2⟩ := idx_13 t
  refine ⟨t, flush0_13 t, ?_⟩
  rw [View.set_slice_whole]
  exact mem3 i _ (congrArg (· * 1) h0) (congrArg (· * 688) h1) (congrArg (· * 704) h2) (by omega)

/-- Every row of every block of channels lies in a block. -/
theorem cover_14 (i : S4x8256x704.Idx) : ∃ t : Fin cfg0.N, (cfg0.win 14).flush t = true ∧ i ∈ ((View.whole main_v27_1).slice (win0_14.rect t)).set := by
  have hi0 : (i 0 : Nat) < 4 := (i 0).isLt
  have hi1 : (i 1 : Nat) < 8256 := (i 1).isLt
  have hi2 : (i 2 : Nat) < 704 := (i 2).isLt
  have hN := N_eq
  obtain ⟨t, ht⟩ : ∃ t : Fin cfg0.N, t.val = 4 * ((i 1 : Nat) / 688) + (i 0 : Nat) := ⟨⟨_, by omega⟩, rfl⟩
  obtain ⟨h0, h1, h2⟩ := idx_14 t
  refine ⟨t, flush0_14 t, ?_⟩
  rw [View.set_slice_whole]
  exact mem3 i _ (congrArg (· * 1) h0) (congrArg (· * 688) h1) (congrArg (· * 704) h2) (by omega)

/-- Every row lies in a block. -/
theorem cover_15 (i : S8256x1024.Idx) : ∃ t : Fin cfg0.N, (cfg0.win 15).flush t = true ∧ i ∈ ((View.whole main_v27_2).slice (win0_15.rect t)).set := by
  have hi0 : (i 0 : Nat) < 8256 := (i 0).isLt
  have hi1 : (i 1 : Nat) < 1024 := (i 1).isLt
  have hN := N_eq
  obtain ⟨t, ht⟩ : ∃ t : Fin cfg0.N, t.val = 4 * ((i 0 : Nat) / 688) + 3 := ⟨⟨_, by omega⟩, rfl⟩
  obtain ⟨h0, h1⟩ := idx_15 t
  refine ⟨t, (flush0_15 t).2 (by omega), ?_⟩
  rw [View.set_slice_whole]
  exact mem2 i _ (congrArg (· * 688) h0) (congrArg (· * 1024) h1) (by omega)

/-- The last point writes the weights. -/
theorem cover_16 (i : S1x1024.Idx) : ∃ t : Fin cfg0.N, (cfg0.win 16).flush t = true ∧ i ∈ ((View.whole main_v27_3).slice (win0_16.rect t)).set := by
  have hi0 : (i 0 : Nat) < 1 := (i 0).isLt
  have hi1 : (i 1 : Nat) < 1024 := (i 1).isLt
  have hN := N_eq
  obtain ⟨t, ht⟩ : ∃ t : Fin cfg0.N, t.val = 47 := ⟨⟨_, by omega⟩, rfl⟩
  obtain ⟨h0, h1⟩ := idx_16 t
  refine ⟨t, (flush0_16 t).2 (by omega), ?_⟩
  rw [View.set_slice_whole]
  exact mem2 i _ (congrArg (· * 1) h0) (congrArg (· * 1024) h1) (by omega)

/-- The last point writes the filter. -/
theorem cover_17 (i : S4x3x704.Idx) : ∃ t : Fin cfg0.N, (cfg0.win 17).flush t = true ∧ i ∈ ((View.whole main_v27_4).slice (win0_17.rect t)).set := by
  have hi0 : (i 0 : Nat) < 4 := (i 0).isLt
  have hi1 : (i 1 : Nat) < 3 := (i 1).isLt
  have hi2 : (i 2 : Nat) < 704 := (i 2).isLt
  have hN := N_eq
  obtain ⟨t, ht⟩ : ∃ t : Fin cfg0.N, t.val = 47 := ⟨⟨_, by omega⟩, rfl⟩
  obtain ⟨h0, h1, h2⟩ := idx_17 t
  refine ⟨t, (flush0_17 t).2 (by omega), ?_⟩
  rw [View.set_slice_whole]
  exact mem3 i _ (congrArg (· * 4) h0) (congrArg (· * 3) h1) (congrArg (· * 704) h2) (by omega)

/-- The last point writes the filter. -/
theorem cover_18 (i : S4x3x704.Idx) : ∃ t : Fin cfg0.N, (cfg0.win 18).flush t = true ∧ i ∈ ((View.whole main_v27_5).slice (win0_18.rect t)).set := by
  have hi0 : (i 0 : Nat) < 4 := (i 0).isLt
  have hi1 : (i 1 : Nat) < 3 := (i 1).isLt
  have hi2 : (i 2 : Nat) < 704 := (i 2).isLt
  have hN := N_eq
  obtain ⟨t, ht⟩ : ∃ t : Fin cfg0.N, t.val = 47 := ⟨⟨_, by omega⟩, rfl⟩
  obtain ⟨h0, h1, h2⟩ := idx_18 t
  refine ⟨t, (flush0_18 t).2 (by omega), ?_⟩
  rw [View.set_slice_whole]
  exact mem3 i _ (congrArg (· * 4) h0) (congrArg (· * 3) h1) (congrArg (· * 704) h2) (by omega)

/-- The gradient of the projection's result after the run. -/
theorem final_13 : (dats m 0 c).arrAt 13 cfg0.N = val_main_v105 (F := Ideal) (DU m c) (CW m c) :=
  (dats m 0 c).arrAt_eq_of_cover 13 _ (fun t hf => by
    rw [Value.flushed13]
    generalize hG : val_main_v105 (F := Ideal) (DU m c) (CW m c) = W
    funext j
    obtain ⟨r, f, rfl⟩ := split3 j
    refine Eq.trans ?_ ((congrFun hG _).trans (read_13 W t r f).symm)
    refine (store_13 m c t r f).trans ?_
    rw [ref_dup_lo]) cover_13

/-- The gradient of the projection's result after the run. -/
theorem final_14 : (dats m 0 c).arrAt 14 cfg0.N = val_main_v106 (F := Ideal) (DU m c) (CW m c) :=
  (dats m 0 c).arrAt_eq_of_cover 14 _ (fun t hf => by
    rw [Value.flushed14]
    generalize hG : val_main_v106 (F := Ideal) (DU m c) (CW m c) = W
    funext j
    obtain ⟨r, f, rfl⟩ := split3 j
    refine Eq.trans ?_ ((congrFun hG _).trans (read_14 W t r f).symm)
    refine (store_14 m c t r f).trans ?_
    rw [ref_dup_hi]) cover_14

/-- The rows' gradient after the run. -/
theorem final_15 : (dats m 0 c).arrAt 15 cfg0.N = val_main_v107 (F := Ideal) (DU m c) (CW m c) (WU m c) (H m c) (Gm m c) (DH m c) :=
  (dats m 0 c).arrAt_eq_of_cover 15 _ (fun t hf => by
    have h3 := (flush0_15 t).1 hf
    rw [Value.flushed15_C m c t (by omega) (by omega) (by omega) (by omega) h3, out_C_15]
    generalize hG : val_main_v107 (F := Ideal) (DU m c) (CW m c) (WU m c) (H m c) (Gm m c) (DH m c) = W
    funext j
    obtain ⟨r, k, rfl⟩ := split2 j
    refine Eq.trans ?_ ((congrFun hG _).trans (read_15 W t r k).symm)
    refine (pay_row _ _ _ _ r k).trans ?_
    rw [val_main_v107_apply, ref_row]
    refine congrArg₂ (· + ·) (blk_dh m c t r k) ?_
    have e1 : (fun n => (iblk m c 10 t : Vec Ideal S688x1024 .f32) (ix2 r n)) = X m c (row t r) := funext fun n => blk_h m c t r n
    have e2 : (fun n => (iblk m c 11 t : Vec Ideal S1x1024 .f32) (ix2 (0 : Fin 1) n)) = G m c := funext fun n => blk_g m c t n
    have e3 : (fun n => (k0_pay1 (k0_pay20 (DA m c t) (DB m c t) (iblk m c 8 t) (iblk m c 9 t)) (outsAt0 m c (t.val - 1) (Nat.lt_of_le_of_lt (Nat.sub_le _ _) t.isLt)).2.2.2.2.2.2 : S688x1024.Idx → EReal) (ix2 r n))
        = A m c (row t r) := funext fun n => acc_full m c t (by omega) h3 r n
    exact congrFun (congr (congr (congrArg rowGrad e1) e2) e3) k) cover_15

/-- The weights' gradient after the run. -/
theorem final_16 : (dats m 0 c).arrAt 16 cfg0.N = val_main_v108 (F := Ideal) (DU m c) (CW m c) (WU m c) (H m c) :=
  (dats m 0 c).arrAt_eq_of_cover 16 _ (fun t hf => by
    have ht : t.val < 48 := lt_of_lt_of_eq t.isLt N_eq
    have h47 := (flush0_16 t).1 hf
    rw [Value.flushed16]
    generalize hG : val_main_v108 (F := Ideal) (DU m c) (CW m c) (WU m c) (H m c) = W
    funext j
    obtain ⟨k, rfl⟩ : ∃ (k : Fin 1024), j = ix2 (0 : Fin 1) k := ⟨j 1, (eq_ix2 j).trans (congrArg (fun q => ix2 q (j 1)) (Fin.ext (by have : (j 0).val < 1 := (j 0).isLt; show (j 0).val = 0; omega)))⟩
    refine Eq.trans ?_ ((congrFun hG _).trans (read_16 W t k).symm)
    refine (weights_at m c k t.val t.isLt).trans ?_
    rw [show (t.val + 1) / 4 = 12 by omega, ref_weights]
    exact sum_ext _) cover_16

/-- The filter's gradient after the run. -/
theorem final_17 : (dats m 0 c).arrAt 17 cfg0.N = val_main_v109 (F := Ideal) (DU m c) (WU m c) (H m c) (Gm m c) :=
  (dats m 0 c).arrAt_eq_of_cover 17 _ (fun t hf => by
    have ht : t.val < 48 := lt_of_lt_of_eq t.isLt N_eq
    have h47 := (flush0_17 t).1 hf
    rw [Value.flushed17]
    generalize hG : val_main_v109 (F := Ideal) (DU m c) (WU m c) (H m c) (Gm m c) = W
    funext j
    obtain ⟨p, k, f, rfl⟩ : ∃ (p : Fin 4) (k : Fin 3) (f : Fin 704), j = ix3 p k f := ⟨j 0, j 1, j 2, eq_ix3 j⟩
    refine Eq.trans ?_ ((congrFun hG _).trans (read_17 W t p k f).symm)
    refine (filter_at_17 m c p k f t.val t.isLt).trans ?_
    have hp := p.isLt
    rw [show (t.val + 4 - p.val) / 4 = 12 by omega, ref_dcw_lo]
    exact sum_ext _) cover_17

/-- The filter's gradient after the run. -/
theorem final_18 : (dats m 0 c).arrAt 18 cfg0.N = val_main_v110 (F := Ideal) (DU m c) (WU m c) (H m c) (Gm m c) :=
  (dats m 0 c).arrAt_eq_of_cover 18 _ (fun t hf => by
    have ht : t.val < 48 := lt_of_lt_of_eq t.isLt N_eq
    have h47 := (flush0_18 t).1 hf
    rw [Value.flushed18]
    generalize hG : val_main_v110 (F := Ideal) (DU m c) (WU m c) (H m c) (Gm m c) = W
    funext j
    obtain ⟨p, k, f, rfl⟩ : ∃ (p : Fin 4) (k : Fin 3) (f : Fin 704), j = ix3 p k f := ⟨j 0, j 1, j 2, eq_ix3 j⟩
    refine Eq.trans ?_ ((congrFun hG _).trans (read_18 W t p k f).symm)
    refine (filter_at_18 m c p k f t.val t.isLt).trans ?_
    have hp := p.isLt
    rw [show (t.val + 4 - p.val) / 4 = 12 by omega, ref_dcw_hi]
    exact sum_ext _) cover_18

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v27_0) = val_main_v105 (F := Ideal) (DU m c) (CW m c)
      ∧ r.2.mem ((c : Thread nD τ).loc main_v27_1) = val_main_v106 (F := Ideal) (DU m c) (CW m c)
      ∧ r.2.mem ((c : Thread nD τ).loc main_v27_2) = val_main_v107 (F := Ideal) (DU m c) (CW m c) (WU m c) (H m c) (Gm m c) (DH m c)
      ∧ r.2.mem ((c : Thread nD τ).loc main_v27_3) = val_main_v108 (F := Ideal) (DU m c) (CW m c) (WU m c) (H m c)
      ∧ r.2.mem ((c : Thread nD τ).loc main_v27_4) = val_main_v109 (F := Ideal) (DU m c) (WU m c) (H m c) (Gm m c)
      ∧ r.2.mem ((c : Thread nD τ).loc main_v27_5) = val_main_v110 (F := Ideal) (DU m c) (WU m c) (H m c) (Gm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨p13, p14, p15, p16, p17, p18, k⟩ := h c
    exact ⟨p13.trans (final_13 m c), p14.trans (final_14 m c), p15.trans (final_15 m c), p16.trans (final_16 m c), p17.trans (final_17 m c), p18.trans (final_18 m c), k⟩)
    (Value.run_blocks m ρ)

end Cert.UpBwdIdeal.Hand

end
-- ==== Proof.UpBwdClaim.lean ====
/- The claim about the gradient of the convolution, the first projection and its norm: kernel and reference end with equal results over the extended reals. -/
module

public import proofs.«01_k».proof.Defs
public import proofs.«01_k».proof.Proof.UpBwdValue
public import proofs.«01_k».proof.Proof.Gen.UpBwdRefIdeal.Run

@[expose] public section

noncomputable section

namespace Cert

open Idealize.ShloMosaic Idealize.SL.Sem

/-- The kernel of the convolution's gradient computes what the reference computes: both halves' gradient of the projection's result, the rows'
    gradient through the projection and the norm, the norm's weights' and both halves' gradient of the filter. -/
theorem up_bwd_algebraic : algebraic_UpBwdIdeal_UpBwdRefIdeal (hUpBwdIdeal := UpBwdIdeal.Gen.facts) (hUpBwdRefIdeal := UpBwdRefIdeal.Gen.facts) := by
  intro m g m' g' _ h
  refine ⟨_, _, _, _, _, _, UpBwdIdeal.Hand.run m g, ?_⟩
  refine (θ_run UpBwdRefIdeal.defs _ _).mono (fun r hr c => ?_) (UpBwdRefIdeal.Value.run m' g')
  obtain ⟨h0, h1, h2, h3, h4, h5⟩ := h c
  obtain ⟨r0, r1, r2, r3, r4, r5, k⟩ := hr c
  refine ⟨r0.trans ?_, r1.trans ?_, r2.trans ?_, r3.trans ?_, r4.trans ?_, r5.trans ?_, k⟩
  · rw [h0, h1]
    exact UpBwdRefIdeal.Read.val_main_v105_eq ..
  · rw [h0, h1]
    exact UpBwdRefIdeal.Read.val_main_v106_eq ..
  · refine (UpBwdRefIdeal.Read.val_main_v107_eq m' c).trans ?_
    rw [h0, h1, h2, h3, h4, h5]
  · rw [h0, h1, h2, h3]
    exact UpBwdRefIdeal.Read.val_main_v108_eq ..
  · refine (UpBwdRefIdeal.Read.val_main_v109_eq m' c).trans ?_
    rw [h0, h2, h3, h4]
  · refine (UpBwdRefIdeal.Read.val_main_v110_eq m' c).trans ?_
    rw [h0, h2, h3, h4]

end Cert

end
-- ==== Proof.GluProjValue.lean ====
/- The gated rows and their product with a matrix, in the forward pass, over the extended reals. -/
module

public import proofs.«01_k».proof.Proof.Layout
public import proofs.«01_k».proof.Proof.Gen.GluProjIdeal.Value
public import proofs.«01_k».proof.Proof.Gen.GluProjRefIdeal.Read

@[expose] public section

set_option maxRecDepth 16384

noncomputable section

namespace Cert.GluProjIdeal.Hand

open Cert.GluProjIdeal Cert.GluProjIdeal.Gen Idealize.ShloMosaic Idealize.ShloMosaic.TcCoe Idealize.SL.Sem
open Idealize.ShloMosaic.ValueIdx Cert.Common
open Idealize.ShloMosaic.Pipeline (Dat)
open Cert.GluProjRefIdeal.Read

section AnyFloat
variable {F : FTy → Type} [FloatOps F]

/-- What a point stores as the gated rows, in any arithmetic. -/
theorem out_3 (x0 : Vec F S688x1024 .bf16) (x1 : Vec F S1024x1024 .bf16) (x2 : Vec F S1024x1024 .bf16) :
    out0_3 x0 x1 x2 = k0_pay2 x0 x1 := by
  unfold out0_3
  rw [View.canon_unit_zero hz]
  simp only [View.ld_unit_zero (S := S688x1024) hz, View.ld_unit_zero (S := S1024x1024) hz]

/-- What a point stores as their product, in any arithmetic. -/
theorem out_4 (x0 : Vec F S688x1024 .bf16) (x1 : Vec F S1024x1024 .bf16) (x2 : Vec F S1024x1024 .bf16) :
    out0_4 x0 x1 x2 = k0_pay3 x0 x1 x2 := by
  unfold out0_4
  rw [View.canon_unit_zero hz]
  simp only [View.ld_unit_zero (S := S688x1024) hz, View.ld_unit_zero (S := S1024x1024) hz]

end AnyFloat

/-- A product of a block of rows with a matrix, at an index. -/
theorem rows_mm {φ₁ φ₂ : FTy} (lhs : FVec Ideal S688x1024 φ₁) (rhs : FVec Ideal S1024x1024 φ₂) (j : S688x1024.Idx) :
    matmul dot_S688x1024_S1024x1024_S688x1024_1_0_0_1_n_n none lhs rhs (constant S688x1024 .f32 0x00000000#32) j
      = ∑ k : Fin 1024, lhs (ix2 (j 0) k) * rhs (ix2 k (j 1)) :=
  Common.mm_nn _ rfl rfl rfl rfl (fun _ _ => rfl) (fun _ _ => rfl) lhs rhs j

variable (m : (ℓ : Loc nD τ sig) → Buf (Elt Ideal) ℓ) (c : Dev nD)

/-- The rows, the gate's matrix and the projection's. -/
abbrev Y : (⟨S8256x1024, .bf16⟩ : BufTy).Contents (Elt Ideal) := m ((c.tc : Thread nD τ).loc main_arg0)
abbrev Wg : (⟨S1024x1024, .f32⟩ : BufTy).Contents (Elt Ideal) := m ((c.tc : Thread nD τ).loc main_arg1)
abbrev Wp : (⟨S1024x1024, .f32⟩ : BufTy).Contents (Elt Ideal) := m ((c.tc : Thread nD τ).loc main_arg2)

/-- The region finds the matrices unchanged by the host's casts. -/
theorem V_wg : (V m c main_v0 : S1024x1024.Idx → EReal) = Wg m c := by
  unfold V
  after_results
  rfl

/-- The region finds the matrices unchanged by the host's casts. -/
theorem V_wp : (V m c main_v1 : S1024x1024.Idx → EReal) = Wp m c := by
  unfold V
  after_results
  rfl

theorem N_eq : cfg0.N = 12 * 1 := N_0

/-- Row `r` of the block of rows of a point. -/
abbrev row (t : Fin cfg0.N) (r : Fin 688) : Fin 8256 := rowOf t r

theorem idx_0 : ∀ t : Fin cfg0.N, win0_0.index t (0 : Fin 2) = t.val % 12 ∧ win0_0.index t (1 : Fin 2) = 0 :=
  (by decide +kernel : ∀ t : Fin grid0.N, _)

theorem idx_3 : ∀ t : Fin cfg0.N, win0_3.index t (0 : Fin 2) = t.val % 12 ∧ win0_3.index t (1 : Fin 2) = 0 :=
  (by decide +kernel : ∀ t : Fin grid0.N, _)

theorem idx_1 : ∀ t : Fin cfg0.N, win0_1.index t (0 : Fin 2) = 0 ∧ win0_1.index t (1 : Fin 2) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

/-- A block of the rows. -/
theorem blk_y (t : Fin cfg0.N) (r : Fin 688) (k : Fin 1024) :
    (iblk m c 0 t : Vec Ideal S688x1024 .bf16) (ix2 r k) = Y m c (ix2 (row t r) k) := by
  obtain ⟨h0, h1⟩ := idx_0 t
  unfold iblk
  rw [View.read_apply]
  show (V m c main_arg0 : S8256x1024.Idx → EReal) _ = _
  rw [V_main_arg0]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- The gate's matrix. -/
theorem blk_wg (t : Fin cfg0.N) (k : Fin 1024) (n : Fin 1024) :
    (iblk m c 1 t : Vec Ideal S1024x1024 .bf16) (ix2 k n) = Wg m c (ix2 k n) := by
  obtain ⟨h0, h1⟩ := idx_1 t
  unfold iblk
  rw [View.read_apply]
  show (V m c main_v0 : S1024x1024.Idx → EReal) _ = _
  rw [V_wg]
  congr 1
  funext a
  apply Fin.ext
  match a with
  | ⟨0, _⟩ => show win0_1.index t 0 * 1024 + 1 * k.val = k.val; omega
  | ⟨1, _⟩ => show win0_1.index t 1 * 1024 + 1 * n.val = n.val; omega

/-- The projection's matrix. -/
theorem blk_wp (t : Fin cfg0.N) (k : Fin 1024) (n : Fin 1024) :
    (iblk m c 2 t : Vec Ideal S1024x1024 .bf16) (ix2 k n) = Wp m c (ix2 k n) := by
  obtain ⟨h0, h1⟩ := idx_2 t
  unfold iblk
  rw [View.read_apply]
  show (V m c main_v1 : S1024x1024.Idx → EReal) _ = _
  rw [V_wp]
  congr 1
  funext a
  apply Fin.ext
  match a with
  | ⟨0, _⟩ => show win0_2.index t 0 * 1024 + 1 * k.val = k.val; omega
  | ⟨1, _⟩ => show win0_2.index t 1 * 1024 + 1 * n.val = n.val; omega

/-- Reading a block of rows out of an array. -/
theorem read_3 (G : S8256x1024.Idx → EReal) (t : Fin cfg0.N) (r : Fin 688) (k : Fin 1024) :
    (((cfg0.win 3).blk t).view.read (Elt Ideal) G : S688x1024.Idx → EReal) (ix2 r k) = G (ix2 (row t r) k) := by
  obtain ⟨h0, h1⟩ := idx_3 t
  refine congrArg G (funext fun a => Fin.ext ?_)
  match a with
  | ⟨0, _⟩ => show win0_3.index t 0 * 688 + 1 * r.val = 688 * (t.val % 12) + r.val; omega
  | ⟨1, _⟩ => show win0_3.index t 1 * 1024 + 1 * k.val = k.val; omega

/-- Every row lies in a block. -/
theorem cover_3 (i : S8256x1024.Idx) : ∃ t : Fin cfg0.N, (cfg0.win 3).flush t = true ∧ i ∈ ((View.whole main_v2_0).slice (win0_3.rect t)).set := by
  have hi0 : (i 0 : Nat) < 8256 := (i 0).isLt
  have hi1 : (i 1 : Nat) < 1024 := (i 1).isLt
  have hN := N_eq
  obtain ⟨t, ht⟩ : ∃ t : Fin cfg0.N, t.val = (i 0 : Nat) / 688 := ⟨⟨_, by omega⟩, rfl⟩
  obtain ⟨h0, h1⟩ := idx_3 t
  refine ⟨t, (by decide +kernel : ∀ t : Fin grid0.N, (cfg0.win 3).flush t = true) t, ?_⟩
  rw [View.set_slice_whole]
  exact mem2 i _ (congrArg (· * 688) h0) (congrArg (· * 1024) h1) (by omega)

/-- Reading a block of rows out of an array. -/
theorem read_4 (G : S8256x1024.Idx → EReal) (t : Fin cfg0.N) (r : Fin 688) (k : Fin 1024) :
    (((cfg0.win 4).blk t).view.read (Elt Ideal) G : S688x1024.Idx → EReal) (ix2 r k) = G (ix2 (row t r) k) := read_3 G t r k

/-- Every row lies in a block. -/
theorem cover_4 (i : S8256x1024.Idx) : ∃ t : Fin cfg0.N, (cfg0.win 4).flush t = true ∧ i ∈ ((View.whole main_v2_1).slice (win0_4.rect t)).set :=
  (cover_3 i).imp fun t h => ⟨(by decide +kernel : ∀ t : Fin grid0.N, (cfg0.win 4).flush t = true) t, h.2⟩

/-- The reference's gate is the sigmoid of the row's product with the matrix. -/
theorem ref_gate (a : Fin 8256) (n : Fin 1024) :
    val_main_v7 (F := Ideal) (Y m c) (Wg m c) (ix2 a n) = Ideal.logistic (∑ k : Fin 1024, Y m c (ix2 a k) * Wg m c (ix2 k n)) := by
  rw [val_main_v7_apply, val_main_v6_apply, val_main_cst_0_apply, val_main_v5_apply, val_main_v4_apply, val_main_cst_apply,
    val_main_v3_apply, val_main_v2_apply, val_main_v1_apply]
  simp only [Ideal.ofBits_def, one_word]
  refine (congrArg (fun z => Ideal.logistic z) (Finset.sum_congr rfl fun k _ => ?_))
  have e1 : lidx_main_v1 (ix2 a n) k = ix2 a k := funext fun b => by match b with | ⟨0, _⟩ => rfl | ⟨1, _⟩ => rfl
  have e2 : ridx_main_v1 (ix2 a n) k = ix2 k n := funext fun b => by match b with | ⟨0, _⟩ => rfl | ⟨1, _⟩ => rfl
  rw [e1, e2]
  rfl

/-- The kernel's gated rows are the reference's. -/
theorem gated (t : Fin cfg0.N) (r : Fin 688) (n : Fin 1024) :
    (k0_pay1 (iblk m c 0 t) (iblk m c 1 t) : S688x1024.Idx → EReal) (ix2 r n) = val_main_v8 (F := Ideal) (Y m c) (Wg m c) (ix2 (row t r) n) := by
  rw [val_main_v8_apply, ref_gate, val_main_v0_apply]
  unfold k0_pay1
  dsimp only
  rw [shapeCast_self]
  refine congrArg₂ (· * ·) (blk_y m c t r n) ?_
  show Ideal.logistic (matmul (F := Ideal) (φ₁ := .bf16) (φ₂ := .bf16) _ none _ _ _ (ix2 r n)) = _
  rw [rows_mm]
  refine congrArg Ideal.logistic (Finset.sum_congr rfl fun k _ => ?_)
  exact congrArg₂ (· * ·) (blk_y m c t r k) (blk_wg m c t k n)

/-- What a point stores as the gated rows. -/
theorem point_3 (t : Fin cfg0.N) (r : Fin 688) (n : Fin 1024) :
    (k0_pay2 (iblk m c 0 t) (iblk m c 1 t) : S688x1024.Idx → EReal) (ix2 r n) = val_main_v9 (F := Ideal) (Y m c) (Wg m c) (ix2 (row t r) n) := by
  rw [val_main_v9_apply]
  exact gated m c t r n

/-- What a point stores as their product. -/
theorem point_4 (t : Fin cfg0.N) (r : Fin 688) (n : Fin 1024) :
    (k0_pay3 (iblk m c 0 t) (iblk m c 1 t) (iblk m c 2 t) : S688x1024.Idx → EReal) (ix2 r n) = val_main_v11 (F := Ideal) (Y m c) (Wg m c) (Wp m c) (ix2 (row t r) n) := by
  rw [val_main_v11_apply]
  unfold k0_pay3
  show matmul (F := Ideal) (φ₁ := .bf16) (φ₂ := .bf16) _ none _ _ _ (ix2 r n) = val_main_v10 (F := Ideal) (Y m c) (Wg m c) (Wp m c) (ix2 (row t r) n)
  rw [rows_mm, val_main_v10_apply]
  refine Finset.sum_congr rfl fun k _ => ?_
  have e1 : lidx_main_v10 (ix2 (row t r) n) k = ix2 (row t r) k := funext fun b => by match b with | ⟨0, _⟩ => rfl | ⟨1, _⟩ => rfl
  have e2 : ridx_main_v10 (ix2 (row t r) n) k = ix2 k n := funext fun b => by match b with | ⟨0, _⟩ => rfl | ⟨1, _⟩ => rfl
  rw [e1, e2]
  refine congrArg₂ (· * ·) (gated m c t r k) ?_
  rw [shapeCast_self]
  exact blk_wp m c t k n

/-- The gated rows after the run. -/
theorem final_3 : (dats m 0 c).arrAt 3 cfg0.N = val_main_v9 (F := Ideal) (Y m c) (Wg m c) :=
  (dats m 0 c).arrAt_eq_of_cover 3 _ (fun t _ => by
    rw [Value.flushed3, out_3]
    generalize hG : val_main_v9 (F := Ideal) (Y m c) (Wg m c) = G
    funext j
    obtain ⟨r, k, rfl⟩ := split2 j
    exact (point_3 m c t r k).trans ((congrFun hG _).trans (read_3 G t r k).symm)) cover_3

/-- Their product after the run. -/
theorem final_4 : (dats m 0 c).arrAt 4 cfg0.N = val_main_v11 (F := Ideal) (Y m c) (Wg m c) (Wp m c) :=
  (dats m 0 c).arrAt_eq_of_cover 4 _ (fun t _ => by
    rw [Value.flushed4, out_4]
    generalize hG : val_main_v11 (F := Ideal) (Y m c) (Wg m c) (Wp m c) = G
    funext j
    obtain ⟨r, k, rfl⟩ := split2 j
    exact (point_4 m c t r k).trans ((congrFun hG _).trans (read_4 G t r k).symm)) cover_4

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v2_0) = val_main_v9 (F := Ideal) (Y m c) (Wg m c)
      ∧ r.2.mem ((c : Thread nD τ).loc main_v2_1) = val_main_v11 (F := Ideal) (Y m c) (Wg m c) (Wp m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final_3 m c), ((h c).2.1).trans (final_4 m c), (h c).2.2⟩)
    (Value.run_blocks m ρ)

end Cert.GluProjIdeal.Hand

end
-- ==== Proof.MergeFwdValue.lean ====
/- The merge of the two branches in the forward pass: the merged rows, their product added to the stream, and its norm,
   over the extended reals. -/
module

public import proofs.«01_k».proof.Proof.Layout
public import proofs.«01_k».proof.Proof.Norm
public import proofs.«01_k».proof.Proof.Gen.MergeFwdIdeal.Value
public import proofs.«01_k».proof.Proof.Gen.MergeFwdRefIdeal.Read

@[expose] public section

set_option maxRecDepth 16384

noncomputable section

namespace Cert.MergeFwdIdeal.Hand

open Cert.MergeFwdIdeal Cert.MergeFwdIdeal.Gen Idealize.ShloMosaic Idealize.ShloMosaic.TcCoe Idealize.SL.Sem
open Idealize.ShloMosaic.ValueIdx Cert.Common
open Idealize.ShloMosaic.Pipeline (Dat)
open Cert.MergeFwdRefIdeal.Read

section AnyFloat
variable {F : FTy → Type} [FloatOps F]

/-- What a point stores as the stream, in any arithmetic. -/
theorem out_8 (x0 : Vec F S688x1024 .bf16) (x1 : Vec F S688x1024 .bf16) (x2 : Vec F S688x1024 .bf16) (x3 : Vec F S688x1024 .bf16) (x4 : Vec F S688x1024 .f32) (x5 : Vec F S1024x1024 .bf16) (x6 : Vec F S1024x1024 .bf16) (x7 : Vec F S1x1024 .f32) :
    out0_8 x0 x1 x2 x3 x4 x5 x6 x7 = k0_pay4 x0 x5 x1 x2 x3 x4 x6 := by
  unfold out0_8
  rw [View.canon_unit_zero hz]
  simp only [View.ld_unit_zero (S := S688x1024) hz, View.ld_unit_zero (S := S1024x1024) hz, View.ld_unit_zero (S := S1x1024) hz]

/-- What it stores as the merged rows. -/
theorem out_9 (x0 : Vec F S688x1024 .bf16) (x1 : Vec F S688x1024 .bf16) (x2 : Vec F S688x1024 .bf16) (x3 : Vec F S688x1024 .bf16) (x4 : Vec F S688x1024 .f32) (x5 : Vec F S1024x1024 .bf16) (x6 : Vec F S1024x1024 .bf16) (x7 : Vec F S1x1024 .f32) :
    out0_9 x0 x1 x2 x3 x4 x5 x6 x7 = k0_pay5 x0 x5 x1 x2 x3 := by
  unfold out0_9
  rw [View.canon_unit_zero hz]
  simp only [View.ld_unit_zero (S := S688x1024) hz, View.ld_unit_zero (S := S1024x1024) hz, View.ld_unit_zero (S := S1x1024) hz]

/-- What it stores as the second branch. -/
theorem out_10 (x0 : Vec F S688x1024 .bf16) (x1 : Vec F S688x1024 .bf16) (x2 : Vec F S688x1024 .bf16) (x3 : Vec F S688x1024 .bf16) (x4 : Vec F S688x1024 .f32) (x5 : Vec F S1024x1024 .bf16) (x6 : Vec F S1024x1024 .bf16) (x7 : Vec F S1x1024 .f32) :
    out0_10 x0 x1 x2 x3 x4 x5 x6 x7 = k0_pay6 x0 x5 := by
  unfold out0_10
  rw [View.canon_unit_zero hz]
  simp only [View.ld_unit_zero (S := S688x1024) hz, View.ld_unit_zero (S := S1024x1024) hz, View.ld_unit_zero (S := S1x1024) hz]

/-- What it stores as the normed rows. -/
theorem out_11 (x0 : Vec F S688x1024 .bf16) (x1 : Vec F S688x1024 .bf16) (x2 : Vec F S688x1024 .bf16) (x3 : Vec F S688x1024 .bf16) (x4 : Vec F S688x1024 .f32) (x5 : Vec F S1024x1024 .bf16) (x6 : Vec F S1024x1024 .bf16) (x7 : Vec F S1x1024 .f32) :
    out0_11 x0 x1 x2 x3 x4 x5 x6 x7 = k0_pay1 (k0_pay4 x0 x5 x1 x2 x3 x4 x6) (k0_pay7 x7) (k0_pay8 x0 x5 x1 x2 x3 x4 x6) := by
  unfold out0_11
  rw [View.canon_unit_zero hz]
  simp only [View.ld_unit_zero (S := S688x1024) hz, View.ld_unit_zero (S := S1024x1024) hz, View.ld_unit_zero (S := S1x1024) hz]

end AnyFloat

/-- A product of a block of rows with a matrix, at an index. -/
theorem rows_mm {φ₁ φ₂ : FTy} (lhs : FVec Ideal S688x1024 φ₁) (rhs : FVec Ideal S1024x1024 φ₂) (j : S688x1024.Idx) :
    matmul dot_S688x1024_S1024x1024_S688x1024_1_0_0_1_n_n none lhs rhs (constant S688x1024 .f32 0x00000000#32) j
      = ∑ k : Fin 1024, lhs (ix2 (j 0) k) * rhs (ix2 k (j 1)) :=
  Common.mm_nn _ rfl rfl rfl rfl (fun _ _ => rfl) (fun _ _ => rfl) lhs rhs j

variable (m : (ℓ : Loc nD τ sig) → Buf (Elt Ideal) ℓ) (c : Dev nD)

/-- The second branch's rows, the first branch, the projection that holds the gates, the stream, the two matrices and the norm's
    weights. -/
abbrev Yb : (⟨S8256x1024, .bf16⟩ : BufTy).Contents (Elt Ideal) := m ((c.tc : Thread nD τ).loc main_arg0)
abbrev A : (⟨S8256x1024, .bf16⟩ : BufTy).Contents (Elt Ideal) := m ((c.tc : Thread nD τ).loc main_arg1)
abbrev P : (⟨S8256x7168, .bf16⟩ : BufTy).Contents (Elt Ideal) := m ((c.tc : Thread nD τ).loc main_arg2)
abbrev H : (⟨S8256x1024, .f32⟩ : BufTy).Contents (Elt Ideal) := m ((c.tc : Thread nD τ).loc main_arg3)
abbrev Wb : (⟨S1024x1024, .f32⟩ : BufTy).Contents (Elt Ideal) := m ((c.tc : Thread nD τ).loc main_arg4)
abbrev Wo : (⟨S1024x1024, .f32⟩ : BufTy).Contents (Elt Ideal) := m ((c.tc : Thread nD τ).loc main_arg5)
abbrev Gm : (⟨S1024, .f32⟩ : BufTy).Contents (Elt Ideal) := m ((c.tc : Thread nD τ).loc main_arg6)

/-- The region finds the matrices unchanged by the host's casts. -/
theorem V_wb : (V m c main_v0 : S1024x1024.Idx → EReal) = Wb m c := by
  unfold V
  after_results_simp
  rfl

/-- The region finds the matrices unchanged by the host's casts. -/
theorem V_wo : (V m c main_v1 : S1024x1024.Idx → EReal) = Wo m c := by
  unfold V
  after_results_simp
  rfl

/-- The region finds the norm's weights as one row. -/
theorem V_g : (V m c main_v2 : S1x1024.Idx → EReal) = shapeCast S1x1024 (Gm m c : S1024.Idx → EReal) shapeCasts_S1024_S1x1024 := by
  unfold V
  after_results_simp
  rfl

theorem N_eq : cfg0.N = 12 * 1 := N_0

/-- Row `r` of the block of rows of a point. -/
abbrev row (t : Fin cfg0.N) (r : Fin 688) : Fin 8256 := rowOf t r

/-- Column `k` of the gate that begins at column `o` of the projection. -/
abbrev col (o : ℕ) (ho : o + 1024 ≤ 7168) (k : Fin 1024) : Fin 7168 := ⟨o + k.val, by have := k.isLt; omega⟩

theorem idx_0 : ∀ t : Fin cfg0.N, win0_0.index t (0 : Fin 2) = t.val % 12 ∧ win0_0.index t (1 : Fin 2) = 0 :=
  (by decide +kernel : ∀ t : Fin grid0.N, _)

theorem idx_1 : ∀ t : Fin cfg0.N, win0_1.index t (0 : Fin 2) = t.val % 12 ∧ win0_1.index t (1 : Fin 2) = 0 :=
  (by decide +kernel : ∀ t : Fin grid0.N, _)

theorem idx_4 : ∀ t : Fin cfg0.N, win0_4.index t (0 : Fin 2) = t.val % 12 ∧ win0_4.index t (1 : Fin 2) = 0 :=
  (by decide +kernel : ∀ t : Fin grid0.N, _)

theorem idx_8 : ∀ t : Fin cfg0.N, win0_8.index t (0 : Fin 2) = t.val % 12 ∧ win0_8.index t (1 : Fin 2) = 0 :=
  (by decide +kernel : ∀ t : Fin grid0.N, _)

theorem idx_2 : ∀ t : Fin cfg0.N, win0_2.index t (0 : Fin 2) = t.val % 12 ∧ win0_2.index t (1 : Fin 2) = 5 :=
  (by decide +kernel : ∀ t : Fin grid0.N, _)

theorem idx_3 : ∀ t : Fin cfg0.N, win0_3.index t (0 : Fin 2) = t.val % 12 ∧ win0_3.index t (1 : Fin 2) = 6 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_7 : ∀ t : Fin cfg0.N, win0_7.index t (0 : Fin 2) = 0 ∧ win0_7.index t (1 : Fin 2) = 0 :=
  (by decide +kernel : ∀ t : Fin grid0.N, _)

/-- A block of the second branch's rows. -/
theorem blk_yb (t : Fin cfg0.N) (r : Fin 688) (k : Fin 1024) :
    (iblk m c 0 t : Vec Ideal S688x1024 .bf16) (ix2 r k) = Yb m c (ix2 (row t r) k) := by
  obtain ⟨h0, h1⟩ := idx_0 t
  unfold iblk
  rw [View.read_apply]
  show (V m c main_arg0 : S8256x1024.Idx → EReal) _ = _
  rw [V_main_arg0]
  congr 1
  funext a
  apply Fin.ext
  match a with
  | ⟨0, _⟩ => show win0_0.index t 0 * 688 + 1 * r.val = 688 * (t.val % 12) + r.val; omega
  | ⟨1, _⟩ => show win0_0.index t 1 * 1024 + 1 * k.val = k.val; omega

/-- A block of the first branch. -/
theorem blk_a (t : Fin cfg0.N) (r : Fin 688) (k : Fin 1024) :
    (iblk m c 1 t : Vec Ideal S688x1024 .bf16) (ix2 r k) = A m c (ix2 (row t r) k) := by
  obtain ⟨h0, h1⟩ := idx_1 t
  unfold iblk
  rw [View.read_apply]
  show (V m c main_arg1 : S8256x1024.Idx → EReal) _ = _
  rw [V_main_arg1]
  congr 1
  funext a
  apply Fin.ext
  match a with
  | ⟨0, _⟩ => show win0_1.index t 0 * 688 + 1 * r.val = 688 * (t.val % 12) + r.val; omega
  | ⟨1, _⟩ => show win0_1.index t 1 * 1024 + 1 * k.val = k.val; omega

/-- A block of the first branch's gate. -/
theorem blk_p2 (t : Fin cfg0.N) (r : Fin 688) (k : Fin 1024) :
    (iblk m c 2 t : Vec Ideal S688x1024 .bf16) (ix2 r k) = P m c (ix2 (row t r) (col 5120 (by decide) k)) := by
  obtain ⟨h0, h1⟩ := idx_2 t
  unfold iblk
  rw [View.read_apply]
  show (V m c main_arg2 : S8256x7168.Idx → EReal) _ = _
  rw [V_main_arg2]
  congr 1
  funext a
  apply Fin.ext
  match a with
  | ⟨0, _⟩ => show win0_2.index t 0 * 688 + 1 * r.val = 688 * (t.val % 12) + r.val; omega
  | ⟨1, _⟩ => show win0_2.index t 1 * 1024 + 1 * k.val = 5120 + k.val; omega

/-- A block of the second branch's gate. -/
theorem blk_p3 (t : Fin cfg0.N) (r : Fin 688) (k : Fin 1024) :
    (iblk m c 3 t : Vec Ideal S688x1024 .bf16) (ix2 r k) = P m c (ix2 (row t r) (col 6144 (by decide) k)) := by
  obtain ⟨h0, h1⟩ := idx_3 t
  unfold iblk
  rw [View.read_apply]
  show (V m c main_arg2 : S8256x7168.Idx → EReal) _ = _
  rw [V_main_arg2]
  congr 1
  funext a
  apply Fin.ext
  match a with
  | ⟨0, _⟩ => show win0_3.index t 0 * 688 + 1 * r.val = 688 * (t.val % 12) + r.val; omega
  | ⟨1, _⟩ => show win0_3.index t 1 * 1024 + 1 * k.val = 6144 + k.val; omega

/-- A block of the stream. -/
theorem blk_h (t : Fin cfg0.N) (r : Fin 688) (k : Fin 1024) :
    (iblk m c 4 t : Vec Ideal S688x1024 .f32) (ix2 r k) = H m c (ix2 (row t r) k) := by
  obtain ⟨h0, h1⟩ := idx_4 t
  unfold iblk
  rw [View.read_apply]
  show (V m c main_arg3 : S8256x1024.Idx → EReal) _ = _
  rw [V_main_arg3]
  congr 1
  funext a
  apply Fin.ext
  match a with
  | ⟨0, _⟩ => show win0_4.index t 0 * 688 + 1 * r.val = 688 * (t.val % 12) + r.val; omega
  | ⟨1, _⟩ => show win0_4.index t 1 * 1024 + 1 * k.val = k.val; omega

/-- The second branch's matrix. -/
theorem blk_wb (t : Fin cfg0.N) (k : Fin 1024) (n : Fin 1024) :
    (iblk m c 5 t : Vec Ideal S1024x1024 .bf16) (ix2 k n) = Wb m c (ix2 k n) := by
  obtain ⟨h0, h1⟩ := idx_5 t
  unfold iblk
  rw [View.read_apply]
  show (V m c main_v0 : S1024x1024.Idx → EReal) _ = _
  rw [V_wb]
  congr 1
  funext a
  apply Fin.ext
  match a with
  | ⟨0, _⟩ => show win0_5.index t 0 * 1024 + 1 * k.val = k.val; omega
  | ⟨1, _⟩ => show win0_5.index t 1 * 1024 + 1 * n.val = n.val; omega

/-- The output's matrix. -/
theorem blk_wo (t : Fin cfg0.N) (k : Fin 1024) (n : Fin 1024) :
    (iblk m c 6 t : Vec Ideal S1024x1024 .bf16) (ix2 k n) = Wo m c (ix2 k n) := by
  obtain ⟨h0, h1⟩ := idx_6 t
  unfold iblk
  rw [View.read_apply]
  show (V m c main_v1 : S1024x1024.Idx → EReal) _ = _
  rw [V_wo]
  congr 1
  funext a
  apply Fin.ext
  match a with
  | ⟨0, _⟩ => show win0_6.index t 0 * 1024 + 1 * k.val = k.val; omega
  | ⟨1, _⟩ => show win0_6.index t 1 * 1024 + 1 * n.val = n.val; omega

/-- The norm's weights. -/
theorem blk_g (t : Fin cfg0.N) (k : Fin 1024) : (iblk m c 7 t : Vec Ideal S1x1024 .f32) (ix2 (0 : Fin 1) k) = Gm m c (ix1 k) := by
  obtain ⟨h0, h1⟩ := idx_7 t
  unfold iblk
  rw [View.read_apply]
  show (V m c main_v2 : S1x1024.Idx → EReal) _ = _
  rw [V_g]
  refine Eq.trans (congrArg _ (funext fun a => Fin.ext ?_)) (as_row _ _ k)
  match a with
  | ⟨0, _⟩ => show win0_7.index t 0 * 1 + 1 * 0 = 0; rw [h0]
  | ⟨1, _⟩ => show win0_7.index t 1 * 1024 + 1 * k.val = k.val; omega

/-- Reading a block of rows out of an array. -/
theorem read_8 (G : S8256x1024.Idx → EReal) (t : Fin cfg0.N) (r : Fin 688) (k : Fin 1024) :
    (((cfg0.win 8).blk t).view.read (Elt Ideal) G : S688x1024.Idx → EReal) (ix2 r k) = G (ix2 (row t r) k) := by
  obtain ⟨h0, h1⟩ := idx_8 t
  refine congrArg G (funext fun a => Fin.ext ?_)
  match a with
  | ⟨0, _⟩ => show win0_8.index t 0 * 688 + 1 * r.val = 688 * (t.val % 12) + r.val; omega
  | ⟨1, _⟩ => show win0_8.index t 1 * 1024 + 1 * k.val = k.val; omega

/-- Every row lies in a block. -/
theorem cover_8 (i : S8256x1024.Idx) : ∃ t : Fin cfg0.N, (cfg0.win 8).flush t = true ∧ i ∈ ((View.whole main_v3_0).slice (win0_8.rect t)).set := by
  have hi0 : (i 0 : Nat) < 8256 := (i 0).isLt
  have hi1 : (i 1 : Nat) < 1024 := (i 1).isLt
  have hN := N_eq
  obtain ⟨t, ht⟩ : ∃ t : Fin cfg0.N, t.val = (i 0 : Nat) / 688 := ⟨⟨_, by omega⟩, rfl⟩
  obtain ⟨h0, h1⟩ := idx_8 t
  refine ⟨t, (by decide +kernel : ∀ t : Fin grid0.N, (cfg0.win 8).flush t = true) t, ?_⟩
  rw [View.set_slice_whole]
  exact mem2 i _ (congrArg (· * 688) h0) (congrArg (· * 1024) h1) (by omega)

/-- Reading a block of rows out of an array. -/
theorem read_9 (G : S8256x1024.Idx → EReal) (t : Fin cfg0.N) (r : Fin 688) (k : Fin 1024) :
    (((cfg0.win 9).blk t).view.read (Elt Ideal) G : S688x1024.Idx → EReal) (ix2 r k) = G (ix2 (row t r) k) := read_8 G t r k

/-- Every row lies in a block. -/
theorem cover_9 (i : S8256x1024.Idx) : ∃ t : Fin cfg0.N, (cfg0.win 9).flush t = true ∧ i ∈ ((View.whole main_v3_1).slice (win0_9.rect t)).set :=
  (cover_8 i).imp fun t h => ⟨(by decide +kernel : ∀ t : Fin grid0.N, (cfg0.win 9).flush t = true) t, h.2⟩

/-- Reading a block of rows out of an array. -/
theorem read_10 (G : S8256x1024.Idx → EReal) (t : Fin cfg0.N) (r : Fin 688) (k : Fin 1024) :
    (((cfg0.win 10).blk t).view.read (Elt Ideal) G : S688x1024.Idx → EReal) (ix2 r k) = G (ix2 (row t r) k) := read_8 G t r k

/-- Every row lies in a block. -/
theorem cover_10 (i : S8256x1024.Idx) : ∃ t : Fin cfg0.N, (cfg0.win 10).flush t = true ∧ i ∈ ((View.whole main_v3_2).slice (win0_10.rect t)).set :=
  (cover_8 i).imp fun t h => ⟨(by decide +kernel : ∀ t : Fin grid0.N, (cfg0.win 10).flush t = true) t, h.2⟩

/-- Reading a block of rows out of an array. -/
theorem read_11 (G : S8256x1024.Idx → EReal) (t : Fin cfg0.N) (r : Fin 688) (k : Fin 1024) :
    (((cfg0.win 11).blk t).view.read (Elt Ideal) G : S688x1024.Idx → EReal) (ix2 r k) = G (ix2 (row t r) k) := read_8 G t r k

/-- Every row lies in a block. -/
theorem cover_11 (i : S8256x1024.Idx) : ∃ t : Fin cfg0.N, (cfg0.win 11).flush t = true ∧ i ∈ ((View.whole main_v3_3).slice (win0_11.rect t)).set :=
  (cover_8 i).imp fun t h => ⟨(by decide +kernel : ∀ t : Fin grid0.N, (cfg0.win 11).flush t = true) t, h.2⟩

/-- The reference's gate of the first branch. -/
theorem ref_gate_a (a : Fin 8256) (k : Fin 1024) :
    val_main_v9 (F := Ideal) (P m c) (ix2 a k) = Ideal.logistic (P m c (ix2 a (col 5120 (by decide) k))) := by
  rw [val_main_v9_apply, val_main_v8_apply, val_main_cst_0_apply, val_main_v7_apply, val_main_v6_apply, val_main_cst_apply, val_main_v5_apply, val_main_v4_apply, val_main_v3_apply, val_main_v2_apply]
  simp only [Ideal.ofBits_def, one_word]
  refine congrArg (fun z => Ideal.logistic (P m c z)) (funext fun b => Fin.ext ?_)
  match b with
  | ⟨0, _⟩ => rfl
  | ⟨1, _⟩ => show 5120 + k.val = 5120 + k.val; rfl

/-- The reference's gate of the second branch. -/
theorem ref_gate_b (a : Fin 8256) (k : Fin 1024) :
    val_main_v18 (F := Ideal) (P m c) (ix2 a k) = Ideal.logistic (P m c (ix2 a (col 6144 (by decide) k))) := by
  rw [val_main_v18_apply, val_main_v17_apply, val_main_cst_2_apply, val_main_v16_apply, val_main_v15_apply, val_main_cst_1_apply, val_main_v14_apply, val_main_v13_apply, val_main_v12_apply, val_main_v2_apply]
  simp only [Ideal.ofBits_def, one_word]
  refine congrArg (fun z => Ideal.logistic (P m c z)) (funext fun b => Fin.ext ?_)
  match b with
  | ⟨0, _⟩ => rfl
  | ⟨1, _⟩ => show 6144 + k.val = 6144 + k.val; rfl

/-- The kernel's second branch is the reference's. -/
theorem branch (t : Fin cfg0.N) (r : Fin 688) (n : Fin 1024) :
    (k0_pay2 (iblk m c 0 t) (iblk m c 5 t) : S688x1024.Idx → EReal) (ix2 r n) = val_main_v1 (F := Ideal) (Yb m c) (Wb m c) (ix2 (row t r) n) := by
  unfold k0_pay2
  show matmul (F := Ideal) (φ₁ := .bf16) (φ₂ := .bf16) _ none _ _ _ (ix2 r n) = _
  rw [rows_mm, val_main_v1_apply]
  refine Finset.sum_congr rfl fun k _ => ?_
  have e1 : lidx_main_v1 (ix2 (row t r) n) k = ix2 (row t r) k := funext fun b => by match b with | ⟨0, _⟩ => rfl | ⟨1, _⟩ => rfl
  have e2 : ridx_main_v1 (ix2 (row t r) n) k = ix2 k n := funext fun b => by match b with | ⟨0, _⟩ => rfl | ⟨1, _⟩ => rfl
  rw [e1, e2]
  refine congrArg₂ (· * ·) (blk_yb m c t r k) ?_
  rw [shapeCast_self]
  exact blk_wb m c t k n

/-- The kernel's merged rows are the reference's. -/
theorem merged (t : Fin cfg0.N) (r : Fin 688) (n : Fin 1024) :
    (k0_pay3 (iblk m c 0 t) (iblk m c 5 t) (iblk m c 1 t) (iblk m c 2 t) (iblk m c 3 t) : S688x1024.Idx → EReal) (ix2 r n)
      = val_main_v20 (F := Ideal) (Yb m c) (A m c) (P m c) (Wb m c) (ix2 (row t r) n) := by
  rw [val_main_v20_apply, val_main_v11_apply, val_main_v19_apply, ref_gate_a, ref_gate_b, val_main_v10_apply]
  unfold k0_pay3
  exact congrArg₂ (· + ·) (congrArg₂ (· * ·) (congrArg Ideal.logistic (blk_p2 m c t r n)) (blk_a m c t r n))
    (congrArg₂ (· * ·) (congrArg Ideal.logistic (blk_p3 m c t r n)) (branch m c t r n))

/-- What a point stores as the stream. -/
theorem point_8 (t : Fin cfg0.N) (r : Fin 688) (n : Fin 1024) :
    (k0_pay4 (iblk m c 0 t) (iblk m c 5 t) (iblk m c 1 t) (iblk m c 2 t) (iblk m c 3 t) (iblk m c 4 t) (iblk m c 6 t) : S688x1024.Idx → EReal) (ix2 r n)
      = val_main_v22 (F := Ideal) (Yb m c) (A m c) (P m c) (H m c) (Wb m c) (Wo m c) (ix2 (row t r) n) := by
  rw [val_main_v22_apply]
  unfold k0_pay4
  refine congrArg₂ (· + ·) (blk_h m c t r n) ?_
  show matmul (F := Ideal) (φ₁ := .bf16) (φ₂ := .bf16) _ none _ _ _ (ix2 r n) = _
  rw [rows_mm, val_main_v21_apply]
  refine Finset.sum_congr rfl fun k _ => ?_
  have e1 : lidx_main_v21 (ix2 (row t r) n) k = ix2 (row t r) k := funext fun b => by match b with | ⟨0, _⟩ => rfl | ⟨1, _⟩ => rfl
  have e2 : ridx_main_v21 (ix2 (row t r) n) k = ix2 k n := funext fun b => by match b with | ⟨0, _⟩ => rfl | ⟨1, _⟩ => rfl
  rw [e1, e2]
  refine congrArg₂ (· * ·) (merged m c t r k) ?_
  rw [shapeCast_self]
  exact blk_wo m c t k n

/-- What a point stores as the merged rows. -/
theorem point_9 (t : Fin cfg0.N) (r : Fin 688) (n : Fin 1024) :
    (k0_pay5 (iblk m c 0 t) (iblk m c 5 t) (iblk m c 1 t) (iblk m c 2 t) (iblk m c 3 t) : S688x1024.Idx → EReal) (ix2 r n)
      = val_main_v23 (F := Ideal) (Yb m c) (A m c) (P m c) (Wb m c) (ix2 (row t r) n) := by
  rw [val_main_v23_apply]
  exact merged m c t r n

/-- What a point stores as the second branch. -/
theorem point_10 (t : Fin cfg0.N) (r : Fin 688) (n : Fin 1024) :
    (k0_pay6 (iblk m c 0 t) (iblk m c 5 t) : S688x1024.Idx → EReal) (ix2 r n) = val_main_v24 (F := Ideal) (Yb m c) (Wb m c) (ix2 (row t r) n) := by
  rw [val_main_v24_apply]
  exact branch m c t r n

/-- The reference's mean square of a row of the stream. -/
theorem ref_mean (a : Fin 8256) :
    val_main_v31 (F := Ideal) (Yb m c) (A m c) (P m c) (H m c) (Wb m c) (Wo m c) (ix2 a (0 : Fin 1)) = meanSq (fun k => val_main_v22 (F := Ideal) (Yb m c) (A m c) (P m c) (H m c) (Wb m c) (Wo m c) (ix2 a k)) := by
  rw [val_main_v31_apply, val_main_v29_apply, val_main_v27_apply, val_main_v26_apply, val_main_cst_3_apply, val_main_v28_apply, val_main_cst_4_apply,
    val_main_v30_apply, val_main_cst_5_apply]
  unfold meanSq
  refine congrArg₂ (· + ·) (congrArg₂ Ideal.div ?_ rfl) rfl
  refine (congrArg₂ (· + ·) zero_word rfl).trans ((zero_add (M := EReal) _).trans (Finset.sum_congr rfl fun k _ => ?_))
  have e : idx_main_v26 (idx_main_v27 (ix2 a (0 : Fin 1))) k = ix2 a k := funext fun b => by match b with | ⟨0, _⟩ => rfl | ⟨1, _⟩ => rfl
  rw [e, val_main_v25_apply]
  rfl

/-- The reference's normed rows. -/
theorem ref_norm (a : Fin 8256) (k : Fin 1024) :
    val_main_v38 (F := Ideal) (Yb m c) (A m c) (P m c) (H m c) (Wb m c) (Wo m c) (Gm m c) (ix2 a k) = (val_main_v22 (F := Ideal) (Yb m c) (A m c) (P m c) (H m c) (Wb m c) (Wo m c) (ix2 a k) : EReal) * Ideal.rsqrt (meanSq (fun n => val_main_v22 (F := Ideal) (Yb m c) (A m c) (P m c) (H m c) (Wb m c) (Wo m c) (ix2 a n))) * Gm m c (ix1 k) := by
  rw [val_main_v38_apply, val_main_v37_apply, val_main_v34_apply, val_main_v33_apply, val_main_v36_apply, val_main_v35_apply]
  have e : idx_main_v33 (ix2 a k) = ix2 a (0 : Fin 1) := funext fun b => by match b with | ⟨0, _⟩ => rfl | ⟨1, _⟩ => rfl
  rw [e, val_main_v32_apply, ref_mean]
  refine congrArg₂ (· * ·) rfl (congrArg _ (funext fun b => Fin.ext ?_))
  match b with
  | ⟨0, _⟩ => rfl

/-- What a point stores as the normed rows. -/
theorem point_11 (t : Fin cfg0.N) (r : Fin 688) (k : Fin 1024) :
    (k0_pay1 (k0_pay4 (iblk m c 0 t) (iblk m c 5 t) (iblk m c 1 t) (iblk m c 2 t) (iblk m c 3 t) (iblk m c 4 t) (iblk m c 6 t)) (k0_pay7 (iblk m c 7 t))
        (k0_pay8 (iblk m c 0 t) (iblk m c 5 t) (iblk m c 1 t) (iblk m c 2 t) (iblk m c 3 t) (iblk m c 4 t) (iblk m c 6 t)) : S688x1024.Idx → EReal) (ix2 r k)
      = val_main_v38 (F := Ideal) (Yb m c) (A m c) (P m c) (H m c) (Wb m c) (Wo m c) (Gm m c) (ix2 (row t r) k) := by
  rw [ref_norm]
  unfold k0_pay1 k0_pay7 k0_pay8
  dsimp only
  have h8 := point_8 m c t r
  generalize k0_pay4 (F := Ideal) (iblk m c 0 t) (iblk m c 5 t) (iblk m c 1 t) (iblk m c 2 t) (iblk m c 3 t) (iblk m c 4 t) (iblk m c 6 t) = x at h8 ⊢
  refine congrArg₂ (· * ·) (congrArg₂ (· * ·) (h8 k) ?_) ?_
  · refine (repeat_column _ _ r k).trans (congrArg Ideal.rsqrt ?_)
    unfold meanSq
    refine congrArg₂ (· + ·) (congrArg₂ Ideal.div ?_ rfl) rfl
    refine (as_column _ _ r).trans ((row_sum _ _ _ _ _ r).trans (Finset.sum_congr rfl fun n _ => ?_))
    exact congrArg₂ (· * ·) (h8 n) (h8 n)
  · refine (repeat_row _ _ r k).trans ?_
    rw [shapeCast_self]
    exact blk_g m c t k

/-- The stream after the run. -/
theorem final_8 : (dats m 0 c).arrAt 8 cfg0.N = val_main_v22 (F := Ideal) (Yb m c) (A m c) (P m c) (H m c) (Wb m c) (Wo m c) :=
  (dats m 0 c).arrAt_eq_of_cover 8 _ (fun t _ => by
    rw [Value.flushed8, out_8]
    generalize hG : val_main_v22 (F := Ideal) (Yb m c) (A m c) (P m c) (H m c) (Wb m c) (Wo m c) = G
    funext j
    obtain ⟨r, k, rfl⟩ := split2 j
    exact (point_8 m c t r k).trans ((congrFun hG _).trans (read_8 G t r k).symm)) cover_8

/-- The merged rows after the run. -/
theorem final_9 : (dats m 0 c).arrAt 9 cfg0.N = val_main_v23 (F := Ideal) (Yb m c) (A m c) (P m c) (Wb m c) :=
  (dats m 0 c).arrAt_eq_of_cover 9 _ (fun t _ => by
    rw [Value.flushed9, out_9]
    generalize hG : val_main_v23 (F := Ideal) (Yb m c) (A m c) (P m c) (Wb m c) = G
    funext j
    obtain ⟨r, k, rfl⟩ := split2 j
    exact (point_9 m c t r k).trans ((congrFun hG _).trans (read_9 G t r k).symm)) cover_9

/-- The second branch after the run. -/
theorem final_10 : (dats m 0 c).arrAt 10 cfg0.N = val_main_v24 (F := Ideal) (Yb m c) (Wb m c) :=
  (dats m 0 c).arrAt_eq_of_cover 10 _ (fun t _ => by
    rw [Value.flushed10, out_10]
    generalize hG : val_main_v24 (F := Ideal) (Yb m c) (Wb m c) = G
    funext j
    obtain ⟨r, k, rfl⟩ := split2 j
    exact (point_10 m c t r k).trans ((congrFun hG _).trans (read_10 G t r k).symm)) cover_10

/-- The normed rows after the run. -/
theorem final_11 : (dats m 0 c).arrAt 11 cfg0.N = val_main_v38 (F := Ideal) (Yb m c) (A m c) (P m c) (H m c) (Wb m c) (Wo m c) (Gm m c) :=
  (dats m 0 c).arrAt_eq_of_cover 11 _ (fun t _ => by
    rw [Value.flushed11, out_11]
    generalize hG : val_main_v38 (F := Ideal) (Yb m c) (A m c) (P m c) (H m c) (Wb m c) (Wo m c) (Gm m c) = G
    funext j
    obtain ⟨r, k, rfl⟩ := split2 j
    exact (point_11 m c t r k).trans ((congrFun hG _).trans (read_11 G t r k).symm)) cover_11

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v3_0) = val_main_v22 (F := Ideal) (Yb m c) (A m c) (P m c) (H m c) (Wb m c) (Wo m c)
      ∧ r.2.mem ((c : Thread nD τ).loc main_v3_1) = val_main_v23 (F := Ideal) (Yb m c) (A m c) (P m c) (Wb m c)
      ∧ r.2.mem ((c : Thread nD τ).loc main_v3_2) = val_main_v24 (F := Ideal) (Yb m c) (Wb m c)
      ∧ r.2.mem ((c : Thread nD τ).loc main_v3_3) = val_main_v38 (F := Ideal) (Yb m c) (A m c) (P m c) (H m c) (Wb m c) (Wo m c) (Gm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1).trans (final_8 m c), ((h c).2.1).trans (final_9 m c), ((h c).2.2.1).trans (final_10 m c), ((h c).2.2.2.1).trans (final_11 m c), (h c).2.2.2.2⟩)
    (Value.run_blocks m ρ)

end Cert.MergeFwdIdeal.Hand

end
-- ==== Proof.ForwardClaims.lean ====
/- The claims about two calls of the forward pass, the gated rows' projection and the merge of the two branches: kernel and
   reference end with equal results over the extended reals. -/
module

public import proofs.«01_k».proof.Defs
public import proofs.«01_k».proof.Proof.GluProjValue
public import proofs.«01_k».proof.Proof.MergeFwdValue
public import proofs.«01_k».proof.Proof.Gen.GluProjRefIdeal.Run
public import proofs.«01_k».proof.Proof.Gen.MergeFwdRefIdeal.Run

@[expose] public section

noncomputable section

namespace Cert

open Idealize.ShloMosaic Idealize.SL.Sem

/-- The gate's kernel computes what the reference computes: the gated rows and their product with the projection's matrix. -/
theorem glu_proj_algebraic : algebraic_GluProjIdeal_GluProjRefIdeal (hGluProjIdeal := GluProjIdeal.Gen.facts) (hGluProjRefIdeal := GluProjRefIdeal.Gen.facts) := by
  intro m g m' g' _ h
  refine ⟨_, _, GluProjIdeal.Hand.run m g, ?_⟩
  refine (θ_run GluProjRefIdeal.defs _ _).mono (fun r hr c => ?_) (GluProjRefIdeal.Value.run m' g')
  obtain ⟨h0, h1, h2⟩ := h c
  obtain ⟨r0, r1, k⟩ := hr c
  refine ⟨r0.trans ?_, r1.trans ?_, k⟩
  all_goals try rw [h0]
  all_goals try rw [h1]
  all_goals try rw [h2]
  · exact GluProjRefIdeal.Read.val_main_v9_eq ..
  · exact GluProjRefIdeal.Read.val_main_v11_eq ..

/-- The merge's kernel computes what the reference computes: the stream, the merged rows, the second branch and the normed
    stream. -/
theorem merge_fwd_algebraic : algebraic_MergeFwdIdeal_MergeFwdRefIdeal (hMergeFwdIdeal := MergeFwdIdeal.Gen.facts) (hMergeFwdRefIdeal := MergeFwdRefIdeal.Gen.facts) := by
  intro m g m' g' _ h
  refine ⟨_, _, _, _, MergeFwdIdeal.Hand.run m g, ?_⟩
  refine (θ_run MergeFwdRefIdeal.defs _ _).mono (fun r hr c => ?_) (MergeFwdRefIdeal.Value.run m' g')
  obtain ⟨h0, h1, h2, h3, h4, h5, h6⟩ := h c
  obtain ⟨r0, r1, r2, r3, k⟩ := hr c
  refine ⟨r0.trans ?_, r1.trans ?_, r2.trans ?_, r3.trans ?_, k⟩
  rotate_left 3
  · refine (MergeFwdRefIdeal.Read.val_main_v38_eq m' c).trans ?_
    rw [h0, h1, h2, h3, h4, h5, h6]
  all_goals try rw [h0]
  all_goals try rw [h1]
  all_goals try rw [h2]
  all_goals try rw [h3]
  all_goals try rw [h4]
  all_goals try rw [h5]
  · exact MergeFwdRefIdeal.Read.val_main_v22_eq ..
  · exact MergeFwdRefIdeal.Read.val_main_v23_eq ..
  · exact MergeFwdRefIdeal.Read.val_main_v24_eq ..

end Cert

end
-- ==== Proof.FfnOuts.lean ====
/- What one point of the kernel of the channel mixer stores, in any arithmetic; and its product over the extended reals. -/
module

public import proofs.«01_k».proof.Proof.Norm
public import proofs.«01_k».proof.Proof.Gen.FfnIdeal.Value
public import Idealize.ShloMosaic.Lib.WritesUnit

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.ValueIdx Cert.Common
open Idealize.ShloMosaic.Pipeline (Dat)

section AnyFloat
variable {F : FTy → Type} [FloatOps F]

/-- The sixteen rows before a block and the block's rows, read from row `k` on. -/
def tap (k : ℕ) (hi : Vec F S16x704 .f32) (lo : Vec F S688x704 .f32) : Vec F S688x704 .f32 := fun y =>
  if h : (y 0).val + k < 16 then hi (ix2 (⟨(y 0).val + k, h⟩ : Fin 16) (y 1))
  else if h : (y 0).val + k - 16 < 688 then lo (ix2 (⟨(y 0).val + k - 16, h⟩ : Fin 688) (y 1)) else lo y

/-- Reading the scratch rows from row `k` on. -/
theorem staged {κ : Kind} {sp : Space} (v : View sig κ sp S704x704 .f32) (hi : S16x704.Idx → Elt F .f32) (lo : S688x704.Idx → Elt F .f32) (L : List (View.Piece (Elt F) S704x704 .f32)) (k : ℕ)
    (i1 : ∀ a, (![16, 0] : Fin 2 → Nat) a + (![688, 704] : Fin 2 → ℕ) a ≤ S704x704.size a) (i2 : ∀ a, (![0, 0] : Fin 2 → Nat) a + (![16, 704] : Fin 2 → ℕ) a ≤ S704x704.size a)
    (i3 : ∀ a, (![k, 0] : Fin 2 → Nat) a + (![688, 704] : Fin 2 → ℕ) a ≤ S704x704.size a) :
    v.readCov ((⟨Rect.unit (s := S704x704) ![16, 0] ![688, 704] i1, lo⟩ : View.Piece (Elt F) S704x704 .f32)
        :: ⟨Rect.unit (s := S704x704) ![0, 0] ![16, 704] i2, hi⟩ :: L) (Rect.unit (s := S704x704) ![k, 0] ![688, 704] i3).toLoadRect
      = tap k hi lo := by
  rw [View.readCov_eq_canon']
  funext y
  have hk : k + 688 ≤ 704 := i3 0
  have hy : (y 0).val < 688 := (y 0).isLt
  rw [← View.read_writes_junk_apply_eq_canon v]
  have e0 : ((Rect.unit (s := S704x704) ![k, 0] ![688, 704] i3).toLoadRect.idx y 0).val = k + (y 0).val := by
    show k + 1 * (y 0).val = _
    omega
  have e1 : ((Rect.unit (s := S704x704) ![k, 0] ![688, 704] i3).toLoadRect.idx y 1).val = (y 1).val := by
    show 0 + 1 * (y 1).val = _
    omega
  unfold tap
  by_cases h : (y 0).val + k < 16
  · rw [dif_pos h]
    refine (View.read_writes_cons_rows_of_not_mem v _ i1 lo _ _ rfl rfl (.inl (by rw [e0]; omega))).trans ?_
    exact View.read_writes_cons_rows_of_mem v _ i2 hi L _ (ix2 (⟨(y 0).val + k, h⟩ : Fin 16) (y 1)) rfl (by rw [e0]; show _ = 0 + ((y 0).val + k); omega) e1
  · rw [dif_neg h, dif_pos (show (y 0).val + k - 16 < 688 by omega)]
    exact View.read_writes_cons_rows_of_mem v _ i1 lo _ _ (ix2 (⟨(y 0).val + k - 16, by omega⟩ : Fin 688) (y 1)) rfl (by rw [e0]; show _ = 16 + ((y 0).val + k - 16); omega) e1

theorem three {A B : Type} (f : A → A → A → B) {a a' b b' c c' : A} (h1 : a = a') (h2 : b = b') (h3 : c = c') : f a b c = f a' b' c' := by
  rw [h1, h2, h3]

/-- Whether a point's block of rows is the first of its sequence. -/
def edge (i : grid0.Coords) : BitVec 1 :=
  Scalar.cmpi .eq (Scalar.select (Scalar.andi (Scalar.xori (Scalar.cmpi .slt (Scalar.remsi (BitVec.ofNat 32 (i 0).val) 3#32) 0#32) 0#1)
    (Scalar.cmpi .ne (Scalar.remsi (BitVec.ofNat 32 (i 0).val) 3#32) 0#32)) (Scalar.addi (Scalar.remsi (BitVec.ofNat 32 (i 0).val) 3#32) 3#32)
    (Scalar.remsi (BitVec.ofNat 32 (i 0).val) 3#32)) 0#32

theorem edge_eq (i : grid0.Coords) :
    Scalar.cmpi .eq (Scalar.select (Scalar.andi (Scalar.xori (Scalar.cmpi .slt (Scalar.remsi (BitVec.ofNat 32 (i 0).val) 3#32) 0#32) 0#1)
    (Scalar.cmpi .ne (Scalar.remsi (BitVec.ofNat 32 (i 0).val) 3#32) 0#32)) (Scalar.addi (Scalar.remsi (BitVec.ofNat 32 (i 0).val) 3#32) 3#32)
    (Scalar.remsi (BitVec.ofNat 32 (i 0).val) 3#32)) 0#32 = edge i := rfl
theorem scratch_read (h : (Memref.whole cc0_scratch0).IsWhole) (x : Vec F S688x1024 .f32) : View.read (Elt F) (View.whole cc0_scratch0) (h.unread x) = x := h.read_unread x
theorem pay27_eq : @k0_pay27 F _ = k0_pay26 := rfl

variable (m : (ℓ : Loc nD τ sig) → Buf (Elt F) ℓ) (c : Dev nD) (t : Fin cfg0.N)

/-- The staged rows a point reads, of the first half of the channels and of the second. -/
abbrev TA (k : ℕ) : Vec F S688x704 .f32 := tap k (k0_pay16 (grid0.coords t) (iblk m c 1 t)) (k0_pay17 (iblk m c 0 t))
abbrev TB (k : ℕ) : Vec F S688x704 .f32 := tap k (k0_pay19 (edge (grid0.coords t)) (iblk m c 3 t)) (k0_pay20 (iblk m c 2 t))
/-- The convolution's rows of the first half; -/
abbrev CA : Vec F S688x704 .f32 := k0_pay18 (TA m c t 14) (TA m c t 15) (TA m c t 16) (iblk m c 4 t) (iblk m c 6 t)
/-- a point's part of the second product; -/
abbrev PP : Vec F S688x1024 .f32 := k0_pay25 (CA m c t) (TB m c t 14) (TB m c t 15) (TB m c t 16) (k0_pay21 (iblk m c 5 t)) (iblk m c 7 t) (iblk m c 8 t)
/-- the rows after a point of which the product's earlier parts are `s`. -/
abbrev AC (s : Vec F S688x1024 .f32) : Vec F S688x1024 .f32 := k0_pay26 (CA m c t) (TB m c t 14) (TB m c t 15) (TB m c t 16) (k0_pay21 (iblk m c 5 t)) (iblk m c 7 t) (iblk m c 8 t) s

/-- A point stores its block of the convolution's first half, -/
theorem store_12 : (outsAt0 m c t.val t.isLt).1 = k0_pay23 (CA m c t) := by
  by_cases h0 : t.val % 4 = 0
  · have h1 : ¬1 ≤ t.val % 4 := by omega
    have h3 : ¬t.val % 4 = 3 := by omega
    by_cases h2 : t.val % 48 = 0
    · rw [outsAt0_A m c t h0 h1 h2 h3]
      dsimp only
      unfold out0_A_12
      refine Eq.trans (View.read_writes_eq_canon _ _ _ (fun y => cover0_A_12 (y := y) ..)) ?_
      unfold kernelRun0_A
      dsimp only
      sl_unfold_words
      rw [View.canon_unit_zero hz3]
      simp only [View.readAt_eq_ld, Memref.IsWhole.read_unread, ld3, ld2, staged, edge_eq, scratch_read, pay27_eq]
    · rw [outsAt0_D m c t h0 h1 h2 h3]
      dsimp only
      unfold out0_D_12
      refine Eq.trans (View.read_writes_eq_canon _ _ _ (fun y => cover0_D_12 (y := y) ..)) ?_
      unfold kernelRun0_D
      dsimp only
      sl_unfold_words
      rw [View.canon_unit_zero hz3]
      simp only [View.readAt_eq_ld, Memref.IsWhole.read_unread, ld3, ld2, staged, edge_eq, scratch_read, pay27_eq]
  · have h1 : 1 ≤ t.val % 4 := by omega
    have h2 : ¬t.val % 48 = 0 := by omega
    by_cases h3 : t.val % 4 = 3
    · rw [outsAt0_C m c t h0 h1 h2 h3]
      dsimp only
      unfold out0_C_12
      refine Eq.trans (View.read_writes_eq_canon _ _ _ (fun y => cover0_C_12 (y := y) ..)) ?_
      unfold kernelRun0_C
      dsimp only
      sl_unfold_words
      rw [View.canon_unit_zero hz3]
      simp only [View.readAt_eq_ld, Memref.IsWhole.read_unread, ld3, ld2, staged, edge_eq, scratch_read, pay27_eq]
    · rw [outsAt0_B m c t h0 h1 h2 h3]
      dsimp only
      unfold out0_B_12
      refine Eq.trans (View.read_writes_eq_canon _ _ _ (fun y => cover0_B_12 (y := y) ..)) ?_
      unfold kernelRun0_B
      dsimp only
      sl_unfold_words
      rw [View.canon_unit_zero hz3]
      simp only [View.readAt_eq_ld, Memref.IsWhole.read_unread, ld3, ld2, staged, edge_eq, scratch_read, pay27_eq]

/-- and of its second half. -/
theorem store_13 : (outsAt0 m c t.val t.isLt).2.1 = k0_pay24 (TB m c t 14) (TB m c t 15) (TB m c t 16) (k0_pay21 (iblk m c 5 t)) (iblk m c 7 t) := by
  by_cases h0 : t.val % 4 = 0
  · have h1 : ¬1 ≤ t.val % 4 := by omega
    have h3 : ¬t.val % 4 = 3 := by omega
    by_cases h2 : t.val % 48 = 0
    · rw [outsAt0_A m c t h0 h1 h2 h3]
      dsimp only
      unfold out0_A_13
      refine Eq.trans (View.read_writes_eq_canon _ _ _ (fun y => cover0_A_13 (y := y) ..)) ?_
      unfold kernelRun0_A
      dsimp only
      sl_unfold_words
      rw [View.canon_unit_zero hz3]
      simp only [View.readAt_eq_ld, Memref.IsWhole.read_unread, ld3, ld2, staged, edge_eq, scratch_read, pay27_eq]
    · rw [outsAt0_D m c t h0 h1 h2 h3]
      dsimp only
      unfold out0_D_13
      refine Eq.trans (View.read_writes_eq_canon _ _ _ (fun y => cover0_D_13 (y := y) ..)) ?_
      unfold kernelRun0_D
      dsimp only
      sl_unfold_words
      rw [View.canon_unit_zero hz3]
      simp only [View.readAt_eq_ld, Memref.IsWhole.read_unread, ld3, ld2, staged, edge_eq, scratch_read, pay27_eq]
  · have h1 : 1 ≤ t.val % 4 := by omega
    have h2 : ¬t.val % 48 = 0 := by omega
    by_cases h3 : t.val % 4 = 3
    · rw [outsAt0_C m c t h0 h1 h2 h3]
      dsimp only
      unfold out0_C_13
      refine Eq.trans (View.read_writes_eq_canon _ _ _ (fun y => cover0_C_13 (y := y) ..)) ?_
      unfold kernelRun0_C
      dsimp only
      sl_unfold_words
      rw [View.canon_unit_zero hz3]
      simp only [View.readAt_eq_ld, Memref.IsWhole.read_unread, ld3, ld2, staged, edge_eq, scratch_read, pay27_eq]
    · rw [outsAt0_B m c t h0 h1 h2 h3]
      dsimp only
      unfold out0_B_13
      refine Eq.trans (View.read_writes_eq_canon _ _ _ (fun y => cover0_B_13 (y := y) ..)) ?_
      unfold kernelRun0_B
      dsimp only
      sl_unfold_words
      rw [View.canon_unit_zero hz3]
      simp only [View.readAt_eq_ld, Memref.IsWhole.read_unread, ld3, ld2, staged, edge_eq, scratch_read, pay27_eq]

/-- The first point of a block of rows begins the product at the rows, -/
theorem acc_first (h0 : t.val % 4 = 0) : (outsAt0 m c t.val t.isLt).2.2.2.2.2 = AC m c t (iblk m c 9 t) := by
  have h1 : ¬1 ≤ t.val % 4 := by omega
  have h3 : ¬t.val % 4 = 3 := by omega
  by_cases h2 : t.val % 48 = 0
  · rw [outsAt0_A m c t h0 h1 h2 h3]
    dsimp only
    unfold sout0_A_0
    refine Eq.trans (View.read_writes_eq_canon _ _ _ (fun y => scover0_A_0 (y := y) ..)) ?_
    unfold kernelRun0_A
    dsimp only
    sl_unfold_words
    rw [View.canon_unit_zero hz]
    simp only [View.readAt_eq_ld, Memref.IsWhole.read_unread, ld3, ld2, staged, edge_eq, scratch_read, pay27_eq]
  · rw [outsAt0_D m c t h0 h1 h2 h3]
    dsimp only
    unfold sout0_D_0
    refine Eq.trans (View.read_writes_eq_canon _ _ _ (fun y => scover0_D_0 (y := y) ..)) ?_
    unfold kernelRun0_D
    dsimp only
    sl_unfold_words
    rw [View.canon_unit_zero hz]
    simp only [View.readAt_eq_ld, Memref.IsWhole.read_unread, ld3, ld2, staged, edge_eq, scratch_read, pay27_eq]

/-- and the others add to it. -/
theorem acc_next (h0 : ¬t.val % 4 = 0) : (outsAt0 m c t.val t.isLt).2.2.2.2.2 = AC m c t (outsAt0 m c (t.val - 1) (Nat.lt_of_le_of_lt (Nat.sub_le _ _) t.isLt)).2.2.2.2.2 := by
  have h1 : 1 ≤ t.val % 4 := by omega
  have h2 : ¬t.val % 48 = 0 := by omega
  by_cases h3 : t.val % 4 = 3
  · rw [outsAt0_C m c t h0 h1 h2 h3]
    dsimp only
    unfold sout0_C_0
    refine Eq.trans (View.read_writes_eq_canon _ _ _ (fun y => scover0_C_0 (y := y) ..)) ?_
    unfold kernelRun0_C
    dsimp only
    sl_unfold_words
    rw [View.canon_unit_zero hz]
    simp only [View.readAt_eq_ld, Memref.IsWhole.read_unread, ld3, ld2, staged, edge_eq, scratch_read, pay27_eq]
  · rw [outsAt0_B m c t h0 h1 h2 h3]
    dsimp only
    unfold sout0_B_0
    refine Eq.trans (View.read_writes_eq_canon _ _ _ (fun y => scover0_B_0 (y := y) ..)) ?_
    unfold kernelRun0_B
    dsimp only
    sl_unfold_words
    rw [View.canon_unit_zero hz]
    simp only [View.readAt_eq_ld, Memref.IsWhole.read_unread, ld3, ld2, staged, edge_eq, scratch_read, pay27_eq]

/-- The last point of a block of rows stores the rows' gradient, -/
theorem store_14 (h3 : t.val % 4 = 3) : (outsAt0 m c t.val t.isLt).2.2.1 = k0_pay14 (AC m c t (outsAt0 m c (t.val - 1) (Nat.lt_of_le_of_lt (Nat.sub_le _ _) t.isLt)).2.2.2.2.2) (k0_pay4 (iblk m c 11 t)) (k0_pay6 (AC m c t (outsAt0 m c (t.val - 1) (Nat.lt_of_le_of_lt (Nat.sub_le _ _) t.isLt)).2.2.2.2.2)) (k0_pay7 (AC m c t (outsAt0 m c (t.val - 1) (Nat.lt_of_le_of_lt (Nat.sub_le _ _) t.isLt)).2.2.2.2.2)) (k0_pay9 (iblk m c 10 t) (AC m c t (outsAt0 m c (t.val - 1) (Nat.lt_of_le_of_lt (Nat.sub_le _ _) t.isLt)).2.2.2.2.2) (iblk m c 11 t)) (k0_pay10 (BitVec.ofNat 32 ((grid0.coords t) 0).val)) := by
  have h0 : ¬t.val % 4 = 0 := by omega
  have h1 : 1 ≤ t.val % 4 := by omega
  have h2 : ¬t.val % 48 = 0 := by omega
  rw [outsAt0_C m c t h0 h1 h2 h3]
  dsimp only
  unfold out0_C_14
  refine Eq.trans (View.read_writes_eq_canon _ _ _ (fun y => cover0_C_14 (y := y) ..)) ?_
  unfold kernelRun0_C
  dsimp only
  sl_unfold_words
  rw [View.canon_unit_zero hz]
  simp only [View.readAt_eq_ld, Memref.IsWhole.read_unread, ld3, ld2, View.readCov_unit_zero (S := S688x1024) _ hz, staged, edge_eq, scratch_read, pay27_eq]

/-- adds its rows' part of the loss, -/
theorem loss_add (h3 : t.val % 4 = 3) : (outsAt0 m c t.val t.isLt).2.2.2.1 = k0_pay15 (k0_pay11 (BitVec.ofNat 32 ((grid0.coords t) 0).val) (iblk m c 10 t) (AC m c t (outsAt0 m c (t.val - 1) (Nat.lt_of_le_of_lt (Nat.sub_le _ _) t.isLt)).2.2.2.2.2) (iblk m c 11 t)) (outsAt0 m c (t.val - 1) (Nat.lt_of_le_of_lt (Nat.sub_le _ _) t.isLt)).2.2.2.1 := by
  have h0 : ¬t.val % 4 = 0 := by omega
  have h1 : 1 ≤ t.val % 4 := by omega
  have h2 : ¬t.val % 48 = 0 := by omega
  rw [outsAt0_C m c t h0 h1 h2 h3]
  dsimp only
  unfold out0_C_15
  refine Eq.trans (View.read_writes_eq_canon _ _ _ (fun y => cover0_C_15 (y := y) ..)) ?_
  unfold kernelRun0_C
  dsimp only
  sl_unfold_words
  rw [View.canon_unit_zero hz]
  simp only [View.readAt_eq_ld, Memref.IsWhole.read_unread, ld3, ld2, View.readCov_unit_zero (S := S688x1024) _ hz, staged, edge_eq, scratch_read, pay27_eq]

/-- and of the weights' gradient. -/
theorem weights_add (h3 : t.val % 4 = 3) : (outsAt0 m c t.val t.isLt).2.2.2.2.1 = k0_pay3 (k0_pay13 (k0_pay8 (AC m c t (outsAt0 m c (t.val - 1) (Nat.lt_of_le_of_lt (Nat.sub_le _ _) t.isLt)).2.2.2.2.2)) (k0_pay9 (iblk m c 10 t) (AC m c t (outsAt0 m c (t.val - 1) (Nat.lt_of_le_of_lt (Nat.sub_le _ _) t.isLt)).2.2.2.2.2) (iblk m c 11 t)) (k0_pay10 (BitVec.ofNat 32 ((grid0.coords t) 0).val))) (outsAt0 m c (t.val - 1) (Nat.lt_of_le_of_lt (Nat.sub_le _ _) t.isLt)).2.2.2.2.1 := by
  have h0 : ¬t.val % 4 = 0 := by omega
  have h1 : 1 ≤ t.val % 4 := by omega
  have h2 : ¬t.val % 48 = 0 := by omega
  rw [outsAt0_C m c t h0 h1 h2 h3]
  dsimp only
  unfold out0_C_16
  refine Eq.trans (View.read_writes_eq_canon _ _ _ (fun y => cover0_C_16 (y := y) ..)) ?_
  unfold kernelRun0_C
  dsimp only
  sl_unfold_words
  rw [View.canon_unit_zero hz]
  simp only [View.readAt_eq_ld, Memref.IsWhole.read_unread, ld3, ld2, View.readCov_unit_zero (S := S688x1024) _ hz, staged, edge_eq, scratch_read, pay27_eq]

/-- The very first point sets the loss to zero, -/
theorem loss_first (h2 : t.val % 48 = 0) : (outsAt0 m c t.val t.isLt).2.2.2.1 = k0_pay1 := by
  have h0 : t.val % 4 = 0 := by omega
  have h1 : ¬1 ≤ t.val % 4 := by omega
  have h3 : ¬t.val % 4 = 3 := by omega
  rw [outsAt0_A m c t h0 h1 h2 h3]
  dsimp only
  unfold out0_A_15
  refine Eq.trans (View.read_writes_eq_canon _ _ _ (fun y => cover0_A_15 (y := y) ..)) ?_
  unfold kernelRun0_A
  dsimp only
  sl_unfold_words
  rw [View.canon_unit_zero hz]

/-- and the others leave it. -/
theorem loss_keep (h2 : ¬t.val % 48 = 0) (h3 : ¬t.val % 4 = 3) : (outsAt0 m c t.val t.isLt).2.2.2.1 = (outsAt0 m c (t.val - 1) (Nat.lt_of_le_of_lt (Nat.sub_le _ _) t.isLt)).2.2.2.1 := by
  by_cases h0 : t.val % 4 = 0
  · have h1 : ¬1 ≤ t.val % 4 := by omega
    rw [outsAt0_D m c t h0 h1 h2 h3]
    rfl
  · have h1 : 1 ≤ t.val % 4 := by omega
    rw [outsAt0_B m c t h0 h1 h2 h3]
    rfl

/-- The very first point sets the weights' gradient to zero, -/
theorem weights_first (h2 : t.val % 48 = 0) : (outsAt0 m c t.val t.isLt).2.2.2.2.1 = k0_pay2 := by
  have h0 : t.val % 4 = 0 := by omega
  have h1 : ¬1 ≤ t.val % 4 := by omega
  have h3 : ¬t.val % 4 = 3 := by omega
  rw [outsAt0_A m c t h0 h1 h2 h3]
  dsimp only
  unfold out0_A_16
  refine Eq.trans (View.read_writes_eq_canon _ _ _ (fun y => cover0_A_16 (y := y) ..)) ?_
  unfold kernelRun0_A
  dsimp only
  sl_unfold_words
  rw [View.canon_unit_zero hz]

/-- and the others leave it. -/
theorem weights_keep (h2 : ¬t.val % 48 = 0) (h3 : ¬t.val % 4 = 3) : (outsAt0 m c t.val t.isLt).2.2.2.2.1 = (outsAt0 m c (t.val - 1) (Nat.lt_of_le_of_lt (Nat.sub_le _ _) t.isLt)).2.2.2.2.1 := by
  by_cases h0 : t.val % 4 = 0
  · have h1 : ¬1 ≤ t.val % 4 := by omega
    rw [outsAt0_D m c t h0 h1 h2 h3]
    rfl
  · have h1 : 1 ≤ t.val % 4 := by omega
    rw [outsAt0_B m c t h0 h1 h2 h3]
    rfl

end AnyFloat

/-- The product of a block of gated channels with a block of the second matrix. -/
theorem rows_mm {φ₁ φ₂ : FTy} (lhs : FVec Ideal S688x704 φ₁) (rhs : FVec Ideal S704x1024 φ₂) (j : S688x1024.Idx) :
    matmul dot_S688x704_S704x1024_S688x1024_1_0_0_1_n_n none lhs rhs (constant S688x1024 .f32 0x00000000#32) j
      = ∑ k : Fin 704, lhs (ix2 (j 0) k) * rhs (ix2 k (j 1)) :=
  Common.mm_nn _ rfl rfl rfl rfl (fun _ _ => rfl) (fun _ _ => rfl) lhs rhs j

end Cert.FfnIdeal.Hand

end
-- ==== Proof.FfnRef.lean ====
/- The reference of the second half of the channel mixer and of the loss, written as sums over the rows and the channels. -/
module

public import proofs.«01_k».proof.Proof.FfnOuts
public import proofs.«01_k».proof.Proof.Layout
public import proofs.«01_k».proof.Proof.Norm
public import proofs.«01_k».proof.Proof.Gen.FfnRefIdeal.Read
public import Idealize.ShloMosaic.Lib.KernelVsHost

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.ValueIdx Cert.Common
open Idealize.ShloMosaic.Pipeline (Dat)
open Cert.FfnRefIdeal.Read

/-- A factor `x` that is a real number from zero on goes into a sum. -/
theorem mul_sum_real {ι : Type} (s : Finset ι) (f : ι → EReal) (x : EReal) (h0 : 0 ≤ x) (h1 : x ≠ ⊤) : x * ∑ i ∈ s, f i = ∑ i ∈ s, x * f i := by
  classical
  induction s using Finset.induction_on with
  | empty => rw [Finset.sum_empty, Finset.sum_empty, mul_zero]
  | insert a s ha ih => rw [Finset.sum_insert ha, Finset.sum_insert ha, EReal.left_distrib_of_nonneg_of_ne_top h0 h1, ih]

theorem word_half : (Ideal.ofBits .f32 0x3F000000#32 : EReal) = ((1 / 2 : ℝ) : EReal) := by
  simp [Ideal.ofBits, Ideal.ieee, -EReal.coe_mul]; norm_num
theorem word_width : (Ideal.ofBits .f32 0x44800000#32 : EReal) = ((1024 : ℝ) : EReal) := by
  simp [Ideal.ofBits, Ideal.ieee, -EReal.coe_mul]; norm_num

/-- A division by the rows' width is a product. -/
theorem div_width (x : EReal) : Ideal.div x (Ideal.ofBits .f32 0x44800000#32) = ((1024⁻¹ : ℝ) : EReal) * x := by
  rw [word_width]
  unfold Ideal.div
  rw [if_neg (fun h => by have := EReal.coe_eq_zero.mp h; norm_num at this), mul_comm, EReal.coe_inv]

/-- Half of a sum, divided by the rows' width, term by term. -/
theorem half_sum {ι : Type} (s : Finset ι) (f : ι → EReal) :
    Ideal.div (Ideal.ofBits .f32 0x3F000000#32 * ∑ i ∈ s, f i) (Ideal.ofBits .f32 0x44800000#32)
      = ∑ i ∈ s, Ideal.div (Ideal.ofBits .f32 0x3F000000#32 * f i) (Ideal.ofBits .f32 0x44800000#32) := by
  rw [div_width, word_half, mul_sum_real s f _ (EReal.coe_nonneg.mpr (by norm_num)) (EReal.coe_ne_top _),
    mul_sum_real s _ _ (EReal.coe_nonneg.mpr (by norm_num)) (EReal.coe_ne_top _)]
  exact Finset.sum_congr rfl fun i _ => (div_width _).symm

/-- Half of a quotient is the quotient of the half. -/
theorem half_div (x : EReal) : Ideal.ofBits .f32 0x3F000000#32 * Ideal.div x (Ideal.ofBits .f32 0x44800000#32)
    = Ideal.div (Ideal.ofBits .f32 0x3F000000#32 * x) (Ideal.ofBits .f32 0x44800000#32) := by
  rw [div_width, div_width, mul_left_comm]

/-- A sum over all rows, sequence by sequence. -/
theorem rows_sum (f : ℕ → EReal) : ∑ a : Fin 8256, f a.val = ∑ b : Fin 4, ∑ l : Fin 2064, f (2064 * b.val + l.val) := by
  have h := (finProdFinEquiv (m := 4) (n := 2064)).sum_comp (fun a => f a.val)
  refine h.symm.trans ?_
  rw [Fintype.sum_prod_type]
  refine Finset.sum_congr rfl fun b _ => Finset.sum_congr rfl fun l _ => congrArg f ?_
  show l.val + 2064 * b.val = 2064 * b.val + l.val
  omega

variable (m : (ℓ : Loc nD τ sig) → Buf (Elt Ideal) ℓ) (c : Dev nD)

/-- The projection's result, the filter and its bias, the second matrix, the rows, the targets and the norm's weights. -/
abbrev UP : (⟨S8256x5632, .bf16⟩ : BufTy).Contents (Elt Ideal) := m ((c.tc : Thread nD τ).loc main_arg0)
abbrev CW : (⟨S3x5632, .f32⟩ : BufTy).Contents (Elt Ideal) := m ((c.tc : Thread nD τ).loc main_arg1)
abbrev CB : (⟨S5632, .f32⟩ : BufTy).Contents (Elt Ideal) := m ((c.tc : Thread nD τ).loc main_arg2)
abbrev WD : (⟨S2816x1024, .f32⟩ : BufTy).Contents (Elt Ideal) := m ((c.tc : Thread nD τ).loc main_arg3)
abbrev H : (⟨S8256x1024, .f32⟩ : BufTy).Contents (Elt Ideal) := m ((c.tc : Thread nD τ).loc main_arg4)
abbrev TG : (⟨S8256x1024, .f32⟩ : BufTy).Contents (Elt Ideal) := m ((c.tc : Thread nD τ).loc main_arg5)
abbrev Gm : (⟨S1024, .f32⟩ : BufTy).Contents (Elt Ideal) := m ((c.tc : Thread nD τ).loc main_arg6)

/-- Rows of the projection's result, by number. -/
def up (a : ℕ) (n : Fin 5632) : EReal := if h : a < 8256 then UP m c (ix2 (⟨a, h⟩ : Fin 8256) n) else 0
/-- The row `s` rows back, within the sequence. -/
def back (s a : ℕ) (n : Fin 5632) : EReal := if s ≤ a % 2064 then up m c (a - s) n else 0
/-- The causal convolution, -/
def conv (a : ℕ) (n : Fin 5632) : EReal :=
  ((CB m c (ix1 n) + back m c 2 a n * CW m c (ix2 (0 : Fin 3) n)) + back m c 1 a n * CW m c (ix2 (1 : Fin 3) n)) + back m c 0 a n * CW m c (ix2 (2 : Fin 3) n)
/-- the two halves of its channels, -/
abbrev left (q : Fin 2816) : Fin 5632 := ⟨q.val, by have := q.isLt; omega⟩
abbrev right (q : Fin 2816) : Fin 5632 := ⟨2816 + q.val, by have := q.isLt; omega⟩
/-- the gated channels, -/
def gate (a : ℕ) (q : Fin 2816) : EReal := (conv m c a (left q) * Ideal.logistic (conv m c a (left q))) * conv m c a (right q)
/-- the rows after the channel mixer, -/
abbrev X (a : Fin 8256) (k : Fin 1024) : EReal := val_main_v33 (F := Ideal) (UP m c) (CW m c) (CB m c) (WD m c) (H m c) (ix2 a k)
abbrev G (k : Fin 1024) : EReal := Gm m c (ix1 k)
/-- the distance of a normed row from its target, -/
def err (a : Fin 8256) (k : Fin 1024) : EReal := ((X m c a k * Ideal.rsqrt (meanSq (X m c a))) * G m c k) - TG m c (ix2 a k)
/-- the loss's factor of a row, -/
def ct (a : ℕ) : EReal := if 16 ≤ a % 2064 then Ideal.ofBits .f32 0x3F000000#32 * Ideal.div (Ideal.ofBits .f32 0x3F800000#32) (Ideal.ofBits .f32 0x44800000#32) else 0
/-- and what a row adds to the loss. -/
def rowLoss (a : Fin 8256) : EReal :=
  Ideal.div (Ideal.ofBits .f32 0x3F000000#32 * (if 16 ≤ a.val % 2064 then ∑ k : Fin 1024, err m c a k * err m c a k else 0)) (Ideal.ofBits .f32 0x44800000#32)
/-- The gradient of the normed row. -/
abbrev A (a : Fin 8256) (k : Fin 1024) : EReal := val_main_v68 (F := Ideal) (UP m c) (CW m c) (CB m c) (WD m c) (H m c) (TG m c) (Gm m c) (ix2 a k)

theorem up_of (a : Fin 8256) (n : Fin 5632) : up m c a.val n = UP m c (ix2 a n) := dif_pos a.isLt

/-- The projection's result with two rows of zeros before each sequence. -/
theorem ref_back (b : Fin 4) (q : Fin 2066) (n : Fin 5632) :
    val_main_v3 (F := Ideal) (UP m c) (ix3 b q n) = if 2 ≤ q.val then up m c (2064 * b.val + q.val - 2) n else 0 := by
  have hb := b.isLt
  have hq := q.isLt
  have hn := n.isLt
  unfold val_main_v3
  by_cases h : 2 ≤ q.val
  · rw [if_pos h]
    refine (concatenate_pair_apply_right (s₁ := (⟨3, ![4, 2, 5632]⟩ : Shape)) (s₂ := (⟨3, ![4, 2064, 5632]⟩ : Shape)) (1 : Fin 3) _ _ _ (ix3 b q n) rfl rfl (ix3 b (⟨q.val - 2, by omega⟩ : Fin 2064) n) (fun d hd => ?_) ?_).trans ?_
    · match d with
      | ⟨0, _⟩ => rfl
      | ⟨1, _⟩ => exact absurd rfl hd
      | ⟨2, _⟩ => rfl
    · show q.val - 2 + 2 = q.val
      omega
    · rw [val_main_v1_apply, val_main_v0_apply]
      refine Eq.trans ?_ (up_of m c (⟨2064 * b.val + q.val - 2, by omega⟩ : Fin 8256) n).symm
      refine congrArg (UP m c) (funext fun d => Fin.ext ?_)
      match d with
      | ⟨0, _⟩ => show ((b.val * 2064 + (q.val - 2)) * 5632 + n.val) / 5632 = 2064 * b.val + q.val - 2; omega
      | ⟨1, _⟩ => show ((b.val * 2064 + (q.val - 2)) * 5632 + n.val) % 5632 = n.val; omega
  · rw [if_neg h]
    refine (concatenate_pair_apply_left (s₁ := (⟨3, ![4, 2, 5632]⟩ : Shape)) (s₂ := (⟨3, ![4, 2064, 5632]⟩ : Shape)) (1 : Fin 3) _ _ _ (ix3 b q n) rfl (ix3 b (⟨q.val, by omega⟩ : Fin 2) n) (fun d => ?_)).trans ?_
    · match d with
      | ⟨0, _⟩ => rfl
      | ⟨1, _⟩ => rfl
      | ⟨2, _⟩ => rfl
    · rw [val_main_v2_apply]
      exact zero_word

theorem ref_w0 (b : Fin 4) (l : Fin 2064) (n : Fin 5632) : val_main_v8 (F := Ideal) (CW m c) (ix3 b l n) = CW m c (ix2 (0 : Fin 3) n) := by
  rw [val_main_v8_apply, val_main_v7_apply, val_main_v6_apply, val_main_v5_apply]
  refine congrArg _ (funext fun d => Fin.ext ?_)
  match d with
  | ⟨0, _⟩ => show 0 + 0 = 0; rfl
  | ⟨1, _⟩ => show n.val % 5632 = n.val; have := n.isLt; omega

theorem ref_w1 (b : Fin 4) (l : Fin 2064) (n : Fin 5632) : val_main_v17 (F := Ideal) (CW m c) (ix3 b l n) = CW m c (ix2 (1 : Fin 3) n) := by
  rw [val_main_v17_apply, val_main_v16_apply, val_main_v15_apply, val_main_v14_apply]
  refine congrArg _ (funext fun d => Fin.ext ?_)
  match d with
  | ⟨0, _⟩ => show 1 + 0 = 1; rfl
  | ⟨1, _⟩ => show n.val % 5632 = n.val; have := n.isLt; omega

theorem ref_w2 (b : Fin 4) (l : Fin 2064) (n : Fin 5632) : val_main_v24 (F := Ideal) (CW m c) (ix3 b l n) = CW m c (ix2 (2 : Fin 3) n) := by
  rw [val_main_v24_apply, val_main_v23_apply, val_main_v22_apply, val_main_v21_apply]
  refine congrArg _ (funext fun d => Fin.ext ?_)
  match d with
  | ⟨0, _⟩ => show 2 + 0 = 2; rfl
  | ⟨1, _⟩ => show n.val % 5632 = n.val; have := n.isLt; omega

theorem ref_p0 (b : Fin 4) (l : Fin 2064) (n : Fin 5632) : val_main_v9 (F := Ideal) (UP m c) (CW m c) (ix3 b l n) = back m c 2 (2064 * b.val + l.val) n * CW m c (ix2 (0 : Fin 3) n) := by
  have hl := l.isLt
  rw [val_main_v9_apply, ref_w0, val_main_v4_apply]
  have e : idx_main_v4 (ix3 b l n) = ix3 b (⟨l.val + 0, by omega⟩ : Fin 2066) n := funext fun d => Fin.ext (by
    match d with
    | ⟨0, _⟩ => rfl
    | ⟨1, _⟩ => rfl
    | ⟨2, _⟩ => rfl)
  rw [e, ref_back]
  refine congrArg₂ (· * ·) ?_ rfl
  unfold back
  have em : (2064 * b.val + l.val) % 2064 = l.val := by omega
  rw [em]
  by_cases h : 2 ≤ l.val
  · rw [if_pos h, if_pos (show 2 ≤ l.val + 0 by omega)]
    exact congrArg (fun q => up m c q n) (show 2064 * b.val + (l.val + 0) - 2 = 2064 * b.val + l.val - 2 by omega)
  · rw [if_neg h, if_neg (show ¬2 ≤ l.val + 0 by omega)]

theorem ref_p1 (b : Fin 4) (l : Fin 2064) (n : Fin 5632) : val_main_v18 (F := Ideal) (UP m c) (CW m c) (ix3 b l n) = back m c 1 (2064 * b.val + l.val) n * CW m c (ix2 (1 : Fin 3) n) := by
  have hl := l.isLt
  rw [val_main_v18_apply, ref_w1, val_main_v13_apply]
  have e : idx_main_v13 (ix3 b l n) = ix3 b (⟨l.val + 1, by omega⟩ : Fin 2066) n := funext fun d => Fin.ext (by
    match d with
    | ⟨0, _⟩ => rfl
    | ⟨1, _⟩ => show 1 + l.val = l.val + 1; omega
    | ⟨2, _⟩ => rfl)
  rw [e, ref_back]
  refine congrArg₂ (· * ·) ?_ rfl
  unfold back
  have em : (2064 * b.val + l.val) % 2064 = l.val := by omega
  rw [em]
  by_cases h : 1 ≤ l.val
  · rw [if_pos h, if_pos (show 2 ≤ l.val + 1 by omega)]
    exact congrArg (fun q => up m c q n) (show 2064 * b.val + (l.val + 1) - 2 = 2064 * b.val + l.val - 1 by omega)
  · rw [if_neg h, if_neg (show ¬2 ≤ l.val + 1 by omega)]

theorem ref_p2 (b : Fin 4) (l : Fin 2064) (n : Fin 5632) : val_main_v25 (F := Ideal) (UP m c) (CW m c) (ix3 b l n) = back m c 0 (2064 * b.val + l.val) n * CW m c (ix2 (2 : Fin 3) n) := by
  have hl := l.isLt
  rw [val_main_v25_apply, ref_w2, val_main_v20_apply]
  have e : idx_main_v20 (ix3 b l n) = ix3 b (⟨l.val + 2, by omega⟩ : Fin 2066) n := funext fun d => Fin.ext (by
    match d with
    | ⟨0, _⟩ => rfl
    | ⟨1, _⟩ => show 2 + l.val = l.val + 2; omega
    | ⟨2, _⟩ => rfl)
  rw [e, ref_back]
  refine congrArg₂ (· * ·) ?_ rfl
  unfold back
  have em : (2064 * b.val + l.val) % 2064 = l.val := by omega
  rw [em]
  by_cases h : 0 ≤ l.val
  · rw [if_pos h, if_pos (show 2 ≤ l.val + 2 by omega)]
    exact congrArg (fun q => up m c q n) (show 2064 * b.val + (l.val + 2) - 2 = 2064 * b.val + l.val - 0 by omega)
  · rw [if_neg h, if_neg (show ¬2 ≤ l.val + 2 by omega)]

/-- The reference's convolution. -/
theorem ref_conv (a : Fin 8256) (n : Fin 5632) : val_main_v27 (F := Ideal) (UP m c) (CW m c) (CB m c) (ix2 a n) = conv m c a.val n := by
  have ha := a.isLt
  have hn := n.isLt
  have e : idx_main_v27 (ix2 a n) = ix3 (⟨a.val / 2064, by omega⟩ : Fin 4) (⟨a.val % 2064, Nat.mod_lt _ (by decide)⟩ : Fin 2064) n := funext fun d => Fin.ext (by
    match d with
    | ⟨0, _⟩ => show (a.val * 5632 + n.val) / 11624448 = a.val / 2064; omega
    | ⟨1, _⟩ => show (a.val * 5632 + n.val) / 5632 % 2064 = a.val % 2064; omega
    | ⟨2, _⟩ => show (a.val * 5632 + n.val) % 5632 = n.val; omega)
  rw [val_main_v27_apply, e]
  have hq : 2064 * (a.val / 2064) + a.val % 2064 = a.val := Nat.div_add_mod _ _
  generalize hb : (⟨a.val / 2064, by omega⟩ : Fin 4) = b
  generalize hl : (⟨a.val % 2064, Nat.mod_lt _ (by decide)⟩ : Fin 2064) = l
  have hba : 2064 * b.val + l.val = a.val := by rw [← hb, ← hl]; exact hq
  rw [val_main_v26_apply, val_main_v19_apply, val_main_v12_apply, ref_p2, ref_p1, ref_p0, val_main_v11_apply, val_main_v10_apply, hba]
  unfold conv
  refine congrArg₂ (· + ·) (congrArg₂ (· + ·) (congrArg₂ (· + ·) (congrArg (CB m c) (funext fun d => ?_)) rfl) rfl) rfl
  match d with
  | ⟨0, _⟩ => rfl

/-- Channel `f` of block `p`. -/
abbrev chan (p : Fin 8) (f : Fin 704) : Fin 5632 := blockCol (show 5632 = 8 * 704 from rfl) p f
abbrev lo (p : Fin 4) : Fin 8 := ⟨p.val, by have := p.isLt; omega⟩
abbrev hi (p : Fin 4) : Fin 8 := ⟨4 + p.val, by have := p.isLt; omega⟩

theorem ref_conv_lo (p : Fin 4) (a : Fin 8256) (f : Fin 704) : val_main_v92 (F := Ideal) (UP m c) (CW m c) (CB m c) (ix3 p a f) = conv m c a.val (chan (lo p) f) := by
  rw [val_main_v92_apply]
  have e : idx_main_v92 (ix3 p a f) = ix3 (lo p) a f := funext fun d => by match d with | ⟨0, _⟩ => rfl | ⟨1, _⟩ => rfl | ⟨2, _⟩ => rfl
  rw [e]
  unfold val_main_v91 val_main_v90
  refine (blocks_apply (show 5632 = 8 * 704 from rfl) (val_main_v89 (F := Ideal) (UP m c) (CW m c) (CB m c) : S8256x5632.Idx → EReal) _ _ (lo p) a f).trans ?_
  exact ref_conv m c a (chan (lo p) f)

theorem ref_conv_hi (p : Fin 4) (a : Fin 8256) (f : Fin 704) : val_main_v93 (F := Ideal) (UP m c) (CW m c) (CB m c) (ix3 p a f) = conv m c a.val (chan (hi p) f) := by
  rw [val_main_v93_apply]
  have e : idx_main_v93 (ix3 p a f) = ix3 (hi p) a f := funext fun d => by match d with | ⟨0, _⟩ => rfl | ⟨1, _⟩ => rfl | ⟨2, _⟩ => rfl
  rw [e]
  unfold val_main_v91 val_main_v90
  refine (blocks_apply (show 5632 = 8 * 704 from rfl) (val_main_v89 (F := Ideal) (UP m c) (CW m c) (CB m c) : S8256x5632.Idx → EReal) _ _ (hi p) a f).trans ?_
  exact ref_conv m c a (chan (hi p) f)

/-- The reference's gated channels, -/
theorem ref_gate (a : Fin 8256) (q : Fin 2816) : val_main_v31 (F := Ideal) (UP m c) (CW m c) (CB m c) (ix2 a q) = gate m c a.val q := by
  have e1 : idx_main_v28 (ix2 a q) = ix2 a (left q) := funext fun d => by match d with | ⟨0, _⟩ => rfl | ⟨1, _⟩ => rfl
  have e2 : idx_main_v30 (ix2 a q) = ix2 a (right q) := funext fun d => by match d with | ⟨0, _⟩ => rfl | ⟨1, _⟩ => rfl
  rw [val_main_v31_apply, val_main_v29_apply, val_main_v30_apply, val_main_call0_v5_apply, val_main_call0_v4_apply, val_main_call0_v3_apply, val_main_call0_v2_apply,
    val_main_call0_v1_apply, val_main_call0_v0_apply, val_main_v28_apply, val_main_call0_cst_apply, val_main_call0_cst_0_apply, e1, e2, ref_conv, ref_conv]
  unfold gate
  simp only [Ideal.ofBits_def, one_word]
  rfl

/-- and the rows after the channel mixer. -/
theorem ref_x (a : Fin 8256) (k : Fin 1024) : X m c a k = H m c (ix2 a k) + ∑ q : Fin 2816, gate m c a.val q * WD m c (ix2 q k) := by
  unfold X
  rw [val_main_v33_apply, val_main_v32_apply]
  refine congrArg₂ (· + ·) rfl (Finset.sum_congr rfl fun q _ => ?_)
  have e1 : lidx_main_v32 (ix2 a k) q = ix2 a q := funext fun b => by match b with | ⟨0, _⟩ => rfl | ⟨1, _⟩ => rfl
  have e2 : ridx_main_v32 (ix2 a k) q = ix2 q k := funext fun b => by match b with | ⟨0, _⟩ => rfl | ⟨1, _⟩ => rfl
  rw [e1, e2, ref_gate]

/-- The reference's mean square of a row. -/
theorem ref_mean (a : Fin 8256) : val_main_v40 (F := Ideal) (UP m c) (CW m c) (CB m c) (WD m c) (H m c) (ix2 a (0 : Fin 1)) = meanSq (X m c a) := by
  rw [val_main_v40_apply, val_main_v38_apply, val_main_v36_apply, val_main_v35_apply, val_main_cst_0_apply, val_main_v37_apply, val_main_cst_1_apply, val_main_v39_apply, val_main_cst_2_apply]
  unfold meanSq
  refine congrArg₂ (· + ·) (congrArg₂ Ideal.div ?_ rfl) rfl
  refine (congrArg₂ (· + ·) zero_word rfl).trans ((zero_add (M := EReal) _).trans (Finset.sum_congr rfl fun k _ => ?_))
  have e : idx_main_v35 (idx_main_v36 (ix2 a (0 : Fin 1))) k = ix2 a k := funext fun b => by match b with | ⟨0, _⟩ => rfl | ⟨1, _⟩ => rfl
  rw [val_main_v34_apply, e]
  rfl

theorem ref_rstd (a : Fin 8256) : val_main_v41 (F := Ideal) (UP m c) (CW m c) (CB m c) (WD m c) (H m c) (ix2 a (0 : Fin 1)) = Ideal.rsqrt (meanSq (X m c a)) := by
  rw [val_main_v41_apply, ref_mean]
  rfl

/-- The gradient of the scaled row. -/
theorem ref_scaled (a : Fin 8256) (k : Fin 1024) : val_main_v73 (F := Ideal) (UP m c) (CW m c) (CB m c) (WD m c) (H m c) (TG m c) (Gm m c) (ix2 a k) = (A m c a k : EReal) * G m c k := by
  rw [val_main_v73_apply, val_main_v72_apply, val_main_v47_apply]
  refine congrArg₂ (· * ·) rfl (congrArg _ (funext fun b => Fin.ext ?_))
  match b with
  | ⟨0, _⟩ => rfl

theorem ref_slope (a : Fin 8256) (k : Fin 1024) : val_main_v84 (F := Ideal) (UP m c) (CW m c) (CB m c) (WD m c) (H m c) (TG m c) (Gm m c) (ix2 a k) = meanGrad (X m c a) (G m c) (A m c a) := by
  have e : idx_main_v83 (idx_main_v84 (ix2 a k)) (0 : Fin 1) = ix2 a (0 : Fin 1) := funext fun b => by match b with | ⟨0, _⟩ => rfl | ⟨1, _⟩ => rfl
  rw [val_main_v84_apply, val_main_v83_apply, val_main_cst_16_apply, Fin.sum_univ_one, e, val_main_v82_apply, val_main_v80_apply, val_main_v77_apply, val_main_v76_apply, val_main_cst_14_apply,
    val_main_v44_apply, val_main_v43_apply, val_main_cst_3_apply, val_main_v42_apply, ref_mean, ref_rstd, val_main_v81_apply, val_main_cst_15_apply]
  refine (congrArg₂ (· + ·) zero_word rfl).trans ((zero_add (M := EReal) _).trans ?_)
  unfold meanGrad
  refine congrArg₂ Ideal.div (congrArg₂ (· * ·) ?_ rfl) rfl
  refine (congrArg₂ (· + ·) zero_word rfl).trans ((zero_add (M := EReal) _).trans (Finset.sum_congr rfl fun n _ => ?_))
  have e2 : idx_main_v76 (idx_main_v77 (ix2 a (0 : Fin 1))) n = ix2 a n := funext fun b => Fin.ext (by match b with | ⟨0, _⟩ => show a.val * 1 + 0 = a.val; omega | ⟨1, _⟩ => rfl)
  rw [e2, val_main_v75_apply, ref_scaled]
  rfl

/-- The gradient of a row. -/
theorem ref_row (a : Fin 8256) (k : Fin 1024) : val_main_v88 (F := Ideal) (UP m c) (CW m c) (CB m c) (WD m c) (H m c) (TG m c) (Gm m c) (ix2 a k) = rowGrad (X m c a) (G m c) (A m c a) k := by
  have e : idx_main_v78 (ix2 a k) = ix2 a (0 : Fin 1) := funext fun b => by match b with | ⟨0, _⟩ => rfl | ⟨1, _⟩ => rfl
  rw [val_main_v88_apply, val_main_v86_apply, val_main_v79_apply, val_main_v85_apply, val_main_v87_apply, val_main_v78_apply, e, ref_rstd, ref_scaled, ref_slope]
  rfl

/-- The gradient of the weights, as a sum over the rows. -/
theorem ref_weights (k : Fin 1024) : val_main_v95 (F := Ideal) (UP m c) (CW m c) (CB m c) (WD m c) (H m c) (TG m c) (Gm m c) (ix2 (0 : Fin 1) k) = ∑ a : Fin 8256, weightGrad (X m c a) (A m c a) k := by
  have e : idx_main_v95 (ix2 (0 : Fin 1) k) = ix1 k := funext fun b => Fin.ext (by match b with | ⟨0, _⟩ => show 0 * 1024 + k.val = k.val; omega)
  have e2 : idx_main_v71 (idx_main_v74 (ix1 k) (0 : Fin 1)) = ix1 k := funext fun b => Fin.ext (by match b with | ⟨0, _⟩ => show 0 * 1024 + k.val = k.val; omega)
  rw [val_main_v95_apply, e, val_main_v74_apply, val_main_cst_13_apply, Fin.sum_univ_one, val_main_v71_apply, e2, val_main_v70_apply, val_main_cst_12_apply]
  refine (congrArg₂ (· + ·) zero_word rfl).trans ((zero_add (M := EReal) _).trans ?_)
  refine (congrArg₂ (· + ·) zero_word rfl).trans ((zero_add (M := EReal) _).trans (Finset.sum_congr rfl fun a _ => ?_))
  have e3 : idx_main_v70 (ix1 k) a = ix2 a k := funext fun b => by match b with | ⟨0, _⟩ => rfl | ⟨1, _⟩ => rfl
  have e4 : idx_main_v45 (ix2 a k) = ix2 a (0 : Fin 1) := funext fun b => by match b with | ⟨0, _⟩ => rfl | ⟨1, _⟩ => rfl
  rw [e3, val_main_v69_apply, val_main_v46_apply, val_main_v45_apply, e4, ref_rstd]
  rfl

/-- The reference's distance from the target. -/
theorem ref_err (a : Fin 8256) (k : Fin 1024) : val_main_v50 (F := Ideal) (UP m c) (CW m c) (CB m c) (WD m c) (H m c) (TG m c) (Gm m c) (ix2 a k) = err m c a k := by
  have e4 : idx_main_v45 (ix2 a k) = ix2 a (0 : Fin 1) := funext fun b => by match b with | ⟨0, _⟩ => rfl | ⟨1, _⟩ => rfl
  rw [val_main_v50_apply, val_main_v49_apply, val_main_v46_apply, val_main_v45_apply, e4, ref_rstd, val_main_v48_apply, val_main_v47_apply]
  unfold err
  refine congrArg₂ (· - ·) (congrArg₂ (· * ·) rfl (congrArg (Gm m c) (funext fun b => ?_))) rfl
  match b with
  | ⟨0, _⟩ => rfl

/-- A row of the rows from the sixteenth on of each sequence. -/
theorem ref_late (b : Fin 4) (l : Fin 2048) (k : Fin 1024) :
    val_main_v52 (F := Ideal) (UP m c) (CW m c) (CB m c) (WD m c) (H m c) (TG m c) (Gm m c) (ix3 b l k) = err m c (⟨2064 * b.val + (16 + l.val), by have := b.isLt; have := l.isLt; omega⟩ : Fin 8256) k := by
  have hb := b.isLt
  have hl := l.isLt
  have hk := k.isLt
  rw [val_main_v52_apply, val_main_v51_apply]
  refine Eq.trans (congrArg _ (funext fun d => Fin.ext ?_)) (ref_err m c (⟨2064 * b.val + (16 + l.val), by omega⟩ : Fin 8256) k)
  match d with
  | ⟨0, _⟩ => show ((b.val * 2064 + (16 + l.val)) * 1024 + k.val) / 1024 = 2064 * b.val + (16 + l.val); omega
  | ⟨1, _⟩ => show ((b.val * 2064 + (16 + l.val)) * 1024 + k.val) % 1024 = k.val; omega

/-- The gradient of the normed row. -/
theorem ref_A (a : Fin 8256) (k : Fin 1024) : A m c a k = err m c a k * ct a.val + ct a.val * err m c a k := by
  have ha := a.isLt
  have hk := k.isLt
  have e : idx_main_v68 (ix2 a k) = ix3 (⟨a.val / 2064, by omega⟩ : Fin 4) (⟨a.val % 2064, Nat.mod_lt _ (by decide)⟩ : Fin 2064) k := funext fun d => Fin.ext (by
    match d with
    | ⟨0, _⟩ => show (a.val * 1024 + k.val) / 2113536 = a.val / 2064; omega
    | ⟨1, _⟩ => show (a.val * 1024 + k.val) / 1024 % 2064 = a.val % 2064; omega
    | ⟨2, _⟩ => show (a.val * 1024 + k.val) % 1024 = k.val; omega)
  unfold A
  rw [val_main_v68_apply, e]
  unfold val_main_v67 ct
  by_cases h : 16 ≤ a.val % 2064
  · rw [if_pos h]
    refine (pad_apply_of_inside _ _ _ (val_main_v66 (F := Ideal) (UP m c) (CW m c) (CB m c) (WD m c) (H m c) (TG m c) (Gm m c)) _ _ _ _ (ix3 (⟨a.val / 2064, by omega⟩ : Fin 4) (⟨a.val % 2064 - 16, by omega⟩ : Fin 2048) k) (fun d => ?_)).trans ?_
    · match d with
      | ⟨0, _⟩ => show a.val / 2064 = 0 + a.val / 2064 * (0 + 1); omega
      | ⟨1, _⟩ => show a.val % 2064 = 16 + (a.val % 2064 - 16) * (0 + 1); omega
      | ⟨2, _⟩ => show k.val = 0 + k.val * (0 + 1); omega
    · rw [val_main_v66_apply, val_main_v64_apply, val_main_v65_apply, ref_late, val_main_v63_apply, val_main_v62_apply, val_main_v60_apply, val_main_v61_apply,
        val_main_v59_apply, val_main_cst_8_apply, val_main_cst_9_apply, val_main_cst_10_apply]
      have ea : (⟨2064 * (a.val / 2064) + (16 + (a.val % 2064 - 16)), by omega⟩ : Fin 8256) = a := Fin.ext (by show 2064 * (a.val / 2064) + (16 + (a.val % 2064 - 16)) = a.val; omega)
      have ec : Ideal.div (Ideal.ofBits .f32 0x3F000000#32 * Ideal.ofBits .f32 0x3F800000#32) (Ideal.ofBits .f32 0x44800000#32)
          = Ideal.ofBits .f32 0x3F000000#32 * Ideal.div (Ideal.ofBits .f32 0x3F800000#32) (Ideal.ofBits .f32 0x44800000#32) := (half_div _).symm
      rw [ea]
      exact congrArg₂ (· + ·) (congrArg₂ (· * ·) rfl ec) (congrArg₂ (· * ·) ec rfl)
  · rw [if_neg h, mul_zero, zero_mul, add_zero]
    refine (pad_apply_of_not_inside _ _ _ (val_main_v66 (F := Ideal) (UP m c) (CW m c) (CB m c) (WD m c) (H m c) (TG m c) (Gm m c)) _ _ _ _ (1 : Fin 3) (fun hh => ?_)).trans zero_word
    have h1 : 16 ≤ a.val % 2064 := hh.1
    exact h h1

/-- The reference's loss, as a sum over the rows. -/
theorem ref_loss (j : S1x128.Idx) : val_main_v94 (F := Ideal) (UP m c) (CW m c) (CB m c) (WD m c) (H m c) (TG m c) (Gm m c) j = ∑ a : Fin 8256, rowLoss m c a := by
  rw [val_main_v94_apply, val_main_v58_apply, val_main_v57_apply, val_main_cst_7_apply, val_main_cst_6_apply]
  have hs : ∀ f : Fin 8256 → EReal, (∀ a, ¬16 ≤ a.val % 2064 → f a = 0) →
      ∑ a : Fin 8256, f a = ∑ b : Fin 4, ∑ l : Fin 2048, f (⟨2064 * b.val + (16 + l.val), by have := b.isLt; have := l.isLt; omega⟩ : Fin 8256) := fun f hf => by
    have h1 : ∑ a : Fin 8256, f a = ∑ a : Fin 8256, ext f a.val := Finset.sum_congr rfl fun a _ => (ext_of_lt f a.isLt).symm
    rw [h1, rows_sum]
    refine Finset.sum_congr rfl fun b _ => ?_
    have hb := b.isLt
    have h5 : ∑ l ∈ Finset.range 2064, ext f (2064 * b.val + l)
        = ∑ l ∈ Finset.range 16, ext f (2064 * b.val + l) + ∑ l ∈ Finset.range 2048, ext f (2064 * b.val + (16 + l)) :=
      Finset.sum_range_add (fun l => ext f (2064 * b.val + l)) 16 2048
    rw [← Finset.sum_range (fun l => ext f (2064 * b.val + l)), h5]
    rw [Finset.sum_eq_zero (s := Finset.range 16) (fun l hl => by
      have hl2 := Finset.mem_range.mp hl
      have hlt : 2064 * b.val + l < 8256 := by omega
      rw [ext_of_lt f hlt]
      exact hf _ (show ¬16 ≤ (2064 * b.val + l) % 2064 by omega)), zero_add, Finset.sum_range]
    refine Finset.sum_congr rfl fun l _ => ?_
    have hl := l.isLt
    exact ext_of_lt f (show 2064 * b.val + (16 + l.val) < 8256 by omega)
  rw [hs (rowLoss m c) (fun a h => by unfold rowLoss; rw [if_neg h, mul_zero, div_width, mul_zero])]
  have h2 : ∑ j : Cert.FfnRefIdeal.S4x2048.Idx, val_main_v56 (F := Ideal) (UP m c) (CW m c) (CB m c) (WD m c) (H m c) (TG m c) (Gm m c) j = ∑ b : Fin 4, ∑ l : Fin 2048, val_main_v56 (F := Ideal) (UP m c) (CW m c) (CB m c) (WD m c) (H m c) (TG m c) (Gm m c) (ix2 b l) := sum_idx2 _
  rw [h2]
  refine (congrArg₂ (· * ·) rfl ((congrArg₂ (· + ·) zero_word rfl).trans (zero_add (M := EReal) _))).trans ?_
  have h0 : (0 : EReal) ≤ Ideal.ofBits .f32 0x3F000000#32 := by rw [word_half]; exact EReal.coe_nonneg.mpr (by norm_num)
  have h3 : (Ideal.ofBits .f32 0x3F000000#32 : EReal) ≠ ⊤ := by rw [word_half]; exact EReal.coe_ne_top _
  refine (mul_sum_real Finset.univ _ _ h0 h3).trans (Finset.sum_congr rfl fun b _ => ?_)
  refine (mul_sum_real Finset.univ _ _ h0 h3).trans (Finset.sum_congr rfl fun l _ => ?_)
  have hb := b.isLt
  have hl := l.isLt
  rw [val_main_v56_apply, val_main_v55_apply, val_main_cst_5_apply, val_main_v54_apply, val_main_cst_4_apply]
  unfold rowLoss
  rw [if_pos (show 16 ≤ (2064 * b.val + (16 + l.val)) % 2064 by omega)]
  refine (half_div _).trans (congrArg (fun x => Ideal.div (Ideal.ofBits .f32 0x3F000000#32 * x) (Ideal.ofBits .f32 0x44800000#32)) ?_)
  refine (congrArg₂ (· + ·) zero_word rfl).trans ((zero_add (M := EReal) _).trans (Finset.sum_congr rfl fun k _ => ?_))
  have e : idx_main_v54 (ix2 b l) k = ix3 b l k := funext fun d => by match d with | ⟨0, _⟩ => rfl | ⟨1, _⟩ => rfl | ⟨2, _⟩ => rfl
  rw [e, val_main_v53_apply, ref_late]
  rfl

end Cert.FfnIdeal.Hand

end
-- ==== Proof.FfnBlocks.lean ====
/- The blocks of the kernel of the second half of the channel mixer and of the loss, and what one point computes of them, over the extended reals. -/
module

public import proofs.«01_k».proof.Proof.FfnRef
public import proofs.«01_k».proof.Proof.Gen.FfnIdeal.Value

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.ValueIdx Cert.Common
open Idealize.ShloMosaic.Pipeline (Dat)

variable (m : (ℓ : Loc nD τ sig) → Buf (Elt Ideal) ℓ) (c : Dev nD)

theorem N_eq : cfg0.N = 48 := N_0

/-- The block of channels and the row of a point. -/
abbrev pt (t : Fin cfg0.N) : Fin 4 := ⟨t.val % 4, Nat.mod_lt _ (by decide)⟩
abbrev row (t : Fin cfg0.N) (r : Fin 688) : Fin 8256 := ⟨688 * (t.val / 4) + r.val, by have := t.isLt; have := r.isLt; have := N_eq; omega⟩
/-- A row of the sixteen before a point's block. -/
abbrev prev (t : Fin cfg0.N) (r : Fin 16) : Fin 8256 := ⟨16 * (t.val / 4 * 43 - 1) + r.val, by have := t.isLt; have := r.isLt; have := N_eq; omega⟩

/-- What the region finds: the projection's result in blocks of channels, -/
theorem V_up (q : Fin 8) (a : Fin 8256) (f : Fin 704) :
    (V m c main_v1 : S8x8256x704.Idx → EReal) (ix3 q a f) = UP m c (ix2 a (chan q f)) := by
  have e : (V m c main_v1 : S8x8256x704.Idx → EReal) = (transpose S8x8256x704 [1, 0, 2] (shapeCast S8256x8x704 (UP m c : S8256x5632.Idx → EReal) shapeCasts_S8256x5632_S8256x8x704)
        transposes_S8256x8x704_S8x8256x704_1_0_2) := by
    unfold V
    after_results_simp
    rfl
  rw [e]
  exact blocks_apply (show 5632 = 8 * 704 from rfl) _ _ _ q a f

/-- the filter, -/
theorem V_cw (q : Fin 8) (a : Fin 3) (f : Fin 704) :
    (V m c main_v3 : S8x3x704.Idx → EReal) (ix3 q a f) = CW m c (ix2 a (chan q f)) := by
  have e : (V m c main_v3 : S8x3x704.Idx → EReal) = (transpose S8x3x704 [1, 0, 2] (shapeCast S3x8x704 (CW m c : S3x5632.Idx → EReal) shapeCasts_S3x5632_S3x8x704)
        transposes_S3x8x704_S8x3x704_1_0_2) := by
    unfold V
    after_results_simp
    rfl
  rw [e]
  exact blocks_apply (show 5632 = 8 * 704 from rfl) _ _ _ q a f

/-- its bias, -/
theorem V_cb (q : Fin 8) (f : Fin 704) : (V m c main_v6 : S8x1x704.Idx → EReal) (ix3 q (0 : Fin 1) f) = CB m c (ix1 (chan q f)) := by
  have e : (V m c main_v6 : S8x1x704.Idx → EReal) = (transpose S8x1x704 [1, 0, 2] (shapeCast S1x8x704 (shapeCast S1x5632 (CB m c : S5632.Idx → EReal) shapeCasts_S5632_S1x5632) shapeCasts_S1x5632_S1x8x704)
        transposes_S1x8x704_S8x1x704_1_0_2) := by
    unfold V
    after_results_simp
    rfl
  rw [e]
  exact (blocks_apply (show 5632 = 8 * 704 from rfl) _ _ _ q (0 : Fin 1) f).trans (as_row _ _ _)

/-- the second matrix, -/
theorem V_wd (p : Fin 4) (f : Fin 704) (k : Fin 1024) : (V m c main_v8 : S4x704x1024.Idx → EReal) (ix3 p f k) = WD m c (ix2 (blockCol (show 2816 = 4 * 704 from rfl) p f) k) := by
  have e : (V m c main_v8 : S4x704x1024.Idx → EReal) = shapeCast S4x704x1024 (WD m c : S2816x1024.Idx → EReal) shapeCasts_S2816x1024_S4x704x1024 := by
    unfold V
    after_results_simp
    rfl
  rw [e]
  refine shapeCast_apply _ _ _ _ ?_
  rw [Shape.rowMajor_val_two, Shape.rowMajor_val_three]
  show (704 * p.val + f.val) * 1024 + k.val = (p.val * 704 + f.val) * 1024 + k.val
  omega

/-- and the weights as a row. -/
theorem V_g : (V m c main_v9 : S1x1024.Idx → EReal) = shapeCast S1x1024 (Gm m c : S1024.Idx → EReal) shapeCasts_S1024_S1x1024 := by
  unfold V
  after_results_simp
  rfl

theorem idx_0 : ∀ t : Fin cfg0.N, win0_0.index t (0 : Fin 3) = t.val % 4 ∧ win0_0.index t (1 : Fin 3) = t.val / 4 ∧ win0_0.index t (2 : Fin 3) = 0 :=
  (by decide +kernel : ∀ t : Fin grid0.N, _)

theorem idx_1 : ∀ t : Fin cfg0.N, win0_1.index t (0 : Fin 3) = t.val % 4 ∧ win0_1.index t (1 : Fin 3) = t.val / 4 * 43 - 1 ∧ win0_1.index t (2 : Fin 3) = 0 :=
  (by decide +kernel : ∀ t : Fin grid0.N, _)

theorem idx_2 : ∀ t : Fin cfg0.N, win0_2.index t (0 : Fin 3) = t.val % 4 + 4 ∧ win0_2.index t (1 : Fin 3) = t.val / 4 ∧ win0_2.index t (2 : Fin 3) = 0 :=
  (by decide +kernel : ∀ t : Fin grid0.N, _)

theorem idx_3 : ∀ t : Fin cfg0.N, win0_3.index t (0 : Fin 3) = t.val % 4 + 4 ∧ win0_3.index t (1 : Fin 3) = t.val / 4 * 43 - 1 ∧ win0_3.index t (2 : Fin 3) = 0 :=
  (by decide +kernel : ∀ t : Fin grid0.N, _)

theorem idx_4 : ∀ t : Fin cfg0.N, win0_4.index t (0 : Fin 3) = t.val % 4 ∧ win0_4.index t (1 : Fin 3) = 0 ∧ win0_4.index t (2 : Fin 3) = 0 :=
  (by decide +kernel : ∀ t : Fin grid0.N, _)

theorem idx_5 : ∀ t : Fin cfg0.N, win0_5.index t (0 : Fin 3) = t.val % 4 + 4 ∧ win0_5.index t (1 : Fin 3) = 0 ∧ win0_5.index t (2 : Fin 3) = 0 :=
  (by decide +kernel : ∀ t : Fin grid0.N, _)

theorem idx_6 : ∀ t : Fin cfg0.N, win0_6.index t (0 : Fin 3) = t.val % 4 ∧ win0_6.index t (1 : Fin 3) = 0 ∧ win0_6.index t (2 : Fin 3) = 0 :=
  (by decide +kernel : ∀ t : Fin grid0.N, _)

theorem idx_7 : ∀ t : Fin cfg0.N, win0_7.index t (0 : Fin 3) = t.val % 4 + 4 ∧ win0_7.index t (1 : Fin 3) = 0 ∧ win0_7.index t (2 : Fin 3) = 0 :=
  (by decide +kernel : ∀ t : Fin grid0.N, _)

theorem idx_8 : ∀ t : Fin cfg0.N, win0_8.index t (0 : Fin 3) = t.val % 4 ∧ win0_8.index t (1 : Fin 3) = 0 ∧ win0_8.index t (2 : Fin 3) = 0 :=
  (by decide +kernel : ∀ t : Fin grid0.N, _)

theorem idx_9 : ∀ t : Fin cfg0.N, win0_9.index t (0 : Fin 2) = t.val / 4 ∧ win0_9.index t (1 : Fin 2) = 0 :=
  (by decide +kernel : ∀ t : Fin grid0.N, _)

theorem idx_10 : ∀ t : Fin cfg0.N, win0_10.index t (0 : Fin 2) = t.val / 4 ∧ win0_10.index t (1 : Fin 2) = 0 :=
  (by decide +kernel : ∀ t : Fin grid0.N, _)

theorem idx_11 : ∀ t : Fin cfg0.N, win0_11.index t (0 : Fin 2) = 0 ∧ win0_11.index t (1 : Fin 2) = 0 :=
  (by decide +kernel : ∀ t : Fin grid0.N, _)

theorem idx_12 : ∀ t : Fin cfg0.N, win0_12.index t (0 : Fin 3) = t.val % 4 ∧ win0_12.index t (1 : Fin 3) = t.val / 4 ∧ win0_12.index t (2 : Fin 3) = 0 :=
  (by decide +kernel : ∀ t : Fin grid0.N, _)

theorem idx_13 : ∀ t : Fin cfg0.N, win0_13.index t (0 : Fin 3) = t.val % 4 ∧ win0_13.index t (1 : Fin 3) = t.val / 4 ∧ win0_13.index t (2 : Fin 3) = 0 :=
  (by decide +kernel : ∀ t : Fin grid0.N, _)

theorem idx_14 : ∀ t : Fin cfg0.N, win0_14.index t (0 : Fin 2) = t.val / 4 ∧ win0_14.index t (1 : Fin 2) = 0 :=
  (by decide +kernel : ∀ t : Fin grid0.N, _)

theorem idx_15 : ∀ t : Fin cfg0.N, win0_15.index t (0 : Fin 2) = 0 ∧ win0_15.index t (1 : Fin 2) = 0 :=
  (by decide +kernel : ∀ t : Fin grid0.N, _)

theorem idx_16 : ∀ t : Fin cfg0.N, win0_16.index t (0 : Fin 2) = 0 ∧ win0_16.index t (1 : Fin 2) = 0 :=
  (by decide +kernel : ∀ t : Fin grid0.N, _)

/-- The blocks of a point: the projection's result, its preceding rows, the filter and the bias. -/
theorem blk_up_lo (t : Fin cfg0.N) (r : Fin 688) (f : Fin 704) :
    (iblk m c 0 t : Vec Ideal S1x688x704 .bf16) (ix3 (0 : Fin 1) r f) = up m c (688 * (t.val / 4) + r.val) (chan (lo (pt t)) f) := by
  obtain ⟨h0, h1, h2⟩ := idx_0 t
  unfold iblk
  rw [View.read_apply]
  show (V m c main_v1 : S8x8256x704.Idx → EReal) _ = _
  refine Eq.trans (congrArg _ (funext fun a => Fin.ext ?_)) ((V_up m c (lo (pt t)) (row t r) f).trans (up_of m c (row t r) _).symm)
  match a with
  | ⟨0, _⟩ => show win0_0.index t 0 * 1 + 1 * 0 = t.val % 4; omega
  | ⟨1, _⟩ => show win0_0.index t 1 * 688 + 1 * r.val = 688 * (t.val / 4) + r.val; omega
  | ⟨2, _⟩ => show win0_0.index t 2 * 704 + 1 * f.val = f.val; omega

theorem blk_prev_lo (t : Fin cfg0.N) (r : Fin 16) (f : Fin 704) :
    (iblk m c 1 t : Vec Ideal S1x16x704 .bf16) (ix3 (0 : Fin 1) r f) = up m c (16 * (t.val / 4 * 43 - 1) + r.val) (chan (lo (pt t)) f) := by
  obtain ⟨h0, h1, h2⟩ := idx_1 t
  unfold iblk
  rw [View.read_apply]
  show (V m c main_v1 : S8x8256x704.Idx → EReal) _ = _
  refine Eq.trans (congrArg _ (funext fun a => Fin.ext ?_)) ((V_up m c (lo (pt t)) (prev t r) f).trans (up_of m c (prev t r) _).symm)
  match a with
  | ⟨0, _⟩ => show win0_1.index t 0 * 1 + 1 * 0 = t.val % 4; omega
  | ⟨1, _⟩ => show win0_1.index t 1 * 16 + 1 * r.val = 16 * (t.val / 4 * 43 - 1) + r.val; omega
  | ⟨2, _⟩ => show win0_1.index t 2 * 704 + 1 * f.val = f.val; omega

theorem blk_cw_lo (t : Fin cfg0.N) (k : Fin 3) (f : Fin 704) :
    (iblk m c 4 t : Vec Ideal S1x3x704 .f32) (ix3 (0 : Fin 1) k f) = CW m c (ix2 k (chan (lo (pt t)) f)) := by
  obtain ⟨h0, h1, h2⟩ := idx_4 t
  unfold iblk
  rw [View.read_apply]
  show (V m c main_v3 : S8x3x704.Idx → EReal) _ = _
  refine Eq.trans (congrArg _ (funext fun a => Fin.ext ?_)) (V_cw m c (lo (pt t)) k f)
  match a with
  | ⟨0, _⟩ => show win0_4.index t 0 * 1 + 1 * 0 = t.val % 4; omega
  | ⟨1, _⟩ => show win0_4.index t 1 * 3 + 1 * k.val = k.val; omega
  | ⟨2, _⟩ => show win0_4.index t 2 * 704 + 1 * f.val = f.val; omega

theorem blk_cb_lo (t : Fin cfg0.N) (f : Fin 704) :
    (iblk m c 6 t : Vec Ideal S1x1x704 .f32) (ix3 (0 : Fin 1) (0 : Fin 1) f) = CB m c (ix1 (chan (lo (pt t)) f)) := by
  obtain ⟨h0, h1, h2⟩ := idx_6 t
  unfold iblk
  rw [View.read_apply]
  show (V m c main_v6 : S8x1x704.Idx → EReal) _ = _
  refine Eq.trans (congrArg _ (funext fun a => Fin.ext ?_)) (V_cb m c (lo (pt t)) f)
  match a with
  | ⟨0, _⟩ => show win0_6.index t 0 * 1 + 1 * 0 = t.val % 4; omega
  | ⟨1, _⟩ => show win0_6.index t 1 * 1 + 1 * 0 = 0; rw [h1]
  | ⟨2, _⟩ => show win0_6.index t 2 * 704 + 1 * f.val = f.val; omega

/-- The blocks of a point: the projection's result, its preceding rows, the filter and the bias. -/
theorem blk_up_hi (t : Fin cfg0.N) (r : Fin 688) (f : Fin 704) :
    (iblk m c 2 t : Vec Ideal S1x688x704 .bf16) (ix3 (0 : Fin 1) r f) = up m c (688 * (t.val / 4) + r.val) (chan (hi (pt t)) f) := by
  obtain ⟨h0, h1, h2⟩ := idx_2 t
  unfold iblk
  rw [View.read_apply]
  show (V m c main_v1 : S8x8256x704.Idx → EReal) _ = _
  refine Eq.trans (congrArg _ (funext fun a => Fin.ext ?_)) ((V_up m c (hi (pt t)) (row t r) f).trans (up_of m c (row t r) _).symm)
  match a with
  | ⟨0, _⟩ => show win0_2.index t 0 * 1 + 1 * 0 = 4 + t.val % 4; omega
  | ⟨1, _⟩ => show win0_2.index t 1 * 688 + 1 * r.val = 688 * (t.val / 4) + r.val; omega
  | ⟨2, _⟩ => show win0_2.index t 2 * 704 + 1 * f.val = f.val; omega

theorem blk_prev_hi (t : Fin cfg0.N) (r : Fin 16) (f : Fin 704) :
    (iblk m c 3 t : Vec Ideal S1x16x704 .bf16) (ix3 (0 : Fin 1) r f) = up m c (16 * (t.val / 4 * 43 - 1) + r.val) (chan (hi (pt t)) f) := by
  obtain ⟨h0, h1, h2⟩ := idx_3 t
  unfold iblk
  rw [View.read_apply]
  show (V m c main_v1 : S8x8256x704.Idx → EReal) _ = _
  refine Eq.trans (congrArg _ (funext fun a => Fin.ext ?_)) ((V_up m c (hi (pt t)) (prev t r) f).trans (up_of m c (prev t r) _).symm)
  match a with
  | ⟨0, _⟩ => show win0_3.index t 0 * 1 + 1 * 0 = 4 + t.val % 4; omega
  | ⟨1, _⟩ => show win0_3.index t 1 * 16 + 1 * r.val = 16 * (t.val / 4 * 43 - 1) + r.val; omega
  | ⟨2, _⟩ => show win0_3.index t 2 * 704 + 1 * f.val = f.val; omega

theorem blk_cw_hi (t : Fin cfg0.N) (k : Fin 3) (f : Fin 704) :
    (iblk m c 5 t : Vec Ideal S1x3x704 .f32) (ix3 (0 : Fin 1) k f) = CW m c (ix2 k (chan (hi (pt t)) f)) := by
  obtain ⟨h0, h1, h2⟩ := idx_5 t
  unfold iblk
  rw [View.read_apply]
  show (V m c main_v3 : S8x3x704.Idx → EReal) _ = _
  refine Eq.trans (congrArg _ (funext fun a => Fin.ext ?_)) (V_cw m c (hi (pt t)) k f)
  match a with
  | ⟨0, _⟩ => show win0_5.index t 0 * 1 + 1 * 0 = 4 + t.val % 4; omega
  | ⟨1, _⟩ => show win0_5.index t 1 * 3 + 1 * k.val = k.val; omega
  | ⟨2, _⟩ => show win0_5.index t 2 * 704 + 1 * f.val = f.val; omega

theorem blk_cb_hi (t : Fin cfg0.N) (f : Fin 704) :
    (iblk m c 7 t : Vec Ideal S1x1x704 .f32) (ix3 (0 : Fin 1) (0 : Fin 1) f) = CB m c (ix1 (chan (hi (pt t)) f)) := by
  obtain ⟨h0, h1, h2⟩ := idx_7 t
  unfold iblk
  rw [View.read_apply]
  show (V m c main_v6 : S8x1x704.Idx → EReal) _ = _
  refine Eq.trans (congrArg _ (funext fun a => Fin.ext ?_)) (V_cb m c (hi (pt t)) f)
  match a with
  | ⟨0, _⟩ => show win0_7.index t 0 * 1 + 1 * 0 = 4 + t.val % 4; omega
  | ⟨1, _⟩ => show win0_7.index t 1 * 1 + 1 * 0 = 0; rw [h1]
  | ⟨2, _⟩ => show win0_7.index t 2 * 704 + 1 * f.val = f.val; omega

/-- A block of the second matrix. -/
theorem blk_wd (t : Fin cfg0.N) (f : Fin 704) (k : Fin 1024) :
    (iblk m c 8 t : Vec Ideal S1x704x1024 .bf16) (ix3 (0 : Fin 1) f k) = WD m c (ix2 (blockCol (show 2816 = 4 * 704 from rfl) (pt t) f) k) := by
  obtain ⟨h0, h1, h2⟩ := idx_8 t
  unfold iblk
  rw [View.read_apply]
  show (V m c main_v8 : S4x704x1024.Idx → EReal) _ = _
  refine Eq.trans (congrArg _ (funext fun a => Fin.ext ?_)) (V_wd m c (pt t) f k)
  match a with
  | ⟨0, _⟩ => show win0_8.index t 0 * 1 + 1 * 0 = t.val % 4; omega
  | ⟨1, _⟩ => show win0_8.index t 1 * 704 + 1 * f.val = f.val; omega
  | ⟨2, _⟩ => show win0_8.index t 2 * 1024 + 1 * k.val = k.val; omega

/-- A block of the rows. -/
theorem blk_h (t : Fin cfg0.N) (r : Fin 688) (k : Fin 1024) :
    (iblk m c 9 t : Vec Ideal S688x1024 .f32) (ix2 r k) = H m c (ix2 (row t r) k) := by
  obtain ⟨h0, h1⟩ := idx_9 t
  unfold iblk
  rw [View.read_apply]
  show (V m c main_arg4 : S8256x1024.Idx → EReal) _ = _
  rw [V_main_arg4]
  congr 1
  funext a
  apply Fin.ext
  match a with
  | ⟨0, _⟩ => show win0_9.index t 0 * 688 + 1 * r.val = 688 * (t.val / 4) + r.val; omega
  | ⟨1, _⟩ => show win0_9.index t 1 * 1024 + 1 * k.val = k.val; omega

/-- A block of the targets. -/
theorem blk_tg (t : Fin cfg0.N) (r : Fin 688) (k : Fin 1024) :
    (iblk m c 10 t : Vec Ideal S688x1024 .f32) (ix2 r k) = TG m c (ix2 (row t r) k) := by
  obtain ⟨h0, h1⟩ := idx_10 t
  unfold iblk
  rw [View.read_apply]
  show (V m c main_arg5 : S8256x1024.Idx → EReal) _ = _
  rw [V_main_arg5]
  congr 1
  funext a
  apply Fin.ext
  match a with
  | ⟨0, _⟩ => show win0_10.index t 0 * 688 + 1 * r.val = 688 * (t.val / 4) + r.val; omega
  | ⟨1, _⟩ => show win0_10.index t 1 * 1024 + 1 * k.val = k.val; omega

/-- The weights. -/
theorem blk_g (t : Fin cfg0.N) (k : Fin 1024) :
    (iblk m c 11 t : Vec Ideal S1x1024 .f32) (ix2 (0 : Fin 1) k) = Gm m c (ix1 k) := by
  obtain ⟨h0, h1⟩ := idx_11 t
  unfold iblk
  rw [View.read_apply]
  show (V m c main_v9 : S1x1024.Idx → EReal) _ = _
  rw [V_g]
  refine Eq.trans (congrArg _ (funext fun a => Fin.ext ?_)) (as_row (Gm m c : S1024.Idx → EReal) _ k)
  match a with
  | ⟨0, _⟩ => show win0_11.index t 0 * 1 + 1 * 0 = 0; rw [h0]
  | ⟨1, _⟩ => show win0_11.index t 1 * 1024 + 1 * k.val = k.val; omega

/-- A point's place in the grid. -/
theorem edge_at : ∀ t : Fin cfg0.N, edge (grid0.coords t) = if t.val / 4 % 3 = 0 then 1#1 else 0#1 :=
  (by decide +kernel : ∀ t : Fin grid0.N, _)

theorem coord_at : ∀ t : Fin cfg0.N, ((grid0.coords t) 0).val = t.val / 4 :=
  (by decide +kernel : ∀ t : Fin grid0.N, _)

theorem pay16_eq (i : grid0.Coords) (x : Vec Ideal S1x16x704 .bf16) : k0_pay16 i x = k0_pay19 (edge i) x := rfl
theorem pay17_eq (x : Vec Ideal S1x688x704 .bf16) : k0_pay17 x = k0_pay20 x := rfl
theorem pay18_eq (a b d : Vec Ideal S688x704 .f32) (w : Vec Ideal S1x3x704 .f32) (e : Vec Ideal S1x1x704 .f32) : k0_pay18 a b d w e = k0_pay22 a b d (k0_pay21 w) e := rfl

/-- A block's rows as floats; -/
theorem pay20_at (x : Vec Ideal S1x688x704 .bf16) (r : Fin 688) (f : Fin 704) : (k0_pay20 x : S688x704.Idx → EReal) (ix2 r f) = x (ix3 (0 : Fin 1) r f) := by
  unfold k0_pay20
  rw [shapeCast_self]
  exact drop_unit _ _ r f

/-- the preceding rows, zero before the start of a sequence. -/
theorem pay19_at (e : BitVec 1) (x : Vec Ideal S1x16x704 .bf16) (r : Fin 16) (f : Fin 704) :
    (k0_pay19 e x : S16x704.Idx → EReal) (ix2 r f) = if e = 1 then 0 else x (ix3 (0 : Fin 1) r f) := by
  unfold k0_pay19
  rw [shapeCast_self]
  unfold Scalar.select
  by_cases h : e = 1
  · rw [if_pos h, if_pos h]
    exact zero_word
  · rw [if_neg h, if_neg h]
    exact drop_unit _ _ r f

/-- The staged rows read from row `16 - s` on are the projection's result `s` rows back within the sequence. -/
theorem tap_back (n : Fin 704 → Fin 5632) (t : Fin cfg0.N) (s q : ℕ) (hq : q + s = 16) (x : Vec Ideal S1x688x704 .bf16) (y : Vec Ideal S1x16x704 .bf16)
    (hx : ∀ r f, x (ix3 (0 : Fin 1) r f) = up m c (688 * (t.val / 4) + r.val) (n f))
    (hy : ∀ r f, y (ix3 (0 : Fin 1) r f) = up m c (16 * (t.val / 4 * 43 - 1) + r.val) (n f)) (r : Fin 688) (f : Fin 704) :
    (tap (F := Ideal) q (k0_pay19 (edge (grid0.coords t)) y) (k0_pay20 x) : S688x704.Idx → EReal) (ix2 r f) = back m c s (688 * (t.val / 4) + r.val) (n f) := by
  have hN := N_eq
  have ht := t.isLt
  have hr := r.isLt
  obtain ⟨u, hu⟩ : ∃ u, t.val / 4 = u := ⟨_, rfl⟩
  have hu12 : u < 12 := by omega
  rw [hu] at hx hy ⊢
  unfold tap back
  by_cases h : r.val + q < 16
  · refine (dif_pos (show (ix2 r f (0 : Fin 2)).val + q < 16 from h)).trans ((pay19_at _ _ _ _).trans ?_)
    rw [edge_at, hu]
    by_cases hz : u % 3 = 0
    · rw [if_pos hz]
      exact (if_pos rfl).trans (if_neg (show ¬s ≤ (688 * u + r.val) % 2064 by omega)).symm
    · rw [if_neg hz]
      refine (if_neg (by decide)).trans (Eq.trans ?_ (if_pos (show s ≤ (688 * u + r.val) % 2064 by omega)).symm)
      refine (hy _ _).trans (congrArg (fun q => up m c q (n f)) ?_)
      show 16 * (u * 43 - 1) + (r.val + q) = 688 * u + r.val - s
      omega
  · refine (dif_neg (show ¬(ix2 r f (0 : Fin 2)).val + q < 16 from h)).trans ((dif_pos (show (ix2 r f (0 : Fin 2)).val + q - 16 < 688 by show r.val + q - 16 < 688; omega)).trans ?_)
    refine (pay20_at _ _ _).trans ((hx _ _).trans ?_)
    rw [if_pos (show s ≤ (688 * u + r.val) % 2064 by omega)]
    refine congrArg (fun q => up m c q (n f)) ?_
    show 688 * u + (r.val + q - 16) = 688 * u + r.val - s
    omega

/-- A row of the filter repeated down the block. -/
theorem tap_row (v : FVec Ideal S1x704 .f32) (r : Fin 688) (f : Fin 704) :
    (broadcastTo S688x704 v broadcasts_S1x704_S688x704 : S688x704.Idx → EReal) (ix2 r f) = v (ix2 (0 : Fin 1) f) :=
  broadcastTo_apply v _ _ _ (fun d => by match d with | ⟨0, _⟩ => rfl | ⟨1, _⟩ => rfl)

/-- The convolution of staged rows at an index. -/
theorem pay22_at (a b d : Vec Ideal S688x704 .f32) (w : Vec Ideal S1x3x704 .f32) (e : Vec Ideal S1x1x704 .f32) (r : Fin 688) (f : Fin 704) :
    (k0_pay22 a b d (k0_pay21 w) e : S688x704.Idx → EReal) (ix2 r f)
      = ((e (ix3 (0 : Fin 1) (0 : Fin 1) f) + a (ix2 r f) * w (ix3 (0 : Fin 1) (0 : Fin 3) f)) + b (ix2 r f) * w (ix3 (0 : Fin 1) (1 : Fin 3) f)) + d (ix2 r f) * w (ix3 (0 : Fin 1) (2 : Fin 3) f) := by
  unfold k0_pay22 k0_pay21
  refine congrArg₂ (· + ·) (congrArg₂ (· + ·) (congrArg₂ (· + ·) ?_ ((congrArg₂ (· * ·) ?_ rfl).trans (mul_comm _ _))) ((congrArg₂ (· * ·) ?_ rfl).trans (mul_comm _ _))) ((congrArg₂ (· * ·) ?_ rfl).trans (mul_comm _ _))
  · exact (tap_row _ r f).trans (drop_unit _ _ (0 : Fin 1) f)
  · refine (tap_row _ r f).trans ((extractStridedSlice_apply _ _ _ _ (ix2 (0 : Fin 3) f) (fun b => ?_)).trans (drop_unit _ _ (0 : Fin 3) f))
    match b with
    | ⟨0, _⟩ => rfl
    | ⟨1, _⟩ => show f.val = 0 + f.val; omega
  · refine (tap_row _ r f).trans ((extractStridedSlice_apply _ _ _ _ (ix2 (1 : Fin 3) f) (fun b => ?_)).trans (drop_unit _ _ (1 : Fin 3) f))
    match b with
    | ⟨0, _⟩ => rfl
    | ⟨1, _⟩ => show f.val = 0 + f.val; omega
  · refine (tap_row _ r f).trans ((extractStridedSlice_apply _ _ _ _ (ix2 (2 : Fin 3) f) (fun b => ?_)).trans (drop_unit _ _ (2 : Fin 3) f))
    match b with
    | ⟨0, _⟩ => rfl
    | ⟨1, _⟩ => show f.val = 0 + f.val; omega

/-- The kernel's mean square of a row. -/
theorem pay_mean (x : Vec Ideal S688x1024 .f32) (r : Fin 688) : k0_pay5 x (ix2 r (0 : Fin 1)) = meanSq (fun k => x (ix2 r k)) := by
  unfold k0_pay5
  dsimp only
  unfold meanSq
  refine congrArg₂ (· + ·) (congrArg₂ Ideal.div ?_ rfl) rfl
  exact (as_column _ _ r).trans (row_sum _ _ _ _ _ r)

theorem pay_rstd (x : Vec Ideal S688x1024 .f32) (r : Fin 688) : k0_pay6 x (ix2 r (0 : Fin 1)) = Ideal.rsqrt (meanSq (fun k => x (ix2 r k))) := by
  unfold k0_pay6
  exact congrArg Ideal.rsqrt (pay_mean x r)

/-- A normed row, -/
theorem pay8_at (x : Vec Ideal S688x1024 .f32) (r : Fin 688) (k : Fin 1024) :
    (k0_pay8 x : S688x1024.Idx → EReal) (ix2 r k) = x (ix2 r k) * Ideal.rsqrt (meanSq (fun k => x (ix2 r k))) := by
  unfold k0_pay8
  exact congrArg₂ (· * ·) rfl ((repeat_column _ _ r k).trans (pay_rstd x r))

/-- its distance from the target, -/
theorem pay9_at (y x : Vec Ideal S688x1024 .f32) (g : Vec Ideal S1x1024 .f32) (r : Fin 688) (k : Fin 1024) :
    (k0_pay9 y x g : S688x1024.Idx → EReal) (ix2 r k) = (x (ix2 r k) * Ideal.rsqrt (meanSq (fun k => x (ix2 r k)))) * g (ix2 (0 : Fin 1) k) - y (ix2 r k) := by
  unfold k0_pay9 k0_pay4
  refine congrArg₂ (· - ·) (congrArg₂ (· * ·) (pay8_at x r k) ((repeat_row _ _ r k).trans ?_)) rfl
  rw [shapeCast_self]

/-- the rows that count, -/
theorem mask_word : ∀ (i : Fin 12) (r : Fin 688),
    Scalar.cmpi .sge (Scalar.addi (BitVec.ofNat 32 r.val) (Scalar.muli (Scalar.select (Scalar.andi (Scalar.xori (Scalar.cmpi .slt (Scalar.remsi (BitVec.ofNat 32 i.val) (Scalar.select (Scalar.cmpi .eq 3#32 0#32) 1#32 3#32)) 0#32)
        (Scalar.cmpi .slt (Scalar.select (Scalar.cmpi .eq 3#32 0#32) 1#32 3#32) 0#32)) (Scalar.cmpi .ne (Scalar.remsi (BitVec.ofNat 32 i.val) (Scalar.select (Scalar.cmpi .eq 3#32 0#32) 1#32 3#32)) 0#32))
        (Scalar.addi (Scalar.remsi (BitVec.ofNat 32 i.val) (Scalar.select (Scalar.cmpi .eq 3#32 0#32) 1#32 3#32)) (Scalar.select (Scalar.cmpi .eq 3#32 0#32) 1#32 3#32)) (Scalar.remsi (BitVec.ofNat 32 i.val) (Scalar.select (Scalar.cmpi .eq 3#32 0#32) 1#32 3#32))) 688#32)) 16#32
      = if 16 ≤ (688 * i.val + r.val) % 2064 then 1#1 else 0#1 := by
  decide +kernel

theorem pay10_at (i : Fin 12) (r : Fin 688) (k : Fin 1024) :
    k0_pay10 (BitVec.ofNat 32 i.val) (ix2 r k) = if 16 ≤ (688 * i.val + r.val) % 2064 then 1#1 else 0#1 := by
  unfold k0_pay10
  refine (repeat_column _ _ r k).trans ?_
  rw [shapeCast_self]
  have hi : iota .tc S688x1 32 [0] iota_S688x1_d0_w32 (ix2 r (0 : Fin 1)) = BitVec.ofNat 32 r.val :=
    congrArg (BitVec.ofNat 32) (show 0 * 688 + r.val = r.val by omega)
  refine Eq.trans ?_ (mask_word i r)
  show Scalar.cmpi .sge (Scalar.addi (iota .tc S688x1 32 [0] iota_S688x1_d0_w32 (ix2 r (0 : Fin 1))) _) 16#32 = _
  rw [hi]
  rfl

/-- the gradient of the normed row, -/
theorem pay12_at (e : Vec Ideal S688x1024 .f32) (M : IVec S688x1024 1) (a : ℕ) (j : S688x1024.Idx) (hM : M j = if 16 ≤ a % 2064 then 1#1 else 0#1) :
    (k0_pay12 (F := Ideal) e M : S688x1024.Idx → EReal) j = e j * ct a + ct a * e j := by
  have h : (select M (broadcast S688x1024 (Scalar.mulf (Scalar.ofBits (F := Ideal) .f32 0x3F000000#32) (Scalar.divf (Scalar.ofBits .f32 0x3F800000#32) (Scalar.ofBits .f32 0x44800000#32))))
      (broadcast S688x1024 (Scalar.ofBits (F := Ideal) .f32 0x00000000#32)) : S688x1024.Idx → EReal) j = ct a := by
    unfold ct
    rw [select_apply, hM]
    by_cases h16 : 16 ≤ a % 2064
    · rw [if_pos h16, if_pos h16]
      exact if_pos rfl
    · rw [if_neg h16, if_neg h16]
      exact (if_neg (by decide)).trans zero_word
  unfold k0_pay12
  exact congrArg₂ (· + ·) (congrArg₂ (· * ·) rfl h) (congrArg₂ (· * ·) h rfl)

/-- and the squares that the loss takes. -/
theorem pay11_at (i : Fin 12) (y x : Vec Ideal S688x1024 .f32) (g : Vec Ideal S1x1024 .f32) (r : Fin 688) (k : Fin 1024) :
    (k0_pay11 (BitVec.ofNat 32 i.val) y x g : S688x1024.Idx → EReal) (ix2 r k)
      = if 16 ≤ (688 * i.val + r.val) % 2064 then (k0_pay9 y x g (ix2 r k) : EReal) * k0_pay9 y x g (ix2 r k) else 0 := by
  unfold k0_pay11
  rw [select_apply, pay10_at]
  by_cases h16 : 16 ≤ (688 * i.val + r.val) % 2064
  · rw [if_pos h16, if_pos h16]
    exact if_pos rfl
  · rw [if_neg h16, if_neg h16]
    exact (if_neg (by decide)).trans zero_word

/-- The sum of a block's entries, row by row. -/
theorem all_sum {a b : ℕ} (f : (⟨3, ![1, a, b]⟩ : Shape).Idx → EReal) : ∑ i, f i = ∑ r : Fin a, ∑ k : Fin b, f (ix3 (0 : Fin 1) r k) := by
  rw [← Fintype.sum_prod_type (f := fun p : Fin a × Fin b => f (ix3 (0 : Fin 1) p.1 p.2))]
  have e : ∀ i : (⟨3, ![1, a, b]⟩ : Shape).Idx, ix3 (0 : Fin 1) (i 1 : Fin a) (i 2 : Fin b) = i := fun i =>
    (congrArg (fun z => ix3 z (i 1 : Fin a) (i 2 : Fin b)) (Subsingleton.elim (α := Fin 1) _ _)).trans (eq_ix3 i).symm
  exact Finset.sum_nbij' (fun i => ((i 1 : Fin a), (i 2 : Fin b))) (fun p => ix3 (0 : Fin 1) p.1 p.2) (fun _ _ => Finset.mem_univ _) (fun _ _ => Finset.mem_univ _)
    (fun i _ => e i) (fun _ _ => rfl) (fun i _ => congrArg f (e i).symm)

/-- What a block adds to the loss. -/
theorem pay15_at (s : Vec Ideal S688x1024 .f32) (p : Vec Ideal S1x128 .f32) (j : S1x128.Idx) :
    (k0_pay15 s p : S1x128.Idx → EReal) j = p j + ∑ r : Fin 688, Ideal.div (Ideal.ofBits .f32 0x3F000000#32 * ∑ k : Fin 1024, s (ix2 r k)) (Ideal.ofBits .f32 0x44800000#32) := by
  unfold k0_pay15
  rw [shapeCast_self]
  refine congrArg₂ (· + ·) rfl (Eq.trans ?_ (half_sum Finset.univ _))
  refine congrArg (fun x => Ideal.div (Ideal.ofBits .f32 0x3F000000#32 * x) (Ideal.ofBits .f32 0x44800000#32)) ?_
  unfold extractAt
  refine (shapeCast_apply _ _ _ (ix1 (0 : Fin 1)) (by rw [Shape.rowMajor_val_one, Shape.rowMajor_val_three]; rfl)).trans ?_
  refine (Ideal.multiReduction_add_total _ _ _ (fun b => by match b with | ⟨0, _⟩ => rfl) _ _ _).trans ((all_sum _).trans ?_)
  exact Finset.sum_congr rfl fun r _ => Finset.sum_congr rfl fun k _ => add_unit _ _ r k

/-- The weights' gradient of a block of rows. -/
theorem pay13_at (x e : Vec Ideal S688x1024 .f32) (M : IVec S688x1024 1) (k : Fin 1024) :
    (k0_pay13 (k0_pay8 x) e M : S1x1024.Idx → EReal) (ix2 (0 : Fin 1) k)
      = ∑ r : Fin 688, weightGrad (fun k => x (ix2 r k)) (fun k => k0_pay12 (F := Ideal) e M (ix2 r k)) k := by
  unfold k0_pay13
  refine (as_row _ _ k).trans ((col_sum _ _ _ _ _ k).trans (Finset.sum_congr rfl fun r _ => ?_))
  exact congrArg₂ (· * ·) (pay8_at x r k) rfl

/-- The rows' gradient of a block of rows. -/
theorem pay14_at (x e : Vec Ideal S688x1024 .f32) (g : Vec Ideal S1x1024 .f32) (M : IVec S688x1024 1) (r : Fin 688) (k : Fin 1024) :
    (k0_pay14 x (k0_pay4 g) (k0_pay6 x) (k0_pay7 x) e M : S688x1024.Idx → EReal) (ix2 r k)
      = rowGrad (fun k => x (ix2 r k)) (fun k => g (ix2 (0 : Fin 1) k)) (fun k => k0_pay12 (F := Ideal) e M (ix2 r k)) k := by
  unfold k0_pay14 k0_pay4
  have hs : ∀ n : Fin 1024, (k0_pay12 (F := Ideal) e M (ix2 r n) : EReal) * (broadcastTo S688x1024 (shapeCast S1x1024 g shapeCasts_S1x1024_S1x1024) broadcasts_S1x1024_S688x1024 : FVec Ideal S688x1024 .f32) (ix2 r n)
      = (k0_pay12 (F := Ideal) e M (ix2 r n) : EReal) * g (ix2 (0 : Fin 1) n) := fun n => by
    refine congrArg₂ (· * ·) rfl ((repeat_row _ _ r n).trans ?_)
    rw [shapeCast_self]
  have hr : ∀ n : Fin 1024, (broadcastTo S688x1024 (k0_pay6 x) broadcasts_S688x1_S688x1024 : FVec Ideal S688x1024 .f32) (ix2 r n) = Ideal.rsqrt (meanSq (fun k => x (ix2 r k))) := fun n =>
    (repeat_column _ _ r n).trans (pay_rstd x r)
  unfold rowGrad
  refine congrArg₂ (· + ·) (congrArg₂ (· + ·) (congrArg₂ (· * ·) (hs k) (hr k)) (congrArg₂ (· * ·) rfl ?_)) (congrArg₂ (· * ·) ?_ rfl)
  all_goals
    refine (repeat_column _ _ r k).trans ((as_column _ _ r).trans ((row_sum _ _ _ _ _ r).trans ?_))
    rw [Fin.sum_univ_one]
    unfold meanGrad
    refine congrArg₂ Ideal.div (congrArg₂ (· * ·) ?_ ?_) rfl
    · refine (as_column _ _ r).trans ((row_sum _ _ _ _ _ r).trans (Finset.sum_congr rfl fun n _ => ?_))
      exact congrArg₂ (· * ·) rfl (hs n)
    · exact congrArg₂ (· * ·) rfl (congrArg₂ Ideal.div (pay_rstd x r) (pay_mean x r))

end Cert.FfnIdeal.Hand

end
-- ==== Proof.FfnValue.lean ====
/- The second half of the channel mixer and the loss: what the kernel computes is the reference's, over the extended reals. -/
module

public import proofs.«01_k».proof.Proof.FfnBlocks

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.ValueIdx Cert.Common
open Idealize.ShloMosaic.Pipeline (Dat)
open Cert.FfnRefIdeal.Read

variable (m : (ℓ : Loc nD τ sig) → Buf (Elt Ideal) ℓ) (c : Dev nD)

theorem TA_at (t : Fin cfg0.N) (s q : ℕ) (hq : q + s = 16) (r : Fin 688) (f : Fin 704) : (TA (F := Ideal) m c t q : S688x704.Idx → EReal) (ix2 r f) = back m c s (row t r).val (chan (lo (pt t)) f) := by
  unfold TA
  rw [pay16_eq, pay17_eq]
  exact tap_back m c (fun f => chan (lo (pt t)) f) t s q hq _ _ (blk_up_lo m c t) (blk_prev_lo m c t) r f

theorem TB_at (t : Fin cfg0.N) (s q : ℕ) (hq : q + s = 16) (r : Fin 688) (f : Fin 704) : (TB (F := Ideal) m c t q : S688x704.Idx → EReal) (ix2 r f) = back m c s (row t r).val (chan (hi (pt t)) f) := by
  unfold TB
  exact tap_back m c (fun f => chan (hi (pt t)) f) t s q hq _ _ (blk_up_hi m c t) (blk_prev_hi m c t) r f

/-- The convolution's blocks: the first half of the channels, -/
theorem CA_at (t : Fin cfg0.N) (r : Fin 688) (f : Fin 704) : (CA (F := Ideal) m c t : S688x704.Idx → EReal) (ix2 r f) = conv m c (row t r).val (chan (lo (pt t)) f) := by
  unfold CA
  rw [pay18_eq, pay22_at, TA_at m c t 2 14 rfl, TA_at m c t 1 15 rfl, TA_at m c t 0 16 rfl, blk_cw_lo, blk_cw_lo, blk_cw_lo, blk_cb_lo]
  rfl

/-- and the second. -/
theorem CC_at (t : Fin cfg0.N) (r : Fin 688) (f : Fin 704) :
    (k0_pay22 (TB (F := Ideal) m c t 14) (TB m c t 15) (TB m c t 16) (k0_pay21 (iblk m c 5 t)) (iblk m c 7 t) : S688x704.Idx → EReal) (ix2 r f) = conv m c (row t r).val (chan (hi (pt t)) f) := by
  rw [pay22_at, TB_at m c t 2 14 rfl, TB_at m c t 1 15 rfl, TB_at m c t 0 16 rfl, blk_cw_hi, blk_cw_hi, blk_cw_hi, blk_cb_hi]
  rfl

/-- The terms of a row's product. -/
def term (r : Fin 688) (k : Fin 1024) (i : ℕ) (q : Fin 2816) : EReal := gate m c (688 * i + r.val) q * WD m c (ix2 q k)

/-- A point's product is its channels' terms. -/
theorem point_acc (t : Fin cfg0.N) (r : Fin 688) (k : Fin 1024) :
    (PP (F := Ideal) m c t : S688x1024.Idx → EReal) (ix2 r k) = ∑ q : Fin 704, ext (term m c r k (t.val / 4)) (704 * (t.val % 4) + q.val) := by
  unfold PP k0_pay25
  refine (rows_mm _ _ (ix2 r k)).trans (Finset.sum_congr rfl fun q _ => ?_)
  have hq := q.isLt
  rw [ext_of_lt _ (show 704 * (t.val % 4) + q.val < 2816 by omega)]
  unfold term gate
  refine congrArg₂ (· * ·) (congrArg₂ (· * ·) (congrArg₂ (· * ·) (CA_at m c t r q) (congrArg Ideal.logistic (CA_at m c t r q))) ((CC_at m c t r q).trans (congrArg _ (Fin.ext ?_))))
    ((drop_unit _ _ q k).trans (blk_wd m c t q k))
  show 704 * (4 + t.val % 4) + q.val = 2816 + (704 * (t.val % 4) + q.val)
  omega

/-- The first point of a block of rows adds its terms to the rows, -/
theorem acc_new (t : Fin cfg0.N) (h0 : t.val % 4 = 0) (r : Fin 688) (k : Fin 1024) :
    ((outsAt0 m c t.val t.isLt).2.2.2.2.2 : S688x1024.Idx → EReal) (ix2 r k) = H m c (ix2 (row t r) k) + ∑ q : Fin 704, ext (term m c r k (t.val / 4)) (704 * (t.val % 4) + q.val) := by
  rw [acc_first m c t h0]
  unfold AC k0_pay26
  rw [shapeCast_self]
  exact congrArg₂ (· + ·) (blk_h m c t r k) (point_acc m c t r k)

/-- the others to what the point before left. -/
theorem acc_more (t : Fin cfg0.N) (h0 : ¬t.val % 4 = 0) (r : Fin 688) (k : Fin 1024) :
    ((outsAt0 m c t.val t.isLt).2.2.2.2.2 : S688x1024.Idx → EReal) (ix2 r k)
      = ((outsAt0 m c (t.val - 1) (Nat.lt_of_le_of_lt (Nat.sub_le _ _) t.isLt)).2.2.2.2.2 : S688x1024.Idx → EReal) (ix2 r k) + ∑ q : Fin 704, ext (term m c r k (t.val / 4)) (704 * (t.val % 4) + q.val) := by
  rw [acc_next m c t h0]
  unfold AC k0_pay26
  rw [shapeCast_self]
  exact congrArg₂ (· + ·) rfl (point_acc m c t r k)

/-- What the rows' buffer holds after a point. -/
theorem acc_at (r : Fin 688) (k : Fin 1024) : ∀ t (ht : t < cfg0.N),
    ((outsAt0 m c t ht).2.2.2.2.2 : S688x1024.Idx → EReal) (ix2 r k)
      = H m c (ix2 (row ⟨t, ht⟩ r) k) + ∑ a ∈ Finset.range (704 * (t % 4 + 1)), ext (term m c r k (t / 4)) a
  | 0, ht => by
    refine (acc_new m c ⟨0, ht⟩ rfl r k).trans (congrArg₂ (· + ·) rfl ?_)
    rw [show 704 * (0 % 4 + 1) = 704 from rfl, Finset.sum_range]
    exact Finset.sum_congr rfl fun q _ => congrArg _ (Nat.zero_add _)
  | t + 1, ht => by
    by_cases h0 : (t + 1) % 4 = 0
    · refine (acc_new m c ⟨t + 1, ht⟩ h0 r k).trans (congrArg₂ (· + ·) rfl ?_)
      show ∑ q : Fin 704, ext (term m c r k ((t + 1) / 4)) (704 * ((t + 1) % 4) + q.val) = _
      rw [h0, show 704 * (0 + 1) = 704 from rfl, Finset.sum_range]
      exact Finset.sum_congr rfl fun q _ => congrArg _ (Nat.zero_add _)
    · have ih := acc_at r k t (Nat.lt_of_succ_lt ht)
      refine (acc_more m c ⟨t + 1, ht⟩ h0 r k).trans ?_
      show ((outsAt0 m c t _).2.2.2.2.2 : S688x1024.Idx → EReal) (ix2 r k) + ∑ q : Fin 704, ext (term m c r k ((t + 1) / 4)) (704 * ((t + 1) % 4) + q.val) = _
      have e1 : (t + 1) / 4 = t / 4 := by omega
      have e2 : (t + 1) % 4 = t % 4 + 1 := by omega
      have e3 : row ⟨t + 1, ht⟩ r = row ⟨t, Nat.lt_of_succ_lt ht⟩ r := Fin.ext (by show 688 * ((t + 1) / 4) + r.val = 688 * (t / 4) + r.val; omega)
      rw [e3, e1, e2, show 704 * (t % 4 + 1 + 1) = 704 * (t % 4 + 1) + 704 by omega, Finset.sum_range_add, Finset.sum_range (n := 704), ← add_assoc]
      exact congrArg₂ (· + ·) ih rfl

/-- The rows that the last point of a block of rows holds. -/
abbrev full (t : Fin cfg0.N) : Vec Ideal S688x1024 .f32 := AC m c t (outsAt0 m c (t.val - 1) (Nat.lt_of_le_of_lt (Nat.sub_le _ _) t.isLt)).2.2.2.2.2

theorem full_at (t : Fin cfg0.N) (h3 : t.val % 4 = 3) (r : Fin 688) (k : Fin 1024) : (full m c t : S688x1024.Idx → EReal) (ix2 r k) = X m c (row t r) k := by
  have h := acc_at m c r k t.val t.isLt
  rw [acc_next m c t (by omega), h3] at h
  refine h.trans ?_
  rw [ref_x]
  exact congrArg₂ (· + ·) rfl (sum_ext _)

theorem full_row (t : Fin cfg0.N) (h3 : t.val % 4 = 3) (r : Fin 688) : (fun n => (full m c t : S688x1024.Idx → EReal) (ix2 r n)) = X m c (row t r) :=
  funext fun n => full_at m c t h3 r n

theorem err_at (t : Fin cfg0.N) (h3 : t.val % 4 = 3) (r : Fin 688) (k : Fin 1024) :
    (k0_pay9 (iblk m c 10 t) (full m c t) (iblk m c 11 t) : S688x1024.Idx → EReal) (ix2 r k) = err m c (row t r) k := by
  rw [pay9_at, full_row m c t h3 r, full_at m c t h3 r k, blk_g, blk_tg]
  rfl

/-- A point's block of rows. -/
abbrev tile (t : Fin cfg0.N) : Fin 12 := ⟨t.val / 4, by have := t.isLt; have := N_eq; omega⟩

theorem tile_eq (t : Fin cfg0.N) : (BitVec.ofNat 32 ((grid0.coords t) 0).val) = BitVec.ofNat 32 (tile t).val := congrArg (BitVec.ofNat 32) (coord_at t)

theorem A_at (t : Fin cfg0.N) (h3 : t.val % 4 = 3) (r : Fin 688) (k : Fin 1024) :
    (k0_pay12 (k0_pay9 (iblk m c 10 t) (full m c t) (iblk m c 11 t)) (k0_pay10 (BitVec.ofNat 32 ((grid0.coords t) 0).val)) : S688x1024.Idx → EReal) (ix2 r k) = A m c (row t r) k := by
  rw [tile_eq t, pay12_at _ _ (row t r).val (ix2 r k) (pay10_at (tile t) r k), err_at m c t h3, ref_A]

theorem A_row (t : Fin cfg0.N) (h3 : t.val % 4 = 3) (r : Fin 688) :
    (fun n => (k0_pay12 (k0_pay9 (iblk m c 10 t) (full m c t) (iblk m c 11 t)) (k0_pay10 (BitVec.ofNat 32 ((grid0.coords t) 0).val)) : S688x1024.Idx → EReal) (ix2 r n)) = A m c (row t r) :=
  funext fun n => A_at m c t h3 r n

/-- What the last point of a block of rows adds to the loss -/
theorem loss_step (t : Fin cfg0.N) (h3 : t.val % 4 = 3) (j : S1x128.Idx) :
    ((outsAt0 m c t.val t.isLt).2.2.2.1 : S1x128.Idx → EReal) j = ((outsAt0 m c (t.val - 1) (Nat.lt_of_le_of_lt (Nat.sub_le _ _) t.isLt)).2.2.2.1 : S1x128.Idx → EReal) j + ∑ r : Fin 688, rowLoss m c (row t r) := by
  rw [loss_add m c t h3, pay15_at]
  refine congrArg₂ (· + ·) rfl (Finset.sum_congr rfl fun r _ => ?_)
  unfold rowLoss
  refine congrArg (fun x => Ideal.div (Ideal.ofBits .f32 0x3F000000#32 * x) (Ideal.ofBits .f32 0x44800000#32)) ?_
  rw [tile_eq t]
  refine (Finset.sum_congr rfl fun k _ => pay11_at (tile t) _ _ _ r k).trans ?_
  by_cases h : 16 ≤ (row t r).val % 2064
  · rw [if_pos h]
    refine Finset.sum_congr rfl fun k _ => (if_pos h).trans ?_
    exact congrArg₂ (· * ·) (err_at m c t h3 r k) (err_at m c t h3 r k)
  · rw [if_neg h]
    exact Finset.sum_eq_zero fun k _ => if_neg h

/-- and to the weights' gradient. -/
theorem weights_step (t : Fin cfg0.N) (h3 : t.val % 4 = 3) (k : Fin 1024) :
    ((outsAt0 m c t.val t.isLt).2.2.2.2.1 : S1x1024.Idx → EReal) (ix2 (0 : Fin 1) k)
      = ((outsAt0 m c (t.val - 1) (Nat.lt_of_le_of_lt (Nat.sub_le _ _) t.isLt)).2.2.2.2.1 : S1x1024.Idx → EReal) (ix2 (0 : Fin 1) k) + ∑ r : Fin 688, weightGrad (X m c (row t r)) (A m c (row t r)) k := by
  rw [weights_add m c t h3]
  unfold k0_pay3
  rw [shapeCast_self]
  refine congrArg₂ (· + ·) rfl ((pay13_at _ _ _ k).trans (Finset.sum_congr rfl fun r _ => ?_))
  exact congrArg₂ (fun p q => weightGrad p q k) (full_row m c t h3 r) (A_row m c t h3 r)

/-- The loss after a point: the terms of the blocks of rows that are complete, -/
theorem loss_at (j : S1x128.Idx) : ∀ t (ht : t < cfg0.N),
    ((outsAt0 m c t ht).2.2.2.1 : S1x128.Idx → EReal) j = ∑ a ∈ Finset.range (688 * ((t + 1) / 4)), ext (rowLoss m c) a
  | 0, ht => by
    have h := loss_first m c ⟨0, ht⟩ rfl
    refine (congrFun h j).trans ?_
    simp only [Nat.zero_add, show (1 : ℕ) / 4 = 0 from rfl, Nat.mul_zero, Finset.sum_range_zero]
    exact zero_word
  | t + 1, ht => by
    have hN := N_eq
    have ih := loss_at j t (Nat.lt_of_succ_lt ht)
    by_cases h3 : (t + 1) % 4 = 3
    · have e : (t + 1 + 1) / 4 = (t + 1) / 4 + 1 := by omega
      rw [e, sum_block _ ((t + 1) / 4) (by omega)]
      refine (loss_step m c ⟨t + 1, ht⟩ h3 j).trans (congrArg₂ (· + ·) ih rfl)
    · have e : (t + 1 + 1) / 4 = (t + 1) / 4 := by omega
      rw [e, ← ih]
      exact congrFun (loss_keep m c ⟨t + 1, ht⟩ (by dsimp only; omega) h3) j

/-- and the weights' gradient. -/
theorem weights_at (k : Fin 1024) : ∀ t (ht : t < cfg0.N),
    ((outsAt0 m c t ht).2.2.2.2.1 : S1x1024.Idx → EReal) (ix2 (0 : Fin 1) k) = ∑ a ∈ Finset.range (688 * ((t + 1) / 4)), ext (fun a => weightGrad (X m c a) (A m c a) k) a
  | 0, ht => by
    have h := weights_first m c ⟨0, ht⟩ rfl
    refine (congrFun h (ix2 (0 : Fin 1) k)).trans ?_
    simp only [Nat.zero_add, show (1 : ℕ) / 4 = 0 from rfl, Nat.mul_zero, Finset.sum_range_zero]
    exact zero_word
  | t + 1, ht => by
    have hN := N_eq
    have ih := weights_at k t (Nat.lt_of_succ_lt ht)
    by_cases h3 : (t + 1) % 4 = 3
    · have e : (t + 1 + 1) / 4 = (t + 1) / 4 + 1 := by omega
      rw [e, sum_block _ ((t + 1) / 4) (by omega)]
      refine (weights_step m c ⟨t + 1, ht⟩ h3 k).trans (congrArg₂ (· + ·) ih rfl)
    · have e : (t + 1 + 1) / 4 = (t + 1) / 4 := by omega
      rw [e, ← ih]
      exact congrFun (weights_keep m c ⟨t + 1, ht⟩ (by dsimp only; omega) h3) (ix2 (0 : Fin 1) k)

/-- Reading a block of rows and channels out of an array. -/
theorem read_12 (G : S4x8256x704.Idx → EReal) (t : Fin cfg0.N) (r : Fin 688) (f : Fin 704) :
    (((cfg0.win 12).blk t).view.read (Elt Ideal) G : S1x688x704.Idx → EReal) (ix3 (0 : Fin 1) r f) = G (ix3 (pt t) (row t r) f) := by
  obtain ⟨h0, h1, h2⟩ := idx_12 t
  refine congrArg G (funext fun a => Fin.ext ?_)
  match a with
  | ⟨0, _⟩ => show win0_12.index t 0 * 1 + 1 * 0 = t.val % 4; omega
  | ⟨1, _⟩ => show win0_12.index t 1 * 688 + 1 * r.val = 688 * (t.val / 4) + r.val; omega
  | ⟨2, _⟩ => show win0_12.index t 2 * 704 + 1 * f.val = f.val; omega

/-- Reading a block of rows and channels out of an array. -/
theorem read_13 (G : S4x8256x704.Idx → EReal) (t : Fin cfg0.N) (r : Fin 688) (f : Fin 704) :
    (((cfg0.win 13).blk t).view.read (Elt Ideal) G : S1x688x704.Idx → EReal) (ix3 (0 : Fin 1) r f) = G (ix3 (pt t) (row t r) f) := read_12 G t r f

/-- Reading a block of rows out of an array. -/
theorem read_14 (G : S8256x1024.Idx → EReal) (t : Fin cfg0.N) (r : Fin 688) (k : Fin 1024) :
    (((cfg0.win 14).blk t).view.read (Elt Ideal) G : S688x1024.Idx → EReal) (ix2 r k) = G (ix2 (row t r) k) := by
  obtain ⟨h0, h1⟩ := idx_14 t
  refine congrArg G (funext fun a => Fin.ext ?_)
  match a with
  | ⟨0, _⟩ => show win0_14.index t 0 * 688 + 1 * r.val = 688 * (t.val / 4) + r.val; omega
  | ⟨1, _⟩ => show win0_14.index t 1 * 1024 + 1 * k.val = k.val; omega

/-- Reading the loss out of an array. -/
theorem read_15 (G : S1x128.Idx → EReal) (t : Fin cfg0.N) (k : Fin 128) :
    (((cfg0.win 15).blk t).view.read (Elt Ideal) G : S1x128.Idx → EReal) (ix2 (0 : Fin 1) k) = G (ix2 (0 : Fin 1) k) := by
  obtain ⟨h0, h1⟩ := idx_15 t
  refine congrArg G (funext fun a => Fin.ext ?_)
  match a with
  | ⟨0, _⟩ => show win0_15.index t 0 * 1 + 1 * 0 = 0; rw [h0]
  | ⟨1, _⟩ => show win0_15.index t 1 * 128 + 1 * k.val = k.val; omega

/-- Reading the weights out of an array. -/
theorem read_16 (G : S1x1024.Idx → EReal) (t : Fin cfg0.N) (k : Fin 1024) :
    (((cfg0.win 16).blk t).view.read (Elt Ideal) G : S1x1024.Idx → EReal) (ix2 (0 : Fin 1) k) = G (ix2 (0 : Fin 1) k) := by
  obtain ⟨h0, h1⟩ := idx_16 t
  refine congrArg G (funext fun a => Fin.ext ?_)
  match a with
  | ⟨0, _⟩ => show win0_16.index t 0 * 1 + 1 * 0 = 0; rw [h0]
  | ⟨1, _⟩ => show win0_16.index t 1 * 1024 + 1 * k.val = k.val; omega

/-- Every row of every block of channels lies in a block. -/
theorem cover_12 (i : S4x8256x704.Idx) : ∃ t : Fin cfg0.N, (cfg0.win 12).flush t = true ∧ i ∈ ((View.whole main_v10_0).slice (win0_12.rect t)).set := by
  have hi0 : (i 0 : Nat) < 4 := (i 0).isLt
  have hi1 : (i 1 : Nat) < 8256 := (i 1).isLt
  have hi2 : (i 2 : Nat) < 704 := (i 2).isLt
  have hN := N_eq
  obtain ⟨t, ht⟩ : ∃ t : Fin cfg0.N, t.val = 4 * ((i 1 : Nat) / 688) + (i 0 : Nat) := ⟨⟨_, by omega⟩, rfl⟩
  obtain ⟨h0, h1, h2⟩ := idx_12 t
  refine ⟨t, flush0_12 t, ?_⟩
  rw [View.set_slice_whole]
  exact mem3 i _ (congrArg (· * 1) h0) (congrArg (· * 688) h1) (congrArg (· * 704) h2) (by omega)

/-- Every row of every block of channels lies in a block. -/
theorem cover_13 (i : S4x8256x704.Idx) : ∃ t : Fin cfg0.N, (cfg0.win 13).flush t = true ∧ i ∈ ((View.whole main_v10_1).slice (win0_13.rect t)).set := by
  have hi0 : (i 0 : Nat) < 4 := (i 0).isLt
  have hi1 : (i 1 : Nat) < 8256 := (i 1).isLt
  have hi2 : (i 2 : Nat) < 704 := (i 2).isLt
  have hN := N_eq
  obtain ⟨t, ht⟩ : ∃ t : Fin cfg0.N, t.val = 4 * ((i 1 : Nat) / 688) + (i 0 : Nat) := ⟨⟨_, by omega⟩, rfl⟩
  obtain ⟨h0, h1, h2⟩ := idx_13 t
  refine ⟨t, flush0_13 t, ?_⟩
  rw [View.set_slice_whole]
  exact mem3 i _ (congrArg (· * 1) h0) (congrArg (· * 688) h1) (congrArg (· * 704) h2) (by omega)

/-- Every row lies in a block. -/
theorem cover_14 (i : S8256x1024.Idx) : ∃ t : Fin cfg0.N, (cfg0.win 14).flush t = true ∧ i ∈ ((View.whole main_v10_2).slice (win0_14.rect t)).set := by
  have hi0 : (i 0 : Nat) < 8256 := (i 0).isLt
  have hi1 : (i 1 : Nat) < 1024 := (i 1).isLt
  have hN := N_eq
  obtain ⟨t, ht⟩ : ∃ t : Fin cfg0.N, t.val = 4 * ((i 0 : Nat) / 688) + 3 := ⟨⟨_, by omega⟩, rfl⟩
  obtain ⟨h0, h1⟩ := idx_14 t
  refine ⟨t, (flush0_14 t).2 (by omega), ?_⟩
  rw [View.set_slice_whole]
  exact mem2 i _ (congrArg (· * 688) h0) (congrArg (· * 1024) h1) (by omega)

/-- The last point writes the loss. -/
theorem cover_15 (i : S1x128.Idx) : ∃ t : Fin cfg0.N, (cfg0.win 15).flush t = true ∧ i ∈ ((View.whole main_v10_3).slice (win0_15.rect t)).set := by
  have hi0 : (i 0 : Nat) < 1 := (i 0).isLt
  have hi1 : (i 1 : Nat) < 128 := (i 1).isLt
  have hN := N_eq
  obtain ⟨t, ht⟩ : ∃ t : Fin cfg0.N, t.val = 47 := ⟨⟨_, by omega⟩, rfl⟩
  obtain ⟨h0, h1⟩ := idx_15 t
  refine ⟨t, (flush0_15 t).2 (by omega), ?_⟩
  rw [View.set_slice_whole]
  exact mem2 i _ (congrArg (· * 1) h0) (congrArg (· * 128) h1) (by omega)

/-- The last point writes the weights. -/
theorem cover_16 (i : S1x1024.Idx) : ∃ t : Fin cfg0.N, (cfg0.win 16).flush t = true ∧ i ∈ ((View.whole main_v10_4).slice (win0_16.rect t)).set := by
  have hi0 : (i 0 : Nat) < 1 := (i 0).isLt
  have hi1 : (i 1 : Nat) < 1024 := (i 1).isLt
  have hN := N_eq
  obtain ⟨t, ht⟩ : ∃ t : Fin cfg0.N, t.val = 47 := ⟨⟨_, by omega⟩, rfl⟩
  obtain ⟨h0, h1⟩ := idx_16 t
  refine ⟨t, (flush0_16 t).2 (by omega), ?_⟩
  rw [View.set_slice_whole]
  exact mem2 i _ (congrArg (· * 1) h0) (congrArg (· * 1024) h1) (by omega)

/-- The convolution after the run. -/
theorem final_12 : (dats m 0 c).arrAt 12 cfg0.N = val_main_v92 (F := Ideal) (UP m c) (CW m c) (CB m c) :=
  (dats m 0 c).arrAt_eq_of_cover 12 _ (fun t hf => by
    rw [Value.flushed12, store_12]
    generalize hG : val_main_v92 (F := Ideal) (UP m c) (CW m c) (CB m c) = W
    funext j
    obtain ⟨r, f, rfl⟩ := split3 j
    refine Eq.trans ?_ ((congrFun hG _).trans (read_12 W t r f).symm)
    rw [ref_conv_lo]
    unfold k0_pay23
    exact (add_unit _ _ r f).trans (CA_at m c t r f)) cover_12

/-- The convolution after the run. -/
theorem final_13 : (dats m 0 c).arrAt 13 cfg0.N = val_main_v93 (F := Ideal) (UP m c) (CW m c) (CB m c) :=
  (dats m 0 c).arrAt_eq_of_cover 13 _ (fun t hf => by
    rw [Value.flushed13, store_13]
    generalize hG : val_main_v93 (F := Ideal) (UP m c) (CW m c) (CB m c) = W
    funext j
    obtain ⟨r, f, rfl⟩ := split3 j
    refine Eq.trans ?_ ((congrFun hG _).trans (read_13 W t r f).symm)
    rw [ref_conv_hi]
    unfold k0_pay24
    exact (add_unit _ _ r f).trans (CC_at m c t r f)) cover_13

/-- The rows' gradient after the run. -/
theorem final_14 : (dats m 0 c).arrAt 14 cfg0.N = val_main_v88 (F := Ideal) (UP m c) (CW m c) (CB m c) (WD m c) (H m c) (TG m c) (Gm m c) :=
  (dats m 0 c).arrAt_eq_of_cover 14 _ (fun t hf => by
    have h3 := (flush0_14 t).1 hf
    rw [Value.flushed14, store_14 m c t h3]
    generalize hG : val_main_v88 (F := Ideal) (UP m c) (CW m c) (CB m c) (WD m c) (H m c) (TG m c) (Gm m c) = W
    funext j
    obtain ⟨r, k, rfl⟩ := split2 j
    refine Eq.trans ?_ ((congrFun hG _).trans (read_14 W t r k).symm)
    refine (pay14_at _ _ _ _ r k).trans ?_
    rw [ref_row]
    have e2 : (fun n => (iblk m c 11 t : Vec Ideal S1x1024 .f32) (ix2 (0 : Fin 1) n)) = G m c := funext fun n => blk_g m c t n
    exact congrFun (congr (congr (congrArg rowGrad (full_row m c t h3 r)) e2) (A_row m c t h3 r)) k) cover_14

/-- The loss after the run. -/
theorem final_15 : (dats m 0 c).arrAt 15 cfg0.N = val_main_v94 (F := Ideal) (UP m c) (CW m c) (CB m c) (WD m c) (H m c) (TG m c) (Gm m c) :=
  (dats m 0 c).arrAt_eq_of_cover 15 _ (fun t hf => by
    have ht : t.val < 48 := lt_of_lt_of_eq t.isLt N_eq
    have h47 := (flush0_15 t).1 hf
    rw [Value.flushed15]
    generalize hG : val_main_v94 (F := Ideal) (UP m c) (CW m c) (CB m c) (WD m c) (H m c) (TG m c) (Gm m c) = W
    funext j
    obtain ⟨k, rfl⟩ : ∃ (k : Fin 128), j = ix2 (0 : Fin 1) k := ⟨j 1, (eq_ix2 j).trans (congrArg (fun q => ix2 q (j 1)) (Fin.ext (by have : (j 0).val < 1 := (j 0).isLt; show (j 0).val = 0; omega)))⟩
    refine Eq.trans ?_ ((congrFun hG _).trans (read_15 W t k).symm)
    refine (loss_at m c _ t.val t.isLt).trans ?_
    rw [show (t.val + 1) / 4 = 12 by omega, ref_loss]
    exact sum_ext _) cover_15

/-- The weights' gradient after the run. -/
theorem final_16 : (dats m 0 c).arrAt 16 cfg0.N = val_main_v95 (F := Ideal) (UP m c) (CW m c) (CB m c) (WD m c) (H m c) (TG m c) (Gm m c) :=
  (dats m 0 c).arrAt_eq_of_cover 16 _ (fun t hf => by
    have ht : t.val < 48 := lt_of_lt_of_eq t.isLt N_eq
    have h47 := (flush0_16 t).1 hf
    rw [Value.flushed16]
    generalize hG : val_main_v95 (F := Ideal) (UP m c) (CW m c) (CB m c) (WD m c) (H m c) (TG m c) (Gm m c) = W
    funext j
    obtain ⟨k, rfl⟩ : ∃ (k : Fin 1024), j = ix2 (0 : Fin 1) k := ⟨j 1, (eq_ix2 j).trans (congrArg (fun q => ix2 q (j 1)) (Fin.ext (by have : (j 0).val < 1 := (j 0).isLt; show (j 0).val = 0; omega)))⟩
    refine Eq.trans ?_ ((congrFun hG _).trans (read_16 W t k).symm)
    refine (weights_at m c k t.val t.isLt).trans ?_
    rw [show (t.val + 1) / 4 = 12 by omega, ref_weights]
    exact sum_ext _) cover_16

/-- THE RUN: the results are the reference's terms of the arguments, which it leaves unchanged. -/
theorem run (ρ : Dev nD → PrngReg) :
    θ_run defs (onTc (τ := τ) (main (F := Ideal))) ⟨m, fun _ => 0, ρ⟩ fun r => ∀ c : Dev nD,
      r.2.mem ((c : Thread nD τ).loc main_v10_0) = val_main_v92 (F := Ideal) (UP m c) (CW m c) (CB m c)
      ∧ r.2.mem ((c : Thread nD τ).loc main_v10_1) = val_main_v93 (F := Ideal) (UP m c) (CW m c) (CB m c)
      ∧ r.2.mem ((c : Thread nD τ).loc main_v10_2) = val_main_v88 (F := Ideal) (UP m c) (CW m c) (CB m c) (WD m c) (H m c) (TG m c) (Gm m c)
      ∧ r.2.mem ((c : Thread nD τ).loc main_v10_3) = val_main_v94 (F := Ideal) (UP m c) (CW m c) (CB m c) (WD m c) (H m c) (TG m c) (Gm m c)
      ∧ r.2.mem ((c : Thread nD τ).loc main_v10_4) = val_main_v95 (F := Ideal) (UP m c) (CW m c) (CB m c) (WD m c) (H m c) (TG m c) (Gm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨p12, p13, p14, p15, p16, k⟩ := h c
    exact ⟨p12.trans (final_12 m c), p13.trans (final_13 m c), p14.trans (final_14 m c), p15.trans (final_15 m c), p16.trans (final_16 m c), k⟩)
    (Value.run_blocks m ρ)

end Cert.FfnIdeal.Hand

end
-- ==== Proof.FfnClaim.lean ====
/- The claim about the second half of the channel mixer and the loss: kernel and reference end with equal results over the extended reals. -/
module

public import proofs.«01_k».proof.Defs
public import proofs.«01_k».proof.Proof.FfnValue
public import proofs.«01_k».proof.Proof.Gen.FfnRefIdeal.Run

@[expose] public section

noncomputable section

namespace Cert

open Idealize.ShloMosaic Idealize.SL.Sem

/-- Equal arguments, equal values. -/
theorem val_args3 {A0 A1 A2 B : Type} (f : A0 → A1 → A2 → B) {x0 y0 : A0} {x1 y1 : A1} {x2 y2 : A2} (h0 : x0 = y0) (h1 : x1 = y1) (h2 : x2 = y2) :
    f x0 x1 x2 = f y0 y1 y2 := by
  rw [h0, h1, h2]

/-- Equal arguments, equal values. -/
theorem val_args7 {A0 A1 A2 A3 A4 A5 A6 B : Type} (f : A0 → A1 → A2 → A3 → A4 → A5 → A6 → B) {x0 y0 : A0} {x1 y1 : A1} {x2 y2 : A2} {x3 y3 : A3} {x4 y4 : A4} {x5 y5 : A5} {x6 y6 : A6} (h0 : x0 = y0) (h1 : x1 = y1) (h2 : x2 = y2) (h3 : x3 = y3) (h4 : x4 = y4) (h5 : x5 = y5) (h6 : x6 = y6) :
    f x0 x1 x2 x3 x4 x5 x6 = f y0 y1 y2 y3 y4 y5 y6 := by
  rw [h0, h1, h2, h3, h4, h5, h6]

/-- The channel mixer's kernel computes what the reference computes: the convolution's two halves, the loss, and the
gradients of the rows and of the norm's weights. -/
theorem ffn_algebraic : algebraic_FfnIdeal_FfnRefIdeal (hFfnIdeal := FfnIdeal.Gen.facts) (hFfnRefIdeal := FfnRefIdeal.Gen.facts) := by
  intro m g m' g' _ h
  refine ⟨_, _, _, _, _, FfnIdeal.Hand.run m g, ?_⟩
  refine (θ_run FfnRefIdeal.defs _ _).mono (fun r hr c => ?_) (FfnRefIdeal.Value.run m' g')
  obtain ⟨h0, h1, h2, h3, h4, h5, h6⟩ := h c
  obtain ⟨r0, r1, r2, r3, r4, k⟩ := hr c
  refine ⟨r0.trans ?_, r1.trans ?_, r2.trans ?_, r3.trans ?_, r4.trans ?_, k⟩
  · refine (FfnRefIdeal.Read.val_main_v92_eq _).trans ?_
    exact val_args3 FfnRefIdeal.Read.val_main_v92 h0 h1 h2
  · refine (FfnRefIdeal.Read.val_main_v93_eq _).trans ?_
    exact val_args3 FfnRefIdeal.Read.val_main_v93 h0 h1 h2
  · refine (FfnRefIdeal.Read.val_main_v88_eq _).trans ?_
    exact val_args7 FfnRefIdeal.Read.val_main_v88 h0 h1 h2 h3 h4 h5 h6
  · refine (FfnRefIdeal.Read.val_main_v94_eq _).trans ?_
    exact val_args7 FfnRefIdeal.Read.val_main_v94 h0 h1 h2 h3 h4 h5 h6
  · refine (FfnRefIdeal.Read.val_main_v95_eq _).trans ?_
    exact val_args7 FfnRefIdeal.Read.val_main_v95 h0 h1 h2 h3 h4 h5 h6

end Cert

end
-- ==== Proof.AdamStep.lean ====
/- The optimiser's step at one entry of a weight, and a part of a gradient read at an entry. -/
module

public import proofs.«01_k».proof.Proof.Layout
public import Idealize.ShloMosaic.Lib.Pipeline.Value
public import Idealize.ShloMosaic.Lib.Pipeline.ValueKit.Tiles

@[expose] public section

noncomputable section

namespace Cert.Common

open Idealize.ShloMosaic Idealize.ShloMosaic.ValueIdx

/-- The new average of the gradient `g`, from the old one `a`. -/
def first (g a : Ideal .f32) : Ideal .f32 :=
  FloatOps.addf (FloatOps.mulf (Scalar.ofBits .f32 0x3F666666#32) a) (FloatOps.mulf (Scalar.ofBits .f32 0x3DCCCCCD#32) g)

/-- The new average of the gradient's square, from the old one `b`. -/
def second (g b : Ideal .f32) : Ideal .f32 :=
  FloatOps.addf (FloatOps.mulf (Scalar.ofBits .f32 0x3F7FBE77#32) b) (FloatOps.mulf (Scalar.ofBits .f32 0x3A83126F#32) (FloatOps.mulf g g))

/-- The change of the weight `w`. -/
def change (w g a b : Ideal .f32) : Ideal .f32 :=
  FloatOps.mulf (Scalar.ofBits .f32 0xBA83126F#32)
    (FloatOps.addf
      (FloatOps.divf (FloatOps.divf (first g a) (Scalar.ofBits .f32 0x3F26BD02#32))
        (FloatOps.addf (FloatOps.sqrt (FloatOps.divf (second g b) (Scalar.ofBits .f32 0x3C231ACC#32))) (Scalar.ofBits .f32 0x322BCC77#32)))
      (FloatOps.mulf (Scalar.ofBits .f32 0x3C23D70A#32) w))

/-- Part `s` of a gradient, loaded and without its first axis, at an entry. -/
theorem part_at {α : EltTy → Type} {e : EltTy} {a b : ℕ} (x : (⟨3, ![8, a, b]⟩ : Shape).Idx → α e) (s : Fin 8) {off : Fin 3 → ℕ}
    (ho : off = ![s.val, 0, 0]) (inb : ∀ d, off d + (![1, a, b] : Fin 3 → ℕ) d ≤ (![8, a, b] : Fin 3 → ℕ) d)
    (h : (⟨3, ![1, a, b]⟩ : Shape).ShapeCasts ⟨2, ![a, b]⟩) (i : Fin a) (j : Fin b) :
    shapeCast ⟨2, ![a, b]⟩ (View.ld (Val := α) x (Rect.unit (s := ⟨3, ![8, a, b]⟩) off ![1, a, b] inb)) h (ix2 i j) = x (ix3 s i j) := by
  refine (drop_unit _ h i j).trans ?_
  refine View.ld_unit_apply_of x off _ inb _ _ fun d => ?_
  subst ho
  match d with
  | ⟨0, _⟩ => rfl
  | ⟨1, _⟩ => show i.val = 0 + i.val; omega
  | ⟨2, _⟩ => show j.val = 0 + j.val; omega

/-- The sum of the eight parts as the kernel takes it, at an entry. -/
theorem sum_parts {e : EltTy} {a b : ℕ} (x : (⟨3, ![8, a, b]⟩ : Shape).Idx → Elt Ideal e) (f : Elt Ideal e → EReal)
    (i0 : ∀ d, (![0, 0, 0] : Fin 3 → ℕ) d + (![1, a, b] : Fin 3 → ℕ) d ≤ (![8, a, b] : Fin 3 → ℕ) d)
    (i1 : ∀ d, (![1, 0, 0] : Fin 3 → ℕ) d + (![1, a, b] : Fin 3 → ℕ) d ≤ (![8, a, b] : Fin 3 → ℕ) d)
    (i2 : ∀ d, (![2, 0, 0] : Fin 3 → ℕ) d + (![1, a, b] : Fin 3 → ℕ) d ≤ (![8, a, b] : Fin 3 → ℕ) d)
    (i3 : ∀ d, (![3, 0, 0] : Fin 3 → ℕ) d + (![1, a, b] : Fin 3 → ℕ) d ≤ (![8, a, b] : Fin 3 → ℕ) d)
    (i4 : ∀ d, (![4, 0, 0] : Fin 3 → ℕ) d + (![1, a, b] : Fin 3 → ℕ) d ≤ (![8, a, b] : Fin 3 → ℕ) d)
    (i5 : ∀ d, (![5, 0, 0] : Fin 3 → ℕ) d + (![1, a, b] : Fin 3 → ℕ) d ≤ (![8, a, b] : Fin 3 → ℕ) d)
    (i6 : ∀ d, (![6, 0, 0] : Fin 3 → ℕ) d + (![1, a, b] : Fin 3 → ℕ) d ≤ (![8, a, b] : Fin 3 → ℕ) d)
    (i7 : ∀ d, (![7, 0, 0] : Fin 3 → ℕ) d + (![1, a, b] : Fin 3 → ℕ) d ≤ (![8, a, b] : Fin 3 → ℕ) d)
    (h : (⟨3, ![1, a, b]⟩ : Shape).ShapeCasts ⟨2, ![a, b]⟩) (i : Fin a) (j : Fin b) :
    f (shapeCast ⟨2, ![a, b]⟩ (View.ld (Val := Elt Ideal) x (Rect.unit ![0, 0, 0] ![1, a, b] i0)) h (ix2 i j))
      + f (shapeCast ⟨2, ![a, b]⟩ (View.ld (Val := Elt Ideal) x (Rect.unit ![1, 0, 0] ![1, a, b] i1)) h (ix2 i j))
      + f (shapeCast ⟨2, ![a, b]⟩ (View.ld (Val := Elt Ideal) x (Rect.unit ![2, 0, 0] ![1, a, b] i2)) h (ix2 i j))
      + f (shapeCast ⟨2, ![a, b]⟩ (View.ld (Val := Elt Ideal) x (Rect.unit ![3, 0, 0] ![1, a, b] i3)) h (ix2 i j))
      + f (shapeCast ⟨2, ![a, b]⟩ (View.ld (Val := Elt Ideal) x (Rect.unit ![4, 0, 0] ![1, a, b] i4)) h (ix2 i j))
      + f (shapeCast ⟨2, ![a, b]⟩ (View.ld (Val := Elt Ideal) x (Rect.unit ![5, 0, 0] ![1, a, b] i5)) h (ix2 i j))
      + f (shapeCast ⟨2, ![a, b]⟩ (View.ld (Val := Elt Ideal) x (Rect.unit ![6, 0, 0] ![1, a, b] i6)) h (ix2 i j))
      + f (shapeCast ⟨2, ![a, b]⟩ (View.ld (Val := Elt Ideal) x (Rect.unit ![7, 0, 0] ![1, a, b] i7)) h (ix2 i j))
      = ∑ s : Fin 8, f (x (ix3 s i j)) := by
  rw [Fin.sum_univ_eight]
  exact congrArg₂ (· + ·) (congrArg₂ (· + ·) (congrArg₂ (· + ·) (congrArg₂ (· + ·) (congrArg₂ (· + ·) (congrArg₂ (· + ·) (congrArg₂ (· + ·) (congrArg f (part_at x 0 rfl _ _ i j))
    (congrArg f (part_at x 1 rfl _ _ i j)))
    (congrArg f (part_at x 2 rfl _ _ i j)))
    (congrArg f (part_at x 3 rfl _ _ i j)))
    (congrArg f (part_at x 4 rfl _ _ i j)))
    (congrArg f (part_at x 5 rfl _ _ i j)))
    (congrArg f (part_at x 6 rfl _ _ i j)))
    (congrArg f (part_at x 7 rfl _ _ i j))

/-- Where an entry of a tile of a matrix lies in the matrix. -/
theorem tile_idx {R T C n : ℕ} (hR : R = n * T) (t : Fin n) {off : Fin 2 → ℕ} (h0 : off 0 = t.val * T) (h1 : off 1 = 0 * C)
    (inb : ∀ d, off d + (![T, C] : Fin 2 → ℕ) d ≤ (![R, C] : Fin 2 → ℕ) d) (r : Fin T) (k : Fin C) :
    (Rect.unit (s := ⟨2, ![R, C]⟩) off ![T, C] inb).idx (ix2 r k) = ix2 (blockCol hR t r) k :=
  funext fun d => Fin.ext ((Rect.idx_unit_val off _ inb _ d).trans (by
    match d with
    | ⟨0, _⟩ => show off 0 + r.val = T * t.val + r.val; rw [h0, Nat.mul_comm]
    | ⟨1, _⟩ => show off 1 + k.val = k.val; rw [h1]; omega))

/-- And of a tile of eight matrices. -/
theorem parts_idx {R T C n : ℕ} (hR : R = n * T) (t : Fin n) {off : Fin 3 → ℕ} (h0 : off 0 = 0 * 8) (h1 : off 1 = t.val * T) (h2 : off 2 = 0 * C)
    (inb : ∀ d, off d + (![8, T, C] : Fin 3 → ℕ) d ≤ (![8, R, C] : Fin 3 → ℕ) d) (s : Fin 8) (r : Fin T) (k : Fin C) :
    (Rect.unit (s := ⟨3, ![8, R, C]⟩) off ![8, T, C] inb).idx (ix3 s r k) = ix3 s (blockCol hR t r) k :=
  funext fun d => Fin.ext ((Rect.idx_unit_val off _ inb _ d).trans (by
    match d with
    | ⟨0, _⟩ => show off 0 + s.val = s.val; rw [h0]; omega
    | ⟨1, _⟩ => show off 1 + r.val = T * t.val + r.val; rw [h1, Nat.mul_comm]
    | ⟨2, _⟩ => show off 2 + k.val = k.val; rw [h2]; omega))

/-- The tiles cover the matrix. -/
theorem tile_cover {R T C n : ℕ} (hR : R = n * T) (hT : 0 < T) (i : (⟨2, ![R, C]⟩ : Shape).Idx) :
    ∃ t : Fin n, ∀ off : Fin 2 → ℕ, off 0 = t.val * T → off 1 = 0 * C →
      ∀ inb : ∀ d, off d + (![T, C] : Fin 2 → ℕ) d ≤ (![R, C] : Fin 2 → ℕ) d,
        i ∈ (Rect.unit (s := ⟨2, ![R, C]⟩) off ![T, C] inb).set := by
  have hi0 : (i 0 : ℕ) < R := (i 0).isLt
  have hi1 : (i 1 : ℕ) < C := (i 1).isLt
  have hd := Nat.div_add_mod (i 0 : ℕ) T
  have hm := Nat.mod_lt (i 0 : ℕ) hT
  refine ⟨⟨(i 0 : ℕ) / T, Nat.div_lt_of_lt_mul (by rw [Nat.mul_comm, ← hR]; exact hi0)⟩, fun off h0 h1 inb => ?_⟩
  rw [Rect.mem_set_unit]
  intro d
  match d with
  | ⟨0, _⟩ => show off 0 ≤ (i 0 : ℕ) ∧ (i 0 : ℕ) < off 0 + T; rw [h0, Nat.mul_comm]; show T * ((i 0 : ℕ) / T) ≤ _ ∧ _ < T * ((i 0 : ℕ) / T) + T; omega
  | ⟨1, _⟩ => show off 1 ≤ (i 1 : ℕ) ∧ (i 1 : ℕ) < off 1 + C; rw [h1]; omega

/-- Equal arguments, equal values. -/
theorem same4 {A B : Type} (f : A → A → A → A → B) {a a' b b' c c' d d' : A} (h1 : a = a') (h2 : b = b') (h3 : c = c') (h4 : d = d') :
    f a b c d = f a' b' c' d' := by
  rw [h1, h2, h3, h4]

end Cert.Common

end
-- ==== Proof.AdamInClaim.lean ====
/- The optimiser's step on the input projection. -/
module

public import proofs.«01_k».proof.Defs
public import proofs.«01_k».proof.Proof.AdamStep
public import proofs.«01_k».proof.Proof.Gen.AdamInIdeal.Value
public import proofs.«01_k».proof.Proof.Gen.AdamInRefIdeal.Read

@[expose] public section

noncomputable section

namespace Cert.AdamInIdeal.Hand

open Cert.AdamInIdeal Cert.AdamInIdeal.Gen Idealize.ShloMosaic Idealize.ShloMosaic.TcCoe Idealize.SL.Sem
open Idealize.ShloMosaic.ValueIdx Cert.Common Cert.AdamInRefIdeal.Read

variable (m : (ℓ : Loc nD τ sig) → Buf (Elt Ideal) ℓ) (c : Dev nD)

/-- The weight, the gradient's parts and the two averages. -/
abbrev Wt : S1024x896.Idx → EReal := m ((c.tc : Thread nD τ).loc main_arg0)
abbrev Pt : S8x1024x896.Idx → EReal := m ((c.tc : Thread nD τ).loc main_arg1)
abbrev Mt : S1024x896.Idx → EReal := m ((c.tc : Thread nD τ).loc main_arg2)
abbrev Vt : S1024x896.Idx → EReal := m ((c.tc : Thread nD τ).loc main_arg3)

/-- Row `r` of point `t`'s tile. -/
abbrev row (t : Fin cfg0.N) (r : Fin 128) : Fin 1024 := blockCol (show 1024 = cfg0.N * 128 by rw [show cfg0.N = 8 from N_0]) t r

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Every point writes its tiles back. -/
theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A tile of a matrix, and of the parts; the tiles cover the matrix. -/
theorem read_0 (G : S1024x896.Idx → EReal) (t : Fin cfg0.N) (r : Fin 128) (k : Fin 896) :
    (((cfg0.win 0).blk t).view.read (Elt Ideal) G : S128x896.Idx → EReal) (ix2 r k) = G (ix2 (row t r) k) :=
  congrArg G (tile_idx _ t (congrArg (· * 128) (idx_0 t).1) (congrArg (· * 896) (idx_0 t).2) _ r k)

theorem read_1 (G : S8x1024x896.Idx → EReal) (t : Fin cfg0.N) (s : Fin 8) (r : Fin 128) (k : Fin 896) :
    (((cfg0.win 1).blk t).view.read (Elt Ideal) G : S8x128x896.Idx → EReal) (ix3 s r k) = G (ix3 s (row t r) k) :=
  congrArg G (parts_idx _ t (congrArg (· * 8) (idx_1 t).1) (congrArg (· * 128) (idx_1 t).2.1) (congrArg (· * 896) (idx_1 t).2.2) _ s r k)

theorem cover (i : S1024x896.Idx) : ∃ t : Fin cfg0.N, i ∈ ((View.whole main_arg0).slice (win0_0.rect t)).set :=
  (tile_cover (T := 128) (n := cfg0.N) (by rw [show cfg0.N = 8 from N_0]) (by decide) i).imp fun t h => by
    rw [View.set_slice_whole]
    exact h _ (congrArg (· * 128) (idx_0 t).1) (congrArg (· * 896) (idx_0 t).2) _

theorem stored (G : S1024x896.Idx → EReal) (f : S128x896.Idx → EReal) (t : Fin cfg0.N) (h : ∀ r k, f (ix2 r k) = G (ix2 (row t r) k)) :
    f = ((cfg0.win 0).blk t).view.read (Elt Ideal) G :=
  funext fun j => by rw [eq_ix2 j]; exact (h _ _).trans (read_0 G t _ _).symm

/-- The blocks a point loads, at an entry. -/
theorem blk_w (t : Fin cfg0.N) (r : Fin 128) (k : Fin 896) : View.ld (iblk m c 0 t) r0_8 (ix2 r k) = Wt m c (ix2 (row t r) k) :=
  (congrFun (View.ld_unit_zero (S := S128x896) hz _ _) _).trans (read_0 (Wt m c) t r k)
theorem blk_m (t : Fin cfg0.N) (r : Fin 128) (k : Fin 896) : View.ld (iblk m c 2 t) r0_8 (ix2 r k) = Mt m c (ix2 (row t r) k) :=
  (congrFun (View.ld_unit_zero (S := S128x896) hz _ _) _).trans (read_0 (Mt m c) t r k)
theorem blk_v (t : Fin cfg0.N) (r : Fin 128) (k : Fin 896) : View.ld (iblk m c 3 t) r0_8 (ix2 r k) = Vt m c (ix2 (row t r) k) :=
  (congrFun (View.ld_unit_zero (S := S128x896) hz _ _) _).trans (read_0 (Vt m c) t r k)

/-- The sum of the parts at a point is the reference's. -/
theorem sum_pt (t : Fin cfg0.N) (r : Fin 128) (k : Fin 896) :
    k0_pay5 (F := Ideal) (iblk m c 0 t) (iblk m c 1 t) (iblk m c 2 t) (iblk m c 3 t) (ix2 r k) = val_main_v1 (F := Ideal) (Pt m c) (ix2 (row t r) k) := by
  refine (sum_parts (e := .bf16) (iblk m c 1 t) id _ _ _ _ _ _ _ _ _ r k).trans ?_
  refine (Fintype.sum_congr _ (fun s => Pt m c (ix3 s (row t r) k)) fun s => read_1 (Pt m c) t s r k).trans ?_
  rw [val_main_v1_apply]
  refine ((congrArg₂ (· + ·) zero_word (Finset.sum_congr rfl fun s _ => ?_)).trans (zero_add _)).symm
  exact congrArg (Pt m c) (funext fun a => by match a with | ⟨0, _⟩ => rfl | ⟨1, _⟩ => rfl | ⟨2, _⟩ => rfl)

/-- The results after the run are the reference's. -/
theorem final_4 : (dats m 0 c).arrAt 4 cfg0.N = val_main_v1 (F := Ideal) (Pt m c) :=
  (dats m 0 c).arrAt_eq_of_cover 4 _ (fun t _ => by
    rw [Value.flushed4]
    unfold out0_4
    rw [View.canon_unit_zero hz]
    exact stored _ _ t fun r k => sum_pt m c t r k) fun i => (cover i).imp fun t h => ⟨(flushes t).1, h⟩

theorem final_5 : (dats m 0 c).arrAt 5 cfg0.N = val_main_v25 (F := Ideal) (Wt m c) (Pt m c) (Mt m c) (Vt m c) :=
  (dats m 0 c).arrAt_eq_of_cover 5 _ (fun t _ => by
    rw [Value.flushed5]
    unfold out0_5
    rw [View.canon_unit_zero hz]
    exact stored _ _ t fun r k => same4 change (blk_w m c t r k) (sum_pt m c t r k) (blk_m m c t r k) (blk_v m c t r k)) fun i => (cover i).imp fun t h => ⟨(flushes t).2.1, h⟩

theorem final_6 : (dats m 0 c).arrAt 6 cfg0.N = val_main_v6 (F := Ideal) (Pt m c) (Mt m c) :=
  (dats m 0 c).arrAt_eq_of_cover 6 _ (fun t _ => by
    rw [Value.flushed6]
    unfold out0_6
    rw [View.canon_unit_zero hz]
    exact stored _ _ t fun r k => congrArg₂ first (sum_pt m c t r k) (blk_m m c t r k)) fun i => (cover i).imp fun t h => ⟨(flushes t).2.2.1, h⟩

theorem final_7 : (dats m 0 c).arrAt 7 cfg0.N = val_main_v12 (F := Ideal) (Pt m c) (Vt m c) :=
  (dats m 0 c).arrAt_eq_of_cover 7 _ (fun t _ => by
    rw [Value.flushed7]
    unfold out0_7
    rw [View.canon_unit_zero hz]
    exact stored _ _ t fun r k => congrArg₂ second (sum_pt m c t r k) (blk_v m c t r k)) fun i => (cover i).imp fun t h => ⟨(flushes t).2.2.2, h⟩

end Cert.AdamInIdeal.Hand

namespace Cert

open Idealize.ShloMosaic Idealize.SL.Sem AdamInIdeal.Hand AdamInRefIdeal.Read

/-- The optimiser's step on the input projection: kernel and reference end with equal sums of the gradient's parts, changes of the weight and averages. -/
theorem adam_in_algebraic : algebraic_AdamInIdeal_AdamInRefIdeal (hAdamInIdeal := AdamInIdeal.Gen.facts) (hAdamInRefIdeal := AdamInRefIdeal.Gen.facts) := by
  intro m g m' g' _ h
  refine ⟨_, _, _, _, (θ_run AdamInIdeal.defs _ _).mono (fun r h c => ⟨(h c).1.trans (final_4 m c), (h c).2.1.trans (final_5 m c),
    (h c).2.2.1.trans (final_6 m c), (h c).2.2.2.1.trans (final_7 m c), (h c).2.2.2.2⟩) (AdamInIdeal.Value.run_blocks m g), ?_⟩
  refine (θ_run AdamInRefIdeal.defs _ _).mono (fun r hr c => ?_) (AdamInRefIdeal.Value.run m' g')
  obtain ⟨h0, h1, h2, h3⟩ := h c
  obtain ⟨r0, r1, r2, r3, k⟩ := hr c
  rw [h0, h1, h2, h3] at r1
  rw [h1] at r0
  rw [h1, h2] at r2
  rw [h1, h3] at r3
  exact ⟨r0.trans (val_main_v1_eq ..), r1.trans (val_main_v25_eq ..), r2.trans (val_main_v6_eq ..), r3.trans (val_main_v12_eq ..), k⟩

end Cert

end
-- ==== Proof.AdamUpClaim.lean ====
/- The optimiser's step on the channel mixer's first projection. -/
module

public import proofs.«01_k».proof.Defs
public import proofs.«01_k».proof.Proof.AdamStep
public import proofs.«01_k».proof.Proof.Gen.AdamUpIdeal.Value
public import proofs.«01_k».proof.Proof.Gen.AdamUpRefIdeal.Read

@[expose] public section

noncomputable section

namespace Cert.AdamUpIdeal.Hand

open Cert.AdamUpIdeal Cert.AdamUpIdeal.Gen Idealize.ShloMosaic Idealize.ShloMosaic.TcCoe Idealize.SL.Sem
open Idealize.ShloMosaic.ValueIdx Cert.Common Cert.AdamUpRefIdeal.Read

variable (m : (ℓ : Loc nD τ sig) → Buf (Elt Ideal) ℓ) (c : Dev nD)

/-- The weight, the gradient's parts and the two averages. -/
abbrev Wt : S1024x704.Idx → EReal := m ((c.tc : Thread nD τ).loc main_arg0)
abbrev Pt : S8x1024x704.Idx → EReal := m ((c.tc : Thread nD τ).loc main_arg1)
abbrev Mt : S1024x704.Idx → EReal := m ((c.tc : Thread nD τ).loc main_arg2)
abbrev Vt : S1024x704.Idx → EReal := m ((c.tc : Thread nD τ).loc main_arg3)

/-- Row `r` of point `t`'s tile. -/
abbrev row (t : Fin cfg0.N) (r : Fin 128) : Fin 1024 := blockCol (show 1024 = cfg0.N * 128 by rw [show cfg0.N = 8 from N_0]) t r

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Every point writes its tiles back. -/
theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A tile of a matrix, and of the parts; the tiles cover the matrix. -/
theorem read_0 (G : S1024x704.Idx → EReal) (t : Fin cfg0.N) (r : Fin 128) (k : Fin 704) :
    (((cfg0.win 0).blk t).view.read (Elt Ideal) G : S128x704.Idx → EReal) (ix2 r k) = G (ix2 (row t r) k) :=
  congrArg G (tile_idx _ t (congrArg (· * 128) (idx_0 t).1) (congrArg (· * 704) (idx_0 t).2) _ r k)

theorem read_1 (G : S8x1024x704.Idx → EReal) (t : Fin cfg0.N) (s : Fin 8) (r : Fin 128) (k : Fin 704) :
    (((cfg0.win 1).blk t).view.read (Elt Ideal) G : S8x128x704.Idx → EReal) (ix3 s r k) = G (ix3 s (row t r) k) :=
  congrArg G (parts_idx _ t (congrArg (· * 8) (idx_1 t).1) (congrArg (· * 128) (idx_1 t).2.1) (congrArg (· * 704) (idx_1 t).2.2) _ s r k)

theorem cover (i : S1024x704.Idx) : ∃ t : Fin cfg0.N, i ∈ ((View.whole main_arg0).slice (win0_0.rect t)).set :=
  (tile_cover (T := 128) (n := cfg0.N) (by rw [show cfg0.N = 8 from N_0]) (by decide) i).imp fun t h => by
    rw [View.set_slice_whole]
    exact h _ (congrArg (· * 128) (idx_0 t).1) (congrArg (· * 704) (idx_0 t).2) _

theorem stored (G : S1024x704.Idx → EReal) (f : S128x704.Idx → EReal) (t : Fin cfg0.N) (h : ∀ r k, f (ix2 r k) = G (ix2 (row t r) k)) :
    f = ((cfg0.win 0).blk t).view.read (Elt Ideal) G :=
  funext fun j => by rw [eq_ix2 j]; exact (h _ _).trans (read_0 G t _ _).symm

/-- The blocks a point loads, at an entry. -/
theorem blk_w (t : Fin cfg0.N) (r : Fin 128) (k : Fin 704) : View.ld (iblk m c 0 t) r0_8 (ix2 r k) = Wt m c (ix2 (row t r) k) :=
  (congrFun (View.ld_unit_zero (S := S128x704) hz _ _) _).trans (read_0 (Wt m c) t r k)
theorem blk_m (t : Fin cfg0.N) (r : Fin 128) (k : Fin 704) : View.ld (iblk m c 2 t) r0_8 (ix2 r k) = Mt m c (ix2 (row t r) k) :=
  (congrFun (View.ld_unit_zero (S := S128x704) hz _ _) _).trans (read_0 (Mt m c) t r k)
theorem blk_v (t : Fin cfg0.N) (r : Fin 128) (k : Fin 704) : View.ld (iblk m c 3 t) r0_8 (ix2 r k) = Vt m c (ix2 (row t r) k) :=
  (congrFun (View.ld_unit_zero (S := S128x704) hz _ _) _).trans (read_0 (Vt m c) t r k)

/-- The sum of the parts at a point is the reference's. -/
theorem sum_pt (t : Fin cfg0.N) (r : Fin 128) (k : Fin 704) :
    k0_pay6 (F := Ideal) (iblk m c 0 t) (iblk m c 1 t) (iblk m c 2 t) (iblk m c 3 t) (ix2 r k) = val_main_v0 (F := Ideal) (Pt m c) (ix2 (row t r) k) := by
  refine (sum_parts (e := .f32) (iblk m c 1 t) id _ _ _ _ _ _ _ _ _ r k).trans ?_
  refine (Fintype.sum_congr _ (fun s => Pt m c (ix3 s (row t r) k)) fun s => read_1 (Pt m c) t s r k).trans ?_
  rw [val_main_v0_apply]
  refine ((congrArg₂ (· + ·) zero_word (Finset.sum_congr rfl fun s _ => ?_)).trans (zero_add _)).symm
  exact congrArg (Pt m c) (funext fun a => by match a with | ⟨0, _⟩ => rfl | ⟨1, _⟩ => rfl | ⟨2, _⟩ => rfl)

/-- The results after the run are the reference's. -/
theorem final_4 : (dats m 0 c).arrAt 4 cfg0.N = val_main_v0 (F := Ideal) (Pt m c) :=
  (dats m 0 c).arrAt_eq_of_cover 4 _ (fun t _ => by
    rw [Value.flushed4]
    unfold out0_4
    rw [View.canon_unit_zero hz]
    exact stored _ _ t fun r k => sum_pt m c t r k) fun i => (cover i).imp fun t h => ⟨(flushes t).1, h⟩

theorem final_5 : (dats m 0 c).arrAt 5 cfg0.N = val_main_v24 (F := Ideal) (Wt m c) (Pt m c) (Mt m c) (Vt m c) :=
  (dats m 0 c).arrAt_eq_of_cover 5 _ (fun t _ => by
    rw [Value.flushed5]
    unfold out0_5
    rw [View.canon_unit_zero hz]
    exact stored _ _ t fun r k => same4 change (blk_w m c t r k) (sum_pt m c t r k) (blk_m m c t r k) (blk_v m c t r k)) fun i => (cover i).imp fun t h => ⟨(flushes t).2.1, h⟩

theorem final_6 : (dats m 0 c).arrAt 6 cfg0.N = val_main_v5 (F := Ideal) (Pt m c) (Mt m c) :=
  (dats m 0 c).arrAt_eq_of_cover 6 _ (fun t _ => by
    rw [Value.flushed6]
    unfold out0_6
    rw [View.canon_unit_zero hz]
    exact stored _ _ t fun r k => congrArg₂ first (sum_pt m c t r k) (blk_m m c t r k)) fun i => (cover i).imp fun t h => ⟨(flushes t).2.2.1, h⟩

theorem final_7 : (dats m 0 c).arrAt 7 cfg0.N = val_main_v11 (F := Ideal) (Pt m c) (Vt m c) :=
  (dats m 0 c).arrAt_eq_of_cover 7 _ (fun t _ => by
    rw [Value.flushed7]
    unfold out0_7
    rw [View.canon_unit_zero hz]
    exact stored _ _ t fun r k => congrArg₂ second (sum_pt m c t r k) (blk_v m c t r k)) fun i => (cover i).imp fun t h => ⟨(flushes t).2.2.2, h⟩

end Cert.AdamUpIdeal.Hand

namespace Cert

open Idealize.ShloMosaic Idealize.SL.Sem AdamUpIdeal.Hand AdamUpRefIdeal.Read

/-- The optimiser's step on the channel mixer's first projection: kernel and reference end with equal sums of the gradient's parts, changes of the weight and averages. -/
theorem adam_up_algebraic : algebraic_AdamUpIdeal_AdamUpRefIdeal (hAdamUpIdeal := AdamUpIdeal.Gen.facts) (hAdamUpRefIdeal := AdamUpRefIdeal.Gen.facts) := by
  intro m g m' g' _ h
  refine ⟨_, _, _, _, (θ_run AdamUpIdeal.defs _ _).mono (fun r h c => ⟨(h c).1.trans (final_4 m c), (h c).2.1.trans (final_5 m c),
    (h c).2.2.1.trans (final_6 m c), (h c).2.2.2.1.trans (final_7 m c), (h c).2.2.2.2⟩) (AdamUpIdeal.Value.run_blocks m g), ?_⟩
  refine (θ_run AdamUpRefIdeal.defs _ _).mono (fun r hr c => ?_) (AdamUpRefIdeal.Value.run m' g')
  obtain ⟨h0, h1, h2, h3⟩ := h c
  obtain ⟨r0, r1, r2, r3, k⟩ := hr c
  rw [h0, h1, h2, h3] at r1
  rw [h1] at r0
  rw [h1, h2] at r2
  rw [h1, h3] at r3
  exact ⟨r0.trans (val_main_v0_eq ..), r1.trans (val_main_v24_eq ..), r2.trans (val_main_v5_eq ..), r3.trans (val_main_v11_eq ..), k⟩

end Cert

end
-- ==== Proof.AdamSquareClaim.lean ====
/- The optimiser's step on a square projection. -/
module

public import proofs.«01_k».proof.Defs
public import proofs.«01_k».proof.Proof.AdamStep
public import proofs.«01_k».proof.Proof.Gen.AdamSquareIdeal.Value
public import proofs.«01_k».proof.Proof.Gen.AdamSquareRefIdeal.Read

@[expose] public section

noncomputable section

namespace Cert.AdamSquareIdeal.Hand

open Cert.AdamSquareIdeal Cert.AdamSquareIdeal.Gen Idealize.ShloMosaic Idealize.ShloMosaic.TcCoe Idealize.SL.Sem
open Idealize.ShloMosaic.ValueIdx Cert.Common Cert.AdamSquareRefIdeal.Read

variable (m : (ℓ : Loc nD τ sig) → Buf (Elt Ideal) ℓ) (c : Dev nD)

/-- The weight, the gradient's parts and the two averages. -/
abbrev Wt : S128x1024.Idx → EReal := m ((c.tc : Thread nD τ).loc main_arg0)
abbrev Pt : S8x128x1024.Idx → EReal := m ((c.tc : Thread nD τ).loc main_arg1)
abbrev Mt : S128x1024.Idx → EReal := m ((c.tc : Thread nD τ).loc main_arg2)
abbrev Vt : S128x1024.Idx → EReal := m ((c.tc : Thread nD τ).loc main_arg3)

/-- Row `r` of point `t`'s tile. -/
abbrev row (t : Fin cfg0.N) (r : Fin 128) : Fin 128 := blockCol (show 128 = cfg0.N * 128 by rw [show cfg0.N = 1 from N_0]) t r

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Every point writes its tiles back. -/
theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A tile of a matrix, and of the parts; the tiles cover the matrix. -/
theorem read_0 (G : S128x1024.Idx → EReal) (t : Fin cfg0.N) (r : Fin 128) (k : Fin 1024) :
    (((cfg0.win 0).blk t).view.read (Elt Ideal) G : S128x1024.Idx → EReal) (ix2 r k) = G (ix2 (row t r) k) :=
  congrArg G (tile_idx _ t (congrArg (· * 128) (idx_0 t).1) (congrArg (· * 1024) (idx_0 t).2) _ r k)

theorem read_1 (G : S8x128x1024.Idx → EReal) (t : Fin cfg0.N) (s : Fin 8) (r : Fin 128) (k : Fin 1024) :
    (((cfg0.win 1).blk t).view.read (Elt Ideal) G : S8x128x1024.Idx → EReal) (ix3 s r k) = G (ix3 s (row t r) k) :=
  congrArg G (parts_idx _ t (congrArg (· * 8) (idx_1 t).1) (congrArg (· * 128) (idx_1 t).2.1) (congrArg (· * 1024) (idx_1 t).2.2) _ s r k)

theorem cover (i : S128x1024.Idx) : ∃ t : Fin cfg0.N, i ∈ ((View.whole main_arg0).slice (win0_0.rect t)).set :=
  (tile_cover (T := 128) (n := cfg0.N) (by rw [show cfg0.N = 1 from N_0]) (by decide) i).imp fun t h => by
    rw [View.set_slice_whole]
    exact h _ (congrArg (· * 128) (idx_0 t).1) (congrArg (· * 1024) (idx_0 t).2) _

theorem stored (G : S128x1024.Idx → EReal) (f : S128x1024.Idx → EReal) (t : Fin cfg0.N) (h : ∀ r k, f (ix2 r k) = G (ix2 (row t r) k)) :
    f = ((cfg0.win 0).blk t).view.read (Elt Ideal) G :=
  funext fun j => by rw [eq_ix2 j]; exact (h _ _).trans (read_0 G t _ _).symm

/-- The blocks a point loads, at an entry. -/
theorem blk_w (t : Fin cfg0.N) (r : Fin 128) (k : Fin 1024) : View.ld (iblk m c 0 t) r0_8 (ix2 r k) = Wt m c (ix2 (row t r) k) :=
  (congrFun (View.ld_unit_zero (S := S128x1024) hz _ _) _).trans (read_0 (Wt m c) t r k)
theorem blk_m (t : Fin cfg0.N) (r : Fin 128) (k : Fin 1024) : View.ld (iblk m c 2 t) r0_8 (ix2 r k) = Mt m c (ix2 (row t r) k) :=
  (congrFun (View.ld_unit_zero (S := S128x1024) hz _ _) _).trans (read_0 (Mt m c) t r k)
theorem blk_v (t : Fin cfg0.N) (r : Fin 128) (k : Fin 1024) : View.ld (iblk m c 3 t) r0_8 (ix2 r k) = Vt m c (ix2 (row t r) k) :=
  (congrFun (View.ld_unit_zero (S := S128x1024) hz _ _) _).trans (read_0 (Vt m c) t r k)

/-- The sum of the parts at a point is the reference's. -/
theorem sum_pt (t : Fin cfg0.N) (r : Fin 128) (k : Fin 1024) :
    k0_pay6 (F := Ideal) (iblk m c 0 t) (iblk m c 1 t) (iblk m c 2 t) (iblk m c 3 t) (ix2 r k) = val_main_v0 (F := Ideal) (Pt m c) (ix2 (row t r) k) := by
  refine (sum_parts (e := .f32) (iblk m c 1 t) id _ _ _ _ _ _ _ _ _ r k).trans ?_
  refine (Fintype.sum_congr _ (fun s => Pt m c (ix3 s (row t r) k)) fun s => read_1 (Pt m c) t s r k).trans ?_
  rw [val_main_v0_apply]
  refine ((congrArg₂ (· + ·) zero_word (Finset.sum_congr rfl fun s _ => ?_)).trans (zero_add _)).symm
  exact congrArg (Pt m c) (funext fun a => by match a with | ⟨0, _⟩ => rfl | ⟨1, _⟩ => rfl | ⟨2, _⟩ => rfl)

/-- The results after the run are the reference's. -/
theorem final_4 : (dats m 0 c).arrAt 4 cfg0.N = val_main_v0 (F := Ideal) (Pt m c) :=
  (dats m 0 c).arrAt_eq_of_cover 4 _ (fun t _ => by
    rw [Value.flushed4]
    unfold out0_4
    rw [View.canon_unit_zero hz]
    exact stored _ _ t fun r k => sum_pt m c t r k) fun i => (cover i).imp fun t h => ⟨(flushes t).1, h⟩

theorem final_5 : (dats m 0 c).arrAt 5 cfg0.N = val_main_v24 (F := Ideal) (Wt m c) (Pt m c) (Mt m c) (Vt m c) :=
  (dats m 0 c).arrAt_eq_of_cover 5 _ (fun t _ => by
    rw [Value.flushed5]
    unfold out0_5
    rw [View.canon_unit_zero hz]
    exact stored _ _ t fun r k => same4 change (blk_w m c t r k) (sum_pt m c t r k) (blk_m m c t r k) (blk_v m c t r k)) fun i => (cover i).imp fun t h => ⟨(flushes t).2.1, h⟩

theorem final_6 : (dats m 0 c).arrAt 6 cfg0.N = val_main_v5 (F := Ideal) (Pt m c) (Mt m c) :=
  (dats m 0 c).arrAt_eq_of_cover 6 _ (fun t _ => by
    rw [Value.flushed6]
    unfold out0_6
    rw [View.canon_unit_zero hz]
    exact stored _ _ t fun r k => congrArg₂ first (sum_pt m c t r k) (blk_m m c t r k)) fun i => (cover i).imp fun t h => ⟨(flushes t).2.2.1, h⟩

theorem final_7 : (dats m 0 c).arrAt 7 cfg0.N = val_main_v11 (F := Ideal) (Pt m c) (Vt m c) :=
  (dats m 0 c).arrAt_eq_of_cover 7 _ (fun t _ => by
    rw [Value.flushed7]
    unfold out0_7
    rw [View.canon_unit_zero hz]
    exact stored _ _ t fun r k => congrArg₂ second (sum_pt m c t r k) (blk_v m c t r k)) fun i => (cover i).imp fun t h => ⟨(flushes t).2.2.2, h⟩

end Cert.AdamSquareIdeal.Hand

namespace Cert

open Idealize.ShloMosaic Idealize.SL.Sem AdamSquareIdeal.Hand AdamSquareRefIdeal.Read

/-- The optimiser's step on a square projection: kernel and reference end with equal sums of the gradient's parts, changes of the weight and averages. -/
theorem adam_square_algebraic : algebraic_AdamSquareIdeal_AdamSquareRefIdeal (hAdamSquareIdeal := AdamSquareIdeal.Gen.facts) (hAdamSquareRefIdeal := AdamSquareRefIdeal.Gen.facts) := by
  intro m g m' g' _ h
  refine ⟨_, _, _, _, (θ_run AdamSquareIdeal.defs _ _).mono (fun r h c => ⟨(h c).1.trans (final_4 m c), (h c).2.1.trans (final_5 m c),
    (h c).2.2.1.trans (final_6 m c), (h c).2.2.2.1.trans (final_7 m c), (h c).2.2.2.2⟩) (AdamSquareIdeal.Value.run_blocks m g), ?_⟩
  refine (θ_run AdamSquareRefIdeal.defs _ _).mono (fun r hr c => ?_) (AdamSquareRefIdeal.Value.run m' g')
  obtain ⟨h0, h1, h2, h3⟩ := h c
  obtain ⟨r0, r1, r2, r3, k⟩ := hr c
  rw [h0, h1, h2, h3] at r1
  rw [h1] at r0
  rw [h1, h2] at r2
  rw [h1, h3] at r3
  exact ⟨r0.trans (val_main_v0_eq ..), r1.trans (val_main_v24_eq ..), r2.trans (val_main_v5_eq ..), r3.trans (val_main_v11_eq ..), k⟩

end Cert

end
-- ==== Proof.AdamDownClaim.lean ====
/- The optimiser's step on the channel mixer's second projection. -/
module

public import proofs.«01_k».proof.Defs
public import proofs.«01_k».proof.Proof.AdamStep
public import proofs.«01_k».proof.Proof.Gen.AdamDownIdeal.Value
public import proofs.«01_k».proof.Proof.Gen.AdamDownRefIdeal.Read

@[expose] public section

noncomputable section

namespace Cert.AdamDownIdeal.Hand

open Cert.AdamDownIdeal Cert.AdamDownIdeal.Gen Idealize.ShloMosaic Idealize.ShloMosaic.TcCoe Idealize.SL.Sem
open Idealize.ShloMosaic.ValueIdx Cert.Common Cert.AdamDownRefIdeal.Read

variable (m : (ℓ : Loc nD τ sig) → Buf (Elt Ideal) ℓ) (c : Dev nD)

/-- The weight, the gradient's parts and the two averages. -/
abbrev Wt : S352x1024.Idx → EReal := m ((c.tc : Thread nD τ).loc main_arg0)
abbrev Pt : S8x352x1024.Idx → EReal := m ((c.tc : Thread nD τ).loc main_arg1)
abbrev Mt : S352x1024.Idx → EReal := m ((c.tc : Thread nD τ).loc main_arg2)
abbrev Vt : S352x1024.Idx → EReal := m ((c.tc : Thread nD τ).loc main_arg3)

/-- Row `r` of point `t`'s tile. -/
abbrev row (t : Fin cfg0.N) (r : Fin 32) : Fin 352 := blockCol (show 352 = cfg0.N * 32 by rw [show cfg0.N = 11 from N_0]) t r

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Every point writes its tiles back. -/
theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A tile of a matrix, and of the parts; the tiles cover the matrix. -/
theorem read_0 (G : S352x1024.Idx → EReal) (t : Fin cfg0.N) (r : Fin 32) (k : Fin 1024) :
    (((cfg0.win 0).blk t).view.read (Elt Ideal) G : S32x1024.Idx → EReal) (ix2 r k) = G (ix2 (row t r) k) :=
  congrArg G (tile_idx _ t (congrArg (· * 32) (idx_0 t).1) (congrArg (· * 1024) (idx_0 t).2) _ r k)

theorem read_1 (G : S8x352x1024.Idx → EReal) (t : Fin cfg0.N) (s : Fin 8) (r : Fin 32) (k : Fin 1024) :
    (((cfg0.win 1).blk t).view.read (Elt Ideal) G : S8x32x1024.Idx → EReal) (ix3 s r k) = G (ix3 s (row t r) k) :=
  congrArg G (parts_idx _ t (congrArg (· * 8) (idx_1 t).1) (congrArg (· * 32) (idx_1 t).2.1) (congrArg (· * 1024) (idx_1 t).2.2) _ s r k)

theorem cover (i : S352x1024.Idx) : ∃ t : Fin cfg0.N, i ∈ ((View.whole main_arg0).slice (win0_0.rect t)).set :=
  (tile_cover (T := 32) (n := cfg0.N) (by rw [show cfg0.N = 11 from N_0]) (by decide) i).imp fun t h => by
    rw [View.set_slice_whole]
    exact h _ (congrArg (· * 32) (idx_0 t).1) (congrArg (· * 1024) (idx_0 t).2) _

theorem stored (G : S352x1024.Idx → EReal) (f : S32x1024.Idx → EReal) (t : Fin cfg0.N) (h : ∀ r k, f (ix2 r k) = G (ix2 (row t r) k)) :
    f = ((cfg0.win 0).blk t).view.read (Elt Ideal) G :=
  funext fun j => by rw [eq_ix2 j]; exact (h _ _).trans (read_0 G t _ _).symm

/-- The blocks a point loads, at an entry. -/
theorem blk_w (t : Fin cfg0.N) (r : Fin 32) (k : Fin 1024) : View.ld (iblk m c 0 t) r0_8 (ix2 r k) = Wt m c (ix2 (row t r) k) :=
  (congrFun (View.ld_unit_zero (S := S32x1024) hz _ _) _).trans (read_0 (Wt m c) t r k)
theorem blk_m (t : Fin cfg0.N) (r : Fin 32) (k : Fin 1024) : View.ld (iblk m c 2 t) r0_8 (ix2 r k) = Mt m c (ix2 (row t r) k) :=
  (congrFun (View.ld_unit_zero (S := S32x1024) hz _ _) _).trans (read_0 (Mt m c) t r k)
theorem blk_v (t : Fin cfg0.N) (r : Fin 32) (k : Fin 1024) : View.ld (iblk m c 3 t) r0_8 (ix2 r k) = Vt m c (ix2 (row t r) k) :=
  (congrFun (View.ld_unit_zero (S := S32x1024) hz _ _) _).trans (read_0 (Vt m c) t r k)

/-- The sum of the parts at a point is the reference's. -/
theorem sum_pt (t : Fin cfg0.N) (r : Fin 32) (k : Fin 1024) :
    k0_pay6 (F := Ideal) (iblk m c 0 t) (iblk m c 1 t) (iblk m c 2 t) (iblk m c 3 t) (ix2 r k) = val_main_v0 (F := Ideal) (Pt m c) (ix2 (row t r) k) := by
  refine (sum_parts (e := .f32) (iblk m c 1 t) id _ _ _ _ _ _ _ _ _ r k).trans ?_
  refine (Fintype.sum_congr _ (fun s => Pt m c (ix3 s (row t r) k)) fun s => read_1 (Pt m c) t s r k).trans ?_
  rw [val_main_v0_apply]
  refine ((congrArg₂ (· + ·) zero_word (Finset.sum_congr rfl fun s _ => ?_)).trans (zero_add _)).symm
  exact congrArg (Pt m c) (funext fun a => by match a with | ⟨0, _⟩ => rfl | ⟨1, _⟩ => rfl | ⟨2, _⟩ => rfl)

/-- The results after the run are the reference's. -/
theorem final_4 : (dats m 0 c).arrAt 4 cfg0.N = val_main_v0 (F := Ideal) (Pt m c) :=
  (dats m 0 c).arrAt_eq_of_cover 4 _ (fun t _ => by
    rw [Value.flushed4]
    unfold out0_4
    rw [View.canon_unit_zero hz]
    exact stored _ _ t fun r k => sum_pt m c t r k) fun i => (cover i).imp fun t h => ⟨(flushes t).1, h⟩

theorem final_5 : (dats m 0 c).arrAt 5 cfg0.N = val_main_v24 (F := Ideal) (Wt m c) (Pt m c) (Mt m c) (Vt m c) :=
  (dats m 0 c).arrAt_eq_of_cover 5 _ (fun t _ => by
    rw [Value.flushed5]
    unfold out0_5
    rw [View.canon_unit_zero hz]
    exact stored _ _ t fun r k => same4 change (blk_w m c t r k) (sum_pt m c t r k) (blk_m m c t r k) (blk_v m c t r k)) fun i => (cover i).imp fun t h => ⟨(flushes t).2.1, h⟩

theorem final_6 : (dats m 0 c).arrAt 6 cfg0.N = val_main_v5 (F := Ideal) (Pt m c) (Mt m c) :=
  (dats m 0 c).arrAt_eq_of_cover 6 _ (fun t _ => by
    rw [Value.flushed6]
    unfold out0_6
    rw [View.canon_unit_zero hz]
    exact stored _ _ t fun r k => congrArg₂ first (sum_pt m c t r k) (blk_m m c t r k)) fun i => (cover i).imp fun t h => ⟨(flushes t).2.2.1, h⟩

theorem final_7 : (dats m 0 c).arrAt 7 cfg0.N = val_main_v11 (F := Ideal) (Pt m c) (Vt m c) :=
  (dats m 0 c).arrAt_eq_of_cover 7 _ (fun t _ => by
    rw [Value.flushed7]
    unfold out0_7
    rw [View.canon_unit_zero hz]
    exact stored _ _ t fun r k => congrArg₂ second (sum_pt m c t r k) (blk_v m c t r k)) fun i => (cover i).imp fun t h => ⟨(flushes t).2.2.2, h⟩

end Cert.AdamDownIdeal.Hand

namespace Cert

open Idealize.ShloMosaic Idealize.SL.Sem AdamDownIdeal.Hand AdamDownRefIdeal.Read

/-- The optimiser's step on the channel mixer's second projection: kernel and reference end with equal sums of the gradient's parts, changes of the weight and averages. -/
theorem adam_down_algebraic : algebraic_AdamDownIdeal_AdamDownRefIdeal (hAdamDownIdeal := AdamDownIdeal.Gen.facts) (hAdamDownRefIdeal := AdamDownRefIdeal.Gen.facts) := by
  intro m g m' g' _ h
  refine ⟨_, _, _, _, (θ_run AdamDownIdeal.defs _ _).mono (fun r h c => ⟨(h c).1.trans (final_4 m c), (h c).2.1.trans (final_5 m c),
    (h c).2.2.1.trans (final_6 m c), (h c).2.2.2.1.trans (final_7 m c), (h c).2.2.2.2⟩) (AdamDownIdeal.Value.run_blocks m g), ?_⟩
  refine (θ_run AdamDownRefIdeal.defs _ _).mono (fun r hr c => ?_) (AdamDownRefIdeal.Value.run m' g')
  obtain ⟨h0, h1, h2, h3⟩ := h c
  obtain ⟨r0, r1, r2, r3, k⟩ := hr c
  rw [h0, h1, h2, h3] at r1
  rw [h1] at r0
  rw [h1, h2] at r2
  rw [h1, h3] at r3
  exact ⟨r0.trans (val_main_v0_eq ..), r1.trans (val_main_v24_eq ..), r2.trans (val_main_v5_eq ..), r3.trans (val_main_v11_eq ..), k⟩

end Cert

end
-- ==== Proof.AdamMetaClaim.lean ====
/- The optimiser's step on the meta tokens. -/
module

public import proofs.«01_k».proof.Defs
public import proofs.«01_k».proof.Proof.AdamStep
public import proofs.«01_k».proof.Proof.Gen.AdamMetaIdeal.Value
public import proofs.«01_k».proof.Proof.Gen.AdamMetaRefIdeal.Read

@[expose] public section

noncomputable section

namespace Cert.AdamMetaIdeal.Hand

open Cert.AdamMetaIdeal Cert.AdamMetaIdeal.Gen Idealize.ShloMosaic Idealize.ShloMosaic.TcCoe Idealize.SL.Sem
open Idealize.ShloMosaic.ValueIdx Cert.Common Cert.AdamMetaRefIdeal.Read

variable (m : (ℓ : Loc nD τ sig) → Buf (Elt Ideal) ℓ) (c : Dev nD)

/-- The weight, the gradient's parts and the two averages. -/
abbrev Wt : S16x128.Idx → EReal := m ((c.tc : Thread nD τ).loc main_arg0)
abbrev Pt : S8x16x128.Idx → EReal := m ((c.tc : Thread nD τ).loc main_arg1)
abbrev Mt : S16x128.Idx → EReal := m ((c.tc : Thread nD τ).loc main_arg2)
abbrev Vt : S16x128.Idx → EReal := m ((c.tc : Thread nD τ).loc main_arg3)

/-- Row `r` of point `t`'s tile. -/
abbrev row (t : Fin cfg0.N) (r : Fin 16) : Fin 16 := blockCol (show 16 = cfg0.N * 16 by rw [show cfg0.N = 1 from N_0]) t r

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Every point writes its tiles back. -/
theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A tile of a matrix, and of the parts; the tiles cover the matrix. -/
theorem read_0 (G : S16x128.Idx → EReal) (t : Fin cfg0.N) (r : Fin 16) (k : Fin 128) :
    (((cfg0.win 0).blk t).view.read (Elt Ideal) G : S16x128.Idx → EReal) (ix2 r k) = G (ix2 (row t r) k) :=
  congrArg G (tile_idx _ t (congrArg (· * 16) (idx_0 t).1) (congrArg (· * 128) (idx_0 t).2) _ r k)

theorem read_1 (G : S8x16x128.Idx → EReal) (t : Fin cfg0.N) (s : Fin 8) (r : Fin 16) (k : Fin 128) :
    (((cfg0.win 1).blk t).view.read (Elt Ideal) G : S8x16x128.Idx → EReal) (ix3 s r k) = G (ix3 s (row t r) k) :=
  congrArg G (parts_idx _ t (congrArg (· * 8) (idx_1 t).1) (congrArg (· * 16) (idx_1 t).2.1) (congrArg (· * 128) (idx_1 t).2.2) _ s r k)

theorem cover (i : S16x128.Idx) : ∃ t : Fin cfg0.N, i ∈ ((View.whole main_arg0).slice (win0_0.rect t)).set :=
  (tile_cover (T := 16) (n := cfg0.N) (by rw [show cfg0.N = 1 from N_0]) (by decide) i).imp fun t h => by
    rw [View.set_slice_whole]
    exact h _ (congrArg (· * 16) (idx_0 t).1) (congrArg (· * 128) (idx_0 t).2) _

theorem stored (G : S16x128.Idx → EReal) (f : S16x128.Idx → EReal) (t : Fin cfg0.N) (h : ∀ r k, f (ix2 r k) = G (ix2 (row t r) k)) :
    f = ((cfg0.win 0).blk t).view.read (Elt Ideal) G :=
  funext fun j => by rw [eq_ix2 j]; exact (h _ _).trans (read_0 G t _ _).symm

/-- The blocks a point loads, at an entry. -/
theorem blk_w (t : Fin cfg0.N) (r : Fin 16) (k : Fin 128) : View.ld (iblk m c 0 t) r0_8 (ix2 r k) = Wt m c (ix2 (row t r) k) :=
  (congrFun (View.ld_unit_zero (S := S16x128) hz _ _) _).trans (read_0 (Wt m c) t r k)
theorem blk_m (t : Fin cfg0.N) (r : Fin 16) (k : Fin 128) : View.ld (iblk m c 2 t) r0_8 (ix2 r k) = Mt m c (ix2 (row t r) k) :=
  (congrFun (View.ld_unit_zero (S := S16x128) hz _ _) _).trans (read_0 (Mt m c) t r k)
theorem blk_v (t : Fin cfg0.N) (r : Fin 16) (k : Fin 128) : View.ld (iblk m c 3 t) r0_8 (ix2 r k) = Vt m c (ix2 (row t r) k) :=
  (congrFun (View.ld_unit_zero (S := S16x128) hz _ _) _).trans (read_0 (Vt m c) t r k)

/-- The sum of the parts at a point is the reference's. -/
theorem sum_pt (t : Fin cfg0.N) (r : Fin 16) (k : Fin 128) :
    k0_pay6 (F := Ideal) (iblk m c 0 t) (iblk m c 1 t) (iblk m c 2 t) (iblk m c 3 t) (ix2 r k) = val_main_v0 (F := Ideal) (Pt m c) (ix2 (row t r) k) := by
  refine (sum_parts (e := .f32) (iblk m c 1 t) id _ _ _ _ _ _ _ _ _ r k).trans ?_
  refine (Fintype.sum_congr _ (fun s => Pt m c (ix3 s (row t r) k)) fun s => read_1 (Pt m c) t s r k).trans ?_
  rw [val_main_v0_apply]
  refine ((congrArg₂ (· + ·) zero_word (Finset.sum_congr rfl fun s _ => ?_)).trans (zero_add _)).symm
  exact congrArg (Pt m c) (funext fun a => by match a with | ⟨0, _⟩ => rfl | ⟨1, _⟩ => rfl | ⟨2, _⟩ => rfl)

/-- The results after the run are the reference's. -/
theorem final_4 : (dats m 0 c).arrAt 4 cfg0.N = val_main_v0 (F := Ideal) (Pt m c) :=
  (dats m 0 c).arrAt_eq_of_cover 4 _ (fun t _ => by
    rw [Value.flushed4]
    unfold out0_4
    rw [View.canon_unit_zero hz]
    exact stored _ _ t fun r k => sum_pt m c t r k) fun i => (cover i).imp fun t h => ⟨(flushes t).1, h⟩

theorem final_5 : (dats m 0 c).arrAt 5 cfg0.N = val_main_v24 (F := Ideal) (Wt m c) (Pt m c) (Mt m c) (Vt m c) :=
  (dats m 0 c).arrAt_eq_of_cover 5 _ (fun t _ => by
    rw [Value.flushed5]
    unfold out0_5
    rw [View.canon_unit_zero hz]
    exact stored _ _ t fun r k => same4 change (blk_w m c t r k) (sum_pt m c t r k) (blk_m m c t r k) (blk_v m c t r k)) fun i => (cover i).imp fun t h => ⟨(flushes t).2.1, h⟩

theorem final_6 : (dats m 0 c).arrAt 6 cfg0.N = val_main_v5 (F := Ideal) (Pt m c) (Mt m c) :=
  (dats m 0 c).arrAt_eq_of_cover 6 _ (fun t _ => by
    rw [Value.flushed6]
    unfold out0_6
    rw [View.canon_unit_zero hz]
    exact stored _ _ t fun r k => congrArg₂ first (sum_pt m c t r k) (blk_m m c t r k)) fun i => (cover i).imp fun t h => ⟨(flushes t).2.2.1, h⟩

theorem final_7 : (dats m 0 c).arrAt 7 cfg0.N = val_main_v11 (F := Ideal) (Pt m c) (Vt m c) :=
  (dats m 0 c).arrAt_eq_of_cover 7 _ (fun t _ => by
    rw [Value.flushed7]
    unfold out0_7
    rw [View.canon_unit_zero hz]
    exact stored _ _ t fun r k => congrArg₂ second (sum_pt m c t r k) (blk_v m c t r k)) fun i => (cover i).imp fun t h => ⟨(flushes t).2.2.2, h⟩

end Cert.AdamMetaIdeal.Hand

namespace Cert

open Idealize.ShloMosaic Idealize.SL.Sem AdamMetaIdeal.Hand AdamMetaRefIdeal.Read

/-- The optimiser's step on the meta tokens: kernel and reference end with equal sums of the gradient's parts, changes of the weight and averages. -/
theorem adam_meta_algebraic : algebraic_AdamMetaIdeal_AdamMetaRefIdeal (hAdamMetaIdeal := AdamMetaIdeal.Gen.facts) (hAdamMetaRefIdeal := AdamMetaRefIdeal.Gen.facts) := by
  intro m g m' g' _ h
  refine ⟨_, _, _, _, (θ_run AdamMetaIdeal.defs _ _).mono (fun r h c => ⟨(h c).1.trans (final_4 m c), (h c).2.1.trans (final_5 m c),
    (h c).2.2.1.trans (final_6 m c), (h c).2.2.2.1.trans (final_7 m c), (h c).2.2.2.2⟩) (AdamMetaIdeal.Value.run_blocks m g), ?_⟩
  refine (θ_run AdamMetaRefIdeal.defs _ _).mono (fun r hr c => ?_) (AdamMetaRefIdeal.Value.run m' g')
  obtain ⟨h0, h1, h2, h3⟩ := h c
  obtain ⟨r0, r1, r2, r3, k⟩ := hr c
  rw [h0, h1, h2, h3] at r1
  rw [h1] at r0
  rw [h1, h2] at r2
  rw [h1, h3] at r3
  exact ⟨r0.trans (val_main_v0_eq ..), r1.trans (val_main_v24_eq ..), r2.trans (val_main_v5_eq ..), r3.trans (val_main_v11_eq ..), k⟩

end Cert

end
-- ==== Proof.AdamConvClaim.lean ====
/- The optimiser's step on the convolution's filter. -/
module

public import proofs.«01_k».proof.Defs
public import proofs.«01_k».proof.Proof.AdamStep
public import proofs.«01_k».proof.Proof.Gen.AdamConvIdeal.Value
public import proofs.«01_k».proof.Proof.Gen.AdamConvRefIdeal.Read

@[expose] public section

noncomputable section

namespace Cert.AdamConvIdeal.Hand

open Cert.AdamConvIdeal Cert.AdamConvIdeal.Gen Idealize.ShloMosaic Idealize.ShloMosaic.TcCoe Idealize.SL.Sem
open Idealize.ShloMosaic.ValueIdx Cert.Common Cert.AdamConvRefIdeal.Read

variable (m : (ℓ : Loc nD τ sig) → Buf (Elt Ideal) ℓ) (c : Dev nD)

/-- The weight, the gradient's parts and the two averages. -/
abbrev Wt : S3x704.Idx → EReal := m ((c.tc : Thread nD τ).loc main_arg0)
abbrev Pt : S8x3x704.Idx → EReal := m ((c.tc : Thread nD τ).loc main_arg1)
abbrev Mt : S3x704.Idx → EReal := m ((c.tc : Thread nD τ).loc main_arg2)
abbrev Vt : S3x704.Idx → EReal := m ((c.tc : Thread nD τ).loc main_arg3)

/-- Row `r` of point `t`'s tile. -/
abbrev row (t : Fin cfg0.N) (r : Fin 3) : Fin 3 := blockCol (show 3 = cfg0.N * 3 by rw [show cfg0.N = 1 from N_0]) t r

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Every point writes its tiles back. -/
theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A tile of a matrix, and of the parts; the tiles cover the matrix. -/
theorem read_0 (G : S3x704.Idx → EReal) (t : Fin cfg0.N) (r : Fin 3) (k : Fin 704) :
    (((cfg0.win 0).blk t).view.read (Elt Ideal) G : S3x704.Idx → EReal) (ix2 r k) = G (ix2 (row t r) k) :=
  congrArg G (tile_idx _ t (congrArg (· * 3) (idx_0 t).1) (congrArg (· * 704) (idx_0 t).2) _ r k)

theorem read_1 (G : S8x3x704.Idx → EReal) (t : Fin cfg0.N) (s : Fin 8) (r : Fin 3) (k : Fin 704) :
    (((cfg0.win 1).blk t).view.read (Elt Ideal) G : S8x3x704.Idx → EReal) (ix3 s r k) = G (ix3 s (row t r) k) :=
  congrArg G (parts_idx _ t (congrArg (· * 8) (idx_1 t).1) (congrArg (· * 3) (idx_1 t).2.1) (congrArg (· * 704) (idx_1 t).2.2) _ s r k)

theorem cover (i : S3x704.Idx) : ∃ t : Fin cfg0.N, i ∈ ((View.whole main_arg0).slice (win0_0.rect t)).set :=
  (tile_cover (T := 3) (n := cfg0.N) (by rw [show cfg0.N = 1 from N_0]) (by decide) i).imp fun t h => by
    rw [View.set_slice_whole]
    exact h _ (congrArg (· * 3) (idx_0 t).1) (congrArg (· * 704) (idx_0 t).2) _

theorem stored (G : S3x704.Idx → EReal) (f : S3x704.Idx → EReal) (t : Fin cfg0.N) (h : ∀ r k, f (ix2 r k) = G (ix2 (row t r) k)) :
    f = ((cfg0.win 0).blk t).view.read (Elt Ideal) G :=
  funext fun j => by rw [eq_ix2 j]; exact (h _ _).trans (read_0 G t _ _).symm

/-- The blocks a point loads, at an entry. -/
theorem blk_w (t : Fin cfg0.N) (r : Fin 3) (k : Fin 704) : View.ld (iblk m c 0 t) r0_8 (ix2 r k) = Wt m c (ix2 (row t r) k) :=
  (congrFun (View.ld_unit_zero (S := S3x704) hz _ _) _).trans (read_0 (Wt m c) t r k)
theorem blk_m (t : Fin cfg0.N) (r : Fin 3) (k : Fin 704) : View.ld (iblk m c 2 t) r0_8 (ix2 r k) = Mt m c (ix2 (row t r) k) :=
  (congrFun (View.ld_unit_zero (S := S3x704) hz _ _) _).trans (read_0 (Mt m c) t r k)
theorem blk_v (t : Fin cfg0.N) (r : Fin 3) (k : Fin 704) : View.ld (iblk m c 3 t) r0_8 (ix2 r k) = Vt m c (ix2 (row t r) k) :=
  (congrFun (View.ld_unit_zero (S := S3x704) hz _ _) _).trans (read_0 (Vt m c) t r k)

/-- The sum of the parts at a point is the reference's. -/
theorem sum_pt (t : Fin cfg0.N) (r : Fin 3) (k : Fin 704) :
    k0_pay6 (F := Ideal) (iblk m c 0 t) (iblk m c 1 t) (iblk m c 2 t) (iblk m c 3 t) (ix2 r k) = val_main_v0 (F := Ideal) (Pt m c) (ix2 (row t r) k) := by
  refine (sum_parts (e := .f32) (iblk m c 1 t) id _ _ _ _ _ _ _ _ _ r k).trans ?_
  refine (Fintype.sum_congr _ (fun s => Pt m c (ix3 s (row t r) k)) fun s => read_1 (Pt m c) t s r k).trans ?_
  rw [val_main_v0_apply]
  refine ((congrArg₂ (· + ·) zero_word (Finset.sum_congr rfl fun s _ => ?_)).trans (zero_add _)).symm
  exact congrArg (Pt m c) (funext fun a => by match a with | ⟨0, _⟩ => rfl | ⟨1, _⟩ => rfl | ⟨2, _⟩ => rfl)

/-- The results after the run are the reference's. -/
theorem final_4 : (dats m 0 c).arrAt 4 cfg0.N = val_main_v0 (F := Ideal) (Pt m c) :=
  (dats m 0 c).arrAt_eq_of_cover 4 _ (fun t _ => by
    rw [Value.flushed4]
    unfold out0_4
    rw [View.canon_unit_zero hz]
    exact stored _ _ t fun r k => sum_pt m c t r k) fun i => (cover i).imp fun t h => ⟨(flushes t).1, h⟩

theorem final_5 : (dats m 0 c).arrAt 5 cfg0.N = val_main_v24 (F := Ideal) (Wt m c) (Pt m c) (Mt m c) (Vt m c) :=
  (dats m 0 c).arrAt_eq_of_cover 5 _ (fun t _ => by
    rw [Value.flushed5]
    unfold out0_5
    rw [View.canon_unit_zero hz]
    exact stored _ _ t fun r k => same4 change (blk_w m c t r k) (sum_pt m c t r k) (blk_m m c t r k) (blk_v m c t r k)) fun i => (cover i).imp fun t h => ⟨(flushes t).2.1, h⟩

theorem final_6 : (dats m 0 c).arrAt 6 cfg0.N = val_main_v5 (F := Ideal) (Pt m c) (Mt m c) :=
  (dats m 0 c).arrAt_eq_of_cover 6 _ (fun t _ => by
    rw [Value.flushed6]
    unfold out0_6
    rw [View.canon_unit_zero hz]
    exact stored _ _ t fun r k => congrArg₂ first (sum_pt m c t r k) (blk_m m c t r k)) fun i => (cover i).imp fun t h => ⟨(flushes t).2.2.1, h⟩

theorem final_7 : (dats m 0 c).arrAt 7 cfg0.N = val_main_v11 (F := Ideal) (Pt m c) (Vt m c) :=
  (dats m 0 c).arrAt_eq_of_cover 7 _ (fun t _ => by
    rw [Value.flushed7]
    unfold out0_7
    rw [View.canon_unit_zero hz]
    exact stored _ _ t fun r k => congrArg₂ second (sum_pt m c t r k) (blk_v m c t r k)) fun i => (cover i).imp fun t h => ⟨(flushes t).2.2.2, h⟩

end Cert.AdamConvIdeal.Hand

namespace Cert

open Idealize.ShloMosaic Idealize.SL.Sem AdamConvIdeal.Hand AdamConvRefIdeal.Read

/-- The optimiser's step on the convolution's filter: kernel and reference end with equal sums of the gradient's parts, changes of the weight and averages. -/
theorem adam_conv_algebraic : algebraic_AdamConvIdeal_AdamConvRefIdeal (hAdamConvIdeal := AdamConvIdeal.Gen.facts) (hAdamConvRefIdeal := AdamConvRefIdeal.Gen.facts) := by
  intro m g m' g' _ h
  refine ⟨_, _, _, _, (θ_run AdamConvIdeal.defs _ _).mono (fun r h c => ⟨(h c).1.trans (final_4 m c), (h c).2.1.trans (final_5 m c),
    (h c).2.2.1.trans (final_6 m c), (h c).2.2.2.1.trans (final_7 m c), (h c).2.2.2.2⟩) (AdamConvIdeal.Value.run_blocks m g), ?_⟩
  refine (θ_run AdamConvRefIdeal.defs _ _).mono (fun r hr c => ?_) (AdamConvRefIdeal.Value.run m' g')
  obtain ⟨h0, h1, h2, h3⟩ := h c
  obtain ⟨r0, r1, r2, r3, k⟩ := hr c
  rw [h0, h1, h2, h3] at r1
  rw [h1] at r0
  rw [h1, h2] at r2
  rw [h1, h3] at r3
  exact ⟨r0.trans (val_main_v0_eq ..), r1.trans (val_main_v24_eq ..), r2.trans (val_main_v5_eq ..), r3.trans (val_main_v11_eq ..), k⟩

end Cert

end
-- ==== Proof.AdamWholeClaims.lean ====
/- The optimiser's step on the weights whose gradient has no parts. -/
module

public import proofs.«01_k».proof.Defs
public import proofs.«01_k».proof.Proof.Gen.AdamBIdeal.Value
public import proofs.«01_k».proof.Proof.Gen.AdamBRefIdeal.Read
public import proofs.«01_k».proof.Proof.Gen.AdamCIdeal.Value
public import proofs.«01_k».proof.Proof.Gen.AdamCRefIdeal.Read
public import proofs.«01_k».proof.Proof.Gen.AdamPackedIdeal.Value
public import proofs.«01_k».proof.Proof.Gen.AdamPackedRefIdeal.Read

@[expose] public section

noncomputable section

namespace Cert

open Idealize.ShloMosaic Idealize.SL.Sem

namespace AdamBIdeal.Hand

open AdamBIdeal.Value AdamBRefIdeal.Read

/-- The change of the weights and the two averages are the reference's. -/
theorem delta_eq (w g m v : S4096x16.Idx → EReal) : val_main_v23 (F := Ideal) w g m v = G4 (F := Ideal) w g m v :=
  funext fun _ => rfl

theorem first_eq (g m : S4096x16.Idx → EReal) : val_main_v4 (F := Ideal) g m = G5 (F := Ideal) g m :=
  funext fun _ => rfl

theorem second_eq (g v : S4096x16.Idx → EReal) : val_main_v10 (F := Ideal) g v = G6 (F := Ideal) g v :=
  funext fun _ => rfl

end AdamBIdeal.Hand

/-- The optimiser's step on the inputs' matrices of the S5 layer: kernel and reference end with equal changes of the weight and equal averages. -/
theorem adam_b_algebraic : algebraic_AdamBIdeal_AdamBRefIdeal (hAdamBIdeal := AdamBIdeal.Gen.facts) (hAdamBRefIdeal := AdamBRefIdeal.Gen.facts) := by
  intro m g m' g' _ h
  refine ⟨_, _, _, AdamBIdeal.Value.run m g, ?_⟩
  refine (θ_run AdamBRefIdeal.defs _ _).mono (fun r hr c => ?_) (AdamBRefIdeal.Value.run m' g')
  obtain ⟨h0, h1, h2, h3⟩ := h c
  obtain ⟨r0, r1, r2, k⟩ := hr c
  rw [h0, h1, h2, h3] at r0
  rw [h1, h2] at r1
  rw [h1, h3] at r2
  exact ⟨r0.trans ((AdamBRefIdeal.Read.val_main_v23_eq ..).trans (AdamBIdeal.Hand.delta_eq ..)),
    r1.trans ((AdamBRefIdeal.Read.val_main_v4_eq ..).trans (AdamBIdeal.Hand.first_eq ..)),
    r2.trans ((AdamBRefIdeal.Read.val_main_v10_eq ..).trans (AdamBIdeal.Hand.second_eq ..)), k⟩

namespace AdamCIdeal.Hand

open AdamCIdeal.Value AdamCRefIdeal.Read

/-- The change of the weights and the two averages are the reference's. -/
theorem delta_eq (w g m v : S4096x64.Idx → EReal) : val_main_v23 (F := Ideal) w g m v = G4 (F := Ideal) w g m v :=
  funext fun _ => rfl

theorem first_eq (g m : S4096x64.Idx → EReal) : val_main_v4 (F := Ideal) g m = G5 (F := Ideal) g m :=
  funext fun _ => rfl

theorem second_eq (g v : S4096x64.Idx → EReal) : val_main_v10 (F := Ideal) g v = G6 (F := Ideal) g v :=
  funext fun _ => rfl

end AdamCIdeal.Hand

/-- The optimiser's step on the outputs' matrices of the S5 layer: kernel and reference end with equal changes of the weight and equal averages. -/
theorem adam_c_algebraic : algebraic_AdamCIdeal_AdamCRefIdeal (hAdamCIdeal := AdamCIdeal.Gen.facts) (hAdamCRefIdeal := AdamCRefIdeal.Gen.facts) := by
  intro m g m' g' _ h
  refine ⟨_, _, _, AdamCIdeal.Value.run m g, ?_⟩
  refine (θ_run AdamCRefIdeal.defs _ _).mono (fun r hr c => ?_) (AdamCRefIdeal.Value.run m' g')
  obtain ⟨h0, h1, h2, h3⟩ := h c
  obtain ⟨r0, r1, r2, k⟩ := hr c
  rw [h0, h1, h2, h3] at r0
  rw [h1, h2] at r1
  rw [h1, h3] at r2
  exact ⟨r0.trans ((AdamCRefIdeal.Read.val_main_v23_eq ..).trans (AdamCIdeal.Hand.delta_eq ..)),
    r1.trans ((AdamCRefIdeal.Read.val_main_v4_eq ..).trans (AdamCIdeal.Hand.first_eq ..)),
    r2.trans ((AdamCRefIdeal.Read.val_main_v10_eq ..).trans (AdamCIdeal.Hand.second_eq ..)), k⟩

namespace AdamPackedIdeal.Hand

open AdamPackedIdeal.Value AdamPackedRefIdeal.Read

/-- The change of the weights and the two averages are the reference's. -/
theorem delta_eq (w g m v : S160x128.Idx → EReal) : val_main_v23 (F := Ideal) w g m v = G4 (F := Ideal) w g m v :=
  funext fun _ => rfl

theorem first_eq (g m : S160x128.Idx → EReal) : val_main_v4 (F := Ideal) g m = G5 (F := Ideal) g m :=
  funext fun _ => rfl

theorem second_eq (g v : S160x128.Idx → EReal) : val_main_v10 (F := Ideal) g v = G6 (F := Ideal) g v :=
  funext fun _ => rfl

end AdamPackedIdeal.Hand

/-- The optimiser's step on the small weights packed in one array: kernel and reference end with equal changes of the weight and equal averages. -/
theorem adam_packed_algebraic : algebraic_AdamPackedIdeal_AdamPackedRefIdeal (hAdamPackedIdeal := AdamPackedIdeal.Gen.facts) (hAdamPackedRefIdeal := AdamPackedRefIdeal.Gen.facts) := by
  intro m g m' g' _ h
  refine ⟨_, _, _, AdamPackedIdeal.Value.run m g, ?_⟩
  refine (θ_run AdamPackedRefIdeal.defs _ _).mono (fun r hr c => ?_) (AdamPackedRefIdeal.Value.run m' g')
  obtain ⟨h0, h1, h2, h3⟩ := h c
  obtain ⟨r0, r1, r2, k⟩ := hr c
  rw [h0, h1, h2, h3] at r0
  rw [h1, h2] at r1
  rw [h1, h3] at r2
  exact ⟨r0.trans ((AdamPackedRefIdeal.Read.val_main_v23_eq ..).trans (AdamPackedIdeal.Hand.delta_eq ..)),
    r1.trans ((AdamPackedRefIdeal.Read.val_main_v4_eq ..).trans (AdamPackedIdeal.Hand.first_eq ..)),
    r2.trans ((AdamPackedRefIdeal.Read.val_main_v10_eq ..).trans (AdamPackedIdeal.Hand.second_eq ..)), k⟩

end Cert

end
-- ==== Proof.SumSmallClaim.lean ====
/- The sums of the small gradients over the devices. -/
module

public import proofs.«01_k».proof.Defs
public import proofs.«01_k».proof.Proof.Layout
public import proofs.«01_k».proof.Proof.Gen.SumSmallIdeal.Value
public import proofs.«01_k».proof.Proof.Gen.SumSmallRefIdeal.Read

@[expose] public section

noncomputable section

namespace Cert.SumSmallIdeal.Hand

open Cert.SumSmallIdeal Cert.SumSmallIdeal.Gen Idealize.ShloMosaic Idealize.SL.Sem Idealize.ShloMosaic.ValueIdx Cert.Common
open Cert.SumSmallIdeal.Value Cert.SumSmallRefIdeal.Read

/-- Eight matrices, and one of them. -/
abbrev All (a b : ℕ) : Shape := ⟨3, ![8, a, b]⟩
abbrev One (a b : ℕ) : Shape := ⟨3, ![1, a, b]⟩

/-- One of eight matrices, at an entry. -/
theorem slice_at {a b : ℕ} (x : (All a b).Idx → EReal) (s : Fin 8) {off : Fin 3 → ℕ} (ho : off = ![s.val, 0, 0])
    (hs : (All a b).Slices off (One a b)) (h : (One a b).ShapeCasts ⟨2, ![a, b]⟩) (i : Fin a) (j : Fin b) :
    shapeCast ⟨2, ![a, b]⟩ (extractStridedSlice (One a b) off x hs) h (ix2 i j) = x (ix3 s i j) := by
  subst ho
  refine (drop_unit _ h i j).trans (extractStridedSlice_apply _ x hs _ _ fun d => ?_)
  match d with
  | ⟨0, _⟩ => rfl
  | ⟨1, _⟩ => exact (Nat.zero_add _).symm
  | ⟨2, _⟩ => exact (Nat.zero_add _).symm

/-- The sum of the eight as the kernel takes it, at an entry. -/
theorem sum_slices {a b : ℕ} (x : (All a b).Idx → EReal)
    (h0 : (All a b).Slices ![0, 0, 0] (One a b))
    (h1 : (All a b).Slices ![1, 0, 0] (One a b))
    (h2 : (All a b).Slices ![2, 0, 0] (One a b))
    (h3 : (All a b).Slices ![3, 0, 0] (One a b))
    (h4 : (All a b).Slices ![4, 0, 0] (One a b))
    (h5 : (All a b).Slices ![5, 0, 0] (One a b))
    (h6 : (All a b).Slices ![6, 0, 0] (One a b))
    (h7 : (All a b).Slices ![7, 0, 0] (One a b))
    (h : (One a b).ShapeCasts ⟨2, ![a, b]⟩) (z : EReal) (hz : z = 0) (y : (⟨2, ![a, b]⟩ : Shape).Idx) (q : Fin 8 → (All a b).Idx)
    (hq : ∀ s, q s = ix3 s (y 0) (y 1)) :
    z + ∑ s : Fin 8, x (q s) =
      shapeCast ⟨2, ![a, b]⟩ (extractStridedSlice (One a b) ![0, 0, 0] x h0) h y
      + shapeCast ⟨2, ![a, b]⟩ (extractStridedSlice (One a b) ![1, 0, 0] x h1) h y
      + shapeCast ⟨2, ![a, b]⟩ (extractStridedSlice (One a b) ![2, 0, 0] x h2) h y
      + shapeCast ⟨2, ![a, b]⟩ (extractStridedSlice (One a b) ![3, 0, 0] x h3) h y
      + shapeCast ⟨2, ![a, b]⟩ (extractStridedSlice (One a b) ![4, 0, 0] x h4) h y
      + shapeCast ⟨2, ![a, b]⟩ (extractStridedSlice (One a b) ![5, 0, 0] x h5) h y
      + shapeCast ⟨2, ![a, b]⟩ (extractStridedSlice (One a b) ![6, 0, 0] x h6) h y
      + shapeCast ⟨2, ![a, b]⟩ (extractStridedSlice (One a b) ![7, 0, 0] x h7) h y := by
  rw [hz, zero_add, Fin.sum_univ_eight, eq_ix2 y]
  simp only [hq]
  exact congrArg₂ (· + ·) (congrArg₂ (· + ·) (congrArg₂ (· + ·) (congrArg₂ (· + ·) (congrArg₂ (· + ·) (congrArg₂ (· + ·) (congrArg₂ (· + ·) ((slice_at x 0 rfl _ h _ _).symm)
    (slice_at x 1 rfl _ h _ _).symm)
    (slice_at x 2 rfl _ h _ _).symm)
    (slice_at x 3 rfl _ h _ _).symm)
    (slice_at x 4 rfl _ h _ _).symm)
    (slice_at x 5 rfl _ h _ _).symm)
    (slice_at x 6 rfl _ h _ _).symm)
    (slice_at x 7 rfl _ h _ _).symm

variable (x0 : S8x72x128.Idx → EReal) (x1 x2 : S8x16x4096.Idx → EReal) (x3 x4 : S8x4096x64.Idx → EReal) (x5 : S8x80x128.Idx → EReal)

/-- The sums are the reference's. -/
theorem sum_0 :
    val_main_v0 (F := Ideal) x0 = G6 (F := Ideal) x0 x1 x2 x3 x4 x5 := funext fun y =>
  (val_main_v0_apply x0 y).trans (sum_slices x0 _ _ _ _ _ _ _ _ _ _ zero_word y _ fun s => funext fun a => by match a with | ⟨0, _⟩ => rfl | ⟨1, _⟩ => rfl | ⟨2, _⟩ => rfl)

theorem sum_1 :
    val_main_v1 (F := Ideal) x1 = G7 (F := Ideal) x0 x1 x2 x3 x4 x5 := funext fun y =>
  (val_main_v1_apply x1 y).trans (sum_slices x1 _ _ _ _ _ _ _ _ _ _ zero_word y _ fun s => funext fun a => by match a with | ⟨0, _⟩ => rfl | ⟨1, _⟩ => rfl | ⟨2, _⟩ => rfl)

theorem sum_2 :
    val_main_v2 (F := Ideal) x2 = G8 (F := Ideal) x0 x1 x2 x3 x4 x5 := funext fun y =>
  (val_main_v2_apply x2 y).trans (sum_slices x2 _ _ _ _ _ _ _ _ _ _ zero_word y _ fun s => funext fun a => by match a with | ⟨0, _⟩ => rfl | ⟨1, _⟩ => rfl | ⟨2, _⟩ => rfl)

theorem sum_3 :
    val_main_v3 (F := Ideal) x3 = G9 (F := Ideal) x0 x1 x2 x3 x4 x5 := funext fun y =>
  (val_main_v3_apply x3 y).trans (sum_slices x3 _ _ _ _ _ _ _ _ _ _ zero_word y _ fun s => funext fun a => by match a with | ⟨0, _⟩ => rfl | ⟨1, _⟩ => rfl | ⟨2, _⟩ => rfl)

theorem sum_4 :
    val_main_v4 (F := Ideal) x4 = G10 (F := Ideal) x0 x1 x2 x3 x4 x5 := funext fun y =>
  (val_main_v4_apply x4 y).trans (sum_slices x4 _ _ _ _ _ _ _ _ _ _ zero_word y _ fun s => funext fun a => by match a with | ⟨0, _⟩ => rfl | ⟨1, _⟩ => rfl | ⟨2, _⟩ => rfl)

theorem sum_5 :
    val_main_v5 (F := Ideal) x5 = G11 (F := Ideal) x0 x1 x2 x3 x4 x5 := funext fun y =>
  (val_main_v5_apply x5 y).trans (sum_slices x5 _ _ _ _ _ _ _ _ _ _ zero_word y _ fun s => funext fun a => by match a with | ⟨0, _⟩ => rfl | ⟨1, _⟩ => rfl | ⟨2, _⟩ => rfl)

end Cert.SumSmallIdeal.Hand

namespace Cert

open Idealize.ShloMosaic Idealize.SL.Sem SumSmallIdeal.Hand

/-- The small gradients' sums: kernel and reference end with equal arrays. -/
theorem sum_small_algebraic : algebraic_SumSmallIdeal_SumSmallRefIdeal (hSumSmallIdeal := SumSmallIdeal.Gen.facts) (hSumSmallRefIdeal := SumSmallRefIdeal.Gen.facts) := by
  intro m g m' g' _ h
  refine ⟨_, _, _, _, _, _, SumSmallIdeal.Value.run m g, ?_⟩
  refine (θ_run SumSmallRefIdeal.defs _ _).mono (fun r hr c => ?_) (SumSmallRefIdeal.Value.run m' g')
  obtain ⟨h0, h1, h2, h3, h4, h5⟩ := h c
  obtain ⟨r0, r1, r2, r3, r4, r5, k⟩ := hr c
  rw [h0] at r0
  rw [h1] at r1
  rw [h2] at r2
  rw [h3] at r3
  rw [h4] at r4
  rw [h5] at r5
  exact ⟨r0.trans (sum_0 ..), r1.trans (sum_1 ..), r2.trans (sum_2 ..), r3.trans (sum_3 ..), r4.trans (sum_4 ..), r5.trans (sum_5 ..), k⟩

end Cert

end
-- ==== Proof.DiscBClaim.lean ====
/- The gradient of the scaled S5 inputs' matrices. -/
module

public import proofs.«01_k».proof.Defs
public import proofs.«01_k».proof.Proof.Layout
public import proofs.«01_k».proof.Proof.Norm
public import proofs.«01_k».proof.Proof.Gen.DiscBIdeal.Value
public import proofs.«01_k».proof.Proof.Gen.DiscBRefIdeal.Read

@[expose] public section

noncomputable section

namespace Cert.Common

open Idealize.ShloMosaic

/-- Zero minus a number is its negative. -/
theorem sub_zero_word (x : EReal) : FloatOps.subf (F := Ideal) (φ := .f32) (Scalar.ofBits .f32 0x00000000#32) x = FloatOps.hostNegf (F := Ideal) (φ := .f32) x := by
  show Ideal.ofBits .f32 0x00000000#32 - x = -x
  rw [zero_word, zero_sub]

end Cert.Common

namespace Cert.DiscBIdeal.Hand

open Cert.DiscBIdeal Cert.DiscBIdeal.Gen Idealize.ShloMosaic Idealize.SL.Sem Idealize.ShloMosaic.ValueIdx Cert.Common
open Cert.DiscBIdeal.Value Cert.DiscBRefIdeal.Read

abbrev hi (n : Fin 4096) : Fin 64 := ⟨n.val / 64, by omega⟩
abbrev lo (n : Fin 4096) : Fin 64 := ⟨n.val % 64, by omega⟩

/-- The inputs' matrices with the heads' states in a row, at an entry. -/
theorem turn_at (x : S64x64x16.Idx → EReal) (k : Fin 16) (n : Fin 4096) : k0_pay4 (F := Ideal) x (ix2 k n) = x (ix3 (hi n) (lo n) k) := by
  refine (shapeCast_apply _ _ _ (ix3 k (hi n) (lo n)) ?_).trans (transpose_apply _ _ _ _ _ fun a => ?_)
  · rw [Shape.rowMajor_val_three, Shape.rowMajor_val_two]
    show (k.val * 64 + n.val / 64) * 64 + n.val % 64 = k.val * 4096 + n.val
    omega
  · match a with | ⟨0, _⟩ => rfl | ⟨1, _⟩ => rfl | ⟨2, _⟩ => rfl

theorem ref_21 (x2 x5 : S64x64x16.Idx → EReal) (p q : Fin 64) :
    val_main_v21 (F := Ideal) x2 x5 (ix2 p q) = ∑ k : Fin 16, val_main_v18 (F := Ideal) x2 x5 (ix3 p q k) := by
  have z : ∀ i, val_main_cst_0 (F := Ideal) i = (0 : EReal) := fun _ => zero_word
  have z' : ∀ i, val_main_cst (F := Ideal) i = (0 : EReal) := fun _ => zero_word
  rw [val_main_v21_apply, Fin.sum_univ_one, z, zero_add, val_main_v20_apply, val_main_v19_apply, z', zero_add]
  refine Finset.sum_congr rfl fun k _ => congrArg _ (funext fun d => Fin.ext ?_)
  match d with
  | ⟨0, _⟩ => show ((p.val * 64 + q.val) * 1 + 0) / 64 = p.val; omega
  | ⟨1, _⟩ => show ((p.val * 64 + q.val) * 1 + 0) % 64 = q.val; omega
  | ⟨2, _⟩ => rfl

theorem ref_27 (x3 x5 : S64x64x16.Idx → EReal) (p q : Fin 64) :
    val_main_v27 (F := Ideal) x3 x5 (ix2 p q) = ∑ k : Fin 16, val_main_v24 (F := Ideal) x3 x5 (ix3 p q k) := by
  have z : ∀ i, val_main_cst_2 (F := Ideal) i = (0 : EReal) := fun _ => zero_word
  have z' : ∀ i, val_main_cst_1 (F := Ideal) i = (0 : EReal) := fun _ => zero_word
  rw [val_main_v27_apply, Fin.sum_univ_one, z, zero_add, val_main_v26_apply, val_main_v25_apply, z', zero_add]
  refine Finset.sum_congr rfl fun k _ => congrArg _ (funext fun d => Fin.ext ?_)
  match d with
  | ⟨0, _⟩ => show ((p.val * 64 + q.val) * 1 + 0) / 64 = p.val; omega
  | ⟨1, _⟩ => show ((p.val * 64 + q.val) * 1 + 0) % 64 = q.val; omega
  | ⟨2, _⟩ => rfl

theorem ref_36 (x3 x4 : S64x64x16.Idx → EReal) (p q : Fin 64) :
    val_main_v36 (F := Ideal) x3 x4 (ix2 p q) = ∑ k : Fin 16, val_main_v33 (F := Ideal) x3 x4 (ix3 p q k) := by
  have z : ∀ i, val_main_cst_4 (F := Ideal) i = (0 : EReal) := fun _ => zero_word
  have z' : ∀ i, val_main_cst_3 (F := Ideal) i = (0 : EReal) := fun _ => zero_word
  rw [val_main_v36_apply, Fin.sum_univ_one, z, zero_add, val_main_v35_apply, val_main_v34_apply, z', zero_add]
  refine Finset.sum_congr rfl fun k _ => congrArg _ (funext fun d => Fin.ext ?_)
  match d with
  | ⟨0, _⟩ => show ((p.val * 64 + q.val) * 1 + 0) / 64 = p.val; omega
  | ⟨1, _⟩ => show ((p.val * 64 + q.val) * 1 + 0) % 64 = q.val; omega
  | ⟨2, _⟩ => rfl

theorem ref_44 (x2 x4 : S64x64x16.Idx → EReal) (p q : Fin 64) :
    val_main_v44 (F := Ideal) x2 x4 (ix2 p q) = ∑ k : Fin 16, val_main_v41 (F := Ideal) x2 x4 (ix3 p q k) := by
  have z : ∀ i, val_main_cst_6 (F := Ideal) i = (0 : EReal) := fun _ => zero_word
  have z' : ∀ i, val_main_cst_5 (F := Ideal) i = (0 : EReal) := fun _ => zero_word
  rw [val_main_v44_apply, Fin.sum_univ_one, z, zero_add, val_main_v43_apply, val_main_v42_apply, z', zero_add]
  refine Finset.sum_congr rfl fun k _ => congrArg _ (funext fun d => Fin.ext ?_)
  match d with
  | ⟨0, _⟩ => show ((p.val * 64 + q.val) * 1 + 0) / 64 = p.val; omega
  | ⟨1, _⟩ => show ((p.val * 64 + q.val) * 1 + 0) % 64 = q.val; omega
  | ⟨2, _⟩ => rfl

/-- The matrices' arrays pass through the reference's reshapes. -/
theorem same_cast (x : S64x64x16.Idx → EReal) (p q : Fin 64) (k : Fin 16) :
    val_main_v14 (F := Ideal) x (ix3 p q k) = x (ix3 p q k) :=
  (val_main_v14_apply (F := Ideal) x (ix3 p q k)).trans (congrArg x (funext fun d => Fin.ext (by
    match d with
    | ⟨0, _⟩ => show ((p.val * 64 + q.val) * 16 + k.val) / 1024 = p.val; omega
    | ⟨1, _⟩ => show ((p.val * 64 + q.val) * 16 + k.val) / 16 % 64 = q.val; omega
    | ⟨2, _⟩ => show ((p.val * 64 + q.val) * 16 + k.val) % 16 = k.val; omega)))

/-- The kernel's sum over the inputs, at an entry. -/
theorem col_at (u v : S16x4096.Idx → EReal) (n : Fin 4096) :
    (shapeCast S1x4096 (multiReduction (F := Ideal) .add [0] S4096 (mulf u v) 0x00000000#32 reduces_S16x4096_S4096 (.inl rfl) rfl) shapeCasts_S4096_S1x4096 : S1x4096.Idx → EReal) (ix2 0 n)
      = ∑ k : Fin 16, u (ix2 k n) * v (ix2 k n) :=
  (as_row _ _ n).trans (col_sum _ _ _ _ _ n)

/-- A coefficient's gradient. -/
theorem coef_6 (x0 x1 : S64x64.Idx → EReal) (x2 x3 x4 x5 : S64x64x16.Idx → EReal) : val_main_v46 (F := Ideal) x2 x3 x4 x5 = G6 (F := Ideal) x0 x1 x2 x3 x4 x5 := by
  funext y
  obtain ⟨n, rfl⟩ : ∃ n, y = ix2 0 n := ⟨y 1, (eq_ix2 y).trans (congrArg (fun a => ix2 a (y 1)) (Subsingleton.elim (α := Fin 1) _ _))⟩
  have e : Cert.DiscBRefIdeal.Read.idx_main_v46 (ix2 0 n) = ix2 (hi n) (lo n) := funext fun d => Fin.ext (by
    match d with
    | ⟨0, _⟩ => show (0 * 4096 + n.val) / 64 = n.val / 64; omega
    | ⟨1, _⟩ => show (0 * 4096 + n.val) % 64 = n.val % 64; omega)
  rw [val_main_v46_apply, e, val_main_v45_apply, ref_27, ref_44]
  refine congrArg₂ (· + ·) (.trans ?_ (col_at _ _ n).symm) (.trans ?_ (col_at _ _ n).symm) <;> refine Finset.sum_congr rfl fun k _ => ?_
  · exact congrArg₂ (· * ·) ((same_cast x5 _ _ k).trans (turn_at x5 k n).symm) (turn_at x3 k n).symm
  · exact congrArg₂ (· * ·) ((same_cast x4 _ _ k).trans (turn_at x4 k n).symm) (turn_at x2 k n).symm

/-- A coefficient's gradient. -/
theorem coef_7 (x0 x1 : S64x64.Idx → EReal) (x2 x3 x4 x5 : S64x64x16.Idx → EReal) : val_main_v47 (F := Ideal) x2 x3 x4 x5 = G7 (F := Ideal) x0 x1 x2 x3 x4 x5 := by
  funext y
  obtain ⟨n, rfl⟩ : ∃ n, y = ix2 0 n := ⟨y 1, (eq_ix2 y).trans (congrArg (fun a => ix2 a (y 1)) (Subsingleton.elim (α := Fin 1) _ _))⟩
  have e : Cert.DiscBRefIdeal.Read.idx_main_v47 (ix2 0 n) = ix2 (hi n) (lo n) := funext fun d => Fin.ext (by
    match d with
    | ⟨0, _⟩ => show (0 * 4096 + n.val) / 64 = n.val / 64; omega
    | ⟨1, _⟩ => show (0 * 4096 + n.val) % 64 = n.val % 64; omega)
  rw [val_main_v47_apply, e, val_main_v37_apply, ref_21, ref_36]
  refine congrArg₂ (· + ·) (.trans ?_ (col_at _ _ n).symm) (.trans ?_ (col_at _ _ n).symm) <;> refine Finset.sum_congr rfl fun k _ => ?_
  · exact congrArg₂ (· * ·) ((same_cast x5 _ _ k).trans (turn_at x5 k n).symm) (turn_at x2 k n).symm
  · exact congrArg₂ (· * ·) ((congrArg (FloatOps.hostNegf (F := Ideal) (φ := .f32)) (turn_at x4 k n).symm).trans (sub_zero_word _).symm) (turn_at x3 k n).symm

/-- A coefficient repeated over the inputs, at an entry. -/
theorem coef_at (x : S64x64.Idx → EReal) (k : Fin 16) (n : Fin 4096) :
    val_main_v1 (F := Ideal) x (ix3 (hi n) (lo n) k) = broadcastTo S16x4096 (k0_pay2 (F := Ideal) x) broadcasts_S1x4096_S16x4096 (ix2 k n) := by
  rw [val_main_v1_apply, val_main_v0_apply]
  refine .trans ?_ (broadcastTo_apply _ _ _ (ix2 0 n) fun a => ?_).symm
  · refine .trans ?_ (shapeCast_apply _ _ _ (ix2 (hi n) (lo n)) ?_).symm
    · exact congrArg x (funext fun d => by match d with | ⟨0, _⟩ => rfl | ⟨1, _⟩ => rfl)
    · rw [Shape.rowMajor_val_two, Shape.rowMajor_val_two]
      show n.val / 64 * 64 + n.val % 64 = 0 * 4096 + n.val
      omega
  · match a with | ⟨0, _⟩ => rfl | ⟨1, _⟩ => rfl

/-- A matrix's gradient. -/
theorem matrix_8 (x0 x1 : S64x64.Idx → EReal) (x2 x3 x4 x5 : S64x64x16.Idx → EReal) : val_main_v49 (F := Ideal) x0 x1 x4 x5 = G8 (F := Ideal) x0 x1 x2 x3 x4 x5 := by
  funext y
  obtain ⟨k, n, rfl⟩ : ∃ k n, y = ix2 k n := ⟨y 0, y 1, eq_ix2 y⟩
  have e : idx_main_v48 (idx_main_v49 (ix2 k n)) = ix3 (hi n) (lo n) k := funext fun d => Fin.ext (by
    match d with
    | ⟨0, _⟩ => show (k.val * 4096 + n.val) / 64 % 64 = n.val / 64; omega
    | ⟨1, _⟩ => show (k.val * 4096 + n.val) % 64 = n.val % 64; omega
    | ⟨2, _⟩ => show (k.val * 4096 + n.val) / 4096 = k.val; omega)
  rw [val_main_v49_apply, val_main_v48_apply, e]
  exact congrArg₂ (· + ·) (congrArg₂ (· * ·) (coef_at x1 k n) ((same_cast x5 _ _ k).trans (turn_at x5 k n).symm))
    (congrArg₂ (· * ·) (coef_at x0 k n) ((same_cast x4 _ _ k).trans (turn_at x4 k n).symm))

/-- A matrix's gradient. -/
theorem matrix_9 (x0 x1 : S64x64.Idx → EReal) (x2 x3 x4 x5 : S64x64x16.Idx → EReal) : val_main_v51 (F := Ideal) x0 x1 x4 x5 = G9 (F := Ideal) x0 x1 x2 x3 x4 x5 := by
  funext y
  obtain ⟨k, n, rfl⟩ : ∃ k n, y = ix2 k n := ⟨y 0, y 1, eq_ix2 y⟩
  have e : idx_main_v50 (idx_main_v51 (ix2 k n)) = ix3 (hi n) (lo n) k := funext fun d => Fin.ext (by
    match d with
    | ⟨0, _⟩ => show (k.val * 4096 + n.val) / 64 % 64 = n.val / 64; omega
    | ⟨1, _⟩ => show (k.val * 4096 + n.val) % 64 = n.val % 64; omega
    | ⟨2, _⟩ => show (k.val * 4096 + n.val) / 4096 = k.val; omega)
  rw [val_main_v51_apply, val_main_v50_apply, e]
  exact congrArg₂ (· + ·) (congrArg₂ (· * ·) (coef_at x0 k n) ((same_cast x5 _ _ k).trans (turn_at x5 k n).symm))
    (congrArg₂ (· * ·) (coef_at x1 k n) ((congrArg (FloatOps.hostNegf (F := Ideal) (φ := .f32)) (turn_at x4 k n).symm).trans (sub_zero_word _).symm))

end Cert.DiscBIdeal.Hand

namespace Cert

open Idealize.ShloMosaic Idealize.SL.Sem DiscBIdeal.Hand

/-- The scaled inputs' backward pass: kernel and reference end with equal arrays. -/
theorem disc_b_algebraic : algebraic_DiscBIdeal_DiscBRefIdeal (hDiscBIdeal := DiscBIdeal.Gen.facts) (hDiscBRefIdeal := DiscBRefIdeal.Gen.facts) := by
  intro m g m' g' _ h
  refine ⟨_, _, _, _, DiscBIdeal.Value.run m g, ?_⟩
  refine (θ_run DiscBRefIdeal.defs _ _).mono (fun r hr c => ?_) (DiscBRefIdeal.Value.run m' g')
  obtain ⟨h0, h1, h2, h3, h4, h5⟩ := h c
  obtain ⟨r0, r1, r2, r3, k⟩ := hr c
  rw [h2, h3, h4, h5] at r0 r1
  rw [h0, h1, h4, h5] at r2 r3
  exact ⟨r0.trans (coef_6 ..), r1.trans (coef_7 ..), r2.trans (matrix_8 ..), r3.trans (matrix_9 ..), k⟩

end Cert

end
-- ==== Proof.DiscAClaim.lean ====
/- The gradient of the discretised S5 poles. -/
module

public import proofs.«01_k».proof.Proof.DiscBClaim
public import proofs.«01_k».proof.Proof.Gen.DiscAIdeal.Value
public import proofs.«01_k».proof.Proof.Gen.DiscARefIdeal.Read

@[expose] public section

noncomputable section

namespace Cert.DiscAIdeal.Hand

open Cert.DiscAIdeal Cert.DiscAIdeal.Gen Idealize.ShloMosaic Idealize.SL.Sem Idealize.ShloMosaic.ValueIdx Cert.Common
open Cert.DiscAIdeal.Value Cert.DiscARefIdeal.Read

/-- A whole matrix is read as it is. -/
theorem ld_a (x : Vec Ideal S64x64 .f32) : View.ld x r0_0 = x := View.ld_unit_zero (S := S64x64) hz0 _ x
/-- A whole vector is read as it is. -/
theorem ld_b (x : Vec Ideal S64 .f32) : View.ld x r0_1 = x := View.ld_unit_zero (S := S64) hz2 _ x

/-- The step sizes repeated along the states. -/
theorem step_eq (x2 : Vec Ideal S64 .f32) :
    broadcastTo S64x64 (exp (shapeCast S64x1 x2 shapeCasts_S64_S64x1 : FVec Ideal S64x1 .f32)) broadcasts_S64x1_S64x64 = val_main_v2 (F := Ideal) x2 := by
  funext y
  rw [val_main_v2_apply, val_main_v1_apply]
  refine (broadcastTo_apply _ _ y (ix2 (y 0) (0 : Fin 1)) fun a => ?_).trans ?_
  · match a with | ⟨0, _⟩ => rfl | ⟨1, _⟩ => rfl
  · exact congrArg Ideal.exp ((as_column x2 _ (y 0)).trans (congrArg x2 (funext fun d => by match d with | ⟨0, _⟩ => rfl)))

/-- A negative as the kernel takes it. -/
theorem neg_eq (v : FVec Ideal S64x64 .f32) : subf (broadcast S64x64 (Scalar.ofBits (F := Ideal) .f32 0x00000000#32)) v = Host.negf v :=
  funext fun y => sub_zero_word (v y)

/-- The gradients of the real and the imaginary parts, and the three terms of the step sizes'. -/
theorem parts (x0 x1 : S64x64.Idx → EReal) (x2 : S64.Idx → EReal) (x3 x4 x5 x6 : S64x64.Idx → EReal) :
    val_main_v94 (F := Ideal) x0 x1 x2 x3 x4 x5 x6 = G7 (F := Ideal) x0 x1 x2 x3 x4 x5 x6
    ∧ val_main_v86 (F := Ideal) x0 x1 x2 x3 x4 x5 x6 = G8 (F := Ideal) x0 x1 x2 x3 x4 x5 x6
    ∧ val_main_v69 (F := Ideal) x0 x1 x2 x4 x5 x6 = mulf x1 (k0_pay24 (F := Ideal) x0 x1 x4 x5 x6 (k0_pay31 (F := Ideal) x0 x1 x2 x3 x4 x5 x6) (k0_pay35 (F := Ideal) x0 x1 x2 x3 x4 x5 x6) (k0_pay37 (F := Ideal) x0 x1 x2 x3 x4 x5 x6))
    ∧ val_main_v80 (F := Ideal) x0 x1 x2 x3 x5 x6 = mulf x1 (k0_pay25 (F := Ideal) x0 x1 x3 x5 x6 (k0_pay31 (F := Ideal) x0 x1 x2 x3 x4 x5 x6) (k0_pay33 (F := Ideal) x0 x1 x2 x3 x4 x5 x6) (k0_pay37 (F := Ideal) x0 x1 x2 x3 x4 x5 x6))
    ∧ val_main_v88 (F := Ideal) x0 x1 x2 x3 x4 x5 x6 = k0_pay29 (F := Ideal) x0 x1 x3 x4 x5 x6 (k0_pay31 (F := Ideal) x0 x1 x2 x3 x4 x5 x6) (k0_pay32 (F := Ideal) x0 x1 x2 x3 x4 x5 x6) (k0_pay34 (F := Ideal) x0 x1 x2 x3 x4 x5 x6) (k0_pay37 (F := Ideal) x0 x1 x2 x3 x4 x5 x6) := by
  refine ⟨?_, ?_, ?_, ?_, ?_⟩ <;> simp only [k0_pay30, k0_pay31, k0_pay32, k0_pay33, k0_pay34, k0_pay35, k0_pay36, k0_pay37, k0_pay38, k0_pay39, k0_pay40, k0_pay41, ld_a, ld_b, k0_pay1,
    k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, step_eq, neg_eq] <;> rfl

/-- The kernel's sum over the states, at a head. -/
theorem rows_at (w w' : S64x64.Idx → EReal) (h : w' = w) (i : Fin 64) (q : Fin 64 → S64x64.Idx) (hq : ∀ k, q k = ix2 i k) :
    ∑ k : Fin 64, w' (q k) = (shapeCast S64x1 (multiReduction (F := Ideal) .add [1] S64 w 0x00000000#32 reduces_S64x64_S64 (.inl rfl) rfl) shapeCasts_S64_S64x1 : S64x1.Idx → EReal) (ix2 i 0) := by
  subst h
  simp only [hq]
  exact ((as_column _ _ i).trans (row_sum _ _ _ _ _ i)).symm

/-- The step sizes' gradient. -/
theorem part_9 (x0 x1 : S64x64.Idx → EReal) (x2 : S64.Idx → EReal) (x3 x4 x5 x6 : S64x64.Idx → EReal) : val_main_v97 (F := Ideal) x0 x1 x2 x3 x4 x5 x6 = G9 (F := Ideal) x0 x1 x2 x3 x4 x5 x6 := by
  funext y
  obtain ⟨i, rfl⟩ : ∃ i, y = ix2 i 0 := ⟨y 0, (eq_ix2 y).trans (congrArg (ix2 (y 0)) (Subsingleton.elim (α := Fin 1) _ _))⟩
  have e : idx_main_v97 (ix2 i 0) = ix1 i := funext fun d => Fin.ext (by match d with | ⟨0, _⟩ => show i.val * 1 + 0 = i.val; omega)
  have z2 : ∀ j, val_main_cst_2 (F := Ideal) j = (0 : EReal) := fun _ => zero_word
  have z3 : ∀ j, val_main_cst_3 (F := Ideal) j = (0 : EReal) := fun _ => zero_word
  have z4 : ∀ j, val_main_cst_4 (F := Ideal) j = (0 : EReal) := fun _ => zero_word
  have z5 : ∀ j, val_main_cst_5 (F := Ideal) j = (0 : EReal) := fun _ => zero_word
  rw [val_main_v97_apply, e, val_main_v96_apply, val_main_v95_apply, Fin.sum_univ_one, z5, zero_add, val_main_v91_apply, val_main_v83_apply,
    val_main_v71_apply, val_main_v82_apply, val_main_v90_apply, val_main_v70_apply, val_main_v81_apply, val_main_v89_apply, z2, z3, z4, zero_add, zero_add, zero_add]
  refine congrArg₂ (· * ·) (congrArg₂ (· + ·) (congrArg₂ (· + ·) (rows_at _ _ (parts x0 x1 x2 x3 x4 x5 x6).2.2.1 i _ ?_) (rows_at _ _ (parts x0 x1 x2 x3 x4 x5 x6).2.2.2.1 i _ ?_)) (rows_at _ _ (parts x0 x1 x2 x3 x4 x5 x6).2.2.2.2 i _ ?_)) ?_
  iterate 3 exact fun k => funext fun d => Fin.ext (by match d with | ⟨0, _⟩ => show i.val * 1 + 0 = i.val; omega | ⟨1, _⟩ => rfl)
  rw [k0_pay30, ld_b]
  exact congrArg Ideal.exp (as_column x2 _ i).symm

end Cert.DiscAIdeal.Hand

namespace Cert

open Idealize.ShloMosaic Idealize.SL.Sem DiscAIdeal.Hand DiscARefIdeal.Read

/-- The discretised poles' backward pass: kernel and reference end with equal arrays. -/
theorem disc_a_algebraic : algebraic_DiscAIdeal_DiscARefIdeal (hDiscAIdeal := DiscAIdeal.Gen.facts) (hDiscARefIdeal := DiscARefIdeal.Gen.facts) := by
  intro m g m' g' _ h
  refine ⟨_, _, _, DiscAIdeal.Value.run m g, ?_⟩
  refine (θ_run DiscARefIdeal.defs _ _).mono (fun r hr c => ?_) (DiscARefIdeal.Value.run m' g')
  obtain ⟨h0, h1, h2, h3, h4, h5, h6⟩ := h c
  obtain ⟨r0, r1, r2, k⟩ := hr c
  rw [val_main_v94_eq, h0, h1, h2, h3, h4, h5, h6] at r0
  rw [val_main_v86_eq, h0, h1, h2, h3, h4, h5, h6] at r1
  rw [val_main_v97_eq, h0, h1, h2, h3, h4, h5, h6] at r2
  exact ⟨r0.trans (parts ..).1, r1.trans (parts ..).2.1, r2.trans (part_9 ..), k⟩

end Cert

end
-- ==== Proof.LowerClaim.lean ====
/- The gradient of the lower bounds' logits. -/
module

public import proofs.«01_k».proof.Defs
public import proofs.«01_k».proof.Proof.DiscBClaim
public import proofs.«01_k».proof.Proof.Gen.LowerIdeal.Value
public import proofs.«01_k».proof.Proof.Gen.LowerRefIdeal.Read
public import Idealize.ShloMosaic.Lib.KernelVsHost

@[expose] public section

noncomputable section

namespace Cert.LowerIdeal.Hand

open Cert.LowerIdeal Cert.LowerIdeal.Gen Idealize.ShloMosaic Idealize.SL.Sem Idealize.ShloMosaic.ValueIdx Cert.Common
open Cert.LowerIdeal.Value Cert.LowerRefIdeal.Read

/-- The kernel's row of maxima, and its sums of two rows and of one, are the reference's. -/
theorem max_eq (x : FVec Ideal S2x1024 .f32) :
    multiReduction .maximumf [0] S1024 x 0xFF800000#32 reduces_S2x1024_S1024 (.inl rfl) rfl = val_main_v0 (F := Ideal) x :=
  (hostReduce_maximumf_eq_multiReduction x _ _ _ _ _ _).symm

theorem sum_eq (x : FVec Ideal S2x1024 .f32) : multiReduction .add [0] S1024 x 0x00000000#32 reduces_S2x1024_S1024 (.inl rfl) rfl
    = Host.reduceAdd x (val_main_cst_7 (F := Ideal)) LowerRefIdeal.Gen.facts.reducesTo_S2x1024_S1024_d0 (by decide) :=
  multiReduction_add_eq_hostReduceAdd x _ _ _ _ _ _ _ zero_word

theorem one_eq (x : FVec Ideal S1x1024 .f32) : multiReduction .add [0] S1024 x 0x00000000#32 reduces_S1x1024_S1024 (.inl rfl) rfl
    = Host.reduceAdd x (val_main_cst_11 (F := Ideal)) LowerRefIdeal.Gen.facts.reducesTo_S1x1024_S1024_d0 (by decide) :=
  multiReduction_add_eq_hostReduceAdd x _ _ _ _ _ _ _ zero_word

theorem split (y : S1x1024.Idx) : ∃ n, y = ix2 0 n :=
  ⟨y 1, (eq_ix2 y).trans (congrArg (fun a => ix2 a (y 1)) (Subsingleton.elim (α := Fin 1) _ _))⟩

/-- A vector as a row, the row repeated, and the vector repeated. -/
theorem row_eq (v : FVec Ideal S1024 .f32) (h : S1024.ShapeCasts S1x1024) (h' : S1024.BroadcastsInDim S1x1024 (![1] : Fin 1 → Fin 2)) :
    (shapeCast S1x1024 v h : FVec Ideal S1x1024 .f32) = broadcastInDim S1x1024 ![1] h' v := by
  funext y
  obtain ⟨n, rfl⟩ := split y
  exact (as_row v h n).trans (broadcastInDim_apply _ h' v _ (ix1 n) fun a => by match a with | ⟨0, _⟩ => rfl).symm

theorem rep_eq (u : FVec Ideal S1x1024 .f32) (h' : S1x1024.BroadcastsInDim S2x1024 (![0, 1] : Fin 2 → Fin 2)) :
    (broadcastTo S2x1024 u broadcasts_S1x1024_S2x1024 : FVec Ideal S2x1024 .f32) = broadcastInDim S2x1024 ![0, 1] h' u := by
  funext y
  refine (broadcastTo_apply _ _ y (ix2 0 (y 1)) fun a => ?_).trans (broadcastInDim_apply _ h' u y (ix2 0 (y 1)) fun a => ?_).symm
  · match a with | ⟨0, _⟩ => rfl | ⟨1, _⟩ => rfl
  · match a with | ⟨0, _⟩ => rfl | ⟨1, _⟩ => rfl

theorem vec_eq (v : FVec Ideal S1024 .f32) (h : S1024.BroadcastsInDim S2x1024 (![1] : Fin 1 → Fin 2)) (h1 : S1024.ShapeCasts S1x1024) :
    (broadcastInDim S2x1024 ![1] h v : FVec Ideal S2x1024 .f32) = broadcastTo S2x1024 (shapeCast S1x1024 v h1) broadcasts_S1x1024_S2x1024 := by
  funext y
  refine (broadcastInDim_apply _ h v y (ix1 (y 1)) fun a => ?_).trans ((broadcastTo_apply _ _ y (ix2 0 (y 1)) fun a => ?_).trans (as_row v h1 (y 1))).symm
  · match a with | ⟨0, _⟩ => rfl
  · match a with | ⟨0, _⟩ => rfl | ⟨1, _⟩ => rfl

/-- A window of two rows. -/
abbrev W : Shape := ⟨2, ![2, 1]⟩

theorem two (f : EReal → Fin W.numel → EReal) (z : EReal) : (List.finRange W.numel).foldl f z = f (f z ⟨0, by decide⟩) ⟨1, by decide⟩ := by
  rw [show List.finRange W.numel = [⟨0, by decide⟩, ⟨1, by decide⟩] by decide]
  rfl

theorem at_0 : ∀ a, (W.rowMajor.symm ⟨0, by decide⟩ a).val = 0 := by decide
theorem at_1 : ∀ a, (W.rowMajor.symm ⟨1, by decide⟩ a).val = if a = 0 then 1 else 0 := by decide

/-- The row with a row of zeros below it. -/
theorem pad_0 (x : S1x1024.Idx → EReal) (n : Fin 1024) : val_main_v33 (F := Ideal) x (ix2 0 n) = x (ix2 0 n) := by
  refine (pad_apply_of_inside _ _ _ _ _ _ _ _ (ix2 0 n) fun a => ?_).trans ?_
  · match a with | ⟨0, _⟩ => rfl | ⟨1, _⟩ => show n.val = 0 + n.val * 1; omega
  · rw [val_main_v32_apply, val_main_v31_apply]
    exact congrArg x (funext fun d => Fin.ext (by
      match d with
      | ⟨0, _⟩ => rfl
      | ⟨1, _⟩ => show n.val % 1024 = n.val; omega))

theorem pad_1 (x : S1x1024.Idx → EReal) (n : Fin 1024) : val_main_v33 (F := Ideal) x (ix2 1 n) = 0 :=
  (pad_apply_of_not_inside _ _ _ _ _ _ _ _ 0 (by show ¬(0 ≤ 1 ∧ (1 - 0) % (0 + 1) = 0 ∧ (1 - 0) / (0 + 1) < 1); decide)).trans zero_word

/-- Its sums from each row down are itself. -/
theorem edge_eq (x : FVec Ideal S1x1024 .f32) : val_main_v34 (F := Ideal) x
    = concatenate S2x1024 0 [⟨S1x1024, x⟩, ⟨S1x1024, broadcast S1x1024 (Scalar.ofBits .f32 0x00000000#32)⟩] concatenates_S1x1024_S1x1024_S2x1024_d0 := by
  funext y
  obtain ⟨r, n, rfl⟩ : ∃ r n, y = ix2 r n := ⟨y 0, y 1, eq_ix2 y⟩
  unfold val_main_v34 Host.reduceWindowAdd
  rw [Ideal.hostReduceWindowAdd_def]
  unfold Ideal.hostReduceWindowAdd Host.reduceWindow
  refine (two _ _).trans ?_
  simp only [at_0, at_1]
  have z : ∀ i, val_main_call1_call0_v0 (F := Ideal) i = (0 : EReal) := fun _ => zero_word
  rw [z, zero_add]
  match r with
  | ⟨0, _⟩ =>
    refine (congrArg₂ (· + ·) ((dif_pos fun a => ?_).trans ((congrArg _ (funext fun a => Fin.ext ?_)).trans (pad_0 x n)))
      ((dif_pos fun a => ?_).trans ((congrArg _ (funext fun a => Fin.ext ?_)).trans (pad_1 x n)))).trans ((add_zero (M := EReal) _).trans
        (concatenate_pair_apply_left (t := S2x1024) (s₁ := S1x1024) (s₂ := S1x1024) 0 _ _ _ _ rfl (ix2 0 n) fun b => by match b with | ⟨0, _⟩ => rfl | ⟨1, _⟩ => rfl).symm)
    · match a with
      | ⟨0, _⟩ => show 0 ≤ 0 * 1 + 0 ∧ 0 * 1 + 0 - 0 < 2; omega
      | ⟨1, _⟩ => show 0 ≤ n.val * 1 + 0 ∧ n.val * 1 + 0 - 0 < 1024; omega
    · match a with
      | ⟨0, _⟩ => rfl
      | ⟨1, _⟩ => show n.val * 1 + 0 - 0 = n.val; omega
    · match a with
      | ⟨0, _⟩ => show 0 ≤ 0 * 1 + 1 ∧ 0 * 1 + 1 - 0 < 2; omega
      | ⟨1, _⟩ => show 0 ≤ n.val * 1 + 0 ∧ n.val * 1 + 0 - 0 < 1024; omega
    · match a with
      | ⟨0, _⟩ => rfl
      | ⟨1, _⟩ => show n.val * 1 + 0 - 0 = n.val; omega
  | ⟨1, _⟩ =>
    refine (congrArg₂ (· + ·) ((dif_pos fun a => ?_).trans ((congrArg _ (funext fun a => Fin.ext ?_)).trans (pad_1 x n)))
      (dif_neg fun h => ?_)).trans ((add_zero (M := EReal) _).trans ((concatenate_pair_apply_right (t := S2x1024) (s₁ := S1x1024) (s₂ := S1x1024) 0 _ _ _ _ rfl rfl (ix2 0 n) (fun b hb => ?_) rfl).trans zero_word).symm)
    · match a with
      | ⟨0, _⟩ => show 0 ≤ 1 * 1 + 0 ∧ 1 * 1 + 0 - 0 < 2; omega
      | ⟨1, _⟩ => show 0 ≤ n.val * 1 + 0 ∧ n.val * 1 + 0 - 0 < 1024; omega
    · match a with
      | ⟨0, _⟩ => rfl
      | ⟨1, _⟩ => show n.val * 1 + 0 - 0 = n.val; omega
    · exact absurd (h 0).2 (by show ¬(1 * 1 + 1 - 0 < 2); omega)
    · match b with
      | ⟨0, _⟩ => exact absurd rfl hb
      | ⟨1, _⟩ => rfl

theorem exp_eq (x : FVec Ideal S2x1024 .f32) : exp (subf x (broadcastTo S2x1024 (shapeCast S1x1024 (maximumf (broadcast S1024 (Scalar.ofBits .f32 0xFF800000#32))
    (multiReduction .maximumf [0] S1024 x 0xFF800000#32 reduces_S2x1024_S1024 (.inl rfl) rfl)) shapeCasts_S1024_S1x1024) broadcasts_S1x1024_S2x1024)) = val_main_v20 (F := Ideal) x := by
  rw [row_eq _ _ LowerRefIdeal.Gen.facts.bcast_S1024_S1x1024_1, rep_eq _ LowerRefIdeal.Gen.facts.bcast_S1x1024_S2x1024_0_1, max_eq]
  rfl

theorem grad_eq (x0 : FVec Ideal S2x1024 .f32) (x1 : FVec Ideal S1x1024 .f32) : val_main_v46 (F := Ideal) x0 x1 = G2 (F := Ideal) x0 x1 := by
  refine Eq.symm ((lay2_0_eq (F := Ideal) x1 x0).trans ?_)
  rw [exp_eq, ← edge_eq, sum_eq, row_eq (Host.reduceAdd (val_main_v20 (F := Ideal) x0) _ _ _) _ LowerRefIdeal.Gen.facts.bcast_S1024_S1x1024_1]
  rw [subf_zero_eq_hostNegf, sum_eq, one_eq, ← vec_eq _ LowerRefIdeal.Gen.facts.bcast_S1024_S2x1024_1,
    rep_eq _ LowerRefIdeal.Gen.facts.bcast_S1x1024_S2x1024_0_1, rep_eq _ LowerRefIdeal.Gen.facts.bcast_S1x1024_S2x1024_0_1]
  rfl

end Cert.LowerIdeal.Hand

namespace Cert

open Idealize.ShloMosaic Idealize.SL.Sem LowerIdeal.Hand LowerRefIdeal.Read

/-- The lower bounds' backward pass: kernel and reference end with equal arrays. -/
theorem lower_algebraic : algebraic_LowerIdeal_LowerRefIdeal (hLowerIdeal := LowerIdeal.Gen.facts) (hLowerRefIdeal := LowerRefIdeal.Gen.facts) := by
  intro m g m' g' _ h
  refine ⟨_, LowerIdeal.Value.run m g, ?_⟩
  refine (θ_run LowerRefIdeal.defs _ _).mono (fun r hr c => ?_) (LowerRefIdeal.Value.run m' g')
  obtain ⟨h0, h1⟩ := h c
  obtain ⟨r0, k⟩ := hr c
  rw [val_main_v46_eq, h0, h1] at r0
  exact ⟨r0.trans (grad_eq ..), k⟩

end Cert

end
-- ==== Proof.lean ====
/- The claims: frames of every program, and the values of the parts of the step. -/
module

public import proofs.«01_k».proof.Defs
public import proofs.«01_k».proof.Proof.Gen.Kernel.Frame
public import proofs.«01_k».proof.Proof.Gen.KernelIdeal.Frame
public import proofs.«01_k».proof.Proof.Gen.Glu.Frame
public import proofs.«01_k».proof.Proof.Gen.GluIdeal.Value
public import proofs.«01_k».proof.Proof.Gen.GluRefIdeal.Run
public import proofs.«01_k».proof.Proof.Gen.GluRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.DwIn.Frame
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.InBwd.Frame
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.UpProj.Frame
public import proofs.«01_k».proof.Proof.Gen.UpProjIdeal.Value
public import proofs.«01_k».proof.Proof.Gen.UpProjRefIdeal.Run
public import proofs.«01_k».proof.Proof.Gen.UpProjRefIdeal.Read
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.UpBwd.Frame
public import proofs.«01_k».proof.Proof.Gen.UpBwdIdeal.Value
public import proofs.«01_k».proof.Proof.Gen.UpBwdRefIdeal.Run
public import proofs.«01_k».proof.Proof.Gen.UpBwdRefIdeal.Read
public import proofs.«01_k».proof.Proof.Gen.GluProj.Frame
public import proofs.«01_k».proof.Proof.Gen.GluProjIdeal.Value
public import proofs.«01_k».proof.Proof.Gen.GluProjRefIdeal.Run
public import proofs.«01_k».proof.Proof.Gen.GluProjRefIdeal.Read
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamSquare.Frame
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamMeta.Frame
public import proofs.«01_k».proof.Proof.Gen.AdamMetaIdeal.Value
public import proofs.«01_k».proof.Proof.Gen.AdamMetaRefIdeal.Run
public import proofs.«01_k».proof.Proof.Gen.AdamMetaRefIdeal.Read
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Gen.AdamB.Frame
public import proofs.«01_k».proof.Proof.Gen.AdamBIdeal.Value
public import proofs.«01_k».proof.Proof.Gen.AdamBRefIdeal.Run
public import proofs.«01_k».proof.Proof.Gen.AdamBRefIdeal.Read
public import proofs.«01_k».proof.Proof.Gen.AdamC.Frame
public import proofs.«01_k».proof.Proof.Gen.AdamCIdeal.Value
public import proofs.«01_k».proof.Proof.Gen.AdamCRefIdeal.Run
public import proofs.«01_k».proof.Proof.Gen.AdamCRefIdeal.Read
public import proofs.«01_k».proof.Proof.Gen.AdamPacked.Frame
public import proofs.«01_k».proof.Proof.Gen.AdamPackedIdeal.Value
public import proofs.«01_k».proof.Proof.Gen.AdamPackedRefIdeal.Run
public import proofs.«01_k».proof.Proof.Gen.AdamPackedRefIdeal.Read
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.DiscA.Frame
public import proofs.«01_k».proof.Proof.Gen.DiscAIdeal.Value
public import proofs.«01_k».proof.Proof.Gen.DiscARefIdeal.Run
public import proofs.«01_k».proof.Proof.Gen.DiscARefIdeal.Read
public import proofs.«01_k».proof.Proof.Gen.DiscB.Frame
public import proofs.«01_k».proof.Proof.Gen.DiscBIdeal.Value
public import proofs.«01_k».proof.Proof.Gen.DiscBRefIdeal.Run
public import proofs.«01_k».proof.Proof.Gen.DiscBRefIdeal.Read
public import proofs.«01_k».proof.Proof.Gen.Lower.Frame
public import proofs.«01_k».proof.Proof.Gen.LowerIdeal.Value
public import proofs.«01_k».proof.Proof.Gen.LowerRefIdeal.Run
public import proofs.«01_k».proof.Proof.Gen.LowerRefIdeal.Read
public import proofs.«01_k».proof.Proof.GluClaim
public import proofs.«01_k».proof.Proof.MergeClaim
public import proofs.«01_k».proof.Proof.GateClaim
public import proofs.«01_k».proof.Proof.ProductClaims
public import proofs.«01_k».proof.Proof.InBwdClaim
public import proofs.«01_k».proof.Proof.UpBwdClaim
public import proofs.«01_k».proof.Proof.ForwardClaims
public import proofs.«01_k».proof.Proof.FfnClaim
public import proofs.«01_k».proof.Proof.AdamInClaim
public import proofs.«01_k».proof.Proof.AdamUpClaim
public import proofs.«01_k».proof.Proof.AdamSquareClaim
public import proofs.«01_k».proof.Proof.AdamDownClaim
public import proofs.«01_k».proof.Proof.AdamMetaClaim
public import proofs.«01_k».proof.Proof.AdamConvClaim
public import proofs.«01_k».proof.Proof.AdamWholeClaims
public import proofs.«01_k».proof.Proof.SumSmallClaim
public import proofs.«01_k».proof.Proof.DiscBClaim
public import proofs.«01_k».proof.Proof.DiscAClaim
public import proofs.«01_k».proof.Proof.LowerClaim

@[expose] public section

set_option maxRecDepth 16384

noncomputable section

namespace Cert.Proof

open Idealize.ShloMosaic Idealize.SL.Sem

/-- The gate gradient's reference keeps its arguments, and ends with every counter at zero because it declares none. -/
theorem frame_glu_ref : quiescent_GluRefIdeal (hGluRefIdeal := GluRefIdeal.Gen.facts) := fun m ρ _ =>
  (θ_run GluRefIdeal.defs _ _).mono (fun r h => ⟨fun c => (h c).2.2, sem_eq_zero_of_no_sems (by decide) r.2⟩) (GluRefIdeal.Value.run m ρ)

/-- The merge gradient's reference keeps its arguments, and ends with every counter at zero because it declares none. -/
theorem frame_merge_ref : quiescent_MergeRefIdeal (hMergeRefIdeal := MergeRefIdeal.Gen.facts) := fun m ρ _ =>
  (θ_run MergeRefIdeal.defs _ _).mono (fun r h => ⟨fun c => (h c).2.2.2.2.2, sem_eq_zero_of_no_sems (by decide) r.2⟩) (MergeRefIdeal.Value.run m ρ)

/-- The channel mixer's gate gradient's reference keeps its arguments, and ends with every counter at zero because it declares none. -/
theorem frame_gate_ref : quiescent_GateRefIdeal (hGateRefIdeal := GateRefIdeal.Gen.facts) := fun m ρ _ =>
  (θ_run GateRefIdeal.defs _ _).mono (fun r h => ⟨fun c => (h c).2.2.2.2.2, sem_eq_zero_of_no_sems (by decide) r.2⟩) (GateRefIdeal.Value.run m ρ)

/-- The small projections' gradient's reference keeps its arguments, and ends with every counter at zero because it declares none. -/
theorem frame_proj_ref : quiescent_ProjRefIdeal (hProjRefIdeal := ProjRefIdeal.Gen.facts) := fun m ρ _ =>
  (θ_run ProjRefIdeal.defs _ _).mono (fun r h => ⟨fun c => (h c).2.2, sem_eq_zero_of_no_sems (by decide) r.2⟩) (ProjRefIdeal.Value.run m ρ)

/-- The input projection's reference keeps its arguments, and ends with every counter at zero because it declares none. -/
theorem frame_in_proj_ref : quiescent_InProjRefIdeal (hInProjRefIdeal := InProjRefIdeal.Gen.facts) := fun m ρ _ =>
  (θ_run InProjRefIdeal.defs _ _).mono (fun r h => ⟨fun c => (h c).2, sem_eq_zero_of_no_sems (by decide) r.2⟩) (InProjRefIdeal.Value.run m ρ)

/-- The input projection's matrix gradient's reference keeps its arguments, and ends with every counter at zero because it declares none. -/
theorem frame_dw_in_ref : quiescent_DwInRefIdeal (hDwInRefIdeal := DwInRefIdeal.Gen.facts) := fun m ρ _ =>
  (θ_run DwInRefIdeal.defs _ _).mono (fun r h => ⟨fun c => (h c).2, sem_eq_zero_of_no_sems (by decide) r.2⟩) (DwInRefIdeal.Value.run m ρ)

/-- The input projection's gradient's reference keeps its arguments, and ends with every counter at zero because it declares none. -/
theorem frame_in_bwd_ref : quiescent_InBwdRefIdeal (hInBwdRefIdeal := InBwdRefIdeal.Gen.facts) := fun m ρ _ =>
  (θ_run InBwdRefIdeal.defs _ _).mono (fun r h => ⟨fun c => (h c).2.2, sem_eq_zero_of_no_sems (by decide) r.2⟩) (InBwdRefIdeal.Value.run m ρ)

/-- The channel mixer's first projection's reference keeps its arguments, and ends with every counter at zero because it declares none. -/
theorem frame_up_proj_ref : quiescent_UpProjRefIdeal (hUpProjRefIdeal := UpProjRefIdeal.Gen.facts) := fun m ρ _ =>
  (θ_run UpProjRefIdeal.defs _ _).mono (fun r h => ⟨fun c => (h c).2, sem_eq_zero_of_no_sems (by decide) r.2⟩) (UpProjRefIdeal.Value.run m ρ)

/-- The first projection's matrix gradient's reference keeps its arguments, and ends with every counter at zero because it declares none. -/
theorem frame_dw_up_ref : quiescent_DwUpRefIdeal (hDwUpRefIdeal := DwUpRefIdeal.Gen.facts) := fun m ρ _ =>
  (θ_run DwUpRefIdeal.defs _ _).mono (fun r h => ⟨fun c => (h c).2, sem_eq_zero_of_no_sems (by decide) r.2⟩) (DwUpRefIdeal.Value.run m ρ)

/-- The first projection's gradient's reference keeps its arguments, and ends with every counter at zero because it declares none. -/
theorem frame_up_bwd_ref : quiescent_UpBwdRefIdeal (hUpBwdRefIdeal := UpBwdRefIdeal.Gen.facts) := fun m ρ _ =>
  (θ_run UpBwdRefIdeal.defs _ _).mono (fun r h => ⟨fun c => (h c).2.2.2.2.2.2, sem_eq_zero_of_no_sems (by decide) r.2⟩) (UpBwdRefIdeal.Value.run m ρ)

/-- The gated projection's reference keeps its arguments, and ends with every counter at zero because it declares none. -/
theorem frame_glu_proj_ref : quiescent_GluProjRefIdeal (hGluProjRefIdeal := GluProjRefIdeal.Gen.facts) := fun m ρ _ =>
  (θ_run GluProjRefIdeal.defs _ _).mono (fun r h => ⟨fun c => (h c).2.2, sem_eq_zero_of_no_sems (by decide) r.2⟩) (GluProjRefIdeal.Value.run m ρ)

/-- The merge's reference keeps its arguments, and ends with every counter at zero because it declares none. -/
theorem frame_merge_fwd_ref : quiescent_MergeFwdRefIdeal (hMergeFwdRefIdeal := MergeFwdRefIdeal.Gen.facts) := fun m ρ _ =>
  (θ_run MergeFwdRefIdeal.defs _ _).mono (fun r h => ⟨fun c => (h c).2.2.2.2, sem_eq_zero_of_no_sems (by decide) r.2⟩) (MergeFwdRefIdeal.Value.run m ρ)

/-- The channel mixer's reference keeps its arguments, and ends with every counter at zero because it declares none. -/
theorem frame_ffn_ref : quiescent_FfnRefIdeal (hFfnRefIdeal := FfnRefIdeal.Gen.facts) := fun m ρ _ =>
  (θ_run FfnRefIdeal.defs _ _).mono (fun r h => ⟨fun c => (h c).2.2.2.2.2, sem_eq_zero_of_no_sems (by decide) r.2⟩) (FfnRefIdeal.Value.run m ρ)

/-- The optimiser's step (input projection)'s reference keeps its arguments, and ends with every counter at zero because it declares none. -/
theorem frame_adam_in_ref : quiescent_AdamInRefIdeal (hAdamInRefIdeal := AdamInRefIdeal.Gen.facts) := fun m ρ _ =>
  (θ_run AdamInRefIdeal.defs _ _).mono (fun r h => ⟨fun c => (h c).2.2.2.2, sem_eq_zero_of_no_sems (by decide) r.2⟩) (AdamInRefIdeal.Value.run m ρ)

/-- The optimiser's step (first projection)'s reference keeps its arguments, and ends with every counter at zero because it declares none. -/
theorem frame_adam_up_ref : quiescent_AdamUpRefIdeal (hAdamUpRefIdeal := AdamUpRefIdeal.Gen.facts) := fun m ρ _ =>
  (θ_run AdamUpRefIdeal.defs _ _).mono (fun r h => ⟨fun c => (h c).2.2.2.2, sem_eq_zero_of_no_sems (by decide) r.2⟩) (AdamUpRefIdeal.Value.run m ρ)

/-- The optimiser's step (square projections)'s reference keeps its arguments, and ends with every counter at zero because it declares none. -/
theorem frame_adam_square_ref : quiescent_AdamSquareRefIdeal (hAdamSquareRefIdeal := AdamSquareRefIdeal.Gen.facts) := fun m ρ _ =>
  (θ_run AdamSquareRefIdeal.defs _ _).mono (fun r h => ⟨fun c => (h c).2.2.2.2, sem_eq_zero_of_no_sems (by decide) r.2⟩) (AdamSquareRefIdeal.Value.run m ρ)

/-- The optimiser's step (second projection)'s reference keeps its arguments, and ends with every counter at zero because it declares none. -/
theorem frame_adam_down_ref : quiescent_AdamDownRefIdeal (hAdamDownRefIdeal := AdamDownRefIdeal.Gen.facts) := fun m ρ _ =>
  (θ_run AdamDownRefIdeal.defs _ _).mono (fun r h => ⟨fun c => (h c).2.2.2.2, sem_eq_zero_of_no_sems (by decide) r.2⟩) (AdamDownRefIdeal.Value.run m ρ)

/-- The optimiser's step (meta tokens)'s reference keeps its arguments, and ends with every counter at zero because it declares none. -/
theorem frame_adam_meta_ref : quiescent_AdamMetaRefIdeal (hAdamMetaRefIdeal := AdamMetaRefIdeal.Gen.facts) := fun m ρ _ =>
  (θ_run AdamMetaRefIdeal.defs _ _).mono (fun r h => ⟨fun c => (h c).2.2.2.2, sem_eq_zero_of_no_sems (by decide) r.2⟩) (AdamMetaRefIdeal.Value.run m ρ)

/-- The optimiser's step (filter)'s reference keeps its arguments, and ends with every counter at zero because it declares none. -/
theorem frame_adam_conv_ref : quiescent_AdamConvRefIdeal (hAdamConvRefIdeal := AdamConvRefIdeal.Gen.facts) := fun m ρ _ =>
  (θ_run AdamConvRefIdeal.defs _ _).mono (fun r h => ⟨fun c => (h c).2.2.2.2, sem_eq_zero_of_no_sems (by decide) r.2⟩) (AdamConvRefIdeal.Value.run m ρ)

/-- The optimiser's step (S5 inputs)'s reference keeps its arguments, and ends with every counter at zero because it declares none. -/
theorem frame_adam_b_ref : quiescent_AdamBRefIdeal (hAdamBRefIdeal := AdamBRefIdeal.Gen.facts) := fun m ρ _ =>
  (θ_run AdamBRefIdeal.defs _ _).mono (fun r h => ⟨fun c => (h c).2.2.2, sem_eq_zero_of_no_sems (by decide) r.2⟩) (AdamBRefIdeal.Value.run m ρ)

/-- The optimiser's step (S5 outputs)'s reference keeps its arguments, and ends with every counter at zero because it declares none. -/
theorem frame_adam_c_ref : quiescent_AdamCRefIdeal (hAdamCRefIdeal := AdamCRefIdeal.Gen.facts) := fun m ρ _ =>
  (θ_run AdamCRefIdeal.defs _ _).mono (fun r h => ⟨fun c => (h c).2.2.2, sem_eq_zero_of_no_sems (by decide) r.2⟩) (AdamCRefIdeal.Value.run m ρ)

/-- The optimiser's step (small weights)'s reference keeps its arguments, and ends with every counter at zero because it declares none. -/
theorem frame_adam_packed_ref : quiescent_AdamPackedRefIdeal (hAdamPackedRefIdeal := AdamPackedRefIdeal.Gen.facts) := fun m ρ _ =>
  (θ_run AdamPackedRefIdeal.defs _ _).mono (fun r h => ⟨fun c => (h c).2.2.2, sem_eq_zero_of_no_sems (by decide) r.2⟩) (AdamPackedRefIdeal.Value.run m ρ)

/-- The sum of the small gradients's reference keeps its arguments, and ends with every counter at zero because it declares none. -/
theorem frame_sum_small_ref : quiescent_SumSmallRefIdeal (hSumSmallRefIdeal := SumSmallRefIdeal.Gen.facts) := fun m ρ _ =>
  (θ_run SumSmallRefIdeal.defs _ _).mono (fun r h => ⟨fun c => (h c).2.2.2.2.2.2, sem_eq_zero_of_no_sems (by decide) r.2⟩) (SumSmallRefIdeal.Value.run m ρ)

/-- The gradient of the S5 poles's reference keeps its arguments, and ends with every counter at zero because it declares none. -/
theorem frame_disc_a_ref : quiescent_DiscARefIdeal (hDiscARefIdeal := DiscARefIdeal.Gen.facts) := fun m ρ _ =>
  (θ_run DiscARefIdeal.defs _ _).mono (fun r h => ⟨fun c => (h c).2.2.2, sem_eq_zero_of_no_sems (by decide) r.2⟩) (DiscARefIdeal.Value.run m ρ)

/-- The gradient of the S5 inputs's reference keeps its arguments, and ends with every counter at zero because it declares none. -/
theorem frame_disc_b_ref : quiescent_DiscBRefIdeal (hDiscBRefIdeal := DiscBRefIdeal.Gen.facts) := fun m ρ _ =>
  (θ_run DiscBRefIdeal.defs _ _).mono (fun r h => ⟨fun c => (h c).2.2.2.2, sem_eq_zero_of_no_sems (by decide) r.2⟩) (DiscBRefIdeal.Value.run m ρ)

/-- The gradient of the HGRN2 bounds's reference keeps its arguments, and ends with every counter at zero because it declares none. -/
theorem frame_lower_ref : quiescent_LowerRefIdeal (hLowerRefIdeal := LowerRefIdeal.Gen.facts) := fun m ρ _ =>
  (θ_run LowerRefIdeal.defs _ _).mono (fun r h => ⟨fun c => (h c).2, sem_eq_zero_of_no_sems (by decide) r.2⟩) (LowerRefIdeal.Value.run m ρ)

/-- Every claim. -/
theorem claim : Cert.Claim := ⟨
  Kernel.Gen.facts, KernelIdeal.Gen.facts, Glu.Gen.facts, GluIdeal.Gen.facts, GluRefIdeal.Gen.facts, Merge.Gen.facts, MergeIdeal.Gen.facts,
  MergeRefIdeal.Gen.facts, Gate.Gen.facts, GateIdeal.Gen.facts, GateRefIdeal.Gen.facts, Proj.Gen.facts, ProjIdeal.Gen.facts,
  ProjRefIdeal.Gen.facts, InProj.Gen.facts, InProjIdeal.Gen.facts, InProjRefIdeal.Gen.facts, DwIn.Gen.facts, DwInIdeal.Gen.facts,
  DwInRefIdeal.Gen.facts, InBwd.Gen.facts, InBwdIdeal.Gen.facts, InBwdRefIdeal.Gen.facts, UpProj.Gen.facts, UpProjIdeal.Gen.facts,
  UpProjRefIdeal.Gen.facts, DwUp.Gen.facts, DwUpIdeal.Gen.facts, DwUpRefIdeal.Gen.facts, UpBwd.Gen.facts, UpBwdIdeal.Gen.facts,
  UpBwdRefIdeal.Gen.facts, GluProj.Gen.facts, GluProjIdeal.Gen.facts, GluProjRefIdeal.Gen.facts, MergeFwd.Gen.facts, MergeFwdIdeal.Gen.facts,
  MergeFwdRefIdeal.Gen.facts, Ffn.Gen.facts, FfnIdeal.Gen.facts, FfnRefIdeal.Gen.facts, AdamIn.Gen.facts, AdamInIdeal.Gen.facts,
  AdamInRefIdeal.Gen.facts, AdamUp.Gen.facts, AdamUpIdeal.Gen.facts, AdamUpRefIdeal.Gen.facts, AdamSquare.Gen.facts,
  AdamSquareIdeal.Gen.facts, AdamSquareRefIdeal.Gen.facts, AdamDown.Gen.facts, AdamDownIdeal.Gen.facts, AdamDownRefIdeal.Gen.facts,
  AdamMeta.Gen.facts, AdamMetaIdeal.Gen.facts, AdamMetaRefIdeal.Gen.facts, AdamConv.Gen.facts, AdamConvIdeal.Gen.facts,
  AdamConvRefIdeal.Gen.facts, AdamB.Gen.facts, AdamBIdeal.Gen.facts, AdamBRefIdeal.Gen.facts, AdamC.Gen.facts, AdamCIdeal.Gen.facts,
  AdamCRefIdeal.Gen.facts, AdamPacked.Gen.facts, AdamPackedIdeal.Gen.facts, AdamPackedRefIdeal.Gen.facts, SumSmall.Gen.facts,
  SumSmallIdeal.Gen.facts, SumSmallRefIdeal.Gen.facts, DiscA.Gen.facts, DiscAIdeal.Gen.facts, DiscARefIdeal.Gen.facts, DiscB.Gen.facts,
  DiscBIdeal.Gen.facts, DiscBRefIdeal.Gen.facts, Lower.Gen.facts, LowerIdeal.Gen.facts, LowerRefIdeal.Gen.facts, pre_facts,
  fun m ρ _ => Kernel.Gen.frame m ρ, fun m ρ _ => KernelIdeal.Gen.frame m ρ, fun m ρ _ => Glu.Gen.frame m ρ,
  fun m ρ _ => GluIdeal.Gen.frame m ρ, frame_glu_ref, fun m ρ _ => Merge.Gen.frame m ρ, fun m ρ _ => MergeIdeal.Gen.frame m ρ,
  frame_merge_ref, fun m ρ _ => Gate.Gen.frame m ρ, fun m ρ _ => GateIdeal.Gen.frame m ρ, fun m ρ _ => GateIdeal.Gen.frame m ρ,
  frame_gate_ref, fun m ρ _ => frame_gate_ref m ρ trivial, fun m ρ _ => Proj.Gen.frame m ρ, fun m ρ _ => ProjIdeal.Gen.frame m ρ,
  frame_proj_ref, fun m ρ _ => InProj.Gen.frame m ρ, fun m ρ _ => InProjIdeal.Gen.frame m ρ, frame_in_proj_ref,
  fun m ρ _ => DwIn.Gen.frame m ρ, fun m ρ _ => DwInIdeal.Gen.frame m ρ, frame_dw_in_ref, fun m ρ _ => InBwd.Gen.frame m ρ,
  fun m ρ _ => InBwdIdeal.Gen.frame m ρ, frame_in_bwd_ref, fun m ρ _ => UpProj.Gen.frame m ρ, fun m ρ _ => UpProjIdeal.Gen.frame m ρ,
  frame_up_proj_ref, fun m ρ _ => DwUp.Gen.frame m ρ, fun m ρ _ => DwUpIdeal.Gen.frame m ρ, frame_dw_up_ref, fun m ρ _ => UpBwd.Gen.frame m ρ,
  fun m ρ _ => UpBwdIdeal.Gen.frame m ρ, frame_up_bwd_ref, fun m ρ _ => GluProj.Gen.frame m ρ, fun m ρ _ => GluProjIdeal.Gen.frame m ρ,
  frame_glu_proj_ref, fun m ρ _ => MergeFwd.Gen.frame m ρ, fun m ρ _ => MergeFwdIdeal.Gen.frame m ρ, frame_merge_fwd_ref,
  fun m ρ _ => Ffn.Gen.frame m ρ, fun m ρ _ => FfnIdeal.Gen.frame m ρ, frame_ffn_ref, fun m ρ _ => AdamIn.Gen.frame m ρ,
  fun m ρ _ => AdamInIdeal.Gen.frame m ρ, frame_adam_in_ref, fun m ρ _ => AdamUp.Gen.frame m ρ, fun m ρ _ => AdamUpIdeal.Gen.frame m ρ,
  frame_adam_up_ref, fun m ρ _ => AdamSquare.Gen.frame m ρ, fun m ρ _ => AdamSquareIdeal.Gen.frame m ρ, frame_adam_square_ref,
  fun m ρ _ => AdamDown.Gen.frame m ρ, fun m ρ _ => AdamDownIdeal.Gen.frame m ρ, frame_adam_down_ref, fun m ρ _ => AdamMeta.Gen.frame m ρ,
  fun m ρ _ => AdamMetaIdeal.Gen.frame m ρ, frame_adam_meta_ref, fun m ρ _ => AdamConv.Gen.frame m ρ,
  fun m ρ _ => AdamConvIdeal.Gen.frame m ρ, frame_adam_conv_ref, fun m ρ _ => AdamB.Gen.frame m ρ, fun m ρ _ => AdamBIdeal.Gen.frame m ρ,
  frame_adam_b_ref, fun m ρ _ => AdamC.Gen.frame m ρ, fun m ρ _ => AdamCIdeal.Gen.frame m ρ, frame_adam_c_ref,
  fun m ρ _ => AdamPacked.Gen.frame m ρ, fun m ρ _ => AdamPackedIdeal.Gen.frame m ρ, frame_adam_packed_ref,
  fun m ρ _ => SumSmall.Gen.frame m ρ, fun m ρ _ => SumSmallIdeal.Gen.frame m ρ, frame_sum_small_ref, fun m ρ _ => DiscA.Gen.frame m ρ,
  fun m ρ _ => DiscAIdeal.Gen.frame m ρ, frame_disc_a_ref, fun m ρ _ => DiscB.Gen.frame m ρ, fun m ρ _ => DiscBIdeal.Gen.frame m ρ,
  frame_disc_b_ref, fun m ρ _ => Lower.Gen.frame m ρ, fun m ρ _ => LowerIdeal.Gen.frame m ρ, frame_lower_ref,
  trivial, trivial, trivial, trivial, trivial, trivial, trivial, trivial, trivial, trivial, trivial, trivial, trivial, trivial, trivial,
  trivial, trivial, trivial, trivial, trivial, trivial, trivial, trivial, trivial, trivial, trivial, trivial,
  glu_algebraic, merge_algebraic, gate_algebraic, proj_algebraic, in_proj_algebraic, dw_in_algebraic, in_bwd_algebraic, up_proj_algebraic,
  dw_up_algebraic, up_bwd_algebraic, glu_proj_algebraic, merge_fwd_algebraic, ffn_algebraic, adam_in_algebraic, adam_up_algebraic,
  adam_square_algebraic, adam_down_algebraic, adam_meta_algebraic, adam_conv_algebraic, adam_b_algebraic, adam_c_algebraic,
  adam_packed_algebraic, sum_small_algebraic, disc_a_algebraic, disc_b_algebraic, lower_algebraic⟩

end Cert.Proof

end
